-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))).2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))).2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))).2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))).2.2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))).2.2.2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))).2.2.2.2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))).2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))).2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))).2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))).2.2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))).2.2.2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))).2.2.2.2.2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v93_0)) (v1 : (c : Dev Cert.Kernel2Ideal.nD) → Buf (Elt Ideal) ((c.tc : Thread Cert.Kernel2Ideal.nD Cert.Kernel2Ideal.τ).loc Cert.Kernel2Ideal.main_v93_1)) (v2 : (c : Dev Cert.Kernel2Ideal.nD) → Buf (Elt Ideal) ((c.tc : Thread Cert.Kernel2Ideal.nD Cert.Kernel2Ideal.τ).loc Cert.Kernel2Ideal.main_v93_2)) (v3 : (c : Dev Cert.Kernel2Ideal.nD) → Buf (Elt Ideal) ((c.tc : Thread Cert.Kernel2Ideal.nD Cert.Kernel2Ideal.τ).loc Cert.Kernel2Ideal.main_v93_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v93_0) = v0 c
          ∧ r.2.mem ((c.tc : Thread Cert.Kernel2Ideal.nD Cert.Kernel2Ideal.τ).loc Cert.Kernel2Ideal.main_v93_1) = v1 c
          ∧ r.2.mem ((c.tc : Thread Cert.Kernel2Ideal.nD Cert.Kernel2Ideal.τ).loc Cert.Kernel2Ideal.main_v93_2) = v2 c
          ∧ r.2.mem ((c.tc : Thread Cert.Kernel2Ideal.nD Cert.Kernel2Ideal.τ).loc Cert.Kernel2Ideal.main_v93_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v168) = v0 c
          ∧ r.2.mem ((c.tc : Thread Cert.Reference2Ideal.nD Cert.Reference2Ideal.τ).loc Cert.Reference2Ideal.main_v170) = v1 c
          ∧ r.2.mem ((c.tc : Thread Cert.Reference2Ideal.nD Cert.Reference2Ideal.τ).loc Cert.Reference2Ideal.main_v171) = v2 c
          ∧ r.2.mem ((c.tc : Thread Cert.Reference2Ideal.nD Cert.Reference2Ideal.τ).loc Cert.Reference2Ideal.main_v173) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)) (v2 : (c : Dev Cert.Kernel3Ideal.nD) → Buf (Elt Ideal) ((c.tc : Thread Cert.Kernel3Ideal.nD Cert.Kernel3Ideal.τ).loc Cert.Kernel3Ideal.main_v10_2)) (v3 : (c : Dev Cert.Kernel3Ideal.nD) → Buf (Elt Ideal) ((c.tc : Thread Cert.Kernel3Ideal.nD Cert.Kernel3Ideal.τ).loc Cert.Kernel3Ideal.main_v10_3)) (v4 : (c : Dev Cert.Kernel3Ideal.nD) → Buf (Elt Ideal) ((c.tc : Thread Cert.Kernel3Ideal.nD Cert.Kernel3Ideal.τ).loc Cert.Kernel3Ideal.main_v10_4)) (v5 : (c : Dev Cert.Kernel3Ideal.nD) → Buf (Elt Ideal) ((c.tc : Thread Cert.Kernel3Ideal.nD Cert.Kernel3Ideal.τ).loc Cert.Kernel3Ideal.main_v10_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_v10_2) = v2 c
          ∧ r.2.mem ((c.tc : Thread Cert.Kernel3Ideal.nD Cert.Kernel3Ideal.τ).loc Cert.Kernel3Ideal.main_v10_3) = v3 c
          ∧ r.2.mem ((c.tc : Thread Cert.Kernel3Ideal.nD Cert.Kernel3Ideal.τ).loc Cert.Kernel3Ideal.main_v10_4) = v4 c
          ∧ r.2.mem ((c.tc : Thread Cert.Kernel3Ideal.nD Cert.Kernel3Ideal.τ).loc Cert.Kernel3Ideal.main_v10_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v69) = v0 c
          ∧ r.2.mem ((c.tc : Thread Cert.Reference3Ideal.nD Cert.Reference3Ideal.τ).loc Cert.Reference3Ideal.main_v74) = v1 c
          ∧ r.2.mem ((c.tc : Thread Cert.Reference3Ideal.nD Cert.Reference3Ideal.τ).loc Cert.Reference3Ideal.main_v76) = v2 c
          ∧ r.2.mem ((c.tc : Thread Cert.Reference3Ideal.nD Cert.Reference3Ideal.τ).loc Cert.Reference3Ideal.main_v77) = v3 c
          ∧ r.2.mem ((c.tc : Thread Cert.Reference3Ideal.nD Cert.Reference3Ideal.τ).loc Cert.Reference3Ideal.main_v78) = v4 c
          ∧ r.2.mem ((c.tc : Thread Cert.Reference3Ideal.nD Cert.Reference3Ideal.τ).loc Cert.Reference3Ideal.main_v79) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v46_0)) (v1 : (c : Dev Cert.Kernel4Ideal.nD) → Buf (Elt Ideal) ((c.tc : Thread Cert.Kernel4Ideal.nD Cert.Kernel4Ideal.τ).loc Cert.Kernel4Ideal.main_v46_1)) (v2 : (c : Dev Cert.Kernel4Ideal.nD) → Buf (Elt Ideal) ((c.tc : Thread Cert.Kernel4Ideal.nD Cert.Kernel4Ideal.τ).loc Cert.Kernel4Ideal.main_v46_2)) (v3 : (c : Dev Cert.Kernel4Ideal.nD) → Buf (Elt Ideal) ((c.tc : Thread Cert.Kernel4Ideal.nD Cert.Kernel4Ideal.τ).loc Cert.Kernel4Ideal.main_v46_3)) (v4 : (c : Dev Cert.Kernel4Ideal.nD) → Buf (Elt Ideal) ((c.tc : Thread Cert.Kernel4Ideal.nD Cert.Kernel4Ideal.τ).loc Cert.Kernel4Ideal.main_v46_4)) (v5 : (c : Dev Cert.Kernel4Ideal.nD) → Buf (Elt Ideal) ((c.tc : Thread Cert.Kernel4Ideal.nD Cert.Kernel4Ideal.τ).loc Cert.Kernel4Ideal.main_v46_5)) (v6 : (c : Dev Cert.Kernel4Ideal.nD) → Buf (Elt Ideal) ((c.tc : Thread Cert.Kernel4Ideal.nD Cert.Kernel4Ideal.τ).loc Cert.Kernel4Ideal.main_v46_6)) (v7 : (c : Dev Cert.Kernel4Ideal.nD) → Buf (Elt Ideal) ((c.tc : Thread Cert.Kernel4Ideal.nD Cert.Kernel4Ideal.τ).loc Cert.Kernel4Ideal.main_v46_7)) (v8 : (c : Dev Cert.Kernel4Ideal.nD) → Buf (Elt Ideal) ((c.tc : Thread Cert.Kernel4Ideal.nD Cert.Kernel4Ideal.τ).loc Cert.Kernel4Ideal.main_v46_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v46_0) = v0 c
          ∧ r.2.mem ((c.tc : Thread Cert.Kernel4Ideal.nD Cert.Kernel4Ideal.τ).loc Cert.Kernel4Ideal.main_v46_1) = v1 c
          ∧ r.2.mem ((c.tc : Thread Cert.Kernel4Ideal.nD Cert.Kernel4Ideal.τ).loc Cert.Kernel4Ideal.main_v46_2) = v2 c
          ∧ r.2.mem ((c.tc : Thread Cert.Kernel4Ideal.nD Cert.Kernel4Ideal.τ).loc Cert.Kernel4Ideal.main_v46_3) = v3 c
          ∧ r.2.mem ((c.tc : Thread Cert.Kernel4Ideal.nD Cert.Kernel4Ideal.τ).loc Cert.Kernel4Ideal.main_v46_4) = v4 c
          ∧ r.2.mem ((c.tc : Thread Cert.Kernel4Ideal.nD Cert.Kernel4Ideal.τ).loc Cert.Kernel4Ideal.main_v46_5) = v5 c
          ∧ r.2.mem ((c.tc : Thread Cert.Kernel4Ideal.nD Cert.Kernel4Ideal.τ).loc Cert.Kernel4Ideal.main_v46_6) = v6 c
          ∧ r.2.mem ((c.tc : Thread Cert.Kernel4Ideal.nD Cert.Kernel4Ideal.τ).loc Cert.Kernel4Ideal.main_v46_7) = v7 c
          ∧ r.2.mem ((c.tc : Thread Cert.Kernel4Ideal.nD Cert.Kernel4Ideal.τ).loc Cert.Kernel4Ideal.main_v46_8) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v143) = v0 c
          ∧ r.2.mem ((c.tc : Thread Cert.Reference4Ideal.nD Cert.Reference4Ideal.τ).loc Cert.Reference4Ideal.main_v144) = v1 c
          ∧ r.2.mem ((c.tc : Thread Cert.Reference4Ideal.nD Cert.Reference4Ideal.τ).loc Cert.Reference4Ideal.main_v145) = v2 c
          ∧ r.2.mem ((c.tc : Thread Cert.Reference4Ideal.nD Cert.Reference4Ideal.τ).loc Cert.Reference4Ideal.main_v146) = v3 c
          ∧ r.2.mem ((c.tc : Thread Cert.Reference4Ideal.nD Cert.Reference4Ideal.τ).loc Cert.Reference4Ideal.main_v79) = v4 c
          ∧ r.2.mem ((c.tc : Thread Cert.Reference4Ideal.nD Cert.Reference4Ideal.τ).loc Cert.Reference4Ideal.main_v76) = v5 c
          ∧ r.2.mem ((c.tc : Thread Cert.Reference4Ideal.nD Cert.Reference4Ideal.τ).loc Cert.Reference4Ideal.main_v148) = v6 c
          ∧ r.2.mem ((c.tc : Thread Cert.Reference4Ideal.nD Cert.Reference4Ideal.τ).loc Cert.Reference4Ideal.main_v117) = v7 c
          ∧ r.2.mem ((c.tc : Thread Cert.Reference4Ideal.nD Cert.Reference4Ideal.τ).loc Cert.Reference4Ideal.main_v114) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)) (v2 : (c : Dev Cert.Kernel6Ideal.nD) → Buf (Elt Ideal) ((c.tc : Thread Cert.Kernel6Ideal.nD Cert.Kernel6Ideal.τ).loc Cert.Kernel6Ideal.main_v4_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_v4_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_v27) = v1 c
          ∧ r.2.mem ((c.tc : Thread Cert.Reference6Ideal.nD Cert.Reference6Ideal.τ).loc Cert.Reference6Ideal.main_v28) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v6_0)) (v1 : (c : Dev Cert.Kernel7Ideal.nD) → Buf (Elt Ideal) ((c.tc : Thread Cert.Kernel7Ideal.nD Cert.Kernel7Ideal.τ).loc Cert.Kernel7Ideal.main_v6_1)) (v2 : (c : Dev Cert.Kernel7Ideal.nD) → Buf (Elt Ideal) ((c.tc : Thread Cert.Kernel7Ideal.nD Cert.Kernel7Ideal.τ).loc Cert.Kernel7Ideal.main_v6_2)) (v3 : (c : Dev Cert.Kernel7Ideal.nD) → Buf (Elt Ideal) ((c.tc : Thread Cert.Kernel7Ideal.nD Cert.Kernel7Ideal.τ).loc Cert.Kernel7Ideal.main_v6_3)) (v4 : (c : Dev Cert.Kernel7Ideal.nD) → Buf (Elt Ideal) ((c.tc : Thread Cert.Kernel7Ideal.nD Cert.Kernel7Ideal.τ).loc Cert.Kernel7Ideal.main_v6_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6_0) = v0 c
          ∧ r.2.mem ((c.tc : Thread Cert.Kernel7Ideal.nD Cert.Kernel7Ideal.τ).loc Cert.Kernel7Ideal.main_v6_1) = v1 c
          ∧ r.2.mem ((c.tc : Thread Cert.Kernel7Ideal.nD Cert.Kernel7Ideal.τ).loc Cert.Kernel7Ideal.main_v6_2) = v2 c
          ∧ r.2.mem ((c.tc : Thread Cert.Kernel7Ideal.nD Cert.Kernel7Ideal.τ).loc Cert.Kernel7Ideal.main_v6_3) = v3 c
          ∧ r.2.mem ((c.tc : Thread Cert.Kernel7Ideal.nD Cert.Kernel7Ideal.τ).loc Cert.Kernel7Ideal.main_v6_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v45) = v0 c
          ∧ r.2.mem ((c.tc : Thread Cert.Reference7Ideal.nD Cert.Reference7Ideal.τ).loc Cert.Reference7Ideal.main_v50) = v1 c
          ∧ r.2.mem ((c.tc : Thread Cert.Reference7Ideal.nD Cert.Reference7Ideal.τ).loc Cert.Reference7Ideal.main_v13) = v2 c
          ∧ r.2.mem ((c.tc : Thread Cert.Reference7Ideal.nD Cert.Reference7Ideal.τ).loc Cert.Reference7Ideal.main_v56) = v3 c
          ∧ r.2.mem ((c.tc : Thread Cert.Reference7Ideal.nD Cert.Reference7Ideal.τ).loc Cert.Reference7Ideal.main_v57) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_v10) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v5_0)) (v1 : (c : Dev Cert.Kernel9Ideal.nD) → Buf (Elt Ideal) ((c.tc : Thread Cert.Kernel9Ideal.nD Cert.Kernel9Ideal.τ).loc Cert.Kernel9Ideal.main_v5_1)) (v2 : (c : Dev Cert.Kernel9Ideal.nD) → Buf (Elt Ideal) ((c.tc : Thread Cert.Kernel9Ideal.nD Cert.Kernel9Ideal.τ).loc Cert.Kernel9Ideal.main_v5_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5_0) = v0 c
          ∧ r.2.mem ((c.tc : Thread Cert.Kernel9Ideal.nD Cert.Kernel9Ideal.τ).loc Cert.Kernel9Ideal.main_v5_1) = v1 c
          ∧ r.2.mem ((c.tc : Thread Cert.Kernel9Ideal.nD Cert.Kernel9Ideal.τ).loc Cert.Kernel9Ideal.main_v5_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_v25) = v1 c
          ∧ r.2.mem ((c.tc : Thread Cert.Reference9Ideal.nD Cert.Reference9Ideal.τ).loc Cert.Reference9Ideal.main_v26) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v6)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v6) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v6)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v6) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v5)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v5) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v1_2)) (v3 : (c : Dev Cert.Kernel14Ideal.nD) → Buf (Elt Ideal) ((c.tc : Thread Cert.Kernel14Ideal.nD Cert.Kernel14Ideal.τ).loc Cert.Kernel14Ideal.main_v1_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v1_2) = v2 c
          ∧ r.2.mem ((c.tc : Thread Cert.Kernel14Ideal.nD Cert.Kernel14Ideal.τ).loc Cert.Kernel14Ideal.main_v1_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v6) = v2 c
          ∧ r.2.mem ((c.tc : Thread Cert.Reference14Ideal.nD Cert.Reference14Ideal.τ).loc Cert.Reference14Ideal.main_v12) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v4)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts) (hPre_finite2 : Cert.Pre_finite2.Facts) (hPre_finite3 : Cert.Pre_finite3.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite.lean ====
abbrev S2048x1024 : Shape := ⟨2, ![2048, 1024]⟩
abbrev S1024x5632 : Shape := ⟨2, ![1024, 5632]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S2048x1024 .f32) (main_arg1 : FVec F S1024x5632 .f32) (main_arg2 : FVec F S2816x1024 .f32) (main_arg3 : FVec F S2048x1024 .f32) : IVec S2048x1024 1 × IVec S1024x5632 1 × IVec S2816x1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1024x5632 .f32 := Host.absf main_arg1
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  let main_v6 : FVec F S2816x1024 .f32 := Host.absf main_arg2
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S2048x1024 .f32 := Host.absf main_arg3
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  (main_v2, main_v5, main_v8, main_v11)
-- ==== Pre_finite2.lean ====
abbrev S1x2048x1024 : Shape := ⟨3, ![1, 2048, 1024]⟩
abbrev S1024x1024 : Shape := ⟨2, ![1024, 1024]⟩
abbrev S1024 : Shape := ⟨1, ![1024]⟩
abbrev S1024x512 : Shape := ⟨2, ![1024, 512]⟩
abbrev S512 : Shape := ⟨1, ![512]⟩
abbrev S16 : Shape := ⟨1, ![16]⟩
abbrev S_ : Shape := ⟨0, ![]⟩

class Facts : Prop where
  bcast_S_S1x2048x1024 : S_.BroadcastsInDim S1x2048x1024 (![] : Fin 0 → Fin S1x2048x1024.rank)
  bcast_S_S1024x1024 : S_.BroadcastsInDim S1024x1024 (![] : Fin 0 → Fin S1024x1024.rank)
  bcast_S_S1024 : S_.BroadcastsInDim S1024 (![] : Fin 0 → Fin S1024.rank)
  bcast_S_S1024x512 : S_.BroadcastsInDim S1024x512 (![] : Fin 0 → Fin S1024x512.rank)
  bcast_S_S512 : S_.BroadcastsInDim S512 (![] : Fin 0 → Fin S512.rank)
  bcast_S_S16 : S_.BroadcastsInDim S16 (![] : Fin 0 → Fin S16.rank)

variable [Facts]

def fn_part1 {F : FTy → Type} [FloatOps F] (main_arg6 : FVec F S1x2048x1024 .f32) (main_v2 : IVec S1x2048x1024 1) (main_v5 : IVec S1024x1024 1) (main_v8 : IVec S1024 1) (main_v11 : IVec S1024x512 1) (main_v14 : IVec S512 1) (main_v17 : IVec S16 1) : IVec S1x2048x1024 1 × IVec S1024x1024 1 × IVec S1024 1 × IVec S1024x512 1 × IVec S512 1 × IVec S16 1 × IVec S1x2048x1024 1 :=
  let main_v18 : FVec F S1x2048x1024 .f32 := Host.absf main_arg6
  let main_cst_5 : FVec F S_ .f32 := constant S_ .f32 0x7F800000#32
  let main_v19 : FVec F S1x2048x1024 .f32 := broadcastInDim S1x2048x1024 ![] bcast_S_S1x2048x1024 main_cst_5
  let main_v20 : IVec S1x2048x1024 1 := cmpf .olt main_v18 main_v19
  (main_v2, main_v5, main_v8, main_v11, main_v14, main_v17, main_v20)

def fn {F : FTy → Type} [FloatOps F] (main_arg0 : FVec F S1x2048x1024 .f32) (main_arg1 : FVec F S1024x1024 .f32) (main_arg2 : FVec F S1024 .f32) (main_arg3 : FVec F S1024x512 .f32) (main_arg4 : FVec F S512 .f32) (main_arg5 : FVec F S16 .f32) (main_arg6 : FVec F S1x2048x1024 .f32) : IVec S1x2048x1024 1 × IVec S1024x1024 1 × IVec S1024 1 × IVec S1024x512 1 × IVec S512 1 × IVec S16 1 × IVec S1x2048x1024 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x512 .f32 := Host.absf main_arg3
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_v12 : FVec F S512 .f32 := Host.absf main_arg4
  let main_cst_3 : FVec F S_ .f32 := constant S_ .f32 0x7F800000#32
  let main_v13 : FVec F S512 .f32 := broadcastInDim S512 ![] bcast_S_S512 main_cst_3
  let main_v14 : IVec S512 1 := cmpf .olt main_v12 main_v13
  let main_v15 : FVec F S16 .f32 := Host.absf main_arg5
  let main_cst_4 : FVec F S_ .f32 := constant S_ .f32 0x7F800000#32
  let main_v16 : FVec F S16 .f32 := broadcastInDim S16 ![] bcast_S_S16 main_cst_4
  let main_v17 : IVec S16 1 := cmpf .olt main_v15 main_v16
  fn_part1 (F := F) main_arg6 main_v2 main_v5 main_v8 main_v11 main_v14 main_v17
-- ==== Pre_finite3.lean ====
abbrev S2048x1024 : Shape := ⟨2, ![2048, 1024]⟩
abbrev S1024x1024 : Shape := ⟨2, ![1024, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn {F : FTy → Type} [FloatOps F] (main_arg0 : FVec F S2048x1024 .f32) (main_arg1 : FVec F S2048x1024 .f32) (main_arg2 : FVec F S1024x1024 .f32) (main_arg3 : FVec F S1024 .f32) (main_arg4 : FVec F S1024 .f32) (main_arg5 : FVec F S1024 .f32) (main_arg6 : FVec F S2048x1024 .f32) : IVec S2048x1024 1 × IVec S2048x1024 1 × IVec S1024x1024 1 × IVec S1024 1 × IVec S1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S2048x1024 .f32 := Host.absf main_arg6
  let main_cst_4 : FVec F S_ .f32 := constant S_ .f32 0x7F800000#32
  let main_v16 : FVec F S2048x1024 .f32 := broadcastInDim S2048x1024 ![] bcast_S_S2048x1024 main_cst_4
  let main_v17 : IVec S2048x1024 1 := cmpf .olt main_v15 main_v16
  (main_v2, main_v5, main_v8, main_v11, main_v14, main_v17)
-- ==== Pre_finite4.lean ====
abbrev S2048x1024 : Shape := ⟨2, ![2048, 1024]⟩
abbrev S2048x256 : Shape := ⟨2, ![2048, 256]⟩
abbrev S256x1024 : Shape := ⟨2, ![256, 1024]⟩
abbrev S1024x1024 : Shape := ⟨2, ![1024, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  bcast_S_S2048x256 : S_.BroadcastsInDim S2048x256 (![] : Fin 0 → Fin S2048x256.rank)
  bcast_S_S256x1024 : S_.BroadcastsInDim S256x1024 (![] : Fin 0 → Fin S256x1024.rank)
  bcast_S_S1024x1024 : S_.BroadcastsInDim S1024x1024 (![] : Fin 0 → Fin S1024x1024.rank)
  bcast_S_S1x1024 : S_.BroadcastsInDim S1x1024 (![] : Fin 0 → Fin S1x1024.rank)

variable [Facts]

def fn_part1 {F : FTy → Type} [FloatOps F] (main_arg6 : FVec F S1x1024 .f32) (main_arg7 : FVec F S1x1024 .f32) (main_arg8 : FVec F S1x1024 .f32) (main_arg10 : FVec F S2048x1024 .f32) (main_v2 : IVec S2048x1024 1) (main_v5 : IVec S2048x1024 1) (main_v8 : IVec S2048x256 1) (main_v11 : IVec S256x1024 1) (main_v14 : IVec S1024x1024 1) (main_v17 : IVec S1x1024 1) : IVec S2048x1024 1 × IVec S2048x1024 1 × IVec S2048x256 1 × IVec S256x1024 1 × IVec S1024x1024 1 × IVec S1x1024 1 × IVec S1x1024 1 × IVec S1x1024 1 × IVec S1x1024 1 × IVec S2048x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  let main_v21 : FVec F S1x1024 .f32 := Host.absf main_arg7
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_v24 : FVec F S1x1024 .f32 := Host.absf main_arg8
  let main_cst_7 : FVec F S_ .f32 := constant S_ .f32 0x7F800000#32
  let main_v25 : FVec F S1x1024 .f32 := broadcastInDim S1x1024 ![] bcast_S_S1x1024 main_cst_7
  let main_v26 : IVec S1x1024 1 := cmpf .olt main_v24 main_v25
  let main_v27 : FVec F S2048x1024 .f32 := Host.absf main_arg10
  let main_cst_8 : FVec F S_ .f32 := constant S_ .f32 0x7F800000#32
  let main_v28 : FVec F S2048x1024 .f32 := broadcastInDim S2048x1024 ![] bcast_S_S2048x1024 main_cst_8
  let main_v29 : IVec S2048x1024 1 := cmpf .olt main_v27 main_v28
  (main_v2, main_v5, main_v8, main_v11, main_v14, main_v17, main_v20, main_v23, main_v26, main_v29)

def fn {F : FTy → Type} [FloatOps F] (main_arg0 : FVec F S2048x1024 .f32) (main_arg1 : FVec F S2048x1024 .f32) (main_arg2 : FVec F S2048x256 .f32) (main_arg3 : FVec F S256x1024 .f32) (main_arg4 : FVec F S1024x1024 .f32) (main_arg5 : FVec F S1x1024 .f32) (main_arg6 : FVec F S1x1024 .f32) (main_arg7 : FVec F S1x1024 .f32) (main_arg8 : FVec F S1x1024 .f32) (main_arg9 : FVec F S1x1024 .f32) (main_arg10 : FVec F S2048x1024 .f32) : IVec S2048x1024 1 × IVec S2048x1024 1 × IVec S2048x256 1 × IVec S256x1024 1 × IVec S1024x1024 1 × IVec S1x1024 1 × IVec S1x1024 1 × IVec S1x1024 1 × IVec S1x1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S2048x256 .f32 := Host.absf main_arg2
  let main_cst_1 : FVec F S_ .f32 := constant S_ .f32 0x7F800000#32
  let main_v7 : FVec F S2048x256 .f32 := broadcastInDim S2048x256 ![] bcast_S_S2048x256 main_cst_1
  let main_v8 : IVec S2048x256 1 := cmpf .olt main_v6 main_v7
  let main_v9 : FVec F S256x1024 .f32 := Host.absf main_arg3
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_arg7 main_arg8 main_arg10 main_v2 main_v5 main_v8 main_v11 main_v14 main_v17
-- ==== Kernel.lean ====
abbrev S2048x1024 : Shape := ⟨2, ![2048, 1024]⟩
abbrev S1024x5632 : Shape := ⟨2, ![1024, 5632]⟩
abbrev S2816x1024 : Shape := ⟨2, ![2816, 1024]⟩
abbrev S2048x5632 : Shape := ⟨2, ![2048, 5632]⟩
abbrev S2048x2x4x704 : Shape := ⟨4, ![2048, 2, 4, 704]⟩
abbrev S2x4x2048x704 : Shape := ⟨4, ![2, 4, 2048, 704]⟩
abbrev S4x704x1024 : Shape := ⟨3, ![4, 704, 1024]⟩
abbrev S512x1024 : Shape := ⟨2, ![512, 1024]⟩
abbrev S2x1x512x704 : Shape := ⟨4, ![2, 1, 512, 704]⟩
abbrev S1x704x1024 : Shape := ⟨3, ![1, 704, 1024]⟩
abbrev S704x1024 : Shape := ⟨2, ![704, 1024]⟩
abbrev S512x704 : Shape := ⟨2, ![512, 704]⟩
abbrev S1x1x512x704 : Shape := ⟨4, ![1, 1, 512, 704]⟩

abbrev nBuf : Space → Nat
  | .hbm => 14
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2816x1024, .f32⟩
  | .hbm, ⟨3, _⟩ => ⟨S2048x1024, .f32⟩
  | .hbm, ⟨4, _⟩ => ⟨S2048x1024, .bf16⟩
  | .hbm, ⟨5, _⟩ => ⟨S1024x5632, .bf16⟩
  | .hbm, ⟨6, _⟩ => ⟨S2048x5632, .f32⟩
  | .hbm, ⟨7, _⟩ => ⟨S2048x5632, .bf16⟩
  | .hbm, ⟨8, _⟩ => ⟨S2048x2x4x704, .bf16⟩
  | .hbm, ⟨9, _⟩ => ⟨S2x4x2048x704, .bf16⟩
  | .hbm, ⟨10, _⟩ => ⟨S2048x1024, .bf16⟩
  | .hbm, ⟨11, _⟩ => ⟨S2816x1024, .bf16⟩
  | .hbm, ⟨12, _⟩ => ⟨S4x704x1024, .bf16⟩
  | .hbm, ⟨13, _⟩ => ⟨S2x4x2048x704, .bf16⟩
  | .local _ .vmem, ⟨0, _⟩ => ⟨S512x1024, .bf16⟩
  | .local _ .vmem, ⟨1, _⟩ => ⟨S512x1024, .bf16⟩
  | .local _ .vmem, ⟨2, _⟩ => ⟨S2x1x512x704, .bf16⟩
  | .local _ .vmem, ⟨3, _⟩ => ⟨S2x1x512x704, .bf16⟩
  | .local _ .vmem, ⟨4, _⟩ => ⟨S1x704x1024, .bf16⟩
  | .local _ .vmem, ⟨5, _⟩ => ⟨S1x704x1024, .bf16⟩
  | .local _ .vmem, ⟨6, _⟩ => ⟨S2x1x512x704, .bf16⟩
  | .local _ .vmem, ⟨7, _⟩ => ⟨S2x1x512x704, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S2048x1024 : Shape := ⟨2, ![2048, 1024]⟩
abbrev S1024x5632 : Shape := ⟨2, ![1024, 5632]⟩
abbrev S2816x1024 : Shape := ⟨2, ![2816, 1024]⟩
abbrev S2048x5632 : Shape := ⟨2, ![2048, 5632]⟩
abbrev S2048x2816 : Shape := ⟨2, ![2048, 2816]⟩
abbrev S_ : Shape := ⟨0, ![]⟩
abbrev S2048x2x4x704 : Shape := ⟨4, ![2048, 2, 4, 704]⟩
abbrev S2x4x2048x704 : Shape := ⟨4, ![2, 4, 2048, 704]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2816x1024, .f32⟩
  | .hbm, ⟨3, _⟩ => ⟨S2048x1024, .f32⟩
  | .hbm, ⟨4, _⟩ => ⟨S2048x5632, .f32⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S_, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S_, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x1024, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S_, .f32⟩
  | .hbm, ⟨26, _⟩ => ⟨S2048x5632, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S_, .f32⟩
  | .hbm, ⟨32, _⟩ => ⟨S2048x5632, .f32⟩
  | .hbm, ⟨33, _⟩ => ⟨S2048x5632, .f32⟩
  | .hbm, ⟨34, _⟩ => ⟨S2048x2x4x704, .f32⟩
  | .hbm, ⟨35, _⟩ => ⟨S2x4x2048x704, .f32⟩
  | .hbm, ⟨36, _⟩ => ⟨S2x4x2048x704, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v10 : Ref sig .tc := ⟨.hbm, 30, rfl⟩
abbrev main_cst_0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩

abbrev nD : Nat := 1
abbrev τ : Topo := Topo.v7x

variable {F : FTy → Type} [FloatOps F]
-- ==== Kernel2.lean ====
abbrev S1x2048x1024 : Shape := ⟨3, ![1, 2048, 1024]⟩
abbrev S1024x1024 : Shape := ⟨2, ![1024, 1024]⟩
abbrev S1024 : Shape := ⟨1, ![1024]⟩
abbrev S1024x512 : Shape := ⟨2, ![1024, 512]⟩
abbrev S512 : Shape := ⟨1, ![512]⟩
abbrev S16 : Shape := ⟨1, ![16]⟩
abbrev S1x1x1024 : Shape := ⟨3, ![1, 1, 1024]⟩
abbrev S1x2048x512 : Shape := ⟨3, ![1, 2048, 512]⟩
abbrev S1x1x512 : Shape := ⟨3, ![1, 1, 512]⟩
abbrev S1x2048x2x4x64 : Shape := ⟨5, ![1, 2048, 2, 4, 64]⟩
abbrev S1x2048x1x4x64 : Shape := ⟨5, ![1, 2048, 1, 4, 64]⟩
abbrev S1x2048x4x64 : Shape := ⟨4, ![1, 2048, 4, 64]⟩
abbrev S_ : Shape := ⟨0, ![]⟩
abbrev S1x128x4x64 : Shape := ⟨4, ![1, 128, 4, 64]⟩
abbrev S1x2176x4x64 : Shape := ⟨4, ![1, 2176, 4, 64]⟩
abbrev S1x17x128x4x64 : Shape := ⟨5, ![1, 17, 128, 4, 64]⟩
abbrev S1x16x128x4x64 : Shape := ⟨5, ![1, 16, 128, 4, 64]⟩
abbrev S1x16x256x4x64 : Shape := ⟨5, ![1, 16, 256, 4, 64]⟩
abbrev S1x16x128x4x4x64 : Shape := ⟨6, ![1, 16, 128, 4, 4, 64]⟩
abbrev S1x16x4x256x128x4 : Shape := ⟨6, ![1, 16, 4, 256, 128, 4]⟩
abbrev S1x16x4x4x128x256 : Shape := ⟨6, ![1, 16, 4, 4, 128, 256]⟩
abbrev S16x128x256 : Shape := ⟨3, ![16, 128, 256]⟩
abbrev S4x4 : Shape := ⟨2, ![4, 4]⟩
abbrev S4x4x1x1 : Shape := ⟨4, ![4, 4, 1, 1]⟩
abbrev S1x16x1x1x128x256 : Shape := ⟨6, ![1, 16, 1, 1, 128, 256]⟩
abbrev S1x1x4x4x1x1 : Shape := ⟨6, ![1, 1, 4, 4, 1, 1]⟩
abbrev S1x16x4x4x128x1 : Shape := ⟨6, ![1, 16, 4, 4, 128, 1]⟩
abbrev S1x16x4x4x128x257 : Shape := ⟨6, ![1, 16, 4, 4, 128, 257]⟩
abbrev S1x16x4x4x128 : Shape := ⟨5, ![1, 16, 4, 4, 128]⟩
abbrev S1x4x4x16x128x257 : Shape := ⟨6, ![1, 4, 4, 16, 128, 257]⟩
abbrev S16x2048x257 : Shape := ⟨3, ![16, 2048, 257]⟩
abbrev S16x2048x1 : Shape := ⟨3, ![16, 2048, 1]⟩
abbrev S16x2048 : Shape := ⟨2, ![16, 2048]⟩
abbrev S2048x16 : Shape := ⟨2, ![2048, 16]⟩
abbrev S2048x128 : Shape := ⟨2, ![2048, 128]⟩
abbrev S2048x16x64 : Shape := ⟨3, ![2048, 16, 64]⟩
abbrev S16x2048x64 : Shape := ⟨3, ![16, 2048, 64]⟩
abbrev S2048x8x64 : Shape := ⟨3, ![2048, 8, 64]⟩
abbrev S8x2048x64 : Shape := ⟨3, ![8, 2048, 64]⟩
abbrev S16x2048x256 : Shape := ⟨3, ![16, 2048, 256]⟩
abbrev S2048x1024 : Shape := ⟨2, ![2048, 1024]⟩
abbrev S1x1024 : Shape := ⟨2, ![1, 1024]⟩
abbrev S1x128 : Shape := ⟨2, ![1, 128]⟩
abbrev S16x128x64 : Shape := ⟨3, ![16, 128, 64]⟩
abbrev S8x128x64 : Shape := ⟨3, ![8, 128, 64]⟩
abbrev S128x128 : Shape := ⟨2, ![128, 128]⟩
abbrev S128x1024 : Shape := ⟨2, ![128, 1024]⟩
abbrev S64x128 : Shape := ⟨2, ![64, 128]⟩
abbrev S1x128x64 : Shape := ⟨3, ![1, 128, 64]⟩
abbrev S128x64 : Shape := ⟨2, ![128, 64]⟩
abbrev S256x64 : Shape := ⟨2, ![256, 64]⟩
abbrev S256x128 : Shape := ⟨2, ![256, 128]⟩
abbrev S128x256 : Shape := ⟨2, ![128, 256]⟩
abbrev S1x128x256 : Shape := ⟨3, ![1, 128, 256]⟩
abbrev S128 : Shape := ⟨1, ![128]⟩
abbrev S128x1 : Shape := ⟨2, ![128, 1]⟩

abbrev nBuf : Space → Nat
  | .hbm => 125
  | .vmem => 17
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1024, .f32⟩
  | .hbm, ⟨3, _⟩ => ⟨S1024x512, .f32⟩
  | .hbm, ⟨4, _⟩ => ⟨S512, .f32⟩
  | .hbm, ⟨5, _⟩ => ⟨S16, .f32⟩
  | .hbm, ⟨6, _⟩ => ⟨S1x2048x1024, .f32⟩
  | .hbm, ⟨7, _⟩ => ⟨S1x2048x1024, .f32⟩
  | .hbm, ⟨8, _⟩ => ⟨S1x1x1024, .f32⟩
  | .hbm, ⟨9, _⟩ => ⟨S1x2048x1024, .f32⟩
  | .hbm, ⟨10, _⟩ => ⟨S1x2048x1024, .f32⟩
  | .hbm, ⟨11, _⟩ => ⟨S1x2048x512, .f32⟩
  | .hbm, ⟨12, _⟩ => ⟨S1x1x512, .f32⟩
  | .hbm, ⟨13, _⟩ => ⟨S1x2048x512, .f32⟩
  | .hbm, ⟨14, _⟩ => ⟨S1x2048x512, .f32⟩
  | .hbm, ⟨15, _⟩ => ⟨S1x2048x2x4x64, .f32⟩
  | .hbm, ⟨16, _⟩ => ⟨S1x2048x1x4x64, .f32⟩
  | .hbm, ⟨17, _⟩ => ⟨S1x2048x4x64, .f32⟩
  | .hbm, ⟨18, _⟩ => ⟨S_, .f32⟩
  | .hbm, ⟨19, _⟩ => ⟨S1x128x4x64, .f32⟩
  | .hbm, ⟨20, _⟩ => ⟨S1x2176x4x64, .f32⟩
  | .hbm, ⟨21, _⟩ => ⟨S1x17x128x4x64, .f32⟩
  | .hbm, ⟨22, _⟩ => ⟨S1x16x128x4x64, .f32⟩
  | .hbm, ⟨23, _⟩ => ⟨S1x16x128x4x64, .f32⟩
  | .hbm, ⟨24, _⟩ => ⟨S1x16x256x4x64, .f32⟩
  | .hbm, ⟨25, _⟩ => ⟨S1x16x128x4x4x64, .f32⟩
  | .hbm, ⟨26, _⟩ => ⟨S1x16x4x256x128x4, .f32⟩
  | .hbm, ⟨27, _⟩ => ⟨S1x16x4x4x128x256, .f32⟩
  | .hbm, ⟨28, _⟩ => ⟨S_, .f32⟩
  | .hbm, ⟨29, _⟩ => ⟨S1x16x4x4x128x256, .f32⟩
  | .hbm, ⟨30, _⟩ => ⟨S1x16x4x4x128x256, .f32⟩
  | .hbm, ⟨31, _⟩ => ⟨S16x128x256, .i32⟩
  | .hbm, ⟨32, _⟩ => ⟨S16x128x256, .i32⟩
  | .hbm, ⟨33, _⟩ => ⟨S16x128x256, .i32⟩
  | .hbm, ⟨34, _⟩ => ⟨S16x128x256, .i32⟩
  | .hbm, ⟨35, _⟩ => ⟨S_, .i32⟩
  | .hbm, ⟨36, _⟩ => ⟨S16x128x256, .i32⟩
  | .hbm, ⟨37, _⟩ => ⟨S16x128x256, .i32⟩
  | .hbm, ⟨38, _⟩ => ⟨S_, .i32⟩
  | .hbm, ⟨39, _⟩ => ⟨S16x128x256, .i32⟩
  | .hbm, ⟨40, _⟩ => ⟨S16x128x256, .i1⟩
  | .hbm, ⟨41, _⟩ => ⟨S_, .i32⟩
  | .hbm, ⟨42, _⟩ => ⟨S16x128x256, .i32⟩
  | .hbm, ⟨43, _⟩ => ⟨S16x128x256, .i1⟩
  | .hbm, ⟨44, _⟩ => ⟨S16x128x256, .i1⟩
  | .hbm, ⟨45, _⟩ => ⟨S_, .i32⟩
  | .hbm, ⟨46, _⟩ => ⟨S16x128x256, .i32⟩
  | .hbm, ⟨47, _⟩ => ⟨S16x128x256, .i32⟩
  | .hbm, ⟨48, _⟩ => ⟨S_, .i32⟩
  | .hbm, ⟨49, _⟩ => ⟨S16x128x256, .i32⟩
  | .hbm, ⟨50, _⟩ => ⟨S16x128x256, .i32⟩
  | .hbm, ⟨51, _⟩ => ⟨S16x128x256, .i32⟩
  | .hbm, ⟨52, _⟩ => ⟨S_, .i32⟩
  | .hbm, ⟨53, _⟩ => ⟨S16x128x256, .i32⟩
  | .hbm, ⟨54, _⟩ => ⟨S16x128x256, .i1⟩
  | .hbm, ⟨55, _⟩ => ⟨S16x128x256, .i1⟩
  | .hbm, ⟨56, _⟩ => ⟨S16, .f32⟩
  | .hbm, ⟨57, _⟩ => ⟨S_, .f32⟩
  | .hbm, ⟨58, _⟩ => ⟨S16, .f32⟩
  | .hbm, ⟨59, _⟩ => ⟨S16, .f32⟩
  | .hbm, ⟨60, _⟩ => ⟨S_, .f32⟩
  | .hbm, ⟨61, _⟩ => ⟨S16, .f32⟩
  | .hbm, ⟨62, _⟩ => ⟨S16, .f32⟩
  | .hbm, ⟨63, _⟩ => ⟨S_, .f32⟩
  | .hbm, ⟨64, _⟩ => ⟨S16, .f32⟩
  | .hbm, ⟨65, _⟩ => ⟨S16, .f32⟩
  | .hbm, ⟨66, _⟩ => ⟨S_, .f32⟩
  | .hbm, ⟨67, _⟩ => ⟨S16, .f32⟩
  | .hbm, ⟨68, _⟩ => ⟨S16, .f32⟩
  | .hbm, ⟨69, _⟩ => ⟨S16, .f32⟩
  | .hbm, ⟨70, _⟩ => ⟨S4x4, .f32⟩
  | .hbm, ⟨71, _⟩ => ⟨S4x4x1x1, .f32⟩
  | .hbm, ⟨72, _⟩ => ⟨S16x128x256, .f32⟩
  | .hbm, ⟨73, _⟩ => ⟨S1x16x1x1x128x256, .f32⟩
  | .hbm, ⟨74, _⟩ => ⟨S1x1x4x4x1x1, .f32⟩
  | .hbm, ⟨75, _⟩ => ⟨S1x16x4x4x128x256, .f32⟩
  | .hbm, ⟨76, _⟩ => ⟨S1x16x4x4x128x256, .f32⟩
  | .hbm, ⟨77, _⟩ => ⟨S1x16x4x4x128x256, .f32⟩
  | .hbm, ⟨78, _⟩ => ⟨S1x16x4x4x128x256, .f32⟩
  | .hbm, ⟨79, _⟩ => ⟨S1x16x1x1x128x256, .i1⟩
  | .hbm, ⟨80, _⟩ => ⟨S_, .f32⟩
  | .hbm, ⟨81, _⟩ => ⟨S_, .f32⟩
  | .hbm, ⟨82, _⟩ => ⟨S1x16x4x4x128x256, .i1⟩
  | .hbm, ⟨83, _⟩ => ⟨S1x16x4x4x128x256, .f32⟩
  | .hbm, ⟨84, _⟩ => ⟨S1x16x4x4x128x256, .f32⟩
  | .hbm, ⟨85, _⟩ => ⟨S4x4, .f32⟩
  | .hbm, ⟨86, _⟩ => ⟨S1x1x4x4x1x1, .f32⟩
  | .hbm, ⟨87, _⟩ => ⟨S1x16x4x4x128x1, .f32⟩
  | .hbm, ⟨88, _⟩ => ⟨S1x16x4x4x128x257, .f32⟩
  | .hbm, ⟨89, _⟩ => ⟨S_, .f32⟩
  | .hbm, ⟨90, _⟩ => ⟨S1x16x4x4x128, .f32⟩
  | .hbm, ⟨91, _⟩ => ⟨S_, .f32⟩
  | .hbm, ⟨92, _⟩ => ⟨S1x16x4x4x128, .f32⟩
  | .hbm, ⟨93, _⟩ => ⟨S1x16x4x4x128, .f32⟩
  | .hbm, ⟨94, _⟩ => ⟨S1x16x4x4x128x1, .f32⟩
  | .hbm, ⟨95, _⟩ => ⟨S1x16x4x4x128x257, .f32⟩
  | .hbm, ⟨96, _⟩ => ⟨S1x16x4x4x128x257, .f32⟩
  | .hbm, ⟨97, _⟩ => ⟨S1x16x4x4x128x257, .f32⟩
  | .hbm, ⟨98, _⟩ => ⟨S_, .f32⟩
  | .hbm, ⟨99, _⟩ => ⟨S1x16x4x4x128, .f32⟩
  | .hbm, ⟨100, _⟩ => ⟨S1x16x4x4x128x1, .f32⟩
  | .hbm, ⟨101, _⟩ => ⟨S1x16x4x4x128x257, .f32⟩
  | .hbm, ⟨102, _⟩ => ⟨S1x16x4x4x128x257, .f32⟩
  | .hbm, ⟨103, _⟩ => ⟨S1x4x4x16x128x257, .f32⟩
  | .hbm, ⟨104, _⟩ => ⟨S16x2048x257, .f32⟩
  | .hbm, ⟨105, _⟩ => ⟨S16x2048x1, .f32⟩
  | .hbm, ⟨106, _⟩ => ⟨S16x2048, .f32⟩
  | .hbm, ⟨107, _⟩ => ⟨S2048x16, .f32⟩
  | .hbm, ⟨108, _⟩ => ⟨S_, .i32⟩
  | .hbm, ⟨109, _⟩ => ⟨S_, .f32⟩
  | .hbm, ⟨110, _⟩ => ⟨S2048x128, .f32⟩
  | .hbm, ⟨111, _⟩ => ⟨S2048x16x64, .f32⟩
  | .hbm, ⟨112, _⟩ => ⟨S16x2048x64, .f32⟩
  | .hbm, ⟨113, _⟩ => ⟨S16x2048x64, .bf16⟩
  | .hbm, ⟨114, _⟩ => ⟨S2048x8x64, .f32⟩
  | .hbm, ⟨115, _⟩ => ⟨S8x2048x64, .f32⟩
  | .hbm, ⟨116, _⟩ => ⟨S8x2048x64, .bf16⟩
  | .hbm, ⟨117, _⟩ => ⟨S16x2048x256, .f32⟩
  | .hbm, ⟨118, _⟩ => ⟨S16x2048x256, .bf16⟩
  | .hbm, ⟨119, _⟩ => ⟨S2048x1024, .f32⟩
  | .hbm, ⟨120, _⟩ => ⟨S2048x1024, .bf16⟩
  | .hbm, ⟨121, _⟩ => ⟨S2048x1024, .bf16⟩
  | .hbm, ⟨122, _⟩ => ⟨S8x2048x64, .f32⟩
  | .hbm, ⟨123, _⟩ => ⟨S1x1024, .f32⟩
  | .hbm, ⟨124, _⟩ => ⟨S1x128, .f32⟩
  | .local _ .vmem, ⟨0, _⟩ => ⟨S16x128x64, .bf16⟩
  | .local _ .vmem, ⟨1, _⟩ => ⟨S16x128x64, .bf16⟩
  | .local _ .vmem, ⟨2, _⟩ => ⟨S8x128x64, .bf16⟩
  | .local _ .vmem, ⟨3, _⟩ => ⟨S8x128x64, .bf16⟩
  | .local _ .vmem, ⟨4, _⟩ => ⟨S8x128x64, .bf16⟩
  | .local _ .vmem, ⟨5, _⟩ => ⟨S8x128x64, .bf16⟩
  | .local _ .vmem, ⟨6, _⟩ => ⟨S16x128x256, .bf16⟩
  | .local _ .vmem, ⟨7, _⟩ => ⟨S16x128x256, .bf16⟩
  | .local _ .vmem, ⟨8, _⟩ => ⟨S128x128, .f32⟩
  | .local _ .vmem, ⟨9, _⟩ => ⟨S128x128, .f32⟩
  | .local _ .vmem, ⟨10, _⟩ => ⟨S128x1024, .bf16⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S8x2048x64, .f32⟩
  | .local _ .vmem, ⟨15, _⟩ => ⟨S1x1024, .f32⟩
  | .local _ .vmem, ⟨16, _⟩ => ⟨S1x128, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c : Ref sig .tc := ⟨.hbm, 35, rfl⟩
abbrev main_v26 : Ref sig .tc := ⟨.hbm, 36, rfl⟩
abbrev main_v27 : Ref sig .tc := ⟨.hbm, 37, rfl⟩
abbrev main_c_1 : Ref sig .tc := ⟨.hbm, 38, rfl⟩
abbrev main_v28 : Ref sig .tc := ⟨.hbm, 39, rfl⟩
abbrev main_v29 : Ref sig .tc := ⟨.hbm, 40, rfl⟩
abbrev main_c_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_3 : Ref sig .tc := ⟨.hbm, 45, rfl⟩
abbrev main_v33 : Ref sig .tc := ⟨.hbm, 46, rfl⟩
abbrev main_v34 : Ref sig .tc := ⟨.hbm, 47, rfl⟩
abbrev main_c_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_10 : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_11 : Ref sig .tc := ⟨.hbm, 89, rfl⟩
abbrev main_v66 : Ref sig .tc := ⟨.hbm, 90, rfl⟩
abbrev main_cst_12 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_13 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_c_14 : Ref sig .tc := ⟨.hbm, 108, rfl⟩
abbrev main_call1_v0 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93_0 : Ref sig .tc := ⟨.hbm, 121, rfl⟩
abbrev main_v93_1 : Ref sig .tc := ⟨.hbm, 122, rfl⟩
abbrev main_v93_2 : Ref sig .tc := ⟨.hbm, 123, rfl⟩
abbrev main_v93_3 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c1_i32_120 : BitVec 32 := 1#32
  let v209 : BitVec 32 := Scalar.muli arg0 c1_i32_120
  let c0_i32_121 : BitVec 32 := 0#32
  let v210 : BitVec 32 := Scalar.addi v209 c0_i32_121
  let c128_i32 : BitVec 32 := 128#32
  let v211 : BitVec 32 := Scalar.muli v210 c128_i32
  v211
def k0_mult2 (i : grid0.Coords) : BitVec 32 :=
  let arg0 : BitVec 32 := BitVec.ofNat 32 (i 0).val
  let c1_i32_120 : BitVec 32 := 1#32
  let v209 : BitVec 32 := Scalar.muli arg0 c1_i32_120
  let c0_i32_121 : BitVec 32 := 0#32
  let v210 : BitVec 32 := Scalar.addi v209 c0_i32_121
  let c1_i32_122 : BitVec 32 := 1#32
  let v213 : BitVec 32 := Scalar.subi v210 c1_i32_122
  let c0_i32_123 : BitVec 32 := 0#32
  let v214 : BitVec 32 := Scalar.maxsi v213 c0_i32_123
  let c128_i32_124 : BitVec 32 := 128#32
  let v215 : BitVec 32 := Scalar.muli v214 c128_i32_124
  v215
def k0_off1 (i : grid0.Coords) : Fin 3 → Nat :=
  let c0_164 : Index := 0#32
  let arg0 : BitVec 32 := BitVec.ofNat 32 (i 0).val
  let c1_i32_120 : BitVec 32 := 1#32
  let v209 : BitVec 32 := Scalar.muli arg0 c1_i32_120
  let c0_i32_121 : BitVec 32 := 0#32
  let v210 : BitVec 32 := Scalar.addi v209 c0_i32_121
  let c1_i32_122 : BitVec 32 := 1#32
  let v213 : BitVec 32 := Scalar.subi v210 c1_i32_122
  let c0_i32_123 : BitVec 32 := 0#32
  let v214 : BitVec 32 := Scalar.maxsi v213 c0_i32_123
  let c128_i32_124 : BitVec 32 := 128#32
  let v215 : BitVec 32 := Scalar.muli v214 c128_i32_124
  let v216 : BitVec 32 := v215
  let v266 : Index := Scalar.indexCast v216
  let c0_165 : Index := 0#32
  ![0, v266.toNat, 0]
def k0_off2 (i : grid0.Coords) : Fin 3 → Nat :=
  let c0_168 : Index := 0#32
  let arg0 : BitVec 32 := BitVec.ofNat 32 (i 0).val
  let c1_i32_120 : BitVec 32 := 1#32
  let v209 : BitVec 32 := Scalar.muli arg0 c1_i32_120
  let c0_i32_121 : BitVec 32 := 0#32
  let v210 : BitVec 32 := Scalar.addi v209 c0_i32_121
  let c128_i32 : BitVec 32 := 128#32
  let v211 : BitVec 32 := Scalar.muli v210 c128_i32
  let v212 : BitVec 32 := v211
  let v275 : Index := Scalar.indexCast v212
  let c0_169 : Index := 0#32
  ![0, v275.toNat, 0]
def k0_off3 (i : grid0.Coords) : Fin 3 → Nat :=
  let c4_172 : Index := 4#32
  let arg0 : BitVec 32 := BitVec.ofNat 32 (i 0).val
  let c1_i32_120 : BitVec 32 := 1#32
  let v209 : BitVec 32 := Scalar.muli arg0 c1_i32_120
  let c0_i32_121 : BitVec 32 := 0#32
  let v210 : BitVec 32 := Scalar.addi v209 c0_i32_121
  let c1_i32_122 : BitVec 32 := 1#32
  let v213 : BitVec 32 := Scalar.subi v210 c1_i32_122
  let c0_i32_123 : BitVec 32 := 0#32
  let v214 : BitVec 32 := Scalar.maxsi v213 c0_i32_123
  let c128_i32_124 : BitVec 32 := 128#32
  let v215 : BitVec 32 := Scalar.muli v214 c128_i32_124
  let v216 : BitVec 32 := v215
  let v284 : Index := Scalar.indexCast v216
  let c0_173 : Index := 0#32
  ![4, v284.toNat, 0]
def k0_off4 (i : grid0.Coords) : Fin 3 → Nat :=
  let c4_176 : Index := 4#32
  let arg0 : BitVec 32 := BitVec.ofNat 32 (i 0).val
  let c1_i32_120 : BitVec 32 := 1#32
  let v209 : BitVec 32 := Scalar.muli arg0 c1_i32_120
  let c0_i32_121 : BitVec 32 := 0#32
  let v210 : BitVec 32 := Scalar.addi v209 c0_i32_121
  let c128_i32 : BitVec 32 := 128#32
  let v211 : BitVec 32 := Scalar.muli v210 c128_i32
  let v212 : BitVec 32 := v211
  let v293 : Index := Scalar.indexCast v212
  let c0_177 : Index := 0#32
  ![4, v293.toNat, 0]
def k0_mult3 (i : grid0.Coords) : BitVec 32 :=
  let arg0 : BitVec 32 := BitVec.ofNat 32 (i 0).val
  let c1_i32_248 : BitVec 32 := 1#32
  let v434 : BitVec 32 := Scalar.muli arg0 c1_i32_248
  let c0_i32_249 : BitVec 32 := 0#32
  let v435 : BitVec 32 := Scalar.addi v434 c0_i32_249
  let c128_i32_250 : BitVec 32 := 128#32
  let v436 : BitVec 32 := Scalar.muli v435 c128_i32_250
  v436
def k0_mult4 (i : grid0.Coords) : BitVec 32 :=
  let arg0 : BitVec 32 := BitVec.ofNat 32 (i 0).val
  let c1_i32_248 : BitVec 32 := 1#32
  let v434 : BitVec 32 := Scalar.muli arg0 c1_i32_248
  let c0_i32_249 : BitVec 32 := 0#32
  let v435 : BitVec 32 := Scalar.addi v434 c0_i32_249
  let c1_i32_251 : BitVec 32 := 1#32
  let v438 : BitVec 32 := Scalar.subi v435 c1_i32_251
  let c0_i32_252 : BitVec 32 := 0#32
  let v439 : BitVec 32 := Scalar.maxsi v438 c0_i32_252
  let c128_i32_253 : BitVec 32 := 128#32
  let v440 : BitVec 32 := Scalar.muli v439 c128_i32_253
  v440
def k0_off5 (i : grid0.Coords) : Fin 3 → Nat :=
  let c1_293 : Index := 1#32
  let arg0 : BitVec 32 := BitVec.ofNat 32 (i 0).val
  let c1_i32_248 : BitVec 32 := 1#32
  let v434 : BitVec 32 := Scalar.muli arg0 c1_i32_248
  let c0_i32_249 : BitVec 32 := 0#32
  let v435 : BitVec 32 := Scalar.addi v434 c0_i32_249
  let c1_i32_251 : BitVec 32 := 1#32
  let v438 : BitVec 32 := Scalar.subi v435 c1_i32_251
  let c0_i32_252 : BitVec 32 := 0#32
  let v439 : BitVec 32 := Scalar.maxsi v438 c0_i32_252
  let c128_i32_253 : BitVec 32 := 128#32
  let v440 : BitVec 32 := Scalar.muli v439 c128_i32_253
  let v441 : BitVec 32 := v440
  let v491 : Index := Scalar.indexCast v441
  let c0_294 : Index := 0#32
  ![1, v491.toNat, 0]
def k0_off6 (i : grid0.Coords) : Fin 3 → Nat :=
  let c1_297 : Index := 1#32
  let arg0 : BitVec 32 := BitVec.ofNat 32 (i 0).val
  let c1_i32_248 : BitVec 32 := 1#32
  let v434 : BitVec 32 := Scalar.muli arg0 c1_i32_248
  let c0_i32_249 : BitVec 32 := 0#32
  let v435 : BitVec 32 := Scalar.addi v434 c0_i32_249
  let c128_i32_250 : BitVec 32 := 128#32
  let v436 : BitVec 32 := Scalar.muli v435 c128_i32_250
  let v437 : BitVec 32 := v436
  let v500 : Index := Scalar.indexCast v437
  let c0_298 : Index := 0#32
  ![1, v500.toNat, 0]
def k0_off7 (i : grid0.Coords) : Fin 3 → Nat :=
  let c5_301 : Index := 5#32
  let arg0 : BitVec 32 := BitVec.ofNat 32 (i 0).val
  let c1_i32_248 : BitVec 32 := 1#32
  let v434 : BitVec 32 := Scalar.muli arg0 c1_i32_248
  let c0_i32_249 : BitVec 32 := 0#32
  let v435 : BitVec 32 := Scalar.addi v434 c0_i32_249
  let c1_i32_251 : BitVec 32 := 1#32
  let v438 : BitVec 32 := Scalar.subi v435 c1_i32_251
  let c0_i32_252 : BitVec 32 := 0#32
  let v439 : BitVec 32 := Scalar.maxsi v438 c0_i32_252
  let c128_i32_253 : BitVec 32 := 128#32
  let v440 : BitVec 32 := Scalar.muli v439 c128_i32_253
  let v441 : BitVec 32 := v440
  let v509 : Index := Scalar.indexCast v441
  let c0_302 : Index := 0#32
  ![5, v509.toNat, 0]
def k0_off8 (i : grid0.Coords) : Fin 3 → Nat :=
  let c5_305 : Index := 5#32
  let arg0 : BitVec 32 := BitVec.ofNat 32 (i 0).val
  let c1_i32_248 : BitVec 32 := 1#32
  let v434 : BitVec 32 := Scalar.muli arg0 c1_i32_248
  let c0_i32_249 : BitVec 32 := 0#32
  let v435 : BitVec 32 := Scalar.addi v434 c0_i32_249
  let c128_i32_250 : BitVec 32 := 128#32
  let v436 : BitVec 32 := Scalar.muli v435 c128_i32_250
  let v437 : BitVec 32 := v436
  let v518 : Index := Scalar.indexCast v437
  let c0_306 : Index := 0#32
  ![5, v518.toNat, 0]
def k0_mult5 (i : grid0.Coords) : BitVec 32 :=
  let arg0 : BitVec 32 := BitVec.ofNat 32 (i 0).val
  let c1_i32_377 : BitVec 32 := 1#32
  let v659 : BitVec 32 := Scalar.muli arg0 c1_i32_377
  let c0_i32_378 : BitVec 32 := 0#32
  let v660 : BitVec 32 := Scalar.addi v659 c0_i32_378
  let c128_i32_379 : BitVec 32 := 128#32
  let v661 : BitVec 32 := Scalar.muli v660 c128_i32_379
  v661
def k0_mult6 (i : grid0.Coords) : BitVec 32 :=
  let arg0 : BitVec 32 := BitVec.ofNat 32 (i 0).val
  let c1_i32_377 : BitVec 32 := 1#32
  let v659 : BitVec 32 := Scalar.muli arg0 c1_i32_377
  let c0_i32_378 : BitVec 32 := 0#32
  let v660 : BitVec 32 := Scalar.addi v659 c0_i32_378
  let c1_i32_380 : BitVec 32 := 1#32
  let v663 : BitVec 32 := Scalar.subi v660 c1_i32_380
  let c0_i32_381 : BitVec 32 := 0#32
  let v664 : BitVec 32 := Scalar.maxsi v663 c0_i32_381
  let c128_i32_382 : BitVec 32 := 128#32
  let v665 : BitVec 32 := Scalar.muli v664 c128_i32_382
  v665
def k0_off9 (i : grid0.Coords) : Fin 3 → Nat :=
  let c2_422 : Index := 2#32
  let arg0 : BitVec 32 := BitVec.ofNat 32 (i 0).val
  let c1_i32_377 : BitVec 32 := 1#32
  let v659 : BitVec 32 := Scalar.muli arg0 c1_i32_377
  let c0_i32_378 : BitVec 32 := 0#32
  let v660 : BitVec 32 := Scalar.addi v659 c0_i32_378
  let c1_i32_380 : BitVec 32 := 1#32
  let v663 : BitVec 32 := Scalar.subi v660 c1_i32_380
  let c0_i32_381 : BitVec 32 := 0#32
  let v664 : BitVec 32 := Scalar.maxsi v663 c0_i32_381
  let c128_i32_382 : BitVec 32 := 128#32
  let v665 : BitVec 32 := Scalar.muli v664 c128_i32_382
  let v666 : BitVec 32 := v665
  let v716 : Index := Scalar.indexCast v666
  let c0_423 : Index := 0#32
  ![2, v716.toNat, 0]
def k0_off10 (i : grid0.Coords) : Fin 3 → Nat :=
  let c2_426 : Index := 2#32
  let arg0 : BitVec 32 := BitVec.ofNat 32 (i 0).val
  let c1_i32_377 : BitVec 32 := 1#32
  let v659 : BitVec 32 := Scalar.muli arg0 c1_i32_377
  let c0_i32_378 : BitVec 32 := 0#32
  let v660 : BitVec 32 := Scalar.addi v659 c0_i32_378
  let c128_i32_379 : BitVec 32 := 128#32
  let v661 : BitVec 32 := Scalar.muli v660 c128_i32_379
  let v662 : BitVec 32 := v661
  let v725 : Index := Scalar.indexCast v662
  let c0_427 : Index := 0#32
  ![2, v725.toNat, 0]
def k0_off11 (i : grid0.Coords) : Fin 3 → Nat :=
  let c6_430 : Index := 6#32
  let arg0 : BitVec 32 := BitVec.ofNat 32 (i 0).val
  let c1_i32_377 : BitVec 32 := 1#32
  let v659 : BitVec 32 := Scalar.muli arg0 c1_i32_377
  let c0_i32_378 : BitVec 32 := 0#32
  let v660 : BitVec 32 := Scalar.addi v659 c0_i32_378
  let c1_i32_380 : BitVec 32 := 1#32
  let v663 : BitVec 32 := Scalar.subi v660 c1_i32_380
  let c0_i32_381 : BitVec 32 := 0#32
  let v664 : BitVec 32 := Scalar.maxsi v663 c0_i32_381
  let c128_i32_382 : BitVec 32 := 128#32
  let v665 : BitVec 32 := Scalar.muli v664 c128_i32_382
  let v666 : BitVec 32 := v665
  let v734 : Index := Scalar.indexCast v666
  let c0_431 : Index := 0#32
  ![6, v734.toNat, 0]
def k0_off12 (i : grid0.Coords) : Fin 3 → Nat :=
  let c6_434 : Index := 6#32
  let arg0 : BitVec 32 := BitVec.ofNat 32 (i 0).val
  let c1_i32_377 : BitVec 32 := 1#32
  let v659 : BitVec 32 := Scalar.muli arg0 c1_i32_377
  let c0_i32_378 : BitVec 32 := 0#32
  let v660 : BitVec 32 := Scalar.addi v659 c0_i32_378
  let c128_i32_379 : BitVec 32 := 128#32
  let v661 : BitVec 32 := Scalar.muli v660 c128_i32_379
  let v662 : BitVec 32 := v661
  let v743 : Index := Scalar.indexCast v662
  let c0_435 : Index := 0#32
  ![6, v743.toNat, 0]
def k0_mult7 (i : grid0.Coords) : BitVec 32 :=
  let arg0 : BitVec 32 := BitVec.ofNat 32 (i 0).val
  let c1_i32_458 : BitVec 32 := 1#32
  let v828 : BitVec 32 := Scalar.muli arg0 c1_i32_458
  let c0_i32_459 : BitVec 32 := 0#32
  let v829 : BitVec 32 := Scalar.addi v828 c0_i32_459
  let c128_i32_460 : BitVec 32 := 128#32
  let v830 : BitVec 32 := Scalar.muli v829 c128_i32_460
  v830
def k0_mult8 (i : grid0.Coords) : BitVec 32 :=
  let arg0 : BitVec 32 := BitVec.ofNat 32 (i 0).val
  let c1_i32_458 : BitVec 32 := 1#32
  let v828 : BitVec 32 := Scalar.muli arg0 c1_i32_458
  let c0_i32_459 : BitVec 32 := 0#32
  let v829 : BitVec 32 := Scalar.addi v828 c0_i32_459
  let c1_i32_461 : BitVec 32 := 1#32
  let v832 : BitVec 32 := Scalar.subi v829 c1_i32_461
  let c0_i32_462 : BitVec 32 := 0#32
  let v833 : BitVec 32 := Scalar.maxsi v832 c0_i32_462
  let c128_i32_463 : BitVec 32 := 128#32
  let v834 : BitVec 32 := Scalar.muli v833 c128_i32_463
  v834
def k0_off13 (i : grid0.Coords) : Fin 3 → Nat :=
  let c3_503 : Index := 3#32
  let arg0 : BitVec 32 := BitVec.ofNat 32 (i 0).val
  let c1_i32_458 : BitVec 32 := 1#32
  let v828 : BitVec 32 := Scalar.muli arg0 c1_i32_458
  let c0_i32_459 : BitVec 32 := 0#32
  let v829 : BitVec 32 := Scalar.addi v828 c0_i32_459
  let c1_i32_461 : BitVec 32 := 1#32
  let v832 : BitVec 32 := Scalar.subi v829 c1_i32_461
  let c0_i32_462 : BitVec 32 := 0#32
  let v833 : BitVec 32 := Scalar.maxsi v832 c0_i32_462
  let c128_i32_463 : BitVec 32 := 128#32
  let v834 : BitVec 32 := Scalar.muli v833 c128_i32_463
  let v835 : BitVec 32 := v834
  let v885 : Index := Scalar.indexCast v835
  let c0_504 : Index := 0#32
  ![3, v885.toNat, 0]
def k0_off14 (i : grid0.Coords) : Fin 3 → Nat :=
  let c3_507 : Index := 3#32
  let arg0 : BitVec 32 := BitVec.ofNat 32 (i 0).val
  let c1_i32_458 : BitVec 32 := 1#32
  let v828 : BitVec 32 := Scalar.muli arg0 c1_i32_458
  let c0_i32_459 : BitVec 32 := 0#32
  let v829 : BitVec 32 := Scalar.addi v828 c0_i32_459
  let c128_i32_460 : BitVec 32 := 128#32
  let v830 : BitVec 32 := Scalar.muli v829 c128_i32_460
  let v831 : BitVec 32 := v830
  let v894 : Index := Scalar.indexCast v831
  let c0_508 : Index := 0#32
  ![3, v894.toNat, 0]
def k0_off15 (i : grid0.Coords) : Fin 3 → Nat :=
  let c7_511 : Index := 7#32
  let arg0 : BitVec 32 := BitVec.ofNat 32 (i 0).val
  let c1_i32_458 : BitVec 32 := 1#32
  let v828 : BitVec 32 := Scalar.muli arg0 c1_i32_458
  let c0_i32_459 : BitVec 32 := 0#32
  let v829 : BitVec 32 := Scalar.addi v828 c0_i32_459
  let c1_i32_461 : BitVec 32 := 1#32
  let v832 : BitVec 32 := Scalar.subi v829 c1_i32_461
  let c0_i32_462 : BitVec 32 := 0#32
  let v833 : BitVec 32 := Scalar.maxsi v832 c0_i32_462
  let c128_i32_463 : BitVec 32 := 128#32
  let v834 : BitVec 32 := Scalar.muli v833 c128_i32_463
  let v835 : BitVec 32 := v834
  let v903 : Index := Scalar.indexCast v835
  let c0_512 : Index := 0#32
  ![7, v903.toNat, 0]
def k0_off16 (i : grid0.Coords) : Fin 3 → Nat :=
  let c7_515 : Index := 7#32
  let arg0 : BitVec 32 := BitVec.ofNat 32 (i 0).val
  let c1_i32_458 : BitVec 32 := 1#32
  let v828 : BitVec 32 := Scalar.muli arg0 c1_i32_458
  let c0_i32_459 : BitVec 32 := 0#32
  let v829 : BitVec 32 := Scalar.addi v828 c0_i32_459
  let c128_i32_460 : BitVec 32 := 128#32
  let v830 : BitVec 32 := Scalar.muli v829 c128_i32_460
  let v831 : BitVec 32 := v830
  let v912 : Index := Scalar.indexCast v831
  let c0_516 : Index := 0#32
  ![7, v912.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.muli c1_i32 arg0
  let c1_i32_0 : BitVec 32 := 1#32
  let v1 : BitVec 32 := Scalar.subi v0 c1_i32_0
  let c0_i32 : BitVec 32 := 0#32
  let v2 : BitVec 32 := Scalar.maxsi v1 c0_i32
  let c0_i32_1 : BitVec 32 := 0#32
  let c0_i32_2 : BitVec 32 := 0#32
  let c0_i32_3 : BitVec 32 := 0#32
  ![c0_i32_1.toNat, v2.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x128x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x2048x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference2Ideal.lean ====
abbrev S1x2048x1024 : Shape := ⟨3, ![1, 2048, 1024]⟩
abbrev S1024x1024 : Shape := ⟨2, ![1024, 1024]⟩
abbrev S1024 : Shape := ⟨1, ![1024]⟩
abbrev S1024x512 : Shape := ⟨2, ![1024, 512]⟩
abbrev S512 : Shape := ⟨1, ![512]⟩
abbrev S16 : Shape := ⟨1, ![16]⟩
abbrev S1x2048x512 : Shape := ⟨3, ![1, 2048, 512]⟩
abbrev S1x1x512 : Shape := ⟨3, ![1, 1, 512]⟩
abbrev S1x2048x2x4x64 : Shape := ⟨5, ![1, 2048, 2, 4, 64]⟩
abbrev S1x2048x1x4x64 : Shape := ⟨5, ![1, 2048, 1, 4, 64]⟩
abbrev S1x2048x4x64 : Shape := ⟨4, ![1, 2048, 4, 64]⟩
abbrev S_ : Shape := ⟨0, ![]⟩
abbrev S1x128x4x64 : Shape := ⟨4, ![1, 128, 4, 64]⟩
abbrev S1x2176x4x64 : Shape := ⟨4, ![1, 2176, 4, 64]⟩
abbrev S1x17x128x4x64 : Shape := ⟨5, ![1, 17, 128, 4, 64]⟩
abbrev S1x16x128x4x64 : Shape := ⟨5, ![1, 16, 128, 4, 64]⟩
abbrev S1x16x256x4x64 : Shape := ⟨5, ![1, 16, 256, 4, 64]⟩
abbrev S1x1x1024 : Shape := ⟨3, ![1, 1, 1024]⟩
abbrev S1x16x128x4x4x64 : Shape := ⟨6, ![1, 16, 128, 4, 4, 64]⟩
abbrev S1x16x4x256x128x4 : Shape := ⟨6, ![1, 16, 4, 256, 128, 4]⟩
abbrev S1x16x4x4x128x256 : Shape := ⟨6, ![1, 16, 4, 4, 128, 256]⟩
abbrev S16x128x256 : Shape := ⟨3, ![16, 128, 256]⟩
abbrev S4x4 : Shape := ⟨2, ![4, 4]⟩
abbrev S4x4x1x1 : Shape := ⟨4, ![4, 4, 1, 1]⟩
abbrev S1x16x1x1x128x256 : Shape := ⟨6, ![1, 16, 1, 1, 128, 256]⟩
abbrev S1x1x4x4x1x1 : Shape := ⟨6, ![1, 1, 4, 4, 1, 1]⟩
abbrev S1x16x4x4x128x1 : Shape := ⟨6, ![1, 16, 4, 4, 128, 1]⟩
abbrev S1x16x4x4x128x257 : Shape := ⟨6, ![1, 16, 4, 4, 128, 257]⟩
abbrev S1x16x4x4x128 : Shape := ⟨5, ![1, 16, 4, 4, 128]⟩
abbrev S1x16x4x64x4x128 : Shape := ⟨6, ![1, 16, 4, 64, 4, 128]⟩
abbrev S1x16x4x64x256 : Shape := ⟨5, ![1, 16, 4, 64, 256]⟩
abbrev S16x4x4x128 : Shape := ⟨4, ![16, 4, 4, 128]⟩
abbrev S1x16x4x128x4x64 : Shape := ⟨6, ![1, 16, 4, 128, 4, 64]⟩
abbrev S1x16x4x256x64 : Shape := ⟨5, ![1, 16, 4, 256, 64]⟩
abbrev S1x1024 : Shape := ⟨2, ![1, 1024]⟩
abbrev S2048x1024 : Shape := ⟨2, ![2048, 1024]⟩
abbrev S2048x8x64 : Shape := ⟨3, ![2048, 8, 64]⟩
abbrev S8x2048x64 : Shape := ⟨3, ![8, 2048, 64]⟩
abbrev S1x16 : Shape := ⟨2, ![1, 16]⟩
abbrev S1x128 : Shape := ⟨2, ![1, 128]⟩

abbrev nBuf : Space → Nat
  | .hbm => 230
  | .vmem => 0
  | .smem => 0
  | _ => 0

abbrev hbmTy0_0 (i : Nat) : BufTy := match i % 128 with
  | 0 => ⟨S1x2048x1024, .f32⟩
  | 1 => ⟨S1024x1024, .f32⟩
  | 2 => ⟨S1024, .f32⟩
  | 3 => ⟨S1024x512, .f32⟩
  | 4 => ⟨S512, .f32⟩
  | 5 => ⟨S16, .f32⟩
  | 6 => ⟨S1x2048x1024, .f32⟩
  | 7 => ⟨S1x2048x1024, .f32⟩
  | 8 => ⟨S1x2048x512, .f32⟩
  | 9 => ⟨S1x1x512, .f32⟩
  | 10 => ⟨S1x2048x512, .f32⟩
  | 11 => ⟨S1x2048x512, .f32⟩
  | 12 => ⟨S1x2048x2x4x64, .f32⟩
  | 13 => ⟨S1x2048x1x4x64, .f32⟩
  | 14 => ⟨S1x2048x4x64, .f32⟩
  | 15 => ⟨S_, .f32⟩
  | 16 => ⟨S1x128x4x64, .f32⟩
  | 17 => ⟨S1x2176x4x64, .f32⟩
  | 18 => ⟨S_, .f32⟩
  | 19 => ⟨S1x128x4x64, .f32⟩
  | 20 => ⟨S1x17x128x4x64, .f32⟩
  | 21 => ⟨S1x16x128x4x64, .f32⟩
  | 22 => ⟨S1x16x128x4x64, .f32⟩
  | 23 => ⟨S1x16x256x4x64, .f32⟩
  | 24 => ⟨S1x2048x1x4x64, .f32⟩
  | 25 => ⟨S1x2048x4x64, .f32⟩
  | 26 => ⟨S_, .f32⟩
  | 27 => ⟨S1x128x4x64, .f32⟩
  | 28 => ⟨S1x2176x4x64, .f32⟩
  | 29 => ⟨S_, .f32⟩
  | 30 => ⟨S1x128x4x64, .f32⟩
  | 31 => ⟨S1x17x128x4x64, .f32⟩
  | 32 => ⟨S1x16x128x4x64, .f32⟩
  | 33 => ⟨S1x16x128x4x64, .f32⟩
  | 34 => ⟨S1x16x256x4x64, .f32⟩
  | 35 => ⟨S1x1x1024, .f32⟩
  | 36 => ⟨S1x2048x1024, .f32⟩
  | 37 => ⟨S1x2048x1024, .f32⟩
  | 38 => ⟨S1x16x128x4x4x64, .f32⟩
  | 39 => ⟨S1x16x4x256x128x4, .f32⟩
  | 40 => ⟨S1x16x4x4x128x256, .f32⟩
  | 41 => ⟨S_, .f32⟩
  | 42 => ⟨S1x16x4x4x128x256, .f32⟩
  | 43 => ⟨S1x16x4x4x128x256, .f32⟩
  | 44 => ⟨S16x128x256, .i32⟩
  | 45 => ⟨S16x128x256, .i32⟩
  | 46 => ⟨S16x128x256, .i32⟩
  | 47 => ⟨S16x128x256, .i32⟩
  | 48 => ⟨S_, .i32⟩
  | 49 => ⟨S16x128x256, .i32⟩
  | 50 => ⟨S16x128x256, .i32⟩
  | 51 => ⟨S_, .i32⟩
  | 52 => ⟨S16x128x256, .i32⟩
  | 53 => ⟨S16x128x256, .i1⟩
  | 54 => ⟨S_, .i32⟩
  | 55 => ⟨S16x128x256, .i32⟩
  | 56 => ⟨S16x128x256, .i1⟩
  | 57 => ⟨S16x128x256, .i1⟩
  | 58 => ⟨S_, .i32⟩
  | 59 => ⟨S16x128x256, .i32⟩
  | 60 => ⟨S16x128x256, .i32⟩
  | 61 => ⟨S_, .i32⟩
  | 62 => ⟨S16x128x256, .i32⟩
  | 63 => ⟨S16x128x256, .i32⟩
  | 64 => ⟨S16x128x256, .i32⟩
  | 65 => ⟨S_, .i32⟩
  | 66 => ⟨S16x128x256, .i32⟩
  | 67 => ⟨S16x128x256, .i1⟩
  | 68 => ⟨S16x128x256, .i1⟩
  | 69 => ⟨S16, .f32⟩
  | 70 => ⟨S_, .f32⟩
  | 71 => ⟨S16, .f32⟩
  | 72 => ⟨S16, .f32⟩
  | 73 => ⟨S_, .f32⟩
  | 74 => ⟨S16, .f32⟩
  | 75 => ⟨S16, .f32⟩
  | 76 => ⟨S_, .f32⟩
  | 77 => ⟨S16, .f32⟩
  | 78 => ⟨S16, .f32⟩
  | 79 => ⟨S_, .f32⟩
  | 80 => ⟨S16, .f32⟩
  | 81 => ⟨S16, .f32⟩
  | 82 => ⟨S16, .f32⟩
  | 83 => ⟨S4x4, .f32⟩
  | 84 => ⟨S4x4x1x1, .f32⟩
  | 85 => ⟨S16x128x256, .f32⟩
  | 86 => ⟨S1x16x1x1x128x256, .f32⟩
  | 87 => ⟨S1x1x4x4x1x1, .f32⟩
  | 88 => ⟨S1x16x4x4x128x256, .f32⟩
  | 89 => ⟨S1x16x4x4x128x256, .f32⟩
  | 90 => ⟨S1x16x4x4x128x256, .f32⟩
  | 91 => ⟨S1x16x4x4x128x256, .f32⟩
  | 92 => ⟨S1x16x1x1x128x256, .i1⟩
  | 93 => ⟨S_, .f32⟩
  | 94 => ⟨S_, .f32⟩
  | 95 => ⟨S1x16x4x4x128x256, .i1⟩
  | 96 => ⟨S1x16x4x4x128x256, .f32⟩
  | 97 => ⟨S1x16x4x4x128x256, .f32⟩
  | 98 => ⟨S_, .f32⟩
  | 99 => ⟨S1x16x4x4x128x256, .f32⟩
  | 100 => ⟨S4x4, .f32⟩
  | 101 => ⟨S1x1x4x4x1x1, .f32⟩
  | 102 => ⟨S1x16x4x4x128x1, .f32⟩
  | 103 => ⟨S1x16x4x4x128x257, .f32⟩
  | 104 => ⟨S_, .f32⟩
  | 105 => ⟨S1x16x4x4x128, .f32⟩
  | 106 => ⟨S1x16x4x4x128x1, .f32⟩
  | 107 => ⟨S1x16x4x4x128x257, .f32⟩
  | 108 => ⟨S1x16x4x4x128x257, .i1⟩
  | 109 => ⟨S1x16x4x4x128x257, .f32⟩
  | 110 => ⟨S_, .f32⟩
  | 111 => ⟨S1x16x4x4x128, .f32⟩
  | 112 => ⟨S_, .f32⟩
  | 113 => ⟨S1x16x4x4x128, .f32⟩
  | 114 => ⟨S1x16x4x4x128, .f32⟩
  | 115 => ⟨S_, .f32⟩
  | 116 => ⟨S1x16x4x4x128, .f32⟩
  | 117 => ⟨S1x16x4x4x128, .i1⟩
  | 118 => ⟨S_, .f32⟩
  | 119 => ⟨S1x16x4x4x128, .f32⟩
  | 120 => ⟨S1x16x4x4x128, .i1⟩
  | 121 => ⟨S_, .f32⟩
  | 122 => ⟨S1x16x4x4x128, .f32⟩
  | 123 => ⟨S_, .f32⟩
  | 124 => ⟨S1x16x4x4x128, .f32⟩
  | 125 => ⟨S_, .f32⟩
  | 126 => ⟨S1x16x4x4x128, .f32⟩
  | 127 => ⟨S1x16x4x4x128, .f32⟩
  | _ => ⟨S1x2048x1024, .f32⟩

abbrev hbmTy0_1 (i : Nat) : BufTy := match i % 128 with
  | 0 => ⟨S1x16x4x4x128, .f32⟩
  | 1 => ⟨S1x16x4x4x128x1, .f32⟩
  | 2 => ⟨S1x16x4x4x128x257, .f32⟩
  | 3 => ⟨S1x16x4x4x128x257, .f32⟩
  | 4 => ⟨S1x16x4x4x128x257, .f32⟩
  | 5 => ⟨S_, .f32⟩
  | 6 => ⟨S1x16x4x4x128, .f32⟩
  | 7 => ⟨S1x16x4x4x128x1, .f32⟩
  | 8 => ⟨S1x16x4x4x128x257, .f32⟩
  | 9 => ⟨S1x16x4x4x128x257, .f32⟩
  | 10 => ⟨S1x16x4x4x128x1, .f32⟩
  | 11 => ⟨S_, .f32⟩
  | 12 => ⟨S1x16x4x4x128x1, .f32⟩
  | 13 => ⟨S1x16x4x4x128x1, .f32⟩
  | 14 => ⟨S1x16x4x4x128x256, .f32⟩
  | 15 => ⟨S1x16x4x64x4x128, .f32⟩
  | 16 => ⟨S1x16x128x4x4x64, .f32⟩
  | 17 => ⟨S1x2048x1024, .f32⟩
  | 18 => ⟨S1x16x128x4x4x64, .f32⟩
  | 19 => ⟨S1x16x4x64x4x128, .f32⟩
  | 20 => ⟨S1x16x4x4x128x256, .f32⟩
  | 21 => ⟨S1x16x4x64x256, .f32⟩
  | 22 => ⟨S1x16x256x4x64, .f32⟩
  | 23 => ⟨S_, .f32⟩
  | 24 => ⟨S1x16x4x4x128x257, .f32⟩
  | 25 => ⟨S1x16x4x4x128x257, .f32⟩
  | 26 => ⟨S1x16x4x4x128x257, .f32⟩
  | 27 => ⟨S1x16x4x4x128x257, .f32⟩
  | 28 => ⟨S_, .f32⟩
  | 29 => ⟨S1x16x4x4x128, .f32⟩
  | 30 => ⟨S1x16x4x4x128x1, .f32⟩
  | 31 => ⟨S1x16x4x4x128x1, .f32⟩
  | 32 => ⟨S1x16x4x4x128x257, .f32⟩
  | 33 => ⟨S1x16x4x4x128x257, .f32⟩
  | 34 => ⟨S_, .f32⟩
  | 35 => ⟨S16x4x4x128, .f32⟩
  | 36 => ⟨S1x16x4x4x128, .f32⟩
  | 37 => ⟨S1x16x4x4x128x257, .f32⟩
  | 38 => ⟨S1x16x4x4x128x257, .f32⟩
  | 39 => ⟨S1x16x4x4x128x257, .f32⟩
  | 40 => ⟨S1x16x4x4x128x256, .f32⟩
  | 41 => ⟨S1x16x4x4x128x1, .f32⟩
  | 42 => ⟨S_, .f32⟩
  | 43 => ⟨S4x4, .f32⟩
  | 44 => ⟨S1x1x4x4x1x1, .f32⟩
  | 45 => ⟨S_, .f32⟩
  | 46 => ⟨S4x4, .f32⟩
  | 47 => ⟨S16, .f32⟩
  | 48 => ⟨S_, .f32⟩
  | 49 => ⟨S1x16x4x4x128x256, .f32⟩
  | 50 => ⟨S1x16x4x4x128x256, .f32⟩
  | 51 => ⟨S_, .f32⟩
  | 52 => ⟨S1x16x4x4x128x256, .f32⟩
  | 53 => ⟨S1x16x4x4x128x256, .f32⟩
  | 54 => ⟨S1x16x4x256x128x4, .f32⟩
  | 55 => ⟨S1x16x4x128x4x64, .f32⟩
  | 56 => ⟨S1x16x128x4x4x64, .f32⟩
  | 57 => ⟨S1x16x4x256x64, .f32⟩
  | 58 => ⟨S1x16x256x4x64, .f32⟩
  | 59 => ⟨S1x2048x1024, .f32⟩
  | 60 => ⟨S_, .f32⟩
  | 61 => ⟨S1x1024, .f32⟩
  | 62 => ⟨S1x1x1024, .f32⟩
  | 63 => ⟨S_, .f32⟩
  | 64 => ⟨S1024, .f32⟩
  | 65 => ⟨S1x16x128x4x64, .f32⟩
  | 66 => ⟨S1x16x128x4x64, .f32⟩
  | 67 => ⟨S_, .f32⟩
  | 68 => ⟨S1x17x128x4x64, .f32⟩
  | 69 => ⟨S_, .f32⟩
  | 70 => ⟨S1x17x128x4x64, .f32⟩
  | 71 => ⟨S1x17x128x4x64, .f32⟩
  | 72 => ⟨S1x2176x4x64, .f32⟩
  | 73 => ⟨S1x128x4x64, .f32⟩
  | 74 => ⟨S1x2048x4x64, .f32⟩
  | 75 => ⟨S1x2048x1x4x64, .f32⟩
  | 76 => ⟨S_, .f32⟩
  | 77 => ⟨S1x2048x2x4x64, .f32⟩
  | 78 => ⟨S1x16x128x4x64, .f32⟩
  | 79 => ⟨S1x16x128x4x64, .f32⟩
  | 80 => ⟨S_, .f32⟩
  | 81 => ⟨S1x17x128x4x64, .f32⟩
  | 82 => ⟨S_, .f32⟩
  | 83 => ⟨S1x17x128x4x64, .f32⟩
  | 84 => ⟨S1x17x128x4x64, .f32⟩
  | 85 => ⟨S1x2176x4x64, .f32⟩
  | 86 => ⟨S1x128x4x64, .f32⟩
  | 87 => ⟨S1x2048x4x64, .f32⟩
  | 88 => ⟨S1x2048x1x4x64, .f32⟩
  | 89 => ⟨S_, .f32⟩
  | 90 => ⟨S1x2048x2x4x64, .f32⟩
  | 91 => ⟨S1x2048x2x4x64, .f32⟩
  | 92 => ⟨S1x2048x512, .f32⟩
  | 93 => ⟨S2048x1024, .f32⟩
  | 94 => ⟨S2048x1024, .bf16⟩
  | 95 => ⟨S2048x8x64, .f32⟩
  | 96 => ⟨S8x2048x64, .f32⟩
  | 97 => ⟨S1x1024, .f32⟩
  | 98 => ⟨S1x16, .f32⟩
  | 99 => ⟨S_, .i32⟩
  | 100 => ⟨S_, .f32⟩
  | 101 => ⟨S1x128, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c : Ref sig .tc := ⟨.hbm, 48, rfl⟩
abbrev main_v36 : Ref sig .tc := ⟨.hbm, 49, rfl⟩
abbrev main_v37 : Ref sig .tc := ⟨.hbm, 50, rfl⟩
abbrev main_c_4 : Ref sig .tc := ⟨.hbm, 51, rfl⟩
abbrev main_v38 : Ref sig .tc := ⟨.hbm, 52, rfl⟩
abbrev main_v39 : Ref sig .tc := ⟨.hbm, 53, rfl⟩
abbrev main_c_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_6 : Ref sig .tc := ⟨.hbm, 58, rfl⟩
abbrev main_v43 : Ref sig .tc := ⟨.hbm, 59, rfl⟩
abbrev main_v44 : Ref sig .tc := ⟨.hbm, 60, rfl⟩
abbrev main_c_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_8 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_cst_11 : Ref sig .tc := ⟨.hbm, 76, rfl⟩
abbrev main_v56 : Ref sig .tc := ⟨.hbm, 77, rfl⟩
abbrev main_v57 : Ref sig .tc := ⟨.hbm, 78, rfl⟩
abbrev main_cst_12 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_13 : Ref sig .tc := ⟨.hbm, 93, rfl⟩
abbrev main_call0_v0 : Ref sig .tc := ⟨.hbm, 94, rfl⟩
abbrev main_v71_1 : Ref sig .tc := ⟨.hbm, 95, rfl⟩
abbrev main_call0_v2 : Ref sig .tc := ⟨.hbm, 96, rfl⟩
abbrev main_v71_0 : Ref sig .tc := ⟨.hbm, 97, rfl⟩
abbrev main_call0_cst : Ref sig .tc := ⟨.hbm, 98, rfl⟩
abbrev main_v71_2 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_14 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_15 : Ref sig .tc := ⟨.hbm, 110, rfl⟩
abbrev main_v81 : Ref sig .tc := ⟨.hbm, 111, rfl⟩
abbrev main_cst_16 : Ref sig .tc := ⟨.hbm, 112, rfl⟩
abbrev main_v82 : Ref sig .tc := ⟨.hbm, 113, rfl⟩
abbrev main_v83 : Ref sig .tc := ⟨.hbm, 114, rfl⟩
abbrev main_cst_17 : Ref sig .tc := ⟨.hbm, 115, rfl⟩
abbrev main_v84 : Ref sig .tc := ⟨.hbm, 116, rfl⟩
abbrev main_v85 : Ref sig .tc := ⟨.hbm, 117, rfl⟩
abbrev main_cst_18 : Ref sig .tc := ⟨.hbm, 118, rfl⟩
abbrev main_v86 : Ref sig .tc := ⟨.hbm, 119, rfl⟩
abbrev main_v87 : Ref sig .tc := ⟨.hbm, 120, rfl⟩
abbrev main_cst_19 : Ref sig .tc := ⟨.hbm, 121, rfl⟩
abbrev main_v88 : Ref sig .tc := ⟨.hbm, 122, rfl⟩
abbrev main_cst_20 : Ref sig .tc := ⟨.hbm, 123, rfl⟩
abbrev main_v89 : Ref sig .tc := ⟨.hbm, 124, rfl⟩
abbrev main_cst_21 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_22 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_23 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_cst_24 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_cst_25 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_cst_26 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_cst_27 : Ref sig .tc := ⟨.hbm, 170, rfl⟩
abbrev main_v129 : Ref sig .tc := ⟨.hbm, 171, rfl⟩
abbrev main_v130 : Ref sig .tc := ⟨.hbm, 172, rfl⟩
abbrev main_cst_28 : Ref sig .tc := ⟨.hbm, 173, rfl⟩
abbrev main_v131 : Ref sig .tc := ⟨.hbm, 174, rfl⟩
abbrev main_v132 : Ref sig .tc := ⟨.hbm, 175, rfl⟩
abbrev main_call1_cst : Ref sig .tc := ⟨.hbm, 176, rfl⟩
abbrev main_call1_v0 : Ref sig .tc := ⟨.hbm, 177, rfl⟩
abbrev main_v133 : Ref sig .tc := ⟨.hbm, 178, rfl⟩
abbrev main_cst_29 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_cst_30 : Ref sig .tc := ⟨.hbm, 188, rfl⟩
abbrev main_v142 : Ref sig .tc := ⟨.hbm, 189, rfl⟩
abbrev main_v143 : Ref sig .tc := ⟨.hbm, 190, rfl⟩
abbrev main_cst_31 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_cst_32 : Ref sig .tc := ⟨.hbm, 195, rfl⟩
abbrev main_v147 : Ref sig .tc := ⟨.hbm, 196, rfl⟩
abbrev main_cst_33 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_cst_34 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_cst_35 : Ref sig .tc := ⟨.hbm, 208, rfl⟩
abbrev main_v157 : Ref sig .tc := ⟨.hbm, 209, rfl⟩
abbrev main_cst_36 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_cst_37 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_c_38 : Ref sig .tc := ⟨.hbm, 227, rfl⟩
abbrev main_call2_v0 : Ref sig .tc := ⟨.hbm, 228, rfl⟩
abbrev main_v173 : Ref sig .tc := ⟨.hbm, 229, rfl⟩

abbrev nD : Nat := 1
abbrev τ : Topo := Topo.v7x

variable {F : FTy → Type} [FloatOps F]
-- ==== Kernel3.lean ====
abbrev S2048x1024 : Shape := ⟨2, ![2048, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩
abbrev S1x1024x1024 : Shape := ⟨3, ![1, 1024, 1024]⟩
abbrev S1x2048x1024 : Shape := ⟨3, ![1, 2048, 1024]⟩
abbrev S512x1024 : Shape := ⟨2, ![512, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 24
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S1x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S1x1024, .f32⟩
  | .hbm, ⟨16, _⟩ => ⟨S1024x1024, .bf16⟩
  | .hbm, ⟨17, _⟩ => ⟨S1x1024x1024, .bf16⟩
  | .hbm, ⟨18, _⟩ => ⟨S2048x1024, .f32⟩
  | .hbm, ⟨19, _⟩ => ⟨S2048x1024, .bf16⟩
  | .hbm, ⟨20, _⟩ => ⟨S1x2048x1024, .bf16⟩
  | .hbm, ⟨21, _⟩ => ⟨S1x1024, .f32⟩
  | .hbm, ⟨22, _⟩ => ⟨S1x1024, .f32⟩
  | .hbm, ⟨23, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev main_v10_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v53 : BitVec 32 := Scalar.extui v0
  let c0_i32_25 : BitVec 32 := 0#32
  let v54 : BitVec 1 := Scalar.cmpi .ne v53 c0_i32_25
  v54

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v55 : BitVec 1 := Scalar.xori v0 v_true
  let v56 : BitVec 32 := Scalar.extui v55
  let c0_i32_26 : BitVec 32 := 0#32
  let v57 : BitVec 1 := Scalar.cmpi .ne v56 c0_i32_26
  v57

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v60 : BitVec 32 := Scalar.extui v0
  let c0_i32_28 : BitVec 32 := 0#32
  let v61 : BitVec 1 := Scalar.cmpi .ne v60 c0_i32_28
  v61

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_29 : BitVec 1 := 1#1
  let v62 : BitVec 1 := Scalar.xori v0 true_29
  let v63 : BitVec 32 := Scalar.extui v62
  let c0_i32_30 : BitVec 32 := 0#32
  let v64 : BitVec 1 := Scalar.cmpi .ne v63 c0_i32_30
  v64

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v67 : BitVec 32 := Scalar.extui v0
  let c0_i32_32 : BitVec 32 := 0#32
  let v68 : BitVec 1 := Scalar.cmpi .ne v67 c0_i32_32
  v68

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_33 : BitVec 1 := 1#1
  let v69 : BitVec 1 := Scalar.xori v0 true_33
  let v70 : BitVec 32 := Scalar.extui v69
  let c0_i32_34 : BitVec 32 := 0#32
  let v71 : BitVec 1 := Scalar.cmpi .ne v70 c0_i32_34
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference3Ideal.lean ====
abbrev S2048x1024 : Shape := ⟨2, ![2048, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩
abbrev S2048 : Shape := ⟨1, ![2048]⟩
abbrev S2048x1 : Shape := ⟨2, ![2048, 1]⟩
abbrev S1x2048x1024 : Shape := ⟨3, ![1, 2048, 1024]⟩

abbrev nBuf : Space → Nat
  | .hbm => 108
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S1x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S2048x1, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S2048x1024, .f32⟩
  | .hbm, ⟨44, _⟩ => ⟨S2048x1024, .f32⟩
  | .hbm, ⟨45, _⟩ => ⟨S1x1024, .f32⟩
  | .hbm, ⟨46, _⟩ => ⟨S2048x1024, .f32⟩
  | .hbm, ⟨47, _⟩ => ⟨S2048x1024, .f32⟩
  | .hbm, ⟨48, _⟩ => ⟨S1x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S_, .f32⟩
  | .hbm, ⟨56, _⟩ => ⟨S1024, .f32⟩
  | .hbm, ⟨57, _⟩ => ⟨S2048x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S2048x1024, .f32⟩
  | .hbm, ⟨62, _⟩ => ⟨S2048x1024, .f32⟩
  | .hbm, ⟨63, _⟩ => ⟨S_, .f32⟩
  | .hbm, ⟨64, _⟩ => ⟨S1024, .f32⟩
  | .hbm, ⟨65, _⟩ => ⟨S2048x1024, .f32⟩
  | .hbm, ⟨66, _⟩ => ⟨S_, .f32⟩
  | .hbm, ⟨67, _⟩ => ⟨S2048, .f32⟩
  | .hbm, ⟨68, _⟩ => ⟨S2048x1, .f32⟩
  | .hbm, ⟨69, _⟩ => ⟨S2048x1024, .f32⟩
  | .hbm, ⟨70, _⟩ => ⟨S2048x1024, .f32⟩
  | .hbm, ⟨71, _⟩ => ⟨S2048x1, .f32⟩
  | .hbm, ⟨72, _⟩ => ⟨S2048x1024, .f32⟩
  | .hbm, ⟨73, _⟩ => ⟨S_, .f32⟩
  | .hbm, ⟨74, _⟩ => ⟨S2048, .f32⟩
  | .hbm, ⟨75, _⟩ => ⟨S2048x1, .f32⟩
  | .hbm, ⟨76, _⟩ => ⟨S_, .f32⟩
  | .hbm, ⟨77, _⟩ => ⟨S2048x1, .f32⟩
  | .hbm, ⟨78, _⟩ => ⟨S2048x1, .f32⟩
  | .hbm, ⟨79, _⟩ => ⟨S_, .f32⟩
  | .hbm, ⟨80, _⟩ => ⟨S2048, .f32⟩
  | .hbm, ⟨81, _⟩ => ⟨S2048x1024, .f32⟩
  | .hbm, ⟨82, _⟩ => ⟨S2048x1024, .f32⟩
  | .hbm, ⟨83, _⟩ => ⟨S2048x1024, .f32⟩
  | .hbm, ⟨84, _⟩ => ⟨S_, .f32⟩
  | .hbm, ⟨85, _⟩ => ⟨S2048, .f32⟩
  | .hbm, ⟨86, _⟩ => ⟨S2048x1, .f32⟩
  | .hbm, ⟨87, _⟩ => ⟨S2048x1024, .f32⟩
  | .hbm, ⟨88, _⟩ => ⟨S2048x1, .f32⟩
  | .hbm, ⟨89, _⟩ => ⟨S_, .f32⟩
  | .hbm, ⟨90, _⟩ => ⟨S2048x1, .f32⟩
  | .hbm, ⟨91, _⟩ => ⟨S2048x1, .f32⟩
  | .hbm, ⟨92, _⟩ => ⟨S_, .f32⟩
  | .hbm, ⟨93, _⟩ => ⟨S2048, .f32⟩
  | .hbm, ⟨94, _⟩ => ⟨S2048x1024, .f32⟩
  | .hbm, ⟨95, _⟩ => ⟨S2048x1024, .f32⟩
  | .hbm, ⟨96, _⟩ => ⟨S_, .f32⟩
  | .hbm, ⟨97, _⟩ => ⟨S1024, .f32⟩
  | .hbm, ⟨98, _⟩ => ⟨S1x1024, .f32⟩
  | .hbm, ⟨99, _⟩ => ⟨S_, .f32⟩
  | .hbm, ⟨100, _⟩ => ⟨S1024, .f32⟩
  | .hbm, ⟨101, _⟩ => ⟨S2048x1024, .f32⟩
  | .hbm, ⟨102, _⟩ => ⟨S2048x1024, .bf16⟩
  | .hbm, ⟨103, _⟩ => ⟨S2048x1024, .bf16⟩
  | .hbm, ⟨104, _⟩ => ⟨S1x2048x1024, .bf16⟩
  | .hbm, ⟨105, _⟩ => ⟨S1x1024, .f32⟩
  | .hbm, ⟨106, _⟩ => ⟨S1x1024, .f32⟩
  | .hbm, ⟨107, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_v54 : Ref sig .tc := ⟨.hbm, 75, rfl⟩
abbrev main_cst_13 : Ref sig .tc := ⟨.hbm, 76, rfl⟩
abbrev main_v55 : Ref sig .tc := ⟨.hbm, 77, rfl⟩
abbrev main_v56 : Ref sig .tc := ⟨.hbm, 78, rfl⟩
abbrev main_cst_14 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_15 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_16 : Ref sig .tc := ⟨.hbm, 89, rfl⟩
abbrev main_v65 : Ref sig .tc := ⟨.hbm, 90, rfl⟩
abbrev main_v66 : Ref sig .tc := ⟨.hbm, 91, rfl⟩
abbrev main_cst_17 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_18 : Ref sig .tc := ⟨.hbm, 96, rfl⟩
abbrev main_v70 : Ref sig .tc := ⟨.hbm, 97, rfl⟩
abbrev main_v71 : Ref sig .tc := ⟨.hbm, 98, rfl⟩
abbrev main_cst_19 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩

abbrev nD : Nat := 1
abbrev τ : Topo := Topo.v7x

variable {F : FTy → Type} [FloatOps F]
-- ==== Kernel4.lean ====
abbrev S2048x1024 : Shape := ⟨2, ![2048, 1024]⟩
abbrev S2048x256 : Shape := ⟨2, ![2048, 256]⟩
abbrev S256x1024 : Shape := ⟨2, ![256, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 76
  | .vmem => 26
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x256, .f32⟩
  | .hbm, ⟨3, _⟩ => ⟨S256x1024, .f32⟩
  | .hbm, ⟨4, _⟩ => ⟨S1024x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S_, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .bf16⟩
  | .hbm, ⟨60, _⟩ => ⟨S2048x1024, .f32⟩
  | .hbm, ⟨61, _⟩ => ⟨S_, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .bf16⟩
  | .hbm, ⟨66, _⟩ => ⟨S1024x1024, .bf16⟩
  | .hbm, ⟨67, _⟩ => ⟨S2048x1024, .f32⟩
  | .hbm, ⟨68, _⟩ => ⟨S2048x1024, .bf16⟩
  | .hbm, ⟨69, _⟩ => ⟨S2048x1024, .bf16⟩
  | .hbm, ⟨70, _⟩ => ⟨S2048x1024, .bf16⟩
  | .hbm, ⟨71, _⟩ => ⟨S1x1024, .f32⟩
  | .hbm, ⟨72, _⟩ => ⟨S1x1024, .f32⟩
  | .hbm, ⟨73, _⟩ => ⟨S1x1024, .f32⟩
  | .hbm, ⟨74, _⟩ => ⟨S1x1024, .f32⟩
  | .hbm, ⟨75, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46_0 : Ref sig .tc := ⟨.hbm, 67, rfl⟩
abbrev main_v46_1 : Ref sig .tc := ⟨.hbm, 68, rfl⟩
abbrev main_v46_2 : Ref sig .tc := ⟨.hbm, 69, rfl⟩
abbrev main_v46_3 : Ref sig .tc := ⟨.hbm, 70, rfl⟩
abbrev main_v46_4 : Ref sig .tc := ⟨.hbm, 71, rfl⟩
abbrev main_v46_5 : Ref sig .tc := ⟨.hbm, 72, rfl⟩
abbrev main_v46_6 : Ref sig .tc := ⟨.hbm, 73, rfl⟩
abbrev main_v46_7 : Ref sig .tc := ⟨.hbm, 74, rfl⟩
abbrev main_v46_8 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v101 : BitVec 32 := Scalar.extui v0
  let c0_i32_43 : BitVec 32 := 0#32
  let v102 : BitVec 1 := Scalar.cmpi .ne v101 c0_i32_43
  v102

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v103 : BitVec 1 := Scalar.xori v0 v_true
  let v104 : BitVec 32 := Scalar.extui v103
  let c0_i32_44 : BitVec 32 := 0#32
  let v105 : BitVec 1 := Scalar.cmpi .ne v104 c0_i32_44
  v105

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v108 : BitVec 32 := Scalar.extui v0
  let c0_i32_46 : BitVec 32 := 0#32
  let v109 : BitVec 1 := Scalar.cmpi .ne v108 c0_i32_46
  v109

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_47 : BitVec 1 := 1#1
  let v110 : BitVec 1 := Scalar.xori v0 true_47
  let v111 : BitVec 32 := Scalar.extui v110
  let c0_i32_48 : BitVec 32 := 0#32
  let v112 : BitVec 1 := Scalar.cmpi .ne v111 c0_i32_48
  v112

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v115 : BitVec 32 := Scalar.extui v0
  let c0_i32_50 : BitVec 32 := 0#32
  let v116 : BitVec 1 := Scalar.cmpi .ne v115 c0_i32_50
  v116

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_51 : BitVec 1 := 1#1
  let v117 : BitVec 1 := Scalar.xori v0 true_51
  let v118 : BitVec 32 := Scalar.extui v117
  let c0_i32_52 : BitVec 32 := 0#32
  let v119 : BitVec 1 := Scalar.cmpi .ne v118 c0_i32_52
  v119

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v123 : BitVec 32 := Scalar.extui v0
  let c0_i32_54 : BitVec 32 := 0#32
  let v124 : BitVec 1 := Scalar.cmpi .ne v123 c0_i32_54
  v124

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_55 : BitVec 1 := 1#1
  let v125 : BitVec 1 := Scalar.xori v0 true_55
  let v126 : BitVec 32 := Scalar.extui v125
  let c0_i32_56 : BitVec 32 := 0#32
  let v127 : BitVec 1 := Scalar.cmpi .ne v126 c0_i32_56
  v127

def k0_cond9 (i : grid0.Coords) : BitVec 1 :=
  let arg0 : BitVec 32 := BitVec.ofNat 32 (i 0).val
  let c0_i32 : BitVec 32 := 0#32
  let v0 : BitVec 1 := Scalar.cmpi .eq arg0 c0_i32
  let v130 : BitVec 32 := Scalar.extui v0
  let c0_i32_58 : BitVec 32 := 0#32
  let v131 : BitVec 1 := Scalar.cmpi .ne v130 c0_i32_58
  v131

def k0_cond10 (i : grid0.Coords) : BitVec 1 :=
  let arg0 : BitVec 32 := BitVec.ofNat 32 (i 0).val
  let c0_i32 : BitVec 32 := 0#32
  let v0 : BitVec 1 := Scalar.cmpi .eq arg0 c0_i32
  let true_59 : BitVec 1 := 1#1
  let v132 : BitVec 1 := Scalar.xori v0 true_59
  let v133 : BitVec 32 := Scalar.extui v132
  let c0_i32_60 : BitVec 32 := 0#32
  let v134 : BitVec 1 := Scalar.cmpi .ne v133 c0_i32_60
  v134

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference4Ideal.lean ====
abbrev S2048x1024 : Shape := ⟨2, ![2048, 1024]⟩
abbrev S2048x256 : Shape := ⟨2, ![2048, 256]⟩
abbrev S256x1024 : Shape := ⟨2, ![256, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 199
  | .vmem => 0
  | .smem => 0
  | _ => 0

abbrev hbmTy0_0 (i : Nat) : BufTy := match i % 128 with
  | 0 => ⟨S2048x1024, .f32⟩
  | 1 => ⟨S2048x1024, .f32⟩
  | 2 => ⟨S2048x256, .f32⟩
  | 3 => ⟨S256x1024, .f32⟩
  | 4 => ⟨S1024x1024, .f32⟩
  | 5 => ⟨S1x1024, .f32⟩
  | 6 => ⟨S1x1024, .f32⟩
  | 7 => ⟨S1x1024, .f32⟩
  | 8 => ⟨S1x1024, .f32⟩
  | 9 => ⟨S1x1024, .f32⟩
  | 10 => ⟨S2048x1024, .f32⟩
  | 11 => ⟨S2048x1024, .f32⟩
  | 12 => ⟨S_, .f32⟩
  | 13 => ⟨S2048x1024, .f32⟩
  | 14 => ⟨S2048x1024, .f32⟩
  | 15 => ⟨S2048x1024, .f32⟩
  | 16 => ⟨S2048x1024, .f32⟩
  | 17 => ⟨S_, .f32⟩
  | 18 => ⟨S2048, .f32⟩
  | 19 => ⟨S2048x1, .f32⟩
  | 20 => ⟨S_, .f32⟩
  | 21 => ⟨S2048x1, .f32⟩
  | 22 => ⟨S2048x1, .f32⟩
  | 23 => ⟨S2048x1024, .f32⟩
  | 24 => ⟨S2048x1024, .f32⟩
  | 25 => ⟨S2048x1024, .f32⟩
  | 26 => ⟨S_, .f32⟩
  | 27 => ⟨S2048x1024, .f32⟩
  | 28 => ⟨S2048x1024, .f32⟩
  | 29 => ⟨S_, .f32⟩
  | 30 => ⟨S2048, .f32⟩
  | 31 => ⟨S2048x1, .f32⟩
  | 32 => ⟨S_, .f32⟩
  | 33 => ⟨S2048x1, .f32⟩
  | 34 => ⟨S2048x1, .f32⟩
  | 35 => ⟨S2048x1024, .f32⟩
  | 36 => ⟨S2048x1024, .f32⟩
  | 37 => ⟨S_, .f32⟩
  | 38 => ⟨S2048x1, .f32⟩
  | 39 => ⟨S2048x1, .f32⟩
  | 40 => ⟨S2048x1, .f32⟩
  | 41 => ⟨S2048x1, .f32⟩
  | 42 => ⟨S_, .f32⟩
  | 43 => ⟨S2048x1, .f32⟩
  | 44 => ⟨S2048x1, .f32⟩
  | 45 => ⟨S2048x1024, .f32⟩
  | 46 => ⟨S2048x1024, .f32⟩
  | 47 => ⟨S2048x1024, .f32⟩
  | 48 => ⟨S2048x1024, .f32⟩
  | 49 => ⟨S2048x1024, .f32⟩
  | 50 => ⟨S2048x1024, .f32⟩
  | 51 => ⟨S_, .f32⟩
  | 52 => ⟨S2048x1024, .f32⟩
  | 53 => ⟨S2048x1024, .f32⟩
  | 54 => ⟨S2048x1024, .f32⟩
  | 55 => ⟨S2048x1024, .f32⟩
  | 56 => ⟨S2048x1024, .f32⟩
  | 57 => ⟨S2048x1024, .f32⟩
  | 58 => ⟨S_, .f32⟩
  | 59 => ⟨S2048x1024, .f32⟩
  | 60 => ⟨S2048x1024, .f32⟩
  | 61 => ⟨S_, .f32⟩
  | 62 => ⟨S2048x1024, .f32⟩
  | 63 => ⟨S2048x1024, .f32⟩
  | 64 => ⟨S_, .f32⟩
  | 65 => ⟨S2048x1024, .f32⟩
  | 66 => ⟨S2048x1024, .f32⟩
  | 67 => ⟨S2048x1024, .f32⟩
  | 68 => ⟨S2048x1024, .f32⟩
  | 69 => ⟨S2048x1024, .f32⟩
  | 70 => ⟨S_, .f32⟩
  | 71 => ⟨S2048, .f32⟩
  | 72 => ⟨S2048x1, .f32⟩
  | 73 => ⟨S_, .f32⟩
  | 74 => ⟨S2048x1, .f32⟩
  | 75 => ⟨S2048x1, .f32⟩
  | 76 => ⟨S2048x1024, .f32⟩
  | 77 => ⟨S2048x1024, .f32⟩
  | 78 => ⟨S2048x1024, .f32⟩
  | 79 => ⟨S_, .f32⟩
  | 80 => ⟨S2048x1024, .f32⟩
  | 81 => ⟨S2048x1024, .f32⟩
  | 82 => ⟨S_, .f32⟩
  | 83 => ⟨S2048, .f32⟩
  | 84 => ⟨S2048x1, .f32⟩
  | 85 => ⟨S_, .f32⟩
  | 86 => ⟨S2048x1, .f32⟩
  | 87 => ⟨S2048x1, .f32⟩
  | 88 => ⟨S2048x1024, .f32⟩
  | 89 => ⟨S2048x1024, .f32⟩
  | 90 => ⟨S_, .f32⟩
  | 91 => ⟨S2048x1, .f32⟩
  | 92 => ⟨S2048x1, .f32⟩
  | 93 => ⟨S2048x1, .f32⟩
  | 94 => ⟨S2048x1, .f32⟩
  | 95 => ⟨S_, .f32⟩
  | 96 => ⟨S2048x1, .f32⟩
  | 97 => ⟨S2048x1, .f32⟩
  | 98 => ⟨S2048x1024, .f32⟩
  | 99 => ⟨S2048x1024, .f32⟩
  | 100 => ⟨S2048x1024, .f32⟩
  | 101 => ⟨S2048x1024, .f32⟩
  | 102 => ⟨S2048x1024, .f32⟩
  | 103 => ⟨S2048x1024, .f32⟩
  | 104 => ⟨S2048x1024, .f32⟩
  | 105 => ⟨S_, .f32⟩
  | 106 => ⟨S1024, .f32⟩
  | 107 => ⟨S1x1024, .f32⟩
  | 108 => ⟨S2048x1024, .f32⟩
  | 109 => ⟨S_, .f32⟩
  | 110 => ⟨S1024, .f32⟩
  | 111 => ⟨S1x1024, .f32⟩
  | 112 => ⟨S2048x1024, .f32⟩
  | 113 => ⟨S2048x1024, .f32⟩
  | 114 => ⟨S2048x1024, .f32⟩
  | 115 => ⟨S_, .f32⟩
  | 116 => ⟨S2048, .f32⟩
  | 117 => ⟨S2048x1, .f32⟩
  | 118 => ⟨S2048x1024, .f32⟩
  | 119 => ⟨S2048x1024, .f32⟩
  | 120 => ⟨S2048x1, .f32⟩
  | 121 => ⟨S2048x1024, .f32⟩
  | 122 => ⟨S_, .f32⟩
  | 123 => ⟨S2048, .f32⟩
  | 124 => ⟨S2048x1, .f32⟩
  | 125 => ⟨S_, .f32⟩
  | 126 => ⟨S2048x1, .f32⟩
  | 127 => ⟨S2048x1, .f32⟩
  | _ => ⟨S2048x1024, .f32⟩

abbrev hbmTy0_1 (i : Nat) : BufTy := match i % 128 with
  | 0 => ⟨S_, .f32⟩
  | 1 => ⟨S2048, .f32⟩
  | 2 => ⟨S2048x1024, .f32⟩
  | 3 => ⟨S2048x1024, .f32⟩
  | 4 => ⟨S2048x1024, .f32⟩
  | 5 => ⟨S_, .f32⟩
  | 6 => ⟨S2048, .f32⟩
  | 7 => ⟨S2048x1, .f32⟩
  | 8 => ⟨S2048x1024, .f32⟩
  | 9 => ⟨S2048x1, .f32⟩
  | 10 => ⟨S_, .f32⟩
  | 11 => ⟨S2048x1, .f32⟩
  | 12 => ⟨S2048x1, .f32⟩
  | 13 => ⟨S_, .f32⟩
  | 14 => ⟨S2048, .f32⟩
  | 15 => ⟨S2048x1024, .f32⟩
  | 16 => ⟨S2048x1024, .f32⟩
  | 17 => ⟨S2048x1024, .f32⟩
  | 18 => ⟨S2048x1024, .f32⟩
  | 19 => ⟨S2048x1024, .f32⟩
  | 20 => ⟨S2048x1024, .f32⟩
  | 21 => ⟨S_, .f32⟩
  | 22 => ⟨S2048x1024, .f32⟩
  | 23 => ⟨S2048x1024, .f32⟩
  | 24 => ⟨S2048x1024, .f32⟩
  | 25 => ⟨S_, .f32⟩
  | 26 => ⟨S1024, .f32⟩
  | 27 => ⟨S1x1024, .f32⟩
  | 28 => ⟨S2048x1024, .f32⟩
  | 29 => ⟨S_, .f32⟩
  | 30 => ⟨S1024, .f32⟩
  | 31 => ⟨S1x1024, .f32⟩
  | 32 => ⟨S2048x1024, .f32⟩
  | 33 => ⟨S2048x1024, .f32⟩
  | 34 => ⟨S2048x1024, .f32⟩
  | 35 => ⟨S_, .f32⟩
  | 36 => ⟨S2048, .f32⟩
  | 37 => ⟨S2048x1, .f32⟩
  | 38 => ⟨S2048x1024, .f32⟩
  | 39 => ⟨S2048x1024, .f32⟩
  | 40 => ⟨S2048x1, .f32⟩
  | 41 => ⟨S2048x1024, .f32⟩
  | 42 => ⟨S_, .f32⟩
  | 43 => ⟨S2048, .f32⟩
  | 44 => ⟨S2048x1, .f32⟩
  | 45 => ⟨S_, .f32⟩
  | 46 => ⟨S2048x1, .f32⟩
  | 47 => ⟨S2048x1, .f32⟩
  | 48 => ⟨S_, .f32⟩
  | 49 => ⟨S2048, .f32⟩
  | 50 => ⟨S2048x1024, .f32⟩
  | 51 => ⟨S2048x1024, .f32⟩
  | 52 => ⟨S2048x1024, .f32⟩
  | 53 => ⟨S_, .f32⟩
  | 54 => ⟨S2048, .f32⟩
  | 55 => ⟨S2048x1, .f32⟩
  | 56 => ⟨S2048x1024, .f32⟩
  | 57 => ⟨S2048x1, .f32⟩
  | 58 => ⟨S_, .f32⟩
  | 59 => ⟨S2048x1, .f32⟩
  | 60 => ⟨S2048x1, .f32⟩
  | 61 => ⟨S_, .f32⟩
  | 62 => ⟨S2048, .f32⟩
  | 63 => ⟨S2048x1024, .f32⟩
  | 64 => ⟨S2048x1024, .f32⟩
  | 65 => ⟨S2048x1024, .bf16⟩
  | 66 => ⟨S2048x1024, .bf16⟩
  | 67 => ⟨S2048x1024, .bf16⟩
  | 68 => ⟨S_, .f32⟩
  | 69 => ⟨S1024, .f32⟩
  | 70 => ⟨S1x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_cst_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_11 : Ref sig .tc := ⟨.hbm, 70, rfl⟩
abbrev main_v47 : Ref sig .tc := ⟨.hbm, 71, rfl⟩
abbrev main_v48 : Ref sig .tc := ⟨.hbm, 72, rfl⟩
abbrev main_cst_12 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_13 : Ref sig .tc := ⟨.hbm, 79, rfl⟩
abbrev main_v54 : Ref sig .tc := ⟨.hbm, 80, rfl⟩
abbrev main_v55 : Ref sig .tc := ⟨.hbm, 81, rfl⟩
abbrev main_cst_14 : Ref sig .tc := ⟨.hbm, 82, rfl⟩
abbrev main_v56 : Ref sig .tc := ⟨.hbm, 83, rfl⟩
abbrev main_v57 : Ref sig .tc := ⟨.hbm, 84, rfl⟩
abbrev main_cst_15 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_16 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_17 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_18 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_19 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_20 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_21 : Ref sig .tc := ⟨.hbm, 122, rfl⟩
abbrev main_v89 : Ref sig .tc := ⟨.hbm, 123, rfl⟩
abbrev main_v90 : Ref sig .tc := ⟨.hbm, 124, rfl⟩
abbrev main_cst_22 : Ref sig .tc := ⟨.hbm, 125, rfl⟩
abbrev main_v91 : Ref sig .tc := ⟨.hbm, 126, rfl⟩
abbrev main_v92 : Ref sig .tc := ⟨.hbm, 127, rfl⟩
abbrev main_cst_23 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_24 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_25 : Ref sig .tc := ⟨.hbm, 138, rfl⟩
abbrev main_v101 : Ref sig .tc := ⟨.hbm, 139, rfl⟩
abbrev main_v102 : Ref sig .tc := ⟨.hbm, 140, rfl⟩
abbrev main_cst_26 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_cst_27 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_28 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_cst_29 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_cst_30 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_cst_31 : Ref sig .tc := ⟨.hbm, 170, rfl⟩
abbrev main_v127 : Ref sig .tc := ⟨.hbm, 171, rfl⟩
abbrev main_v128 : Ref sig .tc := ⟨.hbm, 172, rfl⟩
abbrev main_cst_32 : Ref sig .tc := ⟨.hbm, 173, rfl⟩
abbrev main_v129 : Ref sig .tc := ⟨.hbm, 174, rfl⟩
abbrev main_v130 : Ref sig .tc := ⟨.hbm, 175, rfl⟩
abbrev main_cst_33 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_cst_34 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_cst_35 : Ref sig .tc := ⟨.hbm, 186, rfl⟩
abbrev main_v139 : Ref sig .tc := ⟨.hbm, 187, rfl⟩
abbrev main_v140 : Ref sig .tc := ⟨.hbm, 188, rfl⟩
abbrev main_cst_36 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_cst_37 : Ref sig .tc := ⟨.hbm, 196, rfl⟩
abbrev main_v147 : Ref sig .tc := ⟨.hbm, 197, rfl⟩
abbrev main_v148 : Ref sig .tc := ⟨.hbm, 198, rfl⟩

abbrev nD : Nat := 1
abbrev τ : Topo := Topo.v7x

variable {F : FTy → Type} [FloatOps F]
-- ==== Kernel6.lean ====
abbrev S2048x1024 : Shape := ⟨2, ![2048, 1024]⟩
abbrev S1024x1024 : Shape := ⟨2, ![1024, 1024]⟩
abbrev S1x1024 : Shape := ⟨2, ![1, 1024]⟩
abbrev S1x2048x1024 : Shape := ⟨3, ![1, 2048, 1024]⟩
abbrev S1x1024x1024 : Shape := ⟨3, ![1, 1024, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S2048x1024, .bf16⟩
  | .hbm, ⟨7, _⟩ => ⟨S1x2048x1024, .bf16⟩
  | .hbm, ⟨8, _⟩ => ⟨S1024x1024, .bf16⟩
  | .hbm, ⟨9, _⟩ => ⟨S1x1024x1024, .bf16⟩
  | .hbm, ⟨10, _⟩ => ⟨S2048x1024, .f32⟩
  | .hbm, ⟨11, _⟩ => ⟨S2048x1024, .f32⟩
  | .hbm, ⟨12, _⟩ => ⟨S2048x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 41
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel7.lean ====
abbrev S2048x1024 : Shape := ⟨2, ![2048, 1024]⟩
abbrev S2048x256 : Shape := ⟨2, ![2048, 256]⟩
abbrev S256x1024 : Shape := ⟨2, ![256, 1024]⟩
abbrev S1024x1024 : Shape := ⟨2, ![1024, 1024]⟩
abbrev S1x1024 : Shape := ⟨2, ![1, 1024]⟩
abbrev S256x8x128 : Shape := ⟨3, ![256, 8, 128]⟩
abbrev S8x256x128 : Shape := ⟨3, ![8, 256, 128]⟩
abbrev S1x128 : Shape := ⟨2, ![1, 128]⟩
abbrev S512x1024 : Shape := ⟨2, ![512, 1024]⟩
abbrev S512x256 : Shape := ⟨2, ![512, 256]⟩
abbrev S1x256x128 : Shape := ⟨3, ![1, 256, 128]⟩
abbrev S256x128 : Shape := ⟨2, ![256, 128]⟩
abbrev S512x128 : Shape := ⟨2, ![512, 128]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 19
  | .vmem => 22
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S256x1024, .f32⟩
  | .hbm, ⟨3, _⟩ => ⟨S1024x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S2048x1024, .f32⟩
  | .hbm, ⟨8, _⟩ => ⟨S256x8x128, .f32⟩
  | .hbm, ⟨9, _⟩ => ⟨S8x256x128, .f32⟩
  | .hbm, ⟨10, _⟩ => ⟨S8x256x128, .bf16⟩
  | .hbm, ⟨11, _⟩ => ⟨S2048x1024, .bf16⟩
  | .hbm, ⟨12, _⟩ => ⟨S2048x256, .bf16⟩
  | .hbm, ⟨13, _⟩ => ⟨S1024x1024, .bf16⟩
  | .hbm, ⟨14, _⟩ => ⟨S2048x1024, .bf16⟩
  | .hbm, ⟨15, _⟩ => ⟨S2048x1024, .bf16⟩
  | .hbm, ⟨16, _⟩ => ⟨S2048x1024, .f32⟩
  | .hbm, ⟨17, _⟩ => ⟨S2048x1024, .f32⟩
  | .hbm, ⟨18, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x256, .bf16⟩
  | .local _ .vmem, ⟨5, _⟩ => ⟨S512x256, .bf16⟩
  | .local _ .vmem, ⟨6, _⟩ => ⟨S1024x1024, .bf16⟩
  | .local _ .vmem, ⟨7, _⟩ => ⟨S1x1024, .f32⟩
  | .local _ .vmem, ⟨8, _⟩ => ⟨S8x256x128, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S1x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v88 : BitVec 1 := Scalar.cmpi .eq arg0 c0_i32
  let v89 : BitVec 32 := Scalar.extui v88
  let c0_i32_60 : BitVec 32 := 0#32
  let v90 : BitVec 1 := Scalar.cmpi .ne v89 c0_i32_60
  v90

def k0_cond2 (i : grid0.Coords) : BitVec 1 :=
  let arg0 : BitVec 32 := BitVec.ofNat 32 (i 0).val
  let c0_i32 : BitVec 32 := 0#32
  let v88 : BitVec 1 := Scalar.cmpi .eq arg0 c0_i32
  let v_true : BitVec 1 := 1#1
  let v91 : BitVec 1 := Scalar.xori v88 v_true
  let v92 : BitVec 32 := Scalar.extui v91
  let c0_i32_61 : BitVec 32 := 0#32
  let v93 : BitVec 1 := Scalar.cmpi .ne v92 c0_i32_61
  v93

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference7Ideal.lean ====
abbrev S2048x1024 : Shape := ⟨2, ![2048, 1024]⟩
abbrev S2048x256 : Shape := ⟨2, ![2048, 256]⟩
abbrev S256x1024 : Shape := ⟨2, ![256, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1x128 : Shape := ⟨2, ![1, 128]⟩

abbrev nBuf : Space → Nat
  | .hbm => 83
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S256x1024, .f32⟩
  | .hbm, ⟨3, _⟩ => ⟨S1024x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S2048x1, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S_, .f32⟩
  | .hbm, ⟨55, _⟩ => ⟨S2048x1024, .f32⟩
  | .hbm, ⟨56, _⟩ => ⟨S2048x1024, .f32⟩
  | .hbm, ⟨57, _⟩ => ⟨S_, .f32⟩
  | .hbm, ⟨58, _⟩ => ⟨S2048, .f32⟩
  | .hbm, ⟨59, _⟩ => ⟨S_, .f32⟩
  | .hbm, ⟨60, _⟩ => ⟨S2048, .f32⟩
  | .hbm, ⟨61, _⟩ => ⟨S2048, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S2048x1024, .bf16⟩
  | .hbm, ⟨67, _⟩ => ⟨S2048x1024, .f32⟩
  | .hbm, ⟨68, _⟩ => ⟨S_, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .bf16⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S2048, .f32⟩
  | .hbm, ⟨77, _⟩ => ⟨S_, .f32⟩
  | .hbm, ⟨78, _⟩ => ⟨S2048, .f32⟩
  | .hbm, ⟨79, _⟩ => ⟨S2048, .f32⟩
  | .hbm, ⟨80, _⟩ => ⟨S2048x1024, .f32⟩
  | .hbm, ⟨81, _⟩ => ⟨S2048x1024, .f32⟩
  | .hbm, ⟨82, _⟩ => ⟨S1x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_cst_11 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_12 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_13 : Ref sig .tc := ⟨.hbm, 73, rfl⟩
abbrev main_cst_14 : Ref sig .tc := ⟨.hbm, 74, rfl⟩
abbrev main_v51 : Ref sig .tc := ⟨.hbm, 75, rfl⟩
abbrev main_v52 : Ref sig .tc := ⟨.hbm, 76, rfl⟩
abbrev main_cst_15 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩

abbrev nD : Nat := 1
abbrev τ : Topo := Topo.v7x

variable {F : FTy → Type} [FloatOps F]
-- ==== Kernel8.lean ====
abbrev S2048x1024 : Shape := ⟨2, ![2048, 1024]⟩
abbrev S1024x5632 : Shape := ⟨2, ![1024, 5632]⟩
abbrev S5632x1024 : Shape := ⟨2, ![5632, 1024]⟩
abbrev S2x4x704x1024 : Shape := ⟨4, ![2, 4, 704, 1024]⟩
abbrev S2x4x2048x704 : Shape := ⟨4, ![2, 4, 2048, 704]⟩
abbrev S4x2048x704 : Shape := ⟨3, ![4, 2048, 704]⟩
abbrev S512x1024 : Shape := ⟨2, ![512, 1024]⟩
abbrev S2x1x704x1024 : Shape := ⟨4, ![2, 1, 704, 1024]⟩
abbrev S2x1x512x704 : Shape := ⟨4, ![2, 1, 512, 704]⟩
abbrev S1x512x704 : Shape := ⟨3, ![1, 512, 704]⟩
abbrev S1x1x704x1024 : Shape := ⟨4, ![1, 1, 704, 1024]⟩
abbrev S704x1024 : Shape := ⟨2, ![704, 1024]⟩
abbrev S512x704 : Shape := ⟨2, ![512, 704]⟩
abbrev S1x1x512x704 : Shape := ⟨4, ![1, 1, 512, 704]⟩

abbrev nBuf : Space → Nat
  | .hbm => 8
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x1024, .bf16⟩
  | .hbm, ⟨3, _⟩ => ⟨S5632x1024, .f32⟩
  | .hbm, ⟨4, _⟩ => ⟨S5632x1024, .bf16⟩
  | .hbm, ⟨5, _⟩ => ⟨S2x4x704x1024, .bf16⟩
  | .hbm, ⟨6, _⟩ => ⟨S2x4x2048x704, .bf16⟩
  | .hbm, ⟨7, _⟩ => ⟨S4x2048x704, .bf16⟩
  | .local _ .vmem, ⟨0, _⟩ => ⟨S512x1024, .bf16⟩
  | .local _ .vmem, ⟨1, _⟩ => ⟨S512x1024, .bf16⟩
  | .local _ .vmem, ⟨2, _⟩ => ⟨S2x1x704x1024, .bf16⟩
  | .local _ .vmem, ⟨3, _⟩ => ⟨S2x1x704x1024, .bf16⟩
  | .local _ .vmem, ⟨4, _⟩ => ⟨S2x1x512x704, .bf16⟩
  | .local _ .vmem, ⟨5, _⟩ => ⟨S2x1x512x704, .bf16⟩
  | .local _ .vmem, ⟨6, _⟩ => ⟨S1x512x704, .bf16⟩
  | .local _ .vmem, ⟨7, _⟩ => ⟨S1x512x704, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S2048x1024 : Shape := ⟨2, ![2048, 1024]⟩
abbrev S1024x5632 : Shape := ⟨2, ![1024, 5632]⟩
abbrev S2048x5632 : Shape := ⟨2, ![2048, 5632]⟩
abbrev S2048x2816 : Shape := ⟨2, ![2048, 2816]⟩
abbrev S_ : Shape := ⟨0, ![]⟩
abbrev S2048x2x4x704 : Shape := ⟨4, ![2048, 2, 4, 704]⟩
abbrev S2x4x2048x704 : Shape := ⟨4, ![2, 4, 2048, 704]⟩
abbrev S2048x4x704 : Shape := ⟨3, ![2048, 4, 704]⟩
abbrev S4x2048x704 : Shape := ⟨3, ![4, 2048, 704]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x5632, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S_, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x2816, .f32⟩
  | .hbm, ⟨11, _⟩ => ⟨S2048x2816, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S2048x2x4x704, .f32⟩
  | .hbm, ⟨16, _⟩ => ⟨S2x4x2048x704, .f32⟩
  | .hbm, ⟨17, _⟩ => ⟨S2x4x2048x704, .bf16⟩
  | .hbm, ⟨18, _⟩ => ⟨S2048x4x704, .f32⟩
  | .hbm, ⟨19, _⟩ => ⟨S4x2048x704, .f32⟩
  | .hbm, ⟨20, _⟩ => ⟨S4x2048x704, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== Kernel9.lean ====
abbrev S2048x1024 : Shape := ⟨2, ![2048, 1024]⟩
abbrev S2048x2816 : Shape := ⟨2, ![2048, 2816]⟩
abbrev S2816x1024 : Shape := ⟨2, ![2816, 1024]⟩
abbrev S1x1024 : Shape := ⟨2, ![1, 1024]⟩
abbrev S2048x4x704 : Shape := ⟨3, ![2048, 4, 704]⟩
abbrev S4x2048x704 : Shape := ⟨3, ![4, 2048, 704]⟩
abbrev S4x704x1024 : Shape := ⟨3, ![4, 704, 1024]⟩
abbrev S512x1024 : Shape := ⟨2, ![512, 1024]⟩
abbrev S4x512x704 : Shape := ⟨3, ![4, 512, 704]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩

abbrev nBuf : Space → Nat
  | .hbm => 13
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S2048x2816, .f32⟩
  | .hbm, ⟨2, _⟩ => ⟨S2816x1024, .f32⟩
  | .hbm, ⟨3, _⟩ => ⟨S1x1024, .f32⟩
  | .hbm, ⟨4, _⟩ => ⟨S1x1024, .f32⟩
  | .hbm, ⟨5, _⟩ => ⟨S2048x4x704, .f32⟩
  | .hbm, ⟨6, _⟩ => ⟨S4x2048x704, .f32⟩
  | .hbm, ⟨7, _⟩ => ⟨S4x2048x704, .bf16⟩
  | .hbm, ⟨8, _⟩ => ⟨S2816x1024, .bf16⟩
  | .hbm, ⟨9, _⟩ => ⟨S4x704x1024, .bf16⟩
  | .hbm, ⟨10, _⟩ => ⟨S2048x1024, .f32⟩
  | .hbm, ⟨11, _⟩ => ⟨S2048x1024, .f32⟩
  | .hbm, ⟨12, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S4x512x704, .bf16⟩
  | .local _ .vmem, ⟨3, _⟩ => ⟨S4x512x704, .bf16⟩
  | .local _ .vmem, ⟨4, _⟩ => ⟨S4x704x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S2048x1024 : Shape := ⟨2, ![2048, 1024]⟩
abbrev S2048x2816 : Shape := ⟨2, ![2048, 2816]⟩
abbrev S2816x1024 : Shape := ⟨2, ![2816, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 38
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2816, .f32⟩
  | .hbm, ⟨2, _⟩ => ⟨S2816x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Kernel11.lean ====
abbrev S2048x1024 : Shape := ⟨2, ![2048, 1024]⟩
abbrev S2048x5632 : Shape := ⟨2, ![2048, 5632]⟩
abbrev S1024x5632 : Shape := ⟨2, ![1024, 5632]⟩
abbrev S2048x2x4x704 : Shape := ⟨4, ![2048, 2, 4, 704]⟩
abbrev S2x4x2048x704 : Shape := ⟨4, ![2, 4, 2048, 704]⟩
abbrev S5632x1024 : Shape := ⟨2, ![5632, 1024]⟩
abbrev S2x4x704x1024 : Shape := ⟨4, ![2, 4, 704, 1024]⟩
abbrev S512x1024 : Shape := ⟨2, ![512, 1024]⟩
abbrev S2x4x512x704 : Shape := ⟨4, ![2, 4, 512, 704]⟩
abbrev S1x1x512x704 : Shape := ⟨4, ![1, 1, 512, 704]⟩
abbrev S512x704 : Shape := ⟨2, ![512, 704]⟩
abbrev S1x1x704x1024 : Shape := ⟨4, ![1, 1, 704, 1024]⟩
abbrev S704x1024 : Shape := ⟨2, ![704, 1024]⟩

abbrev nBuf : Space → Nat
  | .hbm => 10
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x5632, .f32⟩
  | .hbm, ⟨2, _⟩ => ⟨S1024x5632, .f32⟩
  | .hbm, ⟨3, _⟩ => ⟨S2048x2x4x704, .f32⟩
  | .hbm, ⟨4, _⟩ => ⟨S2x4x2048x704, .f32⟩
  | .hbm, ⟨5, _⟩ => ⟨S2x4x2048x704, .bf16⟩
  | .hbm, ⟨6, _⟩ => ⟨S5632x1024, .f32⟩
  | .hbm, ⟨7, _⟩ => ⟨S5632x1024, .bf16⟩
  | .hbm, ⟨8, _⟩ => ⟨S2x4x704x1024, .bf16⟩
  | .hbm, ⟨9, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S2x4x512x704, .bf16⟩
  | .local _ .vmem, ⟨3, _⟩ => ⟨S2x4x512x704, .bf16⟩
  | .local _ .vmem, ⟨4, _⟩ => ⟨S2x4x704x1024, .bf16⟩
  | .local _ .vmem, ⟨5, _⟩ => ⟨S512x1024, .f32⟩
  | .local _ .vmem, ⟨6, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference11Ideal.lean ====
abbrev S2048x1024 : Shape := ⟨2, ![2048, 1024]⟩
abbrev S2048x5632 : Shape := ⟨2, ![2048, 5632]⟩
abbrev S1024x5632 : Shape := ⟨2, ![1024, 5632]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x5632, .f32⟩
  | .hbm, ⟨2, _⟩ => ⟨S1024x5632, .f32⟩
  | .hbm, ⟨3, _⟩ => ⟨S_, .f32⟩
  | .hbm, ⟨4, _⟩ => ⟨S2048x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S2048x5632, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel12.lean ====
abbrev S2048x1024 : Shape := ⟨2, ![2048, 1024]⟩
abbrev S2048x4096 : Shape := ⟨2, ![2048, 4096]⟩
abbrev S1024x4096 : Shape := ⟨2, ![1024, 4096]⟩
abbrev S2048x4x1024 : Shape := ⟨3, ![2048, 4, 1024]⟩
abbrev S4x2048x1024 : Shape := ⟨3, ![4, 2048, 1024]⟩
abbrev S1024x8x512 : Shape := ⟨3, ![1024, 8, 512]⟩
abbrev S8x1024x512 : Shape := ⟨3, ![8, 1024, 512]⟩
abbrev S512x1024 : Shape := ⟨2, ![512, 1024]⟩
abbrev S4x512x1024 : Shape := ⟨3, ![4, 512, 1024]⟩
abbrev S1x512x512 : Shape := ⟨3, ![1, 512, 512]⟩
abbrev S512x512 : Shape := ⟨2, ![512, 512]⟩
abbrev S1x1024x512 : Shape := ⟨3, ![1, 1024, 512]⟩
abbrev S1024x512 : Shape := ⟨2, ![1024, 512]⟩

abbrev nBuf : Space → Nat
  | .hbm => 10
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S1024x4096, .f32⟩
  | .hbm, ⟨3, _⟩ => ⟨S2048x4x1024, .f32⟩
  | .hbm, ⟨4, _⟩ => ⟨S4x2048x1024, .f32⟩
  | .hbm, ⟨5, _⟩ => ⟨S4x2048x1024, .bf16⟩
  | .hbm, ⟨6, _⟩ => ⟨S1024x8x512, .f32⟩
  | .hbm, ⟨7, _⟩ => ⟨S8x1024x512, .f32⟩
  | .hbm, ⟨8, _⟩ => ⟨S8x1024x512, .bf16⟩
  | .hbm, ⟨9, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S4x512x1024, .bf16⟩
  | .local _ .vmem, ⟨3, _⟩ => ⟨S4x512x1024, .bf16⟩
  | .local _ .vmem, ⟨4, _⟩ => ⟨S8x1024x512, .bf16⟩
  | .local _ .vmem, ⟨5, _⟩ => ⟨S512x1024, .f32⟩
  | .local _ .vmem, ⟨6, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S2048x1024 : Shape := ⟨2, ![2048, 1024]⟩
abbrev S2048x4096 : Shape := ⟨2, ![2048, 4096]⟩
abbrev S1024x4096 : Shape := ⟨2, ![1024, 4096]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S1024x4096, .f32⟩
  | .hbm, ⟨3, _⟩ => ⟨S_, .f32⟩
  | .hbm, ⟨4, _⟩ => ⟨S2048x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S2048x4096, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel13.lean ====
abbrev S2048x1024 : Shape := ⟨2, ![2048, 1024]⟩
abbrev S2048x5632 : Shape := ⟨2, ![2048, 5632]⟩
abbrev S2048x8x704 : Shape := ⟨3, ![2048, 8, 704]⟩
abbrev S8x2048x704 : Shape := ⟨3, ![8, 2048, 704]⟩
abbrev S1x2048x1024 : Shape := ⟨3, ![1, 2048, 1024]⟩
abbrev S8x704x1024 : Shape := ⟨3, ![8, 704, 1024]⟩
abbrev S1x2048x704 : Shape := ⟨3, ![1, 2048, 704]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 8
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x5632, .f32⟩
  | .hbm, ⟨2, _⟩ => ⟨S2048x8x704, .f32⟩
  | .hbm, ⟨3, _⟩ => ⟨S8x2048x704, .f32⟩
  | .hbm, ⟨4, _⟩ => ⟨S8x2048x704, .bf16⟩
  | .hbm, ⟨5, _⟩ => ⟨S2048x1024, .bf16⟩
  | .hbm, ⟨6, _⟩ => ⟨S1x2048x1024, .bf16⟩
  | .hbm, ⟨7, _⟩ => ⟨S8x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S1x2048x1024, .bf16⟩
  | .local _ .vmem, ⟨3, _⟩ => ⟨S1x704x1024, .bf16⟩
  | .local _ .vmem, ⟨4, _⟩ => ⟨S1x704x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference13Ideal.lean ====
abbrev S2048x1024 : Shape := ⟨2, ![2048, 1024]⟩
abbrev S2048x5632 : Shape := ⟨2, ![2048, 5632]⟩
abbrev S_ : Shape := ⟨0, ![]⟩
abbrev S1024x5632 : Shape := ⟨2, ![1024, 5632]⟩
abbrev S5632x1024 : Shape := ⟨2, ![5632, 1024]⟩
abbrev S8x704x1024 : Shape := ⟨3, ![8, 704, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x5632, .f32⟩
  | .hbm, ⟨2, _⟩ => ⟨S_, .f32⟩
  | .hbm, ⟨3, _⟩ => ⟨S1024x5632, .f32⟩
  | .hbm, ⟨4, _⟩ => ⟨S2048x5632, .f32⟩
  | .hbm, ⟨5, _⟩ => ⟨S5632x1024, .f32⟩
  | .hbm, ⟨6, _⟩ => ⟨S1024x5632, .f32⟩
  | .hbm, ⟨7, _⟩ => ⟨S5632x1024, .f32⟩
  | .hbm, ⟨8, _⟩ => ⟨S8x704x1024, .f32⟩
  | .hbm, ⟨9, _⟩ => ⟨S8x704x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S1x1024x512 : Shape := ⟨3, ![1, 1024, 512]⟩
abbrev S8x1024x512 : Shape := ⟨3, ![8, 1024, 512]⟩
abbrev S1x256x512 : Shape := ⟨3, ![1, 256, 512]⟩
abbrev S8x256x512 : Shape := ⟨3, ![8, 256, 512]⟩
abbrev S256x512 : Shape := ⟨2, ![256, 512]⟩

abbrev nBuf : Space → Nat
  | .hbm => 9
  | .vmem => 16
  | .smem => 0
  | _ => 0

abbrev bufTy : (tb : Table) → Fin (tcTables nBuf tb) → BufTy
  | .hbm, ⟨0, _⟩ => ⟨S1x1024x512, .f32⟩
  | .hbm, ⟨1, _⟩ => ⟨S8x1024x512, .f32⟩
  | .hbm, ⟨2, _⟩ => ⟨S1x1024x512, .f32⟩
  | .hbm, ⟨3, _⟩ => ⟨S1x1024x512, .f32⟩
  | .hbm, ⟨4, _⟩ => ⟨S8x1024x512, .bf16⟩
  | .hbm, ⟨5, _⟩ => ⟨S1x1024x512, .f32⟩
  | .hbm, ⟨6, _⟩ => ⟨S1x1024x512, .f32⟩
  | .hbm, ⟨7, _⟩ => ⟨S1x1024x512, .f32⟩
  | .hbm, ⟨8, _⟩ => ⟨S1x1024x512, .f32⟩
  | .local _ .vmem, ⟨0, _⟩ => ⟨S1x256x512, .f32⟩
  | .local _ .vmem, ⟨1, _⟩ => ⟨S1x256x512, .f32⟩
  | .local _ .vmem, ⟨2, _⟩ => ⟨S8x256x512, .bf16⟩
  | .local _ .vmem, ⟨3, _⟩ => ⟨S8x256x512, .bf16⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference14Ideal.lean ====
abbrev S1x1024x512 : Shape := ⟨3, ![1, 1024, 512]⟩
abbrev S8x1024x512 : Shape := ⟨3, ![8, 1024, 512]⟩
abbrev S_ : Shape := ⟨0, ![]⟩
abbrev S1024x512 : Shape := ⟨2, ![1024, 512]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x512, .f32⟩
  | .hbm, ⟨1, _⟩ => ⟨S8x1024x512, .f32⟩
  | .hbm, ⟨2, _⟩ => ⟨S1x1024x512, .f32⟩
  | .hbm, ⟨3, _⟩ => ⟨S1x1024x512, .f32⟩
  | .hbm, ⟨4, _⟩ => ⟨S_, .f32⟩
  | .hbm, ⟨5, _⟩ => ⟨S1024x512, .f32⟩
  | .hbm, ⟨6, _⟩ => ⟨S1x1024x512, .f32⟩
  | .hbm, ⟨7, _⟩ => ⟨S_, .f32⟩
  | .hbm, ⟨8, _⟩ => ⟨S1x1024x512, .f32⟩
  | .hbm, ⟨9, _⟩ => ⟨S1x1024x512, .f32⟩
  | .hbm, ⟨10, _⟩ => ⟨S_, .f32⟩
  | .hbm, ⟨11, _⟩ => ⟨S1x1024x512, .f32⟩
  | .hbm, ⟨12, _⟩ => ⟨S1x1024x512, .f32⟩
  | .hbm, ⟨13, _⟩ => ⟨S1x1024x512, .f32⟩
  | .hbm, ⟨14, _⟩ => ⟨S_, .f32⟩
  | .hbm, ⟨15, _⟩ => ⟨S1x1024x512, .f32⟩
  | .hbm, ⟨16, _⟩ => ⟨S1x1024x512, .f32⟩
  | .hbm, ⟨17, _⟩ => ⟨S1x1024x512, .f32⟩
  | .hbm, ⟨18, _⟩ => ⟨S_, .f32⟩
  | .hbm, ⟨19, _⟩ => ⟨S1x1024x512, .f32⟩
  | .hbm, ⟨20, _⟩ => ⟨S1x1024x512, .f32⟩
  | .hbm, ⟨21, _⟩ => ⟨S1x1024x512, .f32⟩
  | .hbm, ⟨22, _⟩ => ⟨S_, .f32⟩
  | .hbm, ⟨23, _⟩ => ⟨S1x1024x512, .f32⟩
  | .hbm, ⟨24, _⟩ => ⟨S1x1024x512, .f32⟩
  | .hbm, ⟨25, _⟩ => ⟨S_, .f32⟩
  | .hbm, ⟨26, _⟩ => ⟨S1x1024x512, .f32⟩
  | .hbm, ⟨27, _⟩ => ⟨S1x1024x512, .f32⟩
  | .hbm, ⟨28, _⟩ => ⟨S1x1024x512, .f32⟩
  | .hbm, ⟨29, _⟩ => ⟨S_, .f32⟩
  | .hbm, ⟨30, _⟩ => ⟨S1x1024x512, .f32⟩
  | .hbm, ⟨31, _⟩ => ⟨S1x1024x512, .f32⟩
  | .hbm, ⟨32, _⟩ => ⟨S1x1024x512, .f32⟩
  | .hbm, ⟨33, _⟩ => ⟨S_, .f32⟩
  | .hbm, ⟨34, _⟩ => ⟨S1x1024x512, .f32⟩
  | .hbm, ⟨35, _⟩ => ⟨S1x1024x512, .f32⟩
  | .hbm, ⟨36, _⟩ => ⟨S1x1024x512, .f32⟩
  | .hbm, ⟨37, _⟩ => ⟨S_, .f32⟩
  | .hbm, ⟨38, _⟩ => ⟨S1x1024x512, .f32⟩
  | .hbm, ⟨39, _⟩ => ⟨S1x1024x512, .f32⟩
  | _, _ => ⟨S1x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel15.lean ====
abbrev S2048x1024 : Shape := ⟨2, ![2048, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S4x2048x1024 : Shape := ⟨3, ![4, 2048, 1024]⟩
abbrev S256x1024 : Shape := ⟨2, ![256, 1024]⟩
abbrev S4x256x1024 : Shape := ⟨3, ![4, 256, 1024]⟩
abbrev S1x1024x512 : Shape := ⟨3, ![1, 1024, 512]⟩
abbrev S1024x512 : Shape := ⟨2, ![1024, 512]⟩
abbrev S256x512 : Shape := ⟨2, ![256, 512]⟩
abbrev S1x256x512 : Shape := ⟨3, ![1, 256, 512]⟩

abbrev nBuf : Space → Nat
  | .hbm => 7
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x1024, .bf16⟩
  | .hbm, ⟨3, _⟩ => ⟨S1024x8x512, .f32⟩
  | .hbm, ⟨4, _⟩ => ⟨S8x1024x512, .f32⟩
  | .hbm, ⟨5, _⟩ => ⟨S8x1024x512, .bf16⟩
  | .hbm, ⟨6, _⟩ => ⟨S4x2048x1024, .f32⟩
  | .local _ .vmem, ⟨0, _⟩ => ⟨S256x1024, .bf16⟩
  | .local _ .vmem, ⟨1, _⟩ => ⟨S256x1024, .bf16⟩
  | .local _ .vmem, ⟨2, _⟩ => ⟨S8x1024x512, .bf16⟩
  | .local _ .vmem, ⟨3, _⟩ => ⟨S4x256x1024, .f32⟩
  | .local _ .vmem, ⟨4, _⟩ => ⟨S4x256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference15Ideal.lean ====
abbrev S2048x1024 : Shape := ⟨2, ![2048, 1024]⟩
abbrev S1024x4096 : Shape := ⟨2, ![1024, 4096]⟩
abbrev S2048x4096 : Shape := ⟨2, ![2048, 4096]⟩
abbrev S2048x4x1024 : Shape := ⟨3, ![2048, 4, 1024]⟩
abbrev S4x2048x1024 : Shape := ⟨3, ![4, 2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x4096, .f32⟩
  | .hbm, ⟨3, _⟩ => ⟨S2048x4x1024, .f32⟩
  | .hbm, ⟨4, _⟩ => ⟨S4x2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S16x2048x64 : Shape := ⟨3, ![16, 2048, 64]⟩
abbrev S512x1024 : Shape := ⟨2, ![512, 1024]⟩
abbrev S16x512x64 : Shape := ⟨3, ![16, 512, 64]⟩
abbrev S128x64 : Shape := ⟨2, ![128, 64]⟩
abbrev S512x128 : Shape := ⟨2, ![512, 128]⟩
abbrev S512x64 : Shape := ⟨2, ![512, 64]⟩
abbrev S1x512x64 : Shape := ⟨3, ![1, 512, 64]⟩

abbrev nBuf : Space → Nat
  | .hbm => 7
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1024, .f32⟩
  | .hbm, ⟨3, _⟩ => ⟨S2048x1024, .bf16⟩
  | .hbm, ⟨4, _⟩ => ⟨S1024x1024, .bf16⟩
  | .hbm, ⟨5, _⟩ => ⟨S1x1024, .f32⟩
  | .hbm, ⟨6, _⟩ => ⟨S16x2048x64, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S16x512x64, .bf16⟩
  | .local _ .vmem, ⟨5, _⟩ => ⟨S16x512x64, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference16Ideal.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S2048x16x64 : Shape := ⟨3, ![2048, 16, 64]⟩
abbrev S16x2048x64 : Shape := ⟨3, ![16, 2048, 64]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S2048x16x64, .f32⟩
  | .hbm, ⟨8, _⟩ => ⟨S16x2048x64, .f32⟩
  | .hbm, ⟨9, _⟩ => ⟨S16x2048x64, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Reals.lean ====
/- Hand-written: FINITE EXTENDED REALS. `Fin x` says that the extended real `x` is a real number; the operations of the
   programs keep it, and an equation between finite extended reals is an equation between reals (obtain the reals,
   push the coercions outward, `ring`). `finite_of_abs_lt` reads the stated precondition `|x| < ∞` at one element. -/
module

public import Idealize.ShloMosaic.PureOps.Ideal.Laws
public import Idealize.ShloMosaic.PureOps.Vector

@[expose] public section

namespace Cert.Reals

open Idealize.ShloMosaic

/-- The extended real is a real number. -/
def IsR (x : EReal) : Prop := ∃ r : ℝ, x = (r : EReal)

theorem IsR.coe (r : ℝ) : IsR (r : EReal) := ⟨r, rfl⟩
theorem IsR.zero : IsR 0 := ⟨0, rfl⟩
theorem IsR.one : IsR 1 := ⟨1, rfl⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.neg {x : EReal} (hx : IsR x) : IsR (-x) := by
  obtain ⟨a, rfl⟩ := hx; exact ⟨-a, (EReal.coe_neg a).symm⟩

theorem IsR.exp {x : EReal} (hx : IsR x) : IsR (Ideal.exp x) := by
  obtain ⟨a, rfl⟩ := hx; exact ⟨_, rfl⟩

theorem IsR.logistic {x : EReal} (hx : IsR x) : IsR (Ideal.logistic x) := by
  obtain ⟨a, rfl⟩ := hx; exact ⟨_, Ideal.logistic_coe a⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsR.sum {ι : Type*} {s : Finset ι} {f : ι → EReal} (h : ∀ i ∈ s, IsR (f i)) : IsR (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem ofBits_one : Ideal.ofBits .f32 0x3F800000#32 = 1 := by
  simp [Ideal.ofBits, Ideal.ieee, -EReal.coe_mul]; norm_num

theorem ofBits_inf : Ideal.ofBits .f32 0x7F800000#32 = ⊤ := by simp [Ideal.ofBits, Ideal.ieee]

/-- An extended real whose absolute value is below `+∞` is a real number. -/
theorem isR_of_abs_lt {x : EReal} (h : max x (-x) < ⊤) : IsR x := by
  induction x using EReal.rec with
  | bot => simp at h
  | coe r => exact ⟨r, rfl⟩
  | top => simp at h

/-- The precondition's bit at one element: the comparison `|x| < ∞` came out 1, so the element is a real number. -/
theorem isR_of_cmp {x : EReal} (h : Ideal.cmp .olt (max x (-x)) (Ideal.ofBits .f32 0x7F800000#32) = 1#1) : IsR x := by
  rw [ofBits_inf] at h
  refine isR_of_abs_lt (lt_of_not_ge fun hn => ?_)
  have hf : Ideal.cmp .olt (max x (-x)) ⊤ = 0#1 := by
    simp [Ideal.cmp, not_lt.mpr hn]
  rw [hf] at h; exact absurd h (by decide)

end Cert.Reals
-- ==== Proof.FfnSpec.lean ====
/- Hand-written: THE HIDDEN GRADIENT OF THE SwiGLU, as scalars. `pre` is a pre-activation (a row of the layer's input times
   a column of the gate/up weight), `hid` the gradient of the hidden activation. `gradGate` and `gradUp` are the gradients
   as the kernel computes them; `gate_eq` and `up_eq` say that over finite extended reals they are the derivative of
   `g · σ(g) · u` as the chain rule writes it. -/
module

public import proofs.«01_k».proof.Proof.Reals

@[expose] public section

noncomputable section

namespace Cert.Ffn

open Idealize.ShloMosaic Cert.Reals

/-- The gate's gradient from the hidden gradient `c`, the gate `g` and the up value `u`, as the kernel computes it. -/
def gradGate (c g u : EReal) : EReal := c * u * (Ideal.logistic g * (1 + g * (1 - Ideal.logistic g)))

/-- The up value's gradient. -/
def gradUp (c g : EReal) : EReal := c * (g * Ideal.logistic g)

/-- Column of the gate/up projection: half `a`, group `j`, place `h`. -/
def col (a : Fin 2) (j : Fin 4) (h : Fin 704) : Fin 5632 := ⟨a.val * 2816 + j.val * 704 + h.val, by omega⟩
/-- Hidden unit: group `j`, place `h`. -/
def unit (j : Fin 4) (h : Fin 704) : Fin 2816 := ⟨j.val * 704 + h.val, by omega⟩

/-- The pre-activation at row `s`, column `p`. -/
def pre (x : Fin 2048 → Fin 1024 → EReal) (w : Fin 1024 → Fin 5632 → EReal) (s : Fin 2048) (p : Fin 5632) : EReal := ∑ k, x s k * w k p
/-- The hidden activation's gradient at row `s`, unit `p`. -/
def hid (dz : Fin 2048 → Fin 1024 → EReal) (wd : Fin 2816 → Fin 1024 → EReal) (s : Fin 2048) (p : Fin 2816) : EReal := ∑ k, dz s k * wd p k

theorem pre_isR {x w} (hx : ∀ s k, IsR (x s k)) (hw : ∀ k p, IsR (w k p)) (s p) : IsR (pre x w s p) :=
  IsR.sum fun k _ => (hx s k).mul (hw k p)
theorem hid_isR {dz wd} (hz : ∀ s k, IsR (dz s k)) (hw : ∀ p k, IsR (wd p k)) (s p) : IsR (hid dz wd s p) :=
  IsR.sum fun k _ => (hz s k).mul (hw p k)

theorem gate_eq {c g u : EReal} (hc : IsR c) (hg : IsR g) (hu : IsR u) :
    gradGate c g u = c * u * Ideal.logistic g + g * (c * u) * (Ideal.logistic g * (1 - Ideal.logistic g)) := by
  obtain ⟨σ, hσ⟩ := hg.logistic
  unfold gradGate
  rw [hσ]
  obtain ⟨c, rfl⟩ := hc; obtain ⟨g, rfl⟩ := hg; obtain ⟨u, rfl⟩ := hu
  norm_cast
  ring

theorem up_eq (c g : EReal) : gradUp c g = g * Ideal.logistic g * c := mul_comm _ _

end Cert.Ffn

end
-- ==== Proof.FfnKernel.lean ====
/- Hand-written: WHAT THE KERNEL OF THE FFN'S HIDDEN GRADIENT LEAVES, element by element, from the arguments of @main.
   `hid` is the gradient of the hidden activations, `pre` the pre-activation at a column of the gate/up projection. Grid
   point (j, i) writes the block of hidden group j and rows 512·i …: its gate half (`gradGate`) and its up half (`gradUp`). -/
module

public import proofs.«01_k».proof.Proof.Gen.KernelIdeal.Value
public import proofs.«01_k».proof.Proof.FfnSpec
public import Idealize.ShloMosaic.Lib.Pointwise

@[expose] public section

set_option maxRecDepth 16384

noncomputable section

namespace Cert.KernelIdeal.Hand

open Cert.KernelIdeal Cert.KernelIdeal.Gen Cert.Ffn
open Idealize.ShloMosaic Idealize.ShloMosaic.TcCoe Idealize.SL.Sem
open Idealize.ShloMosaic.Pointwise

theorem pay1_apply (a : Vec Ideal S512x1024 .bf16) (b : Vec Ideal S1x704x1024 .bf16) (r : Fin 512) (h : Fin 704) :
    k0_pay1 (F := Ideal) a b (ix2 r h) = ∑ k : Fin 1024, a (ix2 r k) * b (ix3 (0 : Fin 1) h k) := by
  pointwise [k0_pay1]

theorem pay4_apply (a : Vec Ideal S512x1024 .bf16) (b : Vec Ideal S1x704x1024 .bf16) (g u : Vec Ideal S1x1x512x704 .bf16) (r : Fin 512) (h : Fin 704) :
    k0_pay4 (F := Ideal) a b g u (ix4 (0 : Fin 1) (0 : Fin 1) r h)
      = gradGate (∑ k : Fin 1024, a (ix2 r k) * b (ix3 (0 : Fin 1) h k)) (g (ix4 0 0 r h)) (u (ix4 0 0 r h)) := by
  pointwise [k0_pay4, k0_pay3, k0_pay2]
  rw [pay1_apply]; rfl

theorem pay5_apply (a : Vec Ideal S512x1024 .bf16) (b : Vec Ideal S1x704x1024 .bf16) (g : Vec Ideal S1x1x512x704 .bf16) (r : Fin 512) (h : Fin 704) :
    k0_pay5 (F := Ideal) a b g (ix4 (0 : Fin 1) (0 : Fin 1) r h)
      = gradUp (∑ k : Fin 1024, a (ix2 r k) * b (ix3 (0 : Fin 1) h k)) (g (ix4 0 0 r h)) := by
  pointwise [k0_pay5, k0_pay3, k0_pay2]
  rw [pay1_apply]; rfl

theorem hz2 : (![0, 0] : Fin 2 → Nat) = fun _ => 0 := funext fun a => by fin_cases a <;> rfl
theorem hz3 : (![0, 0, 0] : Fin 3 → Nat) = fun _ => 0 := funext fun a => by fin_cases a <;> rfl

theorem emb_half (a : Fin 2) (inb) (r : Fin 512) (h : Fin 704) :
    (Rect.unit (s := S2x1x512x704) ![a.val, 0, 0, 0] S1x1x512x704.size inb).emb (ix4 (0 : Fin 1) (0 : Fin 1) r h) = ix4 a (0 : Fin 1) r h := by
  funext b; apply Fin.ext
  match b with
  | ⟨0, _⟩ => show a.val + 1 * 0 = a.val; omega
  | ⟨1, _⟩ => rfl
  | ⟨2, _⟩ => show 0 + 1 * r.val = r.val; omega
  | ⟨3, _⟩ => show 0 + 1 * h.val = h.val; omega

/-- What the body leaves in the result's block: the gate's gradient in its half 0, the up value's in its half 1. -/
theorem out_gate (x0 : Vec Ideal S512x1024 .bf16) (x1 : Vec Ideal S2x1x512x704 .bf16) (x2 : Vec Ideal S1x704x1024 .bf16) (r : Fin 512) (h : Fin 704) :
    out0_3 x0 x1 x2 (ix4 (0 : Fin 2) (0 : Fin 1) r h)
      = gradGate (∑ k : Fin 1024, x0 (ix2 r k) * x2 (ix3 (0 : Fin 1) h k)) (x1 (ix4 (0 : Fin 2) 0 r h)) (x1 (ix4 (1 : Fin 2) 0 r h)) := by
  unfold out0_3
  rw [View.canon_cons_of_not_mem]
  · rw [← emb_half 0 inb_S2x1x512x704_S1x1x512x704_0_0_0_0 r h]
    refine (View.canon_cons_emb r0_2 _ [] _).trans ?_
    rw [pay4_apply, View.ld_unit_zero (S := S512x1024) hz2, View.ld_unit_zero (S := S1x704x1024) hz3]
    show gradGate _ (x1 (r0_2.emb _)) (x1 (r0_3.emb _)) = gradGate _ (x1 _) (x1 _)
    congr 2
    exact emb_half 1 inb_S2x1x512x704_S1x1x512x704_1_0_0_0 r h
  · rw [Rect.mem_set_unit]
    intro H
    exact absurd (H ⟨0, by decide⟩).1 (by show ¬(1 ≤ 0); omega)

theorem out_up (x0 : Vec Ideal S512x1024 .bf16) (x1 : Vec Ideal S2x1x512x704 .bf16) (x2 : Vec Ideal S1x704x1024 .bf16) (r : Fin 512) (h : Fin 704) :
    out0_3 x0 x1 x2 (ix4 (1 : Fin 2) (0 : Fin 1) r h)
      = gradUp (∑ k : Fin 1024, x0 (ix2 r k) * x2 (ix3 (0 : Fin 1) h k)) (x1 (ix4 (0 : Fin 2) 0 r h)) := by
  unfold out0_3
  rw [← emb_half 1 inb_S2x1x512x704_S1x1x512x704_1_0_0_0 r h]
  refine (View.canon_cons_emb r0_3 _ _ _).trans ?_
  rw [pay5_apply, View.ld_unit_zero (S := S512x1024) hz2, View.ld_unit_zero (S := S1x704x1024) hz3]
  show gradUp _ (x1 (r0_2.emb _)) = gradUp _ (x1 _)
  congr 2
  exact emb_half 0 inb_S2x1x512x704_S1x1x512x704_0_0_0_0 r h

variable (m : (ℓ : Loc nD τ sig) → Buf (Elt Ideal) ℓ)

/-! ## The three operands at region entry -/

abbrev argX (c : Dev nD) : FVec Ideal S2048x1024 .f32 := m (c.tc.loc main_arg0)
abbrev argW (c : Dev nD) : FVec Ideal S1024x5632 .f32 := m (c.tc.loc main_arg1)
abbrev argWd (c : Dev nD) : FVec Ideal S2816x1024 .f32 := m (c.tc.loc main_arg2)
abbrev argDz (c : Dev nD) : FVec Ideal S2048x1024 .f32 := m (c.tc.loc main_arg3)

/-- The pre-activation at row `s`, column `p`. -/
abbrev preK (c : Dev nD) : Fin 2048 → Fin 5632 → EReal := pre (fun s k => argX m c (ix2 s k)) (fun k p => argW m c (ix2 k p))
/-- The hidden activation's gradient at row `s`, unit `p`. -/
abbrev hidK (c : Dev nD) : Fin 2048 → Fin 2816 → EReal := hid (fun s k => argDz m c (ix2 s k)) (fun p k => argWd m c (ix2 p k))

theorem gu_apply (c : Dev nD) (a : Fin 2) (j : Fin 4) (s : Fin 2048) (h : Fin 704) :
    (V m c main_v5 : FVec Ideal S2x4x2048x704 .bf16) (ix4 a j s h) = preK m c s (col a j h) := by
  have e : (V m c main_v5 : FVec Ideal S2x4x2048x704 .bf16) = transpose S2x4x2048x704 [1, 2, 0, 3] (shapeCast S2048x2x4x704 (truncf .bf16 (Host.dotGeneral dot_S2048x1024_S1024x5632_S2048x5632_1_0_0_1_n_n none (truncf .bf16 (argX m c) bitsLt_bf16_f32) (truncf .bf16 (argW m c) bitsLt_bf16_f32)) bitsLt_bf16_f32) shapeCasts_S2048x5632_S2048x2x4x704) transposes_S2048x2x4x704_S2x4x2048x704_1_2_0_3 := by
    unfold V
    after_results
    rfl
  rw [e]
  unfold preK pre
  generalize argX m c = x
  generalize argW m c = w
  pointwise
  rfl

theorem dz_apply (c : Dev nD) (s : Fin 2048) (k : Fin 1024) :
    (V m c main_v6 : FVec Ideal S2048x1024 .bf16) (ix2 s k) = argDz m c (ix2 s k) := by
  have e : (V m c main_v6 : FVec Ideal S2048x1024 .bf16) = truncf .bf16 (argDz m c) bitsLt_bf16_f32 := by
    unfold V
    after_results
  rw [e]; rfl

theorem wd_apply (c : Dev nD) (j : Fin 4) (h : Fin 704) (k : Fin 1024) :
    (V m c main_v8 : FVec Ideal S4x704x1024 .bf16) (ix3 j h k) = argWd m c (ix2 (unit j h) k) := by
  have e : (V m c main_v8 : FVec Ideal S4x704x1024 .bf16) = shapeCast S4x704x1024 (truncf .bf16 (argWd m c) bitsLt_bf16_f32) shapeCasts_S2816x1024_S4x704x1024 := by
    unfold V
    after_results
    rfl
  rw [e]
  generalize argWd m c = w
  pointwise
  rfl

/-! ## Blocks and points -/

/-- The grid's point (hidden group `j`, row block `i`). -/
def pt (j : Fin 4) (i : Fin 4) : Fin cfg0.N := ⟨j.val * 4 + i.val, by rw [show cfg0.N = 16 from N_0]; omega⟩

theorem idx_facts : ∀ j i : Fin 4, (win0_0.index (pt j i) 0 = i.val ∧ win0_0.index (pt j i) 1 = 0)
    ∧ (win0_1.index (pt j i) 0 = 0 ∧ win0_1.index (pt j i) 1 = j.val ∧ win0_1.index (pt j i) 2 = i.val ∧ win0_1.index (pt j i) 3 = 0)
    ∧ (win0_2.index (pt j i) 0 = j.val ∧ win0_2.index (pt j i) 1 = 0 ∧ win0_2.index (pt j i) 2 = 0)
    ∧ (win0_3.index (pt j i) 0 = 0 ∧ win0_3.index (pt j i) 1 = j.val ∧ win0_3.index (pt j i) 2 = i.val ∧ win0_3.index (pt j i) 3 = 0) := by
  decide +kernel

/-- Row `r` of row block `i`. -/
def row (i : Fin 4) (r : Fin 512) : Fin 2048 := ⟨i.val * 512 + r.val, by omega⟩

theorem iblk0_apply (c : Dev nD) (j i : Fin 4) (r : Fin 512) (k : Fin 1024) :
    (iblk m c 0 (pt j i) : Vec Ideal S512x1024 .bf16) (ix2 r k) = argDz m c (ix2 (row i r) k) := by
  obtain ⟨⟨e0, e1⟩, -⟩ := idx_facts j i
  rw [← dz_apply]
  unfold iblk
  rw [View.read_apply]
  show V m c main_v6 _ = V m c main_v6 _
  congr 1
  funext a; apply Fin.ext
  match a with
  | ⟨0, _⟩ => show win0_0.index (pt j i) 0 * 512 + 1 * r.val = i.val * 512 + r.val; rw [e0]; omega
  | ⟨1, _⟩ => show win0_0.index (pt j i) 1 * 1024 + 1 * k.val = k.val; rw [e1]; omega

theorem iblk1_apply (c : Dev nD) (j i : Fin 4) (a : Fin 2) (r : Fin 512) (h : Fin 704) :
    (iblk m c 1 (pt j i) : Vec Ideal S2x1x512x704 .bf16) (ix4 a (0 : Fin 1) r h) = preK m c (row i r) (col a j h) := by
  obtain ⟨-, ⟨e0, e1, e2, e3⟩, -⟩ := idx_facts j i
  rw [← gu_apply]
  unfold iblk
  rw [View.read_apply]
  show V m c main_v5 _ = V m c main_v5 _
  congr 1
  funext b; apply Fin.ext
  match b with
  | ⟨0, _⟩ => show win0_1.index (pt j i) 0 * 2 + 1 * a.val = a.val; rw [e0]; omega
  | ⟨1, _⟩ => show win0_1.index (pt j i) 1 * 1 + 1 * 0 = j.val; rw [e1]; omega
  | ⟨2, _⟩ => show win0_1.index (pt j i) 2 * 512 + 1 * r.val = i.val * 512 + r.val; rw [e2]; omega
  | ⟨3, _⟩ => show win0_1.index (pt j i) 3 * 704 + 1 * h.val = h.val; rw [e3]; omega

theorem iblk2_apply (c : Dev nD) (j i : Fin 4) (h : Fin 704) (k : Fin 1024) :
    (iblk m c 2 (pt j i) : Vec Ideal S1x704x1024 .bf16) (ix3 (0 : Fin 1) h k) = argWd m c (ix2 (unit j h) k) := by
  obtain ⟨-, -, ⟨e0, e1, e2⟩, -⟩ := idx_facts j i
  rw [← wd_apply]
  unfold iblk
  rw [View.read_apply]
  show V m c main_v8 _ = V m c main_v8 _
  congr 1
  funext b; apply Fin.ext
  match b with
  | ⟨0, _⟩ => show win0_2.index (pt j i) 0 * 1 + 1 * 0 = j.val; rw [e0]; omega
  | ⟨1, _⟩ => show win0_2.index (pt j i) 1 * 704 + 1 * h.val = h.val; rw [e1]; omega
  | ⟨2, _⟩ => show win0_2.index (pt j i) 2 * 1024 + 1 * k.val = k.val; rw [e2]; omega

theorem emb3 (j i : Fin 4) (a : Fin 2) (r : Fin 512) (h : Fin 704) :
    ((cfg0.win 3).blk (pt j i)).view.emb (ix4 a (0 : Fin 1) r h) = ix4 a j (row i r) h := by
  obtain ⟨-, -, -, ⟨e0, e1, e2, e3⟩⟩ := idx_facts j i
  funext b; apply Fin.ext
  match b with
  | ⟨0, _⟩ => show win0_3.index (pt j i) 0 * 2 + 1 * a.val = a.val; rw [e0]; omega
  | ⟨1, _⟩ => show win0_3.index (pt j i) 1 * 1 + 1 * 0 = j.val; rw [e1]; omega
  | ⟨2, _⟩ => show win0_3.index (pt j i) 2 * 512 + 1 * r.val = i.val * 512 + r.val; rw [e2]; omega
  | ⟨3, _⟩ => show win0_3.index (pt j i) 3 * 704 + 1 * h.val = h.val; rw [e3]; omega

/-- The result array after the run. -/
abbrev res (c : Dev nD) : FVec Ideal S2x4x2048x704 .bf16 := (dats m 0 c).arrAt 3 cfg0.N

theorem res_block (c : Dev nD) (j i : Fin 4) (a : Fin 2) (r : Fin 512) (h : Fin 704) :
    res m c (ix4 a j (row i r) h)
      = out0_3 (iblk m c 0 (pt j i)) (iblk m c 1 (pt j i)) (iblk m c 2 (pt j i)) (ix4 a (0 : Fin 1) r h) := by
  have b := congrFun (Value.blocks3 m c (pt j i) (flush0_3 _)) (ix4 a (0 : Fin 1) r h)
  rw [Value.flushed3] at b
  have b' : res m c (((cfg0.win 3).blk (pt j i)).view.emb (ix4 a (0 : Fin 1) r h)) = _ := b
  rw [emb3] at b'
  exact b'

theorem hid_sum (c : Dev nD) (j i : Fin 4) (r : Fin 512) (h : Fin 704) (X : FVec Ideal S512x1024 .bf16) (W : FVec Ideal S1x704x1024 .bf16)
    (hX : X = iblk m c 0 (pt j i)) (hW : W = iblk m c 2 (pt j i)) :
    (∑ k : Fin 1024, X (ix2 r k) * W (ix3 (0 : Fin 1) h k)) = hidK m c (row i r) (unit j h) := by
  subst hX hW
  unfold hidK hid
  exact Finset.sum_congr rfl fun k _ => congrArg₂ (· * ·) (iblk0_apply m c j i r k) (iblk2_apply m c j i h k)

theorem row_div (s : Fin 2048) : row ⟨s.val / 512, by omega⟩ ⟨s.val % 512, by omega⟩ = s := by
  apply Fin.ext; show s.val / 512 * 512 + s.val % 512 = s.val; omega

/-- THE RESULT, its gate half: -/
theorem res_gate (c : Dev nD) (j : Fin 4) (s : Fin 2048) (h : Fin 704) :
    res m c (ix4 (0 : Fin 2) j s h) = gradGate (hidK m c s (unit j h)) (preK m c s (col 0 j h)) (preK m c s (col 1 j h)) := by
  rw [← row_div s, res_block, out_gate, hid_sum m c _ _ _ _ _ _ rfl rfl, iblk1_apply, iblk1_apply]

/-- and its up half. -/
theorem res_up (c : Dev nD) (j : Fin 4) (s : Fin 2048) (h : Fin 704) :
    res m c (ix4 (1 : Fin 2) j s h) = gradUp (hidK m c s (unit j h)) (preK m c s (col 0 j h)) := by
  rw [← row_div s, res_block, out_up, hid_sum m c _ _ _ _ _ _ rfl rfl, iblk1_apply]

end Cert.KernelIdeal.Hand

end
-- ==== Proof.FfnRef.lean ====
/- Hand-written: THE REFERENCE'S RESULT, element by element, as the derivative written by `jax.vjp`: the two halves are
   padded to the projection's width and added, so each column receives its half's gradient and a zero. -/
module

public import proofs.«01_k».proof.Proof.Gen.ReferenceIdeal.Read
public import proofs.«01_k».proof.Proof.FfnSpec
public import Idealize.ShloMosaic.Lib.Pointwise

@[expose] public section

set_option maxRecDepth 16384

noncomputable section

namespace Cert.ReferenceIdeal.Hand

open Cert.ReferenceIdeal Cert.ReferenceIdeal.Gen Cert.ReferenceIdeal.Read Cert.Ffn
open Idealize.ShloMosaic Idealize.ShloMosaic.TcCoe Idealize.SL.Sem
open Idealize.ShloMosaic.Pointwise

variable (x : FVec Ideal S2048x1024 .f32) (w : FVec Ideal S1024x5632 .f32) (wd : FVec Ideal S2816x1024 .f32) (dz : FVec Ideal S2048x1024 .f32)

theorem dot_apply (s : Fin 2048) (p : Fin 5632) : val_main_v0 (F := Ideal) x w (ix2 s p) = pre (fun s k => x (ix2 s k)) (fun k p => w (ix2 k p)) s p := by
  pointwise [val_main_v0]
  rfl

theorem hid_apply (s : Fin 2048) (p : Fin 2816) : val_main_v6 (F := Ideal) wd dz (ix2 s p) = hid (fun s k => dz (ix2 s k)) (fun p k => wd (ix2 p k)) s p := by
  pointwise [val_main_v6]
  rfl

theorem gate_apply (s : Fin 2048) (p : Fin 2816) : val_main_v1 (F := Ideal) x w (ix2 s p)
    = pre (fun s k => x (ix2 s k)) (fun k p => w (ix2 k p)) s ⟨p.val, by omega⟩ := by
  rw [← dot_apply]
  pointwise [val_main_v1]

theorem up_apply (s : Fin 2048) (p : Fin 2816) : val_main_v3 (F := Ideal) x w (ix2 s p)
    = pre (fun s k => x (ix2 s k)) (fun k p => w (ix2 k p)) s ⟨2816 + p.val, by omega⟩ := by
  rw [← dot_apply]
  pointwise [val_main_v3]

theorem sig_apply (s : Fin 2048) (p : Fin 2816) : val_main_v2_2 (F := Ideal) x w (ix2 s p)
    = Ideal.logistic (pre (fun s k => x (ix2 s k)) (fun k p => w (ix2 k p)) s ⟨p.val, by omega⟩) := by
  rw [← gate_apply]
  pointwise [val_main_v2_2, val_main_call0_v4, val_main_call0_v3, val_main_call0_v2, val_main_call0_v1, val_main_call0_v0, val_main_call0_cst, val_main_call0_cst_0]
  rfl

theorem ref_gate (j : Fin 4) (s : Fin 2048) (h : Fin 704)
    {c g u : EReal} (hc : c = hid (fun s k => dz (ix2 s k)) (fun p k => wd (ix2 p k)) s (unit j h))
    (hg : g = pre (fun s k => x (ix2 s k)) (fun k p => w (ix2 k p)) s (col 0 j h)) (hu : u = pre (fun s k => x (ix2 s k)) (fun k p => w (ix2 k p)) s (col 1 j h)) :
    val_main_v15 (F := Ideal) x w wd dz (ix4 (0 : Fin 2) j s h)
      = c * u * Ideal.logistic g + g * (c * u) * (Ideal.logistic g * (1 - Ideal.logistic g)) := by
  have e0 : (⟨(unit j h).val, by omega⟩ : Fin 5632) = col 0 j h := Fin.ext (by show j.val * 704 + h.val = 0 * 2816 + j.val * 704 + h.val; omega)
  have e1 : (⟨2816 + (unit j h).val, by omega⟩ : Fin 5632) = col 1 j h := Fin.ext (by show 2816 + (j.val * 704 + h.val) = 1 * 2816 + j.val * 704 + h.val; omega)
  pointwise [val_main_v15, val_main_v14, val_main_v13, val_main_v12, val_main_v11, val_main_v9]
  rw [dif_neg ?_, dif_pos ?_]
  rotate_left
  · omega
  · omega
  have ei : (⟨j.val * 704 + h.val, by omega⟩ : Fin 2816) = unit j h := rfl
  rw [ei]
  pointwise [val_main_v10, val_main_call1_v0, val_main_call1_v1, val_main_call1_v2, val_main_v8, val_main_v2_1, val_main_call0_v7, val_main_call0_v6, val_main_call0_cst_1, val_main_cst]
  rw [sig_apply, hid_apply, up_apply, gate_apply, e0, e1, ← hc, ← hg, ← hu]

theorem ref_up (j : Fin 4) (s : Fin 2048) (h : Fin 704)
    {c g : EReal} (hc : c = hid (fun s k => dz (ix2 s k)) (fun p k => wd (ix2 p k)) s (unit j h))
    (hg : g = pre (fun s k => x (ix2 s k)) (fun k p => w (ix2 k p)) s (col 0 j h)) :
    val_main_v15 (F := Ideal) x w wd dz (ix4 (1 : Fin 2) j s h) = g * Ideal.logistic g * c := by
  have e0 : (⟨(unit j h).val, by omega⟩ : Fin 5632) = col 0 j h := Fin.ext (by show j.val * 704 + h.val = 0 * 2816 + j.val * 704 + h.val; omega)
  pointwise [val_main_v15, val_main_v14, val_main_v13, val_main_v12, val_main_v11, val_main_v9]
  rw [dif_pos ?_, dif_neg ?_]
  rotate_left
  · omega
  · omega
  have ei : (⟨2816 + j.val * 704 + h.val - 2816, by omega⟩ : Fin 2816) = unit j h := Fin.ext (by show 2816 + j.val * 704 + h.val - 2816 = j.val * 704 + h.val; omega)
  rw [ei]
  pointwise [val_main_v7, val_main_v2_0, val_main_cst_0]
  rw [sig_apply, hid_apply, gate_apply, e0, ← hc, ← hg]

end Cert.ReferenceIdeal.Hand

end
-- ==== Proof.FfnClaim.lean ====
/- Hand-written: THE VALUE CLAIM OF THE FFN'S HIDDEN GRADIENT. From finite arguments both runs leave the same extended reals:
   the kernel's result (FfnKernel) and the reference's (FfnRef) are the same sums, combined by the chain rule (FfnSpec). -/
module

public import proofs.«01_k».proof.Defs
public import proofs.«01_k».proof.Proof.Gen.Pre_finite
public import proofs.«01_k».proof.Proof.FfnKernel
public import proofs.«01_k».proof.Proof.FfnRef
public import Idealize.ShloMosaic.Lib.Quiescent

@[expose] public section

set_option maxRecDepth 16384

noncomputable section

namespace Cert.Ffn

open Idealize.ShloMosaic Idealize.ShloMosaic.TcCoe Idealize.SL.Sem Cert.Reals
open Idealize.ShloMosaic.Pointwise

/-- The stated precondition, read: every element of every argument is a real number. -/
theorem args_isR {m : (ℓ : Loc Cert.KernelIdeal.nD Cert.KernelIdeal.τ Cert.KernelIdeal.sig) → Buf (Elt Ideal) ℓ}
    (h : Cert.Pre_KernelIdeal_finite (hPre_finite := Cert.Pre_finite.Gen.facts) m) (c : Dev Cert.KernelIdeal.nD) :
    (∀ i, IsR (Cert.KernelIdeal.Hand.argX m c i)) ∧ (∀ i, IsR (Cert.KernelIdeal.Hand.argW m c i))
      ∧ (∀ i, IsR (Cert.KernelIdeal.Hand.argWd m c i)) ∧ (∀ i, IsR (Cert.KernelIdeal.Hand.argDz m c i)) := by
  obtain ⟨h0, h1, h2, h3⟩ := h c
  exact ⟨fun i => isR_of_cmp (congrFun h0 i), fun i => isR_of_cmp (congrFun h1 i), fun i => isR_of_cmp (congrFun h2 i), fun i => isR_of_cmp (congrFun h3 i)⟩

open Cert.KernelIdeal Cert.KernelIdeal.Hand in
/-- The kernel's result is the reference's, on finite arguments. -/
theorem result_eq (m : (ℓ : Loc nD τ sig) → Buf (Elt Ideal) ℓ) (h : Cert.Pre_KernelIdeal_finite (hPre_finite := Cert.Pre_finite.Gen.facts) m) (c : Dev nD) :
    res m c = Cert.ReferenceIdeal.Read.val_main_v15 (F := Ideal) (argX m c) (argW m c) (argWd m c) (argDz m c) := by
  obtain ⟨hx, hw, hwd, hz⟩ := args_isR h c
  have hp : ∀ s p, IsR (preK m c s p) := pre_isR (fun _ _ => hx _) (fun _ _ => hw _)
  have hh : ∀ s p, IsR (hidK m c s p) := hid_isR (fun _ _ => hz _) (fun _ _ => hwd _)
  funext i
  obtain ⟨a, j, s, p, rfl⟩ : ∃ (a : Fin 2) (j : Fin 4) (s : Fin 2048) (p : Fin 704), i = ix4 a j s p := ⟨i 0, i 1, i 2, i 3, eq_ix4 i⟩
  match a with
  | ⟨0, _⟩ =>
    refine (res_gate m c j s p).trans ?_
    rw [gate_eq (hh _ _) (hp _ _) (hp _ _)]
    exact (Cert.ReferenceIdeal.Hand.ref_gate _ _ _ _ j s p rfl rfl rfl).symm
  | ⟨1, _⟩ =>
    refine (res_up m c j s p).trans ?_
    rw [up_eq]
    exact (Cert.ReferenceIdeal.Hand.ref_up _ _ _ _ j s p rfl rfl).symm

/-- The reference leaves its arguments and, having no semaphore, no counter. -/
theorem ref_frame : Cert.quiescent_ReferenceIdeal (hReferenceIdeal := Cert.ReferenceIdeal.Gen.facts) := fun m g _ =>
  (θ_run Cert.ReferenceIdeal.defs _ _).mono (fun r h => And.intro (fun c => (h c).2) (sem_eq_zero_of_no_sems rfl r.2)) (Cert.ReferenceIdeal.Value.run m g)

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨fun c => Cert.KernelIdeal.Hand.res m c, Cert.KernelIdeal.Value.run_blocks m g, ?_⟩
  refine (θ_run Cert.ReferenceIdeal.defs _ _).mono (fun r h c => ?_) (Cert.ReferenceIdeal.Value.run m' g')
  obtain ⟨h0, hk⟩ := h c
  obtain ⟨a0, a1, a2, a3⟩ := hargs c
  refine ⟨?_, hk⟩
  rw [h0, Cert.ReferenceIdeal.Read.val_main_v15_eq, a0, a1, a2, a3]
  exact (result_eq m hpre c).symm

end Cert.Ffn

end
-- ==== Proof.AttnFirst.lean ====
/- The branch of the attention gradient's body: whether a grid point is the first. -/
module

public import proofs.«01_k».proof.Proof.Gen.Kernel2Ideal.Frame
public import proofs.«01_k».proof.Proof.Gen.Kernel2Ideal.Skeleton

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The condition under which the body sets its three running results to zero. -/
abbrev AtFirst (i : grid0.Coords) : Prop :=
  Scalar.cmpi .ne (Scalar.extui (Scalar.cmpi .eq (BitVec.ofNat 32 (i 0).val) 0#32) : BitVec 32) 0#32 = 1#1

/-- It holds at point zero and nowhere else. -/
theorem atFirst_iff : ∀ t : Fin cfg0.N, AtFirst (grid0.coords t) ↔ t.val = 0 :=
  (by decide +kernel : ∀ t : Fin grid0.N, AtFirst (grid0.coords t) ↔ t.val = 0)

/-! The offsets of the previous block's rows, one for the keys and one for the values of each key head. -/

theorem off1_eq : ∀ i : grid0.Coords, k0_off1 i = ![0, 128 * ((i 0).val - 1), 0] := by decide +kernel
instance (i : grid0.Coords) : ClosedOff (k0_off1 i) := ⟨![0, 128 * ((i 0).val - 1), 0], off1_eq i⟩

theorem off3_eq : ∀ i : grid0.Coords, k0_off3 i = ![4, 128 * ((i 0).val - 1), 0] := by decide +kernel
instance (i : grid0.Coords) : ClosedOff (k0_off3 i) := ⟨![4, 128 * ((i 0).val - 1), 0], off3_eq i⟩

theorem off5_eq : ∀ i : grid0.Coords, k0_off5 i = ![1, 128 * ((i 0).val - 1), 0] := by decide +kernel
instance (i : grid0.Coords) : ClosedOff (k0_off5 i) := ⟨![1, 128 * ((i 0).val - 1), 0], off5_eq i⟩

theorem off7_eq : ∀ i : grid0.Coords, k0_off7 i = ![5, 128 * ((i 0).val - 1), 0] := by decide +kernel
instance (i : grid0.Coords) : ClosedOff (k0_off7 i) := ⟨![5, 128 * ((i 0).val - 1), 0], off7_eq i⟩

theorem off9_eq : ∀ i : grid0.Coords, k0_off9 i = ![2, 128 * ((i 0).val - 1), 0] := by decide +kernel
instance (i : grid0.Coords) : ClosedOff (k0_off9 i) := ⟨![2, 128 * ((i 0).val - 1), 0], off9_eq i⟩

theorem off11_eq : ∀ i : grid0.Coords, k0_off11 i = ![6, 128 * ((i 0).val - 1), 0] := by decide +kernel
instance (i : grid0.Coords) : ClosedOff (k0_off11 i) := ⟨![6, 128 * ((i 0).val - 1), 0], off11_eq i⟩

theorem off13_eq : ∀ i : grid0.Coords, k0_off13 i = ![3, 128 * ((i 0).val - 1), 0] := by decide +kernel
instance (i : grid0.Coords) : ClosedOff (k0_off13 i) := ⟨![3, 128 * ((i 0).val - 1), 0], off13_eq i⟩

theorem off15_eq : ∀ i : grid0.Coords, k0_off15 i = ![7, 128 * ((i 0).val - 1), 0] := by decide +kernel
instance (i : grid0.Coords) : ClosedOff (k0_off15 i) := ⟨![7, 128 * ((i 0).val - 1), 0], off15_eq i⟩

end Cert.Kernel2Ideal.Hand

end
-- ==== Proof.AttnRunFirst.lean ====
/-
  The body of the attention gradient's call, run once at symbolic operands at the first point: what its stores leave in
  each of the four results, as the list of pieces the run finds.
-/
module

public import proofs.«01_k».proof.Proof.AttnFirst

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- At the first point, where the three running results are set to zero first. -/
def runFirst (c : Dev nD) (i : grid0.Coords) (a1 : Memref sig .tc .vmem S16x128x64 .bf16) (h1 : a1.IsWhole)
    (a2 : Memref sig .tc .vmem S8x128x64 .bf16) (h2 : a2.IsWhole) (a3 : Memref sig .tc .vmem S8x128x64 .bf16) (h3 : a3.IsWhole)
    (a4 : Memref sig .tc .vmem S16x128x256 .bf16) (h4 : a4.IsWhole) (a5 : Memref sig .tc .vmem S128x128 .f32) (h5 : a5.IsWhole)
    (a6 : Memref sig .tc .vmem S128x1024 .bf16) (h6 : a6.IsWhole) (a7 : Memref sig .tc .vmem S128x1024 .bf16) (h7 : a7.IsWhole)
    (a8 : Memref sig .tc .vmem S8x2048x64 .f32) (h8 : a8.IsWhole) (a9 : Memref sig .tc .vmem S1x1024 .f32) (h9 : a9.IsWhole)
    (a10 : Memref sig .tc .vmem S1x128 .f32) (h10 : a10.IsWhole)
    (hc : AtFirst i) (hn : (i 0).val = 0) (x0 : Vec F S16x128x64 .bf16) (x1 x2 : Vec F S8x128x64 .bf16)
    (x3 : Vec F S16x128x256 .bf16) (x4 : Vec F S128x128 .f32) (x5 : Vec F S128x1024 .bf16) :
    Σ' (L6 : List (View.Piece (Elt F) S128x1024 .bf16)), Σ' (L7 : List (View.Piece (Elt F) S8x2048x64 .f32)),
      Σ' (L8 : List (View.Piece (Elt F) S1x1024 .f32)), { L9 : List (View.Piece (Elt F) S1x128 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5
            ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d)
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5
                ∗ (∃ f, a7.view.loc (c : Thread nD τ) ↦[a7.view.set]{fullShare} a7.view.writes (Elt F) f L6) ∗ (∃ f, a8.view.loc (c : Thread nD τ) ↦[a8.view.set]{fullShare} a8.view.writes (Elt F) f L7) ∗ (∃ f, a9.view.loc (c : Thread nD τ) ↦[a9.view.set]{fullShare} a9.view.writes (Elt F) f L8) ∗ (∃ f, a10.view.loc (c : Thread nD τ) ↦[a10.view.set]{fullShare} a10.view.writes (Elt F) f L9)) -∗ K ⟨⟩))
          ⊢ wp frame (wpE (defs₀ (F := F)) Variants.none c none) E (cc0_attn_bwd i a1 h1 a2 h2 a3 h3 a4 h4 a5 h5 a6 h6 a7 h7 a8 h8 a9 h9 a10 h10) K } := by
  refine ⟨?_, ?_, ?_, ?_, fun E K => ?run⟩
  case run =>
    simp only [cc0_attn_bwd_eq_skeleton]; unfold cc0_attn_bwd_skel
    simp only [k0_part26_eq_skeleton, k0_part25_eq_skeleton, k0_part24_eq_skeleton, k0_part23_eq_skeleton, k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
    unfold owns
    iintro ⟨⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, ⟨%d8, %f8, -, H8⟩, ⟨%d9, %f9, -, H9⟩, ⟨%d10, %f10, -, H10⟩, Hk⟩
    obtain rfl := h1.eq_unread e1; obtain rfl := h2.eq_unread e2; obtain rfl := h3.eq_unread e3; obtain rfl := h4.eq_unread e4; obtain rfl := h5.eq_unread e5; obtain rfl := h6.eq_unread e6
    sl_exec (disch := sl_exact hc)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]; · iexists _; iexact H7
    isplitl [H8]; · iexists _; iexact H8
    isplitl [H9]; · iexists _; iexact H9
    iexists _; iexact H10

end Cert.Kernel2Ideal.Hand

end
-- ==== Proof.AttnRunLater.lean ====
/-
  The body of the attention gradient's call, run once at symbolic operands at a later point: what its stores leave in
  each of the four results, as the list of pieces the run finds.
-/
module

public import proofs.«01_k».proof.Proof.AttnFirst

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- At a later point, where the three running results are added to. -/
def runLater (c : Dev nD) (i : grid0.Coords) (a1 : Memref sig .tc .vmem S16x128x64 .bf16) (h1 : a1.IsWhole)
    (a2 : Memref sig .tc .vmem S8x128x64 .bf16) (h2 : a2.IsWhole) (a3 : Memref sig .tc .vmem S8x128x64 .bf16) (h3 : a3.IsWhole)
    (a4 : Memref sig .tc .vmem S16x128x256 .bf16) (h4 : a4.IsWhole) (a5 : Memref sig .tc .vmem S128x128 .f32) (h5 : a5.IsWhole)
    (a6 : Memref sig .tc .vmem S128x1024 .bf16) (h6 : a6.IsWhole) (a7 : Memref sig .tc .vmem S128x1024 .bf16) (h7 : a7.IsWhole)
    (a8 : Memref sig .tc .vmem S8x2048x64 .f32) (h8 : a8.IsWhole) (a9 : Memref sig .tc .vmem S1x1024 .f32) (h9 : a9.IsWhole)
    (a10 : Memref sig .tc .vmem S1x128 .f32) (h10 : a10.IsWhole)
    (hc : ¬ AtFirst i) (hn : 1 ≤ (i 0).val) (x0 : Vec F S16x128x64 .bf16) (x1 x2 : Vec F S8x128x64 .bf16)
    (x3 : Vec F S16x128x256 .bf16) (x4 : Vec F S128x128 .f32) (x5 : Vec F S128x1024 .bf16)
    (y7 : Vec F S8x2048x64 .f32) (y8 : Vec F S1x1024 .f32) (y9 : Vec F S1x128 .f32) :
    Σ' (L6 : List (View.Piece (Elt F) S128x1024 .bf16)), Σ' (L7 : List (View.Piece (Elt F) S8x2048x64 .f32)),
      Σ' (L8 : List (View.Piece (Elt F) S1x1024 .f32)), { L9 : List (View.Piece (Elt F) S1x128 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5
            ∗ (∃ d, owns (c : Thread nD τ) a7 fullShare d) ∗ owns (c : Thread nD τ) a8 fullShare y7 ∗ owns (c : Thread nD τ) a9 fullShare y8 ∗ owns (c : Thread nD τ) a10 fullShare y9
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5
                ∗ (∃ f, a7.view.loc (c : Thread nD τ) ↦[a7.view.set]{fullShare} a7.view.writes (Elt F) f L6) ∗ (a8.view.loc (c : Thread nD τ) ↦[a8.view.set]{fullShare} a8.view.writes (Elt F) (h8.unread y7) L7) ∗ (∃ f, a9.view.loc (c : Thread nD τ) ↦[a9.view.set]{fullShare} a9.view.writes (Elt F) f L8) ∗ (∃ f, a10.view.loc (c : Thread nD τ) ↦[a10.view.set]{fullShare} a10.view.writes (Elt F) f L9)) -∗ K ⟨⟩))
          ⊢ wp frame (wpE (defs₀ (F := F)) Variants.none c none) E (cc0_attn_bwd i a1 h1 a2 h2 a3 h3 a4 h4 a5 h5 a6 h6 a7 h7 a8 h8 a9 h9 a10 h10) K } := by
  refine ⟨?_, ?_, ?_, ?_, fun E K => ?run⟩
  case run =>
    simp only [cc0_attn_bwd_eq_skeleton]; unfold cc0_attn_bwd_skel
    simp only [k0_part26_eq_skeleton, k0_part25_eq_skeleton, k0_part24_eq_skeleton, k0_part23_eq_skeleton, k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
    unfold owns
    iintro ⟨⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, ⟨%f8, %e8, H8⟩, ⟨%f9, %e9, H9⟩, ⟨%f10, %e10, H10⟩, Hk⟩
    obtain rfl := h1.eq_unread e1; obtain rfl := h2.eq_unread e2; obtain rfl := h3.eq_unread e3; obtain rfl := h4.eq_unread e4; obtain rfl := h5.eq_unread e5; obtain rfl := h6.eq_unread e6; obtain rfl := h8.eq_unread e8; obtain rfl := h9.eq_unread e9; obtain rfl := h10.eq_unread e10
    sl_exec (disch := sl_exact hc)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]; · iexists _; iexact H7
    isplitl [H8]; · iexact H8
    isplitl [H9]; · iexists _; iexact H9
    iexists _; iexact H10

end Cert.Kernel2Ideal.Hand

end
-- ==== Proof.AttnFrame.lean ====
/-
  The frame of the attention gradient's call: what its four results hold after each grid point, the body's
  obligation at every point from the two runs, and the launch.
-/
module

public import proofs.«01_k».proof.Proof.AttnRunFirst
public import proofs.«01_k».proof.Proof.AttnRunLater
public import Idealize.ShloMosaic.Lib.Claim

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem point_eq : ∀ t : Fin cfg0.N, (grid0.coords t 0).val = t.val :=
  (by decide +kernel : ∀ t : Fin grid0.N, (grid0.coords t 0).val = t.val)

/-! The staging memref of each window at a point. -/
abbrev ms0 (t : Fin cfg0.N) : Memref sig .tc .vmem S16x128x64 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x128x64 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x128x64 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S16x128x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x1024 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x1024 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S8x2048x64 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x128 .f32 := win0_9.stage (cfg0.slots t 9)
abbrev hs9 (t : Fin cfg0.N) : (ms9 t).IsWhole := hstage0_9 ((cfg0.slots t 9).cast nbuf0_9)

/-- The run at the first point, at that point's buffers and blocks, -/
abbrev runF (c : Dev nD) (t : Fin cfg0.N) (h : t.val = 0) :=
  runFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t)
    ((atFirst_iff t).mpr h) ((point_eq t).trans h) (iblk m c 0 t) (iblk m c 1 t) (iblk m c 2 t) (iblk m c 3 t) (iblk m c 4 t) (iblk m c 5 t)

/-- and at a later one, over what the point before left. -/
abbrev runL (c : Dev nD) (t : Fin cfg0.N) (h : 1 ≤ t.val) (y7 : Vec F S8x2048x64 .f32) (y8 : Vec F S1x1024 .f32)
    (y9 : Vec F S1x128 .f32) :=
  runLater (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t)
    (fun hc => absurd ((atFirst_iff t).mp hc) (by omega)) (h.trans (point_eq t).ge) (iblk m c 0 t) (iblk m c 1 t) (iblk m c 2 t) (iblk m c 3 t) (iblk m c 4 t) (iblk m c 5 t) y7 y8 y9

/-- The four results' staging buffers. -/
abbrev Outs (F : FTy → Type) : Type :=
  Vec F S128x1024 .bf16 × Vec F S8x2048x64 .f32 × Vec F S1x1024 .f32 × Vec F S1x128 .f32

/-- What the first point leaves in them, -/
def outsFirst (c : Dev nD) (t : Fin cfg0.N) (h : t.val = 0) : Outs F :=
  (View.canon (runF m c t h).1, View.canon (runF m c t h).2.1, View.canon (runF m c t h).2.2.1,
    View.canon (runF m c t h).2.2.2.1)

/-- and a later one, given what the point before left. -/
def outsLater (c : Dev nD) (t : Fin cfg0.N) (h : 1 ≤ t.val) (y : Outs F) : Outs F :=
  (View.canon (runL m c t h y.2.1 y.2.2.1 y.2.2.2).1,
    (ms7 t).view.read (Elt F) ((ms7 t).view.writes (Elt F) ((hs7 t).unread y.2.1) (runL m c t h y.2.1 y.2.2.1 y.2.2.2).2.1),
    View.canon (runL m c t h y.2.1 y.2.2.1 y.2.2.2).2.2.1, View.canon (runL m c t h y.2.1 y.2.2.1 y.2.2.2).2.2.2.1)

/-- What they hold after point `n`. -/
def outsAt (c : Dev nD) : (n : ℕ) → n < cfg0.N → Outs F
  | 0, hn => outsFirst m c ⟨0, hn⟩ rfl
  | n + 1, hn => outsLater m c ⟨n + 1, hn⟩ (Nat.succ_le_succ (Nat.zero_le n)) (outsAt c n (Nat.lt_of_succ_lt hn))

theorem outsAt_first (c : Dev nD) (t : Fin cfg0.N) (h : t.val = 0) : outsAt m c t.val t.isLt = outsFirst m c t h := by
  obtain ⟨n, hn⟩ := t
  obtain rfl : n = 0 := h
  rfl

theorem outsAt_later (c : Dev nD) (t : Fin cfg0.N) (h : 1 ≤ t.val) :
    outsAt m c t.val t.isLt
      = outsLater m c t h (outsAt m c (t.val - 1) (Nat.lt_of_le_of_lt (Nat.sub_le _ _) t.isLt)) := by
  obtain ⟨n, hn⟩ := t
  cases n with
  | zero => exact absurd h (Nat.not_succ_le_zero 0)
  | succ n => rfl

/-! Every result is stored over whole: where the list's last piece is, the first store of the point. -/

/-- Whether a list's last piece is the whole array. -/
def lastWhole {s : Shape} {e : EltTy} : List (View.Piece (Elt F) s e) → Bool
  | [] => false
  | [p] => decide (∀ a, p.1.off a = 0 ∧ p.1.size a = s.size a ∧ p.1.stride a = 1)
  | _ :: p :: L => lastWhole (p :: L)

theorem cover_of_lastWhole {s : Shape} {e : EltTy} : ∀ (L : List (View.Piece (Elt F) s e)), lastWhole L = true →
    ∀ y : s.Idx, ∃ pc ∈ L, y ∈ pc.1.set
  | [], h, _ => Bool.noConfusion h
  | [p], h, y => ⟨p, List.mem_singleton.mpr rfl, (LoadRect.mem_set _).mpr fun a => by
      obtain ⟨ho, hs, ht⟩ := of_decide_eq_true h a
      exact ⟨(y a).val, by rw [hs]; exact (y a).isLt, by rw [ho, ht]; omega⟩⟩
  | _ :: p :: L, h, y =>
      have ⟨pc, hm, hy⟩ := cover_of_lastWhole (p :: L) h y
      ⟨pc, List.mem_cons_of_mem _ hm, hy⟩

theorem coverF_6 (c : Dev nD) (t : Fin cfg0.N) (h : t.val = 0) (y : S128x1024.Idx) :
    ∃ pc ∈ (runF m c t h).1, y ∈ pc.1.set :=
  View.cover_of_tiledL _ ![128, 128] (by sl_kernel_rfl) y
theorem coverL_6 (c : Dev nD) (t : Fin cfg0.N) (h : 1 ≤ t.val) (y7 : Vec F S8x2048x64 .f32) (y8 : Vec F S1x1024 .f32)
    (y9 : Vec F S1x128 .f32) (y : S128x1024.Idx) : ∃ pc ∈ (runL m c t h y7 y8 y9).1, y ∈ pc.1.set :=
  View.cover_of_tiledL _ ![128, 128] (by sl_kernel_rfl) y
theorem coverF_7 (c : Dev nD) (t : Fin cfg0.N) (h : t.val = 0) (y : S8x2048x64.Idx) :
    ∃ pc ∈ (runF m c t h).2.1, y ∈ pc.1.set :=
  cover_of_lastWhole _ (by sl_kernel_rfl) y
theorem coverF_8 (c : Dev nD) (t : Fin cfg0.N) (h : t.val = 0) (y : S1x1024.Idx) :
    ∃ pc ∈ (runF m c t h).2.2.1, y ∈ pc.1.set :=
  cover_of_lastWhole _ (by sl_kernel_rfl) y
theorem coverL_8 (c : Dev nD) (t : Fin cfg0.N) (h : 1 ≤ t.val) (y7 : Vec F S8x2048x64 .f32) (y8 : Vec F S1x1024 .f32)
    (y9 : Vec F S1x128 .f32) (y : S1x1024.Idx) : ∃ pc ∈ (runL m c t h y7 y8 y9).2.2.1, y ∈ pc.1.set :=
  View.cover_of_tiledL _ ![1, 128] (by sl_kernel_rfl) y
theorem coverF_9 (c : Dev nD) (t : Fin cfg0.N) (h : t.val = 0) (y : S1x128.Idx) :
    ∃ pc ∈ (runF m c t h).2.2.2.1, y ∈ pc.1.set :=
  cover_of_lastWhole _ (by sl_kernel_rfl) y
theorem coverL_9 (c : Dev nD) (t : Fin cfg0.N) (h : 1 ≤ t.val) (y7 : Vec F S8x2048x64 .f32) (y8 : Vec F S1x1024 .f32)
    (y9 : Vec F S1x128 .f32) (y : S1x128.Idx) : ∃ pc ∈ (runL m c t h y7 y8 y9).2.2.2.1, y ∈ pc.1.set :=
  cover_of_lastWhole _ (by sl_kernel_rfl) y

/-! ## The pipeline's proof data -/

/-- The arrays as the region finds them; after the body each input's buffer at its block, the results' at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
    | ⟨7, _⟩ => (outsAt m c t.val t.isLt).2.1
    | ⟨8, _⟩ => (outsAt m c t.val t.isLt).2.2.1
    | ⟨9, _⟩ => (outsAt m c t.val t.isLt).2.2.2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d
theorem after6 (c : Dev nD) (t : Fin cfg0.N) : (dats m 0 c).after 6 t = (outsAt m c t.val t.isLt).1 := by
  dsimp only [dats]
theorem after7 (c : Dev nD) (t : Fin cfg0.N) : (dats m 0 c).after 7 t = (outsAt m c t.val t.isLt).2.1 := by
  dsimp only [dats]
theorem before7 (c : Dev nD) (t : Fin cfg0.N) (h : 1 ≤ t.val) (d) :
    (dats m 0 c).before 7 t d = (outsAt m c (t.val - 1) (Nat.lt_of_le_of_lt (Nat.sub_le _ _) t.isLt)).2.1 := by
  have hN : t.val < 16 := lt_of_lt_of_eq t.isLt (show cfg0.N = 16 from N_0)
  rw [Dat.before_out_kept _ 7 rfl t (by omega) (by
    rw [Bool.eq_false_iff, ne_eq, flush0_7]
    show ¬ (t.val - 1) % 16 = 15
    omega) (fun _ => rfl) (fun _ _ => rfl), after7]
theorem after8 (c : Dev nD) (t : Fin cfg0.N) : (dats m 0 c).after 8 t = (outsAt m c t.val t.isLt).2.2.1 := by
  dsimp only [dats]
theorem before8 (c : Dev nD) (t : Fin cfg0.N) (h : 1 ≤ t.val) (d) :
    (dats m 0 c).before 8 t d = (outsAt m c (t.val - 1) (Nat.lt_of_le_of_lt (Nat.sub_le _ _) t.isLt)).2.2.1 := by
  have hN : t.val < 16 := lt_of_lt_of_eq t.isLt (show cfg0.N = 16 from N_0)
  rw [Dat.before_out_kept _ 8 rfl t (by omega) (by
    rw [Bool.eq_false_iff, ne_eq, flush0_8]
    show ¬ (t.val - 1) % 16 = 15
    omega) (fun _ => rfl) (fun _ _ => rfl), after8]
theorem after9 (c : Dev nD) (t : Fin cfg0.N) : (dats m 0 c).after 9 t = (outsAt m c t.val t.isLt).2.2.2 := by
  dsimp only [dats]
theorem before9 (c : Dev nD) (t : Fin cfg0.N) (h : 1 ≤ t.val) (d) :
    (dats m 0 c).before 9 t d = (outsAt m c (t.val - 1) (Nat.lt_of_le_of_lt (Nat.sub_le _ _) t.isLt)).2.2.2 := by
  have hN : t.val < 16 := lt_of_lt_of_eq t.isLt (show cfg0.N = 16 from N_0)
  rw [Dat.before_out_kept _ 9 rfl t (by omega) (by
    rw [Bool.eq_false_iff, ne_eq, flush0_9]
    show ¬ (t.val - 1) % 16 = 15
    omega) (fun _ => rfl) (fun _ _ => rfl), after9]

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t))

set_option maxHeartbeats 1600000 in
/-- The body at the first point. -/
theorem sound_first (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  simp only [before0, before1, before2, before3, before4, before5, after0, after1, after2, after3, after4, after5,
    after6, after7, after8, after9]
  rw [outsAt_first m c t h]
  unfold outsFirst; dsimp only
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runF m c t h).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iintro ⟨H0, H1, H2, H3, H4, H5, ⟨%e6, H6⟩, ⟨%e7, H7⟩, ⟨%e8, H8⟩, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_eq_canon _ _ _ (coverF_6 m c t h)
  isplitl [H7]
  · unfold owns; iexists _; isplitr
    swap; · iexact H7
    ipureintro; exact View.read_writes_eq_canon _ _ _ (coverF_7 m c t h)
  isplitl [H8]
  · unfold owns; iexists _; isplitr
    swap; · iexact H8
    ipureintro; exact View.read_writes_eq_canon _ _ _ (coverF_8 m c t h)
  unfold owns; iexists _; isplitr
  swap; · iexact H9
  ipureintro; exact View.read_writes_eq_canon _ _ _ (coverF_9 m c t h)

set_option maxHeartbeats 1600000 in
/-- The body at a later point. -/
theorem sound_later (c : Dev nD) (t : Fin cfg0.N) (h : 1 ≤ t.val) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  simp only [before0, before1, before2, before3, before4, before5, before7 m c t h, before8 m c t h, before9 m c t h, after0, after1, after2, after3, after4, after5,
    after6, after7, after8, after9]
  rw [outsAt_later m c t h]
  unfold outsLater; dsimp only
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runL m c t h _ _ _).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [H9]; · iexact H9
  iintro ⟨H0, H1, H2, H3, H4, H5, ⟨%e6, H6⟩, H7, ⟨%e8, H8⟩, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_eq_canon _ _ _ (coverL_6 m c t h _ _ _)
  isplitl [H7]
  · unfold owns; iexists _; isplitr
    swap; · iexact H7
    ipureintro; exact rfl
  isplitl [H8]
  · unfold owns; iexists _; isplitr
    swap; · iexact H8
    ipureintro; exact View.read_writes_eq_canon _ _ _ (coverL_8 m c t h _ _ _)
  unfold owns; iexists _; isplitr
  swap; · iexact H9
  ipureintro; exact View.read_writes_eq_canon _ _ _ (coverL_9 m c t h _ _ _)

theorem sound_body (c : Dev nD) (t : Fin cfg0.N) :
    bodyPre m c t ⊢ wp frame (wpE (defs₀ (F := F)) Variants.none c none) Set.univ (bodyAt0 t) (fun _ => bodyPost m c t) := by
  by_cases h : t.val = 0
  · exact sound_first m c t h
  · exact sound_later m c t (by omega)

theorem bodyRow (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, bodyRow]
  exact triple_restated (sound_body m c t) rfl .rfl fun _ => .rfl

/-! ## The launch -/

set_option backward.isDefEq.respectTransparency.types false in
/-- Every execution ends with the arrays at what the proof data says, and every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_quiescent m ρ))

end Cert.Kernel2Ideal.Hand

end
-- ==== Proof.AttnReduce.lean ====
module

public import Idealize.ShloMosaic.Lib.Pointwise
public import Idealize.ShloMosaic.PureOps.Ideal

/-!
Reductions of an array of six axes over its last axis, over its two outer axes, or over all
but the third and fourth; and of three axes over the first two.
-/

@[expose] public section

noncomputable section

namespace Cert.Reduce
open Idealize.ShloMosaic Idealize.ShloMosaic.Pointwise

variable {n0 n1 n2 n3 n4 n5 : Nat}

theorem fiber_last (h : (⟨6, ![n0, n1, n2, n3, n4, n5]⟩ : Shape).ReducesTo [5] ⟨5, ![n0, n1, n2, n3, n4]⟩)
    (a : Fin n0) (b : Fin n1) (c : Fin n2) (d : Fin n3) (e : Fin n4) (i : (⟨6, ![n0, n1, n2, n3, n4, n5]⟩ : Shape).Idx) :
    h.drop i = ix5 a b c d e ↔ ∃ s : Fin n5, ix6 a b c d e s = i := by
  constructor
  · intro H
    refine ⟨i 5, ?_⟩
    funext x; apply Fin.ext
    match x with
    | ⟨0, _⟩ => exact (congrArg Fin.val (congrFun H 0)).symm
    | ⟨1, _⟩ => exact (congrArg Fin.val (congrFun H 1)).symm
    | ⟨2, _⟩ => exact (congrArg Fin.val (congrFun H 2)).symm
    | ⟨3, _⟩ => exact (congrArg Fin.val (congrFun H 3)).symm
    | ⟨4, _⟩ => exact (congrArg Fin.val (congrFun H 4)).symm
    | ⟨5, _⟩ => rfl
  · rintro ⟨s, rfl⟩
    funext x; apply Fin.ext
    match x with
    | ⟨0, _⟩ => rfl
    | ⟨1, _⟩ => rfl
    | ⟨2, _⟩ => rfl
    | ⟨3, _⟩ => rfl
    | ⟨4, _⟩ => rfl

theorem sum_last (h : (⟨6, ![n0, n1, n2, n3, n4, n5]⟩ : Shape).ReducesTo [5] ⟨5, ![n0, n1, n2, n3, n4]⟩)
    (v : (⟨6, ![n0, n1, n2, n3, n4, n5]⟩ : Shape).Idx → EReal) (init : EReal)
    (a : Fin n0) (b : Fin n1) (c : Fin n2) (d : Fin n3) (e : Fin n4) :
    Ideal.hostReduceAdd h v init (ix5 a b c d e) = init + ∑ s, v (ix6 a b c d e s) :=
  congrArg (init + ·) (Finset.sum_filter_eq_sum_of_fiber _ (fun s : Fin n5 => ix6 a b c d e s) (fun _ _ e => congrFun e 5) (fiber_last h a b c d e) v)

theorem fold_last (h : (⟨6, ![n0, n1, n2, n3, n4, n5]⟩ : Shape).ReducesTo [5] ⟨5, ![n0, n1, n2, n3, n4]⟩)
    (v : (⟨6, ![n0, n1, n2, n3, n4, n5]⟩ : Shape).Idx → EReal) (init : EReal)
    (a : Fin n0) (b : Fin n1) (c : Fin n2) (d : Fin n3) (e : Fin n4) :
    (Finset.univ.filter (fun i => h.drop i = ix5 a b c d e)).fold max init v
      = (Finset.univ : Finset (Fin n5)).fold max init (fun s => v (ix6 a b c d e s)) :=
  Finset.fold_filter_eq_fold_of_fiber max _ (fun s : Fin n5 => ix6 a b c d e s) (fun _ _ e => congrFun e 5) (fiber_last h a b c d e) init v

theorem fiber_ends (h : (⟨6, ![n0, n1, n2, n3, n4, n5]⟩ : Shape).ReducesTo [0, 5] ⟨4, ![n1, n2, n3, n4]⟩)
    (b : Fin n1) (c : Fin n2) (d : Fin n3) (e : Fin n4) (i : (⟨6, ![n0, n1, n2, n3, n4, n5]⟩ : Shape).Idx) :
    h.drop i = ix4 b c d e ↔ ∃ s : Fin n0 × Fin n5, ix6 s.1 b c d e s.2 = i := by
  constructor
  · intro H
    refine ⟨(i 0, i 5), ?_⟩
    funext x; apply Fin.ext
    match x with
    | ⟨0, _⟩ => rfl
    | ⟨1, _⟩ => exact (congrArg Fin.val (congrFun H 0)).symm
    | ⟨2, _⟩ => exact (congrArg Fin.val (congrFun H 1)).symm
    | ⟨3, _⟩ => exact (congrArg Fin.val (congrFun H 2)).symm
    | ⟨4, _⟩ => exact (congrArg Fin.val (congrFun H 3)).symm
    | ⟨5, _⟩ => rfl
  · rintro ⟨s, rfl⟩
    funext x; apply Fin.ext
    match x with
    | ⟨0, _⟩ => rfl
    | ⟨1, _⟩ => rfl
    | ⟨2, _⟩ => rfl
    | ⟨3, _⟩ => rfl

theorem sum_ends (h : (⟨6, ![n0, n1, n2, n3, n4, n5]⟩ : Shape).ReducesTo [0, 5] ⟨4, ![n1, n2, n3, n4]⟩)
    (v : (⟨6, ![n0, n1, n2, n3, n4, n5]⟩ : Shape).Idx → EReal) (init : EReal)
    (b : Fin n1) (c : Fin n2) (d : Fin n3) (e : Fin n4) :
    Ideal.hostReduceAdd h v init (ix4 b c d e) = init + ∑ a : Fin n0, ∑ s : Fin n5, v (ix6 a b c d e s) := by
  refine congrArg (init + ·) ((Finset.sum_filter_eq_sum_of_fiber _ (fun s : Fin n0 × Fin n5 => ix6 s.1 b c d e s.2)
    (fun _ _ e => Prod.ext (congrFun e 0) (congrFun e 5)) (fiber_ends h b c d e) v).trans ?_)
  simp only [Fintype.sum_prod_type]

theorem fiber_inner (h : (⟨6, ![n0, n1, n2, n3, n4, n5]⟩ : Shape).ReducesTo [0, 1, 4, 5] ⟨2, ![n2, n3]⟩)
    (c : Fin n2) (d : Fin n3) (i : (⟨6, ![n0, n1, n2, n3, n4, n5]⟩ : Shape).Idx) :
    h.drop i = ix2 c d ↔ ∃ s : Fin n0 × Fin n1 × Fin n4 × Fin n5, ix6 s.1 s.2.1 c d s.2.2.1 s.2.2.2 = i := by
  constructor
  · intro H
    refine ⟨(i 0, i 1, i 4, i 5), ?_⟩
    funext x; apply Fin.ext
    match x with
    | ⟨0, _⟩ => rfl
    | ⟨1, _⟩ => rfl
    | ⟨2, _⟩ => exact (congrArg Fin.val (congrFun H 0)).symm
    | ⟨3, _⟩ => exact (congrArg Fin.val (congrFun H 1)).symm
    | ⟨4, _⟩ => rfl
    | ⟨5, _⟩ => rfl
  · rintro ⟨s, rfl⟩
    funext x; apply Fin.ext
    match x with
    | ⟨0, _⟩ => rfl
    | ⟨1, _⟩ => rfl

theorem sum_inner (h : (⟨6, ![n0, n1, n2, n3, n4, n5]⟩ : Shape).ReducesTo [0, 1, 4, 5] ⟨2, ![n2, n3]⟩)
    (v : (⟨6, ![n0, n1, n2, n3, n4, n5]⟩ : Shape).Idx → EReal) (init : EReal) (c : Fin n2) (d : Fin n3) :
    Ideal.hostReduceAdd h v init (ix2 c d)
      = init + ∑ a : Fin n0, ∑ b : Fin n1, ∑ e : Fin n4, ∑ s : Fin n5, v (ix6 a b c d e s) := by
  refine congrArg (init + ·) ((Finset.sum_filter_eq_sum_of_fiber _ (fun s : Fin n0 × Fin n1 × Fin n4 × Fin n5 => ix6 s.1 s.2.1 c d s.2.2.1 s.2.2.2)
    (fun _ _ e => Prod.ext (congrFun e 0) (Prod.ext (congrFun e 1) (Prod.ext (congrFun e 4) (congrFun e 5)))) (fiber_inner h c d) v).trans ?_)
  simp only [Fintype.sum_prod_type]

theorem fiber_outer (h : (⟨3, ![n0, n1, n2]⟩ : Shape).ReducesTo [0, 1] ⟨1, ![n2]⟩)
    (c : Fin n2) (i : (⟨3, ![n0, n1, n2]⟩ : Shape).Idx) :
    h.drop i = ix1 c ↔ ∃ s : Fin n0 × Fin n1, ix3 s.1 s.2 c = i := by
  constructor
  · intro H
    refine ⟨(i 0, i 1), ?_⟩
    funext x; apply Fin.ext
    match x with
    | ⟨0, _⟩ => rfl
    | ⟨1, _⟩ => rfl
    | ⟨2, _⟩ => exact (congrArg Fin.val (congrFun H 0)).symm
  · rintro ⟨s, rfl⟩
    funext x; apply Fin.ext
    match x with
    | ⟨0, _⟩ => rfl

theorem sum_outer (h : (⟨3, ![n0, n1, n2]⟩ : Shape).ReducesTo [0, 1] ⟨1, ![n2]⟩)
    (v : (⟨3, ![n0, n1, n2]⟩ : Shape).Idx → EReal) (init : EReal) (c : Fin n2) :
    Ideal.hostReduceAdd h v init (ix1 c) = init + ∑ a : Fin n0, ∑ b : Fin n1, v (ix3 a b c) := by
  refine congrArg (init + ·) ((Finset.sum_filter_eq_sum_of_fiber _ (fun s : Fin n0 × Fin n1 => ix3 s.1 s.2 c)
    (fun _ _ e => Prod.ext (congrFun e 0) (congrFun e 1)) (fiber_outer h c) v).trans ?_)
  simp only [Fintype.sum_prod_type]

end Cert.Reduce
end
-- ==== Proof.AttnRead.lean ====
module

public import proofs.«01_k».proof.Proof.Gen.Reference2Ideal.Read
public import proofs.«01_k».proof.Proof.AttnReduce
public import Idealize.ShloMosaic.Lib.Pointwise

/-!
The stages of the plainly written attention gradient, read at an index.
-/

@[expose] public section

set_option maxRecDepth 16384

noncomputable section

namespace Cert.Attn
open Idealize.ShloMosaic Idealize.ShloMosaic.TcCoe Idealize.SL.Sem
open Idealize.ShloMosaic.Pointwise
open Cert.Reference2Ideal Cert.Reference2Ideal.Gen Cert.Reference2Ideal.Read

variable (x0 : FVec Ideal S1x2048x1024 .f32) (x1 : FVec Ideal S1024x1024 .f32) (x2 : FVec Ideal S1024 .f32) (x3 : FVec Ideal S1024x512 .f32) (x4 : FVec Ideal S512 .f32) (x5 : FVec Ideal S16 .f32) (x6 : FVec Ideal S1x2048x1024 .f32)

theorem sum_stage (n : Fin 16) (k g : Fin 4) (r : Fin 128) :
    val_main_v98 (F := Ideal) x0 x1 x2 x3 x4 x5 (ix6 0 n k g r 0)
      = ∑ s, val_main_v96 (F := Ideal) x0 x1 x2 x3 x4 x5 (ix6 0 n k g r s) := by
  unfold val_main_v98 val_main_v97 val_main_cst_22
  generalize val_main_v96 (F := Ideal) x0 x1 x2 x3 x4 x5 = E
  pointwise
  exact (Cert.Reduce.sum_last _ E 0 0 n k g r).trans (zero_add _)

theorem soft_stage (n : Fin 16) (k g : Fin 4) (r : Fin 128) (s : Fin 257) :
    val_main_v100 (F := Ideal) x0 x1 x2 x3 x4 x5 (ix6 0 n k g r s)
      = Ideal.div (val_main_v96 (F := Ideal) x0 x1 x2 x3 x4 x5 (ix6 0 n k g r s)) (val_main_v98 (F := Ideal) x0 x1 x2 x3 x4 x5 (ix6 0 n k g r 0)) := by
  unfold val_main_v100 val_main_v99
  generalize val_main_v98 (F := Ideal) x0 x1 x2 x3 x4 x5 = L
  generalize val_main_v96 (F := Ideal) x0 x1 x2 x3 x4 x5 = E
  pointwise

theorem max_stage (n : Fin 16) (k g : Fin 4) (r : Fin 128) :
    val_main_v76 (F := Ideal) x0 x1 x2 x3 x4 x5 (ix5 0 n k g r)
      = (Finset.univ : Finset (Fin 257)).fold max (Ideal.ofBits FTy.f32 4286578688#32) fun s => val_main_v75 (F := Ideal) x0 x1 x2 x3 x4 x5 (ix6 0 n k g r s) := by
  unfold val_main_v76
  exact (Host.reduce_eq_fold _ _ _ _ _ _).trans (Cert.Reduce.fold_last _ _ _ 0 n k g r)

theorem top_stage (n : Fin 16) (k g : Fin 4) (r : Fin 128) :
    val_main_v83 (F := Ideal) x0 x1 x2 x3 x4 x5 (ix5 0 n k g r)
      = max (Ideal.ofBits FTy.f32 4286578688#32) (val_main_v76 (F := Ideal) x0 x1 x2 x3 x4 x5 (ix5 0 n k g r)) := by
  have e (b : BitVec 32) : FloatOps.ofBits (F := Ideal) FTy.f32 b = Ideal.ofBits FTy.f32 b := rfl
  rw [val_main_v83_apply, val_main_v82_apply, val_main_cst_16_apply, e]
  generalize Ideal.ofBits FTy.f32 4286578688#32 = B
  generalize val_main_v76 (F := Ideal) x0 x1 x2 x3 x4 x5 (ix5 0 n k g r) = M
  exact congrFun (congrFun Ideal.maximumf_eq_max _) _

theorem exp_stage (n : Fin 16) (k g : Fin 4) (r : Fin 128) (s : Fin 257) :
    val_main_v96 (F := Ideal) x0 x1 x2 x3 x4 x5 (ix6 0 n k g r s)
      = Ideal.exp (val_main_v75 (F := Ideal) x0 x1 x2 x3 x4 x5 (ix6 0 n k g r s)
          - val_main_v83 (F := Ideal) x0 x1 x2 x3 x4 x5 (ix5 0 n k g r)) := by
  unfold val_main_v96 val_main_v95 val_main_v94 val_main_v93
  generalize val_main_v83 (F := Ideal) x0 x1 x2 x3 x4 x5 = M
  generalize val_main_v75 (F := Ideal) x0 x1 x2 x3 x4 x5 = Z
  pointwise

theorem masked_stage (n : Fin 16) (k g : Fin 4) (r : Fin 128) (s : Fin 256) :
    val_main_v75 (F := Ideal) x0 x1 x2 x3 x4 x5 (ix6 0 n k g r ⟨s.val, by omega⟩)
      = Scalar.select (val_main_v71_1 (F := Ideal) (ix6 0 n k g r s)) (val_main_v69 (F := Ideal) x0 x1 x2 x3 x4 (ix6 0 n k g r s)) (Ideal.ofBits FTy.f32 4286578688#32) := by
  unfold val_main_v75 val_main_v74 val_main_v73 val_main_v72 val_main_v71_0 val_main_call0_v2 val_main_call0_v0 val_main_cst_13
  generalize val_main_v69 (F := Ideal) x0 x1 x2 x3 x4  = Z
  generalize val_main_v71_1 (F := Ideal) = M
  pointwise
  rfl

theorem sink_stage (n : Fin 16) (k g : Fin 4) (r : Fin 128) :
    val_main_v75 (F := Ideal) x0 x1 x2 x3 x4 x5 (ix6 0 n k g r 256) = x5 (ix1 (⟨k.val * 4 + g.val, by omega⟩ : Fin 16)) := by
  unfold val_main_v75 val_main_v74 val_main_v73 val_main_v72 val_main_v71_0
  generalize val_main_v69 (F := Ideal) x0 x1 x2 x3 x4  = Z
  generalize val_main_v71_1 (F := Ideal) = M
  generalize val_main_call0_v2 (F := Ideal) = C
  pointwise

theorem raw_stage (n : Fin 16) (k g : Fin 4) (r : Fin 128) (s : Fin 256) :
    val_main_v69 (F := Ideal) x0 x1 x2 x3 x4  (ix6 0 n k g r s)
      = ((∑ d, val_main_v14 (F := Ideal) x0 x3 x4 (ix5 0 n s k d) * val_main_v27 (F := Ideal) x0 x1 x2 (ix6 0 n r k g d)) * Ideal.ofBits FTy.f32 1040187392#32
          - Ideal.exp (val_main_v59 (F := Ideal) (ix1 (⟨k.val * 4 + g.val, by omega⟩ : Fin 16))) * FloatOps.sitofp (F := Ideal) FTy.f32 (val_main_v37 (F := Ideal) (ix3 n r s)) : EReal) := by
  unfold val_main_v69 val_main_v68 val_main_v67 val_main_v66 val_main_v65 val_main_v64 val_main_v63 val_main_v62 val_main_v61 val_main_v60 val_main_v31 val_main_v30 val_main_v29 val_main_v28
  generalize val_main_v14 (F := Ideal) x0 x3 x4  = K
  generalize val_main_v27 (F := Ideal) x0 x1 x2  = Q
  generalize val_main_v59 (F := Ideal) = M
  generalize val_main_v37 (F := Ideal) = W
  pointwise
  rfl

theorem dprob_stage (n : Fin 16) (k g : Fin 4) (r : Fin 128) (s : Fin 256) :
    val_main_v110 (F := Ideal) x0 x3 x4 x6 (ix6 0 n k g r s)
      = (∑ d, val_main_v108 (F := Ideal) x6 (ix6 0 n r k g d) * val_main_v23 (F := Ideal) x0 x3 x4 (ix5 0 n s k d) : EReal) := by
  unfold val_main_v110 val_main_v109
  generalize val_main_v108 (F := Ideal) x6 = D
  generalize val_main_v23 (F := Ideal) x0 x3 x4 = V
  pointwise

theorem dv_stage (n : Fin 16) (k : Fin 4) (s : Fin 256) (d : Fin 64) :
    val_main_v112 (F := Ideal) x0 x1 x2 x3 x4 x5 x6 (ix5 0 n s k d)
      = (∑ g, ∑ r, val_main_v108 (F := Ideal) x6 (ix6 0 n r k g d) * val_main_v100 (F := Ideal) x0 x1 x2 x3 x4 x5 (ix6 0 n k g r ⟨s.val, by omega⟩) : EReal) := by
  unfold val_main_v112 val_main_v111 val_main_v109 val_main_v104
  generalize val_main_v108 (F := Ideal) x6 = D
  generalize val_main_v100 (F := Ideal) x0 x1 x2 x3 x4 x5 = Y
  pointwise

/-- The cotangent of the probabilities, with nothing for the sink. -/
def dprob (n : Fin 16) (k g : Fin 4) (r : Fin 128) (s : Fin 257) : EReal :=
  if h : s.val < 256 then val_main_v110 (F := Ideal) x0 x3 x4 x6 (ix6 0 n k g r ⟨s.val, h⟩) else 0

theorem dscore_stage (n : Fin 16) (k g : Fin 4) (r : Fin 128) (s : Fin 257) :
    val_main_v126 (F := Ideal) x0 x1 x2 x3 x4 x5 x6 (ix6 0 n k g r s)
      = ((Ideal.div (dprob x0 x3 x4 x6 n k g r s) (val_main_v98 (F := Ideal) x0 x1 x2 x3 x4 x5 (ix6 0 n k g r 0))
          + -(∑ s', dprob x0 x3 x4 x6 n k g r s'
              * Ideal.div 1 (val_main_v98 (F := Ideal) x0 x1 x2 x3 x4 x5 (ix6 0 n k g r 0) * val_main_v98 (F := Ideal) x0 x1 x2 x3 x4 x5 (ix6 0 n k g r 0))
              * val_main_v96 (F := Ideal) x0 x1 x2 x3 x4 x5 (ix6 0 n k g r s')))
        * val_main_v96 (F := Ideal) x0 x1 x2 x3 x4 x5 (ix6 0 n k g r s) : EReal) := by
  unfold val_main_v126 val_main_v125 val_main_v124 val_main_v123 val_main_v122 val_main_v121 val_main_v120 val_main_v119 val_main_v118 val_main_v117 val_main_v116 val_main_v115 val_main_v114 val_main_v113 val_main_v103 val_main_v102 val_main_v101 val_main_cst_23 val_main_cst_24 val_main_cst_25 val_main_cst_26 dprob
  generalize val_main_v110 (F := Ideal) x0 x3 x4 x6 = P
  generalize val_main_v98 (F := Ideal) x0 x1 x2 x3 x4 x5 = L
  generalize val_main_v96 (F := Ideal) x0 x1 x2 x3 x4 x5 = E
  pointwise [Cert.Reduce.sum_ends, Cert.Reduce.sum_last]
  rw [Fin.sum_univ_one, Fin.sum_univ_one]

theorem dscoreM_stage (n : Fin 16) (k g : Fin 4) (r : Fin 128) (s : Fin 256) :
    val_main_v135 (F := Ideal) x0 x1 x2 x3 x4 x5 x6 (ix6 0 n k g r s)
      = (Scalar.select (val_main_v71_1 (F := Ideal) (ix6 0 n k g r s)) (val_main_v126 (F := Ideal) x0 x1 x2 x3 x4 x5 x6 (ix6 0 n k g r ⟨s.val, by omega⟩) * Ideal.ofBits FTy.f32 1040187392#32 : EReal) (0 : EReal) : EReal) := by
  unfold val_main_v135 val_main_v134 val_main_v133 val_main_call1_v0 val_main_v127 val_main_cst_29 val_main_call1_cst
  generalize val_main_v126 (F := Ideal) x0 x1 x2 x3 x4 x5 x6 = P
  generalize val_main_v71_1 (F := Ideal) = M
  pointwise

theorem dq_stage (n : Fin 16) (k g : Fin 4) (r : Fin 128) (d : Fin 64) :
    val_main_v138 (F := Ideal) x0 x1 x2 x3 x4 x5 x6 (ix6 0 n r k g d)
      = (∑ s, val_main_v135 (F := Ideal) x0 x1 x2 x3 x4 x5 x6 (ix6 0 n k g r s) * val_main_v14 (F := Ideal) x0 x3 x4 (ix5 0 n s k d) : EReal) := by
  unfold val_main_v138 val_main_v137 val_main_v136
  generalize val_main_v135 (F := Ideal) x0 x1 x2 x3 x4 x5 x6 = S
  generalize val_main_v14 (F := Ideal) x0 x3 x4 = K
  pointwise

theorem dk_stage (n : Fin 16) (k : Fin 4) (s : Fin 256) (d : Fin 64) :
    val_main_v140 (F := Ideal) x0 x1 x2 x3 x4 x5 x6 (ix5 0 n s k d)
      = (∑ r, ∑ g, val_main_v135 (F := Ideal) x0 x1 x2 x3 x4 x5 x6 (ix6 0 n k g r s) * val_main_v27 (F := Ideal) x0 x1 x2 (ix6 0 n r k g d) : EReal) := by
  unfold val_main_v140 val_main_v139 val_main_v136
  generalize val_main_v135 (F := Ideal) x0 x1 x2 x3 x4 x5 x6 = S
  generalize val_main_v27 (F := Ideal) x0 x1 x2 = K
  pointwise

theorem resQ_stage (R : Fin 2048) (x : Fin 1024) :
    val_main_v168 (F := Ideal) x0 x1 x2 x3 x4 x5 x6 (ix2 R x)
      = val_main_v138 (F := Ideal) x0 x1 x2 x3 x4 x5 x6 (ix6 0 (⟨R.val / 128, by omega⟩ : Fin 16) (⟨R.val % 128, by omega⟩ : Fin 128) (⟨x.val / 256, by omega⟩ : Fin 4) (⟨x.val / 64 % 4, by omega⟩ : Fin 4) (⟨x.val % 64, by omega⟩ : Fin 64)) := by
  unfold val_main_v168 val_main_v167 val_main_v141
  generalize val_main_v138 (F := Ideal) x0 x1 x2 x3 x4 x5 x6 = S
  pointwise

theorem rowsQ_stage (R : Fin 2048) (x : Fin 1024) :
    val_main_v141 (F := Ideal) x0 x1 x2 x3 x4 x5 x6 (ix3 0 R x) = val_main_v168 (F := Ideal) x0 x1 x2 x3 x4 x5 x6 (ix2 R x) := by
  unfold val_main_v168 val_main_v167
  generalize val_main_v141 (F := Ideal) x0 x1 x2 x3 x4 x5 x6 = S
  pointwise

theorem resB_stage (x : Fin 1024) :
    val_main_v171 (F := Ideal) x0 x1 x2 x3 x4 x5 x6 (ix2 0 x) = (∑ R, val_main_v141 (F := Ideal) x0 x1 x2 x3 x4 x5 x6 (ix3 0 R x) : EReal) := by
  unfold val_main_v171 val_main_v144 val_main_v143 val_main_v142 val_main_cst_31 val_main_cst_30
  generalize val_main_v141 (F := Ideal) x0 x1 x2 x3 x4 x5 x6 = S
  pointwise [Cert.Reduce.sum_outer]
  rw [Fin.sum_univ_one, Fin.sum_univ_one]

theorem resS_stage (x : Fin 128) :
    val_main_v173 (F := Ideal) x0 x1 x2 x3 x4 x5 x6 (ix2 0 x)
      = if h : x.val < 16 then (∑ n, ∑ r, val_main_v126 (F := Ideal) x0 x1 x2 x3 x4 x5 x6 (ix6 0 n (⟨x.val / 4, by omega⟩ : Fin 4) (⟨x.val % 4, by omega⟩ : Fin 4) r 256) : EReal) else (0 : EReal) := by
  unfold val_main_v173 val_main_v172 val_main_v132 val_main_v131 val_main_v130 val_main_v129 val_main_v128 val_main_cst_27 val_main_cst_28 val_main_call2_v0 val_main_c_38
  generalize val_main_v126 (F := Ideal) x0 x1 x2 x3 x4 x5 x6 = S
  pointwise [Cert.Reduce.sum_inner]
  have e : FloatOps.sitofp (F := Ideal) FTy.f32 0#32 = (0 : EReal) := by
    show (((0 : ℤ) : ℝ) : EReal) = 0
    norm_num
  rw [e]
  simp only [Fin.sum_univ_one]

/-- Two neighbouring blocks meet in a row: the later half of its own and the earlier half of the next. -/
theorem band (f : Fin 16 → Fin 256 → EReal) (R : Fin 2048) (a : Fin 8) :
    ((if h : (1 ≤ (128 + R.val) / 128 ∧ (128 + R.val) / 128 - 1 < 16) ∧ (128 + R.val) % 128 < 128 ∧ a.val % 4 < 4 then
        f ⟨(128 + R.val) / 128 - 1, h.1.2⟩ ⟨128 + (128 + R.val) % 128, by omega⟩ else 0)
      + if h : (128 + R.val) / 128 < 16 ∧ (128 + R.val) % 128 < 128 ∧ a.val % 4 < 4 then
        f ⟨(128 + R.val) / 128, h.1⟩ ⟨(128 + R.val) % 128, by omega⟩ else 0)
    = f ⟨R.val / 128, by omega⟩ ⟨128 + R.val % 128, by omega⟩
      + if h : R.val / 128 + 1 < 16 then f ⟨R.val / 128 + 1, h⟩ ⟨R.val % 128, by omega⟩ else 0 := by
  have hc : (1 ≤ (128 + R.val) / 128 ∧ (128 + R.val) / 128 - 1 < 16) ∧ (128 + R.val) % 128 < 128 ∧ a.val % 4 < 4 := by omega
  rw [dif_pos hc]
  have e1 : (⟨(128 + R.val) / 128 - 1, hc.1.2⟩ : Fin 16) = ⟨R.val / 128, by omega⟩ := Fin.ext (by show (128 + R.val) / 128 - 1 = R.val / 128; omega)
  have e2 : (⟨128 + (128 + R.val) % 128, by omega⟩ : Fin 256) = ⟨128 + R.val % 128, by omega⟩ := Fin.ext (by show 128 + (128 + R.val) % 128 = 128 + R.val % 128; omega)
  rw [e1, e2]
  refine congrArg (f _ _ + ·) ?_
  by_cases h : R.val / 128 + 1 < 16
  · have hn : (128 + R.val) / 128 < 16 ∧ (128 + R.val) % 128 < 128 ∧ a.val % 4 < 4 := by omega
    rw [dif_pos hn, dif_pos h]
    refine congrArg₂ f (Fin.ext ?_) (Fin.ext ?_)
    · show (128 + R.val) / 128 = R.val / 128 + 1; omega
    · show (128 + R.val) % 128 = R.val % 128; omega
  · have hn : ¬((128 + R.val) / 128 < 16 ∧ (128 + R.val) % 128 < 128 ∧ a.val % 4 < 4) := by omega
    rw [dif_neg hn, dif_neg h]

theorem resKV_stage (a : Fin 8) (R : Fin 2048) (d : Fin 64) :
    val_main_v170 (F := Ideal) x0 x1 x2 x3 x4 x5 x6 (ix3 a R d)
      = if a.val < 4 then
          (val_main_v140 (F := Ideal) x0 x1 x2 x3 x4 x5 x6 (ix5 0 (⟨R.val / 128, by omega⟩ : Fin 16) (⟨128 + R.val % 128, by omega⟩ : Fin 256) (⟨a.val % 4, by omega⟩ : Fin 4) d)
            + if h : R.val / 128 + 1 < 16 then val_main_v140 (F := Ideal) x0 x1 x2 x3 x4 x5 x6 (ix5 0 (⟨R.val / 128 + 1, h⟩ : Fin 16) (⟨R.val % 128, by omega⟩ : Fin 256) (⟨a.val % 4, by omega⟩ : Fin 4) d) else 0 : EReal)
        else
          (val_main_v112 (F := Ideal) x0 x1 x2 x3 x4 x5 x6 (ix5 0 (⟨R.val / 128, by omega⟩ : Fin 16) (⟨128 + R.val % 128, by omega⟩ : Fin 256) (⟨a.val % 4, by omega⟩ : Fin 4) d)
            + if h : R.val / 128 + 1 < 16 then val_main_v112 (F := Ideal) x0 x1 x2 x3 x4 x5 x6 (ix5 0 (⟨R.val / 128 + 1, h⟩ : Fin 16) (⟨R.val % 128, by omega⟩ : Fin 256) (⟨a.val % 4, by omega⟩ : Fin 4) d) else 0 : EReal) := by
  unfold val_main_v170 val_main_v169 val_main_v166 val_main_v165 val_main_v164 val_main_v163 val_main_v162 val_main_v160 val_main_v159 val_main_v158 val_main_v157 val_main_v156 val_main_v155 val_main_v154 val_main_v153 val_main_v152 val_main_v150 val_main_v149 val_main_v148 val_main_v147 val_main_v146 val_main_v145 val_main_cst_37 val_main_cst_36 val_main_cst_35 val_main_cst_34 val_main_cst_33 val_main_cst_32
  generalize val_main_v140 (F := Ideal) x0 x1 x2 x3 x4 x5 x6 = DK
  generalize val_main_v112 (F := Ideal) x0 x1 x2 x3 x4 x5 x6 = DV
  pointwise
  have ea : a.val % 4 < 4 := by omega
  have nK := band (fun n s => DK (ix5 0 n s (⟨a.val % 4, ea⟩ : Fin 4) d)) R a
  have nV := band (fun n s => DV (ix5 0 n s (⟨a.val % 4, ea⟩ : Fin 4) d)) R a

  by_cases ha : a.val < 4
  · have h1 : ¬((1 ≤ a.val / 4 ∧ a.val / 4 - 1 < 1) ∧ a.val % 4 < 4) := by omega
    have h2 : a.val / 4 < 1 ∧ a.val % 4 < 4 := by omega
    refine Eq.trans (congrArg₂ (· + · : EReal → EReal → EReal) (dif_neg h1) (dif_pos h2)) ?_
    rw [zero_add]
    exact nK.trans (if_pos ha).symm
  · have h1 : (1 ≤ a.val / 4 ∧ a.val / 4 - 1 < 1) ∧ a.val % 4 < 4 := by omega
    have h2 : ¬(a.val / 4 < 1 ∧ a.val % 4 < 4) := by omega
    refine Eq.trans (congrArg₂ (· + · : EReal → EReal → EReal) (dif_pos h1) (dif_neg h2)) ?_
    rw [add_zero]
    exact nV.trans (if_neg ha).symm

end Cert.Attn
end
-- ==== Proof.AttnReal.lean ====
module

public import proofs.«01_k».proof.Proof.AttnRead
public import proofs.«01_k».proof.Proof.Reals

/-!
For finite arguments the stages of the attention are real numbers, and its softmax has a real
gradient.
-/

@[expose] public section

set_option maxRecDepth 16384

noncomputable section

namespace Cert.Attn
open Idealize.ShloMosaic Idealize.ShloMosaic.TcCoe Idealize.SL.Sem
open Idealize.ShloMosaic.Pointwise
open Cert.Reference2Ideal Cert.Reference2Ideal.Gen Cert.Reference2Ideal.Read
open Cert.Reals

theorem ofBits_eighth : Ideal.ofBits FTy.f32 1040187392#32 = ((1 / 8 : ℝ) : EReal) := by
  simp [Ideal.ofBits, Ideal.ieee, -EReal.coe_mul]; norm_num

theorem ofBits_bot : Ideal.ofBits FTy.f32 4286578688#32 = ⊥ := by simp [Ideal.ofBits, Ideal.ieee]

theorem div_real (a b : ℝ) (h : b ≠ 0) : Ideal.div (a : EReal) (b : EReal) = ((a / b : ℝ) : EReal) := by
  rw [Ideal.div_coe h, ← EReal.coe_mul, mul_one_div]

theorem isR_div {x y : EReal} (hx : IsR x) (hy : IsR y) (h : y ≠ 0) : IsR (Ideal.div x y) := by
  obtain ⟨a, rfl⟩ := hx
  obtain ⟨b, rfl⟩ := hy
  exact ⟨_, div_real a b (fun e => h (by rw [e]; rfl))⟩

/-- A sum of reals times a real. -/
theorem sum_mul_real {ι : Type*} (s : Finset ι) (f : ι → EReal) (hf : ∀ i, IsR (f i)) {e : EReal} (he : IsR e) :
    (∑ i ∈ s, f i) * e = ∑ i ∈ s, f i * e := by
  obtain ⟨b, rfl⟩ := he
  choose a ha using hf
  simp only [ha, ← EReal.coe_mul, ← coe_sum, Finset.sum_mul]

/-- The negative of a sum of real products. -/
theorem neg_sum_real {ι : Type*} (s : Finset ι) (f g : ι → EReal) (hf : ∀ i, IsR (f i)) (hg : ∀ i, IsR (g i)) :
    0 - ∑ i ∈ s, f i * g i = ∑ i ∈ s, f i * (0 - g i) := by
  choose a ha using hf
  choose b hb using hg
  have z : (0 : EReal) = ((0 : ℝ) : EReal) := rfl
  simp only [ha, hb, z, ← EReal.coe_mul, ← coe_sum, ← EReal.coe_sub, zero_sub, mul_neg, Finset.sum_neg_distrib]

/-- The gradient of a quotient of exponentials by their sum, as the product rule writes it and in the
usual short form. -/
theorem softmax_grad (e p : Fin 257 → ℝ) (l : ℝ) (hl : l ≠ 0) (s : Fin 257) :
    ((Ideal.div (p s) l + -(∑ s', (p s' : EReal) * Ideal.div 1 ((l : EReal) * l) * (e s' : EReal))) * (e s : EReal) : EReal)
      = Ideal.div (e s) l * ((p s : EReal) - ∑ s', Ideal.div (e s') l * (p s' : EReal)) := by
  have o : (1 : EReal) = ((1 : ℝ) : EReal) := rfl
  have hl2 : l * l ≠ 0 := mul_ne_zero hl hl
  simp only [o, ← EReal.coe_mul, div_real _ _ hl, div_real _ _ hl2, ← coe_sum, ← EReal.coe_neg, ← EReal.coe_add, ← EReal.coe_sub]
  congr 1
  have h1 : ∑ s', p s' * (1 / (l * l)) * e s' = (∑ s', e s' * p s') / (l * l) := by
    rw [Finset.sum_div]
    exact Finset.sum_congr rfl fun i _ => by ring
  have h2 : ∑ s', e s' / l * p s' = (∑ s', e s' * p s') / l := by
    rw [Finset.sum_div]
    exact Finset.sum_congr rfl fun i _ => by ring
  rw [h1, h2]
  field_simp
  ring

theorem ofBits_real (b : BitVec 32) (h : (b.extractLsb' 23 8).toNat ≠ 255) : IsR (Ideal.ofBits FTy.f32 b) := by
  show IsR (Ideal.ieee 8 23 b)
  unfold Ideal.ieee
  simp only
  rw [if_neg (by simpa using h)]
  split_ifs <;> exact IsR.coe _

theorem ofBits_sixteen : Ideal.ofBits FTy.f32 1098907648#32 = ((16 : ℝ) : EReal) := by
  simp [Ideal.ofBits, Ideal.ieee, -EReal.coe_mul]; norm_num

theorem slope_real (h : Fin 16) : IsR (val_main_v59 (F := Ideal) (ix1 h)) := by
  unfold val_main_v59 val_main_v58 val_main_v57 val_main_v56 val_main_v55 val_main_v54 val_main_v53 val_main_v52 val_main_v51 val_main_cst_9 val_main_cst_10 val_main_cst_11 val_main_cst_12
  pointwise
  refine (ofBits_real _ (by decide)).mul (isR_div ((ofBits_real _ (by decide)).mul (IsR.one.add ⟨_, rfl⟩)) (ofBits_real _ (by decide)) ?_)
  rw [ofBits_sixteen]
  norm_num

/-- The first block looks at no keys before its own. -/
theorem early (k g : Fin 4) (r : Fin 128) (s : Fin 256) (h : s.val < 128) : val_main_v71_1 (F := Ideal) (ix6 0 0 k g r s) ≠ 1 := by
  unfold val_main_v71_1 val_main_v70 val_main_v50 val_main_v49 val_main_v48 val_main_v47 val_main_v46 val_main_v45 val_main_v44 val_main_v43 val_main_v34 val_main_v32 val_main_c_6 val_main_c_7 val_main_c_8
  generalize val_main_v42 (F := Ideal) = W
  pointwise
  generalize W (ix3 0 r s) = w
  have h1 : ∀ v : Fin 128, IntOp.cmpi CmpIPredicate.sge (IntOp.addi (IntOp.subi (IntOp.muli 0#32 128#32) 128#32) (BitVec.ofNat 32 v.val)) 0#32 = 0#1 := by
    decide +kernel
  have h2 : ∀ u : BitVec 1, IntOp.andi u 0#1 ≠ 1 := by decide
  have h3 := h1 ⟨s.val, h⟩
  rw [h3]
  exact h2 w

/-- All arguments are real numbers. -/
structure Fin7 (x0 : FVec Ideal S1x2048x1024 .f32) (x1 : FVec Ideal S1024x1024 .f32) (x2 : FVec Ideal S1024 .f32) (x3 : FVec Ideal S1024x512 .f32) (x4 : FVec Ideal S512 .f32) (x5 : FVec Ideal S16 .f32) (x6 : FVec Ideal S1x2048x1024 .f32) : Prop where
  r0 : ∀ i, IsR (x0 i)
  r1 : ∀ i, IsR (x1 i)
  r2 : ∀ i, IsR (x2 i)
  r3 : ∀ i, IsR (x3 i)
  r4 : ∀ i, IsR (x4 i)
  r5 : ∀ i, IsR (x5 i)
  r6 : ∀ i, IsR (x6 i)

variable {x0 : FVec Ideal S1x2048x1024 .f32} {x1 : FVec Ideal S1024x1024 .f32} {x2 : FVec Ideal S1024 .f32} {x3 : FVec Ideal S1024x512 .f32} {x4 : FVec Ideal S512 .f32} {x5 : FVec Ideal S16 .f32} {x6 : FVec Ideal S1x2048x1024 .f32}
  (H : Fin7 x0 x1 x2 x3 x4 x5 x6)
include H

theorem kv_real (R : Fin 2048) (b : Fin 2) (k : Fin 4) (d : Fin 64) : IsR (val_main_v5 (F := Ideal) x0 x3 x4 (ix5 0 R b k d)) := by
  unfold val_main_v5 val_main_v4 val_main_v3 val_main_v2 val_main_v1
  pointwise
  exact (IsR.sum fun i _ => (H.r0 _).mul (H.r3 _)).add (H.r4 _)

theorem qry_real (n : Fin 16) (r : Fin 128) (k g : Fin 4) (d : Fin 64) : IsR (val_main_v27 (F := Ideal) x0 x1 x2 (ix6 0 n r k g d)) := by
  unfold val_main_v27 val_main_v26 val_main_v25 val_main_v24 val_main_v0
  pointwise
  exact (IsR.sum fun i _ => (H.r0 _).mul (H.r1 _)).add (H.r2 _)

theorem do_real (n : Fin 16) (r : Fin 128) (k g : Fin 4) (d : Fin 64) : IsR (val_main_v108 (F := Ideal) x6 (ix6 0 n r k g d)) := by
  unfold val_main_v108
  pointwise
  exact H.r6 _

theorem key_real (n : Fin 16) (s : Fin 256) (k : Fin 4) (d : Fin 64) : IsR (val_main_v14 (F := Ideal) x0 x3 x4 (ix5 0 n s k d)) := by
  have h := kv_real H
  unfold val_main_v14 val_main_v13 val_main_v12 val_main_v11 val_main_v9 val_main_v8 val_main_v7 val_main_v6 val_main_cst
  generalize val_main_v5 (F := Ideal) x0 x3 x4 = z at h ⊢
  pointwise
  split_ifs
  all_goals first | exact IsR.zero | exact h _ _ _ _

theorem val_real (n : Fin 16) (s : Fin 256) (k : Fin 4) (d : Fin 64) : IsR (val_main_v23 (F := Ideal) x0 x3 x4 (ix5 0 n s k d)) := by
  have h := kv_real H
  unfold val_main_v23 val_main_v22 val_main_v21 val_main_v20 val_main_v18 val_main_v17 val_main_v16 val_main_v15 val_main_cst_1
  generalize val_main_v5 (F := Ideal) x0 x3 x4 = z at h ⊢
  pointwise
  split_ifs
  all_goals first | exact IsR.zero | exact h _ _ _ _

theorem dprob_real (n : Fin 16) (k g : Fin 4) (r : Fin 128) (s : Fin 256) : IsR (val_main_v110 (F := Ideal) x0 x3 x4 x6 (ix6 0 n k g r s)) := by
  rw [dprob_stage]
  exact IsR.sum fun d _ => (do_real H _ _ _ _ _).mul (val_real H _ _ _ _)

theorem score_real (n : Fin 16) (k g : Fin 4) (r : Fin 128) (s : Fin 256) : IsR (val_main_v69 (F := Ideal) x0 x1 x2 x3 x4 (ix6 0 n k g r s)) := by
  rw [raw_stage, ofBits_eighth]
  exact ((IsR.sum fun d _ => (key_real H _ _ _ _).mul (qry_real H _ _ _ _ _)).mul (IsR.coe _)).sub ((slope_real _).exp.mul ⟨_, rfl⟩)

/-- A masked score is minus infinity, every other one a real number. -/
theorem scoreM_real (n : Fin 16) (k g : Fin 4) (r : Fin 128) (s : Fin 257) :
    IsR (val_main_v75 (F := Ideal) x0 x1 x2 x3 x4 x5 (ix6 0 n k g r s)) ∨ val_main_v75 (F := Ideal) x0 x1 x2 x3 x4 x5 (ix6 0 n k g r s) = ⊥ := by
  by_cases h : s.val < 256
  · rw [show s = (⟨(⟨s.val, h⟩ : Fin 256).val, by omega⟩ : Fin 257) from rfl, masked_stage, ofBits_bot]
    unfold Scalar.select
    split_ifs
    · exact Or.inl (score_real H _ _ _ _ _)
    · exact Or.inr rfl
  · rw [show s = 256 from Fin.ext (by show s.val = 256; omega), sink_stage]
    exact Or.inl (H.r5 _)

theorem top_real (n : Fin 16) (k g : Fin 4) (r : Fin 128) : IsR (val_main_v83 (F := Ideal) x0 x1 x2 x3 x4 x5 (ix5 0 n k g r)) := by
  rw [top_stage, max_stage, ofBits_bot]
  have hs : IsR (val_main_v75 (F := Ideal) x0 x1 x2 x3 x4 x5 (ix6 0 n k g r 256)) := by
    rw [sink_stage]; exact H.r5 _
  have hz := scoreM_real H n k g r
  have hlt : (max ⊥ ((Finset.univ : Finset (Fin 257)).fold max ⊥ fun s => val_main_v75 (F := Ideal) x0 x1 x2 x3 x4 x5 (ix6 0 n k g r s)) : EReal) < ⊤ := by
    refine max_lt bot_lt_top ((Finset.fold_max_lt _).2 ⟨bot_lt_top, fun s _ => ?_⟩)
    rcases hz s with ⟨a, e⟩ | e
    · rw [e]; exact EReal.coe_lt_top a
    · rw [e]; exact bot_lt_top
  have hgt : ⊥ < (max ⊥ ((Finset.univ : Finset (Fin 257)).fold max ⊥ fun s => val_main_v75 (F := Ideal) x0 x1 x2 x3 x4 x5 (ix6 0 n k g r s)) : EReal) := by
    refine lt_of_lt_of_le ((Finset.lt_fold_max _).2 (Or.inr ⟨256, Finset.mem_univ _, ?_⟩)) (le_max_right _ _)
    obtain ⟨a, e⟩ := hs
    rw [e]; exact EReal.bot_lt_coe a
  exact ⟨_, (EReal.coe_toReal hlt.ne hgt.ne').symm⟩

/-- The exponentials of a row: nonnegative reals, the sink's positive. -/
theorem exps (n : Fin 16) (k g : Fin 4) (r : Fin 128) : ∃ e : Fin 257 → ℝ,
    (∀ s, val_main_v96 (F := Ideal) x0 x1 x2 x3 x4 x5 (ix6 0 n k g r s) = (e s : EReal)) ∧ 0 < ∑ s, e s := by
  obtain ⟨M, hM⟩ := top_real H n k g r
  have hz := scoreM_real H n k g r
  have h1 : ∀ s, ∃ a : ℝ, 0 ≤ a ∧ val_main_v96 (F := Ideal) x0 x1 x2 x3 x4 x5 (ix6 0 n k g r s) = (a : EReal) := fun s => by
    rw [exp_stage, hM]
    rcases hz s with ⟨a, e⟩ | e
    · rw [e]; exact ⟨Real.exp (a - M), (Real.exp_pos _).le, rfl⟩
    · rw [e, EReal.bot_sub]; exact ⟨0, le_rfl, rfl⟩
  choose e he using h1
  refine ⟨e, fun s => (he s).2, Finset.sum_pos' (fun s _ => (he s).1) ⟨256, Finset.mem_univ _, ?_⟩⟩
  have h2 := (he 256).2
  obtain ⟨a, ea⟩ := H.r5 (ix1 (⟨k.val * 4 + g.val, by omega⟩ : Fin 16))
  rw [exp_stage, hM, sink_stage, ea] at h2
  have h3 : ((Real.exp (a - M) : ℝ) : EReal) = (e 256 : EReal) := h2
  rw [← EReal.coe_eq_coe_iff.1 h3]
  exact Real.exp_pos _

theorem probs_real (n : Fin 16) (k g : Fin 4) (r : Fin 128) (s : Fin 257) : IsR (val_main_v100 (F := Ideal) x0 x1 x2 x3 x4 x5 (ix6 0 n k g r s)) := by
  obtain ⟨e, he, hp⟩ := exps H n k g r
  rw [soft_stage, sum_stage]
  simp only [he, ← coe_sum]
  exact ⟨_, div_real _ _ hp.ne'⟩

/-- Nothing of a masked key enters the softmax. -/
theorem probs_masked (n : Fin 16) (k g : Fin 4) (r : Fin 128) (s : Fin 256) (h : val_main_v71_1 (F := Ideal) (ix6 0 n k g r s) ≠ 1) :
    val_main_v100 (F := Ideal) x0 x1 x2 x3 x4 x5 (ix6 0 n k g r ⟨s.val, by omega⟩) = 0 := by
  obtain ⟨e, he, hp⟩ := exps H n k g r
  obtain ⟨M, hM⟩ := top_real H n k g r
  have h1 : val_main_v96 (F := Ideal) x0 x1 x2 x3 x4 x5 (ix6 0 n k g r (⟨s.val, by omega⟩ : Fin 257)) = 0 := by
    rw [exp_stage, masked_stage, ofBits_bot, hM]
    unfold Scalar.select
    rw [if_neg h, EReal.bot_sub]
    rfl
  rw [soft_stage, h1, sum_stage]
  simp only [he, ← coe_sum]
  rw [Ideal.div_coe hp.ne', zero_mul]

/-- The sum of the probabilities times their cotangents. -/
def ddR (x0 : FVec Ideal S1x2048x1024 .f32) (x1 : FVec Ideal S1024x1024 .f32) (x2 : FVec Ideal S1024 .f32) (x3 : FVec Ideal S1024x512 .f32) (x4 : FVec Ideal S512 .f32) (x5 : FVec Ideal S16 .f32) (x6 : FVec Ideal S1x2048x1024 .f32) (n : Fin 16) (k g : Fin 4) (r : Fin 128) : EReal :=
  ∑ s : Fin 256, val_main_v100 (F := Ideal) x0 x1 x2 x3 x4 x5 (ix6 0 n k g r ⟨s.val, by omega⟩) * val_main_v110 (F := Ideal) x0 x3 x4 x6 (ix6 0 n k g r s)

/-- The gradient of a score. -/
def dsR (x0 : FVec Ideal S1x2048x1024 .f32) (x1 : FVec Ideal S1024x1024 .f32) (x2 : FVec Ideal S1024 .f32) (x3 : FVec Ideal S1024x512 .f32) (x4 : FVec Ideal S512 .f32) (x5 : FVec Ideal S16 .f32) (x6 : FVec Ideal S1x2048x1024 .f32) (n : Fin 16) (k g : Fin 4) (r : Fin 128) (s : Fin 256) : EReal :=
  val_main_v100 (F := Ideal) x0 x1 x2 x3 x4 x5 (ix6 0 n k g r ⟨s.val, by omega⟩) * (val_main_v110 (F := Ideal) x0 x3 x4 x6 (ix6 0 n k g r s) - ddR x0 x1 x2 x3 x4 x5 x6 n k g r)

theorem ddR_real (n : Fin 16) (k g : Fin 4) (r : Fin 128) : IsR (ddR x0 x1 x2 x3 x4 x5 x6 n k g r) :=
  IsR.sum fun _ _ => (probs_real H _ _ _ _ _).mul (dprob_real H _ _ _ _ _)

theorem dsR_real (n : Fin 16) (k g : Fin 4) (r : Fin 128) (s : Fin 256) : IsR (dsR x0 x1 x2 x3 x4 x5 x6 n k g r s) :=
  (probs_real H _ _ _ _ _).mul ((dprob_real H _ _ _ _ _).sub (ddR_real H _ _ _ _))

theorem soft_eq (n : Fin 16) (k g : Fin 4) (r : Fin 128) (s : Fin 257) :
    val_main_v126 (F := Ideal) x0 x1 x2 x3 x4 x5 x6 (ix6 0 n k g r s)
      = val_main_v100 (F := Ideal) x0 x1 x2 x3 x4 x5 (ix6 0 n k g r s) * (dprob x0 x3 x4 x6 n k g r s - ddR x0 x1 x2 x3 x4 x5 x6 n k g r) := by
  obtain ⟨e, he, hp⟩ := exps H n k g r
  have h1 : ∀ s, ∃ p : ℝ, dprob x0 x3 x4 x6 n k g r s = (p : EReal) := fun s => by
    unfold dprob
    split_ifs with h
    · exact dprob_real H n k g r ⟨s.val, h⟩
    · exact IsR.zero
  choose p hp1 using h1
  have h2 : ddR x0 x1 x2 x3 x4 x5 x6 n k g r = ∑ s' : Fin 257, Ideal.div (e s') ((∑ s, e s : ℝ) : EReal) * (p s' : EReal) := by
    rw [Fin.sum_univ_castSucc]
    have h3 : (p (Fin.last 256) : EReal) = 0 := by
      rw [← hp1]; unfold dprob; rw [dif_neg (by decide)]
    rw [h3, mul_zero, add_zero]
    unfold ddR
    refine Finset.sum_congr rfl fun s' _ => ?_
    rw [← hp1, soft_stage, sum_stage]
    simp only [he, ← coe_sum]
    refine congrArg₂ (· * · : EReal → EReal → EReal) rfl ?_
    have h4 : (s'.castSucc : Fin 257).val < 256 := s'.isLt
    unfold dprob
    rw [dif_pos h4]
    rfl
  rw [h2, dscore_stage, soft_stage, sum_stage]
  simp only [he, ← coe_sum, hp1]
  exact softmax_grad e p _ hp.ne' s

theorem score_grad (n : Fin 16) (k g : Fin 4) (r : Fin 128) (s : Fin 256) :
    val_main_v135 (F := Ideal) x0 x1 x2 x3 x4 x5 x6 (ix6 0 n k g r s) = dsR x0 x1 x2 x3 x4 x5 x6 n k g r s * Ideal.ofBits FTy.f32 1040187392#32 := by
  have e : val_main_v126 (F := Ideal) x0 x1 x2 x3 x4 x5 x6 (ix6 0 n k g r (⟨s.val, by omega⟩ : Fin 257)) = dsR x0 x1 x2 x3 x4 x5 x6 n k g r s := by
    rw [soft_eq H]
    unfold dprob dsR
    rw [dif_pos s.isLt]
  rw [dscoreM_stage, e]
  unfold Scalar.select
  split_ifs with h
  · rfl
  · unfold dsR
    rw [probs_masked H _ _ _ _ _ h, zero_mul, zero_mul]

theorem sink_grad (n : Fin 16) (k g : Fin 4) (r : Fin 128) :
    val_main_v126 (F := Ideal) x0 x1 x2 x3 x4 x5 x6 (ix6 0 n k g r 256)
      = val_main_v100 (F := Ideal) x0 x1 x2 x3 x4 x5 (ix6 0 n k g r 256) * (0 - ddR x0 x1 x2 x3 x4 x5 x6 n k g r) := by
  rw [soft_eq H]
  unfold dprob
  rw [dif_neg (by decide)]

end Cert.Attn
end
-- ==== Proof.AttnOps.lean ====
/-
  The attention gradient's body as a composition of a few operations on vectors: what it computes from the blocks of a
  point, and that both of its runs store exactly that.
-/
module

public import proofs.«01_k».proof.Proof.AttnRunFirst
public import proofs.«01_k».proof.Proof.AttnRunLater

@[expose] public section

set_option maxRecDepth 16384

noncomputable section

namespace Cert.Kernel2Ideal.Hand

open Cert.Kernel2Ideal Cert.Kernel2Ideal.Gen
open Idealize.ShloMosaic Idealize.ShloMosaic.TcCoe Idealize.SL.Sem

variable {F : FTy → Type} [FloatOps F]

/-- What a point loads, head by head: query rows, the current and the previous block's keys (0–3) and values (4–7),
    probabilities, and the incoming gradient of two heads at a time. -/
structure Loads (F : FTy → Type) [FloatOps F] where
  q : Fin 16 → Vec F S1x128x64 .bf16
  cur : Fin 8 → Vec F S1x128x64 .bf16
  prev : Fin 8 → Vec F S1x128x64 .bf16
  p : Fin 16 → Vec F S1x128x256 .bf16
  d : Fin 8 → Vec F S128x128 .bf16

/-- The query head `g` of key head `k`, the value head of `k`, and the pair `i` of query heads of `k`. -/
def qh (k g : Fin 4) : Fin 16 := ⟨4 * k.val + g.val, by omega⟩
def kh (k : Fin 4) : Fin 8 := ⟨k.val, by omega⟩
def vh (k : Fin 4) : Fin 8 := ⟨4 + k.val, by omega⟩
def pr (k : Fin 4) (i : Fin 2) : Fin 8 := ⟨2 * k.val + i.val, by omega⟩

namespace Loads

variable (l : Loads F)

/-- Keys of head `k`, placed in the lower half of the lanes or in the upper. -/
def kLow (k : Fin 4) : FVec F S256x128 .bf16 := k0_pay37 k0_pay4 (l.prev (kh k)) (l.cur (kh k))
def kHigh (k : Fin 4) : FVec F S256x128 .bf16 := k0_pay37 k0_pay5 (l.prev (kh k)) (l.cur (kh k))

/-- The gradient of the probabilities of the even and of the odd head of pair `i`. -/
def dpE (k : Fin 4) (i : Fin 2) : FVec F S128x256 .f32 := k0_pay41 k0_pay4 (l.prev (vh k)) (l.cur (vh k)) (l.d (pr k i))
def dpO (k : Fin 4) (i : Fin 2) : FVec F S128x256 .f32 := k0_pay41 k0_pay5 (l.prev (vh k)) (l.cur (vh k)) (l.d (pr k i))

/-- The gradient of the probabilities by head. -/
def dp (k : Fin 4) : Fin 4 → FVec F S128x256 .f32
  | 0 => l.dpE k 0
  | 1 => l.dpO k 0
  | 2 => l.dpE k 1
  | 3 => l.dpO k 1

/-- The gradient of the scores. -/
def ds (k g : Fin 4) : FVec F S128x256 .bf16 := k0_pay22 (l.dp k g) (l.p (qh k g))

/-- One head's row products added to the lane of that head. -/
def dotStep (b : BitVec 32) (acc : FVec F S128x128 .f32) (k g : Fin 4) : FVec F S128x128 .f32 :=
  addf acc (select (broadcastTo S128x128 (shapeCast S1x128 (cmpi .eq (iota .tc S1x128 32 [1] iota_S1x128_d1_w32) (broadcast S1x128 b)) shapeCasts_S1x128_S1x128) broadcasts_S1x128_S128x128)
    (broadcastTo S128x128 (shapeCast S128x1 (k0_pay21 (l.dp k g) (l.p (qh k g))) shapeCasts_S128x1_S128x1) broadcasts_S128x1_S128x128)
    (broadcast S128x128 (Scalar.ofBits .f32 0x00000000#32)))

/-- The row products of all heads, each in its lane. -/
def dots : FVec F S128x128 .f32 :=
  l.dotStep 15#32 (l.dotStep 14#32 (l.dotStep 13#32 (l.dotStep 12#32 (l.dotStep 11#32 (l.dotStep 10#32 (l.dotStep 9#32 (l.dotStep 8#32
    (l.dotStep 7#32 (l.dotStep 6#32 (l.dotStep 5#32 (l.dotStep 4#32 (l.dotStep 3#32 (l.dotStep 2#32 (l.dotStep 1#32 (l.dotStep 0#32
      k0_pay6 0 0) 0 1) 0 2) 0 3) 1 0) 1 1) 1 2) 1 3) 2 0) 2 1) 2 2) 2 3) 3 0) 3 1) 3 2) 3 3

/-- The gradient of the query rows of pair `i`. -/
def dq (k : Fin 4) : Fin 2 → FVec F S128x128 .f32
  | 0 => k0_pay47 (l.kLow k) (l.kHigh k) (l.ds k 0) (l.ds k 1)
  | 1 => k0_pay47 (l.kLow k) (l.kHigh k) (l.ds k 2) (l.ds k 3)

/-- The gradient of head `k`'s keys in both blocks, -/
def dk (k : Fin 4) : FVec F S256x64 .f32 :=
  k0_pay96 (l.ds k 0) (l.ds k 1) (l.ds k 2) (l.ds k 3) (l.q (qh k 0)) (l.q (qh k 1)) (l.q (qh k 2)) (l.q (qh k 3))

/-- and of its values. -/
def dv (k : Fin 4) : FVec F S256x64 .f32 :=
  k0_pay55 (k0_pay45 (l.p (qh k 0)) (l.d (pr k 0)) (l.p (qh k 2)) (l.d (pr k 1)))
    (k0_pay45 (l.p (qh k 1)) (l.d (pr k 0)) (l.p (qh k 3)) (l.d (pr k 1)))

end Loads

/-- A store that adds to what it finds in its rectangle. -/
structure Step (F : FTy → Type) [FloatOps F] (s : Shape) where
  off : Fin s.rank → ℕ
  size : Fin s.rank → ℕ
  inb : ∀ a, off a + size a ≤ s.size a
  pay : Vec F ⟨s.rank, size⟩ .f32 → Vec F ⟨s.rank, size⟩ .f32

/-- The pieces such stores leave one after the other, the last first, over the contents `g`, which the pieces `L` left over `f`. -/
def accs {sg : RefSig} {κ : Kind} {sp : Space} {s : Shape} (v : View sg κ sp s .f32) (f : v.ty.Contents (Elt F)) :
    List (Step F s) → v.ty.Contents (Elt F) → List (View.Piece (Elt F) s .f32) → List (View.Piece (Elt F) s .f32)
  | [], _, L => L
  | t :: ts, g, L =>
      accs v f ts (v.writes (Elt F) f (⟨Rect.unit t.off t.size t.inb, t.pay (v.readAt (Elt F) (Rect.unit t.off t.size t.inb).toLoadRect g)⟩ :: L))
        (⟨Rect.unit t.off t.size t.inb, t.pay (v.readAt (Elt F) (Rect.unit t.off t.size t.inb).toLoadRect g)⟩ :: L)

/-- The same where the stores come in pairs and the first of each pair adds to what `f` held from the start. -/
def accs2 {sg : RefSig} {κ : Kind} {sp : Space} {s : Shape} (v : View sg κ sp s .f32) (f : v.ty.Contents (Elt F)) :
    List (Step F s × Step F s) → List (View.Piece (Elt F) s .f32) → List (View.Piece (Elt F) s .f32)
  | [], L => L
  | (t, u) :: ts, L =>
      accs2 v f ts (⟨Rect.unit u.off u.size u.inb, u.pay (v.readAt (Elt F) (Rect.unit u.off u.size u.inb).toLoadRect (v.writes (Elt F) f
          (⟨Rect.unit t.off t.size t.inb, t.pay (v.readAt (Elt F) (Rect.unit t.off t.size t.inb).toLoadRect f)⟩ :: L)))⟩
        :: ⟨Rect.unit t.off t.size t.inb, t.pay (v.readAt (Elt F) (Rect.unit t.off t.size t.inb).toLoadRect f)⟩ :: L)

/-- A list in pairs. -/
def pairs {α : Type*} : List α → List (α × α)
  | a :: b :: l => (a, b) :: pairs l
  | _ => []

/-- Adding the upper or the lower half of a gradient of two blocks of rows. -/
def addLow (X : FVec F S256x64 .f32) (w : Vec F S1x128x64 .f32) : Vec F S1x128x64 .f32 := k0_pay59 X w
def addHigh (X : FVec F S256x64 .f32) (w : Vec F S1x128x64 .f32) : Vec F S1x128x64 .f32 := k0_pay60 X w

theorem inbQ (h : Fin 16) : ∀ a, (![h.val, 0, 0] : Fin 3 → ℕ) a + S1x128x64.size a ≤ S16x128x64.size a := by
  revert h; decide
theorem inbK (h : Fin 8) : ∀ a, (![h.val, 0, 0] : Fin 3 → ℕ) a + S1x128x64.size a ≤ S8x128x64.size a := by
  revert h; decide
theorem inbP (h : Fin 16) : ∀ a, (![h.val, 0, 0] : Fin 3 → ℕ) a + S1x128x256.size a ≤ S16x128x256.size a := by
  revert h; decide
theorem inbD (j : Fin 8) : ∀ a, (![0, 128 * j.val] : Fin 2 → ℕ) a + S128x128.size a ≤ S128x1024.size a := by
  revert j; decide

/-- The stores into the gradient of keys and values, -/
def steps7 (i : grid0.Coords) (l : Loads F) : List (Step F S8x2048x64) :=
  [⟨k0_off1 i, S1x128x64.size, k0_off1_inb i, addLow (l.dk 0)⟩,
   ⟨k0_off2 i, S1x128x64.size, k0_off2_inb i, addHigh (l.dk 0)⟩,
   ⟨k0_off3 i, S1x128x64.size, k0_off3_inb i, addLow (l.dv 0)⟩,
   ⟨k0_off4 i, S1x128x64.size, k0_off4_inb i, addHigh (l.dv 0)⟩,
   ⟨k0_off5 i, S1x128x64.size, k0_off5_inb i, addLow (l.dk 1)⟩,
   ⟨k0_off6 i, S1x128x64.size, k0_off6_inb i, addHigh (l.dk 1)⟩,
   ⟨k0_off7 i, S1x128x64.size, k0_off7_inb i, addLow (l.dv 1)⟩,
   ⟨k0_off8 i, S1x128x64.size, k0_off8_inb i, addHigh (l.dv 1)⟩,
   ⟨k0_off9 i, S1x128x64.size, k0_off9_inb i, addLow (l.dk 2)⟩,
   ⟨k0_off10 i, S1x128x64.size, k0_off10_inb i, addHigh (l.dk 2)⟩,
   ⟨k0_off11 i, S1x128x64.size, k0_off11_inb i, addLow (l.dv 2)⟩,
   ⟨k0_off12 i, S1x128x64.size, k0_off12_inb i, addHigh (l.dv 2)⟩,
   ⟨k0_off13 i, S1x128x64.size, k0_off13_inb i, addLow (l.dk 3)⟩,
   ⟨k0_off14 i, S1x128x64.size, k0_off14_inb i, addHigh (l.dk 3)⟩,
   ⟨k0_off15 i, S1x128x64.size, k0_off15_inb i, addLow (l.dv 3)⟩,
   ⟨k0_off16 i, S1x128x64.size, k0_off16_inb i, addHigh (l.dv 3)⟩]

/-- the stores into the gradient of the query bias, -/
def steps8 (l : Loads F) : List (Step F S1x1024) :=
  [⟨![0, 0], ![1, 128], inb_S1x1024_S1x128_0_0, k0_pay49 (l.kLow 0) (l.kHigh 0) (l.ds 0 0) (l.ds 0 1)⟩,
   ⟨![0, 128], ![1, 128], inb_S1x1024_S1x128_0_128, k0_pay49 (l.kLow 0) (l.kHigh 0) (l.ds 0 2) (l.ds 0 3)⟩,
   ⟨![0, 256], ![1, 128], inb_S1x1024_S1x128_0_256, k0_pay49 (l.kLow 1) (l.kHigh 1) (l.ds 1 0) (l.ds 1 1)⟩,
   ⟨![0, 384], ![1, 128], inb_S1x1024_S1x128_0_384, k0_pay49 (l.kLow 1) (l.kHigh 1) (l.ds 1 2) (l.ds 1 3)⟩,
   ⟨![0, 512], ![1, 128], inb_S1x1024_S1x128_0_512, k0_pay49 (l.kLow 2) (l.kHigh 2) (l.ds 2 0) (l.ds 2 1)⟩,
   ⟨![0, 640], ![1, 128], inb_S1x1024_S1x128_0_640, k0_pay49 (l.kLow 2) (l.kHigh 2) (l.ds 2 2) (l.ds 2 3)⟩,
   ⟨![0, 768], ![1, 128], inb_S1x1024_S1x128_0_768, k0_pay49 (l.kLow 3) (l.kHigh 3) (l.ds 3 0) (l.ds 3 1)⟩,
   ⟨![0, 896], ![1, 128], inb_S1x1024_S1x128_0_896, k0_pay49 (l.kLow 3) (l.kHigh 3) (l.ds 3 2) (l.ds 3 3)⟩]

/-- and the pieces of the gradient of the query rows. -/
def pieces6 (l : Loads F) : List (View.Piece (Elt F) S128x1024 .bf16) :=
  [⟨Rect.unit ![0, 896] ![128, 128] inb_S128x1024_S128x128_0_896, truncf .bf16 (l.dq 3 1) bitsLt_bf16_f32⟩,
   ⟨Rect.unit ![0, 768] ![128, 128] inb_S128x1024_S128x128_0_768, truncf .bf16 (l.dq 3 0) bitsLt_bf16_f32⟩,
   ⟨Rect.unit ![0, 640] ![128, 128] inb_S128x1024_S128x128_0_640, truncf .bf16 (l.dq 2 1) bitsLt_bf16_f32⟩,
   ⟨Rect.unit ![0, 512] ![128, 128] inb_S128x1024_S128x128_0_512, truncf .bf16 (l.dq 2 0) bitsLt_bf16_f32⟩,
   ⟨Rect.unit ![0, 384] ![128, 128] inb_S128x1024_S128x128_0_384, truncf .bf16 (l.dq 1 1) bitsLt_bf16_f32⟩,
   ⟨Rect.unit ![0, 256] ![128, 128] inb_S128x1024_S128x128_0_256, truncf .bf16 (l.dq 1 0) bitsLt_bf16_f32⟩,
   ⟨Rect.unit ![0, 128] ![128, 128] inb_S128x1024_S128x128_0_128, truncf .bf16 (l.dq 0 1) bitsLt_bf16_f32⟩,
   ⟨Rect.unit ![0, 0] ![128, 128] inb_S128x1024_S128x128_0_0, truncf .bf16 (l.dq 0 0) bitsLt_bf16_f32⟩]

/-- A point's loads of its blocks. -/
def loads (a1 : Memref sig .tc .vmem S16x128x64 .bf16) (h1 : a1.IsWhole)
    (a2 : Memref sig .tc .vmem S8x128x64 .bf16) (h2 : a2.IsWhole) (a3 : Memref sig .tc .vmem S8x128x64 .bf16) (h3 : a3.IsWhole)
    (a4 : Memref sig .tc .vmem S16x128x256 .bf16) (h4 : a4.IsWhole) (a6 : Memref sig .tc .vmem S128x1024 .bf16) (h6 : a6.IsWhole)
    (x0 : Vec F S16x128x64 .bf16) (x1 x2 : Vec F S8x128x64 .bf16) (x3 : Vec F S16x128x256 .bf16) (x5 : Vec F S128x1024 .bf16) : Loads F where
  q h := View.readAt (Elt F) a1.view (Rect.unit (s := S16x128x64) ![h.val, 0, 0] S1x128x64.size (inbQ h)).toLoadRect (h1.unread x0)
  cur h := View.readAt (Elt F) a2.view (Rect.unit (s := S8x128x64) ![h.val, 0, 0] S1x128x64.size (inbK h)).toLoadRect (h2.unread x1)
  prev h := View.readAt (Elt F) a3.view (Rect.unit (s := S8x128x64) ![h.val, 0, 0] S1x128x64.size (inbK h)).toLoadRect (h3.unread x2)
  p h := View.readAt (Elt F) a4.view (Rect.unit (s := S16x128x256) ![h.val, 0, 0] S1x128x256.size (inbP h)).toLoadRect (h4.unread x3)
  d j := View.readAt (Elt F) a6.view (Rect.unit (s := S128x1024) ![0, 128 * j.val] S128x128.size (inbD j)).toLoadRect (h6.unread x5)

end Cert.Kernel2Ideal.Hand
end
-- ==== Proof.AttnAccum.lean ====
/- What stores that add to their rectangles leave: what was there, and each store's contribution. -/
module

public import proofs.«01_k».proof.Proof.AttnOps
public import Idealize.ShloMosaic.Lib.WritesUnit
public import Idealize.ShloMosaic.Lib.Pointwise

@[expose] public section

set_option maxRecDepth 16384

noncomputable section

namespace Cert.Kernel2Ideal.Hand

open Idealize.ShloMosaic Idealize.ShloMosaic.TcCoe Idealize.SL.Sem

variable {s : Shape}

/-- The indices of a store's rectangle. -/
def Step.win (t : Step Ideal s) (y : s.Idx) : Prop := ∀ a, t.off a ≤ (y a).val ∧ (y a).val < t.off a + t.size a

/-- A store adds when it leaves what it found plus what it would leave over zero. -/
def Step.Adds (t : Step Ideal s) : Prop := ∀ w x, t.pay w x = (w x + t.pay (fun _ => (0 : EReal)) x : EReal)

open Classical in
/-- What it adds at an index. -/
def Step.contrib (t : Step Ideal s) (y : s.Idx) : EReal :=
  if h : t.win y then t.pay (fun _ => (0 : EReal)) (Rect.unitLocal (s := s) (off := t.off) (size := t.size) y h) else 0

theorem Step.contrib_of_win (t : Step Ideal s) (y : s.Idx) (h : t.win y) :
    t.contrib y = t.pay (fun _ => (0 : EReal)) (Rect.unitLocal (s := s) (off := t.off) (size := t.size) y h) := dif_pos h
theorem Step.contrib_of_not_win (t : Step Ideal s) (y : s.Idx) (h : ¬ t.win y) : t.contrib y = 0 := dif_neg h

variable {sg : RefSig} {κ : Kind} {sp : Space} (v : View sg κ sp s .f32) (f : v.ty.Contents (Elt Ideal))

theorem read_add (g : v.ty.Contents (Elt Ideal)) (t : Step Ideal s) (L : List (View.Piece (Elt Ideal) s .f32)) (ha : t.Adds)
    (y : s.Idx) (hg : t.win y → v.read (Elt Ideal) g y = v.read (Elt Ideal) (v.writes (Elt Ideal) f L) y) :
    v.read (Elt Ideal) (v.writes (Elt Ideal) f (⟨Rect.unit t.off t.size t.inb, t.pay (v.readAt (Elt Ideal) (Rect.unit t.off t.size t.inb).toLoadRect g)⟩ :: L)) y
      = (v.read (Elt Ideal) (v.writes (Elt Ideal) f L) y + t.contrib y : EReal) := by
  rw [View.read_writes_cons_unit v f t.inb _ L y rfl]
  by_cases h : ∀ a, t.off a ≤ (y a).val ∧ (y a).val < t.off a + t.size a
  · refine (dif_pos h).trans ?_
    rw [t.contrib_of_win y h]
    refine (ha _ _).trans ?_
    rw [← hg h]
    refine congrArg (· + _ : EReal → EReal) ?_
    rw [View.readAt_apply]
    congr 1
    funext a; apply Fin.ext
    show t.off a + 1 * (Rect.unitLocal (s := s) (off := t.off) (size := t.size) y h a).val = (y a).val
    rw [Rect.unitLocal_val]
    have := h a; omega
  · refine (dif_neg h).trans ?_
    rw [t.contrib_of_not_win y h]
    exact (add_zero _).symm

theorem read_accs : ∀ (ts : List (Step Ideal s)) (g : v.ty.Contents (Elt Ideal)) (L : List (View.Piece (Elt Ideal) s .f32)),
    (∀ t ∈ ts, t.Adds) → (∀ y, v.read (Elt Ideal) g y = v.read (Elt Ideal) (v.writes (Elt Ideal) f L) y) → ∀ y,
    v.read (Elt Ideal) (v.writes (Elt Ideal) f (accs v f ts g L)) y
      = (v.read (Elt Ideal) (v.writes (Elt Ideal) f L) y + (ts.map fun t => t.contrib y).sum : EReal)
  | [], g, L, _, _, y => by simp [accs]
  | t :: ts, g, L, ha, hg, y => by
      unfold accs
      rw [read_accs ts _ _ (fun u hu => ha u (List.mem_cons_of_mem _ hu)) (fun _ => rfl) y,
        read_add v f g t L (ha t List.mem_cons_self) y fun _ => hg y, List.map_cons, List.sum_cons, add_assoc]

theorem read_accs2 : ∀ (ts : List (Step Ideal s × Step Ideal s)) (L : List (View.Piece (Elt Ideal) s .f32)),
    (∀ t ∈ ts, t.1.Adds ∧ t.2.Adds) →
    ts.Pairwise (fun t u => ∀ y, u.1.win y → ¬ t.1.win y ∧ ¬ t.2.win y) →
    (∀ t ∈ ts, ∀ y, t.1.win y → v.read (Elt Ideal) f y = v.read (Elt Ideal) (v.writes (Elt Ideal) f L) y) → ∀ y,
    v.read (Elt Ideal) (v.writes (Elt Ideal) f (accs2 v f ts L)) y
      = (v.read (Elt Ideal) (v.writes (Elt Ideal) f L) y + (ts.map fun t => t.1.contrib y + t.2.contrib y).sum : EReal)
  | [], L, _, _, _, y => by simp [accs2]
  | (t, u) :: ts, L, ha, hp, hg, y => by
      have e : ∀ y, v.read (Elt Ideal) (v.writes (Elt Ideal) f (⟨Rect.unit u.off u.size u.inb, u.pay (v.readAt (Elt Ideal) (Rect.unit u.off u.size u.inb).toLoadRect (v.writes (Elt Ideal) f
          (⟨Rect.unit t.off t.size t.inb, t.pay (v.readAt (Elt Ideal) (Rect.unit t.off t.size t.inb).toLoadRect f)⟩ :: L)))⟩
        :: ⟨Rect.unit t.off t.size t.inb, t.pay (v.readAt (Elt Ideal) (Rect.unit t.off t.size t.inb).toLoadRect f)⟩ :: L)) y
          = (v.read (Elt Ideal) (v.writes (Elt Ideal) f L) y + (t.contrib y + u.contrib y) : EReal) := fun y => by
        rw [read_add v f _ u _ (ha _ List.mem_cons_self).2 y fun _ => rfl,
          read_add v f f t L (ha _ List.mem_cons_self).1 y (hg _ List.mem_cons_self y), add_assoc]
      obtain ⟨hp1, hp2⟩ := List.pairwise_cons.mp hp
      unfold accs2
      rw [read_accs2 ts _ (fun w hw => ha w (List.mem_cons_of_mem _ hw)) hp2 ?_ y, e, List.map_cons, List.sum_cons, add_assoc]
      intro w hw y hy
      obtain ⟨n1, n2⟩ := hp1 w hw y hy
      rw [e, ← hg w (List.mem_cons_of_mem _ hw) y hy]
      rw [Step.contrib_of_not_win _ _ n1, Step.contrib_of_not_win _ _ n2, add_zero, add_zero]

end Cert.Kernel2Ideal.Hand
end
-- ==== Proof.AttnPoint.lean ====
/-
  The attention gradient's operations on vectors over the extended reals, element by element: what one point adds, as
  sums over the rows, keys and lanes it loads.
-/
module

public import proofs.«01_k».proof.Proof.AttnOps
public import proofs.«01_k».proof.Proof.Reals
public import Idealize.ShloMosaic.Lib.Pointwise

@[expose] public section

set_option maxRecDepth 16384

noncomputable section

namespace Cert.Kernel2Ideal.Hand

open Cert.Kernel2Ideal Cert.Kernel2Ideal.Gen
open Idealize.ShloMosaic Idealize.ShloMosaic.TcCoe Idealize.SL.Sem
open Idealize.ShloMosaic.Pointwise

/-- One eighth, as the programs spell it. -/
def eighth : EReal := Ideal.ofBits FTy.f32 1040187392#32

/-- Row `s` of the previous block's 128 rows followed by the current block's. -/
def rows (p c : Vec Ideal S1x128x64 .bf16) (s : Fin 256) (d : Fin 64) : EReal :=
  if h : s.val < 128 then p (ix3 0 ⟨s.val, h⟩ d) else c (ix3 0 ⟨s.val - 128, by omega⟩ d)

/-! The two placements: a one in lane `d`, or in lane `64 + d`. -/

theorem pay4_apply (d : Fin 64) (l : Fin 128) : k0_pay4 (F := Ideal) (ix2 d l) = (if l.val = d.val then 1 else 0 : EReal) := by
  pointwise [k0_pay4]
  have e : IntOp.cmpi CmpIPredicate.eq (BitVec.ofNat 32 l.val) (IntOp.addi (BitVec.ofNat 32 d.val) 0#32) = if l.val = d.val then 1#1 else 0#1 := by
    revert d l; decide +kernel
  rw [e]
  split
  · show ((((1 : ℤ)) : ℝ) : EReal) = 1
    norm_num
  · show ((((0 : ℤ)) : ℝ) : EReal) = 0
    norm_num

theorem pay5_apply (d : Fin 64) (l : Fin 128) : k0_pay5 (F := Ideal) (ix2 d l) = (if l.val = d.val + 64 then 1 else 0 : EReal) := by
  pointwise [k0_pay5]
  have e : IntOp.cmpi CmpIPredicate.eq (BitVec.ofNat 32 l.val) (IntOp.addi (BitVec.ofNat 32 d.val) 64#32) = if l.val = d.val + 64 then 1#1 else 0#1 := by
    revert d l; decide +kernel
  rw [e]
  split
  · show ((((1 : ℤ)) : ℝ) : EReal) = 1
    norm_num
  · show ((((0 : ℤ)) : ℝ) : EReal) = 0
    norm_num

/-- A sum against a one in one place. -/
theorem sum_one (f : Fin 64 → EReal) (P : Fin 64 → Prop) [DecidablePred P] (d : Fin 64) (hd : ∀ x, P x ↔ x = d) :
    ∑ x, f x * (if P x then 1 else 0 : EReal) = f d := by
  rw [Finset.sum_eq_single d]
  · rw [if_pos ((hd d).mpr rfl), mul_one]
  · intro x _ hx; rw [if_neg fun h => hx ((hd x).mp h), mul_zero]
  · intro h; exact absurd (Finset.mem_univ _) h

theorem sum_none (f : Fin 64 → EReal) (P : Fin 64 → Prop) [DecidablePred P] (h : ∀ x, ¬ P x) :
    ∑ x, f x * (if P x then 1 else 0 : EReal) = 0 :=
  Finset.sum_eq_zero fun x _ => by rw [if_neg (h x), mul_zero]

theorem low_apply (p c : Vec Ideal S1x128x64 .bf16) (s : Fin 256) (l : Fin 128) :
    k0_pay37 k0_pay4 p c (ix2 s l) = (if h : l.val < 64 then rows p c s ⟨l.val, h⟩ else 0 : EReal) := by
  have e : k0_pay37 k0_pay4 p c (ix2 s l) = ∑ x, rows p c s x * (if l.val = x.val then 1 else 0 : EReal) := by
    pointwise [k0_pay37, k0_pay35]
    exact Finset.sum_congr rfl fun x _ => congrArg (rows p c s x * ·) (pay4_apply x l)
  rw [e]
  by_cases h : l.val < 64
  · rw [dif_pos h, sum_one _ _ ⟨l.val, h⟩ fun x => ⟨fun e => Fin.ext e.symm, fun e => by rw [e]⟩]
  · rw [dif_neg h, sum_none _ _ fun x e => h (lt_of_eq_of_lt e x.isLt)]

theorem high_apply (p c : Vec Ideal S1x128x64 .bf16) (s : Fin 256) (l : Fin 128) :
    k0_pay37 k0_pay5 p c (ix2 s l) = (if h : 64 ≤ l.val then rows p c s ⟨l.val - 64, by omega⟩ else 0 : EReal) := by
  have e : k0_pay37 k0_pay5 p c (ix2 s l) = ∑ x, rows p c s x * (if l.val = x.val + 64 then 1 else 0 : EReal) := by
    pointwise [k0_pay37, k0_pay35]
    exact Finset.sum_congr rfl fun x _ => congrArg (rows p c s x * ·) (pay5_apply x l)
  rw [e]
  by_cases h : 64 ≤ l.val
  · rw [dif_pos h, sum_one _ _ ⟨l.val - 64, by omega⟩ fun x => ⟨fun e => Fin.ext (by show x.val = l.val - 64; omega), fun e => by rw [e]; show l.val = l.val - 64 + 64; omega⟩]
  · rw [dif_neg h, sum_none _ _ fun x e => h (by omega)]

/-- A sum over 128 lanes is one over the lower 64 and one over the upper. -/
theorem sum_lanes (f : Fin 128 → EReal) :
    ∑ l, f l = ∑ d : Fin 64, f ⟨d.val, by omega⟩ + ∑ d : Fin 64, f ⟨64 + d.val, by omega⟩ :=
  Fin.sum_univ_add (a := 64) (b := 64) f

theorem dpLow_apply (p c : Vec Ideal S1x128x64 .bf16) (D : Vec Ideal S128x128 .bf16) (r : Fin 128) (s : Fin 256) :
    k0_pay41 k0_pay4 p c D (ix2 r s) = ∑ d : Fin 64, D (ix2 r ⟨d.val, by omega⟩) * rows p c s d := by
  have e : k0_pay41 k0_pay4 p c D (ix2 r s) = ∑ x, D (ix2 r x) * k0_pay37 k0_pay4 p c (ix2 s x) := by
    pointwise [k0_pay41]; rfl
  rw [e]
  simp only [low_apply]
  rw [sum_lanes]
  refine (congrArg₂ (· + ·) (Finset.sum_congr rfl fun d _ => ?_) (Finset.sum_eq_zero fun d _ => ?_)).trans (add_zero _)
  · rw [dif_pos d.isLt]
  · rw [dif_neg (by simp), mul_zero]

theorem dpHigh_apply (p c : Vec Ideal S1x128x64 .bf16) (D : Vec Ideal S128x128 .bf16) (r : Fin 128) (s : Fin 256) :
    k0_pay41 k0_pay5 p c D (ix2 r s) = ∑ d : Fin 64, D (ix2 r ⟨64 + d.val, by omega⟩) * rows p c s d := by
  have e : k0_pay41 k0_pay5 p c D (ix2 r s) = ∑ x, D (ix2 r x) * k0_pay37 k0_pay5 p c (ix2 s x) := by
    pointwise [k0_pay41]; rfl
  rw [e]
  simp only [high_apply]
  rw [sum_lanes]
  refine (congrArg₂ (· + ·) (Finset.sum_eq_zero fun d _ => ?_) (Finset.sum_congr rfl fun d _ => ?_)).trans (zero_add _)
  · rw [dif_neg (by simp), mul_zero]
  · rw [dif_pos (by simp)]
    congr 2; apply Fin.ext; simp

namespace Loads

variable (l : Loads Ideal)

/-- What the point loads, by key head `k` and query head `g` of it. -/
def key (k : Fin 4) (s : Fin 256) (d : Fin 64) : EReal := rows (l.prev (kh k)) (l.cur (kh k)) s d
def val (k : Fin 4) (s : Fin 256) (d : Fin 64) : EReal := rows (l.prev (vh k)) (l.cur (vh k)) s d
def qry (k g : Fin 4) (r : Fin 128) (d : Fin 64) : EReal := l.q (qh k g) (ix3 0 r d)
def prb (k g : Fin 4) (r : Fin 128) (s : Fin 256) : EReal := l.p (qh k g) (ix3 0 r s)
def dO (k g : Fin 4) (r : Fin 128) (d : Fin 64) : EReal := l.d (pr k ⟨g.val / 2, by omega⟩) (ix2 r ⟨64 * (g.val % 2) + d.val, by omega⟩)

/-- The gradients of the probabilities, their row products, and the gradients of the scores. -/
def dpS (k g : Fin 4) (r : Fin 128) (s : Fin 256) : EReal := ∑ d, l.dO k g r d * l.val k s d
def ddS (k g : Fin 4) (r : Fin 128) : EReal := ∑ s, l.prb k g r s * l.dpS k g r s
def dsS (k g : Fin 4) (r : Fin 128) (s : Fin 256) : EReal := l.prb k g r s * (l.dpS k g r s - l.ddS k g r)

theorem dp_apply (k g : Fin 4) (r : Fin 128) (s : Fin 256) : l.dp k g (ix2 r s) = l.dpS k g r s := by
  have hE : ∀ i, l.dpE k i (ix2 r s) = _ := fun i => dpLow_apply _ _ _ r s
  have hO : ∀ i, l.dpO k i (ix2 r s) = _ := fun i => dpHigh_apply _ _ _ r s
  have e (d : Fin 64) : (⟨64 * 0 + d.val, by omega⟩ : Fin 128) = ⟨d.val, by omega⟩ := Fin.ext (by simp)
  match g with
  | 0 => exact (hE 0).trans (Finset.sum_congr rfl fun d _ => by rw [← e]; rfl)
  | 1 => exact (hO 0).trans (Finset.sum_congr rfl fun d _ => rfl)
  | 2 => exact (hE 1).trans (Finset.sum_congr rfl fun d _ => by rw [← e]; rfl)
  | 3 => exact (hO 1).trans (Finset.sum_congr rfl fun d _ => rfl)

theorem dd_apply (k g : Fin 4) (r : Fin 128) : k0_pay21 (l.dp k g) (l.p (qh k g)) (ix2 r 0) = l.ddS k g r := by
  pointwise [k0_pay21, k0_pay20]
  exact Finset.sum_congr rfl fun s _ => congrArg (l.prb k g r s * ·) (l.dp_apply k g r s)

theorem ds_apply (k g : Fin 4) (r : Fin 128) (s : Fin 256) : l.ds k g (ix2 r s) = l.dsS k g r s := by
  unfold ds
  pointwise [k0_pay22, k0_pay21, k0_pay20]
  simp only [dp_apply]
  rfl

/-- One pair's gradient of the query rows: lane `d` of head `2 i + h`. -/
theorem dqPair_apply (k g g' : Fin 4) (r : Fin 128) (x : Fin 128) :
    k0_pay47 (l.kLow k) (l.kHigh k) (l.ds k g) (l.ds k g') (ix2 r x)
      = ((if h : x.val < 64 then ∑ s, l.dsS k g r s * l.key k s ⟨x.val, h⟩ else ∑ s, l.dsS k g' r s * l.key k s ⟨x.val - 64, by omega⟩) * eighth : EReal) := by
  pointwise [k0_pay47]
  have hl : ∀ s, l.kLow k (ix2 s x) = _ := fun s => low_apply _ _ s x
  have hh : ∀ s, l.kHigh k (ix2 s x) = _ := fun s => high_apply _ _ s x
  simp only [ds_apply, hl, hh]
  congr 1
  by_cases h : x.val < 64
  · simp only [dif_pos h, dif_neg (Nat.not_le.mpr h), mul_zero, Finset.sum_const_zero, add_zero]; rfl
  · simp only [dif_neg h, dif_pos (Nat.le_of_not_lt h), mul_zero, Finset.sum_const_zero, zero_add]; rfl

/-- The gradient of a head's keys in both blocks, -/
def dkS (k : Fin 4) (s : Fin 256) (d : Fin 64) : EReal := (∑ g, ∑ r, l.dsS k g r s * l.qry k g r d) * eighth

theorem dk_apply (k : Fin 4) (s : Fin 256) (d : Fin 64) : l.dk k (ix2 s d) = l.dkS k s d := by
  unfold dk dkS
  pointwise [k0_pay96]
  simp only [ds_apply, Fin.sum_univ_four]
  rfl

/-- and of its values. -/
def dvS (k : Fin 4) (s : Fin 256) (d : Fin 64) : EReal := ∑ g, ∑ r, l.prb k g r s * l.dO k g r d

theorem dv_apply (k : Fin 4) (s : Fin 256) (d : Fin 64) : l.dv k (ix2 s d) = l.dvS k s d := by
  unfold dv dvS
  pointwise [k0_pay55, k0_pay45]
  have e0 : (⟨64 * 0 + d.val, by omega⟩ : Fin 128) = ⟨d.val, by omega⟩ := Fin.ext (by simp)
  have e1 : (⟨(d.val + 128 - 64) % 128, by omega⟩ : Fin 128) = ⟨64 * 1 + d.val, by omega⟩ := Fin.ext (by show (d.val + 128 - 64) % 128 = 64 * 1 + d.val; omega)
  rw [e1, ← e0, Fin.sum_univ_four, add_add_add_comm, ← add_assoc]
  rfl

/-- The row products of every head, in the lane of the head. -/
theorem dotStep_apply (n : ℕ) (hn : n < 16) (acc : FVec Ideal S128x128 .f32) (k g : Fin 4) (r x : Fin 128) :
    l.dotStep (BitVec.ofNat 32 n) acc k g (ix2 r x) = (acc (ix2 r x) + if x.val = n then l.ddS k g r else 0 : EReal) := by
  unfold dotStep
  pointwise [k0_pay21, k0_pay20]
  simp only [dp_apply]
  have e : ∀ (n : Fin 16) (x : Fin 128), IntOp.cmpi CmpIPredicate.eq (BitVec.ofNat 32 x.val) (BitVec.ofNat 32 n.val) = if x.val = n.val then 1#1 else 0#1 := by
    decide +kernel
  rw [e ⟨n, hn⟩ x]
  congr 1
  split <;> rfl

theorem dots_apply (r x : Fin 128) :
    l.dots (ix2 r x) = ∑ k : Fin 4, ∑ g : Fin 4, (if x.val = 4 * k.val + g.val then l.ddS k g r else 0 : EReal) := by
  have h0 : k0_pay6 (F := Ideal) (ix2 r x) = (0 : EReal) := by pointwise [k0_pay6]
  unfold dots
  rw [dotStep_apply l 15 (by omega), dotStep_apply l 14 (by omega), dotStep_apply l 13 (by omega), dotStep_apply l 12 (by omega),
    dotStep_apply l 11 (by omega), dotStep_apply l 10 (by omega), dotStep_apply l 9 (by omega), dotStep_apply l 8 (by omega),
    dotStep_apply l 7 (by omega), dotStep_apply l 6 (by omega), dotStep_apply l 5 (by omega), dotStep_apply l 4 (by omega),
    dotStep_apply l 3 (by omega), dotStep_apply l 2 (by omega), dotStep_apply l 1 (by omega), dotStep_apply l 0 (by omega), h0]
  simp only [Fin.sum_univ_four, zero_add, ← add_assoc]
  rfl

end Loads

end Cert.Kernel2Ideal.Hand
end
-- ==== Proof.AttnStep.lean ====
/-
  What a point of the attention gradient adds to each result, element by element.
-/
module

public import proofs.«01_k».proof.Proof.AttnAccum
public import proofs.«01_k».proof.Proof.AttnPoint
public import proofs.«01_k».proof.Proof.AttnFirst

@[expose] public section

set_option maxRecDepth 16384

noncomputable section

namespace Cert.Kernel2Ideal.Hand

open Cert.Kernel2Ideal Cert.Kernel2Ideal.Gen
open Idealize.ShloMosaic Idealize.ShloMosaic.TcCoe Idealize.SL.Sem
open Idealize.ShloMosaic.Pointwise

theorem forall_ix2 {n k : ℕ} {p : (⟨2, ![n, k]⟩ : Shape).Idx → Prop} (h : ∀ a b, p (ix2 a b)) (x) : p x := by
  have e : x = ix2 (x 0) (x 1) := by
    funext a
    match a with
    | ⟨0, _⟩ => rfl
    | ⟨1, _⟩ => rfl
  exact e ▸ h _ _

theorem forall_ix3 {n k j : ℕ} {p : (⟨3, ![n, k, j]⟩ : Shape).Idx → Prop} (h : ∀ a b c, p (ix3 a b c)) (x) : p x := by
  have e : x = ix3 (x 0) (x 1) (x 2) := by
    funext a
    match a with
    | ⟨0, _⟩ => rfl
    | ⟨1, _⟩ => rfl
    | ⟨2, _⟩ => rfl
  exact e ▸ h _ _ _

theorem addLow_apply (X : FVec Ideal S256x64 .f32) (w : Vec Ideal S1x128x64 .f32) (r : Fin 128) (d : Fin 64) :
    addLow X w (ix3 0 r d) = (w (ix3 0 r d) + X (ix2 ⟨r.val, by omega⟩ d) : EReal) := by
  pointwise [addLow, k0_pay59]

theorem addHigh_apply (X : FVec Ideal S256x64 .f32) (w : Vec Ideal S1x128x64 .f32) (r : Fin 128) (d : Fin 64) :
    addHigh X w (ix3 0 r d) = (w (ix3 0 r d) + X (ix2 ⟨128 + r.val, by omega⟩ d) : EReal) := by
  pointwise [addHigh, k0_pay60]

theorem addLow_adds (o b X) : (⟨o, S1x128x64.size, b, addLow X⟩ : Step Ideal S8x2048x64).Adds := fun w =>
  forall_ix3 (n := 1) (k := 128) (j := 64) fun a r d => by
    obtain rfl : a = 0 := Subsingleton.elim _ _
    show addLow X w (ix3 0 r d) = (w (ix3 0 r d) + addLow X (fun _ => (0 : EReal)) (ix3 0 r d) : EReal)
    rw [addLow_apply, addLow_apply, zero_add]

theorem addHigh_adds (o b X) : (⟨o, S1x128x64.size, b, addHigh X⟩ : Step Ideal S8x2048x64).Adds := fun w =>
  forall_ix3 (n := 1) (k := 128) (j := 64) fun a r d => by
    obtain rfl : a = 0 := Subsingleton.elim _ _
    show addHigh X w (ix3 0 r d) = (w (ix3 0 r d) + addHigh X (fun _ => (0 : EReal)) (ix3 0 r d) : EReal)
    rw [addHigh_apply, addHigh_apply, zero_add]

/-- Whether row `R` lies in the 128 rows from `p`. -/
abbrev Within (p R : ℕ) : Prop := p ≤ R ∧ R < p + 128

theorem win_iff (h p : ℕ) (b pay) (a : Fin 8) (R : Fin 2048) (d : Fin 64) :
    (⟨![h, p, 0], S1x128x64.size, b, pay⟩ : Step Ideal S8x2048x64).win (ix3 a R d) ↔ a.val = h ∧ Within p R.val := by
  constructor
  · intro H
    have h0 := H ⟨0, by decide⟩
    have h1 := H ⟨1, by decide⟩
    have e0 : h ≤ a.val ∧ a.val < h + 1 := h0
    exact ⟨by omega, h1⟩
  · rintro ⟨e, h1⟩ x
    match x with
    | ⟨0, _⟩ => exact (show h ≤ a.val ∧ a.val < h + 1 by omega)
    | ⟨1, _⟩ => exact h1
    | ⟨2, _⟩ => exact (show 0 ≤ d.val ∧ d.val < 0 + 64 by omega)

theorem local_eq (h p : ℕ) (b) (pay : Vec Ideal S1x128x64 .f32 → Vec Ideal S1x128x64 .f32) (a : Fin 8) (R : Fin 2048) (d : Fin 64) (H : Within p R.val)
    (hw : (⟨![h, p, 0], S1x128x64.size, b, pay⟩ : Step Ideal S8x2048x64).win (ix3 a R d)) :
    (Rect.unitLocal (s := S8x2048x64) (off := ![h, p, 0]) (size := S1x128x64.size) (ix3 a R d) hw) = (ix3 (0 : Fin 1) (⟨R.val - p, by omega⟩ : Fin 128) d : S1x128x64.Idx) := by
  have ha := ((win_iff h p b pay a R d).mp hw).1
  funext x; apply Fin.ext
  match x with
  | ⟨0, _⟩ => show a.val - h = 0; omega
  | ⟨1, _⟩ => rfl
  | ⟨2, _⟩ => show d.val - 0 = d.val; omega

theorem contrib_low (o : Fin 3 → ℕ) (h p : ℕ) (eo : o = ![h, p, 0]) (b X) (a : Fin 8) (R : Fin 2048) (d : Fin 64) :
    (⟨o, S1x128x64.size, b, addLow X⟩ : Step Ideal S8x2048x64).contrib (ix3 a R d)
      = (if a.val = h then if H : Within p R.val then X (ix2 ⟨R.val - p, by omega⟩ d) else 0 else 0 : EReal) := by
  subst eo
  by_cases ha : a.val = h
  · rw [if_pos ha]
    by_cases H : Within p R.val
    · have hw := (win_iff h p b (addLow X) a R d).mpr ⟨ha, H⟩
      rw [dif_pos H, Step.contrib_of_win _ _ hw]
      refine (congrArg (addLow X fun _ => (0 : EReal)) (local_eq h p b (addLow X) a R d H hw)).trans ?_
      rw [addLow_apply, zero_add]
    · rw [dif_neg H]
      exact Step.contrib_of_not_win _ _ fun hw => H ((win_iff h p b (addLow X) a R d).mp hw).2
  · rw [if_neg ha]
    exact Step.contrib_of_not_win _ _ fun hw => ha ((win_iff h p b (addLow X) a R d).mp hw).1

theorem contrib_high (o : Fin 3 → ℕ) (h p : ℕ) (eo : o = ![h, p, 0]) (b X) (a : Fin 8) (R : Fin 2048) (d : Fin 64) :
    (⟨o, S1x128x64.size, b, addHigh X⟩ : Step Ideal S8x2048x64).contrib (ix3 a R d)
      = (if a.val = h then if H : Within p R.val then X (ix2 ⟨128 + (R.val - p), by omega⟩ d) else 0 else 0 : EReal) := by
  subst eo
  by_cases ha : a.val = h
  · rw [if_pos ha]
    by_cases H : Within p R.val
    · have hw := (win_iff h p b (addHigh X) a R d).mpr ⟨ha, H⟩
      rw [dif_pos H, Step.contrib_of_win _ _ hw]
      refine (congrArg (addHigh X fun _ => (0 : EReal)) (local_eq h p b (addHigh X) a R d H hw)).trans ?_
      rw [addHigh_apply, zero_add]
    · rw [dif_neg H]
      exact Step.contrib_of_not_win _ _ fun hw => H ((win_iff h p b (addHigh X) a R d).mp hw).2
  · rw [if_neg ha]
    exact Step.contrib_of_not_win _ _ fun hw => ha ((win_iff h p b (addHigh X) a R d).mp hw).1

namespace Loads

variable (l : Loads Ideal)

/-- The gradient of the stacked keys and values in both blocks. -/
def kvS (a : Fin 8) (s : Fin 256) (d : Fin 64) : EReal :=
  if h : a.val < 4 then l.dkS ⟨a.val, h⟩ s d else l.dvS ⟨a.val - 4, by omega⟩ s d

/-- What point `n` adds to the gradient of keys and values: the lower half to the previous block, the upper to its own. -/
def add7 (n : ℕ) (a : Fin 8) (R : Fin 2048) (d : Fin 64) : EReal :=
  (if H : Within (128 * (n - 1)) R.val then l.kvS a ⟨R.val - 128 * (n - 1), by omega⟩ d else 0)
    + (if H : Within (128 * n) R.val then l.kvS a ⟨128 + (R.val - 128 * n), by omega⟩ d else 0)

end Loads

theorem steps7_adds (i : grid0.Coords) (l : Loads Ideal) : ∀ t ∈ steps7 i l, t.Adds := by
  unfold steps7
  simp only [List.forall_mem_cons, List.not_mem_nil, false_imp_iff, implies_true, and_true]
  exact ⟨addLow_adds _ _ _, addHigh_adds _ _ _, addLow_adds _ _ _, addHigh_adds _ _ _, addLow_adds _ _ _, addHigh_adds _ _ _,
    addLow_adds _ _ _, addHigh_adds _ _ _, addLow_adds _ _ _, addHigh_adds _ _ _, addLow_adds _ _ _, addHigh_adds _ _ _,
    addLow_adds _ _ _, addHigh_adds _ _ _, addLow_adds _ _ _, addHigh_adds _ _ _⟩

theorem contribs7 (i : grid0.Coords) (l : Loads Ideal) (a : Fin 8) (R : Fin 2048) (d : Fin 64) :
    ((steps7 i l).map fun t => t.contrib (ix3 a R d)).sum = l.add7 (i 0).val a R d := by
  unfold steps7 Loads.add7
  simp only [List.map_cons, List.map_nil, List.sum_cons, List.sum_nil]
  rw [contrib_low _ _ _ (off1_eq i), contrib_low _ _ _ (off3_eq i), contrib_low _ _ _ (off5_eq i), contrib_low _ _ _ (off7_eq i),
    contrib_low _ _ _ (off9_eq i), contrib_low _ _ _ (off11_eq i), contrib_low _ _ _ (off13_eq i), contrib_low _ _ _ (off15_eq i),
    contrib_high _ _ _ (k0_off2_eq i), contrib_high _ _ _ (k0_off4_eq i), contrib_high _ _ _ (k0_off6_eq i), contrib_high _ _ _ (k0_off8_eq i),
    contrib_high _ _ _ (k0_off10_eq i), contrib_high _ _ _ (k0_off12_eq i), contrib_high _ _ _ (k0_off14_eq i), contrib_high _ _ _ (k0_off16_eq i)]
  simp only [Loads.dk_apply, Loads.dv_apply]
  unfold Loads.kvS
  match a with
  | 0 => simp
  | 1 => simp
  | 2 => simp
  | 3 => simp
  | 4 => simp
  | 5 => simp
  | 6 => simp
  | 7 => simp

theorem contribs7_pairs (i : grid0.Coords) (l : Loads Ideal) (y) :
    ((pairs (steps7 i l)).map fun t => t.1.contrib y + t.2.contrib y).sum = ((steps7 i l).map fun t => t.contrib y).sum := by
  simp only [steps7, pairs, List.map_cons, List.map_nil, List.sum_cons, List.sum_nil, add_assoc]

theorem pairs7_adds (i : grid0.Coords) (l : Loads Ideal) : ∀ t ∈ pairs (steps7 i l), t.1.Adds ∧ t.2.Adds := by
  unfold steps7 pairs
  simp only [pairs, List.forall_mem_cons, List.not_mem_nil, false_imp_iff, implies_true, and_true]
  exact ⟨⟨addLow_adds _ _ _, addHigh_adds _ _ _⟩, ⟨addLow_adds _ _ _, addHigh_adds _ _ _⟩, ⟨addLow_adds _ _ _, addHigh_adds _ _ _⟩,
    ⟨addLow_adds _ _ _, addHigh_adds _ _ _⟩, ⟨addLow_adds _ _ _, addHigh_adds _ _ _⟩, ⟨addLow_adds _ _ _, addHigh_adds _ _ _⟩,
    ⟨addLow_adds _ _ _, addHigh_adds _ _ _⟩, ⟨addLow_adds _ _ _, addHigh_adds _ _ _⟩⟩

/-- The head a store writes, where it writes one. -/
theorem head_of_win (t : Step Ideal S8x2048x64) (hs : t.size 0 = 1) (y) (h : t.win y) : (y 0).val = t.off 0 := by
  have := h 0; omega

/-- Each pair of stores writes another head. -/
theorem pairs7_apart (i : grid0.Coords) (l : Loads Ideal) :
    (pairs (steps7 i l)).Pairwise (fun t u => ∀ y, u.1.win y → ¬ t.1.win y ∧ ¬ t.2.win y) := by
  have key : ((pairs (steps7 i l)).map fun t => ((t.1.off 0, t.2.off 0), (t.1.size 0, t.2.size 0))).Pairwise
      (fun p q => p.2 = (1, 1) ∧ q.2 = (1, 1) ∧ q.1.1 ≠ p.1.1 ∧ q.1.1 ≠ p.1.2) := by
    simp only [steps7, pairs, List.map_cons, List.map_nil, off1_eq, off3_eq, off5_eq, off7_eq, off9_eq, off11_eq, off13_eq, off15_eq,
      k0_off2_eq, k0_off4_eq, k0_off6_eq, k0_off8_eq, k0_off10_eq, k0_off12_eq, k0_off14_eq, k0_off16_eq]
    simp
  refine (List.pairwise_map.mp key).imp ?_
  rintro t u ⟨ht, hu, n1, n2⟩ y hy
  have e := head_of_win u.1 (congrArg Prod.fst hu) y hy
  exact ⟨fun h => n1 (e ▸ head_of_win t.1 (congrArg Prod.fst ht) y h), fun h => n2 (e ▸ head_of_win t.2 (congrArg Prod.snd ht) y h)⟩

end Cert.Kernel2Ideal.Hand
end
-- ==== Proof.AttnRuns.lean ====
/- Both runs of the attention gradient's body store what its operations on vectors say. -/
module

public import proofs.«01_k».proof.Proof.AttnOps

@[expose] public section

set_option maxRecDepth 16384

noncomputable section

namespace Cert.Kernel2Ideal.Hand

open Cert.Kernel2Ideal Cert.Kernel2Ideal.Gen
open Idealize.ShloMosaic Idealize.ShloMosaic.TcCoe Idealize.SL.Sem

variable {F : FTy → Type} [FloatOps F]

section

variable (c : Dev nD) (i : grid0.Coords) (a1 : Memref sig .tc .vmem S16x128x64 .bf16) (h1 : a1.IsWhole)
    (a2 : Memref sig .tc .vmem S8x128x64 .bf16) (h2 : a2.IsWhole) (a3 : Memref sig .tc .vmem S8x128x64 .bf16) (h3 : a3.IsWhole)
    (a4 : Memref sig .tc .vmem S16x128x256 .bf16) (h4 : a4.IsWhole) (a5 : Memref sig .tc .vmem S128x128 .f32) (h5 : a5.IsWhole)
    (a6 : Memref sig .tc .vmem S128x1024 .bf16) (h6 : a6.IsWhole) (a7 : Memref sig .tc .vmem S128x1024 .bf16) (h7 : a7.IsWhole)
    (a8 : Memref sig .tc .vmem S8x2048x64 .f32) (h8 : a8.IsWhole) (a9 : Memref sig .tc .vmem S1x1024 .f32) (h9 : a9.IsWhole)
    (a10 : Memref sig .tc .vmem S1x128 .f32) (h10 : a10.IsWhole)
    (x0 : Vec F S16x128x64 .bf16) (x1 x2 : Vec F S8x128x64 .bf16)
    (x3 : Vec F S16x128x256 .bf16) (x4 : Vec F S128x128 .f32) (x5 : Vec F S128x1024 .bf16)
    (y7 : Vec F S8x2048x64 .f32) (y8 : Vec F S1x1024 .f32) (y9 : Vec F S1x128 .f32)

/-! The later points' run. -/

theorem later6 (hc : ¬ AtFirst i) (hn : 1 ≤ (i 0).val) :
    (runLater c i a1 h1 a2 h2 a3 h3 a4 h4 a5 h5 a6 h6 a7 h7 a8 h8 a9 h9 a10 h10 hc hn x0 x1 x2 x3 x4 x5 y7 y8 y9).1
      = pieces6 (loads a1 h1 a2 h2 a3 h3 a4 h4 a6 h6 x0 x1 x2 x3 x5) := by
  sl_kernel_rfl

theorem later7 (hc : ¬ AtFirst i) (hn : 1 ≤ (i 0).val) :
    (runLater c i a1 h1 a2 h2 a3 h3 a4 h4 a5 h5 a6 h6 a7 h7 a8 h8 a9 h9 a10 h10 hc hn x0 x1 x2 x3 x4 x5 y7 y8 y9).2.1
      = accs2 a8.view (h8.unread y7) (pairs (steps7 i (loads a1 h1 a2 h2 a3 h3 a4 h4 a6 h6 x0 x1 x2 x3 x5))) [] := by
  sl_kernel_rfl

theorem later9 (hc : ¬ AtFirst i) (hn : 1 ≤ (i 0).val) :
    (runLater c i a1 h1 a2 h2 a3 h3 a4 h4 a5 h5 a6 h6 a7 h7 a8 h8 a9 h9 a10 h10 hc hn x0 x1 x2 x3 x4 x5 y7 y8 y9).2.2.2.1
      = [⟨Rect.unit ![0, 0] ![1, 128] inb_S1x128_S1x128_0_0,
          k0_pay172 (loads a1 h1 a2 h2 a3 h3 a4 h4 a6 h6 x0 x1 x2 x3 x5).dots
            (View.readAt (Elt F) a5.view (Rect.unit (s := S128x128) ![0, 0] S128x128.size inb_S128x128_S128x128_0_0).toLoadRect (h5.unread x4))
            (View.readAt (Elt F) a10.view (Rect.unit (s := S1x128) ![0, 0] S1x128.size inb_S1x128_S1x128_0_0).toLoadRect (h10.unread y9))⟩] := by
  sl_kernel_rfl

theorem later8 (hc : ¬ AtFirst i) (hn : 1 ≤ (i 0).val) :
    (runLater c i a1 h1 a2 h2 a3 h3 a4 h4 a5 h5 a6 h6 a7 h7 a8 h8 a9 h9 a10 h10 hc hn x0 x1 x2 x3 x4 x5 y7 y8 y9).2.2.1
      = (steps8 (loads a1 h1 a2 h2 a3 h3 a4 h4 a6 h6 x0 x1 x2 x3 x5)).reverse.map fun t =>
          ⟨Rect.unit t.off t.size t.inb, t.pay (View.readAt (Elt F) a9.view (Rect.unit t.off t.size t.inb).toLoadRect (h9.unread y8))⟩ := by
  sl_kernel_rfl

/-! The first point's run, whose running results start at zero. -/

theorem first6 (hc : AtFirst i) (hn : (i 0).val = 0) :
    (runFirst c i a1 h1 a2 h2 a3 h3 a4 h4 a5 h5 a6 h6 a7 h7 a8 h8 a9 h9 a10 h10 hc hn x0 x1 x2 x3 x4 x5).1
      = pieces6 (loads a1 h1 a2 h2 a3 h3 a4 h4 a6 h6 x0 x1 x2 x3 x5) := by
  sl_kernel_rfl

theorem first7 (hc : AtFirst i) (hn : (i 0).val = 0) :
    (runFirst c i a1 h1 a2 h2 a3 h3 a4 h4 a5 h5 a6 h6 a7 h7 a8 h8 a9 h9 a10 h10 hc hn x0 x1 x2 x3 x4 x5).2.1
      = accs a8.view a8.view.junk (steps7 i (loads a1 h1 a2 h2 a3 h3 a4 h4 a6 h6 x0 x1 x2 x3 x5))
          (a8.view.writes (Elt F) a8.view.junk [⟨Rect.unit ![0, 0, 0] S8x2048x64.size inb_S8x2048x64_S8x2048x64_0_0_0, k0_pay1⟩])
          [⟨Rect.unit ![0, 0, 0] S8x2048x64.size inb_S8x2048x64_S8x2048x64_0_0_0, k0_pay1⟩] := by
  sl_kernel_rfl

theorem first8 (hc : AtFirst i) (hn : (i 0).val = 0) :
    (runFirst c i a1 h1 a2 h2 a3 h3 a4 h4 a5 h5 a6 h6 a7 h7 a8 h8 a9 h9 a10 h10 hc hn x0 x1 x2 x3 x4 x5).2.2.1
      = accs a9.view a9.view.junk (steps8 (loads a1 h1 a2 h2 a3 h3 a4 h4 a6 h6 x0 x1 x2 x3 x5))
          (a9.view.writes (Elt F) a9.view.junk [⟨Rect.unit ![0, 0] S1x1024.size inb_S1x1024_S1x1024_0_0, k0_pay3⟩])
          [⟨Rect.unit ![0, 0] S1x1024.size inb_S1x1024_S1x1024_0_0, k0_pay3⟩] := by
  sl_kernel_rfl

theorem first9 (hc : AtFirst i) (hn : (i 0).val = 0) :
    (runFirst c i a1 h1 a2 h2 a3 h3 a4 h4 a5 h5 a6 h6 a7 h7 a8 h8 a9 h9 a10 h10 hc hn x0 x1 x2 x3 x4 x5).2.2.2.1
      = [⟨Rect.unit ![0, 0] ![1, 128] inb_S1x128_S1x128_0_0,
          k0_pay172 (loads a1 h1 a2 h2 a3 h3 a4 h4 a6 h6 x0 x1 x2 x3 x5).dots
            (View.readAt (Elt F) a5.view (Rect.unit (s := S128x128) ![0, 0] S128x128.size inb_S128x128_S128x128_0_0).toLoadRect (h5.unread x4))
            (a10.view.readCov [⟨Rect.unit ![0, 0] S1x128.size inb_S1x128_S1x128_0_0, k0_pay2⟩] (Rect.unit (s := S1x128) ![0, 0] S1x128.size inb_S1x128_S1x128_0_0).toLoadRect)⟩,
         ⟨Rect.unit ![0, 0] S1x128.size inb_S1x128_S1x128_0_0, k0_pay2⟩] := by
  sl_kernel_rfl

end

end Cert.Kernel2Ideal.Hand
end
-- ==== Proof.AttnOut.lean ====
/-
  What the attention gradient's results hold after each point: the point's own rows of the first, and in the other
  three the sum of what the points so far add.
-/
module

public import proofs.«01_k».proof.Proof.AttnStep
public import proofs.«01_k».proof.Proof.AttnRuns
public import proofs.«01_k».proof.Proof.AttnFrame
public import Idealize.ShloMosaic.Lib.Pipeline.Value
public import Idealize.ShloMosaic.Lib.WholeRead

@[expose] public section

set_option maxRecDepth 16384

noncomputable section

namespace Cert.Kernel2Ideal.Hand

open Cert.Kernel2Ideal Cert.Kernel2Ideal.Gen
open Idealize.ShloMosaic Idealize.ShloMosaic.TcCoe Idealize.SL.Sem
open Idealize.ShloMosaic.Pointwise

theorem zero2 : (![0, 0] : Fin 2 → ℕ) = fun _ => 0 := funext fun a => by fin_cases a <;> rfl
theorem zero3 : (![0, 0, 0] : Fin 3 → ℕ) = fun _ => 0 := funext fun a => by fin_cases a <;> rfl

namespace Loads

variable (l : Loads Ideal)

/-- The gradient of the query rows: column `x` is lane `x % 64` of head `x / 64`. -/
def dq6 (r : Fin 128) (x : Fin 1024) : EReal :=
  (∑ s, l.dsS ⟨x.val / 256, by omega⟩ ⟨x.val / 64 % 4, by omega⟩ r s * l.key ⟨x.val / 256, by omega⟩ s ⟨x.val % 64, by omega⟩) * eighth

/-- What the point adds to the gradient of the query bias, -/
def add8 (x : Fin 1024) : EReal := ∑ r, l.dq6 r x

/-- and to that of the sinks, from the sinks' probabilities `ps`. -/
def add9 (ps : Fin 128 → Fin 128 → EReal) (h : Fin 128) : EReal :=
  0 - ∑ r, ps r h * ∑ k : Fin 4, ∑ g : Fin 4, (if h.val = 4 * k.val + g.val then l.ddS k g r else 0 : EReal)

theorem dq_apply (k : Fin 4) (i : Fin 2) (r x : Fin 128) :
    l.dq k i (ix2 r x) = l.dq6 r ⟨128 * (2 * k.val + i.val) + x.val, by omega⟩ := by
  have ek : ∀ i : Fin 2, (⟨(128 * (2 * k.val + i.val) + x.val) / 256, by omega⟩ : Fin 4) = k := fun i => Fin.ext (by show (128 * (2 * k.val + i.val) + x.val) / 256 = k.val; omega)
  unfold dq6
  match i with
  | 0 =>
    refine (l.dqPair_apply k 0 1 r x).trans ?_
    rw [ek 0]
    refine congrArg (· * eighth : EReal → EReal) ?_
    by_cases h : x.val < 64
    · rw [dif_pos h, show (⟨(128 * (2 * k.val + (0 : Fin 2).val) + x.val) / 64 % 4, by omega⟩ : Fin 4) = 0 from Fin.ext (by show (128 * (2 * k.val + 0) + x.val) / 64 % 4 = 0; omega),
        show (⟨(128 * (2 * k.val + (0 : Fin 2).val) + x.val) % 64, by omega⟩ : Fin 64) = ⟨x.val, h⟩ from Fin.ext (by show (128 * (2 * k.val + 0) + x.val) % 64 = x.val; omega)]
    · rw [dif_neg h, show (⟨(128 * (2 * k.val + (0 : Fin 2).val) + x.val) / 64 % 4, by omega⟩ : Fin 4) = 1 from Fin.ext (by show (128 * (2 * k.val + 0) + x.val) / 64 % 4 = 1; omega),
        show (⟨(128 * (2 * k.val + (0 : Fin 2).val) + x.val) % 64, by omega⟩ : Fin 64) = ⟨x.val - 64, by omega⟩ from Fin.ext (by show (128 * (2 * k.val + 0) + x.val) % 64 = x.val - 64; omega)]
  | 1 =>
    refine (l.dqPair_apply k 2 3 r x).trans ?_
    rw [ek 1]
    refine congrArg (· * eighth : EReal → EReal) ?_
    by_cases h : x.val < 64
    · rw [dif_pos h, show (⟨(128 * (2 * k.val + (1 : Fin 2).val) + x.val) / 64 % 4, by omega⟩ : Fin 4) = 2 from Fin.ext (by show (128 * (2 * k.val + 1) + x.val) / 64 % 4 = 2; omega),
        show (⟨(128 * (2 * k.val + (1 : Fin 2).val) + x.val) % 64, by omega⟩ : Fin 64) = ⟨x.val, h⟩ from Fin.ext (by show (128 * (2 * k.val + 1) + x.val) % 64 = x.val; omega)]
    · rw [dif_neg h, show (⟨(128 * (2 * k.val + (1 : Fin 2).val) + x.val) / 64 % 4, by omega⟩ : Fin 4) = 3 from Fin.ext (by show (128 * (2 * k.val + 1) + x.val) / 64 % 4 = 3; omega),
        show (⟨(128 * (2 * k.val + (1 : Fin 2).val) + x.val) % 64, by omega⟩ : Fin 64) = ⟨x.val - 64, by omega⟩ from Fin.ext (by show (128 * (2 * k.val + 1) + x.val) % 64 = x.val - 64; omega)]

end Loads

/-! ## The query rows -/

theorem piece6 (l : Loads Ideal) (k : Fin 4) (i : Fin 2) (b) (x : S128x128.Idx) :
    (truncf .bf16 (l.dq k i) bitsLt_bf16_f32 : Vec Ideal S128x128 .bf16) x
      = (fun y : S128x1024.Idx => l.dq6 (y 0) (y 1)) ((Rect.unit (s := S128x1024) ![0, 128 * (2 * k.val + i.val)] ![128, 128] b).emb x) := by
  revert x
  refine forall_ix2 (n := 128) (k := 128) fun r x => ?_
  refine (l.dq_apply k i r x).trans ?_
  show l.dq6 _ _ = l.dq6 _ _
  congr 1
  · apply Fin.ext; show r.val = 0 + 1 * r.val; omega
  · apply Fin.ext; show 128 * (2 * k.val + i.val) + x.val = 128 * (2 * k.val + i.val) + 1 * x.val; omega

theorem canon6 (l : Loads Ideal) (y : S128x1024.Idx) (hy : ∃ p ∈ pieces6 l, y ∈ p.1.set) :
    View.canon (pieces6 l) y = l.dq6 (y 0) (y 1) := by
  refine View.canon_apply_of_pieces (fun y : S128x1024.Idx => l.dq6 (y 0) (y 1)) _ ?_ y hy
  unfold pieces6
  simp only [List.forall_mem_cons, List.not_mem_nil, false_imp_iff, implies_true, and_true]
  exact ⟨piece6 l 3 1 _, piece6 l 3 0 _, piece6 l 2 1 _, piece6 l 2 0 _, piece6 l 1 1 _, piece6 l 1 0 _, piece6 l 0 1 _, piece6 l 0 0 _⟩

/-! ## The query bias -/

theorem pay49_apply (a b : Vec Ideal S256x128 .bf16) (D E : Vec Ideal S128x256 .bf16) (w : Vec Ideal S1x128 .f32) (s : Fin 128) :
    k0_pay49 a b D E w (ix2 0 s) = (w (ix2 0 s) + ∑ x : Fin 128, (show EReal from k0_pay47 (F := Ideal) a b D E (ix2 x s)) : EReal) := by
  pointwise [k0_pay49]

/-- A store of one pair of heads' columns. -/
def step8 (k : Fin 4) (i : Fin 2) (b : ∀ a, (![0, 128 * (2 * k.val + i.val)] : Fin 2 → ℕ) a + (![1, 128] : Fin 2 → ℕ) a ≤ S1x1024.size a) (p : Vec Ideal S1x128 .f32 → Vec Ideal S1x128 .f32) : Step Ideal S1x1024 :=
  ⟨![0, 128 * (2 * k.val + i.val)], ![1, 128], b, p⟩

/-- That its payload adds the column sums of the pair's query gradient. -/
def Sums8 (l : Loads Ideal) (k : Fin 4) (i : Fin 2) (p : Vec Ideal S1x128 .f32 → Vec Ideal S1x128 .f32) : Prop :=
  ∀ w s, p w (ix2 0 s) = (w (ix2 0 s) + l.add8 ⟨128 * (2 * k.val + i.val) + s.val, by omega⟩ : EReal)

theorem sums8_low (l : Loads Ideal) (k : Fin 4) : Sums8 l k 0 (k0_pay49 (l.kLow k) (l.kHigh k) (l.ds k 0) (l.ds k 1)) := fun w s => by
  rw [pay49_apply]
  exact congrArg (w (ix2 0 s) + · : EReal → EReal) (Finset.sum_congr rfl fun r _ => l.dq_apply k 0 r s)

theorem sums8_high (l : Loads Ideal) (k : Fin 4) : Sums8 l k 1 (k0_pay49 (l.kLow k) (l.kHigh k) (l.ds k 2) (l.ds k 3)) := fun w s => by
  rw [pay49_apply]
  exact congrArg (w (ix2 0 s) + · : EReal → EReal) (Finset.sum_congr rfl fun r _ => l.dq_apply k 1 r s)

theorem step8_adds (l : Loads Ideal) (k i b p) (h : Sums8 l k i p) : (step8 k i b p).Adds := fun w =>
  forall_ix2 (n := 1) (k := 128) fun a s => by
    obtain rfl : a = 0 := Subsingleton.elim _ _
    show p w (ix2 0 s) = (w (ix2 0 s) + p (fun _ => (0 : EReal)) (ix2 0 s) : EReal)
    rw [h (fun _ => (0 : EReal)), zero_add]
    exact h w s

theorem step8_contrib (l : Loads Ideal) (k i b p) (h : Sums8 l k i p) (x : Fin 1024) :
    (step8 k i b p).contrib (ix2 0 x) = if x.val / 128 = 2 * k.val + i.val then l.add8 x else 0 := by
  by_cases e : x.val / 128 = 2 * k.val + i.val
  · have hw : (step8 k i b p).win (ix2 0 x) := fun a => by
      match a with
      | ⟨0, _⟩ => exact (show 0 ≤ 0 ∧ 0 < 0 + 1 by omega)
      | ⟨1, _⟩ => exact (show 128 * (2 * k.val + i.val) ≤ x.val ∧ x.val < 128 * (2 * k.val + i.val) + 128 by omega)
    rw [if_pos e, Step.contrib_of_win _ _ hw]
    have el : (Rect.unitLocal (s := S1x1024) (off := (step8 k i b p).off) (size := (step8 k i b p).size) (ix2 0 x) hw)
        = (ix2 (0 : Fin 1) (⟨x.val - 128 * (2 * k.val + i.val), by omega⟩ : Fin 128) : S1x128.Idx) := by
      funext a; apply Fin.ext
      match a with
      | ⟨0, _⟩ => rfl
      | ⟨1, _⟩ => rfl
    refine (congrArg (p fun _ => (0 : EReal)) el).trans ?_
    rw [h, zero_add]
    congr 1; apply Fin.ext
    show 128 * (2 * k.val + i.val) + (x.val - 128 * (2 * k.val + i.val)) = x.val
    omega
  · rw [if_neg e]
    refine Step.contrib_of_not_win _ _ fun hw => e ?_
    have h1 := hw ⟨1, by decide⟩
    have h2 : 128 * (2 * k.val + i.val) ≤ x.val ∧ x.val < 128 * (2 * k.val + i.val) + 128 := h1
    omega

theorem steps8_eq (l : Loads Ideal) : ∃ p : Fin 4 → Fin 2 → _, (∀ k i, Sums8 l k i (p k i)) ∧ steps8 l
    = [step8 0 0 inb_S1x1024_S1x128_0_0 (p 0 0), step8 0 1 inb_S1x1024_S1x128_0_128 (p 0 1), step8 1 0 inb_S1x1024_S1x128_0_256 (p 1 0),
      step8 1 1 inb_S1x1024_S1x128_0_384 (p 1 1), step8 2 0 inb_S1x1024_S1x128_0_512 (p 2 0), step8 2 1 inb_S1x1024_S1x128_0_640 (p 2 1),
      step8 3 0 inb_S1x1024_S1x128_0_768 (p 3 0), step8 3 1 inb_S1x1024_S1x128_0_896 (p 3 1)] := by
  refine ⟨fun k i => if i = 0 then k0_pay49 (l.kLow k) (l.kHigh k) (l.ds k 0) (l.ds k 1) else k0_pay49 (l.kLow k) (l.kHigh k) (l.ds k 2) (l.ds k 3), fun k i => ?_, rfl⟩
  match i with
  | 0 => exact sums8_low l k
  | 1 => exact sums8_high l k

theorem steps8_adds (l : Loads Ideal) : ∀ t ∈ steps8 l, t.Adds := by
  obtain ⟨p, hp, e⟩ := steps8_eq l
  rw [e]
  simp only [List.forall_mem_cons, List.not_mem_nil, false_imp_iff, implies_true, and_true]
  exact ⟨step8_adds _ _ _ _ _ (hp _ _), step8_adds _ _ _ _ _ (hp _ _), step8_adds _ _ _ _ _ (hp _ _), step8_adds _ _ _ _ _ (hp _ _),
    step8_adds _ _ _ _ _ (hp _ _), step8_adds _ _ _ _ _ (hp _ _), step8_adds _ _ _ _ _ (hp _ _), step8_adds _ _ _ _ _ (hp _ _)⟩

theorem contribs8 (l : Loads Ideal) (x : Fin 1024) : ((steps8 l).map fun t => t.contrib (ix2 0 x)).sum = l.add8 x := by
  obtain ⟨p, hp, e⟩ := steps8_eq l
  rw [e]
  simp only [List.map_cons, List.map_nil, List.sum_cons, List.sum_nil, step8_contrib _ _ _ _ _ (hp _ _)]
  have hq : x.val / 128 < 8 := by omega
  generalize x.val / 128 = q at hq
  interval_cases q <;> simp

theorem canon8 (l : Loads Ideal) (a : Memref sig .tc .vmem S1x1024 .f32) (ha : a.IsWhole) (y8 : Vec Ideal S1x1024 .f32) (y : S1x1024.Idx)
    (hy : ∃ p ∈ ((steps8 l).reverse.map fun t => (⟨Rect.unit t.off t.size t.inb, t.pay (View.readAt (Elt Ideal) a.view (Rect.unit t.off t.size t.inb).toLoadRect (ha.unread y8))⟩ : View.Piece (Elt Ideal) S1x1024 .f32)), y ∈ p.1.set) :
    View.canon ((steps8 l).reverse.map fun t => (⟨Rect.unit t.off t.size t.inb, t.pay (View.readAt (Elt Ideal) a.view (Rect.unit t.off t.size t.inb).toLoadRect (ha.unread y8))⟩ : View.Piece (Elt Ideal) S1x1024 .f32)) y
      = (y8 y + l.add8 (y 1) : EReal) := by
  refine View.canon_apply_of_pieces (fun y : S1x1024.Idx => (y8 y + l.add8 (y 1) : EReal)) _ ?_ y hy
  intro q hq
  obtain ⟨t, ht, rfl⟩ := List.mem_map.mp hq
  have ht := List.mem_reverse.mp ht
  have key : ∀ k i b p, Sums8 l k i p → ∀ x, (step8 k i b p).pay (View.readAt (Elt Ideal) a.view (Rect.unit (step8 k i b p).off (step8 k i b p).size (step8 k i b p).inb).toLoadRect (ha.unread y8)) x
      = (fun y : S1x1024.Idx => (y8 y + l.add8 (y 1) : EReal)) ((Rect.unit (s := S1x1024) (step8 k i b p).off (step8 k i b p).size (step8 k i b p).inb).emb x) := fun k i b p h =>
    forall_ix2 (n := 1) (k := 128) fun z s => by
      obtain rfl : z = 0 := Subsingleton.elim _ _
      refine (h _ s).trans ?_
      refine congrArg₂ (· + · : EReal → EReal → EReal) (Memref.IsWhole.readAt_unread ha y8 _ _) (congrArg l.add8 (Fin.ext ?_))
      show 128 * (2 * k.val + i.val) + s.val = 128 * (2 * k.val + i.val) + 1 * s.val
      omega
  obtain ⟨p, hp, e⟩ := steps8_eq l
  rw [e] at ht
  simp only [List.mem_cons, List.not_mem_nil, or_false] at ht
  rcases ht with rfl | rfl | rfl | rfl | rfl | rfl | rfl | rfl <;> exact key _ _ _ _ (hp _ _)

/-! ## The sinks -/

theorem pay172_apply (l : Loads Ideal) (ps : Vec Ideal S128x128 .f32) (w : Vec Ideal S1x128 .f32) (h : Fin 128) :
    k0_pay172 l.dots ps w (ix2 0 h) = (w (ix2 0 h) + l.add9 (fun r h => ps (ix2 r h)) h : EReal) := by
  unfold Loads.add9
  simp only [← Loads.dots_apply]
  pointwise [k0_pay172]

end Cert.Kernel2Ideal.Hand
end
-- ==== Proof.AttnSums.lean ====
/-
  The attention gradient's results after every point, in the points' own blocks.
-/
module

public import proofs.«01_k».proof.Proof.AttnOut

@[expose] public section

set_option maxRecDepth 16384

noncomputable section

namespace Cert.Kernel2Ideal.Hand

open Cert.Kernel2Ideal Cert.Kernel2Ideal.Gen
open Idealize.ShloMosaic Idealize.ShloMosaic.TcCoe Idealize.SL.Sem
open Idealize.ShloMosaic.Pointwise

variable (m : (ℓ : Loc nD τ sig) → Buf (Elt Ideal) ℓ)

/-- What a point loads. -/
def lds (c : Dev nD) (t : Fin cfg0.N) : Loads Ideal :=
  loads (ms0 t) (hs0 t) (ms1 t) (hs1 t) (ms2 t) (hs2 t) (ms3 t) (hs3 t) (ms5 t) (hs5 t) (iblk m c 0 t) (iblk m c 1 t) (iblk m c 2 t) (iblk m c 3 t) (iblk m c 5 t)

/-- The probabilities of the sinks in a point's rows. -/
def snk (c : Dev nD) (t : Fin cfg0.N) (r h : Fin 128) : EReal := (iblk m c 4 t : Vec Ideal S128x128 .f32) (ix2 r h)

theorem read_sink (c : Dev nD) (t : Fin cfg0.N) :
    View.readAt (Elt Ideal) (ms4 t).view (Rect.unit (s := S128x128) ![0, 0] S128x128.size inb_S128x128_S128x128_0_0).toLoadRect ((hs4 t).unread (iblk m c 4 t)) = iblk m c 4 t := by
  rw [View.readAt_eq_ld, (hs4 t).read_unread]
  exact View.ld_unit_zero (S := S128x128) zero2 inb_S128x128_S128x128_0_0 _

theorem grows7 (c : Dev nD) (t : Fin cfg0.N) (h : 1 ≤ t.val) (y : Outs Ideal) (a : Fin 8) (R : Fin 2048) (d : Fin 64) :
    (outsLater m c t h y).2.1 (ix3 a R d) = (y.2.1 (ix3 a R d) + (lds m c t).add7 t.val a R d : EReal) := by
  unfold outsLater; dsimp only
  rw [later7 c (grid0.coords t) (ms0 t) (hs0 t) (ms1 t) (hs1 t) (ms2 t) (hs2 t) (ms3 t) (hs3 t) (ms4 t) (hs4 t) (ms5 t) (hs5 t)]
  rw [read_accs2 _ _ _ _ (pairs7_adds _ _) (pairs7_apart _ _) (fun _ _ _ _ => rfl), contribs7_pairs, contribs7]
  refine congrArg₂ (· + · : EReal → EReal → EReal) (congrFun ((hs7 t).read_unread y.2.1) _) ?_
  rw [point_eq t]; rfl

theorem grows8 (c : Dev nD) (t : Fin cfg0.N) (h : 1 ≤ t.val) (y : Outs Ideal) (x : Fin 1024) :
    (outsLater m c t h y).2.2.1 (ix2 0 x) = (y.2.2.1 (ix2 0 x) + (lds m c t).add8 x : EReal) := by
  have hc := coverL_8 m c t h y.2.1 y.2.2.1 y.2.2.2 (ix2 0 x)
  unfold outsLater; dsimp only
  rw [later8 c (grid0.coords t) (ms0 t) (hs0 t) (ms1 t) (hs1 t) (ms2 t) (hs2 t) (ms3 t) (hs3 t) (ms4 t) (hs4 t) (ms5 t) (hs5 t)] at hc ⊢
  exact canon8 _ _ (hs8 t) y.2.2.1 _ hc

theorem grows9 (c : Dev nD) (t : Fin cfg0.N) (h : 1 ≤ t.val) (y : Outs Ideal) (x : Fin 128) :
    (outsLater m c t h y).2.2.2 (ix2 0 x) = (y.2.2.2 (ix2 0 x) + (lds m c t).add9 (snk m c t) x : EReal) := by
  unfold outsLater; dsimp only
  rw [later9 c (grid0.coords t) (ms0 t) (hs0 t) (ms1 t) (hs1 t) (ms2 t) (hs2 t) (ms3 t) (hs3 t) (ms4 t) (hs4 t) (ms5 t) (hs5 t)]
  refine (congrFun (View.canon_unit_zero (S := S1x128) zero2 inb_S1x128_S1x128_0_0 _) (ix2 0 x)).trans ?_
  rw [read_sink]
  refine (pay172_apply _ _ _ x).trans ?_
  refine congrArg₂ (· + · : EReal → EReal → EReal) ?_ rfl
  rw [View.readAt_eq_ld, (hs9 t).read_unread]
  exact congrFun (View.ld_unit_zero (S := S1x128) zero2 inb_S1x128_S1x128_0_0 _) _

theorem rows6_later (c : Dev nD) (t : Fin cfg0.N) (h : 1 ≤ t.val) (y : Outs Ideal) (r : Fin 128) (x : Fin 1024) :
    (outsLater m c t h y).1 (ix2 r x) = (lds m c t).dq6 r x := by
  have hc := coverL_6 m c t h y.2.1 y.2.2.1 y.2.2.2 (ix2 r x)
  unfold outsLater; dsimp only
  rw [later6 c (grid0.coords t) (ms0 t) (hs0 t) (ms1 t) (hs1 t) (ms2 t) (hs2 t) (ms3 t) (hs3 t) (ms4 t) (hs4 t) (ms5 t) (hs5 t)] at hc ⊢
  exact canon6 _ _ hc

theorem rows6_first (c : Dev nD) (t : Fin cfg0.N) (h : t.val = 0) (r : Fin 128) (x : Fin 1024) :
    (outsFirst m c t h).1 (ix2 r x) = (lds m c t).dq6 r x := by
  have hc := coverF_6 m c t h (ix2 r x)
  unfold outsFirst; dsimp only
  rw [first6 c (grid0.coords t) (ms0 t) (hs0 t) (ms1 t) (hs1 t) (ms2 t) (hs2 t) (ms3 t) (hs3 t) (ms4 t) (hs4 t) (ms5 t) (hs5 t)] at hc ⊢
  exact canon6 _ _ hc

theorem zero_of_whole {s : Shape} {sg : RefSig} {κ : Kind} {sp : Space} (v : View sg κ sp s .f32) (f : v.ty.Contents (Elt Ideal)) {off : Fin s.rank → ℕ}
    (h : off = fun _ => 0) (inb) (w : Vec Ideal s .f32) (y : s.Idx) (hw : w y = (0 : EReal)) :
    v.read (Elt Ideal) (v.writes (Elt Ideal) f [⟨Rect.unit off s.size inb, w⟩]) y = (0 : EReal) := by
  rw [View.read_writes_eq_canon _ _ _ fun y => ⟨_, List.mem_singleton_self _, View.mem_set_unit_zero h inb y⟩, View.canon_unit_zero h]
  exact hw

theorem starts7 (c : Dev nD) (t : Fin cfg0.N) (h : t.val = 0) (a : Fin 8) (R : Fin 2048) (d : Fin 64) :
    (outsFirst m c t h).2.1 (ix3 a R d) = ((lds m c t).add7 t.val a R d : EReal) := by
  unfold outsFirst; dsimp only
  rw [← View.read_writes_eq_canon (ms7 t).view (ms7 t).view.junk _ (coverF_7 m c t h)]
  rw [first7 c (grid0.coords t) (ms0 t) (hs0 t) (ms1 t) (hs1 t) (ms2 t) (hs2 t) (ms3 t) (hs3 t) (ms4 t) (hs4 t) (ms5 t) (hs5 t)]
  rw [read_accs _ _ _ _ _ (steps7_adds _ _) (fun _ => rfl), contribs7]
  refine (congrArg₂ (· + · : EReal → EReal → EReal) (zero_of_whole _ _ zero3 inb_S8x2048x64_S8x2048x64_0_0_0 _ _ ?_) ?_).trans (zero_add _)
  · pointwise [k0_pay1]
  · rw [point_eq t]; rfl

theorem starts8 (c : Dev nD) (t : Fin cfg0.N) (h : t.val = 0) (x : Fin 1024) :
    (outsFirst m c t h).2.2.1 (ix2 0 x) = ((lds m c t).add8 x : EReal) := by
  unfold outsFirst; dsimp only
  rw [← View.read_writes_eq_canon (ms8 t).view (ms8 t).view.junk _ (coverF_8 m c t h)]
  rw [first8 c (grid0.coords t) (ms0 t) (hs0 t) (ms1 t) (hs1 t) (ms2 t) (hs2 t) (ms3 t) (hs3 t) (ms4 t) (hs4 t) (ms5 t) (hs5 t)]
  rw [read_accs _ _ _ _ _ (steps8_adds _) (fun _ => rfl), contribs8]
  refine (congrArg₂ (· + · : EReal → EReal → EReal) (zero_of_whole _ _ zero2 inb_S1x1024_S1x1024_0_0 _ _ ?_) rfl).trans (zero_add _)
  pointwise [k0_pay3]

theorem starts9 (c : Dev nD) (t : Fin cfg0.N) (h : t.val = 0) (x : Fin 128) :
    (outsFirst m c t h).2.2.2 (ix2 0 x) = ((lds m c t).add9 (snk m c t) x : EReal) := by
  unfold outsFirst; dsimp only
  rw [first9 c (grid0.coords t) (ms0 t) (hs0 t) (ms1 t) (hs1 t) (ms2 t) (hs2 t) (ms3 t) (hs3 t) (ms4 t) (hs4 t) (ms5 t) (hs5 t)]
  refine (congrFun (View.canon_cons_unit_zero (S := S1x128) zero2 inb_S1x128_S1x128_0_0 _ _) (ix2 0 x)).trans ?_
  rw [read_sink]
  refine (pay172_apply _ _ _ x).trans ?_
  refine (congrArg₂ (· + · : EReal → EReal → EReal) ?_ rfl).trans (zero_add _)
  refine (congrFun (View.readCov_unit_zero (S := S1x128) _ zero2 inb_S1x128_S1x128_0_0 _) _).trans ?_
  pointwise [k0_pay2]

/-! ## All points so far -/

/-- What point `n` adds to the last three results. -/
def A7 (c : Dev nD) (a : Fin 8) (R : Fin 2048) (d : Fin 64) (n : ℕ) : EReal := if h : n < cfg0.N then (lds m c ⟨n, h⟩).add7 n a R d else 0
def A8 (c : Dev nD) (x : Fin 1024) (n : ℕ) : EReal := if h : n < cfg0.N then (lds m c ⟨n, h⟩).add8 x else 0
def A9 (c : Dev nD) (x : Fin 128) (n : ℕ) : EReal := if h : n < cfg0.N then (lds m c ⟨n, h⟩).add9 (snk m c ⟨n, h⟩) x else 0

theorem outsAt_rows (c : Dev nD) (n : ℕ) (hn : n < cfg0.N) (r : Fin 128) (x : Fin 1024) :
    (outsAt m c n hn).1 (ix2 r x) = (lds m c ⟨n, hn⟩).dq6 r x := by
  cases n with
  | zero => exact rows6_first m c ⟨0, hn⟩ rfl r x
  | succ n => exact rows6_later m c ⟨n + 1, hn⟩ (Nat.succ_le_succ (Nat.zero_le n)) _ r x

theorem outsAt_sums (c : Dev nD) : ∀ (n : ℕ) (hn : n < cfg0.N),
    (∀ a R d, (outsAt m c n hn).2.1 (ix3 a R d) = ∑ t ∈ Finset.range (n + 1), A7 m c a R d t)
    ∧ (∀ x, (outsAt m c n hn).2.2.1 (ix2 0 x) = ∑ t ∈ Finset.range (n + 1), A8 m c x t)
    ∧ (∀ x, (outsAt m c n hn).2.2.2 (ix2 0 x) = ∑ t ∈ Finset.range (n + 1), A9 m c x t)
  | 0, hn => ⟨fun a R d => by
        rw [Finset.sum_range_one, A7, dif_pos hn]; exact starts7 m c ⟨0, hn⟩ rfl a R d,
      fun x => by rw [Finset.sum_range_one, A8, dif_pos hn]; exact starts8 m c ⟨0, hn⟩ rfl x,
      fun x => by rw [Finset.sum_range_one, A9, dif_pos hn]; exact starts9 m c ⟨0, hn⟩ rfl x⟩
  | n + 1, hn => by
      obtain ⟨i7, i8, i9⟩ := outsAt_sums c n (Nat.lt_of_succ_lt hn)
      have h1 : 1 ≤ n + 1 := Nat.succ_le_succ (Nat.zero_le n)
      refine ⟨fun a R d => ?_, fun x => ?_, fun x => ?_⟩
      · rw [Finset.sum_range_succ, ← i7, A7, dif_pos hn]; exact grows7 m c ⟨n + 1, hn⟩ h1 _ a R d
      · rw [Finset.sum_range_succ, ← i8, A8, dif_pos hn]; exact grows8 m c ⟨n + 1, hn⟩ h1 _ x
      · rw [Finset.sum_range_succ, ← i9, A9, dif_pos hn]; exact grows9 m c ⟨n + 1, hn⟩ h1 _ x

/-! ## The result arrays -/

abbrev resQ (c : Dev nD) : FVec Ideal S2048x1024 .bf16 := (dats m 0 c).arrAt 6 cfg0.N
abbrev resKV (c : Dev nD) : FVec Ideal S8x2048x64 .f32 := (dats m 0 c).arrAt 7 cfg0.N
abbrev resB (c : Dev nD) : FVec Ideal S1x1024 .f32 := (dats m 0 c).arrAt 8 cfg0.N
abbrev resS (c : Dev nD) : FVec Ideal S1x128 .f32 := (dats m 0 c).arrAt 9 cfg0.N

/-- The last point. -/
def lastPt : Fin cfg0.N := ⟨15, by rw [show cfg0.N = 16 from N_0]; omega⟩

theorem idx6 : ∀ t : Fin cfg0.N, win0_6.index t 0 = t.val ∧ win0_6.index t 1 = 0 :=
  (by decide +kernel : ∀ t : Fin grid0.N, win0_6.index t 0 = t.val ∧ win0_6.index t 1 = 0)

set_option maxHeartbeats 4000000 in
theorem resQ_apply (c : Dev nD) (t : Fin cfg0.N) (r : Fin 128) (x : Fin 1024) (R : Fin 2048) (hR : R.val = 128 * t.val + r.val) :
    resQ m c (ix2 R x) = (lds m c t).dq6 r x := by
  have d : ∀ t t' : Fin cfg0.N, (cfg0.win 6).flush t = true → (cfg0.win 6).flush t' = true → t ≠ t' →
      Disjoint ((cfg0.win 6).blk t).view.set ((cfg0.win 6).blk t').view.set := fun t t' _ _ hne =>
    (cfg0.win 6).disjoint_blk fun h => hne (Fin.ext ((idx6 t).1.symm.trans ((congrFun h 0).trans (idx6 t').1)))
  have b := congrFun ((dats m 0 c).read_blk_arrAt_eq_flushed 6 d cfg0.N t t.isLt (flush0_6 t)) (ix2 r x)
  have e : ((cfg0.win 6).blk t).view.emb (ix2 r x) = ix2 R x := by
    obtain ⟨e0, e1⟩ := idx6 t
    funext a; apply Fin.ext
    match a with
    | ⟨0, _⟩ => show win0_6.index t 0 * 128 + 1 * r.val = R.val; rw [e0]; omega
    | ⟨1, _⟩ => show win0_6.index t 1 * 1024 + 1 * x.val = x.val; rw [e1]; omega
  have b' : resQ m c (((cfg0.win 6).blk t).view.emb (ix2 r x)) = (outsAt m c t.val t.isLt).1 (ix2 r x) := b
  rw [e, outsAt_rows] at b'
  exact b'

theorem flush_last {t : Fin cfg0.N} (h : t.val % 16 = 15) : t = lastPt := by
  have hN : t.val < 16 := lt_of_lt_of_eq t.isLt N_0
  exact Fin.ext (show t.val = 15 by omega)

theorem idx7 : win0_7.index lastPt 0 = 0 ∧ win0_7.index lastPt 1 = 0 ∧ win0_7.index lastPt 2 = 0 := by decide +kernel
theorem idx8 : win0_8.index lastPt 0 = 0 ∧ win0_8.index lastPt 1 = 0 := by decide +kernel
theorem idx9 : win0_9.index lastPt 0 = 0 ∧ win0_9.index lastPt 1 = 0 := by decide +kernel

set_option maxHeartbeats 4000000 in
theorem resKV_apply (c : Dev nD) (a : Fin 8) (R : Fin 2048) (d : Fin 64) :
    resKV m c (ix3 a R d) = ∑ t ∈ Finset.range 16, A7 m c a R d t := by
  have dj : ∀ t t' : Fin cfg0.N, (cfg0.win 7).flush t = true → (cfg0.win 7).flush t' = true → t ≠ t' →
      Disjoint ((cfg0.win 7).blk t).view.set ((cfg0.win 7).blk t').view.set := fun t t' h h' hne =>
    absurd ((flush_last ((flush0_7 t).mp h)).trans (flush_last ((flush0_7 t').mp h')).symm) hne
  have b := congrFun ((dats m 0 c).read_blk_arrAt_eq_flushed 7 dj cfg0.N lastPt lastPt.isLt ((flush0_7 _).mpr rfl)) (ix3 a R d)
  have e : ((cfg0.win 7).blk lastPt).view.emb (ix3 a R d) = ix3 a R d := by
    obtain ⟨e0, e1, e2⟩ := idx7
    funext x; apply Fin.ext
    match x with
    | ⟨0, _⟩ => show win0_7.index lastPt 0 * 8 + 1 * a.val = a.val; rw [e0]; omega
    | ⟨1, _⟩ => show win0_7.index lastPt 1 * 2048 + 1 * R.val = R.val; rw [e1]; omega
    | ⟨2, _⟩ => show win0_7.index lastPt 2 * 64 + 1 * d.val = d.val; rw [e2]; omega
  have b' : resKV m c (((cfg0.win 7).blk lastPt).view.emb (ix3 a R d)) = (outsAt m c lastPt.val lastPt.isLt).2.1 (ix3 a R d) := b
  rw [e, (outsAt_sums m c _ _).1] at b'
  exact b'

set_option maxHeartbeats 4000000 in
theorem resB_apply (c : Dev nD) (x : Fin 1024) : resB m c (ix2 0 x) = ∑ t ∈ Finset.range 16, A8 m c x t := by
  have dj : ∀ t t' : Fin cfg0.N, (cfg0.win 8).flush t = true → (cfg0.win 8).flush t' = true → t ≠ t' →
      Disjoint ((cfg0.win 8).blk t).view.set ((cfg0.win 8).blk t').view.set := fun t t' h h' hne =>
    absurd ((flush_last ((flush0_8 t).mp h)).trans (flush_last ((flush0_8 t').mp h')).symm) hne
  have b := congrFun ((dats m 0 c).read_blk_arrAt_eq_flushed 8 dj cfg0.N lastPt lastPt.isLt ((flush0_8 _).mpr rfl)) (ix2 0 x)
  have e : ((cfg0.win 8).blk lastPt).view.emb (ix2 0 x) = ix2 0 x := by
    obtain ⟨e0, e1⟩ := idx8
    funext a; apply Fin.ext
    match a with
    | ⟨0, _⟩ => show win0_8.index lastPt 0 * 1 + 1 * 0 = 0; rw [e0]
    | ⟨1, _⟩ => show win0_8.index lastPt 1 * 1024 + 1 * x.val = x.val; rw [e1]; omega
  have b' : resB m c (((cfg0.win 8).blk lastPt).view.emb (ix2 0 x)) = (outsAt m c lastPt.val lastPt.isLt).2.2.1 (ix2 0 x) := b
  rw [e, (outsAt_sums m c _ _).2.1] at b'
  exact b'

set_option maxHeartbeats 4000000 in
theorem resS_apply (c : Dev nD) (x : Fin 128) : resS m c (ix2 0 x) = ∑ t ∈ Finset.range 16, A9 m c x t := by
  have dj : ∀ t t' : Fin cfg0.N, (cfg0.win 9).flush t = true → (cfg0.win 9).flush t' = true → t ≠ t' →
      Disjoint ((cfg0.win 9).blk t).view.set ((cfg0.win 9).blk t').view.set := fun t t' h h' hne =>
    absurd ((flush_last ((flush0_9 t).mp h)).trans (flush_last ((flush0_9 t').mp h')).symm) hne
  have b := congrFun ((dats m 0 c).read_blk_arrAt_eq_flushed 9 dj cfg0.N lastPt lastPt.isLt ((flush0_9 _).mpr rfl)) (ix2 0 x)
  have e : ((cfg0.win 9).blk lastPt).view.emb (ix2 0 x) = ix2 0 x := by
    obtain ⟨e0, e1⟩ := idx9
    funext a; apply Fin.ext
    match a with
    | ⟨0, _⟩ => show win0_9.index lastPt 0 * 1 + 1 * 0 = 0; rw [e0]
    | ⟨1, _⟩ => show win0_9.index lastPt 1 * 128 + 1 * x.val = x.val; rw [e1]; omega
  have b' : resS m c (((cfg0.win 9).blk lastPt).view.emb (ix2 0 x)) = (outsAt m c lastPt.val lastPt.isLt).2.2.2 (ix2 0 x) := b
  rw [e, (outsAt_sums m c _ _).2.2] at b'
  exact b'

end Cert.Kernel2Ideal.Hand
end
-- ==== Proof.AttnHost.lean ====
module

public import proofs.«01_k».proof.Proof.Gen.Reference2Ideal.Read
public import proofs.«01_k».proof.Proof.AttnSums
public import Idealize.ShloMosaic.Lib.Pointwise
public import Idealize.ShloMosaic.Lib.StableHlo.RunLoop
public import Idealize.ShloMosaic.Lib.StableHlo.RunRead

/-!
What the attention kernel's operands hold when its region is entered, in terms of the
stages of the plainly written reference: the queries, the keys and values, the attention
probabilities with the sink column, and the incoming cotangent.
-/

@[expose] public section

set_option maxRecDepth 16384

noncomputable section

namespace Cert.Kernel2Ideal.Hand
open Cert.Kernel2Ideal Cert.Kernel2Ideal.Gen
open Idealize.ShloMosaic Idealize.ShloMosaic.TcCoe Idealize.SL.Sem
open Idealize.ShloMosaic.Pointwise
open Cert.Reference2Ideal.Read

variable (m : (ℓ : Loc nD τ sig) → Buf (Elt Ideal) ℓ)

abbrev arg0 (c : Dev nD) : FVec Ideal S1x2048x1024 .f32 := m (c.tc.loc main_arg0)
abbrev arg1 (c : Dev nD) : FVec Ideal S1024x1024 .f32 := m (c.tc.loc main_arg1)
abbrev arg2 (c : Dev nD) : FVec Ideal S1024 .f32 := m (c.tc.loc main_arg2)
abbrev arg3 (c : Dev nD) : FVec Ideal S1024x512 .f32 := m (c.tc.loc main_arg3)
abbrev arg4 (c : Dev nD) : FVec Ideal S512 .f32 := m (c.tc.loc main_arg4)
abbrev arg5 (c : Dev nD) : FVec Ideal S16 .f32 := m (c.tc.loc main_arg5)
abbrev arg6 (c : Dev nD) : FVec Ideal S1x2048x1024 .f32 := m (c.tc.loc main_arg6)

/-- The buffers once the masked scores stand, before the sinks are appended. -/
def mid (c : Dev nD) : Valuation τ sig (Elt Ideal) :=
  StableHlo.after (List.flatten [hostOps0, hostOps0_1]) (fun b => m (c, b))

/-- The host's last operations, from the masked scores on. -/
abbrev late : List (HloOp τ sig (Elt Ideal)) := List.flatten [hostOps0_2, hostOps0_3, hostOps0_4]

theorem V_late (c : Dev nD) (b : Ref sig .tc) :
    V m c b = StableHlo.after late (mid m c) b := by
  unfold V mid late
  simp only [← StableHlo.afterL_eq_after_flatten, StableHlo.afterL_cons, StableHlo.afterL_nil]

theorem mid_scores (c : Dev nD) : (mid m c (Proc.devRef .tc main_v61) : FVec Ideal S1x16x4x4x128x256 .f32)
    = val_main_v71_0 (F := Ideal) (arg0 m c) (arg1 m c) (arg2 m c) (arg3 m c) (arg4 m c) := by
  unfold mid
  unfold_abbrev_sides
  after_reads_simp
  sl_kernel_rfl

theorem mid_sinks (c : Dev nD) : (mid m c (Proc.devRef .tc main_arg5) : FVec Ideal S16 .f32) = arg5 m c := by
  unfold mid
  unfold_abbrev_sides
  after_reads_simp

/-- The masked scores with the sinks appended as a last key. -/
abbrev withSink (z : FVec Ideal S1x16x4x4x128x256 .f32) (s : FVec Ideal S16 .f32) : FVec Ideal S1x16x4x4x128x257 .f32 :=
  concatenate S1x16x4x4x128x257 5 [⟨S1x16x4x4x128x256, z⟩, ⟨S1x16x4x4x128x1,
    broadcastInDim S1x16x4x4x128x1 ![0, 1, 2, 3, 4, 5] bcast_S1x1x4x4x1x1_S1x16x4x4x128x1_0_1_2_3_4_5
      (broadcastInDim S1x1x4x4x1x1 ![2, 3] bcast_S4x4_S1x1x4x4x1x1_2_3 (shapeCast S4x4 s shapeCasts_S16_S4x4))⟩]
    concatenates_S1x16x4x4x128x256_S1x16x4x4x128x1_S1x16x4x4x128x257_d5

/-- The exponentials of the scores' distances from their row's greatest. -/
abbrev expo (z : FVec Ideal S1x16x4x4x128x257 .f32) : FVec Ideal S1x16x4x4x128x257 .f32 :=
  Host.exp (F := Ideal) (subf (F := Ideal) z
    (broadcastInDim S1x16x4x4x128x257 ![0, 1, 2, 3, 4, 5] bcast_S1x16x4x4x128x1_S1x16x4x4x128x257_0_1_2_3_4_5
      (broadcastInDim S1x16x4x4x128x1 ![0, 1, 2, 3, 4] bcast_S1x16x4x4x128_S1x16x4x4x128x1_0_1_2_3_4
        (maximumf (F := Ideal) (broadcastInDim S1x16x4x4x128 ![] bcast_S_S1x16x4x4x128 (constant (F := Ideal) S_ .f32 0xFF800000#32))
          (Host.reduce (FloatOps.maximumf (F := Ideal) (φ := .f32)) z (constant (F := Ideal) S_ .f32 0xFF800000#32) reducesTo_S1x16x4x4x128x257_S1x16x4x4x128_d5 h_S_)))))

/-- A row's entries over their sum. -/
abbrev share (e : FVec Ideal S1x16x4x4x128x257 .f32) : FVec Ideal S1x16x4x4x128x257 .f32 :=
  Host.divf (F := Ideal) e
    (broadcastInDim S1x16x4x4x128x257 ![0, 1, 2, 3, 4, 5] bcast_S1x16x4x4x128x1_S1x16x4x4x128x257_0_1_2_3_4_5
      (broadcastInDim S1x16x4x4x128x1 ![0, 1, 2, 3, 4] bcast_S1x16x4x4x128_S1x16x4x4x128x1_0_1_2_3_4
        (Host.reduceAdd (F := Ideal) e (constant (F := Ideal) S_ .f32 0x00000000#32) reducesTo_S1x16x4x4x128x257_S1x16x4x4x128_d5 h_S_)))

/-- A softmax by head and row. -/
abbrev byHead (y : FVec Ideal S1x16x4x4x128x257 .f32) : FVec Ideal S16x2048x257 .f32 :=
  shapeCast S16x2048x257 (transpose S1x4x4x16x128x257 [0, 2, 3, 1, 4, 5] y transposes_S1x16x4x4x128x257_S1x4x4x16x128x257_0_2_3_1_4_5) shapeCasts_S1x4x4x16x128x257_S16x2048x257

theorem late_probs (W : Valuation τ sig (Elt Ideal)) :
    (StableHlo.after late W (Proc.devRef .tc main_v90) : FVec Ideal S16x2048x256 .bf16)
    = truncf (F := Ideal) .bf16 (extractStridedSlice S16x2048x256 ![0, 0, 0] (byHead (share (expo (withSink
        (W (Proc.devRef .tc main_v61)) (W (Proc.devRef .tc main_arg5))))))
        slices_S16x2048x257_S16x2048x256_0_0_0) bitsLt_bf16_f32 := by
  unfold late
  unfold_abbrev_sides
  after_reads_simp
  sl_kernel_rfl

theorem late_sinks (W : Valuation τ sig (Elt Ideal)) :
    (StableHlo.after late W (Proc.devRef .tc main_v82) : FVec Ideal S2048x128 .f32)
    = pad S2048x128 ![0, 0] ![0, 112] ![0, 0] (transpose S2048x16 [1, 0] (shapeCast S16x2048
        (extractStridedSlice S16x2048x1 ![0, 0, 256] (byHead (share (expo (withSink
        (W (Proc.devRef .tc main_v61)) (W (Proc.devRef .tc main_arg5)))))) slices_S16x2048x257_S16x2048x1_0_0_256)
        shapeCasts_S16x2048x1_S16x2048) transposes_S16x2048_S2048x16_1_0)
        (sitofp (F := Ideal) .f32 (constantI S_ 32 0#32)) pads_S2048x16_S2048x128_000_01120 h_S_ := by
  unfold late
  unfold_abbrev_sides
  after_reads_simp
  sl_kernel_rfl

theorem share_eq (c : Dev nD) : share (expo (withSink (val_main_v71_0 (F := Ideal) (arg0 m c) (arg1 m c) (arg2 m c) (arg3 m c) (arg4 m c)) (arg5 m c)))
    = val_main_v100 (F := Ideal) (arg0 m c) (arg1 m c) (arg2 m c) (arg3 m c) (arg4 m c) (arg5 m c) := by
  unfold val_main_v100 val_main_v99 val_main_v98 val_main_v97 val_main_v96 val_main_v95 val_main_v94 val_main_v93 val_main_v83 val_main_v76 val_main_v75 val_main_v74 val_main_v73 val_main_v72
  generalize val_main_v71_0 (F := Ideal) (arg0 m c) (arg1 m c) (arg2 m c) (arg3 m c) (arg4 m c) = z
  sl_kernel_rfl

theorem host_q (c : Dev nD) : (V m c main_v85 : FVec Ideal S16x2048x64 .bf16)
    = truncf (F := Ideal) .bf16 (transpose S16x2048x64 [1, 0, 2] (shapeCast S2048x16x64 (val_main_v26 (F := Ideal) (arg0 m c) (arg1 m c) (arg2 m c)) shapeCasts_S1x2048x1024_S2048x16x64) transposes_S2048x16x64_S16x2048x64_1_0_2) bitsLt_bf16_f32 := by
  sl_kernel_rfl

theorem host_kv (c : Dev nD) : (V m c main_v88 : FVec Ideal S8x2048x64 .bf16)
    = truncf (F := Ideal) .bf16 (transpose S8x2048x64 [1, 0, 2] (shapeCast S2048x8x64 (val_main_v5 (F := Ideal) (arg0 m c) (arg3 m c) (arg4 m c)) shapeCasts_S1x2048x2x4x64_S2048x8x64) transposes_S2048x8x64_S8x2048x64_1_0_2) bitsLt_bf16_f32 := by
  sl_kernel_rfl

theorem host_do (c : Dev nD) : (V m c main_v92 : FVec Ideal S2048x1024 .bf16)
    = truncf (F := Ideal) .bf16 (shapeCast S2048x1024 (arg6 m c) shapeCasts_S1x2048x1024_S2048x1024) bitsLt_bf16_f32 := by
  sl_kernel_rfl

theorem host_probs (c : Dev nD) : (V m c main_v90 : FVec Ideal S16x2048x256 .bf16)
    = truncf (F := Ideal) .bf16 (extractStridedSlice S16x2048x256 ![0, 0, 0] (byHead (val_main_v100 (F := Ideal) (arg0 m c) (arg1 m c) (arg2 m c) (arg3 m c) (arg4 m c) (arg5 m c)))
        slices_S16x2048x257_S16x2048x256_0_0_0) bitsLt_bf16_f32 := by
  rw [← share_eq, ← mid_scores, ← mid_sinks]
  exact (V_late m c main_v90).trans (late_probs (mid m c))

theorem host_sinks (c : Dev nD) : (V m c main_v82 : FVec Ideal S2048x128 .f32)
    = pad S2048x128 ![0, 0] ![0, 112] ![0, 0] (transpose S2048x16 [1, 0] (shapeCast S16x2048
        (extractStridedSlice S16x2048x1 ![0, 0, 256] (byHead (val_main_v100 (F := Ideal) (arg0 m c) (arg1 m c) (arg2 m c) (arg3 m c) (arg4 m c) (arg5 m c))) slices_S16x2048x257_S16x2048x1_0_0_256)
        shapeCasts_S16x2048x1_S16x2048) transposes_S16x2048_S2048x16_1_0)
        (sitofp (F := Ideal) .f32 (constantI S_ 32 0#32)) pads_S2048x16_S2048x128_000_01120 h_S_ := by
  rw [← share_eq, ← mid_scores, ← mid_sinks]
  exact (V_late m c main_v82).trans (late_sinks (mid m c))

end Cert.Kernel2Ideal.Hand
-- ==== Proof.AttnOperands.lean ====
module

public import proofs.«01_k».proof.Proof.AttnHost

/-!
What a point of the attention kernel loads, in terms of the stages of the plainly written
reference: the queries, keys, values, cotangents and probabilities of its block of rows.
-/

@[expose] public section

set_option maxRecDepth 16384

noncomputable section

namespace Cert.Kernel2Ideal.Hand
open Cert.Kernel2Ideal Cert.Kernel2Ideal.Gen
open Idealize.ShloMosaic Idealize.ShloMosaic.TcCoe Idealize.SL.Sem
open Idealize.ShloMosaic.Pointwise
open Cert.Reference2Ideal.Read

/-- Row `r` of block `n`. -/
def at128 (n : Fin 16) (r : Fin 128) : Fin 2048 := ⟨128 * n.val + r.val, by omega⟩

section Stages

variable (x0 : FVec Ideal S1x2048x1024 .f32) (x1 : FVec Ideal S1024x1024 .f32) (x2 : FVec Ideal S1024 .f32) (x3 : FVec Ideal S1024x512 .f32) (x4 : FVec Ideal S512 .f32) (x6 : FVec Ideal S1x2048x1024 .f32)

theorem q_stage (n : Fin 16) (k g : Fin 4) (r : Fin 128) (d : Fin 64) :
    truncf (F := Ideal) .bf16 (transpose S16x2048x64 [1, 0, 2] (shapeCast S2048x16x64 (val_main_v26 (F := Ideal) x0 x1 x2) shapeCasts_S1x2048x1024_S2048x16x64) transposes_S2048x16x64_S16x2048x64_1_0_2) bitsLt_bf16_f32 (ix3 (qh k g) (at128 n r) d)
      = val_main_v27 (F := Ideal) x0 x1 x2 (ix6 0 n r k g d) := by
  unfold val_main_v27
  generalize val_main_v26 (F := Ideal) x0 x1 x2 = z
  generalize ha : qh k g = a
  generalize hb : at128 n r = b
  pointwise
  subst ha hb
  refine congrArg₂ (fun a b => z (ix3 0 a b)) (Fin.ext ?_) (Fin.ext ?_)
  · show 128 * n.val + r.val = n.val * 128 + r.val; omega
  · show (4 * k.val + g.val) * 64 + d.val = k.val * 256 + g.val * 64 + d.val; omega

theorem do_stage (n : Fin 16) (k g : Fin 4) (r : Fin 128) (d : Fin 64) (a : Fin 1024) (ha : a.val = 256 * k.val + 64 * g.val + d.val) :
    truncf (F := Ideal) .bf16 (shapeCast S2048x1024 x6 shapeCasts_S1x2048x1024_S2048x1024) bitsLt_bf16_f32 (ix2 (at128 n r) a)
      = val_main_v108 (F := Ideal) x6 (ix6 0 n r k g d) := by
  unfold val_main_v108
  generalize x6 = z
  generalize hb : at128 n r = b
  pointwise
  subst hb
  refine congrArg₂ (fun a b => z (ix3 0 a b)) (Fin.ext ?_) (Fin.ext ?_)
  · show 128 * n.val + r.val = n.val * 128 + r.val; omega
  · show a.val = k.val * 256 + g.val * 64 + d.val; omega

theorem key_stage (n : Fin 16) (k : Fin 4) (s : Fin 256) (d : Fin 64) (R : Fin 2048) (hR : R.val + 128 = 128 * n.val + s.val) :
    truncf (F := Ideal) .bf16 (transpose S8x2048x64 [1, 0, 2] (shapeCast S2048x8x64 (val_main_v5 (F := Ideal) x0 x3 x4) shapeCasts_S1x2048x2x4x64_S2048x8x64) transposes_S2048x8x64_S8x2048x64_1_0_2) bitsLt_bf16_f32 (ix3 (kh k) R d)
      = val_main_v14 (F := Ideal) x0 x3 x4 (ix5 0 n s k d) := by
  unfold val_main_v14 val_main_v13 val_main_v12 val_main_v11 val_main_v9 val_main_v8 val_main_v7 val_main_v6 val_main_cst
  generalize val_main_v5 (F := Ideal) x0 x3 x4 = z
  generalize ha : kh k = a
  pointwise
  subst ha
  have e1 : (⟨(kh k).val / 4, by omega⟩ : Fin 2) = 0 := Fin.ext (by show k.val / 4 = 0; omega)
  have e2 : (⟨(kh k).val % 4, by omega⟩ : Fin 4) = k := Fin.ext (by show k.val % 4 = k.val; omega)
  rw [e1, e2]
  by_cases h : s.val < 128
  · rw [dif_pos h, dif_neg ?_]
    · refine congrArg (fun a => z (ix5 0 a 0 k d)) (Fin.ext ?_)
      show R.val = n.val * 128 + s.val - 128; omega
    · omega
  · rw [dif_neg h, dif_neg ?_]
    · refine congrArg (fun a => z (ix5 0 a 0 k d)) (Fin.ext ?_)
      show R.val = (1 + n.val) * 128 + (s.val - 128) - 128; omega
    · omega

theorem val_stage (n : Fin 16) (k : Fin 4) (s : Fin 256) (d : Fin 64) (R : Fin 2048) (hR : R.val + 128 = 128 * n.val + s.val) :
    truncf (F := Ideal) .bf16 (transpose S8x2048x64 [1, 0, 2] (shapeCast S2048x8x64 (val_main_v5 (F := Ideal) x0 x3 x4) shapeCasts_S1x2048x2x4x64_S2048x8x64) transposes_S2048x8x64_S8x2048x64_1_0_2) bitsLt_bf16_f32 (ix3 (vh k) R d)
      = val_main_v23 (F := Ideal) x0 x3 x4 (ix5 0 n s k d) := by
  unfold val_main_v23 val_main_v22 val_main_v21 val_main_v20 val_main_v18 val_main_v17 val_main_v16 val_main_v15 val_main_cst_1
  generalize val_main_v5 (F := Ideal) x0 x3 x4 = z
  generalize ha : vh k = a
  pointwise
  subst ha
  have e1 : (⟨(vh k).val / 4, by omega⟩ : Fin 2) = 1 := Fin.ext (by show (4 + k.val) / 4 = 1; omega)
  have e2 : (⟨(vh k).val % 4, by omega⟩ : Fin 4) = k := Fin.ext (by show (4 + k.val) % 4 = k.val; omega)
  rw [e1, e2]
  by_cases h : s.val < 128
  · rw [dif_pos h, dif_neg ?_]
    · refine congrArg (fun a => z (ix5 0 a 1 k d)) (Fin.ext ?_)
      show R.val = n.val * 128 + s.val - 128; omega
    · omega
  · rw [dif_neg h, dif_neg ?_]
    · refine congrArg (fun a => z (ix5 0 a 1 k d)) (Fin.ext ?_)
      show R.val = (1 + n.val) * 128 + (s.val - 128) - 128; omega
    · omega

theorem byHead_apply (y : FVec Ideal S1x16x4x4x128x257 .f32) (n : Fin 16) (k g : Fin 4) (r : Fin 128) (s : Fin 257) :
    byHead y (ix3 (qh k g) (at128 n r) s) = y (ix6 0 n k g r s) := by
  unfold byHead
  generalize ha : qh k g = a
  generalize hb : at128 n r = b
  pointwise
  have e1 : (⟨b.val / 128, by omega⟩ : Fin 16) = n := Fin.ext (by subst hb; show (128 * n.val + r.val) / 128 = n.val; omega)
  have e2 : (⟨a.val / 4, by omega⟩ : Fin 4) = k := Fin.ext (by subst ha; show (4 * k.val + g.val) / 4 = k.val; omega)
  have e3 : (⟨a.val % 4, by omega⟩ : Fin 4) = g := Fin.ext (by subst ha; show (4 * k.val + g.val) % 4 = g.val; omega)
  have e4 : (⟨b.val % 128, by omega⟩ : Fin 128) = r := Fin.ext (by subst hb; show (128 * n.val + r.val) % 128 = r.val; omega)
  rw [e1, e2, e3, e4]

theorem probs_stage (z : FVec Ideal S16x2048x257 .f32) (h : Fin 16) (R : Fin 2048) (s : Fin 256) :
    truncf (F := Ideal) .bf16 (extractStridedSlice S16x2048x256 ![0, 0, 0] z
        slices_S16x2048x257_S16x2048x256_0_0_0) bitsLt_bf16_f32 (ix3 h R s) = z (ix3 h R ⟨s.val, by omega⟩) := by
  pointwise

theorem sinks_stage (z : FVec Ideal S16x2048x257 .f32) (h : Fin 128) (R : Fin 2048)  :
    pad S2048x128 ![0, 0] ![0, 112] ![0, 0] (transpose S2048x16 [1, 0] (shapeCast S16x2048
        (extractStridedSlice S16x2048x1 ![0, 0, 256] z slices_S16x2048x257_S16x2048x1_0_0_256)
        shapeCasts_S16x2048x1_S16x2048) transposes_S16x2048_S2048x16_1_0)
        (sitofp (F := Ideal) .f32 (constantI S_ 32 0#32)) pads_S2048x16_S2048x128_000_01120 h_S_ (ix2 R h)
      = if H : h.val < 16 then z (ix3 ⟨h.val, H⟩ R 256) else 0 := by
  pointwise
  have e : FloatOps.sitofp (F := Ideal) FTy.f32 0#32 = (0 : EReal) := by
    show (((0 : ℤ) : ℝ) : EReal) = 0
    norm_num
  rw [e]

end Stages

variable (m : (ℓ : Loc nD τ sig) → Buf (Elt Ideal) ℓ)

/-- The block a point works on. -/
def blk (t : Fin cfg0.N) : Fin 16 := ⟨t.val, lt_of_lt_of_eq t.isLt (by decide +kernel)⟩

theorem idx_facts : ∀ t : Fin cfg0.N,
    (win0_0.index t 0 = 0 ∧ win0_0.index t 1 = t.val ∧ win0_0.index t 2 = 0)
    ∧ (win0_1.index t 0 = 0 ∧ win0_1.index t 1 = t.val ∧ win0_1.index t 2 = 0)
    ∧ (win0_2.index t 0 = 0 ∧ win0_2.index t 1 = t.val - 1 ∧ win0_2.index t 2 = 0)
    ∧ (win0_3.index t 0 = 0 ∧ win0_3.index t 1 = t.val ∧ win0_3.index t 2 = 0)
    ∧ (win0_4.index t 0 = t.val ∧ win0_4.index t 1 = 0)
    ∧ (win0_5.index t 0 = t.val ∧ win0_5.index t 1 = 0) :=
  (by decide +kernel : ∀ t : Fin grid0.N, _)

theorem qry_eq (c : Dev nD) (t : Fin cfg0.N) (k g : Fin 4) (r : Fin 128) (d : Fin 64) :
    (lds m c t).qry k g r d = val_main_v27 (F := Ideal) (arg0 m c) (arg1 m c) (arg2 m c) (ix6 0 (blk t) r k g d) := by
  rw [← q_stage, ← host_q]
  obtain ⟨⟨e0, e1, e2⟩, -⟩ := idx_facts t
  unfold Loads.qry lds loads
  dsimp only
  rw [View.readAt_eq_ld, (hs0 t).read_unread]
  unfold iblk
  show V m c main_v85 _ = V m c main_v85 _
  congr 1
  funext a; apply Fin.ext
  match a with
  | ⟨0, _⟩ => show win0_0.index t 0 * 16 + 1 * ((qh k g).val + 1 * 0) = (qh k g).val; rw [e0]; omega
  | ⟨1, _⟩ => show win0_0.index t 1 * 128 + 1 * (0 + 1 * r.val) = 128 * t.val + r.val; rw [e1]; omega
  | ⟨2, _⟩ => show win0_0.index t 2 * 64 + 1 * (0 + 1 * d.val) = d.val; rw [e2]; omega

theorem prb_eq (c : Dev nD) (t : Fin cfg0.N) (k g : Fin 4) (r : Fin 128) (s : Fin 256) :
    (lds m c t).prb k g r s = val_main_v100 (F := Ideal) (arg0 m c) (arg1 m c) (arg2 m c) (arg3 m c) (arg4 m c) (arg5 m c) (ix6 0 (blk t) k g r ⟨s.val, by omega⟩) := by
  refine Eq.trans ?_ (byHead_apply _ (blk t) k g r _)
  refine Eq.trans ?_ (probs_stage _ _ _ s)
  rw [← host_probs]
  obtain ⟨-, -, -, ⟨e0, e1, e2⟩, -⟩ := idx_facts t
  unfold Loads.prb lds loads
  dsimp only
  rw [View.readAt_eq_ld, (hs3 t).read_unread]
  unfold iblk
  show V m c main_v90 _ = V m c main_v90 _
  congr 1
  funext a; apply Fin.ext
  match a with
  | ⟨0, _⟩ => show win0_3.index t 0 * 16 + 1 * ((qh k g).val + 1 * 0) = (qh k g).val; rw [e0]; omega
  | ⟨1, _⟩ => show win0_3.index t 1 * 128 + 1 * (0 + 1 * r.val) = 128 * t.val + r.val; rw [e1]; omega
  | ⟨2, _⟩ => show win0_3.index t 2 * 256 + 1 * (0 + 1 * s.val) = s.val; rw [e2]; omega

theorem dO_eq (c : Dev nD) (t : Fin cfg0.N) (k g : Fin 4) (r : Fin 128) (d : Fin 64) :
    (lds m c t).dO k g r d = val_main_v108 (F := Ideal) (arg6 m c) (ix6 0 (blk t) r k g d) := by
  have hx : 256 * k.val + 64 * g.val + d.val < 1024 := by omega
  rw [← do_stage (arg6 m c) (blk t) k g r d ⟨256 * k.val + 64 * g.val + d.val, hx⟩ rfl, ← host_do]
  obtain ⟨-, -, -, -, -, ⟨e0, e1⟩⟩ := idx_facts t
  unfold Loads.dO lds loads
  dsimp only
  rw [View.readAt_eq_ld, (hs5 t).read_unread]
  unfold iblk
  show V m c main_v92 _ = V m c main_v92 _
  congr 1
  funext a; apply Fin.ext
  match a with
  | ⟨0, _⟩ => show win0_5.index t 0 * 128 + 1 * (0 + 1 * r.val) = 128 * t.val + r.val; rw [e0]; omega
  | ⟨1, _⟩ => show win0_5.index t 1 * 1024 + 1 * (128 * (2 * k.val + g.val / 2) + 1 * (64 * (g.val % 2) + d.val)) = 256 * k.val + 64 * g.val + d.val; rw [e1]; omega

theorem snk_eq (c : Dev nD) (t : Fin cfg0.N) (k g : Fin 4) (r h : Fin 128) (hh : h.val = (qh k g).val) :
    snk m c t r h = val_main_v100 (F := Ideal) (arg0 m c) (arg1 m c) (arg2 m c) (arg3 m c) (arg4 m c) (arg5 m c) (ix6 0 (blk t) k g r 256) := by
  refine Eq.trans ?_ (byHead_apply _ (blk t) k g r _)
  have hlt : h.val < 16 := by rw [hh]; exact (qh k g).isLt
  have e : (⟨h.val, hlt⟩ : Fin 16) = qh k g := Fin.ext hh
  rw [← e]
  refine Eq.trans ?_ ((sinks_stage _ h (at128 (blk t) r)).trans (dif_pos hlt))
  rw [← host_sinks]
  obtain ⟨-, -, -, -, ⟨e0, e1⟩, -⟩ := idx_facts t
  unfold snk iblk
  show V m c main_v82 _ = V m c main_v82 _
  congr 1
  funext a; apply Fin.ext
  match a with
  | ⟨0, _⟩ => show win0_4.index t 0 * 128 + 1 * r.val = 128 * t.val + r.val; rw [e0]; omega
  | ⟨1, _⟩ => show win0_4.index t 1 * 128 + 1 * h.val = h.val; rw [e1]; omega

set_option maxHeartbeats 2000000 in
/-- Row `s` of a point's keys or values, at head `a` of the two together: its own block's rows last. -/
theorem rows_eq (c : Dev nD) (t : Fin cfg0.N) (a : Fin 8) (s : Fin 256) (d : Fin 64) (R : Fin 2048) (hR : R.val + 128 = 128 * t.val + s.val) :
    rows ((lds m c t).prev a) ((lds m c t).cur a) s d = (V m c main_v88 : FVec Ideal S8x2048x64 .bf16) (ix3 a R d) := by
  obtain ⟨-, ⟨e0, e1, e2⟩, ⟨f0, f1, f2⟩, -⟩ := idx_facts t
  unfold rows lds loads
  dsimp only
  by_cases h : s.val < 128
  · rw [dif_pos h, View.readAt_eq_ld, (hs2 t).read_unread]
    unfold iblk
    show V m c main_v88 _ = V m c main_v88 _
    congr 1
    funext b; apply Fin.ext
    match b with
    | ⟨0, _⟩ => show win0_2.index t 0 * 8 + 1 * (a.val + 1 * 0) = a.val; rw [f0]; omega
    | ⟨1, _⟩ => show win0_2.index t 1 * 128 + 1 * (0 + 1 * s.val) = R.val; rw [f1]; omega
    | ⟨2, _⟩ => show win0_2.index t 2 * 64 + 1 * (0 + 1 * d.val) = d.val; rw [f2]; omega
  · rw [dif_neg h, View.readAt_eq_ld, (hs1 t).read_unread]
    unfold iblk
    show V m c main_v88 _ = V m c main_v88 _
    congr 1
    funext b; apply Fin.ext
    match b with
    | ⟨0, _⟩ => show win0_1.index t 0 * 8 + 1 * (a.val + 1 * 0) = a.val; rw [e0]; omega
    | ⟨1, _⟩ => show win0_1.index t 1 * 128 + 1 * (0 + 1 * (s.val - 128)) = R.val; rw [e1]; omega
    | ⟨2, _⟩ => show win0_1.index t 2 * 64 + 1 * (0 + 1 * d.val) = d.val; rw [e2]; omega

theorem key_eq (c : Dev nD) (t : Fin cfg0.N) (k : Fin 4) (s : Fin 256) (d : Fin 64) (h : 0 < t.val ∨ 128 ≤ s.val) :
    (lds m c t).key k s d = val_main_v14 (F := Ideal) (arg0 m c) (arg3 m c) (arg4 m c) (ix5 0 (blk t) s k d) := by
  have ht := (blk t).isLt
  have hR : 128 * t.val + s.val - 128 < 2048 := by change t.val < 16 at ht; omega
  have hR' : 128 * t.val + s.val - 128 + 128 = 128 * t.val + s.val := by omega
  rw [← key_stage (arg0 m c) (arg3 m c) (arg4 m c) (blk t) k s d ⟨_, hR⟩ hR', ← host_kv]
  exact rows_eq m c t (kh k) s d ⟨_, hR⟩ hR'

theorem val_eq (c : Dev nD) (t : Fin cfg0.N) (k : Fin 4) (s : Fin 256) (d : Fin 64) (h : 0 < t.val ∨ 128 ≤ s.val) :
    (lds m c t).val k s d = val_main_v23 (F := Ideal) (arg0 m c) (arg3 m c) (arg4 m c) (ix5 0 (blk t) s k d) := by
  have ht := (blk t).isLt
  have hR : 128 * t.val + s.val - 128 < 2048 := by change t.val < 16 at ht; omega
  have hR' : 128 * t.val + s.val - 128 + 128 = 128 * t.val + s.val := by omega
  rw [← val_stage (arg0 m c) (arg3 m c) (arg4 m c) (blk t) k s d ⟨_, hR⟩ hR', ← host_kv]
  exact rows_eq m c t (vh k) s d ⟨_, hR⟩ hR'

end Cert.Kernel2Ideal.Hand
end
-- ==== Proof.AttnBridge.lean ====
module

public import proofs.«01_k».proof.Proof.AttnReal
public import proofs.«01_k».proof.Proof.AttnSums
public import proofs.«01_k».proof.Proof.AttnOperands

/-!
The kernel's sums at a grid point are the reference's sums of the same block.
-/

@[expose] public section

set_option maxRecDepth 16384

noncomputable section

namespace Cert.Kernel2Ideal.Hand
open Idealize.ShloMosaic Idealize.ShloMosaic.TcCoe Idealize.SL.Sem
open Idealize.ShloMosaic.Pointwise
open Cert.Kernel2Ideal.Gen
open Cert.Reference2Ideal.Read Cert.Attn Cert.Reals

variable (m : (ℓ : Loc nD τ sig) → Buf (Elt Ideal) ℓ) (c : Dev nD)

/-- The seven arguments are real numbers. -/
abbrev Fin7At : Prop := Fin7 (arg0 m c) (arg1 m c) (arg2 m c) (arg3 m c) (arg4 m c) (arg5 m c) (arg6 m c)

variable {m c} (H : Fin7At m c)
include H

/-- Where the keys lie before the first block the probabilities are zero. -/
theorem early_zero (t : Fin cfg0.N) (k g : Fin 4) (r : Fin 128) (s : Fin 256) (h : ¬ (0 < t.val ∨ 128 ≤ s.val)) :
    val_main_v100 (F := Ideal) (arg0 m c) (arg1 m c) (arg2 m c) (arg3 m c) (arg4 m c) (arg5 m c) (ix6 0 (blk t) k g r ⟨s.val, by omega⟩) = 0 := by
  have e : blk t = 0 := Fin.ext (by show t.val = 0; omega)
  rw [e]
  exact probs_masked H _ _ _ _ _ (early k g r s (by omega))

theorem ddS_eq (t : Fin cfg0.N) (k g : Fin 4) (r : Fin 128) :
    (lds m c t).ddS k g r = ddR (arg0 m c) (arg1 m c) (arg2 m c) (arg3 m c) (arg4 m c) (arg5 m c) (arg6 m c) (blk t) k g r := by
  unfold Loads.ddS ddR
  refine Finset.sum_congr rfl fun s _ => ?_
  rw [prb_eq]
  by_cases h : 0 < t.val ∨ 128 ≤ s.val
  · refine congrArg₂ (· * · : EReal → EReal → EReal) rfl ?_
    rw [dprob_stage]
    unfold Loads.dpS
    refine Finset.sum_congr rfl fun d _ => ?_
    rw [dO_eq, val_eq m c t k s d h]
  · rw [early_zero H t k g r s h, zero_mul, zero_mul]

theorem dsS_eq (t : Fin cfg0.N) (k g : Fin 4) (r : Fin 128) (s : Fin 256) :
    (lds m c t).dsS k g r s = dsR (arg0 m c) (arg1 m c) (arg2 m c) (arg3 m c) (arg4 m c) (arg5 m c) (arg6 m c) (blk t) k g r s := by
  unfold Loads.dsS dsR
  rw [prb_eq, ddS_eq H]
  by_cases h : 0 < t.val ∨ 128 ≤ s.val
  · refine congrArg₂ (· * · : EReal → EReal → EReal) rfl (congrArg₂ (· - · : EReal → EReal → EReal) ?_ rfl)
    rw [dprob_stage]
    unfold Loads.dpS
    refine Finset.sum_congr rfl fun d _ => ?_
    rw [dO_eq, val_eq m c t k s d h]
  · rw [early_zero H t k g r s h, zero_mul, zero_mul]

theorem early_ds (t : Fin cfg0.N) (k g : Fin 4) (r : Fin 128) (s : Fin 256) (h : ¬ (0 < t.val ∨ 128 ≤ s.val)) :
    dsR (arg0 m c) (arg1 m c) (arg2 m c) (arg3 m c) (arg4 m c) (arg5 m c) (arg6 m c) (blk t) k g r s = 0 := by
  unfold dsR
  rw [early_zero H t k g r s h, zero_mul]

omit H in
theorem eighth_real : IsR eighth := by
  unfold eighth
  rw [ofBits_eighth]
  exact IsR.coe _

theorem dq6_eq (t : Fin cfg0.N) (r : Fin 128) (x : Fin 1024) :
    (lds m c t).dq6 r x = val_main_v138 (F := Ideal) (arg0 m c) (arg1 m c) (arg2 m c) (arg3 m c) (arg4 m c) (arg5 m c) (arg6 m c)
      (ix6 0 (blk t) r (⟨x.val / 256, by omega⟩ : Fin 4) (⟨x.val / 64 % 4, by omega⟩ : Fin 4) (⟨x.val % 64, by omega⟩ : Fin 64)) := by
  rw [dq_stage]
  unfold Loads.dq6
  refine Eq.trans (congrArg (· * eighth) (Finset.sum_congr rfl fun s _ => ?_ : _ = ∑ s, dsR (arg0 m c) (arg1 m c) (arg2 m c) (arg3 m c) (arg4 m c) (arg5 m c) (arg6 m c) (blk t) (⟨x.val / 256, by omega⟩ : Fin 4) (⟨x.val / 64 % 4, by omega⟩ : Fin 4) r s * val_main_v14 (F := Ideal) (arg0 m c) (arg3 m c) (arg4 m c) (ix5 0 (blk t) s (⟨x.val / 256, by omega⟩ : Fin 4) (⟨x.val % 64, by omega⟩ : Fin 64)))) ?_
  · rw [dsS_eq H]
    by_cases h : 0 < t.val ∨ 128 ≤ s.val
    · rw [key_eq m c t _ s _ h]
    · rw [early_ds H t _ _ r s h, zero_mul, zero_mul]
  · rw [sum_mul_real _ _ (fun s => (dsR_real H _ _ _ _ _).mul (key_real H _ _ _ _)) eighth_real]
    refine Finset.sum_congr rfl fun s _ => ?_
    rw [score_grad H]
    unfold eighth
    rw [mul_right_comm]

theorem dkS_eq (t : Fin cfg0.N) (k : Fin 4) (s : Fin 256) (d : Fin 64) :
    (lds m c t).dkS k s d = val_main_v140 (F := Ideal) (arg0 m c) (arg1 m c) (arg2 m c) (arg3 m c) (arg4 m c) (arg5 m c) (arg6 m c) (ix5 0 (blk t) s k d) := by
  rw [dk_stage, Finset.sum_comm]
  unfold Loads.dkS
  rw [sum_mul_real _ _ (fun g => IsR.sum fun r _ => by rw [dsS_eq H, qry_eq]; exact (dsR_real H _ _ _ _ _).mul (qry_real H _ _ _ _ _)) eighth_real]
  refine Finset.sum_congr rfl fun g _ => ?_
  rw [sum_mul_real _ _ (fun r => by rw [dsS_eq H, qry_eq]; exact (dsR_real H _ _ _ _ _).mul (qry_real H _ _ _ _ _)) eighth_real]
  refine Finset.sum_congr rfl fun r _ => ?_
  rw [score_grad H, dsS_eq H, qry_eq]
  unfold eighth
  rw [mul_right_comm]

omit H in
theorem dvS_eq (t : Fin cfg0.N) (k : Fin 4) (s : Fin 256) (d : Fin 64) :
    (lds m c t).dvS k s d = val_main_v112 (F := Ideal) (arg0 m c) (arg1 m c) (arg2 m c) (arg3 m c) (arg4 m c) (arg5 m c) (arg6 m c) (ix5 0 (blk t) s k d) := by
  rw [dv_stage]
  unfold Loads.dvS
  refine Finset.sum_congr rfl fun g _ => Finset.sum_congr rfl fun r _ => ?_
  rw [prb_eq, dO_eq, mul_comm]

/-- The reference's gradient of the keys (heads 0–3) and values (4–7) of a block. -/
def kvR (m : (ℓ : Loc nD τ sig) → Buf (Elt Ideal) ℓ) (c : Dev nD) (n : Fin 16) (a : Fin 8) (s : Fin 256) (d : Fin 64) : EReal :=
  if a.val < 4 then val_main_v140 (F := Ideal) (arg0 m c) (arg1 m c) (arg2 m c) (arg3 m c) (arg4 m c) (arg5 m c) (arg6 m c) (ix5 0 n s (⟨a.val % 4, by omega⟩ : Fin 4) d)
  else val_main_v112 (F := Ideal) (arg0 m c) (arg1 m c) (arg2 m c) (arg3 m c) (arg4 m c) (arg5 m c) (arg6 m c) (ix5 0 n s (⟨a.val % 4, by omega⟩ : Fin 4) d)

theorem kvS_eq (t : Fin cfg0.N) (a : Fin 8) (s : Fin 256) (d : Fin 64) : (lds m c t).kvS a s d = kvR m c (blk t) a s d := by
  unfold Loads.kvS kvR
  split_ifs with h
  · rw [dkS_eq H]
    exact congrArg (fun k => val_main_v140 (F := Ideal) (arg0 m c) (arg1 m c) (arg2 m c) (arg3 m c) (arg4 m c) (arg5 m c) (arg6 m c) (ix5 0 (blk t) s k d)) (Fin.ext (by show a.val = a.val % 4; omega))
  · rw [dvS_eq]
    exact congrArg (fun k => val_main_v112 (F := Ideal) (arg0 m c) (arg1 m c) (arg2 m c) (arg3 m c) (arg4 m c) (arg5 m c) (arg6 m c) (ix5 0 (blk t) s k d)) (Fin.ext (by show a.val - 4 = a.val % 4; omega))

theorem kvS_early (t : Fin cfg0.N) (a : Fin 8) (s : Fin 256) (d : Fin 64) (h : ¬ (0 < t.val ∨ 128 ≤ s.val)) : (lds m c t).kvS a s d = 0 := by
  have e1 : ∀ k g r, (lds m c t).dsS k g r s = 0 := fun k g r => by rw [dsS_eq H, early_ds H t k g r s h]
  have e2 : ∀ k g r, (lds m c t).prb k g r s = 0 := fun k g r => by rw [prb_eq, early_zero H t k g r s h]
  unfold Loads.kvS Loads.dkS Loads.dvS
  simp only [e1, e2, zero_mul, Finset.sum_const_zero]
  split_ifs <;> rfl

end Cert.Kernel2Ideal.Hand
end
-- ==== Proof.AttnResult.lean ====
module

public import proofs.«01_k».proof.Proof.AttnBridge

/-!
The four results of the attention gradient's call are the reference's.
-/

@[expose] public section

set_option maxRecDepth 16384

noncomputable section

namespace Cert.Kernel2Ideal.Hand
open Idealize.ShloMosaic Idealize.ShloMosaic.TcCoe Idealize.SL.Sem
open Idealize.ShloMosaic.Pointwise
open Cert.Kernel2Ideal.Gen
open Cert.Reference2Ideal.Read Cert.Attn Cert.Reals

/-- A sum over 2048 rows by blocks of 128. -/
theorem sum_blocks (f : Fin 2048 → EReal) : ∑ R, f R = ∑ n : Fin 16, ∑ r : Fin 128, f (at128 n r) := by
  rw [← Fintype.sum_prod_type' (f := fun n r => f (at128 n r))]
  refine (Equiv.sum_comp (finProdFinEquiv : Fin 16 × Fin 128 ≃ Fin (16 * 128)) f).symm.trans (Finset.sum_congr rfl fun p _ => congrArg f (Fin.ext ?_))
  show p.2.val + 128 * p.1.val = 128 * p.1.val + p.2.val
  omega

/-- The grid point of a block. -/
def pt (n : Fin 16) : Fin cfg0.N := ⟨n.val, lt_of_lt_of_eq n.isLt N_0.symm⟩

theorem blk_pt (n : Fin 16) : blk (pt n) = n := rfl

/-- Of sixteen terms only those of a block and of the next one count. -/
theorem two_terms (f : ℕ → EReal) (b : ℕ) (hb : b < 16) (x y : EReal) (hx : f b = x) (hy : b + 1 < 16 → f (b + 1) = y)
    (h0 : ∀ t, t < 16 → t ≠ b → t ≠ b + 1 → f t = 0) : ∑ t ∈ Finset.range 16, f t = x + if b + 1 < 16 then y else 0 := by
  rw [← Finset.add_sum_erase _ f (Finset.mem_range.2 hb), hx]
  refine congrArg (x + ·) ?_
  split_ifs with h
  · rw [Finset.sum_eq_single (b + 1), hy h]
    · intro t ht hne
      rw [Finset.mem_erase, Finset.mem_range] at ht
      exact h0 t ht.2 ht.1 hne
    · intro hn
      exact absurd (Finset.mem_erase.2 ⟨by omega, Finset.mem_range.2 h⟩) hn
  · refine Finset.sum_eq_zero fun t ht => ?_
    rw [Finset.mem_erase, Finset.mem_range] at ht
    exact h0 t ht.2 ht.1 (by omega)

variable {m : (ℓ : Loc nD τ sig) → Buf (Elt Ideal) ℓ} {c : Dev nD} (H : Fin7At m c)
include H

theorem dq_row (n : Fin 16) (r : Fin 128) (x : Fin 1024) :
    (lds m c (pt n)).dq6 r x = val_main_v168 (F := Ideal) (arg0 m c) (arg1 m c) (arg2 m c) (arg3 m c) (arg4 m c) (arg5 m c) (arg6 m c) (ix2 (at128 n r) x) := by
  rw [dq6_eq H, resQ_stage, blk_pt]
  have e1 : (⟨(at128 n r).val / 128, by omega⟩ : Fin 16) = n := Fin.ext (by show (128 * n.val + r.val) / 128 = n.val; omega)
  have e2 : (⟨(at128 n r).val % 128, by omega⟩ : Fin 128) = r := Fin.ext (by show (128 * n.val + r.val) % 128 = r.val; omega)
  rw [e1, e2]

theorem resQ_eq : resQ m c = val_main_v168 (F := Ideal) (arg0 m c) (arg1 m c) (arg2 m c) (arg3 m c) (arg4 m c) (arg5 m c) (arg6 m c) := by
  funext i
  obtain ⟨R, x, rfl⟩ : ∃ (R : Fin 2048) (x : Fin 1024), i = ix2 R x := ⟨i 0, i 1, eq_ix2 i⟩
  have e : R = at128 ⟨R.val / 128, by omega⟩ ⟨R.val % 128, by omega⟩ := Fin.ext (by show R.val = 128 * (R.val / 128) + R.val % 128; omega)
  rw [resQ_apply m c (pt ⟨R.val / 128, by omega⟩) ⟨R.val % 128, by omega⟩ x R (by show R.val = 128 * (R.val / 128) + R.val % 128; omega), dq_row H, ← e]

theorem resB_eq : resB m c = val_main_v171 (F := Ideal) (arg0 m c) (arg1 m c) (arg2 m c) (arg3 m c) (arg4 m c) (arg5 m c) (arg6 m c) := by
  funext i
  obtain ⟨u, x, rfl⟩ : ∃ (u : Fin 1) (x : Fin 1024), i = ix2 u x := ⟨i 0, i 1, eq_ix2 i⟩
  rw [show u = 0 from Subsingleton.elim _ _, resB_apply, resB_stage, sum_blocks, Finset.sum_range]
  refine Finset.sum_congr rfl fun n _ => ?_
  have hn : n.val < cfg0.N := (pt n).isLt
  unfold A8
  rw [dif_pos hn]
  refine Finset.sum_congr rfl fun r _ => ?_
  rw [rowsQ_stage]
  exact dq_row H n r x

theorem resS_eq : resS m c = val_main_v173 (F := Ideal) (arg0 m c) (arg1 m c) (arg2 m c) (arg3 m c) (arg4 m c) (arg5 m c) (arg6 m c) := by
  funext i
  obtain ⟨u, x, rfl⟩ : ∃ (u : Fin 1) (x : Fin 128), i = ix2 u x := ⟨i 0, i 1, eq_ix2 i⟩
  rw [show u = 0 from Subsingleton.elim _ _, resS_apply, resS_stage, Finset.sum_range]
  have hA : ∀ n : Fin 16, A9 m c x n.val = (lds m c (pt n)).add9 (snk m c (pt n)) x := fun n => dif_pos (pt n).isLt
  simp only [hA]
  unfold Loads.add9
  split_ifs with h
  · refine Finset.sum_congr rfl fun n _ => ?_
    have e : ∀ r : Fin 128, (∑ k : Fin 4, ∑ g : Fin 4, (if x.val = 4 * k.val + g.val then (lds m c (pt n)).ddS k g r else 0 : EReal))
        = ddR (arg0 m c) (arg1 m c) (arg2 m c) (arg3 m c) (arg4 m c) (arg5 m c) (arg6 m c) n ⟨x.val / 4, by omega⟩ ⟨x.val % 4, by omega⟩ r := fun r => by
      rw [Finset.sum_eq_single (⟨x.val / 4, by omega⟩ : Fin 4), Finset.sum_eq_single (⟨x.val % 4, by omega⟩ : Fin 4)]
      · rw [if_pos (by show x.val = 4 * (x.val / 4) + x.val % 4; omega), ddS_eq H]
        rfl
      · intro g _ hg
        rw [if_neg]
        intro hx
        exact hg (Fin.ext (by show g.val = x.val % 4; have : x.val = 4 * (x.val / 4) + g.val := hx; omega))
      · intro hn; exact absurd (Finset.mem_univ _) hn
      · intro k _ hk
        refine Finset.sum_eq_zero fun g _ => ?_
        rw [if_neg]
        intro hx
        exact hk (Fin.ext (by show k.val = x.val / 4; omega))
      · intro hn; exact absurd (Finset.mem_univ _) hn
    simp only [e]
    have e2 : ∀ r : Fin 128, snk m c (pt n) r x = val_main_v100 (F := Ideal) (arg0 m c) (arg1 m c) (arg2 m c) (arg3 m c) (arg4 m c) (arg5 m c) (ix6 0 n ⟨x.val / 4, by omega⟩ ⟨x.val % 4, by omega⟩ r 256) := fun r =>
      snk_eq m c (pt n) ⟨x.val / 4, by omega⟩ ⟨x.val % 4, by omega⟩ r x (by show x.val = 4 * (x.val / 4) + x.val % 4; omega)
    simp only [e2]
    rw [neg_sum_real _ _ _ (fun r => probs_real H _ _ _ _ _) (fun r => ddR_real H _ _ _ _)]
    exact Finset.sum_congr rfl fun r _ => (sink_grad H _ _ _ _).symm
  · refine Finset.sum_eq_zero fun n _ => ?_
    have e : ∀ r : Fin 128, (∑ k : Fin 4, ∑ g : Fin 4, (if x.val = 4 * k.val + g.val then (lds m c (pt n)).ddS k g r else 0 : EReal)) = 0 := fun r =>
      Finset.sum_eq_zero fun k _ => Finset.sum_eq_zero fun g _ => if_neg (by omega)
    simp only [e, mul_zero, Finset.sum_const_zero, sub_zero]

theorem add7_eq (n : Fin 16) (a : Fin 8) (R : Fin 2048) (d : Fin 64) : A7 m c a R d n.val
    = (if h : n.val = R.val / 128 then kvR m c n a ⟨128 + R.val % 128, by omega⟩ d else 0)
      + (if h : n.val = R.val / 128 + 1 then kvR m c n a ⟨R.val % 128, by omega⟩ d else 0) := by
  have hA : A7 m c a R d n.val = (lds m c (pt n)).add7 n.val a R d := dif_pos (pt n).isLt
  rw [hA]
  unfold Loads.add7
  rw [add_comm]
  refine congrArg₂ (· + · : EReal → EReal → EReal) ?_ ?_
  · by_cases h : n.val = R.val / 128
    · have hw : Within (128 * n.val) R.val := by unfold Within; omega
      rw [dif_pos hw, dif_pos h, kvS_eq H, blk_pt]
      exact congrArg (fun s => kvR m c n a s d) (Fin.ext (by show 128 + (R.val - 128 * n.val) = 128 + R.val % 128; omega))
    · have hw : ¬ Within (128 * n.val) R.val := by unfold Within; omega
      rw [dif_neg hw, dif_neg h]
  · by_cases h : n.val = R.val / 128 + 1
    · have hw : Within (128 * (n.val - 1)) R.val := by unfold Within; omega
      rw [dif_pos hw, dif_pos h, kvS_eq H, blk_pt]
      exact congrArg (fun s => kvR m c n a s d) (Fin.ext (by show R.val - 128 * (n.val - 1) = R.val % 128; omega))
    · rw [dif_neg h]
      by_cases hw : Within (128 * (n.val - 1)) R.val
      · rw [dif_pos hw]
        refine kvS_early H _ a _ d ?_
        show ¬ (0 < n.val ∨ 128 ≤ R.val - 128 * (n.val - 1))
        unfold Within at hw
        omega
      · rw [dif_neg hw]

theorem resKV_eq : resKV m c = val_main_v170 (F := Ideal) (arg0 m c) (arg1 m c) (arg2 m c) (arg3 m c) (arg4 m c) (arg5 m c) (arg6 m c) := by
  funext i
  obtain ⟨a, R, d, rfl⟩ : ∃ (a : Fin 8) (R : Fin 2048) (d : Fin 64), i = ix3 a R d := ⟨i 0, i 1, i 2, eq_ix3 i⟩
  have hb : R.val / 128 < 16 := by omega
  rw [resKV_apply, resKV_stage, two_terms (A7 m c a R d) (R.val / 128) hb (kvR m c ⟨R.val / 128, hb⟩ a ⟨128 + R.val % 128, by omega⟩ d)
    (if h : R.val / 128 + 1 < 16 then kvR m c ⟨R.val / 128 + 1, h⟩ a ⟨R.val % 128, by omega⟩ d else 0) ?_ ?_ ?_]
  · unfold kvR
    split_ifs <;> rfl
  · have e := add7_eq H ⟨R.val / 128, hb⟩ a R d
    have h2 : ¬ (R.val / 128 = R.val / 128 + 1) := by omega
    rw [dif_pos rfl, dif_neg h2, add_zero] at e
    exact e
  · intro h
    have e := add7_eq H ⟨R.val / 128 + 1, h⟩ a R d
    have h2 : ¬ (R.val / 128 + 1 = R.val / 128) := by omega
    rw [dif_neg h2, dif_pos rfl, zero_add] at e
    rw [dif_pos h]
    exact e
  · intro t ht h1 h2
    have e := add7_eq H ⟨t, ht⟩ a R d
    rw [dif_neg h1, dif_neg h2, add_zero] at e
    exact e

end Cert.Kernel2Ideal.Hand
end
-- ==== Proof.AttnClaim.lean ====
/- The claims of the attention gradient's call. -/
module

public import proofs.«01_k».proof.Defs
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Pre_finite2
public import proofs.«01_k».proof.Proof.AttnFrame
public import proofs.«01_k».proof.Proof.AttnResult
public import Idealize.ShloMosaic.Lib.Quiescent

@[expose] public section

set_option maxRecDepth 16384

noncomputable section

namespace Cert.Attn

open Idealize.ShloMosaic Idealize.ShloMosaic.TcCoe Idealize.SL.Sem
open Cert.Reals

theorem frame_exact : Cert.quiescent_Kernel2 (hKernel2 := Cert.Kernel2.Gen.facts) := fun m ρ _ =>
  Eq.mp (by sl_kernel_rfl) (Cert.Kernel2Ideal.Hand.frame (F := Bits) m ρ)

theorem frame_ideal : Cert.quiescent_Kernel2Ideal (hKernel2Ideal := Cert.Kernel2Ideal.Gen.facts) := fun m ρ _ =>
  Cert.Kernel2Ideal.Hand.frame m ρ

theorem ref_frame : Cert.quiescent_Reference2Ideal (hReference2Ideal := Cert.Reference2Ideal.Gen.facts) := fun m g _ =>
  (θ_run Cert.Reference2Ideal.defs _ _).mono (fun r h =>
    And.intro (fun c => (h c).2.2.2.2) (sem_eq_zero_of_no_sems rfl r.2)) (Cert.Reference2Ideal.Value.run m g)

theorem args_real {m : (ℓ : Loc Cert.Kernel2Ideal.nD Cert.Kernel2Ideal.τ Cert.Kernel2Ideal.sig) → Buf (Elt Ideal) ℓ}
    (h : Cert.Pre_Kernel2Ideal_finite2 (hPre_finite2 := Cert.Pre_finite2.Gen.facts) m) (c : Dev Cert.Kernel2Ideal.nD) : Cert.Kernel2Ideal.Hand.Fin7At m c := by
  obtain ⟨h0, h1, h2, h3, h4, h5, h6⟩ := h c
  exact ⟨fun i => isR_of_cmp (congrFun h0 i), fun i => isR_of_cmp (congrFun h1 i), fun i => isR_of_cmp (congrFun h2 i), fun i => isR_of_cmp (congrFun h3 i),
    fun i => isR_of_cmp (congrFun h4 i), fun i => isR_of_cmp (congrFun h5 i), fun i => isR_of_cmp (congrFun h6 i)⟩

open Cert.Kernel2Ideal Cert.Kernel2Ideal.Gen Cert.Kernel2Ideal.Hand in
/-- A run of the call leaves the four results read above. -/
theorem run_results (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v93_0) = resQ m c
      ∧ r.2.mem ((c.tc : Thread nD τ).loc main_v93_1) = resKV m c
      ∧ r.2.mem ((c.tc : Thread nD τ).loc main_v93_2) = resB m c
      ∧ r.2.mem ((c.tc : Thread nD τ).loc main_v93_3) = resS m c) :=
  (θ_run defs _ _).mono (fun _ h c => ⟨(h c).1 6, (h c).1 7, (h c).1 8, (h c).1 9⟩) (run_main m g)

theorem algebraic : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m g m' g' hpre hargs
  refine ⟨fun c => Cert.Kernel2Ideal.Hand.resQ m c, fun c => Cert.Kernel2Ideal.Hand.resKV m c, fun c => Cert.Kernel2Ideal.Hand.resB m c, fun c => Cert.Kernel2Ideal.Hand.resS m c, ?_, ?_⟩
  · refine (θ_run Cert.Kernel2Ideal.defs _ _).mono (fun r h c => ?_) (θ_run_and (run_results m g) (Cert.Kernel2Ideal.Hand.frame m g))
    obtain ⟨q, kv, b, s⟩ := h.1 c
    exact ⟨q, kv, b, s, h.2.1 c⟩
  refine (θ_run Cert.Reference2Ideal.defs _ _).mono (fun r h c => ?_) (Cert.Reference2Ideal.Value.run m' g')
  obtain ⟨q, kv, b, s, hk⟩ := h c
  obtain ⟨a0, a1, a2, a3, a4, a5, a6⟩ := hargs c
  have H := args_real hpre c
  have l0 : StableHlo.launchContents m' c (Proc.devRef .tc Cert.Reference2Ideal.main_arg0) = Cert.Kernel2Ideal.Hand.arg0 m c := a0
  have l1 : StableHlo.launchContents m' c (Proc.devRef .tc Cert.Reference2Ideal.main_arg1) = Cert.Kernel2Ideal.Hand.arg1 m c := a1
  have l2 : StableHlo.launchContents m' c (Proc.devRef .tc Cert.Reference2Ideal.main_arg2) = Cert.Kernel2Ideal.Hand.arg2 m c := a2
  have l3 : StableHlo.launchContents m' c (Proc.devRef .tc Cert.Reference2Ideal.main_arg3) = Cert.Kernel2Ideal.Hand.arg3 m c := a3
  have l4 : StableHlo.launchContents m' c (Proc.devRef .tc Cert.Reference2Ideal.main_arg4) = Cert.Kernel2Ideal.Hand.arg4 m c := a4
  have l5 : StableHlo.launchContents m' c (Proc.devRef .tc Cert.Reference2Ideal.main_arg5) = Cert.Kernel2Ideal.Hand.arg5 m c := a5
  have l6 : StableHlo.launchContents m' c (Proc.devRef .tc Cert.Reference2Ideal.main_arg6) = Cert.Kernel2Ideal.Hand.arg6 m c := a6
  refine ⟨?_, ?_, ?_, ?_, hk⟩
  · rw [q, Cert.Reference2Ideal.Read.val_main_v168_eq, l0, l1, l2, l3, l4, l5, l6]
    exact (Cert.Kernel2Ideal.Hand.resQ_eq H).symm
  · rw [kv, Cert.Reference2Ideal.Read.val_main_v170_eq, l0, l1, l2, l3, l4, l5, l6]
    exact (Cert.Kernel2Ideal.Hand.resKV_eq H).symm
  · rw [b, Cert.Reference2Ideal.Read.val_main_v171_eq, l0, l1, l2, l3, l4, l5, l6]
    exact (Cert.Kernel2Ideal.Hand.resB_eq H).symm
  · rw [s, Cert.Reference2Ideal.Read.val_main_v173_eq, l0, l1, l2, l3, l4, l5, l6]
    exact (Cert.Kernel2Ideal.Hand.resS_eq H).symm

end Cert.Attn

end
-- ==== Proof.LnSpec.lean ====
/- Hand-written: THE LAYER NORM OF ONE ROW and its gradient: as the kernels write it, and as `jax.vjp` writes it. On a row
   of real numbers the two gradients are the same real numbers. -/
module

public import proofs.«01_k».proof.Proof.Reals

@[expose] public section

noncomputable section

namespace Cert.Ln

open Idealize.ShloMosaic Idealize.ShloMosaic.TcCoe Cert.Reals

variable (z w : Fin 1024 → EReal)

/-- A row's mean. -/
def mean : EReal := Ideal.div (∑ j, z j) (Ideal.ofBits .f32 0x44800000#32)
/-- A row less its mean. -/
def cen (j : Fin 1024) : EReal := z j - mean z
/-- The variance and the norm's small constant. -/
def var : EReal := mean (fun j => cen z j * cen z j) + Ideal.ofBits .f32 0x3727C5AC#32
/-- The reciprocal of the standard deviation. -/
def rsd : EReal := Ideal.rsqrt (var z)
/-- The normalised row. -/
def nrm (j : Fin 1024) : EReal := cen z j * rsd z
/-- The gradient with respect to the row, in the kernels' form; `w` is the cotangent times the gain. -/
def grad (j : Fin 1024) : EReal := rsd z * (w j - mean w - nrm z j * mean (fun k => w k * nrm z k))

/-- What `jax.vjp` passes to the squares: half the derivative of the reciprocal root, over the row's length. -/
def back : EReal :=
  Ideal.div ((∑ j, cen z j * w j) * (Ideal.ofBits .f32 0xBF000000#32 * Ideal.div (rsd z) (var z))) (Ideal.ofBits .f32 0x44800000#32)
/-- The gradient with respect to the row, in `jax.vjp`'s form. -/
def gradV (j : Fin 1024) : EReal :=
  w j * rsd z + back z w * (Ideal.ofBits .f32 0x40000000#32 * cen z j)
    + Ideal.div ((∑ k, -(w k * rsd z)) + ∑ k, -(back z w * (Ideal.ofBits .f32 0x40000000#32 * cen z k))) (Ideal.ofBits .f32 0x44800000#32)

theorem bits_len : Ideal.ofBits .f32 0x44800000#32 = ((1024 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_half : Ideal.ofBits .f32 0xBF000000#32 = ((-(1 / 2) : ℝ) : EReal) := by
  simp [Ideal.ofBits, Ideal.ieee, -EReal.coe_mul]; norm_num
theorem bits_eps : ∃ e : ℝ, 0 < e ∧ Ideal.ofBits .f32 0x3727C5AC#32 = (e : EReal) := by
  refine ⟨_, ?_, by simp [Ideal.ofBits, Ideal.ieee, -EReal.coe_mul]; rfl⟩
  positivity

theorem div_real (a b : ℝ) (h : b ≠ 0) : Ideal.div (a : EReal) (b : EReal) = ((a / b : ℝ) : EReal) := by
  rw [Ideal.div_coe h, ← EReal.coe_mul, mul_one_div]

theorem mean_real (a : Fin 1024 → ℝ) : mean (fun j => (a j : EReal)) = (((∑ j, a j) / 1024 : ℝ) : EReal) := by
  unfold mean
  rw [← coe_sum, bits_len, div_real _ _ (by norm_num)]

theorem cen_real (a : Fin 1024 → ℝ) (j : Fin 1024) : cen (fun j => (a j : EReal)) j = ((a j - (∑ k, a k) / 1024 : ℝ) : EReal) := by
  unfold cen
  rw [mean_real, ← EReal.coe_sub]

/-- The variance with its constant is a positive real. -/
theorem var_real (a : Fin 1024 → ℝ) : ∃ v : ℝ, 0 < v ∧ var (fun j => (a j : EReal)) = (v : EReal) := by
  obtain ⟨e, he, hb⟩ := bits_eps
  unfold var
  rw [hb]
  simp only [cen_real, ← EReal.coe_mul]
  rw [mean_real, ← EReal.coe_add]
  refine ⟨_, ?_, rfl⟩
  have : 0 ≤ ∑ j, (a j - (∑ k, a k) / 1024) * (a j - (∑ k, a k) / 1024) := Finset.sum_nonneg fun j _ => mul_self_nonneg _
  positivity

/-- … and its reciprocal root a real whose square it inverts. -/
theorem rsd_real (a : Fin 1024 → ℝ) : ∃ v r : ℝ, 0 < v ∧ r * r * v = 1 ∧ var (fun j => (a j : EReal)) = (v : EReal)
    ∧ rsd (fun j => (a j : EReal)) = (r : EReal) := by
  obtain ⟨v, hv, e⟩ := var_real a
  refine ⟨v, (Real.sqrt v)⁻¹, hv, ?_, e, ?_⟩
  · have h := Real.mul_self_sqrt hv.le
    have h0 : Real.sqrt v ≠ 0 := (Real.sqrt_pos.mpr hv).ne'
    field_simp
    nlinarith [h]
  · unfold rsd
    rw [e, Ideal.rsqrt_coe, if_neg (not_lt.mpr hv.le), if_neg hv.ne']

theorem cen_sum (a : Fin 1024 → ℝ) : ∑ j, (a j - (∑ k, a k) / 1024) = 0 := by
  rw [Finset.sum_sub_distrib, Finset.sum_const, Finset.card_univ, Fintype.card_fin]
  simp
  ring

/-- On real rows the two forms of the gradient agree. -/
theorem gradV_real (a b : Fin 1024 → ℝ) (j : Fin 1024) :
    gradV (fun j => (a j : EReal)) (fun j => (b j : EReal)) j = grad (fun j => (a j : EReal)) (fun j => (b j : EReal)) j := by
  obtain ⟨v, r, hv, hr, ev, er⟩ := rsd_real a
  have hc := cen_sum a
  unfold gradV grad back nrm
  simp only [ev, er, cen_real, bits_len, bits_two, bits_half]
  generalize ha : (fun j => a j - (∑ k, a k) / 1024) = q at hc
  have hq : ∀ j, a j - (∑ k, a k) / 1024 = q j := fun j => congrFun ha j
  simp only [hq] at hc ⊢
  rw [div_real _ _ hv.ne']
  simp only [← EReal.coe_mul, ← EReal.coe_neg, ← coe_sum, mean_real, ← EReal.coe_add, ← EReal.coe_sub, div_real _ _ (show (1024 : ℝ) ≠ 0 by norm_num)]
  congr 1
  have e1 : ∑ k, -(b k * r) = -(r * ∑ k, b k) := by
    rw [Finset.sum_neg_distrib, ← Finset.sum_mul, mul_comm]
  have e2 : ∀ s : ℝ, ∑ k, -(s * (2 * q k)) = 0 := fun s => by
    rw [Finset.sum_neg_distrib, ← Finset.mul_sum, ← Finset.mul_sum, hc]; simp
  have e3 : ∑ k, b k * (q k * r) = r * ∑ k, q k * b k := by
    rw [Finset.mul_sum]; exact Finset.sum_congr rfl fun k _ => by ring
  rw [e1, e2, e3]
  have hv' : v⁻¹ = r * r := by field_simp; linarith
  rw [div_eq_mul_inv r v, hv']
  ring

theorem gradV_eq (hz : ∀ j, IsR (z j)) (hw : ∀ j, IsR (w j)) (j : Fin 1024) : gradV z w j = grad z w j := by
  choose a ha using hz
  choose b hb using hw
  obtain rfl : z = fun j => (a j : EReal) := funext ha
  obtain rfl : w = fun j => (b j : EReal) := funext hb
  exact gradV_real a b j

theorem mean_isR (h : ∀ j, IsR (z j)) : IsR (mean z) := by
  choose a ha using h
  obtain rfl : z = fun j => (a j : EReal) := funext ha
  exact ⟨_, mean_real a⟩

theorem rsd_isR (h : ∀ j, IsR (z j)) : IsR (rsd z) := by
  choose a ha using h
  obtain rfl : z = fun j => (a j : EReal) := funext ha
  obtain ⟨v, r, -, -, -, er⟩ := rsd_real a
  exact ⟨r, er⟩

theorem nrm_isR (h : ∀ j, IsR (z j)) (j : Fin 1024) : IsR (nrm z j) := ((h j).sub (mean_isR z h)).mul (rsd_isR z h)

theorem grad_isR (hz : ∀ j, IsR (z j)) (hw : ∀ j, IsR (w j)) (j : Fin 1024) : IsR (grad z w j) :=
  (rsd_isR z hz).mul (((hw j).sub (mean_isR w hw)).sub ((nrm_isR z hz j).mul (mean_isR _ fun k => (hw k).mul (nrm_isR z hz k))))

end Cert.Ln

end
-- ==== Proof.MixSpec.lean ====
/- Hand-written: WHAT THE MIXER OUTPUT'S GRADIENT CALL COMPUTES, index by index, and the bookkeeping of its four row blocks. -/
module

public import proofs.«01_k».proof.Proof.LnSpec

@[expose] public section

noncomputable section

namespace Cert.Mixout

open Idealize.ShloMosaic Idealize.ShloMosaic.TcCoe Cert.Reals

variable (x u : Fin 2048 → Fin 1024 → EReal) (w : Fin 1024 → Fin 1024 → EReal) (b g : Fin 1024 → EReal) (dy : Fin 2048 → Fin 1024 → EReal)

/-- The residual sum before the norm. -/
def zS (s : Fin 2048) (j : Fin 1024) : EReal := Ideal.ofBits .f32 0x3FB504F3#32 * x s j + ((∑ k : Fin 1024, u s k * w k j) + b j)
/-- The norm's cotangent times its gain. -/
def wS (s : Fin 2048) (j : Fin 1024) : EReal := dy s j * g j
/-- The gradient of the residual sum. -/
def dzS (s : Fin 2048) (j : Fin 1024) : EReal := Ln.grad (zS x u w b s) (wS g dy s) j
/-- The gradient of the mixer's output. -/
def duS (s : Fin 2048) (p : Fin 1024) : EReal := ∑ k : Fin 1024, dzS x u w b g dy s k * w p k
/-- The gradient of the gain, of the shift and of the bias. -/
def dgS (j : Fin 1024) : EReal := ∑ s : Fin 2048, dy s j * Ln.nrm (zS x u w b s) j
def dbS (j : Fin 1024) : EReal := ∑ s : Fin 2048, dy s j
def dbiasS (j : Fin 1024) : EReal := ∑ s : Fin 2048, dzS x u w b g dy s j

/-! ## Four blocks of 512 rows -/

/-- Row `r` of row block `i`. -/
def row (i : Fin 4) (r : Fin 512) : Fin 2048 := ⟨i.val * 512 + r.val, by omega⟩

theorem row_div (s : Fin 2048) : row ⟨s.val / 512, by omega⟩ ⟨s.val % 512, by omega⟩ = s := by
  apply Fin.ext; show s.val / 512 * 512 + s.val % 512 = s.val; omega

/-- Block `n`'s share of a sum over the rows. -/
def part (F : Fin 2048 → EReal) (n : ℕ) : EReal := if h : n < 4 then ∑ r : Fin 512, F (row ⟨n, h⟩ r) else 0

theorem part_fin (F : Fin 2048 → EReal) (i : Fin 4) : part F i.val = ∑ r : Fin 512, F (row i r) := dif_pos i.isLt

theorem part_total (F : Fin 2048 → EReal) : ∑ n ∈ Finset.range 4, part F n = ∑ s : Fin 2048, F s := by
  rw [Finset.sum_range]
  simp only [part_fin]
  rw [← Fintype.sum_prod_type']
  refine Fintype.sum_equiv (finProdFinEquiv (m := 4) (n := 512)) _ _ fun p => congrArg F (Fin.ext ?_)
  show p.1.val * 512 + p.2.val = p.2.val + 512 * p.1.val
  omega

/-- A sum carried from block to block. -/
theorem carried (f : (n : ℕ) → n < 4 → EReal) (F : Fin 2048 → EReal) (h0 : f 0 (by omega) = part F 0)
    (hs : ∀ (n : ℕ) (h : n + 1 < 4), f (n + 1) h = f n (by omega) + part F (n + 1)) : f 3 (by omega) = ∑ s : Fin 2048, F s := by
  rw [← part_total, Finset.sum_range_succ, Finset.sum_range_succ, Finset.sum_range_succ, Finset.sum_range_one, ← h0, ← hs 0 (by omega), ← hs 1 (by omega), ← hs 2 (by omega)]

end Cert.Mixout

end
-- ==== Proof.MixPoint.lean ====
/- Hand-written: ONE POINT OF THE MIXER OUTPUT'S GRADIENT CALL: what the body computes from its blocks, element by
   element, and what it leaves in its six output blocks. -/
module

public import proofs.«01_k».proof.Proof.LnSpec
public import proofs.«01_k».proof.Proof.Gen.Kernel3Ideal.Value
public import Idealize.ShloMosaic.Lib.Pointwise

@[expose] public section

set_option maxRecDepth 16384

noncomputable section

namespace Cert.Mixout

open Idealize.ShloMosaic Idealize.ShloMosaic.TcCoe Idealize.SL.Sem
open Idealize.ShloMosaic.Pointwise
open Cert.Kernel3Ideal Cert.Kernel3Ideal.Gen

/-- Row `r` of an array of two axes. -/
abbrev rowOf {n : ℕ} (x : Fin n → Fin 1024 → EReal) (r : Fin n) : Fin 1024 → EReal := fun j => x r j

/-! ## The body's values -/

variable (dy z : Vec Ideal S512x1024 .f32) (g : Vec Ideal S1x1024 .f32)

theorem cen_apply (r : Fin 512) (j : Fin 1024) : k0_pay2 (F := Ideal) z (ix2 r j) = Ln.cen (fun k => z (ix2 r k)) j := by
  unfold k0_pay2 Ln.cen Ln.mean
  pointwise

theorem rsd_apply (r : Fin 512) : k0_pay3 (F := Ideal) z (ix2 r 0) = Ln.rsd (fun k => z (ix2 r k)) := by
  unfold k0_pay3 Ln.rsd Ln.var Ln.mean
  simp only [← cen_apply]
  generalize k0_pay2 (F := Ideal) z = u
  pointwise

theorem nrm_apply (r : Fin 512) (j : Fin 1024) : k0_pay4 (F := Ideal) z (ix2 r j) = Ln.nrm (fun k => z (ix2 r k)) j := by
  unfold k0_pay4 Ln.nrm
  rw [← cen_apply, ← rsd_apply]
  generalize k0_pay2 (F := Ideal) z = u
  generalize k0_pay3 (F := Ideal) z = s
  pointwise

theorem dz_apply (r : Fin 512) (j : Fin 1024) :
    k0_pay5 (F := Ideal) dy z g (ix2 r j) = Ln.grad (fun k => z (ix2 r k)) (fun k => dy (ix2 r k) * g (ix2 0 k)) j := by
  unfold k0_pay5 Ln.grad Ln.mean
  simp only [← nrm_apply, ← rsd_apply]
  generalize k0_pay4 (F := Ideal) z = u
  generalize k0_pay3 (F := Ideal) z = s
  pointwise

theorem du_apply (d : FVec Ideal S512x1024 .f32) (w : Vec Ideal S1x1024x1024 .bf16) (r : Fin 512) (p : Fin 1024) :
    k0_pay7 (F := Ideal) d w (ix3 0 r p) = ∑ k : Fin 1024, d (ix2 r k) * w (ix3 0 p k) := by
  unfold k0_pay7 k0_pay6
  pointwise

theorem sumGain_apply (n : FVec Ideal S512x1024 .f32) (j : Fin 1024) :
    k0_pay8 (F := Ideal) dy n (ix2 0 j) = ∑ r : Fin 512, dy (ix2 r j) * n (ix2 r j) := by
  unfold k0_pay8
  pointwise

theorem sumBeta_apply (j : Fin 1024) : k0_pay10 (F := Ideal) dy (ix2 0 j) = ∑ r : Fin 512, dy (ix2 r j) := by
  unfold k0_pay10
  pointwise

theorem sumBias_apply (d : FVec Ideal S512x1024 .f32) (j : Fin 1024) : k0_pay12 (F := Ideal) d (ix2 0 j) = ∑ r : Fin 512, d (ix2 r j) := by
  unfold k0_pay12
  pointwise

/-! ## The six blocks after a point -/

variable (m : (ℓ : Loc nD τ sig) → Buf (Elt Ideal) ℓ)

/-- The gradient's rows at a point. -/
abbrev dzAt (c : Dev nD) (t : Fin cfg0.N) : FVec Ideal S512x1024 .f32 := k0_pay5 (F := Ideal) (iblk m c 0 t) (iblk m c 1 t) (iblk m c 2 t)
/-- The normalised rows at a point. -/
abbrev nrmAt (c : Dev nD) (t : Fin cfg0.N) : FVec Ideal S512x1024 .f32 := k0_pay4 (F := Ideal) (iblk m c 1 t)

theorem hz2 : (![0, 0] : Fin 2 → Nat) = fun _ => 0 := by decide
theorem hz3 : (![0, 0, 0] : Fin 3 → Nat) = fun _ => 0 := by decide

set_option maxHeartbeats 4000000 in
theorem outs_first (c : Dev nD) (t : Fin cfg0.N) (h : t.val = 0) :
    outsAt0 m c t.val t.isLt = (dzAt m c t, k0_pay6 (F := Ideal) (dzAt m c t), k0_pay7 (F := Ideal) (dzAt m c t) (iblk m c 3 t),
      k0_pay8 (F := Ideal) (iblk m c 0 t) (nrmAt m c t), k0_pay10 (F := Ideal) (iblk m c 0 t), k0_pay12 (F := Ideal) (dzAt m c t)) := by
  have h0 : t.val % 4 = 0 := by omega
  have h1 : ¬1 ≤ t.val := by omega
  rw [outsAt0_A m c t h0 h1 h0 h1 h0 h1]
  unfold out0_A_4 out0_A_5 out0_A_6 out0_A_7 out0_A_8 out0_A_9
  simp only [Prod.mk.injEq]
  refine ⟨(View.read_writes_eq_canon _ _ _ (fun _ => cover0_A_4 ..)).trans ?_, (View.read_writes_eq_canon _ _ _ (fun _ => cover0_A_5 ..)).trans ?_,
    (View.read_writes_eq_canon _ _ _ (fun _ => cover0_A_6 ..)).trans ?_, (View.read_writes_eq_canon _ _ _ (fun _ => cover0_A_7 ..)).trans ?_,
    (View.read_writes_eq_canon _ _ _ (fun _ => cover0_A_8 ..)).trans ?_, (View.read_writes_eq_canon _ _ _ (fun _ => cover0_A_9 ..)).trans ?_⟩ <;>
  · unfold kernelRun0_A
    dsimp only
    sl_unfold_words
    first | rw [View.canon_unit_zero hz2] | rw [View.canon_unit_zero hz3]
    simp only [View.readAt_eq_ld, (hs0_0 t).read_unread, (hs0_1 t).read_unread, (hs0_2 t).read_unread, (hs0_3 t).read_unread,
      View.ld_unit_zero (S := S512x1024) hz2, View.ld_unit_zero (S := S1x1024) hz2, View.ld_unit_zero (S := S1x1024x1024) hz3, shapeCast_self]

set_option maxHeartbeats 4000000 in
theorem outs_later (c : Dev nD) (t : Fin cfg0.N) (h : 1 ≤ t.val) (y : _)
    (hy : y = outsAt0 m c (t.val - 1) (Nat.lt_of_le_of_lt (Nat.sub_le _ _) t.isLt)) :
    outsAt0 m c t.val t.isLt = (dzAt m c t, k0_pay6 (F := Ideal) (dzAt m c t), k0_pay7 (F := Ideal) (dzAt m c t) (iblk m c 3 t),
      k0_pay9 (F := Ideal) (iblk m c 0 t) (nrmAt m c t) y.2.2.2.1, k0_pay11 (F := Ideal) (iblk m c 0 t) y.2.2.2.2.1,
      k0_pay1 (F := Ideal) (k0_pay12 (F := Ideal) (dzAt m c t)) y.2.2.2.2.2) := by
  have hN : t.val < 4 := lt_of_lt_of_eq t.isLt N_0
  have h0 : ¬t.val % 4 = 0 := by omega
  rw [outsAt0_B m c t h0 h h0 h h0 h, ← hy]
  clear hy
  unfold out0_B_4 out0_B_5 out0_B_6 out0_B_7 out0_B_8 out0_B_9
  simp only [Prod.mk.injEq]
  refine ⟨(View.read_writes_eq_canon _ _ _ (fun _ => cover0_B_4 ..)).trans ?_, (View.read_writes_eq_canon _ _ _ (fun _ => cover0_B_5 ..)).trans ?_,
    (View.read_writes_eq_canon _ _ _ (fun _ => cover0_B_6 ..)).trans ?_, (View.read_writes_eq_canon _ _ _ (fun _ => cover0_B_7 ..)).trans ?_,
    (View.read_writes_eq_canon _ _ _ (fun _ => cover0_B_8 ..)).trans ?_, (View.read_writes_eq_canon _ _ _ (fun _ => cover0_B_9 ..)).trans ?_⟩ <;>
  · unfold kernelRun0_B
    dsimp only
    sl_unfold_words
    first | rw [View.canon_unit_zero hz2] | rw [View.canon_unit_zero hz3]
    simp only [View.readAt_eq_ld, (hs0_0 t).read_unread, (hs0_1 t).read_unread, (hs0_2 t).read_unread, (hs0_3 t).read_unread,
      (hs0_7 t).read_unread, (hs0_8 t).read_unread, (hs0_9 t).read_unread,
      View.ld_unit_zero (S := S512x1024) hz2, View.ld_unit_zero (S := S1x1024) hz2, View.ld_unit_zero (S := S1x1024x1024) hz3, shapeCast_self]

end Cert.Mixout

end
-- ==== Proof.MixKernel.lean ====
/- Hand-written: THE MIXER OUTPUT'S GRADIENT CALL AS A WHOLE: its operands as the host prepares them, its row blocks, and
   its six result arrays. -/
module

public import proofs.«01_k».proof.Proof.MixSpec
public import proofs.«01_k».proof.Proof.MixPoint

@[expose] public section

set_option maxRecDepth 16384

noncomputable section

namespace Cert.Mixout

open Idealize.ShloMosaic Idealize.ShloMosaic.TcCoe Idealize.SL.Sem
open Idealize.ShloMosaic.Pointwise
open Cert.Kernel3Ideal Cert.Kernel3Ideal.Gen

variable (m : (ℓ : Loc nD τ sig) → Buf (Elt Ideal) ℓ)

/-! ## The operands -/

abbrev aX (c : Dev nD) : FVec Ideal S2048x1024 .f32 := m (c.tc.loc main_arg0)
abbrev aU (c : Dev nD) : FVec Ideal S2048x1024 .f32 := m (c.tc.loc main_arg1)
abbrev aW (c : Dev nD) : FVec Ideal S1024x1024 .f32 := m (c.tc.loc main_arg2)
abbrev aB (c : Dev nD) : FVec Ideal S1024 .f32 := m (c.tc.loc main_arg3)
abbrev aG (c : Dev nD) : FVec Ideal S1024 .f32 := m (c.tc.loc main_arg4)
abbrev aDy (c : Dev nD) : FVec Ideal S2048x1024 .f32 := m (c.tc.loc main_arg6)

abbrev zK (c : Dev nD) : Fin 2048 → Fin 1024 → EReal :=
  zS (fun s k => aX m c (ix2 s k)) (fun s k => aU m c (ix2 s k)) (fun k j => aW m c (ix2 k j)) (fun j => aB m c (ix1 j))
abbrev wK (c : Dev nD) : Fin 2048 → Fin 1024 → EReal := wS (fun j => aG m c (ix1 j)) (fun s k => aDy m c (ix2 s k))
abbrev dzK (c : Dev nD) : Fin 2048 → Fin 1024 → EReal :=
  dzS (fun s k => aX m c (ix2 s k)) (fun s k => aU m c (ix2 s k)) (fun k j => aW m c (ix2 k j)) (fun j => aB m c (ix1 j))
    (fun j => aG m c (ix1 j)) (fun s k => aDy m c (ix2 s k))

theorem hz_apply (c : Dev nD) (s : Fin 2048) (j : Fin 1024) : (V m c main_v6 : FVec Ideal S2048x1024 .f32) (ix2 s j) = zK m c s j := by
  have e : (V m c main_v6 : FVec Ideal S2048x1024 .f32) = addf (mulf (broadcastInDim S2048x1024 ![] bcast_S_S2048x1024 (constant S_ .f32 0x3FB504F3#32)) (aX m c))
      (addf (Host.dotGeneral dot_S2048x1024_S1024x1024_S2048x1024_1_0_0_1_n_n none (aU m c) (aW m c))
        (broadcastInDim S2048x1024 ![0, 1] bcast_S1x1024_S2048x1024_0_1 (broadcastInDim S1x1024 ![1] bcast_S1024_S1x1024_1 (aB m c)))) := by
    unfold V
    after_results
  rw [e]
  unfold zK zS
  generalize aX m c = x
  generalize aU m c = u
  generalize aW m c = w
  generalize aB m c = b
  pointwise

theorem hg_apply (c : Dev nD) (j : Fin 1024) : (V m c main_v7 : FVec Ideal S1x1024 .f32) (ix2 0 j) = aG m c (ix1 j) := by
  have e : (V m c main_v7 : FVec Ideal S1x1024 .f32) = shapeCast S1x1024 (aG m c) shapeCasts_S1024_S1x1024 := by
    unfold V
    after_results
    rfl
  rw [e]
  generalize aG m c = g
  pointwise

theorem hw_apply (c : Dev nD) (p k : Fin 1024) : (V m c main_v9 : FVec Ideal S1x1024x1024 .bf16) (ix3 0 p k) = aW m c (ix2 p k) := by
  have e : (V m c main_v9 : FVec Ideal S1x1024x1024 .bf16) = broadcastInDim S1x1024x1024 ![1, 2] bcast_S1024x1024_S1x1024x1024_1_2 (truncf .bf16 (aW m c) bitsLt_bf16_f32) := by
    unfold V
    after_results
  rw [e]
  generalize aW m c = w
  pointwise

theorem hdy (c : Dev nD) : (V m c main_arg6 : FVec Ideal S2048x1024 .f32) = aDy m c := by
  unfold V
  after_results

/-! ## Blocks -/

/-- The grid's point for row block `i`. -/
def pt (i : Fin 4) : Fin cfg0.N := ⟨i.val, by rw [show cfg0.N = 4 from N_0]; omega⟩

theorem idx_facts : ∀ i : Fin 4, (win0_0.index (pt i) 0 = i.val ∧ win0_0.index (pt i) 1 = 0)
    ∧ (win0_1.index (pt i) 0 = i.val ∧ win0_1.index (pt i) 1 = 0)
    ∧ (win0_2.index (pt i) 0 = 0 ∧ win0_2.index (pt i) 1 = 0)
    ∧ (win0_3.index (pt i) 0 = 0 ∧ win0_3.index (pt i) 1 = 0 ∧ win0_3.index (pt i) 2 = 0)
    ∧ (win0_4.index (pt i) 0 = i.val ∧ win0_4.index (pt i) 1 = 0)
    ∧ (win0_5.index (pt i) 0 = i.val ∧ win0_5.index (pt i) 1 = 0)
    ∧ (win0_6.index (pt i) 0 = 0 ∧ win0_6.index (pt i) 1 = i.val ∧ win0_6.index (pt i) 2 = 0)
    ∧ (win0_7.index (pt i) 0 = 0 ∧ win0_7.index (pt i) 1 = 0)
    ∧ (win0_8.index (pt i) 0 = 0 ∧ win0_8.index (pt i) 1 = 0)
    ∧ (win0_9.index (pt i) 0 = 0 ∧ win0_9.index (pt i) 1 = 0) := by
  decide +kernel

theorem b0_apply (c : Dev nD) (i : Fin 4) (r : Fin 512) (k : Fin 1024) :
    (iblk m c 0 (pt i) : Vec Ideal S512x1024 .f32) (ix2 r k) = aDy m c (ix2 (row i r) k) := by
  obtain ⟨⟨e0, e1⟩, -⟩ := idx_facts i
  rw [← hdy]
  unfold iblk
  rw [View.read_apply]
  show V m c main_arg6 _ = V m c main_arg6 _
  congr 1
  funext a; apply Fin.ext
  match a with
  | ⟨0, _⟩ => show win0_0.index (pt i) 0 * 512 + 1 * r.val = i.val * 512 + r.val; rw [e0]; omega
  | ⟨1, _⟩ => show win0_0.index (pt i) 1 * 1024 + 1 * k.val = k.val; rw [e1]; omega

theorem b1_apply (c : Dev nD) (i : Fin 4) (r : Fin 512) (k : Fin 1024) :
    (iblk m c 1 (pt i) : Vec Ideal S512x1024 .f32) (ix2 r k) = zK m c (row i r) k := by
  obtain ⟨-, ⟨e0, e1⟩, -⟩ := idx_facts i
  rw [← hz_apply]
  unfold iblk
  rw [View.read_apply]
  show V m c main_v6 _ = V m c main_v6 _
  congr 1
  funext a; apply Fin.ext
  match a with
  | ⟨0, _⟩ => show win0_1.index (pt i) 0 * 512 + 1 * r.val = i.val * 512 + r.val; rw [e0]; omega
  | ⟨1, _⟩ => show win0_1.index (pt i) 1 * 1024 + 1 * k.val = k.val; rw [e1]; omega

theorem b2_apply (c : Dev nD) (i : Fin 4) (k : Fin 1024) :
    (iblk m c 2 (pt i) : Vec Ideal S1x1024 .f32) (ix2 0 k) = aG m c (ix1 k) := by
  obtain ⟨-, -, ⟨e0, e1⟩, -⟩ := idx_facts i
  rw [← hg_apply]
  unfold iblk
  rw [View.read_apply]
  show V m c main_v7 _ = V m c main_v7 _
  congr 1
  funext a; apply Fin.ext
  match a with
  | ⟨0, _⟩ => show win0_2.index (pt i) 0 * 1 + 1 * 0 = 0; rw [e0]
  | ⟨1, _⟩ => show win0_2.index (pt i) 1 * 1024 + 1 * k.val = k.val; rw [e1]; omega

theorem b3_apply (c : Dev nD) (i : Fin 4) (p k : Fin 1024) :
    (iblk m c 3 (pt i) : Vec Ideal S1x1024x1024 .bf16) (ix3 0 p k) = aW m c (ix2 p k) := by
  obtain ⟨-, -, -, ⟨e0, e1, e2⟩, -⟩ := idx_facts i
  rw [← hw_apply]
  unfold iblk
  rw [View.read_apply]
  show V m c main_v9 _ = V m c main_v9 _
  congr 1
  funext a; apply Fin.ext
  match a with
  | ⟨0, _⟩ => show win0_3.index (pt i) 0 * 1 + 1 * 0 = 0; rw [e0]
  | ⟨1, _⟩ => show win0_3.index (pt i) 1 * 1024 + 1 * p.val = p.val; rw [e1]; omega
  | ⟨2, _⟩ => show win0_3.index (pt i) 2 * 1024 + 1 * k.val = k.val; rw [e2]; omega

/-! ## A point's values at its rows -/

theorem dzAt_apply (c : Dev nD) (i : Fin 4) (r : Fin 512) (j : Fin 1024) : dzAt m c (pt i) (ix2 r j) = dzK m c (row i r) j := by
  refine (dz_apply _ _ _ r j).trans ?_
  unfold dzK dzS wS
  simp only [b0_apply, b1_apply, b2_apply]

theorem nrmAt_apply (c : Dev nD) (i : Fin 4) (r : Fin 512) (j : Fin 1024) : nrmAt m c (pt i) (ix2 r j) = Ln.nrm (zK m c (row i r)) j := by
  refine (nrm_apply _ r j).trans ?_
  simp only [b1_apply]

/-- What a point adds to the gain's gradient, to the shift's and to the bias's. -/
theorem gain_part (c : Dev nD) (i : Fin 4) (j : Fin 1024) : k0_pay8 (F := Ideal) (iblk m c 0 (pt i)) (nrmAt m c (pt i)) (ix2 0 j)
    = part (fun s => aDy m c (ix2 s j) * Ln.nrm (zK m c s) j) i.val := by
  rw [part_fin]
  refine (sumGain_apply _ _ j).trans (Finset.sum_congr rfl fun r _ => ?_)
  rw [nrmAt_apply, b0_apply]
theorem beta_part (c : Dev nD) (i : Fin 4) (j : Fin 1024) : k0_pay10 (F := Ideal) (iblk m c 0 (pt i)) (ix2 0 j)
    = part (fun s => aDy m c (ix2 s j)) i.val := by
  rw [part_fin]
  refine (sumBeta_apply _ j).trans (Finset.sum_congr rfl fun r _ => ?_)
  rw [b0_apply]
theorem bias_part (c : Dev nD) (i : Fin 4) (j : Fin 1024) : k0_pay12 (F := Ideal) (dzAt m c (pt i)) (ix2 0 j)
    = part (fun s => dzK m c s j) i.val := by
  rw [part_fin]
  exact (sumBias_apply _ j).trans (Finset.sum_congr rfl fun r _ => dzAt_apply m c i r j)

/-! ## The row blocks every point leaves -/

theorem outs_rows (c : Dev nD) (i : Fin 4) :
    (outsAt0 m c (pt i).val (pt i).isLt).1 = dzAt m c (pt i)
    ∧ (outsAt0 m c (pt i).val (pt i).isLt).2.1 = k0_pay6 (F := Ideal) (dzAt m c (pt i))
    ∧ (outsAt0 m c (pt i).val (pt i).isLt).2.2.1 = k0_pay7 (F := Ideal) (dzAt m c (pt i)) (iblk m c 3 (pt i)) := by
  by_cases h : (pt i).val = 0
  · rw [outs_first m c (pt i) h]; exact ⟨rfl, rfl, rfl⟩
  · rw [outs_later m c (pt i) (by omega) _ rfl]; exact ⟨rfl, rfl, rfl⟩

/-! ## The sums carried from point to point -/

theorem lt_N {n : ℕ} (h : n < 4) : n < cfg0.N := lt_of_lt_of_eq h (show cfg0.N = 4 from N_0).symm

theorem carried_gain (c : Dev nD) (j : Fin 1024) : (outsAt0 m c 3 (lt_N (by omega))).2.2.2.1 (ix2 0 j)
    = ∑ s : Fin 2048, aDy m c (ix2 s j) * Ln.nrm (zK m c s) j := by
  refine carried (fun n h => (outsAt0 m c n (lt_N h)).2.2.2.1 (ix2 0 j)) _ ?_ fun n h => ?_
  · refine (congrArg (fun q => q.2.2.2.1 (ix2 0 j)) (outs_first m c (pt 0) rfl)).trans (gain_part m c 0 j)
  · refine (congrArg (fun q => q.2.2.2.1 (ix2 0 j)) (outs_later m c (pt ⟨n + 1, h⟩) (Nat.le_add_left 1 n) _ rfl)).trans ?_
    show k0_pay9 (F := Ideal) _ _ _ (ix2 0 j) = _
    unfold k0_pay9
    rw [← gain_part m c ⟨n + 1, h⟩ j, shapeCast_self]
    rfl

theorem carried_beta (c : Dev nD) (j : Fin 1024) : (outsAt0 m c 3 (lt_N (by omega))).2.2.2.2.1 (ix2 0 j) = ∑ s : Fin 2048, aDy m c (ix2 s j) := by
  refine carried (fun n h => (outsAt0 m c n (lt_N h)).2.2.2.2.1 (ix2 0 j)) _ ?_ fun n h => ?_
  · refine (congrArg (fun q => q.2.2.2.2.1 (ix2 0 j)) (outs_first m c (pt 0) rfl)).trans (beta_part m c 0 j)
  · refine (congrArg (fun q => q.2.2.2.2.1 (ix2 0 j)) (outs_later m c (pt ⟨n + 1, h⟩) (Nat.le_add_left 1 n) _ rfl)).trans ?_
    show k0_pay11 (F := Ideal) _ _ (ix2 0 j) = _
    unfold k0_pay11
    rw [← beta_part m c ⟨n + 1, h⟩ j, shapeCast_self]
    rfl

theorem carried_bias (c : Dev nD) (j : Fin 1024) : (outsAt0 m c 3 (lt_N (by omega))).2.2.2.2.2 (ix2 0 j) = ∑ s : Fin 2048, dzK m c s j := by
  refine carried (fun n h => (outsAt0 m c n (lt_N h)).2.2.2.2.2 (ix2 0 j)) _ ?_ fun n h => ?_
  · refine (congrArg (fun q => q.2.2.2.2.2 (ix2 0 j)) (outs_first m c (pt 0) rfl)).trans (bias_part m c 0 j)
  · refine (congrArg (fun q => q.2.2.2.2.2 (ix2 0 j)) (outs_later m c (pt ⟨n + 1, h⟩) (Nat.le_add_left 1 n) _ rfl)).trans ?_
    show k0_pay1 (F := Ideal) _ _ (ix2 0 j) = _
    unfold k0_pay1
    rw [← bias_part m c ⟨n + 1, h⟩ j, shapeCast_self]
    rfl

/-! ## The six result arrays -/

abbrev res4 (c : Dev nD) : FVec Ideal S2048x1024 .f32 := (dats m 0 c).arrAt 4 cfg0.N
abbrev res5 (c : Dev nD) : FVec Ideal S2048x1024 .bf16 := (dats m 0 c).arrAt 5 cfg0.N
abbrev res6 (c : Dev nD) : FVec Ideal S1x2048x1024 .bf16 := (dats m 0 c).arrAt 6 cfg0.N
abbrev res7 (c : Dev nD) : FVec Ideal S1x1024 .f32 := (dats m 0 c).arrAt 7 cfg0.N
abbrev res8 (c : Dev nD) : FVec Ideal S1x1024 .f32 := (dats m 0 c).arrAt 8 cfg0.N
abbrev res9 (c : Dev nD) : FVec Ideal S1x1024 .f32 := (dats m 0 c).arrAt 9 cfg0.N

set_option maxHeartbeats 1000000 in
theorem res4_apply (c : Dev nD) (s : Fin 2048) (j : Fin 1024) : res4 m c (ix2 s j) = dzK m c s j := by
  rw [← row_div s]
  generalize (⟨s.val / 512, _⟩ : Fin 4) = i
  generalize (⟨s.val % 512, _⟩ : Fin 512) = r
  have b := congrFun (Value.blocks4 m c (pt i) (flush0_4 _)) (ix2 r j)
  rw [Value.flushed4, (outs_rows m c i).1] at b
  have e : ((cfg0.win 4).blk (pt i)).view.emb (ix2 r j) = ix2 (row i r) j := by
    obtain ⟨-, -, -, -, ⟨e0, e1⟩, -⟩ := idx_facts i
    funext a; apply Fin.ext
    match a with
    | ⟨0, _⟩ => show win0_4.index (pt i) 0 * 512 + 1 * r.val = i.val * 512 + r.val; rw [e0]; omega
    | ⟨1, _⟩ => show win0_4.index (pt i) 1 * 1024 + 1 * j.val = j.val; rw [e1]; omega
  have b' : res4 m c (((cfg0.win 4).blk (pt i)).view.emb (ix2 r j)) = dzAt m c (pt i) (ix2 r j) := b
  rw [e] at b'
  exact b'.trans (dzAt_apply m c i r j)

set_option maxHeartbeats 1000000 in
theorem res5_apply (c : Dev nD) (s : Fin 2048) (j : Fin 1024) : res5 m c (ix2 s j) = dzK m c s j := by
  rw [← row_div s]
  generalize (⟨s.val / 512, _⟩ : Fin 4) = i
  generalize (⟨s.val % 512, _⟩ : Fin 512) = r
  have b := congrFun (Value.blocks5 m c (pt i) (flush0_5 _)) (ix2 r j)
  rw [Value.flushed5, (outs_rows m c i).2.1] at b
  have e : ((cfg0.win 5).blk (pt i)).view.emb (ix2 r j) = ix2 (row i r) j := by
    obtain ⟨-, -, -, -, -, ⟨e0, e1⟩, -⟩ := idx_facts i
    funext a; apply Fin.ext
    match a with
    | ⟨0, _⟩ => show win0_5.index (pt i) 0 * 512 + 1 * r.val = i.val * 512 + r.val; rw [e0]; omega
    | ⟨1, _⟩ => show win0_5.index (pt i) 1 * 1024 + 1 * j.val = j.val; rw [e1]; omega
  have b' : res5 m c (((cfg0.win 5).blk (pt i)).view.emb (ix2 r j)) = dzAt m c (pt i) (ix2 r j) := b
  rw [e] at b'
  exact b'.trans (dzAt_apply m c i r j)

set_option maxHeartbeats 1000000 in
theorem res6_apply (c : Dev nD) (s : Fin 2048) (p : Fin 1024) : res6 m c (ix3 0 s p) = ∑ k : Fin 1024, dzK m c s k * aW m c (ix2 p k) := by
  rw [← row_div s]
  generalize (⟨s.val / 512, _⟩ : Fin 4) = i
  generalize (⟨s.val % 512, _⟩ : Fin 512) = r
  have b := congrFun (Value.blocks6 m c (pt i) (flush0_6 _)) (ix3 0 r p)
  rw [Value.flushed6, (outs_rows m c i).2.2] at b
  have e : ((cfg0.win 6).blk (pt i)).view.emb (ix3 (0 : Fin 1) r p) = ix3 (0 : Fin 1) (row i r) p := by
    obtain ⟨-, -, -, -, -, -, ⟨e0, e1, e2⟩, -⟩ := idx_facts i
    funext a; apply Fin.ext
    match a with
    | ⟨0, _⟩ => show win0_6.index (pt i) 0 * 1 + 1 * 0 = 0; rw [e0]
    | ⟨1, _⟩ => show win0_6.index (pt i) 1 * 512 + 1 * r.val = i.val * 512 + r.val; rw [e1]; omega
    | ⟨2, _⟩ => show win0_6.index (pt i) 2 * 1024 + 1 * p.val = p.val; rw [e2]; omega
  have b' : res6 m c (((cfg0.win 6).blk (pt i)).view.emb (ix3 0 r p)) = k0_pay7 (F := Ideal) (dzAt m c (pt i)) (iblk m c 3 (pt i)) (ix3 0 r p) := b
  rw [e] at b'
  refine b'.trans ((du_apply _ _ r p).trans (Finset.sum_congr rfl fun k _ => ?_))
  rw [dzAt_apply, b3_apply]

theorem flush_last {t : Fin cfg0.N} (h : t.val % 4 = 3) : t = pt 3 := by
  have hN : t.val < 4 := lt_of_lt_of_eq t.isLt N_0
  exact Fin.ext (show t.val = 3 by omega)

set_option maxHeartbeats 1000000 in
theorem res7_apply (c : Dev nD) (j : Fin 1024) : res7 m c (ix2 0 j) = ∑ s : Fin 2048, aDy m c (ix2 s j) * Ln.nrm (zK m c s) j := by
  have dj : ∀ t t' : Fin cfg0.N, (cfg0.win 7).flush t = true → (cfg0.win 7).flush t' = true → t ≠ t' →
      Disjoint ((cfg0.win 7).blk t).view.set ((cfg0.win 7).blk t').view.set := fun t t' h h' hne =>
    absurd ((flush_last ((flush0_7 t).mp h)).trans (flush_last ((flush0_7 t').mp h')).symm) hne
  have b := congrFun ((dats m 0 c).read_blk_arrAt_eq_flushed 7 dj cfg0.N (pt 3) (pt 3).isLt ((flush0_7 _).mpr rfl)) (ix2 0 j)
  rw [Value.flushed7] at b
  have e : ((cfg0.win 7).blk (pt 3)).view.emb (ix2 (0 : Fin 1) j) = ix2 (0 : Fin 1) j := by
    obtain ⟨-, -, -, -, -, -, -, ⟨e0, e1⟩, -⟩ := idx_facts 3
    funext a; apply Fin.ext
    match a with
    | ⟨0, _⟩ => show win0_7.index (pt 3) 0 * 1 + 1 * 0 = 0; rw [e0]
    | ⟨1, _⟩ => show win0_7.index (pt 3) 1 * 1024 + 1 * j.val = j.val; rw [e1]; omega
  have b' : res7 m c (((cfg0.win 7).blk (pt 3)).view.emb (ix2 0 j)) = (outsAt0 m c 3 (lt_N (by omega))).2.2.2.1 (ix2 0 j) := b
  rw [e] at b'
  exact b'.trans (carried_gain m c j)

set_option maxHeartbeats 1000000 in
theorem res8_apply (c : Dev nD) (j : Fin 1024) : res8 m c (ix2 0 j) = ∑ s : Fin 2048, aDy m c (ix2 s j) := by
  have dj : ∀ t t' : Fin cfg0.N, (cfg0.win 8).flush t = true → (cfg0.win 8).flush t' = true → t ≠ t' →
      Disjoint ((cfg0.win 8).blk t).view.set ((cfg0.win 8).blk t').view.set := fun t t' h h' hne =>
    absurd ((flush_last ((flush0_8 t).mp h)).trans (flush_last ((flush0_8 t').mp h')).symm) hne
  have b := congrFun ((dats m 0 c).read_blk_arrAt_eq_flushed 8 dj cfg0.N (pt 3) (pt 3).isLt ((flush0_8 _).mpr rfl)) (ix2 0 j)
  rw [Value.flushed8] at b
  have e : ((cfg0.win 8).blk (pt 3)).view.emb (ix2 (0 : Fin 1) j) = ix2 (0 : Fin 1) j := by
    obtain ⟨-, -, -, -, -, -, -, -, ⟨e0, e1⟩, -⟩ := idx_facts 3
    funext a; apply Fin.ext
    match a with
    | ⟨0, _⟩ => show win0_8.index (pt 3) 0 * 1 + 1 * 0 = 0; rw [e0]
    | ⟨1, _⟩ => show win0_8.index (pt 3) 1 * 1024 + 1 * j.val = j.val; rw [e1]; omega
  have b' : res8 m c (((cfg0.win 8).blk (pt 3)).view.emb (ix2 0 j)) = (outsAt0 m c 3 (lt_N (by omega))).2.2.2.2.1 (ix2 0 j) := b
  rw [e] at b'
  exact b'.trans (carried_beta m c j)

set_option maxHeartbeats 1000000 in
theorem res9_apply (c : Dev nD) (j : Fin 1024) : res9 m c (ix2 0 j) = ∑ s : Fin 2048, dzK m c s j := by
  have dj : ∀ t t' : Fin cfg0.N, (cfg0.win 9).flush t = true → (cfg0.win 9).flush t' = true → t ≠ t' →
      Disjoint ((cfg0.win 9).blk t).view.set ((cfg0.win 9).blk t').view.set := fun t t' h h' hne =>
    absurd ((flush_last ((flush0_9 t).mp h)).trans (flush_last ((flush0_9 t').mp h')).symm) hne
  have b := congrFun ((dats m 0 c).read_blk_arrAt_eq_flushed 9 dj cfg0.N (pt 3) (pt 3).isLt ((flush0_9 _).mpr rfl)) (ix2 0 j)
  rw [Value.flushed9] at b
  have e : ((cfg0.win 9).blk (pt 3)).view.emb (ix2 (0 : Fin 1) j) = ix2 (0 : Fin 1) j := by
    obtain ⟨-, -, -, -, -, -, -, -, -, ⟨e0, e1⟩⟩ := idx_facts 3
    funext a; apply Fin.ext
    match a with
    | ⟨0, _⟩ => show win0_9.index (pt 3) 0 * 1 + 1 * 0 = 0; rw [e0]
    | ⟨1, _⟩ => show win0_9.index (pt 3) 1 * 1024 + 1 * j.val = j.val; rw [e1]; omega
  have b' : res9 m c (((cfg0.win 9).blk (pt 3)).view.emb (ix2 0 j)) = (outsAt0 m c 3 (lt_N (by omega))).2.2.2.2.2 (ix2 0 j) := b
  rw [e] at b'
  exact b'.trans (carried_bias m c j)

end Cert.Mixout

end
-- ==== Proof.MixRef.lean ====
/- Hand-written: THE MIXER OUTPUT'S REFERENCE, read index by index: the residual sum, the norm and `jax.vjp`'s gradient of it. -/
module

public import proofs.«01_k».proof.Proof.MixSpec
public import proofs.«01_k».proof.Proof.Gen.Reference3Ideal.Read
public import Idealize.ShloMosaic.Lib.Pointwise

@[expose] public section

set_option maxRecDepth 16384

noncomputable section

namespace Cert.Mixout.Ref

open Idealize.ShloMosaic Idealize.ShloMosaic.TcCoe Idealize.SL.Sem
open Idealize.ShloMosaic.Pointwise
open Cert.Reference3Ideal Cert.Reference3Ideal.Gen Cert.Reference3Ideal.Read

variable (x0 x1 x6 : FVec Ideal S2048x1024 .f32) (x2 : FVec Ideal S1024x1024 .f32) (x3 x4 : FVec Ideal S1024 .f32)

/-- The residual sum's row and the norm's cotangent times the gain, of these arguments. -/
abbrev zR (s : Fin 2048) : Fin 1024 → EReal :=
  zS (fun s k => x0 (ix2 s k)) (fun s k => x1 (ix2 s k)) (fun k j => x2 (ix2 k j)) (fun j => x3 (ix1 j)) s
abbrev wR (s : Fin 2048) : Fin 1024 → EReal := wS (fun j => x4 (ix1 j)) (fun s k => x6 (ix2 s k)) s

theorem z_apply (s : Fin 2048) (j : Fin 1024) : val_main_v6 (F := Ideal) x0 x1 x2 x3 (ix2 s j) = zR x0 x1 x2 x3 s j := by
  unfold val_main_v6 val_main_v5 val_main_v4 val_main_v3 val_main_v2 val_main_v1 val_main_v0 val_main_cst zR zS
  pointwise

theorem mean_apply (s : Fin 2048) : val_main_v10 (F := Ideal) x0 x1 x2 x3 (ix2 s 0) = Ln.mean (zR x0 x1 x2 x3 s) := by
  have e : zR x0 x1 x2 x3 s = fun j => val_main_v6 (F := Ideal) x0 x1 x2 x3 (ix2 s j) := funext fun j => (z_apply x0 x1 x2 x3 s j).symm
  rw [e]
  unfold val_main_v10 val_main_v9 val_main_v8 val_main_v7 val_main_cst_0 val_main_cst_1 Ln.mean
  generalize val_main_v6 (F := Ideal) x0 x1 x2 x3 = z
  pointwise

theorem cen_apply (s : Fin 2048) (j : Fin 1024) : val_main_v12 (F := Ideal) x0 x1 x2 x3 (ix2 s j) = Ln.cen (zR x0 x1 x2 x3 s) j := by
  unfold Ln.cen
  rw [← mean_apply, ← z_apply]
  unfold val_main_v12 val_main_v11
  generalize val_main_v6 (F := Ideal) x0 x1 x2 x3 = z
  generalize val_main_v10 (F := Ideal) x0 x1 x2 x3 = a
  pointwise

theorem cen_apply' (s : Fin 2048) (j : Fin 1024) : val_main_v21 (F := Ideal) x0 x1 x2 x3 (ix2 s j) = Ln.cen (zR x0 x1 x2 x3 s) j :=
  cen_apply x0 x1 x2 x3 s j

theorem var_apply (s : Fin 2048) : val_main_v23 (F := Ideal) x0 x1 x2 x3 (ix2 s 0) = Ln.var (zR x0 x1 x2 x3 s) := by
  unfold Ln.var Ln.mean
  simp only [← cen_apply]
  unfold val_main_v23 val_main_v22 val_main_v19 val_main_v18 val_main_v17 val_main_v16 val_main_v13 val_main_cst_3 val_main_cst_4 val_main_cst_5
  generalize val_main_v12 (F := Ideal) x0 x1 x2 x3 = z
  pointwise

theorem rsd_apply (s : Fin 2048) : val_main_v24 (F := Ideal) x0 x1 x2 x3 (ix2 s 0) = Ln.rsd (zR x0 x1 x2 x3 s) := by
  unfold Ln.rsd
  rw [← var_apply]
  unfold val_main_v24
  rfl

theorem nrm_apply (s : Fin 2048) (j : Fin 1024) : val_main_v29 (F := Ideal) x0 x1 x2 x3 (ix2 s j) = Ln.nrm (zR x0 x1 x2 x3 s) j := by
  unfold Ln.nrm
  rw [← cen_apply', ← rsd_apply]
  unfold val_main_v29 val_main_v28
  generalize val_main_v21 (F := Ideal) x0 x1 x2 x3 = z
  generalize val_main_v24 (F := Ideal) x0 x1 x2 x3 = a
  pointwise

theorem w_apply (s : Fin 2048) (j : Fin 1024) : val_main_v44 (F := Ideal) x4 x6 (ix2 s j) = wR x6 x4 s j := by
  unfold val_main_v44 val_main_v43 val_main_v36 val_main_v30 wR wS
  pointwise

theorem back_apply (s : Fin 2048) : val_main_v57 (F := Ideal) x0 x1 x2 x3 x4 x6 (ix1 s) = Ln.back (zR x0 x1 x2 x3 s) (wR x6 x4 s) := by
  unfold Ln.back
  rw [← rsd_apply, ← var_apply]
  simp only [← cen_apply', ← w_apply]
  unfold val_main_v57 val_main_v56 val_main_v55 val_main_v51 val_main_v48 val_main_v47 val_main_v46 val_main_v27 val_main_v26 val_main_v25
    val_main_cst_6 val_main_cst_11 val_main_cst_13 val_main_cst_14
  generalize val_main_v21 (F := Ideal) x0 x1 x2 x3 = z
  generalize val_main_v23 (F := Ideal) x0 x1 x2 x3 = v
  generalize val_main_v24 (F := Ideal) x0 x1 x2 x3 = a
  generalize val_main_v44 (F := Ideal) x4 x6 = w
  pointwise
  rw [Fin.sum_univ_one]

theorem dz_apply (s : Fin 2048) (j : Fin 1024) : val_main_v69 (F := Ideal) x0 x1 x2 x3 x4 x6 (ix2 s j) = Ln.gradV (zR x0 x1 x2 x3 s) (wR x6 x4 s) j := by
  unfold Ln.gradV
  rw [← rsd_apply, ← back_apply]
  simp only [← cen_apply, ← w_apply]
  unfold val_main_v69 val_main_v68 val_main_v67 val_main_v66 val_main_v65 val_main_v64 val_main_v63 val_main_v62 val_main_v61 val_main_v60 val_main_v59
    val_main_v58 val_main_v54 val_main_v53 val_main_v52 val_main_v50 val_main_v49 val_main_v15 val_main_v14 val_main_cst_2 val_main_cst_12 val_main_cst_15 val_main_cst_16 val_main_cst_17
  generalize val_main_v12 (F := Ideal) x0 x1 x2 x3 = z
  generalize val_main_v24 (F := Ideal) x0 x1 x2 x3 = a
  generalize val_main_v44 (F := Ideal) x4 x6 = w
  generalize val_main_v57 (F := Ideal) x0 x1 x2 x3 x4 x6 = d
  pointwise
  rw [Fin.sum_univ_one]

theorem dzb_apply (s : Fin 2048) (j : Fin 1024) : val_main_v74 (F := Ideal) x0 x1 x2 x3 x4 x6 (ix2 s j) = Ln.gradV (zR x0 x1 x2 x3 s) (wR x6 x4 s) j := by
  rw [← dz_apply]
  unfold val_main_v74
  generalize val_main_v69 (F := Ideal) x0 x1 x2 x3 x4 x6 = z
  pointwise

theorem du_apply (s : Fin 2048) (p : Fin 1024) : val_main_v76 (F := Ideal) x0 x1 x2 x3 x4 x6 (ix3 0 s p)
    = ∑ k : Fin 1024, Ln.gradV (zR x0 x1 x2 x3 s) (wR x6 x4 s) k * x2 (ix2 p k) := by
  simp only [← dz_apply]
  unfold val_main_v76 val_main_v75 val_main_v73
  generalize val_main_v69 (F := Ideal) x0 x1 x2 x3 x4 x6 = z
  pointwise

theorem dgain_apply (j : Fin 1024) : val_main_v77 (F := Ideal) x0 x1 x2 x3 x6 (ix2 0 j)
    = ∑ s : Fin 2048, x6 (ix2 s j) * Ln.nrm (zR x0 x1 x2 x3 s) j := by
  have e : (∑ s : Fin 2048, x6 (ix2 s j) * Ln.nrm (zR x0 x1 x2 x3 s) j) = ∑ s : Fin 2048, val_main_v29 (F := Ideal) x0 x1 x2 x3 (ix2 s j) * x6 (ix2 s j) :=
    Finset.sum_congr rfl fun s _ => by rw [nrm_apply]; exact mul_comm _ _
  rw [e]
  unfold val_main_v77 val_main_v45 val_main_v42 val_main_v41 val_main_v40 val_main_v36 val_main_cst_9 val_main_cst_10
  generalize val_main_v29 (F := Ideal) x0 x1 x2 x3 = z
  pointwise
  rw [Fin.sum_univ_one]

theorem dbeta_apply (j : Fin 1024) : val_main_v78 (F := Ideal) x6 (ix2 0 j) = ∑ s : Fin 2048, x6 (ix2 s j) := by
  unfold val_main_v78 val_main_v39 val_main_v38 val_main_v37 val_main_cst_7 val_main_cst_8
  pointwise
  rw [Fin.sum_univ_one]

theorem dbias_apply (j : Fin 1024) : val_main_v79 (F := Ideal) x0 x1 x2 x3 x4 x6 (ix2 0 j)
    = ∑ s : Fin 2048, Ln.gradV (zR x0 x1 x2 x3 s) (wR x6 x4 s) j := by
  simp only [← dz_apply]
  unfold val_main_v79 val_main_v72 val_main_v71 val_main_v70 val_main_cst_18 val_main_cst_19
  generalize val_main_v69 (F := Ideal) x0 x1 x2 x3 x4 x6 = z
  pointwise
  rw [Fin.sum_univ_one]

end Cert.Mixout.Ref

end
-- ==== Proof.MixClaim.lean ====
/- Hand-written: THE VALUE CLAIM OF THE MIXER OUTPUT'S GRADIENT CALL: on finite arguments its six results are the reference's. -/
module

public import proofs.«01_k».proof.Defs
public import proofs.«01_k».proof.Proof.MixKernel
public import proofs.«01_k».proof.Proof.MixRef
public import proofs.«01_k».proof.Proof.Gen.Pre_finite3
public import Idealize.ShloMosaic.Lib.Quiescent

@[expose] public section

set_option maxRecDepth 16384

noncomputable section

namespace Cert.Mixout

open Idealize.ShloMosaic Idealize.ShloMosaic.TcCoe Idealize.SL.Sem Cert.Reals
open Idealize.ShloMosaic.Pointwise

/-- The residual sum of real arrays is real. -/
theorem zS_isR {x u : Fin 2048 → Fin 1024 → EReal} {w : Fin 1024 → Fin 1024 → EReal} {b : Fin 1024 → EReal} (hx : ∀ s j, IsR (x s j))
    (hu : ∀ s j, IsR (u s j)) (hw : ∀ k j, IsR (w k j)) (hb : ∀ j, IsR (b j)) (s : Fin 2048) (j : Fin 1024) : IsR (zS x u w b s j) := by
  have ha : IsR (Ideal.ofBits .f32 0x3FB504F3#32) := ⟨_, by simp [Ideal.ofBits, Ideal.ieee, -EReal.coe_mul]; rfl⟩
  exact (ha.mul (hx s j)).add ((IsR.sum fun k _ => (hu s k).mul (hw k j)).add (hb j))

open Cert.Kernel3Ideal

variable {m : (ℓ : Loc nD τ sig) → Buf (Elt Ideal) ℓ}

/-- The stated precondition, read: the residual sum and the norm's weighted cotangent are real numbers. -/
theorem rows_isR (h : Cert.Pre_Kernel3Ideal_finite3 (hPre_finite3 := Cert.Pre_finite3.Gen.facts) m) (c : Dev nD) :
    (∀ s j, IsR (zK m c s j)) ∧ (∀ s j, IsR (wK m c s j)) := by
  obtain ⟨h0, h1, h2, h3, h4, h6⟩ := h c
  exact ⟨zS_isR (fun s j => isR_of_cmp (congrFun h0 (ix2 s j))) (fun s j => isR_of_cmp (congrFun h1 (ix2 s j)))
      (fun k j => isR_of_cmp (congrFun h2 (ix2 k j))) (fun j => isR_of_cmp (congrFun h3 (ix1 j))),
    fun s j => IsR.mul (isR_of_cmp (congrFun h6 (ix2 s j))) (isR_of_cmp (congrFun h4 (ix1 j)))⟩

/-- The gradient of the residual sum, in the reference's form. -/
theorem dz_form (h : Cert.Pre_Kernel3Ideal_finite3 (hPre_finite3 := Cert.Pre_finite3.Gen.facts) m) (c : Dev nD) (s : Fin 2048) (j : Fin 1024) :
    dzK m c s j = Ln.gradV (zK m c s) (wK m c s) j :=
  (Ln.gradV_eq _ _ ((rows_isR h c).1 s) ((rows_isR h c).2 s) j).symm

section Results
variable (h : Cert.Pre_Kernel3Ideal_finite3 (hPre_finite3 := Cert.Pre_finite3.Gen.facts) m) (c : Dev nD)
include h

open Cert.Reference3Ideal.Read

theorem dz_eq : res4 m c = val_main_v69 (F := Ideal) (aX m c) (aU m c) (aW m c) (aB m c) (aG m c) (aDy m c) := by
  funext i
  obtain ⟨s, j, rfl⟩ : ∃ (s : Fin 2048) (j : Fin 1024), i = ix2 s j := ⟨i 0, i 1, eq_ix2 i⟩
  exact (res4_apply m c s j).trans ((dz_form h c s j).trans (Ref.dz_apply _ _ _ _ _ _ s j).symm)

theorem dzb_eq : res5 m c = val_main_v74 (F := Ideal) (aX m c) (aU m c) (aW m c) (aB m c) (aG m c) (aDy m c) := by
  funext i
  obtain ⟨s, j, rfl⟩ : ∃ (s : Fin 2048) (j : Fin 1024), i = ix2 s j := ⟨i 0, i 1, eq_ix2 i⟩
  exact (res5_apply m c s j).trans ((dz_form h c s j).trans (Ref.dzb_apply _ _ _ _ _ _ s j).symm)

theorem du_eq : res6 m c = val_main_v76 (F := Ideal) (aX m c) (aU m c) (aW m c) (aB m c) (aG m c) (aDy m c) := by
  funext i
  obtain ⟨a, s, p, rfl⟩ : ∃ (a : Fin 1) (s : Fin 2048) (p : Fin 1024), i = ix3 a s p := ⟨i 0, i 1, i 2, eq_ix3 i⟩
  obtain rfl : a = 0 := Subsingleton.elim _ _
  refine (res6_apply m c s p).trans (.trans (Finset.sum_congr rfl fun k _ => ?_) (Ref.du_apply _ _ _ _ _ _ s p).symm)
  rw [dz_form h c s k]

theorem dbias_eq : res9 m c = val_main_v79 (F := Ideal) (aX m c) (aU m c) (aW m c) (aB m c) (aG m c) (aDy m c) := by
  funext i
  obtain ⟨a, j, rfl⟩ : ∃ (a : Fin 1) (j : Fin 1024), i = ix2 a j := ⟨i 0, i 1, eq_ix2 i⟩
  obtain rfl : a = 0 := Subsingleton.elim _ _
  exact (res9_apply m c j).trans (.trans (Finset.sum_congr rfl fun s _ => dz_form h c s j) (Ref.dbias_apply _ _ _ _ _ _ j).symm)

end Results

theorem dgain_eq (c : Dev nD) : res7 m c = Cert.Reference3Ideal.Read.val_main_v77 (F := Ideal) (aX m c) (aU m c) (aW m c) (aB m c) (aDy m c) := by
  funext i
  obtain ⟨a, j, rfl⟩ : ∃ (a : Fin 1) (j : Fin 1024), i = ix2 a j := ⟨i 0, i 1, eq_ix2 i⟩
  obtain rfl : a = 0 := Subsingleton.elim _ _
  exact (res7_apply m c j).trans (Ref.dgain_apply _ _ _ _ _ j).symm

theorem dbeta_eq (c : Dev nD) : res8 m c = Cert.Reference3Ideal.Read.val_main_v78 (F := Ideal) (aDy m c) := by
  funext i
  obtain ⟨a, j, rfl⟩ : ∃ (a : Fin 1) (j : Fin 1024), i = ix2 a j := ⟨i 0, i 1, eq_ix2 i⟩
  obtain rfl : a = 0 := Subsingleton.elim _ _
  exact (res8_apply m c j).trans (Ref.dbeta_apply _ j).symm

/-- The reference leaves its arguments and, having no semaphore, no counter. -/
theorem ref_frame : Cert.quiescent_Reference3Ideal (hReference3Ideal := Cert.Reference3Ideal.Gen.facts) := fun m g _ =>
  (θ_run Cert.Reference3Ideal.defs _ _).mono (fun r h => And.intro (fun c => (h c).2.2.2.2.2.2) (sem_eq_zero_of_no_sems rfl r.2)) (Cert.Reference3Ideal.Value.run m g)

theorem algebraic : Cert.algebraic_Kernel3Ideal_Reference3Ideal_pre_finite3 (hKernel3Ideal := Cert.Kernel3Ideal.Gen.facts)
    (hReference3Ideal := Cert.Reference3Ideal.Gen.facts) (hPre_finite3 := Cert.Pre_finite3.Gen.facts) := by
  intro m g m' g' hpre hargs
  refine ⟨fun c => res4 m c, fun c => res5 m c, fun c => res6 m c, fun c => res7 m c, fun c => res8 m c, fun c => res9 m c, Cert.Kernel3Ideal.Value.run_blocks m g, ?_⟩
  refine (θ_run Cert.Reference3Ideal.defs _ _).mono (fun r h c => ?_) (Cert.Reference3Ideal.Value.run m' g')
  obtain ⟨r0, r1, r2, r3, r4, r5, hk⟩ := h c
  obtain ⟨a0, a1, a2, a3, a4, a5, a6⟩ := hargs c
  refine ⟨?_, ?_, ?_, ?_, ?_, ?_, hk⟩
  · rw [r0, Cert.Reference3Ideal.Read.val_main_v69_eq, a0, a1, a2, a3, a4, a6]
    exact (dz_eq hpre c).symm
  · rw [r1, Cert.Reference3Ideal.Read.val_main_v74_eq, a0, a1, a2, a3, a4, a6]
    exact (dzb_eq hpre c).symm
  · rw [r2, Cert.Reference3Ideal.Read.val_main_v76_eq, a0, a1, a2, a3, a4, a6]
    exact (du_eq hpre c).symm
  · rw [r3, Cert.Reference3Ideal.Read.val_main_v77_eq, a0, a1, a2, a3, a6]
    exact (dgain_eq c).symm
  · refine r4.trans ((Cert.Reference3Ideal.Read.val_main_v78_eq _).trans ?_)
    have e : StableHlo.launchContents m' c (Proc.devRef .tc Cert.Reference3Ideal.main_arg6) = aDy m c := a6
    first | rw [e] | rw [a6]
    exact (dbeta_eq c).symm
  · rw [r5, Cert.Reference3Ideal.Read.val_main_v79_eq, a0, a1, a2, a3, a4, a6]
    exact (dbias_eq hpre c).symm

end Cert.Mixout

end
-- ==== Proof.PleSpec.lean ====
/- Hand-written: WHAT THE GATED EMBEDDING'S GRADIENT CALL COMPUTES, index by index: a norm, a gated embedding, a second norm,
   and the gradient back through the three. -/
module

public import proofs.«01_k».proof.Proof.MixSpec

@[expose] public section

noncomputable section

namespace Cert.Ple

open Idealize.ShloMosaic Idealize.ShloMosaic.TcCoe Cert.Reals

/-- The arguments, element by element: the residual stream and the block's output, the embedding and its projection, the gate's
    matrix and bias, the first norm's gain and shift, the second norm's gain, the cotangent. -/
structure Args where
  x : Fin 2048 → Fin 1024 → EReal
  h : Fin 2048 → Fin 1024 → EReal
  p : Fin 2048 → Fin 256 → EReal
  wu : Fin 256 → Fin 1024 → EReal
  wg : Fin 1024 → Fin 1024 → EReal
  bg : Fin 1024 → EReal
  gf : Fin 1024 → EReal
  bf : Fin 1024 → EReal
  g : Fin 1024 → EReal
  dy : Fin 2048 → Fin 1024 → EReal

/-- The sigmoid, as both programs write it. -/
def sigm (v : EReal) : EReal := Ideal.div (Ideal.ofBits .f32 0x3F800000#32) (Ideal.ofBits .f32 0x3F800000#32 + Ideal.exp (-v))

namespace Args
variable (a : Args)

/-- The first norm's input and output. -/
def zf (s : Fin 2048) (j : Fin 1024) : EReal := Ideal.ofBits .f32 0x3FB504F3#32 * a.x s j + a.h s j
def xf (s : Fin 2048) (j : Fin 1024) : EReal := Ln.nrm (a.zf s) j * a.gf j + a.bf j
/-- The gate and the projected embedding. -/
def sg (s : Fin 2048) (j : Fin 1024) : EReal := sigm ((∑ k : Fin 1024, a.xf s k * a.wg k j) + a.bg j)
def up (s : Fin 2048) (j : Fin 1024) : EReal := ∑ q : Fin 256, a.p s q * a.wu q j
/-- The second norm's input, and its cotangent times its gain. -/
def z (s : Fin 2048) (j : Fin 1024) : EReal := Ideal.ofBits .f32 0x3FB504F3#32 * a.xf s j + a.sg s j * a.up s j
def w (s : Fin 2048) (j : Fin 1024) : EReal := a.dy s j * a.g j
/-- The factor between the second norm's gradient and the gate's. -/
def usg (s : Fin 2048) (j : Fin 1024) : EReal := a.up s j * a.sg s j * (Ideal.ofBits .f32 0x3F800000#32 - a.sg s j)
/-- The gradients: of the second norm's input, of the gate's argument, of the embedding, of the first norm's output times its
    gain, of the first norm's input. -/
def dz (s : Fin 2048) (j : Fin 1024) : EReal := Ln.grad (a.z s) (a.w s) j
def dgl (s : Fin 2048) (j : Fin 1024) : EReal := a.dz s j * a.usg s j
def dup (s : Fin 2048) (j : Fin 1024) : EReal := a.dz s j * a.sg s j
def dx (s : Fin 2048) (j : Fin 1024) : EReal := Ideal.ofBits .f32 0x3FB504F3#32 * a.dz s j + ∑ k : Fin 1024, a.dgl s k * a.wg j k
def wf (s : Fin 2048) (j : Fin 1024) : EReal := a.dx s j * a.gf j
def dzf (s : Fin 2048) (j : Fin 1024) : EReal := Ln.grad (a.zf s) (a.wf s) j

/-- Every argument but the cotangent's shift is finite. -/
structure Finite : Prop where
  x : ∀ s j, IsR (a.x s j)
  h : ∀ s j, IsR (a.h s j)
  p : ∀ s j, IsR (a.p s j)
  wu : ∀ s j, IsR (a.wu s j)
  wg : ∀ s j, IsR (a.wg s j)
  bg : ∀ j, IsR (a.bg j)
  gf : ∀ j, IsR (a.gf j)
  bf : ∀ j, IsR (a.bf j)
  g : ∀ j, IsR (a.g j)
  dy : ∀ s j, IsR (a.dy s j)

end Args

theorem alpha_isR : IsR (Ideal.ofBits .f32 0x3FB504F3#32) := ⟨_, by simp [Ideal.ofBits, Ideal.ieee, -EReal.coe_mul]; rfl⟩

theorem sigm_isR {v : EReal} (h : IsR v) : IsR (sigm v) := by
  have e : sigm v = Ideal.logistic v := by unfold sigm; rw [ofBits_one]; rfl
  rw [e]; exact h.logistic

namespace Args
variable {a : Args} (H : a.Finite)
include H

theorem zf_isR (s : Fin 2048) (j : Fin 1024) : IsR (a.zf s j) := (alpha_isR.mul (H.x s j)).add (H.h s j)
theorem xf_isR (s : Fin 2048) (j : Fin 1024) : IsR (a.xf s j) := ((Ln.nrm_isR _ (zf_isR H s) j).mul (H.gf j)).add (H.bf j)
theorem sg_isR (s : Fin 2048) (j : Fin 1024) : IsR (a.sg s j) :=
  sigm_isR ((IsR.sum fun k _ => (xf_isR H s k).mul (H.wg k j)).add (H.bg j))
theorem up_isR (s : Fin 2048) (j : Fin 1024) : IsR (a.up s j) := IsR.sum fun q _ => (H.p s q).mul (H.wu q j)
theorem z_isR (s : Fin 2048) (j : Fin 1024) : IsR (a.z s j) := (alpha_isR.mul (xf_isR H s j)).add ((sg_isR H s j).mul (up_isR H s j))
theorem w_isR (s : Fin 2048) (j : Fin 1024) : IsR (a.w s j) := (H.dy s j).mul (H.g j)
theorem usg_isR (s : Fin 2048) (j : Fin 1024) : IsR (a.usg s j) :=
  ((up_isR H s j).mul (sg_isR H s j)).mul (IsR.sub (by rw [ofBits_one]; exact IsR.one) (sg_isR H s j))
theorem dz_isR (s : Fin 2048) (j : Fin 1024) : IsR (a.dz s j) := Ln.grad_isR _ _ (z_isR H s) (w_isR H s) j
theorem dgl_isR (s : Fin 2048) (j : Fin 1024) : IsR (a.dgl s j) := (dz_isR H s j).mul (usg_isR H s j)
theorem wf_isR (s : Fin 2048) (j : Fin 1024) : IsR (a.wf s j) :=
  ((alpha_isR.mul (dz_isR H s j)).add (IsR.sum fun k _ => (dgl_isR H s k).mul (H.wg j k))).mul (H.gf j)

/-- The two norms' gradients in `jax.vjp`'s form. -/
theorem dz_form (s : Fin 2048) (j : Fin 1024) : Ln.gradV (a.z s) (a.w s) j = a.dz s j := Ln.gradV_eq _ _ (z_isR H s) (w_isR H s) j
theorem dzf_form (s : Fin 2048) (j : Fin 1024) : Ln.gradV (a.zf s) (a.wf s) j = a.dzf s j := Ln.gradV_eq _ _ (zf_isR H s) (wf_isR H s) j

end Args

end Cert.Ple

end
-- ==== Proof.PleHost.lean ====
/- Hand-written: WHAT THE HOST HANDS THE GATED EMBEDDING'S GRADIENT CALL: the forward lines before the call, as functions on
   arrays, and each operand element by element. -/
module

public import proofs.«01_k».proof.Proof.PleSpec
public import proofs.«01_k».proof.Proof.Gen.Kernel4Ideal.Value
public import Idealize.ShloMosaic.Lib.Pointwise

@[expose] public section

set_option maxRecDepth 16384

noncomputable section

namespace Cert.Ple

open Idealize.ShloMosaic Idealize.ShloMosaic.TcCoe Idealize.SL.Sem
open Idealize.ShloMosaic.Pointwise
open Cert.Kernel4Ideal Cert.Kernel4Ideal.Gen

/-- Arrays of the step's two shapes, a column of row values, and a row of the model's width. -/
abbrev Mat := FVec Ideal S2048x1024 .f32
abbrev Col := FVec Ideal S2048x1 .f32
abbrev Row := FVec Ideal S1x1024 .f32

/-! ## A norm's lines on arrays -/

def meanH (z : Mat) : Col :=
  Host.divf (broadcastInDim S2048x1 ![0] bcast_S2048_S2048x1_0 (Host.reduceAdd z (constant S_ .f32 0x00000000#32) reducesTo_S2048x1024_S2048_d1 h_S_))
    (broadcastInDim S2048x1 ![] bcast_S_S2048x1 (constant S_ .f32 0x44800000#32))
def spread (v : Col) : Mat := broadcastInDim S2048x1024 ![0, 1] bcast_S2048x1_S2048x1024_0_1 v
def down (v : Row) : Mat := broadcastInDim S2048x1024 ![0, 1] bcast_S1x1024_S2048x1024_0_1 v
def fill (b : BitVec 32) : Mat := broadcastInDim S2048x1024 ![] bcast_S_S2048x1024 (constant S_ .f32 b)
def cenH (z : Mat) : Mat := subf z (spread (meanH z))
def rsdH (z : Mat) : Col :=
  Host.rsqrt (addf (meanH (mulf (cenH z) (cenH z))) (broadcastInDim S2048x1 ![] bcast_S_S2048x1 (constant S_ .f32 0x3727C5AC#32)))
def nrmH (z : Mat) : Mat := mulf (cenH z) (spread (rsdH z))

theorem meanH_apply (z : Mat) (s : Fin 2048) : meanH z (ix2 s 0) = Ln.mean (fun k => z (ix2 s k)) := by
  unfold meanH Ln.mean
  pointwise
theorem spread_apply (v : Col) (s : Fin 2048) (j : Fin 1024) : spread v (ix2 s j) = v (ix2 s 0) := by
  unfold spread
  pointwise
theorem down_apply (v : Row) (s : Fin 2048) (j : Fin 1024) : down v (ix2 s j) = v (ix2 0 j) := by
  unfold down
  pointwise
theorem fill_apply (b : BitVec 32) (s : Fin 2048) (j : Fin 1024) : fill b (ix2 s j) = Ideal.ofBits .f32 b := by
  unfold fill
  pointwise
theorem cenH_apply (z : Mat) (s : Fin 2048) (j : Fin 1024) : cenH z (ix2 s j) = Ln.cen (fun k => z (ix2 s k)) j :=
  congrArg (z (ix2 s j) - ·) ((spread_apply _ s j).trans (meanH_apply z s))
theorem rsdH_apply (z : Mat) (s : Fin 2048) : rsdH z (ix2 s 0) = Ln.rsd (fun k => z (ix2 s k)) := by
  have e := meanH_apply (mulf (cenH z) (cenH z)) s
  unfold rsdH Ln.rsd
  generalize meanH (mulf (cenH z) (cenH z)) = v at e
  have e' : v (ix2 s 0) + Ideal.ofBits .f32 0x3727C5AC#32 = Ln.var (fun k => z (ix2 s k)) := by
    rw [e]
    unfold Ln.var
    simp only [← cenH_apply]
    rfl
  rw [← e']
  pointwise
theorem nrmH_apply (z : Mat) (s : Fin 2048) (j : Fin 1024) : nrmH z (ix2 s j) = Ln.nrm (fun k => z (ix2 s k)) j :=
  congrArg₂ (· * · : EReal → EReal → EReal) (cenH_apply z s j) ((spread_apply _ s j).trans (rsdH_apply z s))

/-! ## The block's forward lines on arrays -/

def affH (n : Mat) (g b : Row) : Mat := addf (mulf n (down g)) (down b)
def gateH (x : Mat) (w : FVec Ideal S1024x1024 .f32) (b : Row) : Mat :=
  Host.divf (fill 0x3F800000#32) (addf (fill 0x3F800000#32) (Host.exp (Host.negf
    (addf (Host.dotGeneral dot_S2048x1024_S1024x1024_S2048x1024_1_0_0_1_n_n none x w) (down b)))))
def upH (p : FVec Ideal S2048x256 .f32) (w : FVec Ideal S256x1024 .f32) : Mat :=
  Host.dotGeneral dot_S2048x256_S256x1024_S2048x1024_1_0_0_1_n_n none p w
def mixH (x u : Mat) : Mat := addf (mulf (fill 0x3FB504F3#32) x) u
def usgH (u g : Mat) : Mat := mulf (mulf u g) (subf (fill 0x3F800000#32) g)

theorem affH_apply (n : Mat) (g b : Row) (s : Fin 2048) (j : Fin 1024) : affH n g b (ix2 s j) = n (ix2 s j) * g (ix2 0 j) + b (ix2 0 j) := by
  rw [← down_apply g s j, ← down_apply b s j]
  rfl
theorem gateH_apply (x : Mat) (w : FVec Ideal S1024x1024 .f32) (b : Row) (s : Fin 2048) (j : Fin 1024) :
    gateH x w b (ix2 s j) = sigm ((∑ k : Fin 1024, x (ix2 s k) * w (ix2 k j)) + b (ix2 0 j)) := by
  unfold gateH sigm fill down
  pointwise
theorem upH_apply (p : FVec Ideal S2048x256 .f32) (w : FVec Ideal S256x1024 .f32) (s : Fin 2048) (j : Fin 1024) :
    upH p w (ix2 s j) = ∑ q : Fin 256, p (ix2 s q) * w (ix2 q j) := by
  unfold upH
  pointwise
theorem mixH_apply (x u : Mat) (s : Fin 2048) (j : Fin 1024) : mixH x u (ix2 s j) = Ideal.ofBits .f32 0x3FB504F3#32 * x (ix2 s j) + u (ix2 s j) := by
  rw [← fill_apply 0x3FB504F3#32 s j]
  rfl
theorem usgH_apply (u g : Mat) (s : Fin 2048) (j : Fin 1024) :
    usgH u g (ix2 s j) = u (ix2 s j) * g (ix2 s j) * (Ideal.ofBits .f32 0x3F800000#32 - g (ix2 s j)) := by
  rw [← fill_apply 0x3F800000#32 s j]
  rfl

/-- The arguments as arrays. -/
structure Arr where
  x : Mat
  h : Mat
  p : FVec Ideal S2048x256 .f32
  wu : FVec Ideal S256x1024 .f32
  wg : FVec Ideal S1024x1024 .f32
  bg : Row
  gf : Row
  bf : Row
  g : Row
  dy : Mat

namespace Arr
variable (a : Arr)

/-- The same arguments by their elements. -/
def el : Args := ⟨fun s k => a.x (ix2 s k), fun s k => a.h (ix2 s k), fun s k => a.p (ix2 s k), fun k j => a.wu (ix2 k j), fun k j => a.wg (ix2 k j),
  fun j => a.bg (ix2 0 j), fun j => a.gf (ix2 0 j), fun j => a.bf (ix2 0 j), fun j => a.g (ix2 0 j), fun s k => a.dy (ix2 s k)⟩

def zf : Mat := mixH a.x a.h
def xf : Mat := affH (nrmH a.zf) a.gf a.bf
def sg : Mat := gateH a.xf a.wg a.bg
def up : Mat := upH a.p a.wu
def z : Mat := mixH a.xf (mulf a.sg a.up)
def usg : Mat := usgH a.up a.sg

theorem zf_apply (s : Fin 2048) (j : Fin 1024) : a.zf (ix2 s j) = a.el.zf s j := mixH_apply _ _ s j
theorem xf_apply (s : Fin 2048) (j : Fin 1024) : a.xf (ix2 s j) = a.el.xf s j := by
  refine (affH_apply _ _ _ s j).trans ?_
  rw [nrmH_apply]
  simp only [zf_apply]
  rfl
theorem sg_apply (s : Fin 2048) (j : Fin 1024) : a.sg (ix2 s j) = a.el.sg s j := by
  refine (gateH_apply _ _ _ s j).trans ?_
  simp only [xf_apply]
  rfl
theorem up_apply (s : Fin 2048) (j : Fin 1024) : a.up (ix2 s j) = a.el.up s j := upH_apply _ _ s j
theorem z_apply (s : Fin 2048) (j : Fin 1024) : a.z (ix2 s j) = a.el.z s j := by
  refine (mixH_apply _ _ s j).trans ?_
  rw [xf_apply]
  exact congrArg (Ideal.ofBits .f32 0x3FB504F3#32 * a.el.xf s j + · : EReal → EReal)
    (congrArg₂ (· * · : EReal → EReal → EReal) (a.sg_apply s j) (a.up_apply s j))
theorem usg_apply (s : Fin 2048) (j : Fin 1024) : a.usg (ix2 s j) = a.el.usg s j := by
  refine (usgH_apply _ _ s j).trans ?_
  rw [up_apply, sg_apply]
  rfl

end Arr

/-! ## The operands -/

variable (m : (ℓ : Loc nD τ sig) → Buf (Elt Ideal) ℓ)

/-- The arguments of a device. -/
def arr (c : Dev nD) : Arr := ⟨m (c.tc.loc main_arg0), m (c.tc.loc main_arg1), m (c.tc.loc main_arg2), m (c.tc.loc main_arg3), m (c.tc.loc main_arg4),
  m (c.tc.loc main_arg5), m (c.tc.loc main_arg6), m (c.tc.loc main_arg7), m (c.tc.loc main_arg8), m (c.tc.loc main_arg10)⟩

theorem h_dy (c : Dev nD) : (V m c main_arg10 : Mat) = (arr m c).dy := by
  unfold V
  after_results
  rfl
theorem h_g (c : Dev nD) : (V m c main_arg8 : Row) = (arr m c).g := by
  unfold V
  after_results
  rfl
theorem h_gf (c : Dev nD) : (V m c main_arg6 : Row) = (arr m c).gf := by
  unfold V
  after_results
  rfl
theorem h_w (c : Dev nD) : (V m c main_v45 : FVec Ideal S1024x1024 .bf16) = truncf .bf16 (arr m c).wg bitsLt_bf16_f32 := by
  unfold V
  after_results
  rfl
theorem h_zf (c : Dev nD) : (V m c main_v2 : Mat) = (arr m c).zf := by
  unfold V
  after_results
  rfl
theorem h_sg (c : Dev nD) : (V m c main_v39 : FVec Ideal S2048x1024 .bf16) = truncf .bf16 (arr m c).sg bitsLt_bf16_f32 := by
  unfold V
  after_results
  rfl
theorem h_z (c : Dev nD) : (V m c main_v38 : Mat) = (arr m c).z := by
  unfold V
  after_results
  rfl
theorem h_usg (c : Dev nD) : (V m c main_v44 : FVec Ideal S2048x1024 .bf16) = truncf .bf16 (arr m c).usg bitsLt_bf16_f32 := by
  unfold V
  after_results
  rfl

end Cert.Ple

end
-- ==== Proof.PlePoint.lean ====
/- Hand-written: ONE POINT OF THE GATED EMBEDDING'S GRADIENT CALL: what the body computes from its blocks, element by
   element, and what it leaves in its nine output blocks. -/
module

public import proofs.«01_k».proof.Proof.PleSpec
public import proofs.«01_k».proof.Proof.Gen.Kernel4Ideal.Value
public import Idealize.ShloMosaic.Lib.Pointwise

@[expose] public section

set_option maxRecDepth 16384

noncomputable section

namespace Cert.Ple

open Idealize.ShloMosaic Idealize.ShloMosaic.TcCoe Idealize.SL.Sem
open Idealize.ShloMosaic.Pointwise
open Cert.Kernel4Ideal Cert.Kernel4Ideal.Gen

/-! ## The body's values -/

variable (dy z : Vec Ideal S512x1024 .f32) (g : Vec Ideal S1x1024 .f32)

theorem cen_apply (r : Fin 512) (j : Fin 1024) : k0_pay6 (F := Ideal) z (ix2 r j) = Ln.cen (fun k => z (ix2 r k)) j := by
  unfold k0_pay6 Ln.cen Ln.mean
  pointwise

theorem rsd_apply (r : Fin 512) : k0_pay7 (F := Ideal) z (ix2 r 0) = Ln.rsd (fun k => z (ix2 r k)) := by
  unfold k0_pay7 Ln.rsd Ln.var Ln.mean
  simp only [← cen_apply]
  generalize k0_pay6 (F := Ideal) z = u
  pointwise

theorem nrm_apply (r : Fin 512) (j : Fin 1024) : k0_pay8 (F := Ideal) z (ix2 r j) = Ln.nrm (fun k => z (ix2 r k)) j := by
  unfold k0_pay8 Ln.nrm
  rw [← cen_apply, ← rsd_apply]
  generalize k0_pay6 (F := Ideal) z = u
  generalize k0_pay7 (F := Ideal) z = s
  pointwise

theorem dz_apply (r : Fin 512) (j : Fin 1024) :
    k0_pay9 (F := Ideal) dy z g (ix2 r j) = Ln.grad (fun k => z (ix2 r k)) (fun k => dy (ix2 r k) * g (ix2 0 k)) j := by
  unfold k0_pay9 Ln.grad Ln.mean
  simp only [← nrm_apply, ← rsd_apply]
  generalize k0_pay8 (F := Ideal) z = u
  generalize k0_pay7 (F := Ideal) z = s
  pointwise

/-- The first norm's rows: the same values of its own input. -/
theorem rsdf_apply (r : Fin 512) : k0_pay16 (F := Ideal) z (ix2 r 0) = Ln.rsd (fun k => z (ix2 r k)) := rsd_apply z r
theorem nrmf_apply (r : Fin 512) (j : Fin 1024) : k0_pay17 (F := Ideal) z (ix2 r j) = Ln.nrm (fun k => z (ix2 r k)) j := nrm_apply z r j

theorem dzf_apply (w : FVec Ideal S512x1024 .f32) (r : Fin 512) (j : Fin 1024) :
    k0_pay19 (F := Ideal) (k0_pay16 (F := Ideal) z) (k0_pay17 (F := Ideal) z) w (ix2 r j) = Ln.grad (fun k => z (ix2 r k)) (fun k => w (ix2 r k)) j := by
  unfold k0_pay19 Ln.grad Ln.mean
  simp only [← nrmf_apply, ← rsdf_apply]
  generalize k0_pay17 (F := Ideal) z = u
  generalize k0_pay16 (F := Ideal) z = s
  pointwise

variable (d : FVec Ideal S512x1024 .f32) (u : Vec Ideal S512x1024 .bf16)

theorem dgl_apply (r : Fin 512) (j : Fin 1024) : k0_pay11 (F := Ideal) d (k0_pay10 (F := Ideal) u) (ix2 r j) = d (ix2 r j) * u (ix2 r j) := by
  unfold k0_pay11 k0_pay10
  pointwise

theorem dup_apply (r : Fin 512) (j : Fin 1024) : k0_pay13 (F := Ideal) d u (ix2 r j) = d (ix2 r j) * u (ix2 r j) := by
  unfold k0_pay13
  pointwise

theorem dx_apply (w : Vec Ideal S1024x1024 .bf16) (r : Fin 512) (j : Fin 1024) : k0_pay14 (F := Ideal) d (k0_pay10 (F := Ideal) u) w (ix2 r j)
    = Ideal.ofBits .f32 0x3FB504F3#32 * d (ix2 r j) + ∑ k : Fin 1024, (d (ix2 r k) * u (ix2 r k)) * w (ix2 j k) := by
  unfold k0_pay14 k0_pay11 k0_pay10
  pointwise

theorem wf_apply (w : Vec Ideal S1024x1024 .bf16) (r : Fin 512) (j : Fin 1024) : k0_pay18 (F := Ideal) d (k0_pay10 (F := Ideal) u) w g (ix2 r j)
    = k0_pay14 (F := Ideal) d (k0_pay10 (F := Ideal) u) w (ix2 r j) * g (ix2 0 j) := by
  unfold k0_pay18
  generalize k0_pay14 (F := Ideal) d (k0_pay10 (F := Ideal) u) w = v
  pointwise

/-- The sums over a block's rows. -/
theorem sumGain_apply (j : Fin 1024) : k0_pay21 (F := Ideal) dy d (ix2 0 j) = ∑ r : Fin 512, dy (ix2 r j) * d (ix2 r j) := by
  unfold k0_pay21
  pointwise
theorem sumRows_apply (j : Fin 1024) : k0_pay23 (F := Ideal) dy (ix2 0 j) = ∑ r : Fin 512, dy (ix2 r j) := by
  unfold k0_pay23
  pointwise
theorem sumGate_apply (j : Fin 1024) : k0_pay25 (F := Ideal) d (ix2 0 j) = ∑ r : Fin 512, d (ix2 r j) := sumRows_apply d j
theorem sumGainf_apply (n : FVec Ideal S512x1024 .f32) (j : Fin 1024) : k0_pay2 (F := Ideal) d n (ix2 0 j) = ∑ r : Fin 512, d (ix2 r j) * n (ix2 r j) := sumGain_apply d n j
theorem sumRowsf_apply (j : Fin 1024) : k0_pay4 (F := Ideal) d (ix2 0 j) = ∑ r : Fin 512, d (ix2 r j) := sumRows_apply d j

/-! ## The nine blocks after a point -/

variable (m : (ℓ : Loc nD τ sig) → Buf (Elt Ideal) ℓ)

/-- The second norm's gradient at a point, the gate's, the first norm's cotangent and that norm's gradient. -/
abbrev dzAt (c : Dev nD) (t : Fin cfg0.N) : FVec Ideal S512x1024 .f32 := k0_pay9 (F := Ideal) (iblk m c 0 t) (iblk m c 1 t) (iblk m c 4 t)
abbrev dglAt (c : Dev nD) (t : Fin cfg0.N) : FVec Ideal S512x1024 .f32 := k0_pay11 (F := Ideal) (dzAt m c t) (k0_pay10 (F := Ideal) (iblk m c 3 t))
abbrev dxAt (c : Dev nD) (t : Fin cfg0.N) : FVec Ideal S512x1024 .f32 := k0_pay14 (F := Ideal) (dzAt m c t) (k0_pay10 (F := Ideal) (iblk m c 3 t)) (iblk m c 5 t)
abbrev wfAt (c : Dev nD) (t : Fin cfg0.N) : FVec Ideal S512x1024 .f32 :=
  k0_pay18 (F := Ideal) (dzAt m c t) (k0_pay10 (F := Ideal) (iblk m c 3 t)) (iblk m c 5 t) (iblk m c 7 t)
abbrev nrmfAt (c : Dev nD) (t : Fin cfg0.N) : FVec Ideal S512x1024 .f32 := k0_pay17 (F := Ideal) (iblk m c 6 t)
abbrev dzfAt (c : Dev nD) (t : Fin cfg0.N) : FVec Ideal S512x1024 .f32 := k0_pay19 (F := Ideal) (k0_pay16 (F := Ideal) (iblk m c 6 t)) (nrmfAt m c t) (wfAt m c t)
abbrev nrmAt (c : Dev nD) (t : Fin cfg0.N) : FVec Ideal S512x1024 .f32 := k0_pay8 (F := Ideal) (iblk m c 1 t)

theorem hz2 : (![0, 0] : Fin 2 → Nat) = fun _ => 0 := by decide

set_option maxHeartbeats 4000000 in
theorem outs_first (c : Dev nD) (t : Fin cfg0.N) (h : t.val = 0) :
    outsAt0 m c t.val t.isLt = (dzfAt m c t, k0_pay20 (F := Ideal) (k0_pay16 (F := Ideal) (iblk m c 6 t)) (nrmfAt m c t) (wfAt m c t),
      k0_pay12 (F := Ideal) (dzAt m c t) (k0_pay10 (F := Ideal) (iblk m c 3 t)), k0_pay13 (F := Ideal) (dzAt m c t) (iblk m c 2 t),
      k0_pay21 (F := Ideal) (iblk m c 0 t) (nrmAt m c t), k0_pay23 (F := Ideal) (iblk m c 0 t), k0_pay25 (F := Ideal) (dglAt m c t),
      k0_pay2 (F := Ideal) (dxAt m c t) (nrmfAt m c t), k0_pay4 (F := Ideal) (dxAt m c t)) := by
  have h0 : t.val % 4 = 0 := by omega
  have h1 : ¬1 ≤ t.val := by omega
  rw [outsAt0_A m c t h0 h1 h0 h1 h0 h1 h0 h1 h0 h1]
  unfold out0_A_8 out0_A_9 out0_A_10 out0_A_11 out0_A_12 out0_A_13 out0_A_14 out0_A_15 out0_A_16
  simp only [Prod.mk.injEq]
  refine ⟨(View.read_writes_eq_canon _ _ _ (fun _ => cover0_A_8 ..)).trans ?_, (View.read_writes_eq_canon _ _ _ (fun _ => cover0_A_9 ..)).trans ?_, (View.read_writes_eq_canon _ _ _ (fun _ => cover0_A_10 ..)).trans ?_, (View.read_writes_eq_canon _ _ _ (fun _ => cover0_A_11 ..)).trans ?_, (View.read_writes_eq_canon _ _ _ (fun _ => cover0_A_12 ..)).trans ?_, (View.read_writes_eq_canon _ _ _ (fun _ => cover0_A_13 ..)).trans ?_, (View.read_writes_eq_canon _ _ _ (fun _ => cover0_A_14 ..)).trans ?_, (View.read_writes_eq_canon _ _ _ (fun _ => cover0_A_15 ..)).trans ?_, (View.read_writes_eq_canon _ _ _ (fun _ => cover0_A_16 ..)).trans ?_⟩ <;>
  · unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread,
      View.ld_unit_zero (S := S512x1024) hz2, View.ld_unit_zero (S := S1x1024) hz2, View.ld_unit_zero (S := S1024x1024) hz2, shapeCast_self]

set_option maxHeartbeats 4000000 in
theorem outs_later (c : Dev nD) (t : Fin cfg0.N) (h : 1 ≤ t.val) (y : _)
    (hy : y = outsAt0 m c (t.val - 1) (Nat.lt_of_le_of_lt (Nat.sub_le _ _) t.isLt)) :
    outsAt0 m c t.val t.isLt = (dzfAt m c t, k0_pay20 (F := Ideal) (k0_pay16 (F := Ideal) (iblk m c 6 t)) (nrmfAt m c t) (wfAt m c t),
      k0_pay12 (F := Ideal) (dzAt m c t) (k0_pay10 (F := Ideal) (iblk m c 3 t)), k0_pay13 (F := Ideal) (dzAt m c t) (iblk m c 2 t),
      k0_pay22 (F := Ideal) (iblk m c 0 t) (nrmAt m c t) y.2.2.2.2.1, k0_pay24 (F := Ideal) (iblk m c 0 t) y.2.2.2.2.2.1,
      k0_pay1 (F := Ideal) (k0_pay25 (F := Ideal) (dglAt m c t)) y.2.2.2.2.2.2.1, k0_pay3 (F := Ideal) (dxAt m c t) (nrmfAt m c t) y.2.2.2.2.2.2.2.1,
      k0_pay5 (F := Ideal) (dxAt m c t) y.2.2.2.2.2.2.2.2) := by
  have hN : t.val < 4 := lt_of_lt_of_eq t.isLt N_0
  have h0 : ¬t.val % 4 = 0 := by omega
  rw [outsAt0_B m c t h0 h h0 h h0 h h0 h h0 h, ← hy]
  clear hy
  unfold out0_B_8 out0_B_9 out0_B_10 out0_B_11 out0_B_12 out0_B_13 out0_B_14 out0_B_15 out0_B_16
  simp only [Prod.mk.injEq]
  refine ⟨(View.read_writes_eq_canon _ _ _ (fun _ => cover0_B_8 ..)).trans ?_, (View.read_writes_eq_canon _ _ _ (fun _ => cover0_B_9 ..)).trans ?_, (View.read_writes_eq_canon _ _ _ (fun _ => cover0_B_10 ..)).trans ?_, (View.read_writes_eq_canon _ _ _ (fun _ => cover0_B_11 ..)).trans ?_, (View.read_writes_eq_canon _ _ _ (fun _ => cover0_B_12 ..)).trans ?_, (View.read_writes_eq_canon _ _ _ (fun _ => cover0_B_13 ..)).trans ?_, (View.read_writes_eq_canon _ _ _ (fun _ => cover0_B_14 ..)).trans ?_, (View.read_writes_eq_canon _ _ _ (fun _ => cover0_B_15 ..)).trans ?_, (View.read_writes_eq_canon _ _ _ (fun _ => cover0_B_16 ..)).trans ?_⟩ <;>
  · unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_12 t).read_unread, (hs0_13 t).read_unread, (hs0_14 t).read_unread, (hs0_15 t).read_unread, (hs0_16 t).read_unread,
      View.ld_unit_zero (S := S512x1024) hz2, View.ld_unit_zero (S := S1x1024) hz2, View.ld_unit_zero (S := S1024x1024) hz2, shapeCast_self]

end Cert.Ple

end
-- ==== Proof.PleKernel.lean ====
/- Hand-written: THE GATED EMBEDDING'S GRADIENT CALL AS A WHOLE: its blocks, the sums it carries from point to point, and its
   nine result arrays. -/
module

public import proofs.«01_k».proof.Proof.PleHost
public import proofs.«01_k».proof.Proof.PlePoint

@[expose] public section

set_option maxRecDepth 16384

noncomputable section

namespace Cert.Ple

open Idealize.ShloMosaic Idealize.ShloMosaic.TcCoe Idealize.SL.Sem
open Idealize.ShloMosaic.Pointwise
open Cert.Kernel4Ideal Cert.Kernel4Ideal.Gen
open Cert.Mixout (row row_div part part_fin carried)

variable (m : (ℓ : Loc nD τ sig) → Buf (Elt Ideal) ℓ)

/-- The arguments by their elements. -/
abbrev args (c : Dev nD) : Args := (arr m c).el

/-! ## Blocks -/

/-- The grid's point for row block `i`. -/
def pt (i : Fin 4) : Fin cfg0.N := ⟨i.val, by rw [show cfg0.N = 4 from N_0]; omega⟩

theorem in_facts : ∀ i : Fin 4, (win0_0.index (pt i) 0 = i.val ∧ win0_0.index (pt i) 1 = 0)
    ∧ (win0_1.index (pt i) 0 = i.val ∧ win0_1.index (pt i) 1 = 0)
    ∧ (win0_2.index (pt i) 0 = i.val ∧ win0_2.index (pt i) 1 = 0)
    ∧ (win0_3.index (pt i) 0 = i.val ∧ win0_3.index (pt i) 1 = 0)
    ∧ (win0_4.index (pt i) 0 = 0 ∧ win0_4.index (pt i) 1 = 0)
    ∧ (win0_5.index (pt i) 0 = 0 ∧ win0_5.index (pt i) 1 = 0)
    ∧ (win0_6.index (pt i) 0 = i.val ∧ win0_6.index (pt i) 1 = 0)
    ∧ (win0_7.index (pt i) 0 = 0 ∧ win0_7.index (pt i) 1 = 0) := by
  decide +kernel

theorem out_facts : ∀ i : Fin 4, (win0_8.index (pt i) 0 = i.val ∧ win0_8.index (pt i) 1 = 0)
    ∧ (win0_9.index (pt i) 0 = i.val ∧ win0_9.index (pt i) 1 = 0)
    ∧ (win0_10.index (pt i) 0 = i.val ∧ win0_10.index (pt i) 1 = 0)
    ∧ (win0_11.index (pt i) 0 = i.val ∧ win0_11.index (pt i) 1 = 0)
    ∧ (win0_12.index (pt i) 0 = 0 ∧ win0_12.index (pt i) 1 = 0)
    ∧ (win0_13.index (pt i) 0 = 0 ∧ win0_13.index (pt i) 1 = 0)
    ∧ (win0_14.index (pt i) 0 = 0 ∧ win0_14.index (pt i) 1 = 0)
    ∧ (win0_15.index (pt i) 0 = 0 ∧ win0_15.index (pt i) 1 = 0)
    ∧ (win0_16.index (pt i) 0 = 0 ∧ win0_16.index (pt i) 1 = 0) := by
  decide +kernel

theorem b0_apply (c : Dev nD) (i : Fin 4) (r : Fin 512) (k : Fin 1024) :
    (iblk m c 0 (pt i) : Vec Ideal S512x1024 .f32) (ix2 r k) = (args m c).dy (row i r) k := by
  obtain ⟨⟨e0, e1⟩, -⟩ := in_facts i
  have e : (V m c main_arg10 : FVec Ideal S2048x1024 .f32) (ix2 (row i r) k) = (args m c).dy (row i r) k := by
    rw [h_dy]
    exact rfl
  rw [← e]
  unfold iblk
  rw [View.read_apply]
  show V m c main_arg10 _ = V m c main_arg10 _
  congr 1
  funext a; apply Fin.ext
  match a with
  | ⟨0, _⟩ => show win0_0.index (pt i) 0 * 512 + 1 * r.val = i.val * 512 + r.val; rw [e0]; omega
  | ⟨1, _⟩ => show win0_0.index (pt i) 1 * 1024 + 1 * k.val = k.val; rw [e1]; omega

theorem b1_apply (c : Dev nD) (i : Fin 4) (r : Fin 512) (k : Fin 1024) :
    (iblk m c 1 (pt i) : Vec Ideal S512x1024 .f32) (ix2 r k) = (args m c).z (row i r) k := by
  obtain ⟨-, ⟨e0, e1⟩, -⟩ := in_facts i
  have e : (V m c main_v38 : FVec Ideal S2048x1024 .f32) (ix2 (row i r) k) = (args m c).z (row i r) k := by
    rw [h_z]
    exact (arr m c).z_apply _ k
  rw [← e]
  unfold iblk
  rw [View.read_apply]
  show V m c main_v38 _ = V m c main_v38 _
  congr 1
  funext a; apply Fin.ext
  match a with
  | ⟨0, _⟩ => show win0_1.index (pt i) 0 * 512 + 1 * r.val = i.val * 512 + r.val; rw [e0]; omega
  | ⟨1, _⟩ => show win0_1.index (pt i) 1 * 1024 + 1 * k.val = k.val; rw [e1]; omega

theorem b2_apply (c : Dev nD) (i : Fin 4) (r : Fin 512) (k : Fin 1024) :
    (iblk m c 2 (pt i) : Vec Ideal S512x1024 .bf16) (ix2 r k) = (args m c).sg (row i r) k := by
  obtain ⟨-, -, ⟨e0, e1⟩, -⟩ := in_facts i
  have e : (V m c main_v39 : FVec Ideal S2048x1024 .bf16) (ix2 (row i r) k) = (args m c).sg (row i r) k := by
    rw [h_sg]
    exact (arr m c).sg_apply _ k
  rw [← e]
  unfold iblk
  rw [View.read_apply]
  show V m c main_v39 _ = V m c main_v39 _
  congr 1
  funext a; apply Fin.ext
  match a with
  | ⟨0, _⟩ => show win0_2.index (pt i) 0 * 512 + 1 * r.val = i.val * 512 + r.val; rw [e0]; omega
  | ⟨1, _⟩ => show win0_2.index (pt i) 1 * 1024 + 1 * k.val = k.val; rw [e1]; omega

theorem b3_apply (c : Dev nD) (i : Fin 4) (r : Fin 512) (k : Fin 1024) :
    (iblk m c 3 (pt i) : Vec Ideal S512x1024 .bf16) (ix2 r k) = (args m c).usg (row i r) k := by
  obtain ⟨-, -, -, ⟨e0, e1⟩, -⟩ := in_facts i
  have e : (V m c main_v44 : FVec Ideal S2048x1024 .bf16) (ix2 (row i r) k) = (args m c).usg (row i r) k := by
    rw [h_usg]
    exact (arr m c).usg_apply _ k
  rw [← e]
  unfold iblk
  rw [View.read_apply]
  show V m c main_v44 _ = V m c main_v44 _
  congr 1
  funext a; apply Fin.ext
  match a with
  | ⟨0, _⟩ => show win0_3.index (pt i) 0 * 512 + 1 * r.val = i.val * 512 + r.val; rw [e0]; omega
  | ⟨1, _⟩ => show win0_3.index (pt i) 1 * 1024 + 1 * k.val = k.val; rw [e1]; omega

theorem b6_apply (c : Dev nD) (i : Fin 4) (r : Fin 512) (k : Fin 1024) :
    (iblk m c 6 (pt i) : Vec Ideal S512x1024 .f32) (ix2 r k) = (args m c).zf (row i r) k := by
  obtain ⟨-, -, -, -, -, -, ⟨e0, e1⟩, -⟩ := in_facts i
  have e : (V m c main_v2 : FVec Ideal S2048x1024 .f32) (ix2 (row i r) k) = (args m c).zf (row i r) k := by
    rw [h_zf]
    exact (arr m c).zf_apply _ k
  rw [← e]
  unfold iblk
  rw [View.read_apply]
  show V m c main_v2 _ = V m c main_v2 _
  congr 1
  funext a; apply Fin.ext
  match a with
  | ⟨0, _⟩ => show win0_6.index (pt i) 0 * 512 + 1 * r.val = i.val * 512 + r.val; rw [e0]; omega
  | ⟨1, _⟩ => show win0_6.index (pt i) 1 * 1024 + 1 * k.val = k.val; rw [e1]; omega

theorem b4_apply (c : Dev nD) (i : Fin 4) (k : Fin 1024) : (iblk m c 4 (pt i) : Vec Ideal S1x1024 .f32) (ix2 0 k) = (args m c).g k := by
  obtain ⟨-, -, -, -, ⟨e0, e1⟩, -⟩ := in_facts i
  have e : (V m c main_arg8 : Row) (ix2 0 k) = (args m c).g k := by
    rw [h_g]
    rfl
  rw [← e]
  unfold iblk
  rw [View.read_apply]
  show V m c main_arg8 _ = V m c main_arg8 _
  congr 1
  funext a; apply Fin.ext
  match a with
  | ⟨0, _⟩ => show win0_4.index (pt i) 0 * 1 + 1 * 0 = 0; rw [e0]
  | ⟨1, _⟩ => show win0_4.index (pt i) 1 * 1024 + 1 * k.val = k.val; rw [e1]; omega

theorem b7_apply (c : Dev nD) (i : Fin 4) (k : Fin 1024) : (iblk m c 7 (pt i) : Vec Ideal S1x1024 .f32) (ix2 0 k) = (args m c).gf k := by
  obtain ⟨-, -, -, -, -, -, -, ⟨e0, e1⟩⟩ := in_facts i
  have e : (V m c main_arg6 : Row) (ix2 0 k) = (args m c).gf k := by
    rw [h_gf]
    rfl
  rw [← e]
  unfold iblk
  rw [View.read_apply]
  show V m c main_arg6 _ = V m c main_arg6 _
  congr 1
  funext a; apply Fin.ext
  match a with
  | ⟨0, _⟩ => show win0_7.index (pt i) 0 * 1 + 1 * 0 = 0; rw [e0]
  | ⟨1, _⟩ => show win0_7.index (pt i) 1 * 1024 + 1 * k.val = k.val; rw [e1]; omega

theorem b5_apply (c : Dev nD) (i : Fin 4) (p k : Fin 1024) : (iblk m c 5 (pt i) : Vec Ideal S1024x1024 .bf16) (ix2 p k) = (args m c).wg p k := by
  obtain ⟨-, -, -, -, -, ⟨e0, e1⟩, -⟩ := in_facts i
  have e : (V m c main_v45 : FVec Ideal S1024x1024 .bf16) (ix2 p k) = (args m c).wg p k := by
    rw [h_w]
    rfl
  rw [← e]
  unfold iblk
  rw [View.read_apply]
  show V m c main_v45 _ = V m c main_v45 _
  congr 1
  funext a; apply Fin.ext
  match a with
  | ⟨0, _⟩ => show win0_5.index (pt i) 0 * 1024 + 1 * p.val = p.val; rw [e0]; omega
  | ⟨1, _⟩ => show win0_5.index (pt i) 1 * 1024 + 1 * k.val = k.val; rw [e1]; omega

/-! ## A point's values at its rows -/

variable (c : Dev nD) (i : Fin 4) (r : Fin 512) (j : Fin 1024)

theorem nrmAt_apply : nrmAt m c (pt i) (ix2 r j) = Ln.nrm ((args m c).z (row i r)) j := by
  refine (nrm_apply _ r j).trans ?_
  simp only [b1_apply]
theorem nrmfAt_apply : nrmfAt m c (pt i) (ix2 r j) = Ln.nrm ((args m c).zf (row i r)) j := by
  refine (nrmf_apply _ r j).trans ?_
  simp only [b6_apply]
theorem dzAt_apply : dzAt m c (pt i) (ix2 r j) = (args m c).dz (row i r) j := by
  refine (dz_apply _ _ _ r j).trans ?_
  simp only [b0_apply, b1_apply, b4_apply]
  rfl
theorem dglAt_apply : dglAt m c (pt i) (ix2 r j) = (args m c).dgl (row i r) j := by
  refine (dgl_apply _ _ r j).trans ?_
  rw [dzAt_apply, b3_apply]
  rfl
theorem dupAt_apply : k0_pay13 (F := Ideal) (dzAt m c (pt i)) (iblk m c 2 (pt i)) (ix2 r j) = (args m c).dup (row i r) j := by
  refine (dup_apply _ _ r j).trans ?_
  rw [dzAt_apply, b2_apply]
  rfl
theorem dxAt_apply : dxAt m c (pt i) (ix2 r j) = (args m c).dx (row i r) j := by
  refine (dx_apply _ _ _ r j).trans ?_
  simp only [dzAt_apply, b3_apply, b5_apply]
  rfl
theorem wfAt_apply : wfAt m c (pt i) (ix2 r j) = (args m c).wf (row i r) j := by
  refine (wf_apply _ _ _ _ r j).trans ?_
  rw [b7_apply]
  exact congrArg (· * (args m c).gf j : EReal → EReal) (dxAt_apply m c i r j)
theorem dzfAt_apply : dzfAt m c (pt i) (ix2 r j) = (args m c).dzf (row i r) j := by
  refine (dzf_apply _ _ r j).trans ?_
  simp only [b6_apply, wfAt_apply]
  rfl

/-! ## The row blocks every point leaves -/

theorem outs_rows :
    (outsAt0 m c (pt i).val (pt i).isLt).1 = dzfAt m c (pt i)
    ∧ (outsAt0 m c (pt i).val (pt i).isLt).2.1 = k0_pay20 (F := Ideal) (k0_pay16 (F := Ideal) (iblk m c 6 (pt i))) (nrmfAt m c (pt i)) (wfAt m c (pt i))
    ∧ (outsAt0 m c (pt i).val (pt i).isLt).2.2.1 = k0_pay12 (F := Ideal) (dzAt m c (pt i)) (k0_pay10 (F := Ideal) (iblk m c 3 (pt i)))
    ∧ (outsAt0 m c (pt i).val (pt i).isLt).2.2.2.1 = k0_pay13 (F := Ideal) (dzAt m c (pt i)) (iblk m c 2 (pt i)) := by
  by_cases h : (pt i).val = 0
  · rw [outs_first m c (pt i) h]; exact ⟨rfl, rfl, rfl, rfl⟩
  · rw [outs_later m c (pt i) (by omega) _ rfl]; exact ⟨rfl, rfl, rfl, rfl⟩

/-! ## The sums carried from point to point -/

theorem lt_N {n : ℕ} (h : n < 4) : n < cfg0.N := lt_of_lt_of_eq h (show cfg0.N = 4 from N_0).symm

/-- An accumulated row of a point's outputs. -/
abbrev Outs := Vec Ideal S512x1024 .f32 × Vec Ideal S512x1024 .bf16 × Vec Ideal S512x1024 .bf16 × Vec Ideal S512x1024 .bf16 × Vec Ideal S1x1024 .f32
  × Vec Ideal S1x1024 .f32 × Vec Ideal S1x1024 .f32 × Vec Ideal S1x1024 .f32 × Vec Ideal S1x1024 .f32

/-- A row that the first point leaves as its own part `b` of a sum, and to which every later point adds its part, is the sum. -/
theorem carried_row (f : Outs → FVec Ideal S1x1024 .f32) (F : Fin 2048 → EReal) (b : Fin 4 → FVec Ideal S1x1024 .f32)
    (h0 : f (outsAt0 m c 0 (lt_N (by omega))) = b 0)
    (hs : ∀ (n : ℕ) (h : n + 1 < 4), f (outsAt0 m c (n + 1) (lt_N h)) = addf (f (outsAt0 m c n (lt_N (by omega)))) (b ⟨n + 1, h⟩))
    (hb : ∀ i : Fin 4, b i (ix2 0 j) = ∑ r : Fin 512, F (row i r)) :
    f (outsAt0 m c 3 (lt_N (by omega))) (ix2 0 j) = ∑ s : Fin 2048, F s := by
  refine carried (fun n h => f (outsAt0 m c n (lt_N h)) (ix2 0 j)) F ?_ fun n h => ?_
  · refine (congrFun h0 _).trans ((hb 0).trans (part_fin F 0).symm)
  · refine (congrFun (hs n h) _).trans ?_
    exact congrArg (f (outsAt0 m c n (lt_N (by omega))) (ix2 0 j) + · : EReal → EReal) ((hb ⟨n + 1, h⟩).trans (part_fin F ⟨n + 1, h⟩).symm)

theorem carried_gain : (outsAt0 m c 3 (lt_N (by omega))).2.2.2.2.1 (ix2 0 j) = ∑ s : Fin 2048, (args m c).dy s j * Ln.nrm ((args m c).z s) j := by
  refine carried_row m c j (fun y => y.2.2.2.2.1) (fun s => (args m c).dy s j * Ln.nrm ((args m c).z s) j) (fun i => k0_pay21 (F := Ideal) (iblk m c 0 (pt i)) (nrmAt m c (pt i))) ?_ (fun n h => ?_) fun i => ?_
  · exact congrArg (fun y : Outs => y.2.2.2.2.1) (outs_first m c (pt 0) rfl)
  · refine (congrArg (fun y : Outs => y.2.2.2.2.1) (outs_later m c (pt ⟨n + 1, h⟩) (Nat.le_add_left 1 n) _ rfl)).trans ?_
    unfold k0_pay22
    simp only [shapeCast_self]
    rfl
  · refine (sumGain_apply _ _ j).trans (Finset.sum_congr rfl fun r _ => ?_)
    rw [nrmAt_apply, b0_apply]

theorem carried_beta : (outsAt0 m c 3 (lt_N (by omega))).2.2.2.2.2.1 (ix2 0 j) = ∑ s : Fin 2048, (args m c).dy s j := by
  refine carried_row m c j (fun y => y.2.2.2.2.2.1) (fun s => (args m c).dy s j) (fun i => k0_pay23 (F := Ideal) (iblk m c 0 (pt i))) ?_ (fun n h => ?_) fun i => ?_
  · exact congrArg (fun y : Outs => y.2.2.2.2.2.1) (outs_first m c (pt 0) rfl)
  · refine (congrArg (fun y : Outs => y.2.2.2.2.2.1) (outs_later m c (pt ⟨n + 1, h⟩) (Nat.le_add_left 1 n) _ rfl)).trans ?_
    unfold k0_pay24
    simp only [shapeCast_self]
    rfl
  · refine (sumRows_apply _ j).trans (Finset.sum_congr rfl fun r _ => ?_)
    rw [b0_apply]

theorem carried_gate : (outsAt0 m c 3 (lt_N (by omega))).2.2.2.2.2.2.1 (ix2 0 j) = ∑ s : Fin 2048, (args m c).dgl s j := by
  refine carried_row m c j (fun y => y.2.2.2.2.2.2.1) (fun s => (args m c).dgl s j) (fun i => k0_pay25 (F := Ideal) (dglAt m c (pt i))) ?_ (fun n h => ?_) fun i => ?_
  · exact congrArg (fun y : Outs => y.2.2.2.2.2.2.1) (outs_first m c (pt 0) rfl)
  · refine (congrArg (fun y : Outs => y.2.2.2.2.2.2.1) (outs_later m c (pt ⟨n + 1, h⟩) (Nat.le_add_left 1 n) _ rfl)).trans ?_
    unfold k0_pay1
    simp only [shapeCast_self]
    rfl
  · refine (sumGate_apply _ j).trans (Finset.sum_congr rfl fun r _ => ?_)
    rw [dglAt_apply]

theorem carried_gainf : (outsAt0 m c 3 (lt_N (by omega))).2.2.2.2.2.2.2.1 (ix2 0 j) = ∑ s : Fin 2048, (args m c).dx s j * Ln.nrm ((args m c).zf s) j := by
  refine carried_row m c j (fun y => y.2.2.2.2.2.2.2.1) (fun s => (args m c).dx s j * Ln.nrm ((args m c).zf s) j) (fun i => k0_pay2 (F := Ideal) (dxAt m c (pt i)) (nrmfAt m c (pt i))) ?_ (fun n h => ?_) fun i => ?_
  · exact congrArg (fun y : Outs => y.2.2.2.2.2.2.2.1) (outs_first m c (pt 0) rfl)
  · refine (congrArg (fun y : Outs => y.2.2.2.2.2.2.2.1) (outs_later m c (pt ⟨n + 1, h⟩) (Nat.le_add_left 1 n) _ rfl)).trans ?_
    unfold k0_pay3
    simp only [shapeCast_self]
    rfl
  · refine (sumGainf_apply _ _ j).trans (Finset.sum_congr rfl fun r _ => ?_)
    rw [dxAt_apply, nrmfAt_apply]

theorem carried_betaf : (outsAt0 m c 3 (lt_N (by omega))).2.2.2.2.2.2.2.2 (ix2 0 j) = ∑ s : Fin 2048, (args m c).dx s j := by
  refine carried_row m c j (fun y => y.2.2.2.2.2.2.2.2) (fun s => (args m c).dx s j) (fun i => k0_pay4 (F := Ideal) (dxAt m c (pt i))) ?_ (fun n h => ?_) fun i => ?_
  · exact congrArg (fun y : Outs => y.2.2.2.2.2.2.2.2) (outs_first m c (pt 0) rfl)
  · refine (congrArg (fun y : Outs => y.2.2.2.2.2.2.2.2) (outs_later m c (pt ⟨n + 1, h⟩) (Nat.le_add_left 1 n) _ rfl)).trans ?_
    unfold k0_pay5
    simp only [shapeCast_self]
    rfl
  · refine (sumRowsf_apply _ j).trans (Finset.sum_congr rfl fun r _ => ?_)
    rw [dxAt_apply]

/-! ## The nine result arrays -/
abbrev res8 : FVec Ideal S2048x1024 .f32 := (dats m 0 c).arrAt 8 cfg0.N
abbrev res9 : FVec Ideal S2048x1024 .bf16 := (dats m 0 c).arrAt 9 cfg0.N
abbrev res10 : FVec Ideal S2048x1024 .bf16 := (dats m 0 c).arrAt 10 cfg0.N
abbrev res11 : FVec Ideal S2048x1024 .bf16 := (dats m 0 c).arrAt 11 cfg0.N
abbrev res12 : Row := (dats m 0 c).arrAt 12 cfg0.N
abbrev res13 : Row := (dats m 0 c).arrAt 13 cfg0.N
abbrev res14 : Row := (dats m 0 c).arrAt 14 cfg0.N
abbrev res15 : Row := (dats m 0 c).arrAt 15 cfg0.N
abbrev res16 : Row := (dats m 0 c).arrAt 16 cfg0.N

set_option maxHeartbeats 1000000 in
theorem res8_apply (s : Fin 2048) : res8 m c (ix2 s j) = (args m c).dzf s j := by
  rw [← row_div s]
  generalize (⟨s.val / 512, _⟩ : Fin 4) = i
  generalize (⟨s.val % 512, _⟩ : Fin 512) = r
  have b := congrFun (Value.blocks8 m c (pt i) (flush0_8 _)) (ix2 r j)
  rw [Value.flushed8, (outs_rows m c i).1] at b
  have e : ((cfg0.win 8).blk (pt i)).view.emb (ix2 r j) = ix2 (row i r) j := by
    obtain ⟨⟨e0, e1⟩, -⟩ := out_facts i
    funext a; apply Fin.ext
    match a with
    | ⟨0, _⟩ => show win0_8.index (pt i) 0 * 512 + 1 * r.val = i.val * 512 + r.val; rw [e0]; omega
    | ⟨1, _⟩ => show win0_8.index (pt i) 1 * 1024 + 1 * j.val = j.val; rw [e1]; omega
  have b' : res8 m c (((cfg0.win 8).blk (pt i)).view.emb (ix2 r j)) = (dzfAt m c (pt i) (ix2 r j) : EReal) := b
  rw [e] at b'
  exact b'.trans (dzfAt_apply m c i r j)

set_option maxHeartbeats 1000000 in
theorem res9_apply (s : Fin 2048) : res9 m c (ix2 s j) = (args m c).dzf s j := by
  rw [← row_div s]
  generalize (⟨s.val / 512, _⟩ : Fin 4) = i
  generalize (⟨s.val % 512, _⟩ : Fin 512) = r
  have b := congrFun (Value.blocks9 m c (pt i) (flush0_9 _)) (ix2 r j)
  rw [Value.flushed9, (outs_rows m c i).2.1] at b
  have e : ((cfg0.win 9).blk (pt i)).view.emb (ix2 r j) = ix2 (row i r) j := by
    obtain ⟨-, ⟨e0, e1⟩, -⟩ := out_facts i
    funext a; apply Fin.ext
    match a with
    | ⟨0, _⟩ => show win0_9.index (pt i) 0 * 512 + 1 * r.val = i.val * 512 + r.val; rw [e0]; omega
    | ⟨1, _⟩ => show win0_9.index (pt i) 1 * 1024 + 1 * j.val = j.val; rw [e1]; omega
  have b' : res9 m c (((cfg0.win 9).blk (pt i)).view.emb (ix2 r j)) = (dzfAt m c (pt i) (ix2 r j) : EReal) := b
  rw [e] at b'
  exact b'.trans (dzfAt_apply m c i r j)

set_option maxHeartbeats 1000000 in
theorem res10_apply (s : Fin 2048) : res10 m c (ix2 s j) = (args m c).dgl s j := by
  rw [← row_div s]
  generalize (⟨s.val / 512, _⟩ : Fin 4) = i
  generalize (⟨s.val % 512, _⟩ : Fin 512) = r
  have b := congrFun (Value.blocks10 m c (pt i) (flush0_10 _)) (ix2 r j)
  rw [Value.flushed10, (outs_rows m c i).2.2.1] at b
  have e : ((cfg0.win 10).blk (pt i)).view.emb (ix2 r j) = ix2 (row i r) j := by
    obtain ⟨-, -, ⟨e0, e1⟩, -⟩ := out_facts i
    funext a; apply Fin.ext
    match a with
    | ⟨0, _⟩ => show win0_10.index (pt i) 0 * 512 + 1 * r.val = i.val * 512 + r.val; rw [e0]; omega
    | ⟨1, _⟩ => show win0_10.index (pt i) 1 * 1024 + 1 * j.val = j.val; rw [e1]; omega
  have b' : res10 m c (((cfg0.win 10).blk (pt i)).view.emb (ix2 r j)) = (dglAt m c (pt i) (ix2 r j) : EReal) := b
  rw [e] at b'
  exact b'.trans (dglAt_apply m c i r j)

set_option maxHeartbeats 1000000 in
theorem res11_apply (s : Fin 2048) : res11 m c (ix2 s j) = (args m c).dup s j := by
  rw [← row_div s]
  generalize (⟨s.val / 512, _⟩ : Fin 4) = i
  generalize (⟨s.val % 512, _⟩ : Fin 512) = r
  have b := congrFun (Value.blocks11 m c (pt i) (flush0_11 _)) (ix2 r j)
  rw [Value.flushed11, (outs_rows m c i).2.2.2] at b
  have e : ((cfg0.win 11).blk (pt i)).view.emb (ix2 r j) = ix2 (row i r) j := by
    obtain ⟨-, -, -, ⟨e0, e1⟩, -⟩ := out_facts i
    funext a; apply Fin.ext
    match a with
    | ⟨0, _⟩ => show win0_11.index (pt i) 0 * 512 + 1 * r.val = i.val * 512 + r.val; rw [e0]; omega
    | ⟨1, _⟩ => show win0_11.index (pt i) 1 * 1024 + 1 * j.val = j.val; rw [e1]; omega
  have b' : res11 m c (((cfg0.win 11).blk (pt i)).view.emb (ix2 r j)) = (k0_pay13 (F := Ideal) (dzAt m c (pt i)) (iblk m c 2 (pt i)) (ix2 r j) : EReal) := b
  rw [e] at b'
  exact b'.trans (dupAt_apply m c i r j)

theorem flush_last {t : Fin cfg0.N} (h : t.val % 4 = 3) : t = pt 3 := by
  have hN : t.val < 4 := lt_of_lt_of_eq t.isLt N_0
  exact Fin.ext (show t.val = 3 by omega)

/-- One block is written at most once: two points that write it are the last. -/
theorem flush_one {f : Fin cfg0.N → Bool} (h : ∀ t, f t = true ↔ t.val % 4 = 3) {P : Fin cfg0.N → Fin cfg0.N → Prop} (t t' : Fin cfg0.N)
    (a : f t = true) (b : f t' = true) (ne : t ≠ t') : P t t' :=
  absurd ((flush_last ((h t).mp a)).trans (flush_last ((h t').mp b)).symm) ne

set_option maxHeartbeats 1000000 in
theorem res12_apply : res12 m c (ix2 0 j) = ∑ s : Fin 2048, (args m c).dy s j * Ln.nrm ((args m c).z s) j := by
  have b := congrFun ((dats m 0 c).read_blk_arrAt_eq_flushed 12 (flush_one flush0_12) cfg0.N (pt 3) (pt 3).isLt ((flush0_12 _).mpr rfl)) (ix2 0 j)
  rw [Value.flushed12] at b
  have e : ((cfg0.win 12).blk (pt 3)).view.emb (ix2 (0 : Fin 1) j) = ix2 (0 : Fin 1) j := by
    obtain ⟨-, -, -, -, ⟨e0, e1⟩, -⟩ := out_facts 3
    funext a; apply Fin.ext
    match a with
    | ⟨0, _⟩ => show win0_12.index (pt 3) 0 * 1 + 1 * 0 = 0; rw [e0]
    | ⟨1, _⟩ => show win0_12.index (pt 3) 1 * 1024 + 1 * j.val = j.val; rw [e1]; omega
  have b' : res12 m c (((cfg0.win 12).blk (pt 3)).view.emb (ix2 0 j)) = (outsAt0 m c 3 (lt_N (by omega))).2.2.2.2.1 (ix2 0 j) := b
  rw [e] at b'
  exact b'.trans (carried_gain m c j)

set_option maxHeartbeats 1000000 in
theorem res13_apply : res13 m c (ix2 0 j) = ∑ s : Fin 2048, (args m c).dy s j := by
  have b := congrFun ((dats m 0 c).read_blk_arrAt_eq_flushed 13 (flush_one flush0_13) cfg0.N (pt 3) (pt 3).isLt ((flush0_13 _).mpr rfl)) (ix2 0 j)
  rw [Value.flushed13] at b
  have e : ((cfg0.win 13).blk (pt 3)).view.emb (ix2 (0 : Fin 1) j) = ix2 (0 : Fin 1) j := by
    obtain ⟨-, -, -, -, -, ⟨e0, e1⟩, -⟩ := out_facts 3
    funext a; apply Fin.ext
    match a with
    | ⟨0, _⟩ => show win0_13.index (pt 3) 0 * 1 + 1 * 0 = 0; rw [e0]
    | ⟨1, _⟩ => show win0_13.index (pt 3) 1 * 1024 + 1 * j.val = j.val; rw [e1]; omega
  have b' : res13 m c (((cfg0.win 13).blk (pt 3)).view.emb (ix2 0 j)) = (outsAt0 m c 3 (lt_N (by omega))).2.2.2.2.2.1 (ix2 0 j) := b
  rw [e] at b'
  exact b'.trans (carried_beta m c j)

set_option maxHeartbeats 1000000 in
theorem res14_apply : res14 m c (ix2 0 j) = ∑ s : Fin 2048, (args m c).dgl s j := by
  have b := congrFun ((dats m 0 c).read_blk_arrAt_eq_flushed 14 (flush_one flush0_14) cfg0.N (pt 3) (pt 3).isLt ((flush0_14 _).mpr rfl)) (ix2 0 j)
  rw [Value.flushed14] at b
  have e : ((cfg0.win 14).blk (pt 3)).view.emb (ix2 (0 : Fin 1) j) = ix2 (0 : Fin 1) j := by
    obtain ⟨-, -, -, -, -, -, ⟨e0, e1⟩, -⟩ := out_facts 3
    funext a; apply Fin.ext
    match a with
    | ⟨0, _⟩ => show win0_14.index (pt 3) 0 * 1 + 1 * 0 = 0; rw [e0]
    | ⟨1, _⟩ => show win0_14.index (pt 3) 1 * 1024 + 1 * j.val = j.val; rw [e1]; omega
  have b' : res14 m c (((cfg0.win 14).blk (pt 3)).view.emb (ix2 0 j)) = (outsAt0 m c 3 (lt_N (by omega))).2.2.2.2.2.2.1 (ix2 0 j) := b
  rw [e] at b'
  exact b'.trans (carried_gate m c j)

set_option maxHeartbeats 1000000 in
theorem res15_apply : res15 m c (ix2 0 j) = ∑ s : Fin 2048, (args m c).dx s j * Ln.nrm ((args m c).zf s) j := by
  have b := congrFun ((dats m 0 c).read_blk_arrAt_eq_flushed 15 (flush_one flush0_15) cfg0.N (pt 3) (pt 3).isLt ((flush0_15 _).mpr rfl)) (ix2 0 j)
  rw [Value.flushed15] at b
  have e : ((cfg0.win 15).blk (pt 3)).view.emb (ix2 (0 : Fin 1) j) = ix2 (0 : Fin 1) j := by
    obtain ⟨-, -, -, -, -, -, -, ⟨e0, e1⟩, -⟩ := out_facts 3
    funext a; apply Fin.ext
    match a with
    | ⟨0, _⟩ => show win0_15.index (pt 3) 0 * 1 + 1 * 0 = 0; rw [e0]
    | ⟨1, _⟩ => show win0_15.index (pt 3) 1 * 1024 + 1 * j.val = j.val; rw [e1]; omega
  have b' : res15 m c (((cfg0.win 15).blk (pt 3)).view.emb (ix2 0 j)) = (outsAt0 m c 3 (lt_N (by omega))).2.2.2.2.2.2.2.1 (ix2 0 j) := b
  rw [e] at b'
  exact b'.trans (carried_gainf m c j)

set_option maxHeartbeats 1000000 in
theorem res16_apply : res16 m c (ix2 0 j) = ∑ s : Fin 2048, (args m c).dx s j := by
  have b := congrFun ((dats m 0 c).read_blk_arrAt_eq_flushed 16 (flush_one flush0_16) cfg0.N (pt 3) (pt 3).isLt ((flush0_16 _).mpr rfl)) (ix2 0 j)
  rw [Value.flushed16] at b
  have e : ((cfg0.win 16).blk (pt 3)).view.emb (ix2 (0 : Fin 1) j) = ix2 (0 : Fin 1) j := by
    obtain ⟨-, -, -, -, -, -, -, -, ⟨e0, e1⟩⟩ := out_facts 3
    funext a; apply Fin.ext
    match a with
    | ⟨0, _⟩ => show win0_16.index (pt 3) 0 * 1 + 1 * 0 = 0; rw [e0]
    | ⟨1, _⟩ => show win0_16.index (pt 3) 1 * 1024 + 1 * j.val = j.val; rw [e1]; omega
  have b' : res16 m c (((cfg0.win 16).blk (pt 3)).view.emb (ix2 0 j)) = (outsAt0 m c 3 (lt_N (by omega))).2.2.2.2.2.2.2.2 (ix2 0 j) := b
  rw [e] at b'
  exact b'.trans (carried_betaf m c j)

end Cert.Ple

end
-- ==== Proof.PleRef.lean ====
/- Hand-written: THE GATED EMBEDDING'S REFERENCE, read index by index: the forward lines and `jax.vjp`'s gradient of them. -/
module

public import proofs.«01_k».proof.Proof.PleHost
public import proofs.«01_k».proof.Proof.Gen.Reference4Ideal.Read

@[expose] public section

set_option maxRecDepth 16384

noncomputable section

namespace Cert.Ple.Ref

open Idealize.ShloMosaic Idealize.ShloMosaic.TcCoe Idealize.SL.Sem
open Idealize.ShloMosaic.Pointwise
open Cert.Reference4Ideal Cert.Reference4Ideal.Gen Cert.Reference4Ideal.Read

/-! ## `jax.vjp`'s lines for a norm, on arrays -/

def column (b : BitVec 32) : Col := broadcastInDim S2048x1 ![] bcast_S_S2048x1 (constant S_ .f32 b)
def rowSum (z : Mat) : Col :=
  shapeCast S2048x1 (Host.reduceAdd z (constant S_ .f32 0x00000000#32) reducesTo_S2048x1024_S2048_d1 h_S_) shapeCasts_S2048_S2048x1
def spreadV (v : Col) : Mat :=
  broadcastInDim S2048x1024 ![0] bcast_S2048_S2048x1024_0 (Host.reduceAdd v (constant S_ .f32 0x00000000#32) reducesTo_S2048x1_S2048_d1 h_S_)
def colSum (z : Mat) : Row :=
  shapeCast S1x1024 (Host.reduceAdd z (constant S_ .f32 0x00000000#32) reducesTo_S2048x1024_S1024_d0 h_S_) shapeCasts_S1024_S1x1024
def colSumV (z : Mat) : Row :=
  broadcastInDim S1x1024 ![1] bcast_S1024_S1x1024_1 (Host.reduceAdd z (constant S_ .f32 0x00000000#32) reducesTo_S2048x1024_S1024_d0 h_S_)
def varH (z : Mat) : Col := addf (meanH (mulf (cenH z) (cenH z))) (column 0x3727C5AC#32)
/-- The part passed straight back, the part passed through the squares, and the whole. -/
def backH (z w : Mat) : Col :=
  Host.divf (mulf (rowSum (mulf (cenH z) w)) (mulf (column 0xBF000000#32) (Host.divf (rsdH z) (varH z)))) (column 0x44800000#32)
def straightH (z w : Mat) : Mat := mulf w (spread (rsdH z))
def squareH (z w : Mat) : Mat := mulf (spreadV (backH z w)) (mulf (fill 0x40000000#32) (cenH z))
def restH (u v : Mat) : Col := Host.divf (addf (rowSum (Host.negf u)) (rowSum (Host.negf v))) (column 0x44800000#32)
def gradH (z w : Mat) : Mat := addf (addf (straightH z w) (squareH z w)) (spreadV (restH (straightH z w) (squareH z w)))

theorem column_apply (b : BitVec 32) (s : Fin 2048) : column b (ix2 s 0) = Ideal.ofBits .f32 b := by
  unfold column
  pointwise
theorem rowSum_apply (z : Mat) (s : Fin 2048) : rowSum z (ix2 s 0) = ∑ j : Fin 1024, z (ix2 s j) := by
  unfold rowSum
  pointwise
theorem spreadV_apply (v : Col) (s : Fin 2048) (j : Fin 1024) : spreadV v (ix2 s j) = v (ix2 s 0) := by
  unfold spreadV
  pointwise
  rw [Fin.sum_univ_one]
theorem colSum_apply (z : Mat) (j : Fin 1024) : colSum z (ix2 0 j) = ∑ s : Fin 2048, z (ix2 s j) := by
  unfold colSum
  pointwise
theorem colSumV_apply (z : Mat) (j : Fin 1024) : colSumV z (ix2 0 j) = ∑ s : Fin 2048, z (ix2 s j) := by
  unfold colSumV
  pointwise
theorem varH_apply (z : Mat) (s : Fin 2048) : varH z (ix2 s 0) = Ln.var (fun k => z (ix2 s k)) := by
  refine (congrArg₂ (· + · : EReal → EReal → EReal) (meanH_apply _ s) (column_apply _ s)).trans ?_
  unfold Ln.var
  simp only [← cenH_apply]
  rfl

section Norm
variable (z w : Mat) (s : Fin 2048)

theorem backH_apply : backH z w (ix2 s 0) = Ln.back (fun k => z (ix2 s k)) (fun k => w (ix2 s k)) := by
  unfold Ln.back
  rw [← rsdH_apply, ← varH_apply]
  simp only [← cenH_apply]
  unfold backH rowSum column
  generalize cenH z = y
  generalize varH z = v
  generalize rsdH z = a
  pointwise

theorem straightH_apply (j : Fin 1024) : straightH z w (ix2 s j) = w (ix2 s j) * Ln.rsd (fun k => z (ix2 s k)) :=
  congrArg (w (ix2 s j) * · : EReal → EReal) ((spread_apply _ s j).trans (rsdH_apply z s))

theorem squareH_apply (j : Fin 1024) : squareH z w (ix2 s j)
    = Ln.back (fun k => z (ix2 s k)) (fun k => w (ix2 s k)) * (Ideal.ofBits .f32 0x40000000#32 * Ln.cen (fun k => z (ix2 s k)) j) :=
  congrArg₂ (· * · : EReal → EReal → EReal) ((spreadV_apply _ s j).trans (backH_apply z w s))
    (congrArg₂ (· * · : EReal → EReal → EReal) (fill_apply _ s j) (cenH_apply z s j))

theorem restH_apply (u v : Mat) : restH u v (ix2 s 0)
    = Ideal.div ((∑ k : Fin 1024, -u (ix2 s k)) + ∑ k : Fin 1024, -v (ix2 s k)) (Ideal.ofBits .f32 0x44800000#32) := by
  unfold restH rowSum column
  pointwise

theorem gradH_apply (j : Fin 1024) : gradH z w (ix2 s j) = Ln.gradV (fun k => z (ix2 s k)) (fun k => w (ix2 s k)) j := by
  have e : gradH z w (ix2 s j) = straightH z w (ix2 s j) + squareH z w (ix2 s j) + spreadV (restH (straightH z w) (squareH z w)) (ix2 s j) := rfl
  rw [e, spreadV_apply, restH_apply]
  simp only [straightH_apply, squareH_apply]
  rfl

end Norm

/-! ## The reference's arrays -/

section Arrays
variable (a : Arr)

def w : Mat := mulf a.dy (down a.g)
def dz : Mat := gradH a.z (w a)
def dgl : Mat := mulf (mulf (dz a) a.up) (mulf a.sg (subf (fill 0x3F800000#32) a.sg))
def dx : Mat := addf (Host.dotGeneral dot_S2048x1024_S1024x1024_S2048x1024_1_1_0_0_n_n none (dgl a) a.wg) (mulf (fill 0x3FB504F3#32) (dz a))
def wf : Mat := mulf (dx a) (down a.gf)
def dzf : Mat := gradH a.zf (wf a)

theorem zf_eq : val_main_v3 (F := Ideal) a.x a.h = a.zf := rfl
theorem nrmf_eq : val_main_v27 (F := Ideal) a.x a.h = nrmH a.zf := rfl
theorem xf_eq : val_main_v31 (F := Ideal) a.x a.h a.gf a.bf = a.xf := rfl
theorem up_eq : val_main_v4 (F := Ideal) a.p a.wu = a.up := rfl
theorem sg_eq : val_main_v41 (F := Ideal) a.x a.h a.wg a.bg a.gf a.bf = a.sg := rfl
theorem z_eq : val_main_v46 (F := Ideal) a.x a.h a.p a.wu a.wg a.bg a.gf a.bf = a.z := rfl
theorem nrm_eq : val_main_v69 (F := Ideal) a.x a.h a.p a.wu a.wg a.bg a.gf a.bf = nrmH a.z := by
  rw [← z_eq]
  rfl
theorem dy_eq : val_main_v74 (F := Ideal) a.dy = a.dy := shapeCast_self _ _
theorem w_eq : val_main_v81 (F := Ideal) a.g a.dy = w a := by
  have e : val_main_v81 (F := Ideal) a.g a.dy = mulf (val_main_v74 (F := Ideal) a.dy) (down a.g) := rfl
  rw [e, dy_eq]
  rfl
theorem dz_eq : val_main_v105 (F := Ideal) a.x a.h a.p a.wu a.wg a.bg a.gf a.bf a.g a.dy = dz a := by
  unfold dz
  rw [← z_eq, ← w_eq]
  rfl
theorem dgl_eq : val_main_v108 (F := Ideal) a.x a.h a.p a.wu a.wg a.bg a.gf a.bf a.g a.dy = dgl a := by
  unfold dgl
  rw [← dz_eq, ← up_eq, ← sg_eq]
  rfl
theorem dup_eq : val_main_v106 (F := Ideal) a.x a.h a.p a.wu a.wg a.bg a.gf a.bf a.g a.dy = mulf a.sg (dz a) := by
  rw [← dz_eq, ← sg_eq]
  rfl
theorem dx_eq : val_main_v112 (F := Ideal) a.x a.h a.p a.wu a.wg a.bg a.gf a.bf a.g a.dy = dx a := by
  unfold dx
  rw [← dz_eq, ← dgl_eq]
  rfl
theorem wf_eq : val_main_v119 (F := Ideal) a.x a.h a.p a.wu a.wg a.bg a.gf a.bf a.g a.dy = wf a := by
  unfold wf
  rw [← dx_eq]
  rfl
theorem dzf_eq : val_main_v143 (F := Ideal) a.x a.h a.p a.wu a.wg a.bg a.gf a.bf a.g a.dy = dzf a := by
  unfold dzf
  rw [← zf_eq, ← wf_eq]
  rfl

end Arrays

/-! ## Element by element, on finite arguments -/

section Values
variable {a : Arr} (H : a.el.Finite) (s : Fin 2048) (j : Fin 1024)

theorem w_apply : w a (ix2 s j) = a.el.w s j := congrArg (a.dy (ix2 s j) * · : EReal → EReal) (down_apply _ s j)
theorem nrm_apply : nrmH a.z (ix2 s j) = Ln.nrm (a.el.z s) j := by
  rw [nrmH_apply]
  simp only [Arr.z_apply]
theorem nrmf_apply : nrmH a.zf (ix2 s j) = Ln.nrm (a.el.zf s) j := by
  rw [nrmH_apply]
  simp only [Arr.zf_apply]

include H

theorem dz_apply : dz a (ix2 s j) = a.el.dz s j := by
  refine (gradH_apply _ _ s j).trans ?_
  simp only [Arr.z_apply, w_apply]
  exact Args.dz_form H s j
theorem dgl_apply : dgl a (ix2 s j) = a.el.dgl s j := by
  refine (congrArg₂ (· * · : EReal → EReal → EReal) (congrArg₂ (· * · : EReal → EReal → EReal) (dz_apply H s j) (a.up_apply s j))
    (congrArg₂ (· * · : EReal → EReal → EReal) (a.sg_apply s j)
      (congrArg₂ (· - · : EReal → EReal → EReal) (fill_apply 0x3F800000#32 s j) (a.sg_apply s j)))).trans ?_
  unfold Args.dgl Args.usg
  simp only [mul_assoc]
theorem dup_apply : mulf a.sg (dz a) (ix2 s j) = a.el.dup s j :=
  (congrArg₂ (· * · : EReal → EReal → EReal) (a.sg_apply s j) (dz_apply H s j)).trans (mul_comm _ _)
theorem dx_apply : dx a (ix2 s j) = a.el.dx s j := by
  unfold Args.dx
  simp only [← dgl_apply H, ← dz_apply H]
  unfold dx fill
  generalize dgl a = u
  generalize dz a = v
  rw [add_comm]
  show _ = (∑ k : Fin 1024, u (ix2 s k) * a.wg (ix2 j k)) + _
  pointwise
theorem wf_apply : wf a (ix2 s j) = a.el.wf s j := congrArg₂ (· * · : EReal → EReal → EReal) (dx_apply H s j) (down_apply _ s j)
theorem dzf_apply : dzf a (ix2 s j) = a.el.dzf s j := by
  refine (gradH_apply _ _ s j).trans ?_
  simp only [Arr.zf_apply, wf_apply H]
  exact Args.dzf_form H s j

end Values

end Cert.Ple.Ref

end
-- ==== Proof.PleClaim.lean ====
/- Hand-written: THE VALUE CLAIM OF THE GATED EMBEDDING'S GRADIENT CALL: on finite arguments its nine results are the reference's. -/
module

public import proofs.«01_k».proof.Defs
public import proofs.«01_k».proof.Proof.PleKernel
public import proofs.«01_k».proof.Proof.PleRef
public import proofs.«01_k».proof.Proof.Gen.Pre_finite4
public import Idealize.ShloMosaic.Lib.Quiescent

@[expose] public section

set_option maxRecDepth 16384

noncomputable section

namespace Cert.Ple

open Idealize.ShloMosaic Idealize.ShloMosaic.TcCoe Idealize.SL.Sem Cert.Reals
open Idealize.ShloMosaic.Pointwise
open Cert.Kernel4Ideal

variable {m : (ℓ : Loc nD τ sig) → Buf (Elt Ideal) ℓ}

/-- The stated precondition, read: every argument but the second norm's shift is made of real numbers. -/
theorem args_finite (h : Cert.Pre_Kernel4Ideal_finite4 (hPre_finite4 := Cert.Pre_finite4.Gen.facts) m) (c : Dev nD) : (args m c).Finite := by
  obtain ⟨h0, h1, h2, h3, h4, h5, h6, h7, h8, h10⟩ := h c
  exact ⟨fun s j => isR_of_cmp (congrFun h0 (ix2 s j)), fun s j => isR_of_cmp (congrFun h1 (ix2 s j)), fun s j => isR_of_cmp (congrFun h2 (ix2 s j)),
    fun s j => isR_of_cmp (congrFun h3 (ix2 s j)), fun s j => isR_of_cmp (congrFun h4 (ix2 s j)), fun j => isR_of_cmp (congrFun h5 (ix2 0 j)),
    fun j => isR_of_cmp (congrFun h6 (ix2 0 j)), fun j => isR_of_cmp (congrFun h7 (ix2 0 j)), fun j => isR_of_cmp (congrFun h8 (ix2 0 j)),
    fun s j => isR_of_cmp (congrFun h10 (ix2 s j))⟩

/-- Two arrays of the step's shape that agree at every row and column, and two rows. -/
theorem mat_ext {f : FTy} {x y : FVec Ideal S2048x1024 f} (h : ∀ (s : Fin 2048) (j : Fin 1024), x (ix2 s j) = y (ix2 s j)) : x = y := by
  funext i
  rw [eq_ix2 i]
  exact h _ _
theorem row_ext {x y : Row} (h : ∀ j : Fin 1024, x (ix2 0 j) = y (ix2 0 j)) : x = y := by
  funext i
  obtain ⟨a, j, rfl⟩ : ∃ (a : Fin 1) (j : Fin 1024), i = ix2 a j := ⟨i 0, i 1, eq_ix2 i⟩
  obtain rfl : a = 0 := Subsingleton.elim _ _
  exact h j

section Results
variable (h : Cert.Pre_Kernel4Ideal_finite4 (hPre_finite4 := Cert.Pre_finite4.Gen.facts) m) (c : Dev nD)

/-! The reference's nine results of a device's arguments, as arrays. -/

theorem dbeta_eq : res13 m c = Ref.colSum (arr m c).dy :=
  row_ext fun j => (res13_apply m c j).trans (Ref.colSum_apply _ j).symm

include h

theorem dzf_eq : res8 m c = Ref.dzf (arr m c) :=
  mat_ext fun s j => (res8_apply m c j s).trans (Ref.dzf_apply (args_finite h c) s j).symm
theorem dzfb_eq : res9 m c = truncf .bf16 (Ref.dzf (arr m c)) Cert.Reference4Ideal.Gen.bitsLt_bf16_f32 :=
  mat_ext fun s j => (res9_apply m c j s).trans (Ref.dzf_apply (args_finite h c) s j).symm
theorem dgl_eq : res10 m c = truncf .bf16 (Ref.dgl (arr m c)) Cert.Reference4Ideal.Gen.bitsLt_bf16_f32 :=
  mat_ext fun s j => (res10_apply m c j s).trans (Ref.dgl_apply (args_finite h c) s j).symm
theorem dup_eq : res11 m c = truncf .bf16 (mulf (arr m c).sg (Ref.dz (arr m c))) Cert.Reference4Ideal.Gen.bitsLt_bf16_f32 :=
  mat_ext fun s j => (res11_apply m c j s).trans (Ref.dup_apply (args_finite h c) s j).symm
theorem dgain_eq : res12 m c = Ref.colSum (mulf (nrmH (arr m c).z) (arr m c).dy) :=
  row_ext fun j => (res12_apply m c j).trans (.trans (Finset.sum_congr rfl fun s _ =>
    (mul_comm _ _).trans (congrArg (· * (arr m c).dy (ix2 s j) : EReal → EReal) (Ref.nrm_apply s j).symm)) (Ref.colSum_apply (mulf (nrmH (arr m c).z) (arr m c).dy) j).symm)
theorem dgate_eq : res14 m c = Ref.colSumV (Ref.dgl (arr m c)) :=
  row_ext fun j => (res14_apply m c j).trans (.trans (Finset.sum_congr rfl fun s _ => (Ref.dgl_apply (args_finite h c) s j).symm) (Ref.colSumV_apply _ j).symm)
theorem dgainf_eq : res15 m c = Ref.colSum (mulf (nrmH (arr m c).zf) (Ref.dx (arr m c))) :=
  row_ext fun j => (res15_apply m c j).trans (.trans (Finset.sum_congr rfl fun s _ => (mul_comm _ _).trans
    (congrArg₂ (· * · : EReal → EReal → EReal) (Ref.nrmf_apply s j).symm (Ref.dx_apply (args_finite h c) s j).symm)) (Ref.colSum_apply (mulf (nrmH (arr m c).zf) (Ref.dx (arr m c))) j).symm)
theorem dbetaf_eq : res16 m c = Ref.colSum (Ref.dx (arr m c)) :=
  row_ext fun j => (res16_apply m c j).trans (.trans (Finset.sum_congr rfl fun s _ => (Ref.dx_apply (args_finite h c) s j).symm) (Ref.colSum_apply _ j).symm)

end Results

/-! ## The reference's results in the same words -/

namespace Ref
open Cert.Reference4Ideal.Read
variable (a : Arr)

theorem r1 : val_main_v144 (F := Ideal) a.x a.h a.p a.wu a.wg a.bg a.gf a.bf a.g a.dy = truncf .bf16 (dzf a) Cert.Reference4Ideal.Gen.bitsLt_bf16_f32 := by
  rw [← dzf_eq]
  rfl
theorem r2 : val_main_v145 (F := Ideal) a.x a.h a.p a.wu a.wg a.bg a.gf a.bf a.g a.dy = truncf .bf16 (dgl a) Cert.Reference4Ideal.Gen.bitsLt_bf16_f32 := by
  rw [← dgl_eq]
  rfl
theorem r3 : val_main_v146 (F := Ideal) a.x a.h a.p a.wu a.wg a.bg a.gf a.bf a.g a.dy = truncf .bf16 (mulf a.sg (dz a)) Cert.Reference4Ideal.Gen.bitsLt_bf16_f32 := by
  rw [← dup_eq]
  rfl
theorem r4 : val_main_v79 (F := Ideal) a.x a.h a.p a.wu a.wg a.bg a.gf a.bf a.dy = colSum (mulf (nrmH a.z) a.dy) := by
  have e : val_main_v79 (F := Ideal) a.x a.h a.p a.wu a.wg a.bg a.gf a.bf a.dy = colSum (mulf (val_main_v69 (F := Ideal) a.x a.h a.p a.wu a.wg a.bg a.gf a.bf)
    (val_main_v74 (F := Ideal) a.dy)) := rfl
  rw [e, nrm_eq, dy_eq]
theorem r5 : val_main_v76 (F := Ideal) a.dy = colSum a.dy := rfl
theorem r6 : val_main_v148 (F := Ideal) a.x a.h a.p a.wu a.wg a.bg a.gf a.bf a.g a.dy = colSumV (dgl a) := by
  rw [← dgl_eq]
  rfl
theorem r7 : val_main_v117 (F := Ideal) a.x a.h a.p a.wu a.wg a.bg a.gf a.bf a.g a.dy = colSum (mulf (nrmH a.zf) (dx a)) := by
  rw [← dx_eq, ← nrmf_eq]
  rfl
theorem r8 : val_main_v114 (F := Ideal) a.x a.h a.p a.wu a.wg a.bg a.gf a.bf a.g a.dy = colSum (dx a) := by
  rw [← dx_eq]
  rfl

end Ref

/-- The reference leaves its arguments and, having no semaphore, no counter. -/
theorem ref_frame : Cert.quiescent_Reference4Ideal (hReference4Ideal := Cert.Reference4Ideal.Gen.facts) := fun m g _ =>
  (θ_run Cert.Reference4Ideal.defs _ _).mono (fun r h => And.intro (fun c => (h c).2.2.2.2.2.2.2.2.2) (sem_eq_zero_of_no_sems rfl r.2)) (Cert.Reference4Ideal.Value.run m g)

theorem algebraic : Cert.algebraic_Kernel4Ideal_Reference4Ideal_pre_finite4 (hKernel4Ideal := Cert.Kernel4Ideal.Gen.facts)
    (hReference4Ideal := Cert.Reference4Ideal.Gen.facts) (hPre_finite4 := Cert.Pre_finite4.Gen.facts) := by
  intro m g m' g' hpre hargs
  refine ⟨fun c => res8 m c, fun c => res9 m c, fun c => res10 m c, fun c => res11 m c, fun c => res12 m c, fun c => res13 m c, fun c => res14 m c,
    fun c => res15 m c, fun c => res16 m c, Cert.Kernel4Ideal.Value.run_blocks m g, ?_⟩
  refine (θ_run Cert.Reference4Ideal.defs _ _).mono (fun r h c => ?_) (Cert.Reference4Ideal.Value.run m' g')
  obtain ⟨r0, r1, r2, r3, r4, r5, r6, r7, r8, hk⟩ := h c
  obtain ⟨a0, a1, a2, a3, a4, a5, a6, a7, a8, a9, a10⟩ := hargs c
  have e0 : StableHlo.launchContents m' c (Proc.devRef .tc Cert.Reference4Ideal.main_arg0) = (arr m c).x := a0
  have e1 : StableHlo.launchContents m' c (Proc.devRef .tc Cert.Reference4Ideal.main_arg1) = (arr m c).h := a1
  have e2 : StableHlo.launchContents m' c (Proc.devRef .tc Cert.Reference4Ideal.main_arg2) = (arr m c).p := a2
  have e3 : StableHlo.launchContents m' c (Proc.devRef .tc Cert.Reference4Ideal.main_arg3) = (arr m c).wu := a3
  have e4 : StableHlo.launchContents m' c (Proc.devRef .tc Cert.Reference4Ideal.main_arg4) = (arr m c).wg := a4
  have e5 : StableHlo.launchContents m' c (Proc.devRef .tc Cert.Reference4Ideal.main_arg5) = (arr m c).bg := a5
  have e6 : StableHlo.launchContents m' c (Proc.devRef .tc Cert.Reference4Ideal.main_arg6) = (arr m c).gf := a6
  have e7 : StableHlo.launchContents m' c (Proc.devRef .tc Cert.Reference4Ideal.main_arg7) = (arr m c).bf := a7
  have e8 : StableHlo.launchContents m' c (Proc.devRef .tc Cert.Reference4Ideal.main_arg8) = (arr m c).g := a8
  have e10 : StableHlo.launchContents m' c (Proc.devRef .tc Cert.Reference4Ideal.main_arg10) = (arr m c).dy := a10
  refine ⟨?_, ?_, ?_, ?_, ?_, ?_, ?_, ?_, ?_, hk⟩
  · rw [r0, Cert.Reference4Ideal.Read.val_main_v143_eq, e0, e1, e2, e3, e4, e5, e6, e7, e8, e10]
    exact (Ref.dzf_eq (arr m c)).trans (dzf_eq hpre c).symm
  · rw [r1, Cert.Reference4Ideal.Read.val_main_v144_eq, e0, e1, e2, e3, e4, e5, e6, e7, e8, e10]
    exact (Ref.r1 (arr m c)).trans (dzfb_eq hpre c).symm
  · rw [r2, Cert.Reference4Ideal.Read.val_main_v145_eq, e0, e1, e2, e3, e4, e5, e6, e7, e8, e10]
    exact (Ref.r2 (arr m c)).trans (dgl_eq hpre c).symm
  · rw [r3, Cert.Reference4Ideal.Read.val_main_v146_eq, e0, e1, e2, e3, e4, e5, e6, e7, e8, e10]
    exact (Ref.r3 (arr m c)).trans (dup_eq hpre c).symm
  · rw [r4, Cert.Reference4Ideal.Read.val_main_v79_eq, e0, e1, e2, e3, e4, e5, e6, e7, e10]
    exact (Ref.r4 (arr m c)).trans (dgain_eq hpre c).symm
  · refine r5.trans ((Cert.Reference4Ideal.Read.val_main_v76_eq _).trans ?_)
    rw [e10]
    exact (Ref.r5 (arr m c)).trans (dbeta_eq c).symm
  · rw [r6, Cert.Reference4Ideal.Read.val_main_v148_eq, e0, e1, e2, e3, e4, e5, e6, e7, e8, e10]
    exact (Ref.r6 (arr m c)).trans (dgate_eq hpre c).symm
  · rw [r7, Cert.Reference4Ideal.Read.val_main_v117_eq, e0, e1, e2, e3, e4, e5, e6, e7, e8, e10]
    exact (Ref.r7 (arr m c)).trans (dgainf_eq hpre c).symm
  · rw [r8, Cert.Reference4Ideal.Read.val_main_v114_eq, e0, e1, e2, e3, e4, e5, e6, e7, e8, e10]
    exact (Ref.r8 (arr m c)).trans (dbetaf_eq hpre c).symm

end Cert.Ple

end
-- ==== Proof.LnRows.lean ====
/- Hand-written: A NORM OF A BLOCK'S ROWS as the forward calls' bodies write it: 512 rows, their mean, their spread, the gain
   and the shift. -/
module

public import proofs.«01_k».proof.Proof.LnSpec
public import proofs.«01_k».proof.Proof.Gen.Kernel6Ideal.Skeleton
public import Idealize.ShloMosaic.Lib.Pointwise

@[expose] public section

set_option maxRecDepth 16384

noncomputable section

namespace Cert.LnRows

open Idealize.ShloMosaic Idealize.ShloMosaic.TcCoe Idealize.SL.Sem
open Idealize.ShloMosaic.Pointwise
open Cert.Kernel6Ideal Cert.Kernel6Ideal.Gen

/-- The rows of a block, a value for each, and a row of the model's width. -/
abbrev Rows := FVec Ideal S512x1024 .f32
abbrev Each := FVec Ideal S512x1 .f32
abbrev Wide := FVec Ideal S1x1024 .f32

def mean (z : Rows) : Each :=
  divf (shapeCast S512x1 (multiReduction .add [1] S512 z 0x00000000#32 reduces_S512x1024_S512 (.inl rfl) rfl) shapeCasts_S512_S512x1)
    (broadcast S512x1 (Scalar.ofBits .f32 0x44800000#32))
def along (v : Each) : Rows := broadcastTo S512x1024 v broadcasts_S512x1_S512x1024
def below (v : Wide) : Rows := broadcastTo S512x1024 v broadcasts_S1x1024_S512x1024
def cen (z : Rows) : Rows := subf z (along (mean z))
def rsd (z : Rows) : Each := rsqrt (addf (mean (mulf (cen z) (cen z))) (broadcast S512x1 (Scalar.ofBits .f32 0x3727C5AC#32)))
/-- The norm. -/
def norm (z : Rows) (g b : Wide) : Rows := addf (mulf (mulf (cen z) (along (rsd z))) (below g)) (below b)

variable (z : Rows) (g b : Wide) (r : Fin 512) (j : Fin 1024)

theorem mean_apply : mean z (ix2 r 0) = Ln.mean (fun k => z (ix2 r k)) := by
  unfold mean Ln.mean
  pointwise
theorem along_apply (v : Each) : along v (ix2 r j) = v (ix2 r 0) := by
  unfold along
  pointwise
theorem below_apply : below g (ix2 r j) = g (ix2 0 j) := by
  unfold below
  pointwise
theorem cen_apply : cen z (ix2 r j) = Ln.cen (fun k => z (ix2 r k)) j :=
  congrArg (z (ix2 r j) - ·) ((along_apply r j _).trans (mean_apply z r))
theorem rsd_apply : rsd z (ix2 r 0) = Ln.rsd (fun k => z (ix2 r k)) := by
  have e := mean_apply (mulf (cen z) (cen z)) r
  unfold rsd Ln.rsd
  generalize mean (mulf (cen z) (cen z)) = v at e
  have e' : v (ix2 r 0) + Ideal.ofBits .f32 0x3727C5AC#32 = Ln.var (fun k => z (ix2 r k)) := by
    rw [e]
    unfold Ln.var
    simp only [← cen_apply]
    rfl
  rw [← e']
  rfl
theorem norm_apply : norm z g b (ix2 r j) = Ln.nrm (fun k => z (ix2 r k)) j * g (ix2 0 j) + b (ix2 0 j) :=
  congrArg₂ (· + · : EReal → EReal → EReal) (congrArg₂ (· * · : EReal → EReal → EReal)
    (congrArg₂ (· * · : EReal → EReal → EReal) (cen_apply z r j) ((along_apply r j _).trans (rsd_apply z r))) (below_apply g r j)) (below_apply b r j)

/-- Row `r` of row block `i`. -/
def row (i : Fin 4) (r : Fin 512) : Fin 2048 := ⟨i.val * 512 + r.val, by omega⟩
theorem row_div (s : Fin 2048) : row ⟨s.val / 512, by omega⟩ ⟨s.val % 512, by omega⟩ = s := by
  apply Fin.ext; show s.val / 512 * 512 + s.val % 512 = s.val; omega

theorem hz2 : (![0, 0] : Fin 2 → Nat) = fun _ => 0 := by decide
theorem hz3 : (![0, 0, 0] : Fin 3 → Nat) = fun _ => 0 := by decide

end Cert.LnRows

end
-- ==== Proof.MlnKernel.lean ====
/- Hand-written: THE MIXER OUTPUT'S FORWARD CALL: its operands, one point's rows, and the three arrays it leaves. -/
module

public import proofs.«01_k».proof.Proof.LnRows
public import proofs.«01_k».proof.Proof.Gen.Kernel6Ideal.Value

@[expose] public section

set_option maxRecDepth 16384

noncomputable section

namespace Cert.Mln

open Idealize.ShloMosaic Idealize.ShloMosaic.TcCoe Idealize.SL.Sem
open Idealize.ShloMosaic.Pointwise
open Cert.Kernel6Ideal Cert.Kernel6Ideal.Gen Cert.LnRows

/-- The arguments as arrays: the residual stream, the mixer's output, its matrix and bias, the norm's gain and shift. -/
structure Arr where
  x : FVec Ideal S2048x1024 .f32
  u : FVec Ideal S2048x1024 .f32
  w : FVec Ideal S1024x1024 .f32
  b : FVec Ideal S1x1024 .f32
  g : FVec Ideal S1x1024 .f32
  s : FVec Ideal S1x1024 .f32

/-- The residual sum and its norm, element by element. -/
def Arr.zE (a : Arr) (s : Fin 2048) (j : Fin 1024) : EReal :=
  Ideal.ofBits .f32 0x3FB504F3#32 * a.x (ix2 s j) + ((∑ k : Fin 1024, a.u (ix2 s k) * a.w (ix2 k j)) + a.b (ix2 0 j))
def Arr.yE (a : Arr) (s : Fin 2048) (j : Fin 1024) : EReal := Ln.nrm (a.zE s) j * a.g (ix2 0 j) + a.s (ix2 0 j)

/-! ## One point -/

theorem sum_apply (b : Vec Ideal S1x1024 .f32) (u : Vec Ideal S1x512x1024 .bf16) (w : Vec Ideal S1x1024x1024 .bf16) (x : Vec Ideal S512x1024 .f32)
    (r : Fin 512) (j : Fin 1024) : k0_pay2 (F := Ideal) b u w x (ix2 r j)
      = Ideal.ofBits .f32 0x3FB504F3#32 * x (ix2 r j) + (b (ix2 0 j) + ∑ k : Fin 1024, u (ix3 0 r k) * w (ix3 0 k j)) := by
  unfold k0_pay2
  pointwise

theorem norm_eq (b : Vec Ideal S1x1024 .f32) (u : Vec Ideal S1x512x1024 .bf16) (w : Vec Ideal S1x1024x1024 .bf16) (x : Vec Ideal S512x1024 .f32)
    (g s : Vec Ideal S1x1024 .f32) : k0_pay3 (F := Ideal) b u w x g s = norm (k0_pay2 (F := Ideal) b u w x) g s := rfl

/-! ## The operands -/

variable (m : (ℓ : Loc nD τ sig) → Buf (Elt Ideal) ℓ)

def arr (c : Dev nD) : Arr := ⟨m (c.tc.loc main_arg0), m (c.tc.loc main_arg1), m (c.tc.loc main_arg2), m (c.tc.loc main_arg3),
  m (c.tc.loc main_arg4), m (c.tc.loc main_arg5)⟩

theorem h_x (c : Dev nD) : (V m c main_arg0 : Vec Ideal S2048x1024 .f32) = (arr m c).x := by
  unfold V
  after_results
  rfl
theorem h_b (c : Dev nD) : (V m c main_arg3 : Vec Ideal S1x1024 .f32) = (arr m c).b := by
  unfold V
  after_results
  rfl
theorem h_g (c : Dev nD) : (V m c main_arg4 : Vec Ideal S1x1024 .f32) = (arr m c).g := by
  unfold V
  after_results
  rfl
theorem h_s (c : Dev nD) : (V m c main_arg5 : Vec Ideal S1x1024 .f32) = (arr m c).s := by
  unfold V
  after_results
  rfl
theorem h_u (c : Dev nD) (s : Fin 2048) (k : Fin 1024) : (V m c main_v1 : FVec Ideal S1x2048x1024 .bf16) (ix3 0 s k) = (arr m c).u (ix2 s k) := by
  have e : (V m c main_v1 : FVec Ideal S1x2048x1024 .bf16)
      = broadcastInDim S1x2048x1024 ![1, 2] bcast_S2048x1024_S1x2048x1024_1_2 (truncf .bf16 (arr m c).u bitsLt_bf16_f32) := by
    unfold V
    after_results
    rfl
  rw [e]
  generalize (arr m c).u = u
  pointwise
theorem h_w (c : Dev nD) (k j : Fin 1024) : (V m c main_v3 : FVec Ideal S1x1024x1024 .bf16) (ix3 0 k j) = (arr m c).w (ix2 k j) := by
  have e : (V m c main_v3 : FVec Ideal S1x1024x1024 .bf16)
      = broadcastInDim S1x1024x1024 ![1, 2] bcast_S1024x1024_S1x1024x1024_1_2 (truncf .bf16 (arr m c).w bitsLt_bf16_f32) := by
    unfold V
    after_results
    rfl
  rw [e]
  generalize (arr m c).w = w
  pointwise

/-! ## Blocks -/

/-- The grid's point for row block `i`. -/
def pt (i : Fin 4) : Fin cfg0.N := ⟨i.val, by rw [show cfg0.N = 4 from N_0]; omega⟩

theorem idx_facts : ∀ i : Fin 4, (win0_0.index (pt i) 0 = 0 ∧ win0_0.index (pt i) 1 = i.val ∧ win0_0.index (pt i) 2 = 0)
    ∧ (win0_1.index (pt i) 0 = 0 ∧ win0_1.index (pt i) 1 = 0 ∧ win0_1.index (pt i) 2 = 0)
    ∧ (win0_2.index (pt i) 0 = 0 ∧ win0_2.index (pt i) 1 = 0) ∧ (win0_3.index (pt i) 0 = i.val ∧ win0_3.index (pt i) 1 = 0)
    ∧ (win0_4.index (pt i) 0 = 0 ∧ win0_4.index (pt i) 1 = 0) ∧ (win0_5.index (pt i) 0 = 0 ∧ win0_5.index (pt i) 1 = 0)
    ∧ (win0_6.index (pt i) 0 = i.val ∧ win0_6.index (pt i) 1 = 0) ∧ (win0_7.index (pt i) 0 = i.val ∧ win0_7.index (pt i) 1 = 0)
    ∧ (win0_8.index (pt i) 0 = i.val ∧ win0_8.index (pt i) 1 = 0) := by
  decide +kernel

theorem u_apply (c : Dev nD) (i : Fin 4) (r : Fin 512) (k : Fin 1024) :
    (iblk m c 0 (pt i) : Vec Ideal S1x512x1024 .bf16) (ix3 0 r k) = (arr m c).u (ix2 (row i r) k) := by
  obtain ⟨⟨e0, e1, e2⟩, -⟩ := idx_facts i
  rw [← h_u]
  unfold iblk
  rw [View.read_apply]
  show V m c main_v1 _ = V m c main_v1 _
  congr 1
  funext a; apply Fin.ext
  match a with
  | ⟨0, _⟩ => show win0_0.index (pt i) 0 * 1 + 1 * 0 = 0; rw [e0]
  | ⟨1, _⟩ => show win0_0.index (pt i) 1 * 512 + 1 * r.val = i.val * 512 + r.val; rw [e1]; omega
  | ⟨2, _⟩ => show win0_0.index (pt i) 2 * 1024 + 1 * k.val = k.val; rw [e2]; omega

theorem w_apply (c : Dev nD) (i : Fin 4) (k j : Fin 1024) :
    (iblk m c 1 (pt i) : Vec Ideal S1x1024x1024 .bf16) (ix3 0 k j) = (arr m c).w (ix2 k j) := by
  obtain ⟨-, ⟨e0, e1, e2⟩, -⟩ := idx_facts i
  rw [← h_w]
  unfold iblk
  rw [View.read_apply]
  show V m c main_v3 _ = V m c main_v3 _
  congr 1
  funext a; apply Fin.ext
  match a with
  | ⟨0, _⟩ => show win0_1.index (pt i) 0 * 1 + 1 * 0 = 0; rw [e0]
  | ⟨1, _⟩ => show win0_1.index (pt i) 1 * 1024 + 1 * k.val = k.val; rw [e1]; omega
  | ⟨2, _⟩ => show win0_1.index (pt i) 2 * 1024 + 1 * j.val = j.val; rw [e2]; omega

theorem x_apply (c : Dev nD) (i : Fin 4) (r : Fin 512) (k : Fin 1024) :
    (iblk m c 3 (pt i) : Vec Ideal S512x1024 .f32) (ix2 r k) = (arr m c).x (ix2 (row i r) k) := by
  obtain ⟨-, -, -, ⟨e0, e1⟩, -⟩ := idx_facts i
  rw [← h_x]
  unfold iblk
  rw [View.read_apply]
  show V m c main_arg0 _ = V m c main_arg0 _
  congr 1
  funext a; apply Fin.ext
  match a with
  | ⟨0, _⟩ => show win0_3.index (pt i) 0 * 512 + 1 * r.val = i.val * 512 + r.val; rw [e0]; omega
  | ⟨1, _⟩ => show win0_3.index (pt i) 1 * 1024 + 1 * k.val = k.val; rw [e1]; omega

/-- The bias, the gain and the shift are at every point the whole rows. -/
theorem b_eq (c : Dev nD) (i : Fin 4) (k : Fin 1024) : (iblk m c 2 (pt i) : Vec Ideal S1x1024 .f32) (ix2 0 k) = (arr m c).b (ix2 0 k) := by
  obtain ⟨-, -, ⟨e0, e1⟩, -⟩ := idx_facts i
  rw [← h_b]
  unfold iblk
  rw [View.read_apply]
  show V m c main_arg3 _ = V m c main_arg3 _
  congr 1
  funext a; apply Fin.ext
  match a with
  | ⟨0, _⟩ => show win0_2.index (pt i) 0 * 1 + 1 * 0 = 0; rw [e0]
  | ⟨1, _⟩ => show win0_2.index (pt i) 1 * 1024 + 1 * k.val = k.val; rw [e1]; omega
theorem g_eq (c : Dev nD) (i : Fin 4) (k : Fin 1024) : (iblk m c 4 (pt i) : Vec Ideal S1x1024 .f32) (ix2 0 k) = (arr m c).g (ix2 0 k) := by
  obtain ⟨-, -, -, -, ⟨e0, e1⟩, -⟩ := idx_facts i
  rw [← h_g]
  unfold iblk
  rw [View.read_apply]
  show V m c main_arg4 _ = V m c main_arg4 _
  congr 1
  funext a; apply Fin.ext
  match a with
  | ⟨0, _⟩ => show win0_4.index (pt i) 0 * 1 + 1 * 0 = 0; rw [e0]
  | ⟨1, _⟩ => show win0_4.index (pt i) 1 * 1024 + 1 * k.val = k.val; rw [e1]; omega
theorem s_eq (c : Dev nD) (i : Fin 4) (k : Fin 1024) : (iblk m c 5 (pt i) : Vec Ideal S1x1024 .f32) (ix2 0 k) = (arr m c).s (ix2 0 k) := by
  obtain ⟨-, -, -, -, -, ⟨e0, e1⟩, -⟩ := idx_facts i
  rw [← h_s]
  unfold iblk
  rw [View.read_apply]
  show V m c main_arg5 _ = V m c main_arg5 _
  congr 1
  funext a; apply Fin.ext
  match a with
  | ⟨0, _⟩ => show win0_5.index (pt i) 0 * 1 + 1 * 0 = 0; rw [e0]
  | ⟨1, _⟩ => show win0_5.index (pt i) 1 * 1024 + 1 * k.val = k.val; rw [e1]; omega

/-! ## A point's rows -/

abbrev zAt (c : Dev nD) (t : Fin cfg0.N) : FVec Ideal S512x1024 .f32 := k0_pay2 (F := Ideal) (iblk m c 2 t) (iblk m c 0 t) (iblk m c 1 t) (iblk m c 3 t)
abbrev yAt (c : Dev nD) (t : Fin cfg0.N) : FVec Ideal S512x1024 .f32 := norm (zAt m c t) (iblk m c 4 t) (iblk m c 5 t)

theorem zAt_apply (c : Dev nD) (i : Fin 4) (r : Fin 512) (j : Fin 1024) : zAt m c (pt i) (ix2 r j) = (arr m c).zE (row i r) j := by
  refine (sum_apply _ _ _ _ r j).trans ?_
  simp only [x_apply, b_eq, u_apply, w_apply]
  unfold Arr.zE
  rw [add_comm ((arr m c).b (ix2 0 j))]
theorem yAt_apply (c : Dev nD) (i : Fin 4) (r : Fin 512) (j : Fin 1024) : yAt m c (pt i) (ix2 r j) = (arr m c).yE (row i r) j := by
  refine (norm_apply _ _ _ r j).trans ?_
  simp only [zAt_apply, g_eq, s_eq]
  rfl

theorem left_z (c : Dev nD) (t : Fin cfg0.N) :
    out0_6 (iblk m c 0 t) (iblk m c 1 t) (iblk m c 2 t) (iblk m c 3 t) (iblk m c 4 t) (iblk m c 5 t) = zAt m c t := by
  unfold out0_6
  rw [View.canon_unit_zero hz2]
  simp only [View.ld_unit_zero (S := S512x1024) hz2, View.ld_unit_zero (S := S1x1024) hz2, View.ld_unit_zero (S := S1x512x1024) hz3,
    View.ld_unit_zero (S := S1x1024x1024) hz3]
theorem held_y (c : Dev nD) (t : Fin cfg0.N) :
    k0_pay4 (F := Ideal) (iblk m c 0 t) (iblk m c 1 t) (iblk m c 2 t) (iblk m c 3 t) (iblk m c 4 t) (iblk m c 5 t) = yAt m c t := by
  unfold k0_pay4
  rw [norm_eq]
  simp only [View.ld_unit_zero (S := S512x1024) hz2, View.ld_unit_zero (S := S1x1024) hz2, View.ld_unit_zero (S := S1x512x1024) hz3,
    View.ld_unit_zero (S := S1x1024x1024) hz3]
theorem left_y (c : Dev nD) (t : Fin cfg0.N) :
    out0_7 (iblk m c 0 t) (iblk m c 1 t) (iblk m c 2 t) (iblk m c 3 t) (iblk m c 4 t) (iblk m c 5 t) = yAt m c t := by
  unfold out0_7
  rw [View.canon_unit_zero hz2, held_y]
theorem left_yb (c : Dev nD) (t : Fin cfg0.N) :
    out0_8 (iblk m c 0 t) (iblk m c 1 t) (iblk m c 2 t) (iblk m c 3 t) (iblk m c 4 t) (iblk m c 5 t) = k0_pay1 (F := Ideal) (yAt m c t) := by
  unfold out0_8
  rw [View.canon_unit_zero hz2, held_y]

/-! ## The three result arrays -/

abbrev res6 (c : Dev nD) : FVec Ideal S2048x1024 .f32 := (dats m 0 c).arrAt 6 cfg0.N
abbrev res7 (c : Dev nD) : FVec Ideal S2048x1024 .f32 := (dats m 0 c).arrAt 7 cfg0.N
abbrev res8 (c : Dev nD) : FVec Ideal S2048x1024 .bf16 := (dats m 0 c).arrAt 8 cfg0.N

theorem emb6 (i : Fin 4) (r : Fin 512) (j : Fin 1024) : ((cfg0.win 6).blk (pt i)).view.emb (ix2 r j) = ix2 (row i r) j := by
  obtain ⟨-, -, -, -, -, -, ⟨e0, e1⟩, -⟩ := idx_facts i
  funext b; apply Fin.ext
  match b with
  | ⟨0, _⟩ => show win0_6.index (pt i) 0 * 512 + 1 * r.val = i.val * 512 + r.val; rw [e0]; omega
  | ⟨1, _⟩ => show win0_6.index (pt i) 1 * 1024 + 1 * j.val = j.val; rw [e1]; omega
theorem emb7 (i : Fin 4) (r : Fin 512) (j : Fin 1024) : ((cfg0.win 7).blk (pt i)).view.emb (ix2 r j) = ix2 (row i r) j := by
  obtain ⟨-, -, -, -, -, -, -, ⟨e0, e1⟩, -⟩ := idx_facts i
  funext b; apply Fin.ext
  match b with
  | ⟨0, _⟩ => show win0_7.index (pt i) 0 * 512 + 1 * r.val = i.val * 512 + r.val; rw [e0]; omega
  | ⟨1, _⟩ => show win0_7.index (pt i) 1 * 1024 + 1 * j.val = j.val; rw [e1]; omega
theorem emb8 (i : Fin 4) (r : Fin 512) (j : Fin 1024) : ((cfg0.win 8).blk (pt i)).view.emb (ix2 r j) = ix2 (row i r) j := by
  obtain ⟨-, -, -, -, -, -, -, -, e0, e1⟩ := idx_facts i
  funext b; apply Fin.ext
  match b with
  | ⟨0, _⟩ => show win0_8.index (pt i) 0 * 512 + 1 * r.val = i.val * 512 + r.val; rw [e0]; omega
  | ⟨1, _⟩ => show win0_8.index (pt i) 1 * 1024 + 1 * j.val = j.val; rw [e1]; omega

theorem res6_apply (c : Dev nD) (s : Fin 2048) (j : Fin 1024) : res6 m c (ix2 s j) = (arr m c).zE s j := by
  rw [← row_div s]
  generalize (⟨s.val / 512, _⟩ : Fin 4) = i
  generalize (⟨s.val % 512, _⟩ : Fin 512) = r
  have b := congrFun (Value.blocks6 m c (pt i) (flush0_6 _)) (ix2 r j)
  rw [Value.flushed6] at b
  have b' : res6 m c (((cfg0.win 6).blk (pt i)).view.emb (ix2 r j)) = _ := b
  rw [emb6] at b'
  exact b'.trans ((congrFun (left_z m c (pt i)) _).trans (zAt_apply m c i r j))
theorem res7_apply (c : Dev nD) (s : Fin 2048) (j : Fin 1024) : res7 m c (ix2 s j) = (arr m c).yE s j := by
  rw [← row_div s]
  generalize (⟨s.val / 512, _⟩ : Fin 4) = i
  generalize (⟨s.val % 512, _⟩ : Fin 512) = r
  have b := congrFun (Value.blocks7 m c (pt i) (flush0_7 _)) (ix2 r j)
  rw [Value.flushed7] at b
  have b' : res7 m c (((cfg0.win 7).blk (pt i)).view.emb (ix2 r j)) = _ := b
  rw [emb7] at b'
  exact b'.trans ((congrFun (left_y m c (pt i)) _).trans (yAt_apply m c i r j))
theorem res8_apply (c : Dev nD) (s : Fin 2048) (j : Fin 1024) : res8 m c (ix2 s j) = (arr m c).yE s j := by
  rw [← row_div s]
  generalize (⟨s.val / 512, _⟩ : Fin 4) = i
  generalize (⟨s.val % 512, _⟩ : Fin 512) = r
  have b := congrFun (Value.blocks8 m c (pt i) (flush0_8 _)) (ix2 r j)
  rw [Value.flushed8] at b
  have b' : res8 m c (((cfg0.win 8).blk (pt i)).view.emb (ix2 r j)) = _ := b
  rw [emb8] at b'
  exact b'.trans ((congrFun (left_yb m c (pt i)) _).trans (yAt_apply m c i r j))

end Cert.Mln

end
-- ==== Proof.MlnClaim.lean ====
/- Hand-written: THE VALUE CLAIM OF THE MIXER OUTPUT'S FORWARD CALL: its residual sum and norm are the reference's, on all arguments. -/
module

public import proofs.«01_k».proof.Defs
public import proofs.«01_k».proof.Proof.MlnKernel
public import proofs.«01_k».proof.Proof.PleHost
public import proofs.«01_k».proof.Proof.Gen.Reference6Ideal.Read
public import Idealize.ShloMosaic.Lib.Quiescent

@[expose] public section

set_option maxRecDepth 16384

noncomputable section

namespace Cert.Mln

open Idealize.ShloMosaic Idealize.ShloMosaic.TcCoe Idealize.SL.Sem
open Idealize.ShloMosaic.Pointwise
open Cert.Ple (Mat Row mixH affH nrmH down down_apply mixH_apply affH_apply nrmH_apply)

/-- Two arrays of the step's shape that agree at every row and column. -/
theorem mat_ext {f : FTy} {x y : FVec Ideal Cert.Kernel6Ideal.S2048x1024 f} (h : ∀ (s : Fin 2048) (j : Fin 1024), x (ix2 s j) = y (ix2 s j)) : x = y := by
  funext i
  rw [eq_ix2 i]
  exact h _ _

/-! ## The reference's arrays -/

section Reference
open Cert.Reference6Ideal Cert.Reference6Ideal.Gen Cert.Reference6Ideal.Read
variable (a : Arr)

def linH (u : Mat) (w : FVec Ideal S1024x1024 .f32) (b : Row) : Mat :=
  addf (Host.dotGeneral dot_S2048x1024_S1024x1024_S2048x1024_1_0_0_1_n_n none u w) (down b)
theorem linH_apply (u : Mat) (w : FVec Ideal S1024x1024 .f32) (b : Row) (s : Fin 2048) (j : Fin 1024) :
    linH u w b (ix2 s j) = (∑ k : Fin 1024, u (ix2 s k) * w (ix2 k j)) + b (ix2 0 j) := by
  rw [← down_apply b s j]
  unfold linH
  generalize down b = v
  pointwise
def zR : Mat := mixH a.x (linH a.u a.w a.b)
def yR : Mat := affH (nrmH (zR a)) a.g a.s

theorem zR_apply (s : Fin 2048) (j : Fin 1024) : zR a (ix2 s j) = a.zE s j :=
  (mixH_apply _ _ s j).trans (congrArg (Ideal.ofBits .f32 0x3FB504F3#32 * a.x (ix2 s j) + · : EReal → EReal) (linH_apply _ _ _ s j))
theorem yR_apply (s : Fin 2048) (j : Fin 1024) : yR a (ix2 s j) = a.yE s j := by
  refine (affH_apply _ _ _ s j).trans ?_
  rw [nrmH_apply]
  simp only [zR_apply]
  rfl

theorem z_eq : val_main_v5 (F := Ideal) a.x a.u a.w a.b = zR a := rfl
theorem y_eq : val_main_v27 (F := Ideal) a.x a.u a.w a.b a.g a.s = yR a := by
  unfold yR
  rw [← z_eq]
  rfl
theorem yb_eq : val_main_v28 (F := Ideal) a.x a.u a.w a.b a.g a.s = truncf .bf16 (yR a) bitsLt_bf16_f32 := by
  rw [← y_eq]
  rfl

end Reference

/-- The reference leaves its arguments and, having no semaphore, no counter. -/
theorem ref_frame : Cert.quiescent_Reference6Ideal (hReference6Ideal := Cert.Reference6Ideal.Gen.facts) := fun m g _ =>
  (θ_run Cert.Reference6Ideal.defs _ _).mono (fun r h => And.intro (fun c => (h c).2.2.2) (sem_eq_zero_of_no_sems rfl r.2)) (Cert.Reference6Ideal.Value.run m g)

theorem algebraic : Cert.algebraic_Kernel6Ideal_Reference6Ideal (hKernel6Ideal := Cert.Kernel6Ideal.Gen.facts)
    (hReference6Ideal := Cert.Reference6Ideal.Gen.facts) := by
  intro m g m' g' _ hargs
  refine ⟨fun c => res6 m c, fun c => res7 m c, fun c => res8 m c, Cert.Kernel6Ideal.Value.run_blocks m g, ?_⟩
  refine (θ_run Cert.Reference6Ideal.defs _ _).mono (fun r h c => ?_) (Cert.Reference6Ideal.Value.run m' g')
  obtain ⟨r0, r1, r2, hk⟩ := h c
  obtain ⟨a0, a1, a2, a3, a4, a5⟩ := hargs c
  refine ⟨?_, ?_, ?_, hk⟩
  · rw [r0, a0, a1, a2, a3]
    exact (z_eq (arr m c)).trans (mat_ext fun s j => (zR_apply _ s j).trans (res6_apply m c s j).symm)
  · rw [r1, a0, a1, a2, a3, a4, a5]
    exact (y_eq (arr m c)).trans (mat_ext fun s j => (yR_apply _ s j).trans (res7_apply m c s j).symm)
  · rw [r2, a0, a1, a2, a3, a4, a5]
    exact (yb_eq (arr m c)).trans (mat_ext fun s j => (yR_apply _ s j).trans (res8_apply m c s j).symm)

end Cert.Mln

end
-- ==== Proof.PlfSpec.lean ====
/- Hand-written: THE GATED EMBEDDING'S FORWARD CALL AND THE LOSS, by elements, with the constants both programs write. -/
module

public import proofs.«01_k».proof.Proof.PleSpec

@[expose] public section

noncomputable section

namespace Cert.Plf

open Idealize.ShloMosaic
open Cert.Ple (sigm)

/-- The arguments: the residual stream, the embedding, its weight, the gate's weight and bias, the norm's gain and shift, the target. -/
structure Args where
  x : Fin 2048 → Fin 1024 → EReal
  p : Fin 2048 → Fin 256 → EReal
  wu : Fin 256 → Fin 1024 → EReal
  wg : Fin 1024 → Fin 1024 → EReal
  bg : Fin 1024 → EReal
  g : Fin 1024 → EReal
  b : Fin 1024 → EReal
  t : Fin 2048 → Fin 1024 → EReal

namespace Args
variable (a : Args)

def sg (s : Fin 2048) (j : Fin 1024) : EReal := sigm ((∑ k : Fin 1024, a.x s k * a.wg k j) + a.bg j)
def up (s : Fin 2048) (j : Fin 1024) : EReal := ∑ k : Fin 256, a.p s k * a.wu k j
def usg (s : Fin 2048) (j : Fin 1024) : EReal := a.up s j * a.sg s j * (Ideal.ofBits .f32 0x3F800000#32 - a.sg s j)
def z (s : Fin 2048) (j : Fin 1024) : EReal := Ideal.ofBits .f32 0x3FB504F3#32 * a.x s j + a.sg s j * a.up s j
/-- The error against the target. -/
def err (s : Fin 2048) (j : Fin 1024) : EReal := Ln.nrm (a.z s) j * a.g j + a.b j - a.t s j
/-- One row's share of the loss. -/
def row (s : Fin 2048) : EReal := Ideal.ofBits .f32 0x3F000000#32 * ((∑ j : Fin 1024, a.err s j * a.err s j) * Ideal.ofBits .f32 0x3A800000#32)

end Args

theorem sigm_eq (v : EReal) : Ideal.logistic v = sigm v := by unfold sigm; rw [Reals.ofBits_one]; rfl

/-! ## The constants -/

theorem ofBits_half : Ideal.ofBits .f32 0x3F000000#32 = ((1 / 2 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_kilo : Ideal.ofBits .f32 0x44800000#32 = ((1024 : ℝ) : EReal) := by
  simp [Ideal.ofBits, Ideal.ieee, -EReal.coe_mul]; norm_num
theorem ofBits_milli : Ideal.ofBits .f32 0x3A800000#32 = ((1 / 1024 : ℝ) : EReal) := by
  simp [Ideal.ofBits, Ideal.ieee, -EReal.coe_mul]; norm_num

/-- A quotient by 1024 is a product with its inverse, on every extended real. -/
theorem div_kilo (v : EReal) : Ideal.div v (Ideal.ofBits .f32 0x44800000#32) = v * Ideal.ofBits .f32 0x3A800000#32 := by
  rw [ofBits_kilo, ofBits_milli]
  unfold Ideal.div
  rw [if_neg (by exact_mod_cast (by norm_num : (1024 : ℝ) ≠ 0)), ← EReal.coe_inv]
  norm_num

/-- Half a sum is the sum of the halves, on every extended real. -/
theorem half_sum {ι : Type*} (s : Finset ι) (f : ι → EReal) :
    Ideal.ofBits .f32 0x3F000000#32 * ∑ i ∈ s, f i = ∑ i ∈ s, Ideal.ofBits .f32 0x3F000000#32 * f i := by
  classical
  rw [ofBits_half]
  induction s using Finset.induction_on with
  | empty => simp
  | insert i s hi ih =>
    rw [Finset.sum_insert hi, Finset.sum_insert hi, ← ih]
    exact EReal.left_distrib_of_nonneg_of_ne_top (by exact_mod_cast (by norm_num : (0 : ℝ) ≤ 1 / 2)) (EReal.coe_ne_top _) _ _

/-- The derivative of the halved mean of squares: the factors combine. -/
theorem grad_eq (e : EReal) : Ideal.div (Ideal.ofBits .f32 0x3F000000#32 * Ideal.ofBits .f32 0x3F800000#32) (Ideal.ofBits .f32 0x44800000#32)
    * (Ideal.ofBits .f32 0x40000000#32 * e) = e * Ideal.ofBits .f32 0x3A800000#32 := by
  rw [div_kilo, ← mul_assoc, mul_comm e, ofBits_half, ofBits_two, ofBits_milli, Reals.ofBits_one, mul_one, ← EReal.coe_mul, ← EReal.coe_mul]
  norm_num

end Cert.Plf

end
-- ==== Proof.PlfPoint.lean ====
/- Hand-written: ONE POINT OF THE GATED EMBEDDING'S FORWARD CALL: what the body computes from its blocks, element by element,
   and what it leaves in its five output blocks. -/
module

public import proofs.«01_k».proof.Proof.LnRows
public import proofs.«01_k».proof.Proof.Gen.Kernel7Ideal.Value

@[expose] public section

set_option maxRecDepth 16384

noncomputable section

namespace Cert.Plf

open Idealize.ShloMosaic Idealize.ShloMosaic.TcCoe Idealize.SL.Sem
open Idealize.ShloMosaic.Pointwise
open Cert.Kernel7Ideal Cert.Kernel7Ideal.Gen Cert.LnRows

/-! ## The body's values -/

theorem gate_apply (x : Vec Ideal S512x1024 .bf16) (w : Vec Ideal S1024x1024 .bf16) (b : Vec Ideal S1x1024 .f32) (r : Fin 512) (j : Fin 1024) :
    k0_pay5 (F := Ideal) x w b (ix2 r j) = Ideal.logistic ((∑ k : Fin 1024, x (ix2 r k) * w (ix2 k j)) + b (ix2 0 j)) := by
  unfold k0_pay5
  pointwise

/-- Column `h` of column block `q`. -/
def colq (q : Fin 8) (h : Fin 128) : Fin 1024 := ⟨q.val * 128 + h.val, by omega⟩

/-- One column block's product. -/
theorem piece_apply (p : Vec Ideal S512x256 .bf16) (w : Vec Ideal S1x256x128 .bf16) (r : Fin 512) (h : Fin 128) :
    k0_pay7 (F := Ideal) p w (ix2 r h) = ∑ k : Fin 256, p (ix2 r k) * w (ix3 0 k h) := by
  unfold k0_pay7 k0_pay6
  pointwise

/-- The projected embedding: the eight products side by side. -/
def cat (f : Fin 8 → FVec Ideal S512x128 .f32) : FVec Ideal S512x1024 .f32 :=
  concatenate S512x1024 1 (List.ofFn fun n : Fin 8 => (⟨S512x128, f n⟩ : (s : Shape) × (s.Idx → EReal)))
    concatenates_S512x128_S512x128_S512x128_S512x128_S512x128_S512x128_S512x128_S512x128_S512x1024_d1
theorem cat_apply (f : Fin 8 → FVec Ideal S512x128 .f32) (r : Fin 512) (q : Fin 8) (h : Fin 128) : cat f (ix2 r (colq q h)) = f q (ix2 r h) := by
  refine concatenate_ofFn_apply (1 : Fin S512x1024.rank) f _ rfl 128 rfl (ix2 r (colq q h)) q ?_ (ix2 r h) ?_ fun b hb => ?_
  · show (q.val * 128 + h.val) / 128 = q.val
    omega
  · show h.val = (q.val * 128 + h.val) % 128
    omega
  · match b with
    | ⟨0, _⟩ => rfl
    | ⟨1, _⟩ => exact absurd rfl hb

abbrev upB (p : Vec Ideal S512x256 .bf16) (w0 w1 w2 w3 w4 w5 w6 w7 : Vec Ideal S1x256x128 .bf16) : FVec Ideal S512x1024 .f32 :=
  k0_pay12 (F := Ideal) (k0_pay6 (F := Ideal) p) (k0_pay7 (F := Ideal) p w0) (k0_pay8 (F := Ideal) p w1) (k0_pay9 (F := Ideal) p w2)
    (k0_pay10 (F := Ideal) p w3) (k0_pay11 (F := Ideal) p w4) w5 w6 w7

theorem up_apply (p : Vec Ideal S512x256 .bf16) (w : Fin 8 → Vec Ideal S1x256x128 .bf16) (r : Fin 512) (q : Fin 8) (h : Fin 128) :
    upB p (w 0) (w 1) (w 2) (w 3) (w 4) (w 5) (w 6) (w 7) (ix2 r (colq q h)) = ∑ k : Fin 256, p (ix2 r k) * w q (ix3 0 k h) := by
  have e : upB p (w 0) (w 1) (w 2) (w 3) (w 4) (w 5) (w 6) (w 7) = cat fun n => k0_pay7 (F := Ideal) p (w n) := rfl
  rw [e, cat_apply, piece_apply]

/-! ## What the five blocks hold, from the gate and the projected embedding -/

def usgB (u g : FVec Ideal S512x1024 .f32) : FVec Ideal S512x1024 .bf16 :=
  truncf .bf16 (mulf (mulf u g) (subf (broadcast S512x1024 (Scalar.ofBits .f32 0x3F800000#32)) g)) bitsLt_bf16_f32
def mixB (x u g : FVec Ideal S512x1024 .f32) : FVec Ideal S512x1024 .f32 :=
  addf (mulf (broadcast S512x1024 (Scalar.ofBits .f32 0x3FB504F3#32)) x) (mulf g u)
def errB (z : FVec Ideal S512x1024 .f32) (g s : FVec Ideal S1x1024 .f32) (t : FVec Ideal S512x1024 .f32) : FVec Ideal S512x1024 .f32 := subf (norm z g s) t
def dyB (e : FVec Ideal S512x1024 .f32) : FVec Ideal S512x1024 .f32 := mulf e (broadcast S512x1024 (Scalar.ofBits .f32 0x3A800000#32))
def lossB (e : FVec Ideal S512x1024 .f32) : FVec Ideal S1x128 .f32 :=
  broadcastTo S1x128 (shapeCast S1x1 (mulf (broadcast S1x1 (Scalar.ofBits .f32 0x3F000000#32)) (shapeCast S1x1 (multiReduction .add [0] S1
    (mulf (shapeCast S512x1 (multiReduction .add [1] S512 (mulf e e) 0x00000000#32 reduces_S512x1024_S512 (.inl rfl) rfl) shapeCasts_S512_S512x1)
      (broadcast S512x1 (Scalar.ofBits .f32 0x3A800000#32))) 0x00000000#32 reduces_S512x1_S1 (.inl rfl) rfl) shapeCasts_S1_S1x1)) shapeCasts_S1x1_S1x1) broadcasts_S1x1_S1x128

theorem usgB_apply (u g : FVec Ideal S512x1024 .f32) (r : Fin 512) (j : Fin 1024) :
    usgB u g (ix2 r j) = u (ix2 r j) * g (ix2 r j) * (Ideal.ofBits .f32 0x3F800000#32 - g (ix2 r j)) := by
  unfold usgB
  pointwise
theorem mixB_apply (x u g : FVec Ideal S512x1024 .f32) (r : Fin 512) (j : Fin 1024) :
    mixB x u g (ix2 r j) = Ideal.ofBits .f32 0x3FB504F3#32 * x (ix2 r j) + g (ix2 r j) * u (ix2 r j) := by
  unfold mixB
  pointwise
theorem errB_apply (z : FVec Ideal S512x1024 .f32) (g s : FVec Ideal S1x1024 .f32) (t : FVec Ideal S512x1024 .f32) (r : Fin 512) (j : Fin 1024) :
    errB z g s t (ix2 r j) = Ln.nrm (fun k => z (ix2 r k)) j * g (ix2 0 j) + s (ix2 0 j) - t (ix2 r j) :=
  congrArg (· - t (ix2 r j) : EReal → EReal) (norm_apply z g s r j)
theorem dyB_apply (e : FVec Ideal S512x1024 .f32) (r : Fin 512) (j : Fin 1024) : dyB e (ix2 r j) = e (ix2 r j) * Ideal.ofBits .f32 0x3A800000#32 := by
  unfold dyB
  pointwise
theorem lossB_apply (e : FVec Ideal S512x1024 .f32) (q : Fin 128) : lossB e (ix2 0 q)
    = Ideal.ofBits .f32 0x3F000000#32 * ∑ r : Fin 512, (∑ j : Fin 1024, e (ix2 r j) * e (ix2 r j)) * Ideal.ofBits .f32 0x3A800000#32 := by
  unfold lossB
  pointwise

/-! ## The five blocks after a point -/

variable (m : (ℓ : Loc nD τ sig) → Buf (Elt Ideal) ℓ)

abbrev wAt (c : Dev nD) (t : Fin cfg0.N) (q : Nat) (h : ∀ a, (![q, 0, 0] : Fin 3 → Nat) a + S1x256x128.size a ≤ S8x256x128.size a) : Vec Ideal S1x256x128 .bf16 :=
  View.ld (iblk m c 5 t : Vec Ideal S8x256x128 .bf16) (Rect.unit (s := S8x256x128) ![q, 0, 0] S1x256x128.size h)
abbrev sgAt (c : Dev nD) (t : Fin cfg0.N) : FVec Ideal S512x1024 .f32 := k0_pay5 (F := Ideal) (iblk m c 1 t) (iblk m c 3 t) (iblk m c 4 t)
abbrev upAt (c : Dev nD) (t : Fin cfg0.N) : FVec Ideal S512x1024 .f32 :=
  upB (iblk m c 2 t) (wAt m c t 0 inb_S8x256x128_S1x256x128_0_0_0) (wAt m c t 1 inb_S8x256x128_S1x256x128_1_0_0)
    (wAt m c t 2 inb_S8x256x128_S1x256x128_2_0_0) (wAt m c t 3 inb_S8x256x128_S1x256x128_3_0_0) (wAt m c t 4 inb_S8x256x128_S1x256x128_4_0_0)
    (wAt m c t 5 inb_S8x256x128_S1x256x128_5_0_0) (wAt m c t 6 inb_S8x256x128_S1x256x128_6_0_0) (wAt m c t 7 inb_S8x256x128_S1x256x128_7_0_0)
abbrev zAt (c : Dev nD) (t : Fin cfg0.N) : FVec Ideal S512x1024 .f32 := mixB (iblk m c 0 t) (upAt m c t) (sgAt m c t)
abbrev eAt (c : Dev nD) (t : Fin cfg0.N) : FVec Ideal S512x1024 .f32 := errB (zAt m c t) (iblk m c 6 t) (iblk m c 7 t) (iblk m c 8 t)

set_option maxHeartbeats 4000000 in
theorem outs_first (c : Dev nD) (t : Fin cfg0.N) (h : t.val = 0) :
    outsAt0 m c t.val t.isLt = (truncf .bf16 (sgAt m c t) bitsLt_bf16_f32, usgB (upAt m c t) (sgAt m c t), zAt m c t, dyB (eAt m c t), lossB (eAt m c t)) := by
  have h0 : t.val % 4 = 0 := by omega
  have h1 : ¬1 ≤ t.val := by omega
  rw [outsAt0_A m c t h0 h1]
  unfold out0_A_9 out0_A_10 out0_A_11 out0_A_12 out0_A_13
  simp only [Prod.mk.injEq]
  refine ⟨(View.read_writes_eq_canon _ _ _ (fun _ => cover0_A_9 ..)).trans ?_, (View.read_writes_eq_canon _ _ _ (fun _ => cover0_A_10 ..)).trans ?_,
    (View.read_writes_eq_canon _ _ _ (fun _ => cover0_A_11 ..)).trans ?_, (View.read_writes_eq_canon _ _ _ (fun _ => cover0_A_12 ..)).trans ?_,
    (View.read_writes_eq_canon _ _ _ (fun _ => cover0_A_13 ..)).trans ?_⟩ <;>
  · unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread,
      (hs0_5 t).read_unread, (hs0_6 t).read_unread, (hs0_7 t).read_unread, (hs0_8 t).read_unread, View.ld_unit_zero (S := S512x1024) hz2,
      View.ld_unit_zero (S := S1x1024) hz2, View.ld_unit_zero (S := S1024x1024) hz2, View.ld_unit_zero (S := S512x256) hz2, shapeCast_self]
    rfl

set_option maxHeartbeats 4000000 in
theorem outs_later (c : Dev nD) (t : Fin cfg0.N) (h : 1 ≤ t.val) (y : _)
    (hy : y = outsAt0 m c (t.val - 1) (Nat.lt_of_le_of_lt (Nat.sub_le _ _) t.isLt)) :
    outsAt0 m c t.val t.isLt = (truncf .bf16 (sgAt m c t) bitsLt_bf16_f32, usgB (upAt m c t) (sgAt m c t), zAt m c t, dyB (eAt m c t),
      addf y.2.2.2.2 (lossB (eAt m c t))) := by
  have hN : t.val < 4 := lt_of_lt_of_eq t.isLt N_0
  have h0 : ¬t.val % 4 = 0 := by omega
  rw [outsAt0_B m c t h0 h, ← hy]
  clear hy
  unfold out0_B_9 out0_B_10 out0_B_11 out0_B_12 out0_B_13
  simp only [Prod.mk.injEq]
  refine ⟨(View.read_writes_eq_canon _ _ _ (fun _ => cover0_B_9 ..)).trans ?_, (View.read_writes_eq_canon _ _ _ (fun _ => cover0_B_10 ..)).trans ?_,
    (View.read_writes_eq_canon _ _ _ (fun _ => cover0_B_11 ..)).trans ?_, (View.read_writes_eq_canon _ _ _ (fun _ => cover0_B_12 ..)).trans ?_,
    (View.read_writes_eq_canon _ _ _ (fun _ => cover0_B_13 ..)).trans ?_⟩ <;>
  · unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread,
      (hs0_5 t).read_unread, (hs0_6 t).read_unread, (hs0_7 t).read_unread, (hs0_8 t).read_unread, (hs0_13 t).read_unread, View.ld_unit_zero (S := S512x1024) hz2,
      View.ld_unit_zero (S := S1x1024) hz2, View.ld_unit_zero (S := S1024x1024) hz2, View.ld_unit_zero (S := S512x256) hz2,
      View.ld_unit_zero (S := S1x128) hz2, k0_pay4, shapeCast_self]
    rfl

end Cert.Plf

end
-- ==== Proof.PlfKernel.lean ====
/- Hand-written: THE GATED EMBEDDING'S FORWARD CALL AS A WHOLE: its operands, its blocks, the loss it carries from point to
   point, and its five result arrays. -/
module

public import proofs.«01_k».proof.Proof.PlfSpec
public import proofs.«01_k».proof.Proof.PlfPoint
public import proofs.«01_k».proof.Proof.MixSpec

@[expose] public section

set_option maxRecDepth 16384

noncomputable section

namespace Cert.Plf

open Idealize.ShloMosaic Idealize.ShloMosaic.TcCoe Idealize.SL.Sem
open Idealize.ShloMosaic.Pointwise
open Cert.Kernel7Ideal Cert.Kernel7Ideal.Gen
open Cert.Mixout (row row_div part part_fin carried)

variable (m : (ℓ : Loc nD τ sig) → Buf (Elt Ideal) ℓ)

/-- The arguments as arrays. -/
structure Arr where
  x : FVec Ideal S2048x1024 .f32
  p : FVec Ideal S2048x256 .f32
  wu : FVec Ideal S256x1024 .f32
  wg : FVec Ideal S1024x1024 .f32
  bg : FVec Ideal S1x1024 .f32
  g : FVec Ideal S1x1024 .f32
  b : FVec Ideal S1x1024 .f32
  t : FVec Ideal S2048x1024 .f32

/-- The arguments by their elements. -/
def Arr.el (a : Arr) : Args := ⟨fun s k => a.x (ix2 s k), fun s k => a.p (ix2 s k), fun k j => a.wu (ix2 k j), fun k j => a.wg (ix2 k j),
  fun j => a.bg (ix2 0 j), fun j => a.g (ix2 0 j), fun j => a.b (ix2 0 j), fun s k => a.t (ix2 s k)⟩

def arr (c : Dev nD) : Arr := ⟨m (c.tc.loc main_arg0), m (c.tc.loc main_arg1), m (c.tc.loc main_arg2), m (c.tc.loc main_arg3), m (c.tc.loc main_arg4),
  m (c.tc.loc main_arg5), m (c.tc.loc main_arg6), m (c.tc.loc main_arg7)⟩
abbrev args (c : Dev nD) : Args := (arr m c).el

/-! ## The operands -/

theorem o_x (c : Dev nD) : (V m c main_arg0 : FVec Ideal S2048x1024 .f32) = (arr m c).x := by
  unfold V
  after_results
  rfl
theorem o_bg (c : Dev nD) : (V m c main_arg4 : FVec Ideal S1x1024 .f32) = (arr m c).bg := by
  unfold V
  after_results
  rfl
theorem o_g (c : Dev nD) : (V m c main_arg5 : FVec Ideal S1x1024 .f32) = (arr m c).g := by
  unfold V
  after_results
  rfl
theorem o_b (c : Dev nD) : (V m c main_arg6 : FVec Ideal S1x1024 .f32) = (arr m c).b := by
  unfold V
  after_results
  rfl
theorem o_t (c : Dev nD) : (V m c main_arg7 : FVec Ideal S2048x1024 .f32) = (arr m c).t := by
  unfold V
  after_results
  rfl
theorem o_xb (c : Dev nD) : (V m c main_v3 : FVec Ideal S2048x1024 .bf16) = truncf .bf16 (arr m c).x bitsLt_bf16_f32 := by
  unfold V
  after_results
  rfl
theorem o_p (c : Dev nD) : (V m c main_v4 : FVec Ideal S2048x256 .bf16) = truncf .bf16 (arr m c).p bitsLt_bf16_f32 := by
  unfold V
  after_results
  rfl
theorem o_wg (c : Dev nD) : (V m c main_v5 : FVec Ideal S1024x1024 .bf16) = truncf .bf16 (arr m c).wg bitsLt_bf16_f32 := by
  unfold V
  after_results
  rfl
theorem o_wu (c : Dev nD) (q : Fin 8) (k : Fin 256) (h : Fin 128) : (V m c main_v2 : FVec Ideal S8x256x128 .bf16) (ix3 q k h) = (arr m c).wu (ix2 k (colq q h)) := by
  have e : (V m c main_v2 : FVec Ideal S8x256x128 .bf16) = truncf .bf16 (transpose S8x256x128 [1, 0, 2]
      (shapeCast S256x8x128 (arr m c).wu shapeCasts_S256x1024_S256x8x128) transposes_S256x8x128_S8x256x128_1_0_2) bitsLt_bf16_f32 := by
    unfold V
    after_results
    rfl
  rw [e]
  generalize (arr m c).wu = w
  pointwise
  rfl

/-! ## Blocks -/

/-- The grid's point for row block `i`. -/
def pt (i : Fin 4) : Fin cfg0.N := ⟨i.val, by rw [show cfg0.N = 4 from N_0]; omega⟩

theorem in_facts : ∀ i : Fin 4, (win0_0.index (pt i) 0 = i.val ∧ win0_0.index (pt i) 1 = 0)
    ∧ (win0_1.index (pt i) 0 = i.val ∧ win0_1.index (pt i) 1 = 0)
    ∧ (win0_2.index (pt i) 0 = i.val ∧ win0_2.index (pt i) 1 = 0)
    ∧ (win0_3.index (pt i) 0 = 0 ∧ win0_3.index (pt i) 1 = 0)
    ∧ (win0_4.index (pt i) 0 = 0 ∧ win0_4.index (pt i) 1 = 0)
    ∧ (win0_5.index (pt i) 0 = 0 ∧ win0_5.index (pt i) 1 = 0 ∧ win0_5.index (pt i) 2 = 0)
    ∧ (win0_6.index (pt i) 0 = 0 ∧ win0_6.index (pt i) 1 = 0)
    ∧ (win0_7.index (pt i) 0 = 0 ∧ win0_7.index (pt i) 1 = 0)
    ∧ (win0_8.index (pt i) 0 = i.val ∧ win0_8.index (pt i) 1 = 0) := by
  decide +kernel

theorem out_facts : ∀ i : Fin 4, (win0_9.index (pt i) 0 = i.val ∧ win0_9.index (pt i) 1 = 0)
    ∧ (win0_10.index (pt i) 0 = i.val ∧ win0_10.index (pt i) 1 = 0)
    ∧ (win0_11.index (pt i) 0 = i.val ∧ win0_11.index (pt i) 1 = 0)
    ∧ (win0_12.index (pt i) 0 = i.val ∧ win0_12.index (pt i) 1 = 0)
    ∧ (win0_13.index (pt i) 0 = 0 ∧ win0_13.index (pt i) 1 = 0) := by
  decide +kernel

variable (c : Dev nD) (i : Fin 4) (r : Fin 512) (j : Fin 1024)

theorem x_apply : (iblk m c 0 (pt i) : Vec Ideal S512x1024 .f32) (ix2 r j) = (args m c).x (row i r) j := by
  obtain ⟨⟨e0, e1⟩, -⟩ := in_facts i
  refine Eq.trans ?_ (congrFun (o_x m c) (ix2 (row i r) j))
  unfold iblk
  rw [View.read_apply]
  show V m c main_arg0 _ = V m c main_arg0 _
  congr 1
  funext a; apply Fin.ext
  match a with
  | ⟨0, _⟩ => show win0_0.index (pt i) 0 * 512 + 1 * r.val = i.val * 512 + r.val; rw [e0]; omega
  | ⟨1, _⟩ => show win0_0.index (pt i) 1 * 1024 + 1 * j.val = j.val; rw [e1]; omega
theorem xb_apply : (iblk m c 1 (pt i) : Vec Ideal S512x1024 .bf16) (ix2 r j) = (args m c).x (row i r) j := by
  obtain ⟨-, ⟨e0, e1⟩, -⟩ := in_facts i
  refine Eq.trans ?_ (congrFun (o_xb m c) (ix2 (row i r) j))
  unfold iblk
  rw [View.read_apply]
  show V m c main_v3 _ = V m c main_v3 _
  congr 1
  funext a; apply Fin.ext
  match a with
  | ⟨0, _⟩ => show win0_1.index (pt i) 0 * 512 + 1 * r.val = i.val * 512 + r.val; rw [e0]; omega
  | ⟨1, _⟩ => show win0_1.index (pt i) 1 * 1024 + 1 * j.val = j.val; rw [e1]; omega
theorem p_apply (k : Fin 256) : (iblk m c 2 (pt i) : Vec Ideal S512x256 .bf16) (ix2 r k) = (args m c).p (row i r) k := by
  obtain ⟨-, -, ⟨e0, e1⟩, -⟩ := in_facts i
  refine Eq.trans ?_ (congrFun (o_p m c) (ix2 (row i r) k))
  unfold iblk
  rw [View.read_apply]
  show V m c main_v4 _ = V m c main_v4 _
  congr 1
  funext a; apply Fin.ext
  match a with
  | ⟨0, _⟩ => show win0_2.index (pt i) 0 * 512 + 1 * r.val = i.val * 512 + r.val; rw [e0]; omega
  | ⟨1, _⟩ => show win0_2.index (pt i) 1 * 256 + 1 * k.val = k.val; rw [e1]; omega
theorem wg_apply (k : Fin 1024) : (iblk m c 3 (pt i) : Vec Ideal S1024x1024 .bf16) (ix2 k j) = (args m c).wg k j := by
  obtain ⟨-, -, -, ⟨e0, e1⟩, -⟩ := in_facts i
  refine Eq.trans ?_ (congrFun (o_wg m c) (ix2 k j))
  unfold iblk
  rw [View.read_apply]
  show V m c main_v5 _ = V m c main_v5 _
  congr 1
  funext a; apply Fin.ext
  match a with
  | ⟨0, _⟩ => show win0_3.index (pt i) 0 * 1024 + 1 * k.val = k.val; rw [e0]; omega
  | ⟨1, _⟩ => show win0_3.index (pt i) 1 * 1024 + 1 * j.val = j.val; rw [e1]; omega
theorem bg_apply : (iblk m c 4 (pt i) : Vec Ideal S1x1024 .f32) (ix2 0 j) = (args m c).bg j := by
  obtain ⟨-, -, -, -, ⟨e0, e1⟩, -⟩ := in_facts i
  refine Eq.trans ?_ (congrFun (o_bg m c) (ix2 0 j))
  unfold iblk
  rw [View.read_apply]
  show V m c main_arg4 _ = V m c main_arg4 _
  congr 1
  funext a; apply Fin.ext
  match a with
  | ⟨0, _⟩ => show win0_4.index (pt i) 0 * 1 + 1 * 0 = 0; rw [e0]
  | ⟨1, _⟩ => show win0_4.index (pt i) 1 * 1024 + 1 * j.val = j.val; rw [e1]; omega
theorem wu_apply (q : Fin 8) (k : Fin 256) (h : Fin 128) : (iblk m c 5 (pt i) : Vec Ideal S8x256x128 .bf16) (ix3 q k h) = (args m c).wu k (colq q h) := by
  obtain ⟨-, -, -, -, -, ⟨e0, e1, e2⟩, -⟩ := in_facts i
  refine Eq.trans ?_ (o_wu m c q k h)
  unfold iblk
  rw [View.read_apply]
  show V m c main_v2 _ = V m c main_v2 _
  congr 1
  funext a; apply Fin.ext
  match a with
  | ⟨0, _⟩ => show win0_5.index (pt i) 0 * 8 + 1 * q.val = q.val; rw [e0]; omega
  | ⟨1, _⟩ => show win0_5.index (pt i) 1 * 256 + 1 * k.val = k.val; rw [e1]; omega
  | ⟨2, _⟩ => show win0_5.index (pt i) 2 * 128 + 1 * h.val = h.val; rw [e2]; omega
theorem g_apply : (iblk m c 6 (pt i) : Vec Ideal S1x1024 .f32) (ix2 0 j) = (args m c).g j := by
  obtain ⟨-, -, -, -, -, -, ⟨e0, e1⟩, -⟩ := in_facts i
  refine Eq.trans ?_ (congrFun (o_g m c) (ix2 0 j))
  unfold iblk
  rw [View.read_apply]
  show V m c main_arg5 _ = V m c main_arg5 _
  congr 1
  funext a; apply Fin.ext
  match a with
  | ⟨0, _⟩ => show win0_6.index (pt i) 0 * 1 + 1 * 0 = 0; rw [e0]
  | ⟨1, _⟩ => show win0_6.index (pt i) 1 * 1024 + 1 * j.val = j.val; rw [e1]; omega
theorem b_apply : (iblk m c 7 (pt i) : Vec Ideal S1x1024 .f32) (ix2 0 j) = (args m c).b j := by
  obtain ⟨-, -, -, -, -, -, -, ⟨e0, e1⟩, -⟩ := in_facts i
  refine Eq.trans ?_ (congrFun (o_b m c) (ix2 0 j))
  unfold iblk
  rw [View.read_apply]
  show V m c main_arg6 _ = V m c main_arg6 _
  congr 1
  funext a; apply Fin.ext
  match a with
  | ⟨0, _⟩ => show win0_7.index (pt i) 0 * 1 + 1 * 0 = 0; rw [e0]
  | ⟨1, _⟩ => show win0_7.index (pt i) 1 * 1024 + 1 * j.val = j.val; rw [e1]; omega
theorem t_apply : (iblk m c 8 (pt i) : Vec Ideal S512x1024 .f32) (ix2 r j) = (args m c).t (row i r) j := by
  obtain ⟨-, -, -, -, -, -, -, -, e0, e1⟩ := in_facts i
  refine Eq.trans ?_ (congrFun (o_t m c) (ix2 (row i r) j))
  unfold iblk
  rw [View.read_apply]
  show V m c main_arg7 _ = V m c main_arg7 _
  congr 1
  funext a; apply Fin.ext
  match a with
  | ⟨0, _⟩ => show win0_8.index (pt i) 0 * 512 + 1 * r.val = i.val * 512 + r.val; rw [e0]; omega
  | ⟨1, _⟩ => show win0_8.index (pt i) 1 * 1024 + 1 * j.val = j.val; rw [e1]; omega

/-! ## A point's values at its rows -/

theorem sgAt_apply : sgAt m c (pt i) (ix2 r j) = (args m c).sg (row i r) j := by
  refine (gate_apply _ _ _ r j).trans ?_
  rw [sigm_eq]
  simp only [xb_apply, wg_apply, bg_apply]
  rfl

/-- A column block of the weight, loaded. -/
theorem wAt_apply (q : Fin 8) (h) (k : Fin 256) (d : Fin 128) : wAt m c (pt i) q.val h (ix3 0 k d) = (args m c).wu k (colq q d) := by
  rw [← wu_apply m c i q k d]
  refine congrArg (iblk m c 5 (pt i) : Vec Ideal S8x256x128 .bf16) (funext fun a => Fin.ext ?_)
  match a with
  | ⟨0, _⟩ => show q.val + 1 * 0 = q.val; omega
  | ⟨1, _⟩ => show 0 + 1 * k.val = k.val; omega
  | ⟨2, _⟩ => show 0 + 1 * d.val = d.val; omega

theorem in8 (q : Fin 8) : ∀ a, (![q.val, 0, 0] : Fin 3 → Nat) a + S1x256x128.size a ≤ S8x256x128.size a := by
  revert q
  decide

theorem colq_div : colq ⟨j.val / 128, by omega⟩ ⟨j.val % 128, by omega⟩ = j := by
  apply Fin.ext
  show j.val / 128 * 128 + j.val % 128 = j.val
  omega

theorem upAt_apply : upAt m c (pt i) (ix2 r j) = (args m c).up (row i r) j := by
  rw [← colq_div j]
  generalize (⟨j.val / 128, _⟩ : Fin 8) = q
  generalize (⟨j.val % 128, _⟩ : Fin 128) = d
  refine (up_apply (iblk m c 2 (pt i)) (fun q : Fin 8 => wAt m c (pt i) q.val (in8 q)) r q d).trans ?_
  refine Finset.sum_congr rfl fun k _ => ?_
  exact congrArg₂ (· * · : EReal → EReal → EReal) (p_apply m c i r k) (wAt_apply m c i q (in8 q) k d)

theorem usgAt_apply : usgB (upAt m c (pt i)) (sgAt m c (pt i)) (ix2 r j) = (args m c).usg (row i r) j := by
  rw [usgB_apply, upAt_apply, sgAt_apply]
  rfl
theorem zAt_apply : zAt m c (pt i) (ix2 r j) = (args m c).z (row i r) j := by
  refine (mixB_apply _ _ _ r j).trans ?_
  rw [upAt_apply, sgAt_apply, x_apply]
  rfl
theorem eAt_apply : eAt m c (pt i) (ix2 r j) = (args m c).err (row i r) j := by
  refine (errB_apply _ _ _ _ r j).trans ?_
  simp only [zAt_apply, g_apply, b_apply, t_apply]
  rfl
theorem lossAt_apply (q : Fin 128) : lossB (eAt m c (pt i)) (ix2 0 q) = ∑ r : Fin 512, (args m c).row (row i r) := by
  rw [lossB_apply, half_sum]
  simp only [eAt_apply]
  rfl

/-! ## The row blocks every point leaves, and the loss carried -/

theorem outs_rows :
    (outsAt0 m c (pt i).val (pt i).isLt).1 = truncf .bf16 (sgAt m c (pt i)) bitsLt_bf16_f32
    ∧ (outsAt0 m c (pt i).val (pt i).isLt).2.1 = usgB (upAt m c (pt i)) (sgAt m c (pt i))
    ∧ (outsAt0 m c (pt i).val (pt i).isLt).2.2.1 = zAt m c (pt i)
    ∧ (outsAt0 m c (pt i).val (pt i).isLt).2.2.2.1 = dyB (eAt m c (pt i)) := by
  by_cases h : (pt i).val = 0
  · rw [outs_first m c (pt i) h]; exact ⟨rfl, rfl, rfl, rfl⟩
  · rw [outs_later m c (pt i) (by omega) _ rfl]; exact ⟨rfl, rfl, rfl, rfl⟩

theorem lt_N {n : ℕ} (h : n < 4) : n < cfg0.N := lt_of_lt_of_eq h (show cfg0.N = 4 from N_0).symm

theorem carried_loss (q : Fin 128) : (outsAt0 m c 3 (lt_N (by omega))).2.2.2.2 (ix2 0 q) = ∑ s : Fin 2048, (args m c).row s := by
  refine carried (fun n h => (outsAt0 m c n (lt_N h)).2.2.2.2 (ix2 0 q)) (args m c).row ?_ fun n h => ?_
  · refine (congrArg (fun y => y.2.2.2.2 (ix2 0 q)) (outs_first m c (pt 0) rfl)).trans ?_
    exact (lossAt_apply m c 0 q).trans (part_fin _ 0).symm
  · refine (congrArg (fun y => y.2.2.2.2 (ix2 0 q)) (outs_later m c (pt ⟨n + 1, h⟩) (Nat.le_add_left 1 n) _ rfl)).trans ?_
    exact congrArg ((outsAt0 m c n (lt_N (by omega))).2.2.2.2 (ix2 0 q) + · : EReal → EReal)
      ((lossAt_apply m c ⟨n + 1, h⟩ q).trans (part_fin _ ⟨n + 1, h⟩).symm)

/-! ## The five result arrays -/

abbrev res9 : FVec Ideal S2048x1024 .bf16 := (dats m 0 c).arrAt 9 cfg0.N
abbrev res10 : FVec Ideal S2048x1024 .bf16 := (dats m 0 c).arrAt 10 cfg0.N
abbrev res11 : FVec Ideal S2048x1024 .f32 := (dats m 0 c).arrAt 11 cfg0.N
abbrev res12 : FVec Ideal S2048x1024 .f32 := (dats m 0 c).arrAt 12 cfg0.N
abbrev res13 : FVec Ideal S1x128 .f32 := (dats m 0 c).arrAt 13 cfg0.N

theorem res9_apply (s : Fin 2048) : res9 m c (ix2 s j) = (args m c).sg s j := by
  rw [← row_div s]
  generalize (⟨s.val / 512, _⟩ : Fin 4) = i
  generalize (⟨s.val % 512, _⟩ : Fin 512) = r
  have b := congrFun (Value.blocks9 m c (pt i) (flush0_9 _)) (ix2 r j)
  rw [Value.flushed9, (outs_rows m c i).1] at b
  have e : ((cfg0.win 9).blk (pt i)).view.emb (ix2 r j) = ix2 (row i r) j := by
    obtain ⟨⟨e0, e1⟩, -⟩ := out_facts i
    funext a; apply Fin.ext
    match a with
    | ⟨0, _⟩ => show win0_9.index (pt i) 0 * 512 + 1 * r.val = i.val * 512 + r.val; rw [e0]; omega
    | ⟨1, _⟩ => show win0_9.index (pt i) 1 * 1024 + 1 * j.val = j.val; rw [e1]; omega
  have b' : res9 m c (((cfg0.win 9).blk (pt i)).view.emb (ix2 r j)) = (sgAt m c (pt i) (ix2 r j) : EReal) := b
  rw [e] at b'
  exact b'.trans (sgAt_apply m c i r j)
theorem res10_apply (s : Fin 2048) : res10 m c (ix2 s j) = (args m c).usg s j := by
  rw [← row_div s]
  generalize (⟨s.val / 512, _⟩ : Fin 4) = i
  generalize (⟨s.val % 512, _⟩ : Fin 512) = r
  have b := congrFun (Value.blocks10 m c (pt i) (flush0_10 _)) (ix2 r j)
  rw [Value.flushed10, (outs_rows m c i).2.1] at b
  have e : ((cfg0.win 10).blk (pt i)).view.emb (ix2 r j) = ix2 (row i r) j := by
    obtain ⟨-, ⟨e0, e1⟩, -⟩ := out_facts i
    funext a; apply Fin.ext
    match a with
    | ⟨0, _⟩ => show win0_10.index (pt i) 0 * 512 + 1 * r.val = i.val * 512 + r.val; rw [e0]; omega
    | ⟨1, _⟩ => show win0_10.index (pt i) 1 * 1024 + 1 * j.val = j.val; rw [e1]; omega
  have b' : res10 m c (((cfg0.win 10).blk (pt i)).view.emb (ix2 r j)) = (usgB (upAt m c (pt i)) (sgAt m c (pt i)) (ix2 r j) : EReal) := b
  rw [e] at b'
  exact b'.trans (usgAt_apply m c i r j)
theorem res11_apply (s : Fin 2048) : res11 m c (ix2 s j) = (args m c).z s j := by
  rw [← row_div s]
  generalize (⟨s.val / 512, _⟩ : Fin 4) = i
  generalize (⟨s.val % 512, _⟩ : Fin 512) = r
  have b := congrFun (Value.blocks11 m c (pt i) (flush0_11 _)) (ix2 r j)
  rw [Value.flushed11, (outs_rows m c i).2.2.1] at b
  have e : ((cfg0.win 11).blk (pt i)).view.emb (ix2 r j) = ix2 (row i r) j := by
    obtain ⟨-, -, ⟨e0, e1⟩, -⟩ := out_facts i
    funext a; apply Fin.ext
    match a with
    | ⟨0, _⟩ => show win0_11.index (pt i) 0 * 512 + 1 * r.val = i.val * 512 + r.val; rw [e0]; omega
    | ⟨1, _⟩ => show win0_11.index (pt i) 1 * 1024 + 1 * j.val = j.val; rw [e1]; omega
  have b' : res11 m c (((cfg0.win 11).blk (pt i)).view.emb (ix2 r j)) = (zAt m c (pt i) (ix2 r j) : EReal) := b
  rw [e] at b'
  exact b'.trans (zAt_apply m c i r j)
theorem res12_apply (s : Fin 2048) : res12 m c (ix2 s j) = (args m c).err s j * Ideal.ofBits .f32 0x3A800000#32 := by
  rw [← row_div s]
  generalize (⟨s.val / 512, _⟩ : Fin 4) = i
  generalize (⟨s.val % 512, _⟩ : Fin 512) = r
  have b := congrFun (Value.blocks12 m c (pt i) (flush0_12 _)) (ix2 r j)
  rw [Value.flushed12, (outs_rows m c i).2.2.2] at b
  have e : ((cfg0.win 12).blk (pt i)).view.emb (ix2 r j) = ix2 (row i r) j := by
    obtain ⟨-, -, -, ⟨e0, e1⟩, -⟩ := out_facts i
    funext a; apply Fin.ext
    match a with
    | ⟨0, _⟩ => show win0_12.index (pt i) 0 * 512 + 1 * r.val = i.val * 512 + r.val; rw [e0]; omega
    | ⟨1, _⟩ => show win0_12.index (pt i) 1 * 1024 + 1 * j.val = j.val; rw [e1]; omega
  have b' : res12 m c (((cfg0.win 12).blk (pt i)).view.emb (ix2 r j)) = (dyB (eAt m c (pt i)) (ix2 r j) : EReal) := b
  rw [e] at b'
  refine b'.trans ((dyB_apply _ r j).trans ?_)
  rw [eAt_apply]

theorem flush_last {t : Fin cfg0.N} (h : t.val % 4 = 3) : t = pt 3 := by
  have hN : t.val < 4 := lt_of_lt_of_eq t.isLt N_0
  exact Fin.ext (show t.val = 3 by omega)

theorem res13_apply (q : Fin 128) : res13 m c (ix2 0 q) = ∑ s : Fin 2048, (args m c).row s := by
  have b := congrFun ((dats m 0 c).read_blk_arrAt_eq_flushed 13 (fun t t' a b ne => absurd ((flush_last ((flush0_13 t).mp a)).trans
    (flush_last ((flush0_13 t').mp b)).symm) ne) cfg0.N (pt 3) (pt 3).isLt ((flush0_13 _).mpr rfl)) (ix2 0 q)
  rw [Value.flushed13] at b
  have e : ((cfg0.win 13).blk (pt 3)).view.emb (ix2 (0 : Fin 1) q) = ix2 (0 : Fin 1) q := by
    obtain ⟨-, -, -, -, e0, e1⟩ := out_facts 3
    funext a; apply Fin.ext
    match a with
    | ⟨0, _⟩ => show win0_13.index (pt 3) 0 * 1 + 1 * 0 = 0; rw [e0]
    | ⟨1, _⟩ => show win0_13.index (pt 3) 1 * 128 + 1 * q.val = q.val; rw [e1]; omega
  have b' : res13 m c (((cfg0.win 13).blk (pt 3)).view.emb (ix2 0 q)) = (outsAt0 m c 3 (lt_N (by omega))).2.2.2.2 (ix2 0 q) := b
  rw [e] at b'
  exact b'.trans (carried_loss m c q)

end Cert.Plf

end
-- ==== Proof.PlfClaim.lean ====
/- Hand-written: THE VALUE CLAIM OF THE GATED EMBEDDING'S FORWARD CALL: the gate, what its gradient needs, the residual sum, the
   loss's gradient and the loss are the reference's, on all arguments. -/
module

public import proofs.«01_k».proof.Defs
public import proofs.«01_k».proof.Proof.PlfKernel
public import proofs.«01_k».proof.Proof.PleHost
public import proofs.«01_k».proof.Proof.MlnClaim
public import proofs.«01_k».proof.Proof.Gen.Reference7Ideal.Read
public import Idealize.ShloMosaic.Lib.Quiescent

@[expose] public section

set_option maxRecDepth 16384

noncomputable section

namespace Cert.Plf

open Idealize.ShloMosaic Idealize.ShloMosaic.TcCoe Idealize.SL.Sem
open Idealize.ShloMosaic.Pointwise
open Cert.Ple (Mat Row mixH affH nrmH gateH upH usgH mixH_apply affH_apply nrmH_apply gateH_apply upH_apply usgH_apply)
open Cert.Mln (mat_ext)

/-! ## The reference's arrays -/

section Reference
open Cert.Reference7Ideal Cert.Reference7Ideal.Gen Cert.Reference7Ideal.Read
variable (a : Arr)

def sgR : Mat := gateH a.x a.wg a.bg
def upR : Mat := upH a.p a.wu
def usgR : Mat := usgH (upR a) (sgR a)
def zR : Mat := mixH a.x (mulf (sgR a) (upR a))
def errR : Mat := subf (affH (nrmH (zR a)) a.g a.b) a.t
/-- The loss's derivative at an error, and the loss in every lane. -/
def gradH (e : Mat) : Mat := mulf (broadcastInDim S2048x1024 ![0] bcast_S2048_S2048x1024_0 (Host.divf
  (broadcastInDim S2048 ![] bcast_S_S2048 (mulf (constant S_ .f32 0x3F000000#32) (constant S_ .f32 0x3F800000#32)))
  (broadcastInDim S2048 ![] bcast_S_S2048 (constant S_ .f32 0x44800000#32))))
  (mulf (broadcastInDim S2048x1024 ![] bcast_S_S2048x1024 (constant S_ .f32 0x40000000#32)) e)
def meanSq (e : Mat) : FVec Ideal S2048 .f32 := Host.divf
  (Host.reduceAdd (mulf e e) (constant S_ .f32 0x00000000#32) reducesTo_S2048x1024_S2048_d1 h_S_)
  (broadcastInDim S2048 ![] bcast_S_S2048 (constant S_ .f32 0x44800000#32))
def total (v : FVec Ideal S2048 .f32) : FVec Ideal S1x128 .f32 := broadcastInDim S1x128 ![] bcast_S_S1x128
  (mulf (constant S_ .f32 0x3F000000#32) (Host.reduceAdd v (constant S_ .f32 0x00000000#32) reducesTo_S2048_S_d0 h_S_))

theorem sgR_apply (s : Fin 2048) (j : Fin 1024) : sgR a (ix2 s j) = a.el.sg s j := gateH_apply _ _ _ s j
theorem upR_apply (s : Fin 2048) (j : Fin 1024) : upR a (ix2 s j) = a.el.up s j := upH_apply _ _ s j
theorem usgR_apply (s : Fin 2048) (j : Fin 1024) : usgR a (ix2 s j) = a.el.usg s j := by
  refine (usgH_apply _ _ s j).trans ?_
  rw [upR_apply, sgR_apply]
  rfl
theorem zR_apply (s : Fin 2048) (j : Fin 1024) : zR a (ix2 s j) = a.el.z s j :=
  (mixH_apply _ _ s j).trans (congrArg (Ideal.ofBits .f32 0x3FB504F3#32 * a.x (ix2 s j) + · : EReal → EReal)
    (congrArg₂ (· * · : EReal → EReal → EReal) (sgR_apply a s j) (upR_apply a s j)))
theorem errR_apply (s : Fin 2048) (j : Fin 1024) : errR a (ix2 s j) = a.el.err s j := by
  refine congrArg (· - a.t (ix2 s j) : EReal → EReal) ((affH_apply _ _ _ s j).trans ?_)
  rw [nrmH_apply]
  simp only [zR_apply]
  rfl
theorem gradH_apply (e : Mat) (s : Fin 2048) (j : Fin 1024) : gradH e (ix2 s j) = e (ix2 s j) * Ideal.ofBits .f32 0x3A800000#32 := by
  rw [← grad_eq, Reals.ofBits_one]
  unfold gradH
  pointwise
theorem meanSq_apply (e : Mat) (s : Fin 2048) :
    meanSq e (ix1 s) = (∑ j : Fin 1024, (e (ix2 s j) * e (ix2 s j) : EReal)) * Ideal.ofBits .f32 0x3A800000#32 := by
  rw [← div_kilo]
  unfold meanSq
  pointwise
theorem total_apply (v : FVec Ideal S2048 .f32) (q : Fin 128) :
    total v (ix2 0 q) = Ideal.ofBits .f32 0x3F000000#32 * ∑ s : Fin 2048, (v (ix1 s) : EReal) := by
  unfold total
  pointwise
theorem loss_apply (q : Fin 128) : total (meanSq (errR a)) (ix2 0 q) = ∑ s : Fin 2048, a.el.row s := by
  rw [total_apply, half_sum]
  simp only [meanSq_apply, errR_apply]
  rfl

theorem sg_eq : val_main_v45 (F := Ideal) a.x a.wg a.bg = truncf .bf16 (sgR a) bitsLt_bf16_f32 := rfl
theorem usg_eq : val_main_v50 (F := Ideal) a.x a.p a.wu a.wg a.bg = truncf .bf16 (usgR a) bitsLt_bf16_f32 := rfl
theorem z_eq : val_main_v13 (F := Ideal) a.x a.p a.wu a.wg a.bg = zR a := rfl
theorem err_eq : val_main_v36 (F := Ideal) a.x a.p a.wu a.wg a.bg a.g a.b a.t = errR a := by
  unfold errR
  rw [← z_eq]
  rfl
theorem grad_of : val_main_v56 (F := Ideal) a.x a.p a.wu a.wg a.bg a.g a.b a.t = gradH (errR a) := by
  rw [← err_eq]
  rfl
theorem loss_of : val_main_v57 (F := Ideal) a.x a.p a.wu a.wg a.bg a.g a.b a.t = total (meanSq (errR a)) := by
  rw [← err_eq]
  rfl

end Reference

/-- The reference leaves its arguments and, having no semaphore, no counter. -/
theorem ref_frame : Cert.quiescent_Reference7Ideal (hReference7Ideal := Cert.Reference7Ideal.Gen.facts) := fun m g _ =>
  (θ_run Cert.Reference7Ideal.defs _ _).mono (fun r h => And.intro (fun c => (h c).2.2.2.2.2) (sem_eq_zero_of_no_sems rfl r.2)) (Cert.Reference7Ideal.Value.run m g)

theorem algebraic : Cert.algebraic_Kernel7Ideal_Reference7Ideal (hKernel7Ideal := Cert.Kernel7Ideal.Gen.facts)
    (hReference7Ideal := Cert.Reference7Ideal.Gen.facts) := by
  intro m g m' g' _ hargs
  refine ⟨fun c => res9 m c, fun c => res10 m c, fun c => res11 m c, fun c => res12 m c, fun c => res13 m c, Cert.Kernel7Ideal.Value.run_blocks m g, ?_⟩
  refine (θ_run Cert.Reference7Ideal.defs _ _).mono (fun r h c => ?_) (Cert.Reference7Ideal.Value.run m' g')
  obtain ⟨r0, r1, r2, r3, r4, hk⟩ := h c
  obtain ⟨a0, a1, a2, a3, a4, a5, a6, a7⟩ := hargs c
  refine ⟨?_, ?_, ?_, ?_, ?_, hk⟩
  · rw [r0, a0, a3, a4]
    exact (sg_eq (arr m c)).trans (mat_ext fun s j => (sgR_apply _ s j).trans (res9_apply m c j s).symm)
  · rw [r1, a0, a1, a2, a3, a4]
    exact (usg_eq (arr m c)).trans (mat_ext fun s j => (usgR_apply _ s j).trans (res10_apply m c j s).symm)
  · rw [r2, a0, a1, a2, a3, a4]
    exact (z_eq (arr m c)).trans (mat_ext fun s j => (zR_apply _ s j).trans (res11_apply m c j s).symm)
  · rw [r3, Cert.Reference7Ideal.Read.val_main_v56_eq, a0, a1, a2, a3, a4, a5, a6, a7]
    refine (grad_of (arr m c)).trans (mat_ext fun s j => (gradH_apply _ s j).trans ?_)
    rw [errR_apply]
    exact (res12_apply m c j s).symm
  · rw [r4, Cert.Reference7Ideal.Read.val_main_v57_eq, a0, a1, a2, a3, a4, a5, a6, a7]
    refine (loss_of (arr m c)).trans (funext fun i => ?_)
    obtain ⟨u, q, rfl⟩ : ∃ (u : Fin 1) (q : Fin 128), i = ix2 u q := ⟨i 0, i 1, eq_ix2 i⟩
    obtain rfl : u = 0 := Subsingleton.elim _ _
    exact (loss_apply (arr m c) q).trans (res13_apply m c q).symm

end Cert.Plf

end
-- ==== Proof.FhdKernel.lean ====
/- Hand-written: THE SWIGLU'S HIDDEN CALL, FORWARD: its operands, one point's blocks, and the two arrays it leaves: the gate and
   up rows, and the hidden rows. -/
module

public import proofs.«01_k».proof.Proof.LnRows
public import proofs.«01_k».proof.Proof.FfnSpec
public import proofs.«01_k».proof.Proof.Gen.Kernel8Ideal.Value

@[expose] public section

set_option maxRecDepth 16384

noncomputable section

namespace Cert.Fhd

open Idealize.ShloMosaic Idealize.ShloMosaic.TcCoe Idealize.SL.Sem
open Idealize.ShloMosaic.Pointwise
open Cert.Kernel8Ideal Cert.Kernel8Ideal.Gen Cert.Ffn
open Cert.LnRows (row row_div hz2 hz3)

/-! ## One point -/

/-- The hidden activation of a gate and an up value. -/
def act (g u : EReal) : EReal := g * Ideal.logistic g * u

/-- A half's product at a row and a place of its group. -/
def dotS (x : Vec Ideal S512x1024 .bf16) (w : Vec Ideal S1x1x704x1024 .bf16) (r : Fin 512) (h : Fin 704) : EReal :=
  ∑ k : Fin 1024, x (ix2 r k) * w (ix4 0 0 h k)

theorem gate_apply (x : Vec Ideal S512x1024 .bf16) (w : Vec Ideal S1x1x704x1024 .bf16) (r : Fin 512) (h : Fin 704) :
    k0_pay2 (F := Ideal) x w (ix2 r h) = dotS x w r h := by
  unfold k0_pay2 k0_pay1 dotS
  pointwise
theorem up_apply (x : Vec Ideal S512x1024 .bf16) (w : Vec Ideal S1x1x704x1024 .bf16) (r : Fin 512) (h : Fin 704) :
    k0_pay3 (F := Ideal) x w (ix2 r h) = dotS x w r h := gate_apply x w r h
theorem pay4_apply (x : Vec Ideal S512x1024 .bf16) (w : Vec Ideal S1x1x704x1024 .bf16) (r : Fin 512) (h : Fin 704) :
    k0_pay4 (F := Ideal) x w (ix4 0 0 r h) = dotS x w r h := by
  rw [← gate_apply]
  unfold k0_pay4
  generalize k0_pay2 (F := Ideal) x w = v
  pointwise
theorem pay5_apply (x : Vec Ideal S512x1024 .bf16) (w : Vec Ideal S1x1x704x1024 .bf16) (r : Fin 512) (h : Fin 704) :
    k0_pay5 (F := Ideal) x w (ix4 0 0 r h) = dotS x w r h := pay4_apply x w r h
theorem pay6_apply (x : Vec Ideal S512x1024 .bf16) (w v : Vec Ideal S1x1x704x1024 .bf16) (r : Fin 512) (h : Fin 704) :
    k0_pay6 (F := Ideal) x w v (ix3 0 r h) = act (dotS x w r h) (dotS x v r h) := by
  rw [← gate_apply, ← up_apply]
  unfold k0_pay6 act
  generalize k0_pay2 (F := Ideal) x w = g
  generalize k0_pay3 (F := Ideal) x v = u
  pointwise

theorem emb_rows (a : Fin 2) (inb) (r : Fin 512) (h : Fin 704) :
    (Rect.unit (s := S2x1x512x704) ![a.val, 0, 0, 0] S1x1x512x704.size inb).emb (ix4 (0 : Fin 1) (0 : Fin 1) r h) = ix4 a (0 : Fin 1) r h := by
  funext b; apply Fin.ext
  match b with
  | ⟨0, _⟩ => show a.val + 1 * 0 = a.val; omega
  | ⟨1, _⟩ => rfl
  | ⟨2, _⟩ => show 0 + 1 * r.val = r.val; omega
  | ⟨3, _⟩ => show 0 + 1 * h.val = h.val; omega

/-- A half of the weight's block, read at a place. -/
theorem dot_ld (x : Vec Ideal S512x1024 .bf16) (w : Vec Ideal S2x1x704x1024 .bf16) (a : Fin 2) (inb) (r : Fin 512) (h : Fin 704) :
    dotS x (View.ld w (Rect.unit (s := S2x1x704x1024) ![a.val, 0, 0, 0] S1x1x704x1024.size inb)) r h
      = ∑ k : Fin 1024, x (ix2 r k) * w (ix4 a 0 h k) := by
  refine Finset.sum_congr rfl fun k _ => congrArg (x (ix2 r k) * · : EReal → EReal) (congrArg w (funext fun b => Fin.ext ?_))
  match b with
  | ⟨0, _⟩ => show a.val + 1 * 0 = a.val; omega
  | ⟨1, _⟩ => rfl
  | ⟨2, _⟩ => show 0 + 1 * h.val = h.val; omega
  | ⟨3, _⟩ => show 0 + 1 * k.val = k.val; omega

variable (x0 : Vec Ideal S512x1024 .bf16) (x1 : Vec Ideal S2x1x704x1024 .bf16) (r : Fin 512) (h : Fin 704)

theorem left_gate : out0_2 x0 x1 (ix4 (0 : Fin 2) (0 : Fin 1) r h) = ∑ k : Fin 1024, x0 (ix2 r k) * x1 (ix4 0 0 h k) := by
  unfold out0_2
  rw [View.canon_cons_of_not_mem]
  · rw [← emb_rows 0 inb_S2x1x512x704_S1x1x512x704_0_0_0_0 r h]
    refine (View.canon_cons_emb r0_3 _ [] _).trans ?_
    rw [pay4_apply, View.ld_unit_zero (S := S512x1024) hz2]
    exact dot_ld x0 x1 0 inb_S2x1x704x1024_S1x1x704x1024_0_0_0_0 r h
  · rw [Rect.mem_set_unit]
    intro H
    exact absurd (H ⟨0, by decide⟩).1 (by show ¬(1 ≤ 0); omega)
theorem left_up : out0_2 x0 x1 (ix4 (1 : Fin 2) (0 : Fin 1) r h) = ∑ k : Fin 1024, x0 (ix2 r k) * x1 (ix4 1 0 h k) := by
  unfold out0_2
  rw [← emb_rows 1 inb_S2x1x512x704_S1x1x512x704_1_0_0_0 r h]
  refine (View.canon_cons_emb r0_4 _ _ _).trans ?_
  rw [pay5_apply, View.ld_unit_zero (S := S512x1024) hz2]
  exact dot_ld x0 x1 1 inb_S2x1x704x1024_S1x1x704x1024_1_0_0_0 r h
theorem left_half (a : Fin 2) : out0_2 x0 x1 (ix4 a (0 : Fin 1) r h) = ∑ k : Fin 1024, x0 (ix2 r k) * x1 (ix4 a 0 h k) := by
  match a with
  | ⟨0, _⟩ => exact left_gate x0 x1 r h
  | ⟨1, _⟩ => exact left_up x0 x1 r h
theorem left_act : out0_3 x0 x1 (ix3 (0 : Fin 1) r h)
    = act (∑ k : Fin 1024, x0 (ix2 r k) * x1 (ix4 0 0 h k)) (∑ k : Fin 1024, x0 (ix2 r k) * x1 (ix4 1 0 h k)) := by
  unfold out0_3
  rw [View.canon_unit_zero hz3, pay6_apply, View.ld_unit_zero (S := S512x1024) hz2]
  exact congrArg₂ act (dot_ld x0 x1 0 inb_S2x1x704x1024_S1x1x704x1024_0_0_0_0 r h) (dot_ld x0 x1 1 inb_S2x1x704x1024_S1x1x704x1024_1_0_0_0 r h)

/-! ## The operands -/

variable (m : (ℓ : Loc nD τ sig) → Buf (Elt Ideal) ℓ)

abbrev aX (c : Dev nD) : FVec Ideal S2048x1024 .f32 := m (c.tc.loc main_arg0)
abbrev aW (c : Dev nD) : FVec Ideal S1024x5632 .f32 := m (c.tc.loc main_arg1)
/-- The pre-activation at row `s`, column `p`. -/
abbrev preK (c : Dev nD) : Fin 2048 → Fin 5632 → EReal := pre (fun s k => aX m c (ix2 s k)) (fun k p => aW m c (ix2 k p))

theorem o_x (c : Dev nD) (s : Fin 2048) (k : Fin 1024) : (V m c main_v0 : FVec Ideal S2048x1024 .bf16) (ix2 s k) = aX m c (ix2 s k) := by
  have e : (V m c main_v0 : FVec Ideal S2048x1024 .bf16) = truncf .bf16 (aX m c) bitsLt_bf16_f32 := by
    unfold V
    after_results
  rw [e]; rfl
theorem o_w (c : Dev nD) (a : Fin 2) (q : Fin 4) (h : Fin 704) (k : Fin 1024) :
    (V m c main_v3 : FVec Ideal S2x4x704x1024 .bf16) (ix4 a q h k) = aW m c (ix2 k (col a q h)) := by
  have e : (V m c main_v3 : FVec Ideal S2x4x704x1024 .bf16) = shapeCast S2x4x704x1024
      (truncf .bf16 (transpose S5632x1024 [1, 0] (aW m c) transposes_S1024x5632_S5632x1024_1_0) bitsLt_bf16_f32) shapeCasts_S5632x1024_S2x4x704x1024 := by
    unfold V
    after_results
    rfl
  rw [e]
  generalize aW m c = w
  pointwise
  rfl

/-! ## Blocks -/

/-- The grid's point (hidden group `q`, row block `i`). -/
def pt (q i : Fin 4) : Fin cfg0.N := ⟨q.val * 4 + i.val, by rw [show cfg0.N = 16 from N_0]; omega⟩

theorem idx_facts : ∀ q i : Fin 4, (win0_0.index (pt q i) 0 = i.val ∧ win0_0.index (pt q i) 1 = 0)
    ∧ (win0_1.index (pt q i) 0 = 0 ∧ win0_1.index (pt q i) 1 = q.val ∧ win0_1.index (pt q i) 2 = 0 ∧ win0_1.index (pt q i) 3 = 0)
    ∧ (win0_2.index (pt q i) 0 = 0 ∧ win0_2.index (pt q i) 1 = q.val ∧ win0_2.index (pt q i) 2 = i.val ∧ win0_2.index (pt q i) 3 = 0)
    ∧ (win0_3.index (pt q i) 0 = q.val ∧ win0_3.index (pt q i) 1 = i.val ∧ win0_3.index (pt q i) 2 = 0) := by
  decide +kernel

theorem x_apply (c : Dev nD) (q i : Fin 4) (r : Fin 512) (k : Fin 1024) :
    (iblk m c 0 (pt q i) : Vec Ideal S512x1024 .bf16) (ix2 r k) = aX m c (ix2 (row i r) k) := by
  obtain ⟨⟨e0, e1⟩, -⟩ := idx_facts q i
  rw [← o_x]
  unfold iblk
  rw [View.read_apply]
  show V m c main_v0 _ = V m c main_v0 _
  congr 1
  funext a; apply Fin.ext
  match a with
  | ⟨0, _⟩ => show win0_0.index (pt q i) 0 * 512 + 1 * r.val = i.val * 512 + r.val; rw [e0]; omega
  | ⟨1, _⟩ => show win0_0.index (pt q i) 1 * 1024 + 1 * k.val = k.val; rw [e1]; omega
theorem w_apply (c : Dev nD) (q i : Fin 4) (a : Fin 2) (h : Fin 704) (k : Fin 1024) :
    (iblk m c 1 (pt q i) : Vec Ideal S2x1x704x1024 .bf16) (ix4 a 0 h k) = aW m c (ix2 k (col a q h)) := by
  obtain ⟨-, ⟨e0, e1, e2, e3⟩, -⟩ := idx_facts q i
  rw [← o_w]
  unfold iblk
  rw [View.read_apply]
  show V m c main_v3 _ = V m c main_v3 _
  congr 1
  funext b; apply Fin.ext
  match b with
  | ⟨0, _⟩ => show win0_1.index (pt q i) 0 * 2 + 1 * a.val = a.val; rw [e0]; omega
  | ⟨1, _⟩ => show win0_1.index (pt q i) 1 * 1 + 1 * 0 = q.val; rw [e1]; omega
  | ⟨2, _⟩ => show win0_1.index (pt q i) 2 * 704 + 1 * h.val = h.val; rw [e2]; omega
  | ⟨3, _⟩ => show win0_1.index (pt q i) 3 * 1024 + 1 * k.val = k.val; rw [e3]; omega

theorem dot_pre (c : Dev nD) (q i : Fin 4) (a : Fin 2) (r : Fin 512) (h : Fin 704) (X : FVec Ideal S512x1024 .bf16) (W : FVec Ideal S2x1x704x1024 .bf16)
    (hX : X = iblk m c 0 (pt q i)) (hW : W = iblk m c 1 (pt q i)) :
    (∑ k : Fin 1024, X (ix2 r k) * W (ix4 a 0 h k)) = preK m c (row i r) (col a q h) := by
  subst hX hW
  exact Finset.sum_congr rfl fun k _ => congrArg₂ (· * · : EReal → EReal → EReal) (x_apply m c q i r k) (w_apply m c q i a h k)

/-! ## The two result arrays -/

abbrev res2 (c : Dev nD) : FVec Ideal S2x4x2048x704 .bf16 := (dats m 0 c).arrAt 2 cfg0.N
abbrev res3 (c : Dev nD) : FVec Ideal S4x2048x704 .bf16 := (dats m 0 c).arrAt 3 cfg0.N

theorem emb2 (q i : Fin 4) (a : Fin 2) (r : Fin 512) (h : Fin 704) :
    ((cfg0.win 2).blk (pt q i)).view.emb (ix4 a (0 : Fin 1) r h) = ix4 a q (row i r) h := by
  obtain ⟨-, -, ⟨e0, e1, e2, e3⟩, -⟩ := idx_facts q i
  funext b; apply Fin.ext
  match b with
  | ⟨0, _⟩ => show win0_2.index (pt q i) 0 * 2 + 1 * a.val = a.val; rw [e0]; omega
  | ⟨1, _⟩ => show win0_2.index (pt q i) 1 * 1 + 1 * 0 = q.val; rw [e1]; omega
  | ⟨2, _⟩ => show win0_2.index (pt q i) 2 * 512 + 1 * r.val = i.val * 512 + r.val; rw [e2]; omega
  | ⟨3, _⟩ => show win0_2.index (pt q i) 3 * 704 + 1 * h.val = h.val; rw [e3]; omega
theorem emb3 (q i : Fin 4) (r : Fin 512) (h : Fin 704) : ((cfg0.win 3).blk (pt q i)).view.emb (ix3 (0 : Fin 1) r h) = ix3 q (row i r) h := by
  obtain ⟨-, -, -, e0, e1, e2⟩ := idx_facts q i
  funext b; apply Fin.ext
  match b with
  | ⟨0, _⟩ => show win0_3.index (pt q i) 0 * 1 + 1 * 0 = q.val; rw [e0]; omega
  | ⟨1, _⟩ => show win0_3.index (pt q i) 1 * 512 + 1 * r.val = i.val * 512 + r.val; rw [e1]; omega
  | ⟨2, _⟩ => show win0_3.index (pt q i) 2 * 704 + 1 * h.val = h.val; rw [e2]; omega

theorem res2_apply (c : Dev nD) (a : Fin 2) (q : Fin 4) (s : Fin 2048) (h : Fin 704) : res2 m c (ix4 a q s h) = preK m c s (col a q h) := by
  rw [← row_div s]
  generalize (⟨s.val / 512, _⟩ : Fin 4) = i
  generalize (⟨s.val % 512, _⟩ : Fin 512) = r
  have b := congrFun (Value.blocks2 m c (pt q i) (flush0_2 _)) (ix4 a (0 : Fin 1) r h)
  rw [Value.flushed2] at b
  have b' : res2 m c (((cfg0.win 2).blk (pt q i)).view.emb (ix4 a (0 : Fin 1) r h)) = _ := b
  rw [emb2] at b'
  exact b'.trans ((left_half _ _ r h a).trans (dot_pre m c q i a r h _ _ rfl rfl))
theorem res3_apply (c : Dev nD) (q : Fin 4) (s : Fin 2048) (h : Fin 704) :
    res3 m c (ix3 q s h) = act (preK m c s (col 0 q h)) (preK m c s (col 1 q h)) := by
  rw [← row_div s]
  generalize (⟨s.val / 512, _⟩ : Fin 4) = i
  generalize (⟨s.val % 512, _⟩ : Fin 512) = r
  have b := congrFun (Value.blocks3 m c (pt q i) (flush0_3 _)) (ix3 (0 : Fin 1) r h)
  rw [Value.flushed3] at b
  have b' : res3 m c (((cfg0.win 3).blk (pt q i)).view.emb (ix3 (0 : Fin 1) r h)) = _ := b
  rw [emb3] at b'
  exact b'.trans ((left_act _ _ r h).trans (congrArg₂ act (dot_pre m c q i 0 r h _ _ rfl rfl) (dot_pre m c q i 1 r h _ _ rfl rfl)))

end Cert.Fhd

end
-- ==== Proof.FhdClaim.lean ====
/- Hand-written: THE VALUE CLAIM OF THE SWIGLU'S HIDDEN CALL: its gate and up rows and its hidden rows are the reference's, on all
   arguments. -/
module

public import proofs.«01_k».proof.Defs
public import proofs.«01_k».proof.Proof.FhdKernel
public import proofs.«01_k».proof.Proof.Gen.Reference8Ideal.Read
public import Idealize.ShloMosaic.Lib.Quiescent

@[expose] public section

set_option maxRecDepth 16384

noncomputable section

namespace Cert.Fhd

open Idealize.ShloMosaic Idealize.ShloMosaic.TcCoe Idealize.SL.Sem
open Idealize.ShloMosaic.Pointwise
open Cert.Ffn

section Reference
open Cert.Reference8Ideal Cert.Reference8Ideal.Gen Cert.Reference8Ideal.Read
variable (x : FVec Ideal S2048x1024 .f32) (w : FVec Ideal S1024x5632 .f32)

theorem v0_apply (s : Fin 2048) (p : Fin 5632) :
    val_main_v0 (F := Ideal) x w (ix2 s p) = pre (fun s k => x (ix2 s k)) (fun k p => w (ix2 k p)) s p := by
  unfold val_main_v0 pre
  pointwise
/-- The gate half and the up half at a hidden unit. -/
theorem v1_apply (s : Fin 2048) (q : Fin 4) (h : Fin 704) : val_main_v1 (F := Ideal) x w (ix2 s (unit q h)) = val_main_v0 (F := Ideal) x w (ix2 s (col 0 q h)) := by
  unfold val_main_v1
  generalize val_main_v0 (F := Ideal) x w = v
  pointwise
  refine congrArg v (congrArg (ix2 s) (Fin.ext ?_))
  show q.val * 704 + h.val = 0 * 2816 + q.val * 704 + h.val
  omega
theorem v3_apply (s : Fin 2048) (q : Fin 4) (h : Fin 704) : val_main_v3 (F := Ideal) x w (ix2 s (unit q h)) = val_main_v0 (F := Ideal) x w (ix2 s (col 1 q h)) := by
  unfold val_main_v3
  generalize val_main_v0 (F := Ideal) x w = v
  pointwise
  refine congrArg v (congrArg (ix2 s) (Fin.ext ?_))
  show 2816 + (q.val * 704 + h.val) = 1 * 2816 + q.val * 704 + h.val
  omega
/-- The gate's sigmoid. -/
theorem sig_apply (i : S2048x2816.Idx) : val_main_call0_v5 (F := Ideal) x w i = Ideal.logistic (val_main_v1 (F := Ideal) x w i) := by
  unfold val_main_call0_v5 val_main_call0_v4 val_main_call0_cst_0 val_main_call0_v3 val_main_call0_v2 val_main_call0_cst val_main_call0_v1 val_main_call0_v0
  generalize val_main_v1 (F := Ideal) x w = v
  rw [eq_ix2 i]
  pointwise
  rfl
theorem hid_apply (s : Fin 2048) (q : Fin 4) (h : Fin 704) : val_main_v4 (F := Ideal) x w (ix2 s (unit q h))
    = act (pre (fun s k => x (ix2 s k)) (fun k p => w (ix2 k p)) s (col 0 q h)) (pre (fun s k => x (ix2 s k)) (fun k p => w (ix2 k p)) s (col 1 q h)) := by
  rw [← v0_apply, ← v0_apply, ← v1_apply, ← v3_apply]
  show val_main_v1 (F := Ideal) x w (ix2 s (unit q h)) * val_main_call0_v5 (F := Ideal) x w (ix2 s (unit q h)) * val_main_v3 (F := Ideal) x w (ix2 s (unit q h)) = _
  rw [sig_apply]
  rfl
theorem r0_apply (a : Fin 2) (q : Fin 4) (s : Fin 2048) (h : Fin 704) :
    val_main_v7 (F := Ideal) x w (ix4 a q s h) = pre (fun s k => x (ix2 s k)) (fun k p => w (ix2 k p)) s (col a q h) := by
  rw [← v0_apply]
  unfold val_main_v7 val_main_v6 val_main_v5
  generalize val_main_v0 (F := Ideal) x w = v
  pointwise
  rfl
theorem r1_apply (q : Fin 4) (s : Fin 2048) (h : Fin 704) : val_main_v10 (F := Ideal) x w (ix3 q s h)
    = act (pre (fun s k => x (ix2 s k)) (fun k p => w (ix2 k p)) s (col 0 q h)) (pre (fun s k => x (ix2 s k)) (fun k p => w (ix2 k p)) s (col 1 q h)) := by
  rw [← hid_apply]
  unfold val_main_v10 val_main_v9 val_main_v8
  generalize val_main_v4 (F := Ideal) x w = v
  pointwise
  rfl

end Reference

/-- The reference leaves its arguments and, having no semaphore, no counter. -/
theorem ref_frame : Cert.quiescent_Reference8Ideal (hReference8Ideal := Cert.Reference8Ideal.Gen.facts) := fun m g _ =>
  (θ_run Cert.Reference8Ideal.defs _ _).mono (fun r h => And.intro (fun c => (h c).2.2) (sem_eq_zero_of_no_sems rfl r.2)) (Cert.Reference8Ideal.Value.run m g)

theorem algebraic : Cert.algebraic_Kernel8Ideal_Reference8Ideal (hKernel8Ideal := Cert.Kernel8Ideal.Gen.facts)
    (hReference8Ideal := Cert.Reference8Ideal.Gen.facts) := by
  intro m g m' g' _ hargs
  refine ⟨fun c => res2 m c, fun c => res3 m c, Cert.Kernel8Ideal.Value.run_blocks m g, ?_⟩
  refine (θ_run Cert.Reference8Ideal.defs _ _).mono (fun r h c => ?_) (Cert.Reference8Ideal.Value.run m' g')
  obtain ⟨r0, r1, hk⟩ := h c
  obtain ⟨a0, a1⟩ := hargs c
  refine ⟨?_, ?_, hk⟩
  · rw [r0, a0, a1]
    show Cert.Reference8Ideal.Read.val_main_v7 (F := Ideal) (aX m c) (aW m c) = res2 m c
    funext i
    rw [eq_ix4 i]
    exact (r0_apply _ _ _ _ _ _).trans (res2_apply m c _ _ _ _).symm
  · rw [r1, a0, a1]
    show Cert.Reference8Ideal.Read.val_main_v10 (F := Ideal) (aX m c) (aW m c) = res3 m c
    funext i
    rw [eq_ix3 i]
    exact (r1_apply _ _ _ _ _).trans (res3_apply m c _ _ _).symm

end Cert.Fhd

end
-- ==== Proof.FdnKernel.lean ====
/- Hand-written: THE SWIGLU'S DOWN CALL, FORWARD: its operands, one point's rows, and the three arrays it leaves. The product
   over the 2816 hidden units is summed over four groups of 704. -/
module

public import proofs.«01_k».proof.Proof.LnRows
public import proofs.«01_k».proof.Proof.FfnSpec
public import proofs.«01_k».proof.Proof.Gen.Kernel9Ideal.Value

@[expose] public section

set_option maxRecDepth 16384

noncomputable section

namespace Cert.Fdn

open Idealize.ShloMosaic Idealize.ShloMosaic.TcCoe Idealize.SL.Sem
open Idealize.ShloMosaic.Pointwise
open Cert.Kernel9Ideal Cert.Kernel9Ideal.Gen Cert.LnRows
open Cert.Ffn (unit)

/-- The arguments as arrays: the residual stream, the hidden rows, the down weight, the norm's gain and shift. -/
structure Arr where
  x : FVec Ideal S2048x1024 .f32
  h : FVec Ideal S2048x2816 .f32
  w : FVec Ideal S2816x1024 .f32
  g : FVec Ideal S1x1024 .f32
  s : FVec Ideal S1x1024 .f32

/-- The residual sum and its norm, element by element. -/
def Arr.zE (a : Arr) (s : Fin 2048) (j : Fin 1024) : EReal :=
  Ideal.ofBits .f32 0x3FB504F3#32 * a.x (ix2 s j) + ∑ p : Fin 2816, a.h (ix2 s p) * a.w (ix2 p j)
def Arr.yE (a : Arr) (s : Fin 2048) (j : Fin 1024) : EReal := Ln.nrm (a.zE s) j * a.g (ix2 0 j) + a.s (ix2 0 j)

/-- A sum over the hidden units, group by group. -/
theorem sum_groups (f : Fin 2816 → EReal) : ∑ p, f p = ∑ q : Fin 4, ∑ h : Fin 704, f (unit q h) := by
  have e : ∑ p, f p = ∑ i : Fin 4 × Fin 704, f (finProdFinEquiv i) := (Equiv.sum_comp (finProdFinEquiv (m := 4) (n := 704)) f).symm
  rw [e, Fintype.sum_prod_type]
  refine Finset.sum_congr rfl fun q _ => Finset.sum_congr rfl fun h _ => congrArg f (Fin.ext ?_)
  show h.val + 704 * q.val = q.val * 704 + h.val
  omega

/-! ## One point -/

/-- What one group of hidden units adds. -/
def term (h : Vec Ideal S1x512x704 .bf16) (w : Vec Ideal S1x704x1024 .bf16) (r : Fin 512) (j : Fin 1024) : EReal :=
  ∑ k : Fin 704, h (ix3 0 r k) * w (ix3 0 k j)

theorem sum_apply (x : Vec Ideal S512x1024 .f32) (h0 h1 h2 h3 : Vec Ideal S1x512x704 .bf16) (w0 w1 w2 w3 : Vec Ideal S1x704x1024 .bf16)
    (r : Fin 512) (j : Fin 1024) : k0_pay3 (F := Ideal) x h0 w0 h1 w1 h2 w2 h3 w3 (ix2 r j)
      = Ideal.ofBits .f32 0x3FB504F3#32 * x (ix2 r j) + term h0 w0 r j + term h1 w1 r j + term h2 w2 r j + term h3 w3 r j := by
  unfold k0_pay3 term
  pointwise

theorem norm_eq (z : FVec Ideal S512x1024 .f32) (g s : Vec Ideal S1x1024 .f32) : k0_pay1 (F := Ideal) z g s = norm z g s := rfl

theorem ld_h (x : Vec Ideal S4x512x704 .bf16) (q : Fin 4) (inb) (r : Fin 512) (k : Fin 704) :
    View.ld x (Rect.unit (s := S4x512x704) ![q.val, 0, 0] S1x512x704.size inb) (ix3 (0 : Fin 1) r k) = x (ix3 q r k) := by
  refine congrArg x (funext fun a => Fin.ext ?_)
  match a with
  | ⟨0, _⟩ => show q.val + 1 * 0 = q.val; omega
  | ⟨1, _⟩ => show 0 + 1 * r.val = r.val; omega
  | ⟨2, _⟩ => show 0 + 1 * k.val = k.val; omega
theorem ld_w (x : Vec Ideal S4x704x1024 .bf16) (q : Fin 4) (inb) (k : Fin 704) (j : Fin 1024) :
    View.ld x (Rect.unit (s := S4x704x1024) ![q.val, 0, 0] S1x704x1024.size inb) (ix3 (0 : Fin 1) k j) = x (ix3 q k j) := by
  refine congrArg x (funext fun a => Fin.ext ?_)
  match a with
  | ⟨0, _⟩ => show q.val + 1 * 0 = q.val; omega
  | ⟨1, _⟩ => show 0 + 1 * k.val = k.val; omega
  | ⟨2, _⟩ => show 0 + 1 * j.val = j.val; omega
theorem term_ld (h : Vec Ideal S4x512x704 .bf16) (w : Vec Ideal S4x704x1024 .bf16) (q : Fin 4) (ih iw) (r : Fin 512) (j : Fin 1024) :
    term (View.ld h (Rect.unit (s := S4x512x704) ![q.val, 0, 0] S1x512x704.size ih))
      (View.ld w (Rect.unit (s := S4x704x1024) ![q.val, 0, 0] S1x704x1024.size iw)) r j = ∑ k : Fin 704, h (ix3 q r k) * w (ix3 q k j) :=
  Finset.sum_congr rfl fun k _ => congrArg₂ (· * · : EReal → EReal → EReal) (ld_h h q ih r k) (ld_w w q iw k j)

theorem held_apply (x : Vec Ideal S512x1024 .f32) (h : Vec Ideal S4x512x704 .bf16) (w : Vec Ideal S4x704x1024 .bf16) (g s : Vec Ideal S1x1024 .f32)
    (r : Fin 512) (j : Fin 1024) : k0_pay4 (F := Ideal) x h w g s (ix2 r j)
      = Ideal.ofBits .f32 0x3FB504F3#32 * x (ix2 r j) + ∑ q : Fin 4, ∑ k : Fin 704, h (ix3 q r k) * w (ix3 q k j) := by
  unfold k0_pay4
  refine (sum_apply _ _ _ _ _ _ _ _ _ r j).trans ?_
  rw [View.ld_unit_zero (S := S512x1024) hz2, Fin.sum_univ_four, ← term_ld h w 0 inb_S4x512x704_S1x512x704_0_0_0 inb_S4x704x1024_S1x704x1024_0_0_0,
    ← term_ld h w 1 inb_S4x512x704_S1x512x704_1_0_0 inb_S4x704x1024_S1x704x1024_1_0_0,
    ← term_ld h w 2 inb_S4x512x704_S1x512x704_2_0_0 inb_S4x704x1024_S1x704x1024_2_0_0,
    ← term_ld h w 3 inb_S4x512x704_S1x512x704_3_0_0 inb_S4x704x1024_S1x704x1024_3_0_0]
  simp only [← add_assoc]
  rfl

/-! ## The operands -/

variable (m : (ℓ : Loc nD τ sig) → Buf (Elt Ideal) ℓ)

def arr (c : Dev nD) : Arr := ⟨m (c.tc.loc main_arg0), m (c.tc.loc main_arg1), m (c.tc.loc main_arg2), m (c.tc.loc main_arg3), m (c.tc.loc main_arg4)⟩

theorem o_x (c : Dev nD) : (V m c main_arg0 : Vec Ideal S2048x1024 .f32) = (arr m c).x := by
  unfold V
  after_results
  rfl
theorem o_g (c : Dev nD) : (V m c main_arg3 : Vec Ideal S1x1024 .f32) = (arr m c).g := by
  unfold V
  after_results
  rfl
theorem o_s (c : Dev nD) : (V m c main_arg4 : Vec Ideal S1x1024 .f32) = (arr m c).s := by
  unfold V
  after_results
  rfl
theorem o_h (c : Dev nD) (q : Fin 4) (s : Fin 2048) (k : Fin 704) :
    (V m c main_v2 : FVec Ideal S4x2048x704 .bf16) (ix3 q s k) = (arr m c).h (ix2 s (unit q k)) := by
  have e : (V m c main_v2 : FVec Ideal S4x2048x704 .bf16)
      = truncf .bf16 (transpose S4x2048x704 [1, 0, 2] (shapeCast S2048x4x704 (arr m c).h shapeCasts_S2048x2816_S2048x4x704)
        transposes_S2048x4x704_S4x2048x704_1_0_2) bitsLt_bf16_f32 := by
    unfold V
    after_results
    rfl
  rw [e]
  generalize (arr m c).h = h
  pointwise
  rfl
theorem o_w (c : Dev nD) (q : Fin 4) (k : Fin 704) (j : Fin 1024) :
    (V m c main_v4 : FVec Ideal S4x704x1024 .bf16) (ix3 q k j) = (arr m c).w (ix2 (unit q k) j) := by
  have e : (V m c main_v4 : FVec Ideal S4x704x1024 .bf16)
      = shapeCast S4x704x1024 (truncf .bf16 (arr m c).w bitsLt_bf16_f32) shapeCasts_S2816x1024_S4x704x1024 := by
    unfold V
    after_results
    rfl
  rw [e]
  generalize (arr m c).w = w
  pointwise
  rfl

/-! ## Blocks -/

/-- The grid's point for row block `i`. -/
def pt (i : Fin 4) : Fin cfg0.N := ⟨i.val, by rw [show cfg0.N = 4 from N_0]; omega⟩

theorem idx_facts : ∀ i : Fin 4, (win0_0.index (pt i) 0 = i.val ∧ win0_0.index (pt i) 1 = 0)
    ∧ (win0_1.index (pt i) 0 = 0 ∧ win0_1.index (pt i) 1 = i.val ∧ win0_1.index (pt i) 2 = 0)
    ∧ (win0_2.index (pt i) 0 = 0 ∧ win0_2.index (pt i) 1 = 0 ∧ win0_2.index (pt i) 2 = 0)
    ∧ (win0_3.index (pt i) 0 = 0 ∧ win0_3.index (pt i) 1 = 0) ∧ (win0_4.index (pt i) 0 = 0 ∧ win0_4.index (pt i) 1 = 0)
    ∧ (win0_5.index (pt i) 0 = i.val ∧ win0_5.index (pt i) 1 = 0) ∧ (win0_6.index (pt i) 0 = i.val ∧ win0_6.index (pt i) 1 = 0)
    ∧ (win0_7.index (pt i) 0 = i.val ∧ win0_7.index (pt i) 1 = 0) := by
  decide +kernel

theorem x_apply (c : Dev nD) (i : Fin 4) (r : Fin 512) (k : Fin 1024) :
    (iblk m c 0 (pt i) : Vec Ideal S512x1024 .f32) (ix2 r k) = (arr m c).x (ix2 (row i r) k) := by
  obtain ⟨⟨e0, e1⟩, -⟩ := idx_facts i
  rw [← o_x]
  unfold iblk
  rw [View.read_apply]
  show V m c main_arg0 _ = V m c main_arg0 _
  congr 1
  funext a; apply Fin.ext
  match a with
  | ⟨0, _⟩ => show win0_0.index (pt i) 0 * 512 + 1 * r.val = i.val * 512 + r.val; rw [e0]; omega
  | ⟨1, _⟩ => show win0_0.index (pt i) 1 * 1024 + 1 * k.val = k.val; rw [e1]; omega
theorem h_apply (c : Dev nD) (i q : Fin 4) (r : Fin 512) (k : Fin 704) :
    (iblk m c 1 (pt i) : Vec Ideal S4x512x704 .bf16) (ix3 q r k) = (arr m c).h (ix2 (row i r) (unit q k)) := by
  obtain ⟨-, ⟨e0, e1, e2⟩, -⟩ := idx_facts i
  rw [← o_h]
  unfold iblk
  rw [View.read_apply]
  show V m c main_v2 _ = V m c main_v2 _
  congr 1
  funext a; apply Fin.ext
  match a with
  | ⟨0, _⟩ => show win0_1.index (pt i) 0 * 4 + 1 * q.val = q.val; rw [e0]; omega
  | ⟨1, _⟩ => show win0_1.index (pt i) 1 * 512 + 1 * r.val = i.val * 512 + r.val; rw [e1]; omega
  | ⟨2, _⟩ => show win0_1.index (pt i) 2 * 704 + 1 * k.val = k.val; rw [e2]; omega
theorem w_apply (c : Dev nD) (i q : Fin 4) (k : Fin 704) (j : Fin 1024) :
    (iblk m c 2 (pt i) : Vec Ideal S4x704x1024 .bf16) (ix3 q k j) = (arr m c).w (ix2 (unit q k) j) := by
  obtain ⟨-, -, ⟨e0, e1, e2⟩, -⟩ := idx_facts i
  rw [← o_w]
  unfold iblk
  rw [View.read_apply]
  show V m c main_v4 _ = V m c main_v4 _
  congr 1
  funext a; apply Fin.ext
  match a with
  | ⟨0, _⟩ => show win0_2.index (pt i) 0 * 4 + 1 * q.val = q.val; rw [e0]; omega
  | ⟨1, _⟩ => show win0_2.index (pt i) 1 * 704 + 1 * k.val = k.val; rw [e1]; omega
  | ⟨2, _⟩ => show win0_2.index (pt i) 2 * 1024 + 1 * j.val = j.val; rw [e2]; omega
theorem g_apply (c : Dev nD) (i : Fin 4) (k : Fin 1024) : (iblk m c 3 (pt i) : Vec Ideal S1x1024 .f32) (ix2 0 k) = (arr m c).g (ix2 0 k) := by
  obtain ⟨-, -, -, ⟨e0, e1⟩, -⟩ := idx_facts i
  rw [← o_g]
  unfold iblk
  rw [View.read_apply]
  show V m c main_arg3 _ = V m c main_arg3 _
  congr 1
  funext a; apply Fin.ext
  match a with
  | ⟨0, _⟩ => show win0_3.index (pt i) 0 * 1 + 1 * 0 = 0; rw [e0]
  | ⟨1, _⟩ => show win0_3.index (pt i) 1 * 1024 + 1 * k.val = k.val; rw [e1]; omega
theorem s_apply (c : Dev nD) (i : Fin 4) (k : Fin 1024) : (iblk m c 4 (pt i) : Vec Ideal S1x1024 .f32) (ix2 0 k) = (arr m c).s (ix2 0 k) := by
  obtain ⟨-, -, -, -, ⟨e0, e1⟩, -⟩ := idx_facts i
  rw [← o_s]
  unfold iblk
  rw [View.read_apply]
  show V m c main_arg4 _ = V m c main_arg4 _
  congr 1
  funext a; apply Fin.ext
  match a with
  | ⟨0, _⟩ => show win0_4.index (pt i) 0 * 1 + 1 * 0 = 0; rw [e0]
  | ⟨1, _⟩ => show win0_4.index (pt i) 1 * 1024 + 1 * k.val = k.val; rw [e1]; omega

/-! ## A point's rows -/

abbrev zAt (c : Dev nD) (t : Fin cfg0.N) : FVec Ideal S512x1024 .f32 :=
  k0_pay4 (F := Ideal) (iblk m c 0 t) (iblk m c 1 t) (iblk m c 2 t) (iblk m c 3 t) (iblk m c 4 t)
abbrev yAt (c : Dev nD) (t : Fin cfg0.N) : FVec Ideal S512x1024 .f32 := norm (zAt m c t) (iblk m c 3 t) (iblk m c 4 t)

theorem zAt_apply (c : Dev nD) (i : Fin 4) (r : Fin 512) (j : Fin 1024) : zAt m c (pt i) (ix2 r j) = (arr m c).zE (row i r) j := by
  refine (held_apply _ _ _ _ _ r j).trans ?_
  simp only [x_apply, h_apply, w_apply]
  unfold Arr.zE
  rw [sum_groups]
theorem yAt_apply (c : Dev nD) (i : Fin 4) (r : Fin 512) (j : Fin 1024) : yAt m c (pt i) (ix2 r j) = (arr m c).yE (row i r) j := by
  refine (norm_apply _ _ _ r j).trans ?_
  simp only [zAt_apply, g_apply, s_apply]
  rfl

theorem left_z (c : Dev nD) (t : Fin cfg0.N) :
    out0_5 (iblk m c 0 t) (iblk m c 1 t) (iblk m c 2 t) (iblk m c 3 t) (iblk m c 4 t) = zAt m c t := by
  unfold out0_5
  rw [View.canon_unit_zero hz2]
theorem left_y (c : Dev nD) (t : Fin cfg0.N) :
    out0_6 (iblk m c 0 t) (iblk m c 1 t) (iblk m c 2 t) (iblk m c 3 t) (iblk m c 4 t) = yAt m c t := by
  unfold out0_6
  rw [View.canon_unit_zero hz2, norm_eq, View.ld_unit_zero (S := S1x1024) hz2, View.ld_unit_zero (S := S1x1024) hz2]
theorem left_yb (c : Dev nD) (t : Fin cfg0.N) :
    out0_7 (iblk m c 0 t) (iblk m c 1 t) (iblk m c 2 t) (iblk m c 3 t) (iblk m c 4 t) = truncf .bf16 (yAt m c t) bitsLt_bf16_f32 := by
  unfold out0_7 k0_pay2
  rw [View.canon_unit_zero hz2, norm_eq, View.ld_unit_zero (S := S1x1024) hz2, View.ld_unit_zero (S := S1x1024) hz2]

/-! ## The three result arrays -/

abbrev res5 (c : Dev nD) : FVec Ideal S2048x1024 .f32 := (dats m 0 c).arrAt 5 cfg0.N
abbrev res6 (c : Dev nD) : FVec Ideal S2048x1024 .f32 := (dats m 0 c).arrAt 6 cfg0.N
abbrev res7 (c : Dev nD) : FVec Ideal S2048x1024 .bf16 := (dats m 0 c).arrAt 7 cfg0.N

theorem emb5 (i : Fin 4) (r : Fin 512) (j : Fin 1024) : ((cfg0.win 5).blk (pt i)).view.emb (ix2 r j) = ix2 (row i r) j := by
  obtain ⟨-, -, -, -, -, ⟨e0, e1⟩, -⟩ := idx_facts i
  funext b; apply Fin.ext
  match b with
  | ⟨0, _⟩ => show win0_5.index (pt i) 0 * 512 + 1 * r.val = i.val * 512 + r.val; rw [e0]; omega
  | ⟨1, _⟩ => show win0_5.index (pt i) 1 * 1024 + 1 * j.val = j.val; rw [e1]; omega
theorem emb6 (i : Fin 4) (r : Fin 512) (j : Fin 1024) : ((cfg0.win 6).blk (pt i)).view.emb (ix2 r j) = ix2 (row i r) j := by
  obtain ⟨-, -, -, -, -, -, ⟨e0, e1⟩, -⟩ := idx_facts i
  funext b; apply Fin.ext
  match b with
  | ⟨0, _⟩ => show win0_6.index (pt i) 0 * 512 + 1 * r.val = i.val * 512 + r.val; rw [e0]; omega
  | ⟨1, _⟩ => show win0_6.index (pt i) 1 * 1024 + 1 * j.val = j.val; rw [e1]; omega
theorem emb7 (i : Fin 4) (r : Fin 512) (j : Fin 1024) : ((cfg0.win 7).blk (pt i)).view.emb (ix2 r j) = ix2 (row i r) j := by
  obtain ⟨-, -, -, -, -, -, -, e0, e1⟩ := idx_facts i
  funext b; apply Fin.ext
  match b with
  | ⟨0, _⟩ => show win0_7.index (pt i) 0 * 512 + 1 * r.val = i.val * 512 + r.val; rw [e0]; omega
  | ⟨1, _⟩ => show win0_7.index (pt i) 1 * 1024 + 1 * j.val = j.val; rw [e1]; omega

theorem res5_apply (c : Dev nD) (s : Fin 2048) (j : Fin 1024) : res5 m c (ix2 s j) = (arr m c).zE s j := by
  rw [← row_div s]
  generalize (⟨s.val / 512, _⟩ : Fin 4) = i
  generalize (⟨s.val % 512, _⟩ : Fin 512) = r
  have b := congrFun (Value.blocks5 m c (pt i) (flush0_5 _)) (ix2 r j)
  rw [Value.flushed5] at b
  have b' : res5 m c (((cfg0.win 5).blk (pt i)).view.emb (ix2 r j)) = _ := b
  rw [emb5] at b'
  exact b'.trans ((congrFun (left_z m c (pt i)) _).trans (zAt_apply m c i r j))
theorem res6_apply (c : Dev nD) (s : Fin 2048) (j : Fin 1024) : res6 m c (ix2 s j) = (arr m c).yE s j := by
  rw [← row_div s]
  generalize (⟨s.val / 512, _⟩ : Fin 4) = i
  generalize (⟨s.val % 512, _⟩ : Fin 512) = r
  have b := congrFun (Value.blocks6 m c (pt i) (flush0_6 _)) (ix2 r j)
  rw [Value.flushed6] at b
  have b' : res6 m c (((cfg0.win 6).blk (pt i)).view.emb (ix2 r j)) = _ := b
  rw [emb6] at b'
  exact b'.trans ((congrFun (left_y m c (pt i)) _).trans (yAt_apply m c i r j))
theorem res7_apply (c : Dev nD) (s : Fin 2048) (j : Fin 1024) : res7 m c (ix2 s j) = (arr m c).yE s j := by
  rw [← row_div s]
  generalize (⟨s.val / 512, _⟩ : Fin 4) = i
  generalize (⟨s.val % 512, _⟩ : Fin 512) = r
  have b := congrFun (Value.blocks7 m c (pt i) (flush0_7 _)) (ix2 r j)
  rw [Value.flushed7] at b
  have b' : res7 m c (((cfg0.win 7).blk (pt i)).view.emb (ix2 r j)) = _ := b
  rw [emb7] at b'
  exact b'.trans ((congrFun (left_yb m c (pt i)) _).trans (yAt_apply m c i r j))

end Cert.Fdn

end
-- ==== Proof.FdnClaim.lean ====
/- Hand-written: THE VALUE CLAIM OF THE SWIGLU'S DOWN CALL: its residual sum and norm are the reference's, on all arguments. -/
module

public import proofs.«01_k».proof.Defs
public import proofs.«01_k».proof.Proof.FdnKernel
public import proofs.«01_k».proof.Proof.MlnClaim
public import proofs.«01_k».proof.Proof.Gen.Reference9Ideal.Read

@[expose] public section

set_option maxRecDepth 16384

noncomputable section

namespace Cert.Fdn

open Idealize.ShloMosaic Idealize.ShloMosaic.TcCoe Idealize.SL.Sem
open Idealize.ShloMosaic.Pointwise
open Cert.Ple (Mat Row mixH affH nrmH mixH_apply affH_apply nrmH_apply)

section Reference
open Cert.Reference9Ideal Cert.Reference9Ideal.Gen Cert.Reference9Ideal.Read
variable (a : Arr)

def dnH (h : FVec Ideal S2048x2816 .f32) (w : FVec Ideal S2816x1024 .f32) : Mat :=
  Host.dotGeneral dot_S2048x2816_S2816x1024_S2048x1024_1_0_0_1_n_n none h w
theorem dnH_apply (h : FVec Ideal S2048x2816 .f32) (w : FVec Ideal S2816x1024 .f32) (s : Fin 2048) (j : Fin 1024) :
    dnH h w (ix2 s j) = ∑ p : Fin 2816, h (ix2 s p) * w (ix2 p j) := by
  unfold dnH
  pointwise
/-- The reference's residual sum and norm. -/
def zR : Mat := mixH a.x (dnH a.h a.w)
def yR : Mat := affH (nrmH (zR a)) a.g a.s

theorem zR_apply (s : Fin 2048) (j : Fin 1024) : zR a (ix2 s j) = a.zE s j :=
  (mixH_apply _ _ s j).trans (congrArg (Ideal.ofBits .f32 0x3FB504F3#32 * a.x (ix2 s j) + · : EReal → EReal) (dnH_apply _ _ s j))
theorem yR_apply (s : Fin 2048) (j : Fin 1024) : yR a (ix2 s j) = a.yE s j := by
  refine (affH_apply _ _ _ s j).trans ?_
  rw [nrmH_apply]
  simp only [zR_apply]
  rfl

theorem z_eq : val_main_v3 (F := Ideal) a.x a.h a.w = zR a := rfl
theorem y_eq : val_main_v25 (F := Ideal) a.x a.h a.w a.g a.s = yR a := by
  unfold yR
  rw [← z_eq]
  rfl
theorem yb_eq : val_main_v26 (F := Ideal) a.x a.h a.w a.g a.s = truncf .bf16 (yR a) bitsLt_bf16_f32 := by
  rw [← y_eq]
  rfl

end Reference

/-- The reference leaves its arguments and, having no semaphore, no counter. -/
theorem ref_frame : Cert.quiescent_Reference9Ideal (hReference9Ideal := Cert.Reference9Ideal.Gen.facts) := fun m g _ =>
  (θ_run Cert.Reference9Ideal.defs _ _).mono (fun r h => And.intro (fun c => (h c).2.2.2) (sem_eq_zero_of_no_sems rfl r.2)) (Cert.Reference9Ideal.Value.run m g)

theorem algebraic : Cert.algebraic_Kernel9Ideal_Reference9Ideal (hKernel9Ideal := Cert.Kernel9Ideal.Gen.facts)
    (hReference9Ideal := Cert.Reference9Ideal.Gen.facts) := by
  intro m g m' g' _ hargs
  refine ⟨fun c => res5 m c, fun c => res6 m c, fun c => res7 m c, Cert.Kernel9Ideal.Value.run_blocks m g, ?_⟩
  refine (θ_run Cert.Reference9Ideal.defs _ _).mono (fun r h c => ?_) (Cert.Reference9Ideal.Value.run m' g')
  obtain ⟨r0, r1, r2, hk⟩ := h c
  obtain ⟨a0, a1, a2, a3, a4⟩ := hargs c
  refine ⟨?_, ?_, ?_, hk⟩
  · rw [r0, a0, a1, a2]
    exact (z_eq (arr m c)).trans (Mln.mat_ext fun s j => (zR_apply _ s j).trans (res5_apply m c s j).symm)
  · rw [r1, a0, a1, a2, a3, a4]
    exact (y_eq (arr m c)).trans (Mln.mat_ext fun s j => (yR_apply _ s j).trans (res6_apply m c s j).symm)
  · rw [r2, a0, a1, a2, a3, a4]
    exact (yb_eq (arr m c)).trans (Mln.mat_ext fun s j => (yR_apply _ s j).trans (res7_apply m c s j).symm)

end Cert.Fdn

end
-- ==== Proof.ProdSpec.lean ====
/- Hand-written: SUMS OVER A WIDE ROW, BLOCK BY BLOCK, as the input products' calls take them. -/
module

public import proofs.«01_k».proof.Proof.FfnSpec
public import proofs.«01_k».proof.Proof.MixSpec

@[expose] public section

noncomputable section

namespace Cert.Prod

open Idealize.ShloMosaic
open Cert.Ffn (col)

/-- Column `k` of block `p`, of eight blocks of `b` columns. -/
def place {b : ℕ} (p : Fin 8) (k : Fin b) : Fin (8 * b) := finProdFinEquiv (p, k)

/-- A sum over eight blocks. -/
theorem sum_blocks {b : ℕ} (f : Fin (8 * b) → EReal) : ∑ p, f p = ∑ p : Fin 8, ∑ k : Fin b, f (place p k) := by
  have e : ∑ p, f p = ∑ i : Fin 8 × Fin b, f (finProdFinEquiv i) := (Equiv.sum_comp (finProdFinEquiv (m := 8) (n := b)) f).symm
  rw [e, Fintype.sum_prod_type]
  rfl

theorem place_val {b : ℕ} (p : Fin 8) (k : Fin b) : (place p k).val = k.val + b * p.val := rfl

/-- The gate and up columns, group by group. -/
theorem sum_cols (f : Fin 5632 → EReal) : ∑ p, f p = ∑ g : Fin 2, ∑ q : Fin 4, ∑ k : Fin 704, f (col g q k) := by
  refine (sum_blocks (b := 704) f).trans ?_
  have e : ∑ p : Fin 8, ∑ k : Fin 704, f (place p k) = ∑ i : Fin 2 × Fin 4, ∑ k : Fin 704, f (place (finProdFinEquiv i) k) :=
    (Equiv.sum_comp (finProdFinEquiv (m := 2) (n := 4)) fun p : Fin 8 => ∑ k : Fin 704, f (place p k)).symm
  rw [e, Fintype.sum_prod_type]
  refine Finset.sum_congr rfl fun g _ => Finset.sum_congr rfl fun q _ => Finset.sum_congr rfl fun k _ => congrArg f (Fin.ext ?_)
  rw [place_val]
  show k.val + 704 * (q.val + 4 * g.val) = _
  unfold col
  first | (dsimp only; omega) | (simp only [Cert.Ffn.unit]; omega)

/-- The projected columns, block by block. -/
theorem sum_wide (f : Fin 4096 → EReal) : ∑ p, f p = ∑ p : Fin 8, ∑ k : Fin 512, f (place p k) := sum_blocks (b := 512) f

end Cert.Prod

end
-- ==== Proof.InpProd.lean ====
/- Hand-written: THE PRODUCT BY THE GATE AND UP WEIGHT'S TRANSPOSE, with the residual sum's gradient: the call's operands, one
   point's rows, the array it leaves, and the value claim. -/
module

public import proofs.«01_k».proof.Defs
public import proofs.«01_k».proof.Proof.ProdSpec
public import proofs.«01_k».proof.Proof.Gen.Kernel11Ideal.Value
public import proofs.«01_k».proof.Proof.Gen.Reference11Ideal.Read
public import Idealize.ShloMosaic.Lib.Pointwise
public import Idealize.ShloMosaic.Lib.Quiescent

@[expose] public section

set_option maxRecDepth 16384

noncomputable section

namespace Cert.Inp

open Idealize.ShloMosaic Idealize.ShloMosaic.TcCoe Idealize.SL.Sem
open Idealize.ShloMosaic.Pointwise
open Cert.Kernel11Ideal Cert.Kernel11Ideal.Gen
open Cert.Ffn (col)
open Cert.Prod (sum_cols)
open Cert.Mixout (row row_div)

/-- The arguments as arrays: the residual sum's gradient, the gate and up rows' gradient, the weight. -/
structure Arr where
  z : FVec Ideal S2048x1024 .f32
  d : FVec Ideal S2048x5632 .f32
  w : FVec Ideal S1024x5632 .f32

/-- The gradient, element by element. -/
def Arr.out (a : Arr) (s : Fin 2048) (j : Fin 1024) : EReal :=
  Ideal.ofBits .f32 0x3FB504F3#32 * a.z (ix2 s j) + ∑ p : Fin 5632, a.d (ix2 s p) * a.w (ix2 j p)

theorem hz2 : (![0, 0] : Fin 2 → Nat) = fun _ => 0 := by decide

/-! ## One point -/

/-- What one block of columns adds. -/
def term (d : Vec Ideal S1x1x512x704 .bf16) (w : Vec Ideal S1x1x704x1024 .bf16) (r : Fin 512) (j : Fin 1024) : EReal :=
  ∑ k : Fin 704, d (ix4 0 0 r k) * w (ix4 0 0 k j)

theorem sum_apply (x : Vec Ideal S512x1024 .f32) (d0 d1 d2 d3 d4 d5 d6 d7 : Vec Ideal S1x1x512x704 .bf16)
    (w0 w1 w2 w3 w4 w5 w6 w7 : Vec Ideal S1x1x704x1024 .bf16) (r : Fin 512) (j : Fin 1024) :
    k0_pay1 (F := Ideal) (k0_pay4 (k0_pay2 x d0 w0 d1 w1 d2 w2) (k0_pay3 d3) w3 d4 w4 d5 w5 d6 w6) (k0_pay5 d7) w7 (ix2 r j)
      = Ideal.ofBits .f32 0x3FB504F3#32 * x (ix2 r j) + term d0 w0 r j + term d1 w1 r j + term d2 w2 r j + term d3 w3 r j
        + term d4 w4 r j + term d5 w5 r j + term d6 w6 r j + term d7 w7 r j := by
  unfold k0_pay1 k0_pay4 k0_pay2 k0_pay3 k0_pay5 term
  pointwise

theorem term_ld (d : Vec Ideal S2x4x512x704 .bf16) (w : Vec Ideal S2x4x704x1024 .bf16) (g : Fin 2) (q : Fin 4) (id iw) (r : Fin 512) (j : Fin 1024) :
    term (View.ld d (Rect.unit (s := S2x4x512x704) ![g.val, q.val, 0, 0] S1x1x512x704.size id))
      (View.ld w (Rect.unit (s := S2x4x704x1024) ![g.val, q.val, 0, 0] S1x1x704x1024.size iw)) r j
      = ∑ k : Fin 704, d (ix4 g q r k) * w (ix4 g q k j) := by
  refine Finset.sum_congr rfl fun k _ => congrArg₂ (· * · : EReal → EReal → EReal)
    (congrArg d (funext fun a => Fin.ext ?_)) (congrArg w (funext fun a => Fin.ext ?_))
  · match a with
    | ⟨0, _⟩ => show g.val + 1 * 0 = g.val; omega
    | ⟨1, _⟩ => show q.val + 1 * 0 = q.val; omega
    | ⟨2, _⟩ => show 0 + 1 * r.val = r.val; omega
    | ⟨3, _⟩ => show 0 + 1 * k.val = k.val; omega
  · match a with
    | ⟨0, _⟩ => show g.val + 1 * 0 = g.val; omega
    | ⟨1, _⟩ => show q.val + 1 * 0 = q.val; omega
    | ⟨2, _⟩ => show 0 + 1 * k.val = k.val; omega
    | ⟨3, _⟩ => show 0 + 1 * j.val = j.val; omega

theorem in_d (g : Fin 2) (q : Fin 4) : ∀ a, (![g.val, q.val, 0, 0] : Fin 4 → Nat) a + S1x1x512x704.size a ≤ S2x4x512x704.size a := by
  revert g q
  decide
theorem in_w (g : Fin 2) (q : Fin 4) : ∀ a, (![g.val, q.val, 0, 0] : Fin 4 → Nat) a + S1x1x704x1024.size a ≤ S2x4x704x1024.size a := by
  revert g q
  decide

theorem left_apply (x : Vec Ideal S512x1024 .f32) (d : Vec Ideal S2x4x512x704 .bf16) (w : Vec Ideal S2x4x704x1024 .bf16) (r : Fin 512) (j : Fin 1024) :
    out0_3 x d w (ix2 r j) = Ideal.ofBits .f32 0x3FB504F3#32 * x (ix2 r j) + ∑ g : Fin 2, ∑ q : Fin 4, ∑ k : Fin 704, d (ix4 g q r k) * w (ix4 g q k j) := by
  unfold out0_3
  rw [View.canon_unit_zero hz2]
  refine (sum_apply _ _ _ _ _ _ _ _ _ _ _ _ _ _ _ _ _ r j).trans ?_
  rw [View.ld_unit_zero (S := S512x1024) hz2]
  simp only [← term_ld d w _ _ (in_d _ _) (in_w _ _), Fin.sum_univ_two, Fin.sum_univ_four, ← add_assoc]
  rfl

/-! ## The operands -/

variable (m : (ℓ : Loc nD τ sig) → Buf (Elt Ideal) ℓ)

def arr (c : Dev nD) : Arr := ⟨m (c.tc.loc main_arg0), m (c.tc.loc main_arg1), m (c.tc.loc main_arg2)⟩

theorem o_z (c : Dev nD) : (V m c main_arg0 : Vec Ideal S2048x1024 .f32) = (arr m c).z := by
  unfold V
  after_results
  rfl
theorem o_d (c : Dev nD) (g : Fin 2) (q : Fin 4) (s : Fin 2048) (k : Fin 704) :
    (V m c main_v2 : FVec Ideal S2x4x2048x704 .bf16) (ix4 g q s k) = (arr m c).d (ix2 s (col g q k)) := by
  have e : (V m c main_v2 : FVec Ideal S2x4x2048x704 .bf16) = truncf .bf16 (transpose S2x4x2048x704 [1, 2, 0, 3]
      (shapeCast S2048x2x4x704 (arr m c).d shapeCasts_S2048x5632_S2048x2x4x704) transposes_S2048x2x4x704_S2x4x2048x704_1_2_0_3) bitsLt_bf16_f32 := by
    unfold V
    after_results
    rfl
  rw [e]
  generalize (arr m c).d = d
  pointwise
  rfl
theorem o_w (c : Dev nD) (g : Fin 2) (q : Fin 4) (k : Fin 704) (j : Fin 1024) :
    (V m c main_v5 : FVec Ideal S2x4x704x1024 .bf16) (ix4 g q k j) = (arr m c).w (ix2 j (col g q k)) := by
  have e : (V m c main_v5 : FVec Ideal S2x4x704x1024 .bf16) = shapeCast S2x4x704x1024
      (truncf .bf16 (transpose S5632x1024 [1, 0] (arr m c).w transposes_S1024x5632_S5632x1024_1_0) bitsLt_bf16_f32) shapeCasts_S5632x1024_S2x4x704x1024 := by
    unfold V
    after_results
    rfl
  rw [e]
  generalize (arr m c).w = w
  pointwise
  rfl

/-! ## Blocks -/

/-- The grid's point for row block `i`. -/
def pt (i : Fin 4) : Fin cfg0.N := ⟨i.val, by rw [show cfg0.N = 4 from N_0]; omega⟩

theorem idx_facts : ∀ i : Fin 4, (win0_0.index (pt i) 0 = i.val ∧ win0_0.index (pt i) 1 = 0)
    ∧ (win0_1.index (pt i) 0 = 0 ∧ win0_1.index (pt i) 1 = 0 ∧ win0_1.index (pt i) 2 = i.val ∧ win0_1.index (pt i) 3 = 0)
    ∧ (win0_2.index (pt i) 0 = 0 ∧ win0_2.index (pt i) 1 = 0 ∧ win0_2.index (pt i) 2 = 0 ∧ win0_2.index (pt i) 3 = 0)
    ∧ (win0_3.index (pt i) 0 = i.val ∧ win0_3.index (pt i) 1 = 0) := by
  decide +kernel

theorem z_apply (c : Dev nD) (i : Fin 4) (r : Fin 512) (j : Fin 1024) :
    (iblk m c 0 (pt i) : Vec Ideal S512x1024 .f32) (ix2 r j) = (arr m c).z (ix2 (row i r) j) := by
  obtain ⟨⟨e0, e1⟩, -⟩ := idx_facts i
  rw [← o_z]
  unfold iblk
  rw [View.read_apply]
  show V m c main_arg0 _ = V m c main_arg0 _
  congr 1
  funext a; apply Fin.ext
  match a with
  | ⟨0, _⟩ => show win0_0.index (pt i) 0 * 512 + 1 * r.val = i.val * 512 + r.val; rw [e0]; omega
  | ⟨1, _⟩ => show win0_0.index (pt i) 1 * 1024 + 1 * j.val = j.val; rw [e1]; omega
theorem d_apply (c : Dev nD) (i : Fin 4) (g : Fin 2) (q : Fin 4) (r : Fin 512) (k : Fin 704) :
    (iblk m c 1 (pt i) : Vec Ideal S2x4x512x704 .bf16) (ix4 g q r k) = (arr m c).d (ix2 (row i r) (col g q k)) := by
  obtain ⟨-, ⟨e0, e1, e2, e3⟩, -⟩ := idx_facts i
  rw [← o_d]
  unfold iblk
  rw [View.read_apply]
  show V m c main_v2 _ = V m c main_v2 _
  congr 1
  funext a; apply Fin.ext
  match a with
  | ⟨0, _⟩ => show win0_1.index (pt i) 0 * 2 + 1 * g.val = g.val; rw [e0]; omega
  | ⟨1, _⟩ => show win0_1.index (pt i) 1 * 4 + 1 * q.val = q.val; rw [e1]; omega
  | ⟨2, _⟩ => show win0_1.index (pt i) 2 * 512 + 1 * r.val = i.val * 512 + r.val; rw [e2]; omega
  | ⟨3, _⟩ => show win0_1.index (pt i) 3 * 704 + 1 * k.val = k.val; rw [e3]; omega
theorem w_apply (c : Dev nD) (i : Fin 4) (g : Fin 2) (q : Fin 4) (k : Fin 704) (j : Fin 1024) :
    (iblk m c 2 (pt i) : Vec Ideal S2x4x704x1024 .bf16) (ix4 g q k j) = (arr m c).w (ix2 j (col g q k)) := by
  obtain ⟨-, -, ⟨e0, e1, e2, e3⟩, -⟩ := idx_facts i
  rw [← o_w]
  unfold iblk
  rw [View.read_apply]
  show V m c main_v5 _ = V m c main_v5 _
  congr 1
  funext a; apply Fin.ext
  match a with
  | ⟨0, _⟩ => show win0_2.index (pt i) 0 * 2 + 1 * g.val = g.val; rw [e0]; omega
  | ⟨1, _⟩ => show win0_2.index (pt i) 1 * 4 + 1 * q.val = q.val; rw [e1]; omega
  | ⟨2, _⟩ => show win0_2.index (pt i) 2 * 704 + 1 * k.val = k.val; rw [e2]; omega
  | ⟨3, _⟩ => show win0_2.index (pt i) 3 * 1024 + 1 * j.val = j.val; rw [e3]; omega

/-! ## The result array -/

abbrev res3 (c : Dev nD) : FVec Ideal S2048x1024 .f32 := (dats m 0 c).arrAt 3 cfg0.N

theorem res3_apply (c : Dev nD) (s : Fin 2048) (j : Fin 1024) : res3 m c (ix2 s j) = (arr m c).out s j := by
  rw [← row_div s]
  generalize (⟨s.val / 512, _⟩ : Fin 4) = i
  generalize (⟨s.val % 512, _⟩ : Fin 512) = r
  have b := congrFun (Value.blocks3 m c (pt i) (flush0_3 _)) (ix2 r j)
  rw [Value.flushed3] at b
  have e : ((cfg0.win 3).blk (pt i)).view.emb (ix2 r j) = ix2 (row i r) j := by
    obtain ⟨-, -, -, e0, e1⟩ := idx_facts i
    funext b; apply Fin.ext
    match b with
    | ⟨0, _⟩ => show win0_3.index (pt i) 0 * 512 + 1 * r.val = i.val * 512 + r.val; rw [e0]; omega
    | ⟨1, _⟩ => show win0_3.index (pt i) 1 * 1024 + 1 * j.val = j.val; rw [e1]; omega
  have b' : res3 m c (((cfg0.win 3).blk (pt i)).view.emb (ix2 r j)) = _ := b
  rw [e] at b'
  refine b'.trans ((left_apply _ _ _ r j).trans ?_)
  simp only [z_apply, d_apply, w_apply]
  unfold Arr.out
  rw [sum_cols]

/-! ## The reference -/

section Reference
open Cert.Reference11Ideal Cert.Reference11Ideal.Gen Cert.Reference11Ideal.Read

theorem ref_apply (a : Arr) (s : Fin 2048) (j : Fin 1024) : val_main_v7 (F := Ideal) a.z a.d a.w (ix2 s j) = a.out s j := by
  have e : val_main_v7 (F := Ideal) a.z a.d a.w = addf (Host.dotGeneral dot_S2048x5632_S1024x5632_S2048x1024_1_1_0_0_n_n none a.d a.w)
    (mulf (broadcastInDim Cert.Reference11Ideal.S2048x1024 ![] bcast_S_S2048x1024 (constant S_ .f32 0x3FB504F3#32)) a.z) := rfl
  rw [e]
  unfold Arr.out
  rw [add_comm]
  pointwise

end Reference

/-- The reference leaves its arguments and, having no semaphore, no counter. -/
theorem ref_frame : Cert.quiescent_Reference11Ideal (hReference11Ideal := Cert.Reference11Ideal.Gen.facts) := fun m g _ =>
  (θ_run Cert.Reference11Ideal.defs _ _).mono (fun r h => And.intro (fun c => (h c).2) (sem_eq_zero_of_no_sems rfl r.2)) (Cert.Reference11Ideal.Value.run m g)

theorem algebraic : Cert.algebraic_Kernel11Ideal_Reference11Ideal (hKernel11Ideal := Cert.Kernel11Ideal.Gen.facts)
    (hReference11Ideal := Cert.Reference11Ideal.Gen.facts) := by
  intro m g m' g' _ hargs
  refine ⟨fun c => res3 m c, Cert.Kernel11Ideal.Value.run_blocks m g, ?_⟩
  refine (θ_run Cert.Reference11Ideal.defs _ _).mono (fun r h c => ?_) (Cert.Reference11Ideal.Value.run m' g')
  obtain ⟨r0, hk⟩ := h c
  obtain ⟨a0, a1, a2⟩ := hargs c
  refine ⟨?_, hk⟩
  rw [r0, a0, a1, a2]
  refine funext fun i => ?_
  rw [eq_ix2 i]
  exact (ref_apply (arr m c) (i 0) (i 1)).trans (res3_apply m c (i 0) (i 1)).symm

end Cert.Inp

end
-- ==== Proof.AinProd.lean ====
/- Hand-written: THE PRODUCT BY THE ATTENTION INPUT WEIGHT'S TRANSPOSE, with the residual sum's gradient: the call's operands, one
   point's rows, the array it leaves, and the value claim. -/
module

public import proofs.«01_k».proof.Defs
public import proofs.«01_k».proof.Proof.ProdSpec
public import proofs.«01_k».proof.Proof.Gen.Kernel12Ideal.Value
public import proofs.«01_k».proof.Proof.Gen.Reference12Ideal.Read
public import Idealize.ShloMosaic.Lib.Pointwise
public import Idealize.ShloMosaic.Lib.Quiescent

@[expose] public section

set_option maxRecDepth 16384

noncomputable section

namespace Cert.Ain

open Idealize.ShloMosaic Idealize.ShloMosaic.TcCoe Idealize.SL.Sem
open Idealize.ShloMosaic.Pointwise
open Cert.Kernel12Ideal Cert.Kernel12Ideal.Gen
open Cert.Prod (place sum_wide)
open Cert.Mixout (row row_div)

/-- The arguments as arrays: the residual sum's gradient, the projected rows' gradient, the weight. -/
structure Arr where
  z : FVec Ideal S2048x1024 .f32
  d : FVec Ideal S2048x4096 .f32
  w : FVec Ideal S1024x4096 .f32

/-- The gradient, element by element. -/
def Arr.out (a : Arr) (s : Fin 2048) (j : Fin 1024) : EReal :=
  Ideal.ofBits .f32 0x3FB504F3#32 * a.z (ix2 s j) + ∑ p : Fin 4096, a.d (ix2 s p) * a.w (ix2 j p)

theorem hz2 : (![0, 0] : Fin 2 → Nat) = fun _ => 0 := by decide

/-! ## One point -/

/-- What one block of columns adds. -/
def term (d : Vec Ideal S1x512x512 .bf16) (w : Vec Ideal S1x1024x512 .bf16) (r : Fin 512) (j : Fin 1024) : EReal :=
  ∑ k : Fin 512, d (ix3 0 r k) * w (ix3 0 j k)

theorem sum_apply (x : Vec Ideal S512x1024 .f32) (d0 d1 d2 d3 d4 d5 d6 d7 : Vec Ideal S1x512x512 .bf16)
    (w0 w1 w2 w3 w4 w5 w6 w7 : Vec Ideal S1x1024x512 .bf16) (r : Fin 512) (j : Fin 1024) :
    k0_pay1 (F := Ideal) (k0_pay2 x d0 w0 d1 w1 d2 w2 d3 w3) d4 w4 d5 w5 d6 w6 d7 w7 (ix2 r j)
      = Ideal.ofBits .f32 0x3FB504F3#32 * x (ix2 r j) + term d0 w0 r j + term d1 w1 r j + term d2 w2 r j + term d3 w3 r j
        + term d4 w4 r j + term d5 w5 r j + term d6 w6 r j + term d7 w7 r j := by
  unfold k0_pay1 k0_pay2 term
  pointwise

/-- Block `p`'s band of 1024 columns, and its column `k` inside the band. -/
def band (p : Fin 8) : Fin 4 := ⟨p.val / 2, by omega⟩
def half (p : Fin 8) (k : Fin 512) : Fin 1024 := ⟨p.val % 2 * 512 + k.val, by omega⟩

theorem in_d (p : Fin 8) : ∀ a, (![p.val / 2, 0, p.val % 2 * 512] : Fin 3 → Nat) a + S1x512x512.size a ≤ S4x512x1024.size a := by
  revert p
  decide
theorem in_w (p : Fin 8) : ∀ a, (![p.val, 0, 0] : Fin 3 → Nat) a + S1x1024x512.size a ≤ S8x1024x512.size a := by
  revert p
  decide

theorem term_ld (d : Vec Ideal S4x512x1024 .bf16) (w : Vec Ideal S8x1024x512 .bf16) (p : Fin 8) (id iw) (r : Fin 512) (j : Fin 1024) :
    term (View.ld d (Rect.unit (s := S4x512x1024) ![p.val / 2, 0, p.val % 2 * 512] S1x512x512.size id))
      (View.ld w (Rect.unit (s := S8x1024x512) ![p.val, 0, 0] S1x1024x512.size iw)) r j
      = ∑ k : Fin 512, d (ix3 (band p) r (half p k)) * w (ix3 p j k) := by
  refine Finset.sum_congr rfl fun k _ => congrArg₂ (· * · : EReal → EReal → EReal)
    (congrArg d (funext fun a => Fin.ext ?_)) (congrArg w (funext fun a => Fin.ext ?_))
  · match a with
    | ⟨0, _⟩ => show p.val / 2 + 1 * 0 = p.val / 2; omega
    | ⟨1, _⟩ => show 0 + 1 * r.val = r.val; omega
    | ⟨2, _⟩ => show p.val % 2 * 512 + 1 * k.val = p.val % 2 * 512 + k.val; omega
  · match a with
    | ⟨0, _⟩ => show p.val + 1 * 0 = p.val; omega
    | ⟨1, _⟩ => show 0 + 1 * j.val = j.val; omega
    | ⟨2, _⟩ => show 0 + 1 * k.val = k.val; omega

theorem left_apply (x : Vec Ideal S512x1024 .f32) (d : Vec Ideal S4x512x1024 .bf16) (w : Vec Ideal S8x1024x512 .bf16) (r : Fin 512) (j : Fin 1024) :
    out0_3 x d w (ix2 r j) = Ideal.ofBits .f32 0x3FB504F3#32 * x (ix2 r j) + ∑ p : Fin 8, ∑ k : Fin 512, d (ix3 (band p) r (half p k)) * w (ix3 p j k) := by
  unfold out0_3
  rw [View.canon_unit_zero hz2]
  refine (sum_apply _ _ _ _ _ _ _ _ _ _ _ _ _ _ _ _ _ r j).trans ?_
  rw [View.ld_unit_zero (S := S512x1024) hz2]
  simp only [← term_ld d w _ (in_d _) (in_w _), Fin.sum_univ_eight, ← add_assoc]
  rfl

/-! ## The operands -/

variable (m : (ℓ : Loc nD τ sig) → Buf (Elt Ideal) ℓ)

def arr (c : Dev nD) : Arr := ⟨m (c.tc.loc main_arg0), m (c.tc.loc main_arg1), m (c.tc.loc main_arg2)⟩

theorem o_z (c : Dev nD) : (V m c main_arg0 : Vec Ideal S2048x1024 .f32) = (arr m c).z := by
  unfold V
  after_results
  rfl
theorem o_d (c : Dev nD) (b : Fin 4) (s : Fin 2048) (h : Fin 1024) :
    (V m c main_v2 : FVec Ideal S4x2048x1024 .bf16) (ix3 b s h) = (arr m c).d (ix2 s ⟨b.val * 1024 + h.val, by omega⟩) := by
  have e : (V m c main_v2 : FVec Ideal S4x2048x1024 .bf16) = truncf .bf16 (transpose S4x2048x1024 [1, 0, 2]
      (shapeCast S2048x4x1024 (arr m c).d shapeCasts_S2048x4096_S2048x4x1024) transposes_S2048x4x1024_S4x2048x1024_1_0_2) bitsLt_bf16_f32 := by
    unfold V
    after_results
    rfl
  rw [e]
  generalize (arr m c).d = d
  pointwise
theorem o_w (c : Dev nD) (p : Fin 8) (j : Fin 1024) (k : Fin 512) :
    (V m c main_v5 : FVec Ideal S8x1024x512 .bf16) (ix3 p j k) = (arr m c).w (ix2 j ⟨p.val * 512 + k.val, by omega⟩) := by
  have e : (V m c main_v5 : FVec Ideal S8x1024x512 .bf16) = truncf .bf16 (transpose S8x1024x512 [1, 0, 2]
      (shapeCast S1024x8x512 (arr m c).w shapeCasts_S1024x4096_S1024x8x512) transposes_S1024x8x512_S8x1024x512_1_0_2) bitsLt_bf16_f32 := by
    unfold V
    after_results
    rfl
  rw [e]
  generalize (arr m c).w = w
  pointwise

/-- Both operands' places are the wide row's own column. -/
theorem place_half (p : Fin 8) (k : Fin 512) : (⟨(band p).val * 1024 + (half p k).val, by omega⟩ : Fin 4096) = place p k :=
  Fin.ext (by rw [Cert.Prod.place_val]; unfold band half; dsimp only; omega)
theorem place_eq (p : Fin 8) (k : Fin 512) : (⟨p.val * 512 + k.val, by omega⟩ : Fin 4096) = place p k :=
  Fin.ext (by rw [Cert.Prod.place_val]; dsimp only; omega)

/-! ## Blocks -/

/-- The grid's point for row block `i`. -/
def pt (i : Fin 4) : Fin cfg0.N := ⟨i.val, by rw [show cfg0.N = 4 from N_0]; omega⟩

theorem idx_facts : ∀ i : Fin 4, (win0_0.index (pt i) 0 = i.val ∧ win0_0.index (pt i) 1 = 0)
    ∧ (win0_1.index (pt i) 0 = 0 ∧ win0_1.index (pt i) 1 = i.val ∧ win0_1.index (pt i) 2 = 0)
    ∧ (win0_2.index (pt i) 0 = 0 ∧ win0_2.index (pt i) 1 = 0 ∧ win0_2.index (pt i) 2 = 0)
    ∧ (win0_3.index (pt i) 0 = i.val ∧ win0_3.index (pt i) 1 = 0) := by
  decide +kernel

theorem z_apply (c : Dev nD) (i : Fin 4) (r : Fin 512) (j : Fin 1024) :
    (iblk m c 0 (pt i) : Vec Ideal S512x1024 .f32) (ix2 r j) = (arr m c).z (ix2 (row i r) j) := by
  obtain ⟨⟨e0, e1⟩, -⟩ := idx_facts i
  rw [← o_z]
  unfold iblk
  rw [View.read_apply]
  show V m c main_arg0 _ = V m c main_arg0 _
  congr 1
  funext a; apply Fin.ext
  match a with
  | ⟨0, _⟩ => show win0_0.index (pt i) 0 * 512 + 1 * r.val = i.val * 512 + r.val; rw [e0]; omega
  | ⟨1, _⟩ => show win0_0.index (pt i) 1 * 1024 + 1 * j.val = j.val; rw [e1]; omega
theorem d_apply (c : Dev nD) (i : Fin 4) (p : Fin 8) (r k : Fin 512) :
    (iblk m c 1 (pt i) : Vec Ideal S4x512x1024 .bf16) (ix3 (band p) r (half p k)) = (arr m c).d (ix2 (row i r) (place p k)) := by
  obtain ⟨-, ⟨e0, e1, e2⟩, -⟩ := idx_facts i
  rw [← place_half p k, ← o_d]
  unfold iblk
  rw [View.read_apply]
  show V m c main_v2 _ = V m c main_v2 _
  congr 1
  generalize band p = b
  generalize half p k = h
  funext a; apply Fin.ext
  match a with
  | ⟨0, _⟩ => show win0_1.index (pt i) 0 * 4 + 1 * b.val = b.val; rw [e0]; omega
  | ⟨1, _⟩ => show win0_1.index (pt i) 1 * 512 + 1 * r.val = i.val * 512 + r.val; rw [e1]; omega
  | ⟨2, _⟩ => show win0_1.index (pt i) 2 * 1024 + 1 * h.val = h.val; rw [e2]; omega
theorem w_apply (c : Dev nD) (i : Fin 4) (p : Fin 8) (j : Fin 1024) (k : Fin 512) :
    (iblk m c 2 (pt i) : Vec Ideal S8x1024x512 .bf16) (ix3 p j k) = (arr m c).w (ix2 j (place p k)) := by
  obtain ⟨-, -, ⟨e0, e1, e2⟩, -⟩ := idx_facts i
  rw [← place_eq p k, ← o_w]
  unfold iblk
  rw [View.read_apply]
  show V m c main_v5 _ = V m c main_v5 _
  congr 1
  funext a; apply Fin.ext
  match a with
  | ⟨0, _⟩ => show win0_2.index (pt i) 0 * 8 + 1 * p.val = p.val; rw [e0]; omega
  | ⟨1, _⟩ => show win0_2.index (pt i) 1 * 1024 + 1 * j.val = j.val; rw [e1]; omega
  | ⟨2, _⟩ => show win0_2.index (pt i) 2 * 512 + 1 * k.val = k.val; rw [e2]; omega

/-! ## The result array -/

abbrev res3 (c : Dev nD) : FVec Ideal S2048x1024 .f32 := (dats m 0 c).arrAt 3 cfg0.N

theorem res3_apply (c : Dev nD) (s : Fin 2048) (j : Fin 1024) : res3 m c (ix2 s j) = (arr m c).out s j := by
  rw [← row_div s]
  generalize (⟨s.val / 512, _⟩ : Fin 4) = i
  generalize (⟨s.val % 512, _⟩ : Fin 512) = r
  have b := congrFun (Value.blocks3 m c (pt i) (flush0_3 _)) (ix2 r j)
  rw [Value.flushed3] at b
  have e : ((cfg0.win 3).blk (pt i)).view.emb (ix2 r j) = ix2 (row i r) j := by
    obtain ⟨-, -, -, e0, e1⟩ := idx_facts i
    funext b; apply Fin.ext
    match b with
    | ⟨0, _⟩ => show win0_3.index (pt i) 0 * 512 + 1 * r.val = i.val * 512 + r.val; rw [e0]; omega
    | ⟨1, _⟩ => show win0_3.index (pt i) 1 * 1024 + 1 * j.val = j.val; rw [e1]; omega
  have b' : res3 m c (((cfg0.win 3).blk (pt i)).view.emb (ix2 r j)) = _ := b
  rw [e] at b'
  refine b'.trans ((left_apply _ _ _ r j).trans ?_)
  simp only [z_apply, d_apply, w_apply]
  unfold Arr.out
  rw [sum_wide]

/-! ## The reference -/

section Reference
open Cert.Reference12Ideal Cert.Reference12Ideal.Gen Cert.Reference12Ideal.Read

theorem ref_apply (a : Arr) (s : Fin 2048) (j : Fin 1024) : val_main_v7 (F := Ideal) a.z a.d a.w (ix2 s j) = a.out s j := by
  have e : val_main_v7 (F := Ideal) a.z a.d a.w = addf (Host.dotGeneral dot_S2048x4096_S1024x4096_S2048x1024_1_1_0_0_n_n none a.d a.w)
    (mulf (broadcastInDim Cert.Reference12Ideal.S2048x1024 ![] bcast_S_S2048x1024 (constant S_ .f32 0x3FB504F3#32)) a.z) := rfl
  rw [e]
  unfold Arr.out
  rw [add_comm]
  pointwise

end Reference

/-- The reference leaves its arguments and, having no semaphore, no counter. -/
theorem ref_frame : Cert.quiescent_Reference12Ideal (hReference12Ideal := Cert.Reference12Ideal.Gen.facts) := fun m g _ =>
  (θ_run Cert.Reference12Ideal.defs _ _).mono (fun r h => And.intro (fun c => (h c).2) (sem_eq_zero_of_no_sems rfl r.2)) (Cert.Reference12Ideal.Value.run m g)

theorem algebraic : Cert.algebraic_Kernel12Ideal_Reference12Ideal (hKernel12Ideal := Cert.Kernel12Ideal.Gen.facts)
    (hReference12Ideal := Cert.Reference12Ideal.Gen.facts) := by
  intro m g m' g' _ hargs
  refine ⟨fun c => res3 m c, Cert.Kernel12Ideal.Value.run_blocks m g, ?_⟩
  refine (θ_run Cert.Reference12Ideal.defs _ _).mono (fun r h c => ?_) (Cert.Reference12Ideal.Value.run m' g')
  obtain ⟨r0, hk⟩ := h c
  obtain ⟨a0, a1, a2⟩ := hargs c
  refine ⟨?_, hk⟩
  rw [r0, a0, a1, a2]
  refine funext fun i => ?_
  rw [eq_ix2 i]
  exact (ref_apply (arr m c) (i 0) (i 1)).trans (res3_apply m c (i 0) (i 1)).symm

end Cert.Ain

end
-- ==== Proof.WgrProd.lean ====
/- Hand-written: THE GATE AND UP WEIGHT'S GRADIENT, one product over the rows: the call's operands, one point's block, the array
   it leaves, and the value claim. -/
module

public import proofs.«01_k».proof.Defs
public import proofs.«01_k».proof.Proof.ProdSpec
public import proofs.«01_k».proof.Proof.Gen.Kernel13Ideal.Value
public import proofs.«01_k».proof.Proof.Gen.Reference13Ideal.Read
public import Idealize.ShloMosaic.Lib.Pointwise
public import Idealize.ShloMosaic.Lib.Quiescent

@[expose] public section

set_option maxRecDepth 16384

noncomputable section

namespace Cert.Wgr

open Idealize.ShloMosaic Idealize.ShloMosaic.TcCoe Idealize.SL.Sem
open Idealize.ShloMosaic.Pointwise
open Cert.Kernel13Ideal Cert.Kernel13Ideal.Gen

/-- The arguments as arrays: the rows the gate and up product reads, and that product's gradient. -/
structure Arr where
  x : FVec Ideal S2048x1024 .f32
  d : FVec Ideal S2048x5632 .f32

/-- Column `k` of band `b`. -/
def at' (b : Fin 8) (k : Fin 704) : Fin 5632 := ⟨b.val * 704 + k.val, by omega⟩

/-- The gradient, band by band. -/
def Arr.out (a : Arr) (b : Fin 8) (k : Fin 704) (j : Fin 1024) : EReal := ∑ s : Fin 2048, a.d (ix2 s (at' b k)) * a.x (ix2 s j)

theorem hz3 : (![0, 0, 0] : Fin 3 → Nat) = fun _ => 0 := by decide

/-! ## One point -/

theorem left_apply (d : Vec Ideal S1x2048x704 .bf16) (x : Vec Ideal S1x2048x1024 .bf16) (u : Fin 1) (k : Fin 704) (j : Fin 1024) :
    out0_2 d x (ix3 u k j) = ∑ s : Fin 2048, d (ix3 0 s k) * x (ix3 0 s j) := by
  unfold out0_2
  rw [View.canon_unit_zero hz3, View.ld_unit_zero (S := S1x2048x704) hz3, View.ld_unit_zero (S := S1x2048x1024) hz3]
  unfold k0_pay1
  pointwise

/-! ## The operands -/

variable (m : (ℓ : Loc nD τ sig) → Buf (Elt Ideal) ℓ)

def arr (c : Dev nD) : Arr := ⟨m (c.tc.loc main_arg0), m (c.tc.loc main_arg1)⟩

theorem o_d (c : Dev nD) (b : Fin 8) (s : Fin 2048) (k : Fin 704) :
    (V m c main_v2 : FVec Ideal S8x2048x704 .bf16) (ix3 b s k) = (arr m c).d (ix2 s (at' b k)) := by
  have e : (V m c main_v2 : FVec Ideal S8x2048x704 .bf16) = truncf .bf16 (transpose S8x2048x704 [1, 0, 2]
      (shapeCast S2048x8x704 (arr m c).d shapeCasts_S2048x5632_S2048x8x704) transposes_S2048x8x704_S8x2048x704_1_0_2) bitsLt_bf16_f32 := by
    unfold V
    after_results
    rfl
  rw [e]
  generalize (arr m c).d = d
  pointwise
  rfl
theorem o_x (c : Dev nD) (u : Fin 1) (s : Fin 2048) (j : Fin 1024) :
    (V m c main_v4 : FVec Ideal S1x2048x1024 .bf16) (ix3 u s j) = (arr m c).x (ix2 s j) := by
  have e : (V m c main_v4 : FVec Ideal S1x2048x1024 .bf16) = broadcastInDim S1x2048x1024 ![1, 2] bcast_S2048x1024_S1x2048x1024_1_2
      (truncf .bf16 (arr m c).x bitsLt_bf16_f32) := by
    unfold V
    after_results
    rfl
  rw [e]
  generalize (arr m c).x = x
  pointwise

/-! ## Blocks -/

/-- The grid's point for band `b`. -/
def pt (b : Fin 8) : Fin cfg0.N := ⟨b.val, by rw [show cfg0.N = 8 from N_0]; omega⟩

theorem idx_facts : ∀ b : Fin 8, (win0_0.index (pt b) 0 = b.val ∧ win0_0.index (pt b) 1 = 0 ∧ win0_0.index (pt b) 2 = 0)
    ∧ (win0_1.index (pt b) 0 = 0 ∧ win0_1.index (pt b) 1 = 0 ∧ win0_1.index (pt b) 2 = 0)
    ∧ (win0_2.index (pt b) 0 = b.val ∧ win0_2.index (pt b) 1 = 0 ∧ win0_2.index (pt b) 2 = 0) := by
  decide +kernel

theorem d_apply (c : Dev nD) (b : Fin 8) (s : Fin 2048) (k : Fin 704) :
    (iblk m c 0 (pt b) : Vec Ideal S1x2048x704 .bf16) (ix3 0 s k) = (arr m c).d (ix2 s (at' b k)) := by
  obtain ⟨⟨e0, e1, e2⟩, -⟩ := idx_facts b
  rw [← o_d]
  unfold iblk
  rw [View.read_apply]
  show V m c main_v2 _ = V m c main_v2 _
  congr 1
  funext a; apply Fin.ext
  match a with
  | ⟨0, _⟩ => show win0_0.index (pt b) 0 * 1 + 1 * 0 = b.val; rw [e0]; omega
  | ⟨1, _⟩ => show win0_0.index (pt b) 1 * 2048 + 1 * s.val = s.val; rw [e1]; omega
  | ⟨2, _⟩ => show win0_0.index (pt b) 2 * 704 + 1 * k.val = k.val; rw [e2]; omega
theorem x_apply (c : Dev nD) (b : Fin 8) (s : Fin 2048) (j : Fin 1024) :
    (iblk m c 1 (pt b) : Vec Ideal S1x2048x1024 .bf16) (ix3 0 s j) = (arr m c).x (ix2 s j) := by
  obtain ⟨-, ⟨e0, e1, e2⟩, -⟩ := idx_facts b
  rw [← o_x m c 0]
  unfold iblk
  rw [View.read_apply]
  show V m c main_v4 _ = V m c main_v4 _
  congr 1
  funext a; apply Fin.ext
  match a with
  | ⟨0, _⟩ => show win0_1.index (pt b) 0 * 1 + 1 * 0 = 0; rw [e0]
  | ⟨1, _⟩ => show win0_1.index (pt b) 1 * 2048 + 1 * s.val = s.val; rw [e1]; omega
  | ⟨2, _⟩ => show win0_1.index (pt b) 2 * 1024 + 1 * j.val = j.val; rw [e2]; omega

/-! ## The result array -/

abbrev res2 (c : Dev nD) : FVec Ideal S8x704x1024 .bf16 := (dats m 0 c).arrAt 2 cfg0.N

theorem res2_apply (c : Dev nD) (b : Fin 8) (k : Fin 704) (j : Fin 1024) : res2 m c (ix3 b k j) = (arr m c).out b k j := by
  have h := congrFun (Value.blocks2 m c (pt b) (flush0_2 _)) (ix3 0 k j)
  rw [Value.flushed2] at h
  have e : ((cfg0.win 2).blk (pt b)).view.emb (ix3 0 k j) = ix3 b k j := by
    obtain ⟨-, -, e0, e1, e2⟩ := idx_facts b
    funext a; apply Fin.ext
    match a with
    | ⟨0, _⟩ => show win0_2.index (pt b) 0 * 1 + 1 * 0 = b.val; rw [e0]; omega
    | ⟨1, _⟩ => show win0_2.index (pt b) 1 * 704 + 1 * k.val = k.val; rw [e1]; omega
    | ⟨2, _⟩ => show win0_2.index (pt b) 2 * 1024 + 1 * j.val = j.val; rw [e2]; omega
  have h' : res2 m c (((cfg0.win 2).blk (pt b)).view.emb (ix3 0 k j)) = _ := h
  rw [e] at h'
  refine h'.trans ((left_apply _ _ 0 k j).trans ?_)
  simp only [d_apply, x_apply]
  rfl

/-! ## The reference -/

section Reference
open Cert.Reference13Ideal Cert.Reference13Ideal.Gen Cert.Reference13Ideal.Read

theorem ref_apply (a : Arr) (b : Fin 8) (k : Fin 704) (j : Fin 1024) : val_main_v6 (F := Ideal) a.x a.d (ix3 b k j) = a.out b k j := by
  unfold val_main_v6 val_main_v5 val_main_v4 val_main_v3 val_main_v2 Arr.out at'
  pointwise

end Reference

/-- The reference leaves its arguments and, having no semaphore, no counter. -/
theorem ref_frame : Cert.quiescent_Reference13Ideal (hReference13Ideal := Cert.Reference13Ideal.Gen.facts) := fun m g _ =>
  (θ_run Cert.Reference13Ideal.defs _ _).mono (fun r h => And.intro (fun c => (h c).2) (sem_eq_zero_of_no_sems rfl r.2)) (Cert.Reference13Ideal.Value.run m g)

theorem algebraic : Cert.algebraic_Kernel13Ideal_Reference13Ideal (hKernel13Ideal := Cert.Kernel13Ideal.Gen.facts)
    (hReference13Ideal := Cert.Reference13Ideal.Gen.facts) := by
  intro m g m' g' _ hargs
  refine ⟨fun c => res2 m c, Cert.Kernel13Ideal.Value.run_blocks m g, ?_⟩
  refine (θ_run Cert.Reference13Ideal.defs _ _).mono (fun r h c => ?_) (Cert.Reference13Ideal.Value.run m' g')
  obtain ⟨r0, hk⟩ := h c
  obtain ⟨a0, a1⟩ := hargs c
  refine ⟨?_, hk⟩
  rw [r0, a0, a1]
  refine funext fun i => ?_
  rw [eq_ix3 i]
  exact (ref_apply (arr m c) (i 0) (i 1) (i 2)).trans (res2_apply m c (i 0) (i 1) (i 2)).symm

end Cert.Wgr

end
-- ==== Proof.AdmClaim.lean ====
/- Hand-written: THE OPTIMISER'S UPDATE OF ONE WEIGHT: the eight parts of its gradient summed, the two moments, the change; one
   point's blocks, the arrays it leaves, and the value claim. -/
module

public import proofs.«01_k».proof.Defs
public import proofs.«01_k».proof.Proof.Gen.Kernel14Ideal.Value
public import proofs.«01_k».proof.Proof.Gen.Reference14Ideal.Read
public import Idealize.ShloMosaic.Lib.Pointwise
public import Idealize.ShloMosaic.Lib.Quiescent

@[expose] public section

set_option maxRecDepth 16384

noncomputable section

namespace Cert.Adm

open Idealize.ShloMosaic Idealize.ShloMosaic.TcCoe Idealize.ShloMosaic.Tactic Idealize.SL.Sem
open Idealize.ShloMosaic.Pointwise
open Cert.Kernel14Ideal Cert.Kernel14Ideal.Gen

/-! ## The update of one entry -/

abbrev cc (b : BitVec 32) : EReal := Ideal.ofBits .f32 b

/-- The first moment after the step. -/
def mom (g m : EReal) : EReal := cc 0x3F666666#32 * m + cc 0x3DCCCCCD#32 * g
/-- The second moment after the step. -/
def vel (g v : EReal) : EReal := cc 0x3F7FBE77#32 * v + cc 0x3A83126F#32 * (g * g)
/-- The change of the weight. -/
def change (w g m v : EReal) : EReal :=
  cc 0xBA83126F#32 * (Ideal.div (Ideal.div (mom g m) (cc 0x3F26BD02#32)) (Ideal.sqrt (Ideal.div (vel g v) (cc 0x3C231ACC#32)) + cc 0x322BCC77#32)
    + cc 0x3C23D70A#32 * w)

/-- The arguments as arrays: the weight, the parts of its gradient, the two moments. -/
structure Arr where
  w : FVec Ideal S1x1024x512 .f32
  p : FVec Ideal S8x1024x512 .f32
  m : FVec Ideal S1x1024x512 .f32
  v : FVec Ideal S1x1024x512 .f32

/-- The gradient: the sum of its parts. -/
def Arr.g (a : Arr) (r : Fin 1024) (j : Fin 512) : EReal := ∑ q : Fin 8, a.p (ix3 q r j)

theorem hz3 : (![0, 0, 0] : Fin 3 → Nat) = fun _ => 0 := by decide

/-! ## One point -/

theorem in8 (q : Fin 8) : ∀ a, (![q.val, 0, 0] : Fin 3 → Nat) a + S1x256x512.size a ≤ S8x256x512.size a := by
  revert q
  decide

/-- Part `q` of a block of parts. -/
def partOf (p : Vec Ideal S8x256x512 .bf16) (q : Fin 8) : Vec Ideal S1x256x512 .bf16 :=
  View.ld p (Rect.unit (s := S8x256x512) ![q.val, 0, 0] S1x256x512.size (in8 q))

/-- The block's gradient. -/
def grad (p : Vec Ideal S8x256x512 .bf16) : FVec Ideal S256x512 .f32 :=
  k0_pay3 (partOf p 0) (partOf p 1) (partOf p 2) (partOf p 3) (partOf p 4) (partOf p 5) (partOf p 6) (partOf p 7)

theorem part_apply (p : Vec Ideal S8x256x512 .bf16) (q : Fin 8) (r : Fin 256) (j : Fin 512) : partOf p q (ix3 0 r j) = p (ix3 q r j) := by
  refine congrArg p (funext fun a => Fin.ext ?_)
  match a with
  | ⟨0, _⟩ => show q.val + 1 * 0 = q.val; omega
  | ⟨1, _⟩ => show 0 + 1 * r.val = r.val; omega
  | ⟨2, _⟩ => show 0 + 1 * j.val = j.val; omega

theorem sum_apply (p0 p1 p2 p3 p4 p5 p6 p7 : Vec Ideal S1x256x512 .bf16) (r : Fin 256) (j : Fin 512) :
    k0_pay3 (F := Ideal) p0 p1 p2 p3 p4 p5 p6 p7 (ix2 r j)
      = (p0 (ix3 0 r j) : EReal) + p1 (ix3 0 r j) + p2 (ix3 0 r j) + p3 (ix3 0 r j) + p4 (ix3 0 r j) + p5 (ix3 0 r j) + p6 (ix3 0 r j) + p7 (ix3 0 r j) := by
  unfold k0_pay3
  pointwise

theorem grad_apply (p : Vec Ideal S8x256x512 .bf16) (r : Fin 256) (j : Fin 512) : grad p (ix2 r j) = ∑ q : Fin 8, (p (ix3 q r j) : EReal) := by
  unfold grad
  rw [sum_apply, Fin.sum_univ_eight]
  iterate 8 rw [part_apply]

variable (g : FVec Ideal S256x512 .f32) (w mm v : Vec Ideal S1x256x512 .f32) (u : Fin 1) (r : Fin 256) (j : Fin 512)

theorem grad_row : k0_pay4 (F := Ideal) g (ix3 u r j) = g (ix2 r j) := by
  unfold k0_pay4
  pointwise
theorem mom_row : k0_pay5 (F := Ideal) g mm (ix2 r j) = mom (g (ix2 r j)) (mm (ix3 0 r j)) := by
  unfold k0_pay5 mom
  pointwise
theorem vel_row : k0_pay6 (F := Ideal) g v (ix2 r j) = vel (g (ix2 r j)) (v (ix3 0 r j)) := by
  unfold k0_pay6 vel
  pointwise
theorem mom_out : k0_pay1 (F := Ideal) (k0_pay5 g mm) (ix3 u r j) = mom (g (ix2 r j)) (mm (ix3 0 r j)) := by
  rw [← mom_row]
  generalize k0_pay5 (F := Ideal) g mm = x
  unfold k0_pay1
  pointwise
theorem vel_out : k0_pay2 (F := Ideal) (k0_pay6 g v) (ix3 u r j) = vel (g (ix2 r j)) (v (ix3 0 r j)) := by
  rw [← vel_row]
  generalize k0_pay6 (F := Ideal) g v = x
  unfold k0_pay2
  pointwise
theorem change_out : k0_pay7 (F := Ideal) g w mm v (ix3 u r j) = change (w (ix3 0 r j)) (g (ix2 r j)) (mm (ix3 0 r j)) (v (ix3 0 r j)) := by
  unfold change
  rw [← mom_row, ← vel_row]
  unfold k0_pay7
  generalize k0_pay5 (F := Ideal) g mm = x
  generalize k0_pay6 (F := Ideal) g v = y
  pointwise

/-! ## The four blocks after a point -/

variable (m : (ℓ : Loc nD τ sig) → Buf (Elt Ideal) ℓ)

abbrev gAt (c : Dev nD) (t : Fin cfg0.N) : FVec Ideal S256x512 .f32 := grad (iblk m c 1 t)

set_option maxHeartbeats 4000000 in
theorem outs (c : Dev nD) (t : Fin cfg0.N) : outsAt0 m c t = (k0_pay4 (gAt m c t), k0_pay7 (gAt m c t) (iblk m c 0 t) (iblk m c 2 t) (iblk m c 3 t),
    k0_pay1 (k0_pay5 (gAt m c t) (iblk m c 2 t)), k0_pay2 (k0_pay6 (gAt m c t) (iblk m c 3 t))) := by
  unfold outsAt0 out0_A_4 out0_A_5 out0_A_6 out0_A_7
  simp only [Prod.mk.injEq]
  refine ⟨(View.read_writes_eq_canon _ _ _ (fun _ => cover0_A_4 ..)).trans ?_, (View.read_writes_eq_canon _ _ _ (fun _ => cover0_A_5 ..)).trans ?_,
    (View.read_writes_eq_canon _ _ _ (fun _ => cover0_A_6 ..)).trans ?_, (View.read_writes_eq_canon _ _ _ (fun _ => cover0_A_7 ..)).trans ?_⟩ <;>
  · unfold kernelRun0_A
    dsimp only
    sl_unfold_words
    rw [View.canon_unit_zero hz3]
    simp only [View.readAt_eq_ld, (hs0_0 t).read_unread, (hs0_1 t).read_unread, (hs0_2 t).read_unread, (hs0_3 t).read_unread,
      View.ld_unit_zero (S := S1x256x512) hz3]
    rfl

/-! ## The operands and blocks -/

def arr (c : Dev nD) : Arr := ⟨m (c.tc.loc main_arg0), m (c.tc.loc main_arg1), m (c.tc.loc main_arg2), m (c.tc.loc main_arg3)⟩

theorem o_w (c : Dev nD) : (V m c main_arg0 : FVec Ideal S1x1024x512 .f32) = (arr m c).w := by
  unfold V
  after_results
  rfl
theorem o_m (c : Dev nD) : (V m c main_arg2 : FVec Ideal S1x1024x512 .f32) = (arr m c).m := by
  unfold V
  after_results
  rfl
theorem o_v (c : Dev nD) : (V m c main_arg3 : FVec Ideal S1x1024x512 .f32) = (arr m c).v := by
  unfold V
  after_results
  rfl
theorem o_p (c : Dev nD) : (V m c main_v0 : FVec Ideal S8x1024x512 .bf16) = truncf .bf16 (arr m c).p bitsLt_bf16_f32 := by
  unfold V
  after_results
  rfl

/-- The grid's point for row block `i`, and a row of it. -/
def pt (i : Fin 4) : Fin cfg0.N := ⟨i.val, by rw [show cfg0.N = 4 from N_0]; omega⟩
def row (i : Fin 4) (r : Fin 256) : Fin 1024 := ⟨i.val * 256 + r.val, by omega⟩

theorem idx_facts : ∀ i : Fin 4, (∀ a, win0_0.index (pt i) a = ![0, i.val, 0] a) ∧ (∀ a, win0_1.index (pt i) a = ![0, i.val, 0] a)
    ∧ (∀ a, win0_2.index (pt i) a = ![0, i.val, 0] a) ∧ (∀ a, win0_3.index (pt i) a = ![0, i.val, 0] a)
    ∧ (∀ a, win0_4.index (pt i) a = ![0, i.val, 0] a) ∧ (∀ a, win0_5.index (pt i) a = ![0, i.val, 0] a)
    ∧ (∀ a, win0_6.index (pt i) a = ![0, i.val, 0] a) ∧ (∀ a, win0_7.index (pt i) a = ![0, i.val, 0] a) := by
  decide +kernel

/-- A window's place in its array, from its block's index. -/
theorem at_row (i : Fin 4) (n : Nat) (b : Fin n) (r : Fin 256) (j : Fin 512) (f : Fin 3 → Nat) (h : ∀ a, f a = ![0, i.val, 0] a) :
    f 0 * n + 1 * b.val = b.val ∧ f 1 * 256 + 1 * r.val = i.val * 256 + r.val ∧ f 2 * 512 + 1 * j.val = j.val := by
  have h0 : f 0 = 0 := h 0
  have h1 : f 1 = i.val := h 1
  have h2 : f 2 = 0 := h 2
  rw [h0, h1, h2]
  omega

theorem w_apply (c : Dev nD) (i : Fin 4) (r : Fin 256) (j : Fin 512) :
    (iblk m c 0 (pt i) : Vec Ideal S1x256x512 .f32) (ix3 0 r j) = (arr m c).w (ix3 0 (row i r) j) := by
  obtain ⟨e0, e1, e2⟩ := at_row i 1 0 r j _ (idx_facts i).1
  rw [← o_w]
  unfold iblk
  rw [View.read_apply]
  show V m c main_arg0 _ = V m c main_arg0 _
  congr 1
  funext a; apply Fin.ext
  match a with
  | ⟨0, _⟩ => exact e0
  | ⟨1, _⟩ => exact e1
  | ⟨2, _⟩ => exact e2
theorem m_apply (c : Dev nD) (i : Fin 4) (r : Fin 256) (j : Fin 512) :
    (iblk m c 2 (pt i) : Vec Ideal S1x256x512 .f32) (ix3 0 r j) = (arr m c).m (ix3 0 (row i r) j) := by
  obtain ⟨e0, e1, e2⟩ := at_row i 1 0 r j _ (idx_facts i).2.2.1
  rw [← o_m]
  unfold iblk
  rw [View.read_apply]
  show V m c main_arg2 _ = V m c main_arg2 _
  congr 1
  funext a; apply Fin.ext
  match a with
  | ⟨0, _⟩ => exact e0
  | ⟨1, _⟩ => exact e1
  | ⟨2, _⟩ => exact e2
theorem v_apply (c : Dev nD) (i : Fin 4) (r : Fin 256) (j : Fin 512) :
    (iblk m c 3 (pt i) : Vec Ideal S1x256x512 .f32) (ix3 0 r j) = (arr m c).v (ix3 0 (row i r) j) := by
  obtain ⟨e0, e1, e2⟩ := at_row i 1 0 r j _ (idx_facts i).2.2.2.1
  rw [← o_v]
  unfold iblk
  rw [View.read_apply]
  show V m c main_arg3 _ = V m c main_arg3 _
  congr 1
  funext a; apply Fin.ext
  match a with
  | ⟨0, _⟩ => exact e0
  | ⟨1, _⟩ => exact e1
  | ⟨2, _⟩ => exact e2
theorem p_apply (c : Dev nD) (i : Fin 4) (q : Fin 8) (r : Fin 256) (j : Fin 512) :
    (iblk m c 1 (pt i) : Vec Ideal S8x256x512 .bf16) (ix3 q r j) = (arr m c).p (ix3 q (row i r) j) := by
  obtain ⟨e0, e1, e2⟩ := at_row i 8 q r j _ (idx_facts i).2.1
  rw [show (arr m c).p (ix3 q (row i r) j) = (V m c main_v0 : FVec Ideal S8x1024x512 .bf16) (ix3 q (row i r) j) from by rw [o_p]; rfl]
  unfold iblk
  rw [View.read_apply]
  show V m c main_v0 _ = V m c main_v0 _
  congr 1
  funext a; apply Fin.ext
  match a with
  | ⟨0, _⟩ => exact e0
  | ⟨1, _⟩ => exact e1
  | ⟨2, _⟩ => exact e2
theorem g_apply (c : Dev nD) (i : Fin 4) (r : Fin 256) (j : Fin 512) : gAt m c (pt i) (ix2 r j) = (arr m c).g (row i r) j := by
  unfold gAt
  rw [grad_apply]
  exact Finset.sum_congr rfl fun q _ => p_apply m c i q r j

/-! ## The result arrays -/

abbrev resG (c : Dev nD) : FVec Ideal S1x1024x512 .f32 := (dats m 0 c).arrAt 4 cfg0.N
abbrev resD (c : Dev nD) : FVec Ideal S1x1024x512 .f32 := (dats m 0 c).arrAt 5 cfg0.N
abbrev resM (c : Dev nD) : FVec Ideal S1x1024x512 .f32 := (dats m 0 c).arrAt 6 cfg0.N
abbrev resV (c : Dev nD) : FVec Ideal S1x1024x512 .f32 := (dats m 0 c).arrAt 7 cfg0.N

theorem resG_row (c : Dev nD) (i : Fin 4) (r : Fin 256) (j : Fin 512) : resG m c (ix3 0 (row i r) j) = (arr m c).g (row i r) j := by
  have b := congrFun (Value.blocks4 m c (pt i) (flush0_4 _)) (ix3 0 r j)
  rw [Value.flushed4, outs] at b
  have e : ((cfg0.win 4).blk (pt i)).view.emb (ix3 0 r j) = ix3 0 (row i r) j := by
    obtain ⟨e0, e1, e2⟩ := at_row i 1 0 r j _ (idx_facts i).2.2.2.2.1
    funext a; apply Fin.ext
    match a with
    | ⟨0, _⟩ => exact e0
    | ⟨1, _⟩ => exact e1
    | ⟨2, _⟩ => exact e2
  have b' : resG m c (((cfg0.win 4).blk (pt i)).view.emb (ix3 0 r j)) = _ := b
  rw [e] at b'
  exact b'.trans ((grad_row _ 0 r j).trans (g_apply m c i r j))
theorem resD_row (c : Dev nD) (i : Fin 4) (r : Fin 256) (j : Fin 512) : resD m c (ix3 0 (row i r) j)
    = change ((arr m c).w (ix3 0 (row i r) j)) ((arr m c).g (row i r) j) ((arr m c).m (ix3 0 (row i r) j)) ((arr m c).v (ix3 0 (row i r) j)) := by
  have b := congrFun (Value.blocks5 m c (pt i) (flush0_5 _)) (ix3 0 r j)
  rw [Value.flushed5, outs] at b
  have e : ((cfg0.win 5).blk (pt i)).view.emb (ix3 0 r j) = ix3 0 (row i r) j := by
    obtain ⟨e0, e1, e2⟩ := at_row i 1 0 r j _ (idx_facts i).2.2.2.2.2.1
    funext a; apply Fin.ext
    match a with
    | ⟨0, _⟩ => exact e0
    | ⟨1, _⟩ => exact e1
    | ⟨2, _⟩ => exact e2
  have b' : resD m c (((cfg0.win 5).blk (pt i)).view.emb (ix3 0 r j)) = _ := b
  rw [e] at b'
  refine b'.trans ((change_out _ _ _ _ 0 r j).trans ?_)
  rw [g_apply, w_apply, m_apply, v_apply]
theorem resM_row (c : Dev nD) (i : Fin 4) (r : Fin 256) (j : Fin 512) : resM m c (ix3 0 (row i r) j)
    = mom ((arr m c).g (row i r) j) ((arr m c).m (ix3 0 (row i r) j)) := by
  have b := congrFun (Value.blocks6 m c (pt i) (flush0_6 _)) (ix3 0 r j)
  rw [Value.flushed6, outs] at b
  have e : ((cfg0.win 6).blk (pt i)).view.emb (ix3 0 r j) = ix3 0 (row i r) j := by
    obtain ⟨e0, e1, e2⟩ := at_row i 1 0 r j _ (idx_facts i).2.2.2.2.2.2.1
    funext a; apply Fin.ext
    match a with
    | ⟨0, _⟩ => exact e0
    | ⟨1, _⟩ => exact e1
    | ⟨2, _⟩ => exact e2
  have b' : resM m c (((cfg0.win 6).blk (pt i)).view.emb (ix3 0 r j)) = _ := b
  rw [e] at b'
  refine b'.trans ((mom_out _ _ 0 r j).trans ?_)
  rw [g_apply, m_apply]
theorem resV_row (c : Dev nD) (i : Fin 4) (r : Fin 256) (j : Fin 512) : resV m c (ix3 0 (row i r) j)
    = vel ((arr m c).g (row i r) j) ((arr m c).v (ix3 0 (row i r) j)) := by
  have b := congrFun (Value.blocks7 m c (pt i) (flush0_7 _)) (ix3 0 r j)
  rw [Value.flushed7, outs] at b
  have e : ((cfg0.win 7).blk (pt i)).view.emb (ix3 0 r j) = ix3 0 (row i r) j := by
    obtain ⟨e0, e1, e2⟩ := at_row i 1 0 r j _ (idx_facts i).2.2.2.2.2.2.2
    funext a; apply Fin.ext
    match a with
    | ⟨0, _⟩ => exact e0
    | ⟨1, _⟩ => exact e1
    | ⟨2, _⟩ => exact e2
  have b' : resV m c (((cfg0.win 7).blk (pt i)).view.emb (ix3 0 r j)) = _ := b
  rw [e] at b'
  refine b'.trans ((vel_out _ _ 0 r j).trans ?_)
  rw [g_apply, v_apply]

/-! ## The reference -/

section Reference
open Cert.Reference14Ideal Cert.Reference14Ideal.Gen Cert.Reference14Ideal.Read

variable (a : Arr) (s : Fin 1024) (d : Fin 512)

theorem g_ref (z : Fin 1) : val_main_v1 (F := Ideal) a.p (ix3 z s d) = a.g s d := by
  unfold val_main_v1 val_main_v0 val_main_cst Arr.g
  pointwise
theorem m_ref : val_main_v6 (F := Ideal) a.p a.m (ix3 0 s d) = mom (a.g s d) (a.m (ix3 0 s d)) := by
  rw [← g_ref a s d 0]
  unfold val_main_v6 val_main_v5 val_main_v4 val_main_v3 val_main_v2 val_main_cst_0 val_main_cst_1 mom
  generalize val_main_v1 (F := Ideal) a.p = g
  pointwise
theorem v_ref : val_main_v12 (F := Ideal) a.p a.v (ix3 0 s d) = vel (a.g s d) (a.v (ix3 0 s d)) := by
  rw [← g_ref a s d 0]
  unfold val_main_v12 val_main_v11 val_main_v10 val_main_v9 val_main_v8 val_main_v7 val_main_cst_2 val_main_cst_3 vel
  generalize val_main_v1 (F := Ideal) a.p = g
  pointwise
theorem d_ref : val_main_v25 (F := Ideal) a.w a.p a.m a.v (ix3 0 s d) = change (a.w (ix3 0 s d)) (a.g s d) (a.m (ix3 0 s d)) (a.v (ix3 0 s d)) := by
  unfold change
  rw [← m_ref, ← v_ref]
  unfold val_main_v25 val_main_v24 val_main_v23 val_main_v22 val_main_v21 val_main_v20 val_main_v19 val_main_v18 val_main_v17 val_main_v16
    val_main_v15 val_main_v14 val_main_v13 val_main_cst_4 val_main_cst_5 val_main_cst_6 val_main_cst_7 val_main_cst_8
  generalize val_main_v6 (F := Ideal) a.p a.m = x
  generalize val_main_v12 (F := Ideal) a.p a.v = y
  pointwise

end Reference

/-! ## The claims -/

/-- Two arrays of one sheet are equal when they are so row block by row block. -/
theorem sheet_ext (x y : FVec Ideal S1x1024x512 .f32) (h : ∀ (i : Fin 4) (r : Fin 256) (j : Fin 512), x (ix3 0 (row i r) j) = y (ix3 0 (row i r) j)) : x = y := by
  funext z
  obtain ⟨u, s, j, rfl⟩ : ∃ (u : Fin 1) (s : Fin 1024) (j : Fin 512), z = ix3 u s j := ⟨z 0, z 1, z 2, eq_ix3 z⟩
  have hs : s = row ⟨s.val / 256, by omega⟩ ⟨s.val % 256, by omega⟩ := Fin.ext (by unfold row; dsimp only; omega)
  rw [hs, show u = 0 from Subsingleton.elim _ _]
  exact h _ _ j

/-- The reference leaves its arguments and, having no semaphore, no counter. -/
theorem ref_frame : Cert.quiescent_Reference14Ideal (hReference14Ideal := Cert.Reference14Ideal.Gen.facts) := fun m g _ =>
  (θ_run Cert.Reference14Ideal.defs _ _).mono (fun r h => And.intro (fun c => (h c).2.2.2.2) (sem_eq_zero_of_no_sems rfl r.2)) (Cert.Reference14Ideal.Value.run m g)

theorem algebraic : Cert.algebraic_Kernel14Ideal_Reference14Ideal (hKernel14Ideal := Cert.Kernel14Ideal.Gen.facts)
    (hReference14Ideal := Cert.Reference14Ideal.Gen.facts) := by
  intro m g m' g' _ hargs
  refine ⟨fun c => resG m c, fun c => resD m c, fun c => resM m c, fun c => resV m c, Cert.Kernel14Ideal.Value.run_blocks m g, ?_⟩
  refine (θ_run Cert.Reference14Ideal.defs _ _).mono (fun r h c => ?_) (Cert.Reference14Ideal.Value.run m' g')
  obtain ⟨r0, r1, r2, r3, hk⟩ := h c
  obtain ⟨a0, a1, a2, a3⟩ := hargs c
  refine ⟨?_, ?_, ?_, ?_, hk⟩
  · rw [r0, a1]
    exact sheet_ext _ _ fun i r j => (g_ref (arr m c) _ j 0).trans (resG_row m c i r j).symm
  · rw [r1, a0, a1, a2, a3]
    exact sheet_ext _ _ fun i r j => (d_ref (arr m c) _ j).trans (resD_row m c i r j).symm
  · rw [r2, a1, a2]
    exact sheet_ext _ _ fun i r j => (m_ref (arr m c) _ j).trans (resM_row m c i r j).symm
  · rw [r3, a1, a3]
    exact sheet_ext _ _ fun i r j => (v_ref (arr m c) _ j).trans (resV_row m c i r j).symm

end Cert.Adm

end
-- ==== Proof.AifProd.lean ====
/- Hand-written: THE PRODUCT BY THE RECURRENCE'S INPUT WEIGHT, in its four parts: the call's operands, one point's rows, the array
   it leaves, and the value claim. -/
module

public import proofs.«01_k».proof.Defs
public import proofs.«01_k».proof.Proof.ProdSpec
public import proofs.«01_k».proof.Proof.Gen.Kernel15Ideal.Value
public import proofs.«01_k».proof.Proof.Gen.Reference15Ideal.Read
public import Idealize.ShloMosaic.Lib.Pointwise
public import Idealize.ShloMosaic.Lib.Quiescent

@[expose] public section

set_option maxRecDepth 16384

noncomputable section

namespace Cert.Aif

open Idealize.ShloMosaic Idealize.ShloMosaic.TcCoe Idealize.SL.Sem
open Idealize.ShloMosaic.Pointwise
open Cert.Kernel15Ideal Cert.Kernel15Ideal.Gen

/-- The arguments as arrays: the rows and the weight. -/
structure Arr where
  x : FVec Ideal S2048x1024 .f32
  w : FVec Ideal S1024x4096 .f32

/-- Column `h` of part `b`. -/
def colp (b : Fin 4) (h : Fin 1024) : Fin 4096 := ⟨b.val * 1024 + h.val, by omega⟩

/-- The product, part by part. -/
def Arr.out (a : Arr) (b : Fin 4) (s : Fin 2048) (h : Fin 1024) : EReal := ∑ k : Fin 1024, a.x (ix2 s k) * a.w (ix2 k (colp b h))

theorem hz2 : (![0, 0] : Fin 2 → Nat) = fun _ => 0 := by decide

/-! ## One point -/

/-- A row block's product by one column block. -/
theorem pay_apply (x : Vec Ideal S256x1024 .bf16) (w : Vec Ideal S1x1024x512 .bf16) (u : Fin 1) (r : Fin 256) (k : Fin 512) :
    k0_pay6 (F := Ideal) x w (ix3 u r k) = ∑ i : Fin 1024, x (ix2 r i) * w (ix3 0 i k) := by
  unfold k0_pay6 k0_pay5
  pointwise

/-- The column block that holds column `h` of part `b`, and the place inside it. -/
def blk (b : Fin 4) (h : Fin 1024) : Fin 8 := ⟨b.val * 2 + h.val / 512, by omega⟩
def plc (h : Fin 1024) : Fin 512 := ⟨h.val % 512, by omega⟩

/-- What a point leaves, by its place. -/
def left (x : Vec Ideal S256x1024 .bf16) (w : Vec Ideal S8x1024x512 .bf16) (b : Fin 4) (r : Fin 256) (h : Fin 1024) : EReal :=
  ∑ i : Fin 1024, x (ix2 r i) * w (ix3 (blk b h) i (plc h))

theorem piece (x : Vec Ideal S256x1024 .bf16) (w : Vec Ideal S8x1024x512 .bf16) (b : Fin 4) (e : Fin 2) (i1 i2) (z : S1x256x512.Idx) :
    k0_pay6 (F := Ideal) (View.ld x r0_0) (View.ld w (Rect.unit (s := S8x1024x512) ![b.val * 2 + e.val, 0, 0] S1x1024x512.size i1)) z
      = (fun y : S4x256x1024.Idx => left x w (y 0) (y 1) (y 2)) ((Rect.unit (s := S4x256x1024) ![b.val, 0, e.val * 512] S1x256x512.size i2).emb z) := by
  obtain ⟨u, r, k, rfl⟩ : ∃ (u : Fin 1) (r : Fin 256) (k : Fin 512), z = ix3 u r k := ⟨z 0, z 1, z 2, eq_ix3 z⟩
  refine (pay_apply _ _ u r k).trans ?_
  rw [View.ld_unit_zero (S := S256x1024) hz2]
  have hr : ((Rect.unit (s := S4x256x1024) ![b.val, 0, e.val * 512] S1x256x512.size i2).emb (ix3 u r k)) = ix3 b r ⟨e.val * 512 + k.val, by omega⟩ := by
    funext a; apply Fin.ext
    match a with
    | ⟨0, _⟩ => show b.val + 1 * u.val = b.val; omega
    | ⟨1, _⟩ => show 0 + 1 * r.val = r.val; omega
    | ⟨2, _⟩ => show e.val * 512 + 1 * k.val = e.val * 512 + k.val; omega
  rw [hr]
  refine Finset.sum_congr rfl fun i _ => congrArg (x (ix2 r i) * · : EReal → EReal) (congrArg w (funext fun a => Fin.ext ?_))
  match a with
  | ⟨0, _⟩ => show b.val * 2 + e.val + 1 * 0 = b.val * 2 + (e.val * 512 + k.val) / 512; omega
  | ⟨1, _⟩ => show 0 + 1 * i.val = i.val; omega
  | ⟨2, _⟩ => show 0 + 1 * k.val = (e.val * 512 + k.val) % 512; omega

theorem left_apply (x : Vec Ideal S256x1024 .bf16) (w : Vec Ideal S8x1024x512 .bf16) (b : Fin 4) (r : Fin 256) (h : Fin 1024) :
    out0_2 x w (ix3 b r h) = left x w b r h := by
  unfold out0_2
  refine View.canon_apply_of_pieces (Val := Elt Ideal) (fun y : S4x256x1024.Idx => left x w (y 0) (y 1) (y 2)) _ ?_ _ (cover0_2 _ _ _ _ _ _ _ _ _)
  simp only [List.forall_mem_cons, List.not_mem_nil, false_imp_iff, implies_true, and_true]
  exact ⟨piece x w 3 1 _ _, piece x w 3 0 _ _, piece x w 2 1 _ _, piece x w 2 0 _ _, piece x w 1 1 _ _, piece x w 1 0 _ _, piece x w 0 1 _ _, piece x w 0 0 _ _⟩

/-! ## The operands -/

variable (m : (ℓ : Loc nD τ sig) → Buf (Elt Ideal) ℓ)

def arr (c : Dev nD) : Arr := ⟨m (c.tc.loc main_arg0), m (c.tc.loc main_arg1)⟩

theorem o_x (c : Dev nD) (s : Fin 2048) (k : Fin 1024) : (V m c main_v0 : FVec Ideal S2048x1024 .bf16) (ix2 s k) = (arr m c).x (ix2 s k) := by
  have e : (V m c main_v0 : FVec Ideal S2048x1024 .bf16) = truncf .bf16 (arr m c).x bitsLt_bf16_f32 := by
    unfold V
    after_results
    rfl
  rw [e]
  rfl
theorem o_w (c : Dev nD) (p : Fin 8) (i : Fin 1024) (k : Fin 512) :
    (V m c main_v3 : FVec Ideal S8x1024x512 .bf16) (ix3 p i k) = (arr m c).w (ix2 i ⟨p.val * 512 + k.val, by omega⟩) := by
  have e : (V m c main_v3 : FVec Ideal S8x1024x512 .bf16) = truncf .bf16 (transpose S8x1024x512 [1, 0, 2]
      (shapeCast S1024x8x512 (arr m c).w shapeCasts_S1024x4096_S1024x8x512) transposes_S1024x8x512_S8x1024x512_1_0_2) bitsLt_bf16_f32 := by
    unfold V
    after_results
    rfl
  rw [e]
  generalize (arr m c).w = w
  pointwise

/-! ## Blocks -/

/-- The grid's point for row block `i`, and a row of it. -/
def pt (i : Fin 8) : Fin cfg0.N := ⟨i.val, by rw [show cfg0.N = 8 from N_0]; omega⟩
def row (i : Fin 8) (r : Fin 256) : Fin 2048 := ⟨i.val * 256 + r.val, by omega⟩

theorem idx_facts : ∀ i : Fin 8, (win0_0.index (pt i) 0 = i.val ∧ win0_0.index (pt i) 1 = 0)
    ∧ (win0_1.index (pt i) 0 = 0 ∧ win0_1.index (pt i) 1 = 0 ∧ win0_1.index (pt i) 2 = 0)
    ∧ (win0_2.index (pt i) 0 = 0 ∧ win0_2.index (pt i) 1 = i.val ∧ win0_2.index (pt i) 2 = 0) := by
  decide +kernel

theorem x_apply (c : Dev nD) (i : Fin 8) (r : Fin 256) (k : Fin 1024) :
    (iblk m c 0 (pt i) : Vec Ideal S256x1024 .bf16) (ix2 r k) = (arr m c).x (ix2 (row i r) k) := by
  obtain ⟨⟨e0, e1⟩, -⟩ := idx_facts i
  rw [← o_x]
  unfold iblk
  rw [View.read_apply]
  show V m c main_v0 _ = V m c main_v0 _
  congr 1
  funext a; apply Fin.ext
  match a with
  | ⟨0, _⟩ => show win0_0.index (pt i) 0 * 256 + 1 * r.val = i.val * 256 + r.val; rw [e0]; omega
  | ⟨1, _⟩ => show win0_0.index (pt i) 1 * 1024 + 1 * k.val = k.val; rw [e1]; omega
theorem w_apply (c : Dev nD) (i : Fin 8) (k : Fin 1024) (b : Fin 4) (h : Fin 1024) :
    (iblk m c 1 (pt i) : Vec Ideal S8x1024x512 .bf16) (ix3 (blk b h) k (plc h)) = (arr m c).w (ix2 k (colp b h)) := by
  obtain ⟨-, ⟨e0, e1, e2⟩, -⟩ := idx_facts i
  rw [show colp b h = ⟨(blk b h).val * 512 + (plc h).val, by omega⟩ from Fin.ext (by unfold colp blk plc; dsimp only; omega), ← o_w]
  unfold iblk
  rw [View.read_apply]
  show V m c main_v3 _ = V m c main_v3 _
  congr 1
  generalize blk b h = p
  generalize plc h = q
  funext a; apply Fin.ext
  match a with
  | ⟨0, _⟩ => show win0_1.index (pt i) 0 * 8 + 1 * p.val = p.val; rw [e0]; omega
  | ⟨1, _⟩ => show win0_1.index (pt i) 1 * 1024 + 1 * k.val = k.val; rw [e1]; omega
  | ⟨2, _⟩ => show win0_1.index (pt i) 2 * 512 + 1 * q.val = q.val; rw [e2]; omega

/-! ## The result array -/

abbrev res2 (c : Dev nD) : FVec Ideal S4x2048x1024 .f32 := (dats m 0 c).arrAt 2 cfg0.N

theorem res2_apply (c : Dev nD) (b : Fin 4) (s : Fin 2048) (h : Fin 1024) : res2 m c (ix3 b s h) = (arr m c).out b s h := by
  have hs : s = row ⟨s.val / 256, by omega⟩ ⟨s.val % 256, by omega⟩ := Fin.ext (by unfold row; dsimp only; omega)
  rw [hs]
  generalize (⟨s.val / 256, _⟩ : Fin 8) = i
  generalize (⟨s.val % 256, _⟩ : Fin 256) = r
  have v := congrFun (Value.blocks2 m c (pt i) (flush0_2 _)) (ix3 b r h)
  rw [Value.flushed2] at v
  have e : ((cfg0.win 2).blk (pt i)).view.emb (ix3 b r h) = ix3 b (row i r) h := by
    obtain ⟨-, -, e0, e1, e2⟩ := idx_facts i
    funext a; apply Fin.ext
    match a with
    | ⟨0, _⟩ => show win0_2.index (pt i) 0 * 4 + 1 * b.val = b.val; rw [e0]; omega
    | ⟨1, _⟩ => show win0_2.index (pt i) 1 * 256 + 1 * r.val = i.val * 256 + r.val; rw [e1]; omega
    | ⟨2, _⟩ => show win0_2.index (pt i) 2 * 1024 + 1 * h.val = h.val; rw [e2]; omega
  have v' : res2 m c (((cfg0.win 2).blk (pt i)).view.emb (ix3 b r h)) = _ := v
  rw [e] at v'
  refine v'.trans ((left_apply _ _ b r h).trans ?_)
  unfold left Arr.out
  simp only [x_apply, w_apply]

/-! ## The reference -/

section Reference
open Cert.Reference15Ideal Cert.Reference15Ideal.Gen Cert.Reference15Ideal.Read

theorem ref_apply (a : Arr) (b : Fin 4) (s : Fin 2048) (h : Fin 1024) : val_main_v2 (F := Ideal) a.x a.w (ix3 b s h) = a.out b s h := by
  unfold val_main_v2 val_main_v1 val_main_v0 Arr.out colp
  pointwise

end Reference

/-- The reference leaves its arguments and, having no semaphore, no counter. -/
theorem ref_frame : Cert.quiescent_Reference15Ideal (hReference15Ideal := Cert.Reference15Ideal.Gen.facts) := fun m g _ =>
  (θ_run Cert.Reference15Ideal.defs _ _).mono (fun r h => And.intro (fun c => (h c).2) (sem_eq_zero_of_no_sems rfl r.2)) (Cert.Reference15Ideal.Value.run m g)

theorem algebraic : Cert.algebraic_Kernel15Ideal_Reference15Ideal (hKernel15Ideal := Cert.Kernel15Ideal.Gen.facts)
    (hReference15Ideal := Cert.Reference15Ideal.Gen.facts) := by
  intro m g m' g' _ hargs
  refine ⟨fun c => res2 m c, Cert.Kernel15Ideal.Value.run_blocks m g, ?_⟩
  refine (θ_run Cert.Reference15Ideal.defs _ _).mono (fun r h c => ?_) (Cert.Reference15Ideal.Value.run m' g')
  obtain ⟨r0, hk⟩ := h c
  obtain ⟨a0, a1⟩ := hargs c
  refine ⟨?_, hk⟩
  rw [r0, a0, a1]
  refine funext fun i => ?_
  rw [eq_ix3 i]
  exact (ref_apply (arr m c) (i 0) (i 1) (i 2)).trans (res2_apply m c (i 0) (i 1) (i 2)).symm

end Cert.Aif

end
-- ==== Proof.PrjProd.lean ====
/- Hand-written: THE ATTENTION'S QUERY ROWS, by heads: the product and its bias, each head's columns picked by a product with a
   zero-one array; the call's operands, one point's rows, the array it leaves, and the value claim. -/
module

public import proofs.«01_k».proof.Defs
public import proofs.«01_k».proof.Proof.ProdSpec
public import proofs.«01_k».proof.Proof.Gen.Kernel16Ideal.Value
public import proofs.«01_k».proof.Proof.Gen.Reference16Ideal.Read
public import Idealize.ShloMosaic.Lib.Pointwise
public import Idealize.ShloMosaic.Lib.Quiescent

@[expose] public section

set_option maxRecDepth 16384

noncomputable section

namespace Cert.Prj

open Idealize.ShloMosaic Idealize.ShloMosaic.TcCoe Idealize.SL.Sem
open Idealize.ShloMosaic.Pointwise
open Cert.Kernel16Ideal Cert.Kernel16Ideal.Gen
open Cert.Mixout (row row_div)

/-- The arguments as arrays: the rows, the weight, the bias. -/
structure Arr where
  x : FVec Ideal S2048x1024 .f32
  w : FVec Ideal S1024x1024 .f32
  b : FVec Ideal S1024 .f32

/-- Lane `d` of head `h`. -/
def lane (h : Fin 16) (d : Fin 64) : Fin 1024 := ⟨h.val * 64 + d.val, by omega⟩

/-- The query rows, head by head. -/
def Arr.out (a : Arr) (h : Fin 16) (s : Fin 2048) (d : Fin 64) : EReal :=
  (∑ k : Fin 1024, a.x (ix2 s k) * a.w (ix2 k (lane h d))) + a.b (ix1 (lane h d))

theorem hz2 : (![0, 0] : Fin 2 → Nat) = fun _ => 0 := by decide

/-! ## The zero-one arrays -/

/-- The array that picks the first or the second half of a pair of heads. -/
def sel (e : Fin 2) : FVec Ideal S128x64 .bf16 := match e with
  | ⟨0, _⟩ => k0_pay5 (F := Ideal)
  | ⟨1, _⟩ => k0_pay6 (F := Ideal)

theorem low_apply (l : Fin 128) (d : Fin 64) : k0_pay5 (F := Ideal) (ix2 l d) = (if l.val = d.val then 1 else 0 : EReal) := by
  pointwise [k0_pay5]
  have e : IntOp.cmpi CmpIPredicate.eq (BitVec.ofNat 32 l.val) (IntOp.addi (BitVec.ofNat 32 d.val) 0#32) = if l.val = d.val then 1#1 else 0#1 := by
    revert d l; decide +kernel
  rw [e]
  split
  · show ((((1 : ℤ)) : ℝ) : EReal) = 1
    norm_num
  · show ((((0 : ℤ)) : ℝ) : EReal) = 0
    norm_num
theorem high_apply (l : Fin 128) (d : Fin 64) : k0_pay6 (F := Ideal) (ix2 l d) = (if l.val = d.val + 64 then 1 else 0 : EReal) := by
  pointwise [k0_pay6]
  have e : IntOp.cmpi CmpIPredicate.eq (BitVec.ofNat 32 l.val) (IntOp.addi (BitVec.ofNat 32 d.val) 64#32) = if l.val = d.val + 64 then 1#1 else 0#1 := by
    revert d l; decide +kernel
  rw [e]
  split
  · show ((((1 : ℤ)) : ℝ) : EReal) = 1
    norm_num
  · show ((((0 : ℤ)) : ℝ) : EReal) = 0
    norm_num

theorem sel_apply (e : Fin 2) (l : Fin 128) (d : Fin 64) : sel e (ix2 l d) = (if l.val = e.val * 64 + d.val then 1 else 0 : EReal) := by
  match e with
  | ⟨0, _⟩ =>
    refine (low_apply l d).trans (if_congr ?_ rfl rfl)
    show l.val = d.val ↔ l.val = 0 * 64 + d.val
    omega
  | ⟨1, _⟩ =>
    refine (high_apply l d).trans (if_congr ?_ rfl rfl)
    show l.val = d.val + 64 ↔ l.val = 1 * 64 + d.val
    omega

/-- A sum against a one in one place. -/
theorem sum_sel (f : Fin 128 → EReal) (e : Fin 2) (d : Fin 64) : ∑ l : Fin 128, f l * sel e (ix2 l d) = f ⟨e.val * 64 + d.val, by omega⟩ := by
  simp only [sel_apply]
  rw [Finset.sum_eq_single (⟨e.val * 64 + d.val, by omega⟩ : Fin 128)]
  · rw [if_pos rfl, mul_one]
  · intro l _ hl
    rw [if_neg (fun h => hl (Fin.ext h)), mul_zero]
  · intro h
    exact absurd (Finset.mem_univ _) h

/-! ## One point -/

/-- The product with its bias. -/
theorem acc_apply (x : Vec Ideal S512x1024 .bf16) (w : Vec Ideal S1024x1024 .bf16) (b : Vec Ideal S1x1024 .f32) (r : Fin 512) (j : Fin 1024) :
    k0_pay4 (F := Ideal) x w b (ix2 r j) = (∑ k : Fin 1024, x (ix2 r k) * w (ix2 k j)) + b (ix2 0 j) := by
  unfold k0_pay4
  pointwise

/-- What is stored for one head of pair `p`. -/
def headOf (a : FVec Ideal S512x1024 .bf16) (s : FVec Ideal S128x64 .bf16) (p : Fin 8) (hs : S512x1024.Slices ![0, p.val * 128] S512x128) :
    FVec Ideal S1x512x64 .bf16 :=
  shapeCast S1x512x64 (truncf .bf16 (matmul dot_S512x128_S128x64_S512x64_1_0_0_1_n_n none
    (extractStridedSlice S512x128 ![0, p.val * 128] a hs) s (constant S512x64 .f32 0x00000000#32)) bitsLt_bf16_f32) shapeCasts_S512x64_S1x512x64

theorem pair_apply (a : FVec Ideal S512x1024 .bf16) (p : Fin 8) (hs : S512x1024.Slices ![0, p.val * 128] S512x128) (r : Fin 512) (l : Fin 128) :
    extractStridedSlice S512x128 ![0, p.val * 128] a hs (ix2 r l) = a (ix2 r ⟨p.val * 128 + l.val, by omega⟩) := by
  refine congrArg a (funext fun i => Fin.ext ?_)
  match i with
  | ⟨0, _⟩ => show 0 + r.val = r.val; omega
  | ⟨1, _⟩ => rfl

theorem pick_apply (a : FVec Ideal S512x128 .bf16) (s : FVec Ideal S128x64 .bf16) (u : Fin 1) (r : Fin 512) (d : Fin 64) :
    (shapeCast S1x512x64 (truncf .bf16 (matmul dot_S512x128_S128x64_S512x64_1_0_0_1_n_n none a s (constant S512x64 .f32 0x00000000#32))
      bitsLt_bf16_f32) shapeCasts_S512x64_S1x512x64 : FVec Ideal S1x512x64 .bf16) (ix3 u r d) = ∑ l : Fin 128, (a (ix2 r l) : EReal) * s (ix2 l d) := by
  pointwise

theorem head_apply (a : FVec Ideal S512x1024 .bf16) (e : Fin 2) (p : Fin 8) (hs) (u : Fin 1) (r : Fin 512) (d : Fin 64) :
    headOf a (sel e) p hs (ix3 u r d) = a (ix2 r ⟨p.val * 128 + (e.val * 64 + d.val), by omega⟩) := by
  unfold headOf
  rw [pick_apply]
  simp only [pair_apply]
  exact sum_sel (fun l => a (ix2 r ⟨p.val * 128 + l.val, by omega⟩)) e d

/-- What a point leaves, by its place. -/
def left (a : FVec Ideal S512x1024 .bf16) (h : Fin 16) (r : Fin 512) (d : Fin 64) : EReal := a (ix2 r (lane h d))

theorem piece (a : FVec Ideal S512x1024 .bf16) (p : Fin 8) (e : Fin 2) (hs) (i2) (z : S1x512x64.Idx) :
    headOf a (sel e) p hs z
      = (fun y : S16x512x64.Idx => left a (y 0) (y 1) (y 2)) ((Rect.unit (s := S16x512x64) ![p.val * 2 + e.val, 0, 0] S1x512x64.size i2).emb z) := by
  obtain ⟨u, r, d, rfl⟩ : ∃ (u : Fin 1) (r : Fin 512) (d : Fin 64), z = ix3 u r d := ⟨z 0, z 1, z 2, eq_ix3 z⟩
  refine (head_apply a e p hs u r d).trans ?_
  have hr : ((Rect.unit (s := S16x512x64) ![p.val * 2 + e.val, 0, 0] S1x512x64.size i2).emb (ix3 u r d)) = ix3 (⟨p.val * 2 + e.val, by omega⟩ : Fin 16) r d := by
    funext b; apply Fin.ext
    match b with
    | ⟨0, _⟩ => show p.val * 2 + e.val + 1 * u.val = p.val * 2 + e.val; omega
    | ⟨1, _⟩ => show 0 + 1 * r.val = r.val; omega
    | ⟨2, _⟩ => show 0 + 1 * d.val = d.val; omega
  rw [hr]
  refine congrArg a (congrArg (ix2 r) (Fin.ext ?_))
  show p.val * 128 + (e.val * 64 + d.val) = (p.val * 2 + e.val) * 64 + d.val
  omega

set_option maxHeartbeats 2000000 in
theorem left_apply (x : Vec Ideal S512x1024 .bf16) (w : Vec Ideal S1024x1024 .bf16) (b : Vec Ideal S1x1024 .f32) (h : Fin 16) (r : Fin 512) (d : Fin 64) :
    out0_3 x w b (ix3 h r d) = (∑ k : Fin 1024, x (ix2 r k) * w (ix2 k (lane h d))) + b (ix2 0 (lane h d)) := by
  have e : out0_3 x w b (ix3 h r d) = left (k0_pay23 x w b) h r d := by
    unfold out0_3
    refine View.canon_apply_of_pieces (Val := Elt Ideal) (fun y : S16x512x64.Idx => (left (k0_pay23 x w b) (y 0) (y 1) (y 2) : Elt Ideal .bf16)) _ ?_ _
      (cover0_3 _ _ _ _ _ _ _ _ _ _ _ _ _ _ _ _ _)
    simp only [List.forall_mem_cons, List.not_mem_nil, false_imp_iff, implies_true, and_true]
    have q := piece (k0_pay23 x w b)
    exact ⟨q 7 1 slices_S512x1024_o0_896_S512x128 _, q 7 0 slices_S512x1024_o0_896_S512x128 _, q 6 1 slices_S512x1024_o0_768_S512x128 _,
      q 6 0 slices_S512x1024_o0_768_S512x128 _, q 5 1 slices_S512x1024_o0_640_S512x128 _, q 5 0 slices_S512x1024_o0_640_S512x128 _,
      q 4 1 slices_S512x1024_o0_512_S512x128 _, q 4 0 slices_S512x1024_o0_512_S512x128 _, q 3 1 slices_S512x1024_o0_384_S512x128 _,
      q 3 0 slices_S512x1024_o0_384_S512x128 _, q 2 1 slices_S512x1024_o0_256_S512x128 _, q 2 0 slices_S512x1024_o0_256_S512x128 _,
      q 1 1 slices_S512x1024_o0_128_S512x128 _, q 1 0 slices_S512x1024_o0_128_S512x128 _, q 0 1 slices_S512x1024_o0_0_S512x128 _,
      q 0 0 slices_S512x1024_o0_0_S512x128 _⟩
  rw [e]
  unfold left k0_pay23
  rw [acc_apply, View.ld_unit_zero (S := S512x1024) hz2, View.ld_unit_zero (S := S1024x1024) hz2, View.ld_unit_zero (S := S1x1024) hz2]

/-! ## The operands -/

variable (m : (ℓ : Loc nD τ sig) → Buf (Elt Ideal) ℓ)

def arr (c : Dev nD) : Arr := ⟨m (c.tc.loc main_arg0), m (c.tc.loc main_arg1), m (c.tc.loc main_arg2)⟩

theorem o_x (c : Dev nD) (s : Fin 2048) (k : Fin 1024) : (V m c main_v0 : FVec Ideal S2048x1024 .bf16) (ix2 s k) = (arr m c).x (ix2 s k) := by
  have e : (V m c main_v0 : FVec Ideal S2048x1024 .bf16) = truncf .bf16 (arr m c).x bitsLt_bf16_f32 := by
    unfold V
    after_results
    rfl
  rw [e]
  rfl
theorem o_w (c : Dev nD) (k j : Fin 1024) : (V m c main_v1 : FVec Ideal S1024x1024 .bf16) (ix2 k j) = (arr m c).w (ix2 k j) := by
  have e : (V m c main_v1 : FVec Ideal S1024x1024 .bf16) = truncf .bf16 (arr m c).w bitsLt_bf16_f32 := by
    unfold V
    after_results
    rfl
  rw [e]
  rfl
theorem o_b (c : Dev nD) (j : Fin 1024) : (V m c main_v2 : FVec Ideal S1x1024 .f32) (ix2 0 j) = (arr m c).b (ix1 j) := by
  have e : (V m c main_v2 : FVec Ideal S1x1024 .f32) = shapeCast S1x1024 (arr m c).b shapeCasts_S1024_S1x1024 := by
    unfold V
    after_results
    rfl
  rw [e]
  generalize (arr m c).b = b
  pointwise

/-! ## Blocks -/

/-- The grid's point for row block `i`. -/
def pt (i : Fin 4) : Fin cfg0.N := ⟨i.val, by rw [show cfg0.N = 4 from N_0]; omega⟩

theorem idx_facts : ∀ i : Fin 4, (win0_0.index (pt i) 0 = i.val ∧ win0_0.index (pt i) 1 = 0)
    ∧ (win0_1.index (pt i) 0 = 0 ∧ win0_1.index (pt i) 1 = 0) ∧ (win0_2.index (pt i) 0 = 0 ∧ win0_2.index (pt i) 1 = 0)
    ∧ (win0_3.index (pt i) 0 = 0 ∧ win0_3.index (pt i) 1 = i.val ∧ win0_3.index (pt i) 2 = 0) := by
  decide +kernel

theorem x_apply (c : Dev nD) (i : Fin 4) (r : Fin 512) (k : Fin 1024) :
    (iblk m c 0 (pt i) : Vec Ideal S512x1024 .bf16) (ix2 r k) = (arr m c).x (ix2 (row i r) k) := by
  obtain ⟨⟨e0, e1⟩, -⟩ := idx_facts i
  rw [← o_x]
  unfold iblk
  rw [View.read_apply]
  show V m c main_v0 _ = V m c main_v0 _
  congr 1
  funext a; apply Fin.ext
  match a with
  | ⟨0, _⟩ => show win0_0.index (pt i) 0 * 512 + 1 * r.val = i.val * 512 + r.val; rw [e0]; omega
  | ⟨1, _⟩ => show win0_0.index (pt i) 1 * 1024 + 1 * k.val = k.val; rw [e1]; omega
theorem w_apply (c : Dev nD) (i : Fin 4) (k j : Fin 1024) :
    (iblk m c 1 (pt i) : Vec Ideal S1024x1024 .bf16) (ix2 k j) = (arr m c).w (ix2 k j) := by
  obtain ⟨-, ⟨e0, e1⟩, -⟩ := idx_facts i
  rw [← o_w]
  unfold iblk
  rw [View.read_apply]
  show V m c main_v1 _ = V m c main_v1 _
  congr 1
  funext a; apply Fin.ext
  match a with
  | ⟨0, _⟩ => show win0_1.index (pt i) 0 * 1024 + 1 * k.val = k.val; rw [e0]; omega
  | ⟨1, _⟩ => show win0_1.index (pt i) 1 * 1024 + 1 * j.val = j.val; rw [e1]; omega
theorem b_apply (c : Dev nD) (i : Fin 4) (j : Fin 1024) : (iblk m c 2 (pt i) : Vec Ideal S1x1024 .f32) (ix2 0 j) = (arr m c).b (ix1 j) := by
  obtain ⟨-, -, ⟨e0, e1⟩, -⟩ := idx_facts i
  rw [← o_b]
  unfold iblk
  rw [View.read_apply]
  show V m c main_v2 _ = V m c main_v2 _
  congr 1
  funext a; apply Fin.ext
  match a with
  | ⟨0, _⟩ => show win0_2.index (pt i) 0 * 1 + 1 * 0 = 0; rw [e0]
  | ⟨1, _⟩ => show win0_2.index (pt i) 1 * 1024 + 1 * j.val = j.val; rw [e1]; omega

/-! ## The result array -/

abbrev res3 (c : Dev nD) : FVec Ideal S16x2048x64 .bf16 := (dats m 0 c).arrAt 3 cfg0.N

theorem res3_apply (c : Dev nD) (h : Fin 16) (s : Fin 2048) (d : Fin 64) : res3 m c (ix3 h s d) = (arr m c).out h s d := by
  rw [← row_div s]
  generalize (⟨s.val / 512, _⟩ : Fin 4) = i
  generalize (⟨s.val % 512, _⟩ : Fin 512) = r
  have v := congrFun (Value.blocks3 m c (pt i) (flush0_3 _)) (ix3 h r d)
  rw [Value.flushed3] at v
  have e : ((cfg0.win 3).blk (pt i)).view.emb (ix3 h r d) = ix3 h (row i r) d := by
    obtain ⟨-, -, -, e0, e1, e2⟩ := idx_facts i
    funext a; apply Fin.ext
    match a with
    | ⟨0, _⟩ => show win0_3.index (pt i) 0 * 16 + 1 * h.val = h.val; rw [e0]; omega
    | ⟨1, _⟩ => show win0_3.index (pt i) 1 * 512 + 1 * r.val = i.val * 512 + r.val; rw [e1]; omega
    | ⟨2, _⟩ => show win0_3.index (pt i) 2 * 64 + 1 * d.val = d.val; rw [e2]; omega
  have v' : res3 m c (((cfg0.win 3).blk (pt i)).view.emb (ix3 h r d)) = _ := v
  rw [e] at v'
  refine v'.trans ((left_apply _ _ _ h r d).trans ?_)
  unfold Arr.out
  simp only [x_apply, w_apply, b_apply]

/-! ## The reference -/

section Reference
open Cert.Reference16Ideal Cert.Reference16Ideal.Gen Cert.Reference16Ideal.Read

theorem ref_apply (a : Arr) (h : Fin 16) (s : Fin 2048) (d : Fin 64) : val_main_v6 (F := Ideal) a.x a.w a.b (ix3 h s d) = a.out h s d := by
  unfold val_main_v6 val_main_v5 val_main_v4 val_main_v3 val_main_v2 val_main_v1 val_main_v0 Arr.out lane
  pointwise

end Reference

/-- The reference leaves its arguments and, having no semaphore, no counter. -/
theorem ref_frame : Cert.quiescent_Reference16Ideal (hReference16Ideal := Cert.Reference16Ideal.Gen.facts) := fun m g _ =>
  (θ_run Cert.Reference16Ideal.defs _ _).mono (fun r h => And.intro (fun c => (h c).2) (sem_eq_zero_of_no_sems rfl r.2)) (Cert.Reference16Ideal.Value.run m g)

theorem algebraic : Cert.algebraic_Kernel16Ideal_Reference16Ideal (hKernel16Ideal := Cert.Kernel16Ideal.Gen.facts)
    (hReference16Ideal := Cert.Reference16Ideal.Gen.facts) := by
  intro m g m' g' _ hargs
  refine ⟨fun c => res3 m c, Cert.Kernel16Ideal.Value.run_blocks m g, ?_⟩
  refine (θ_run Cert.Reference16Ideal.defs _ _).mono (fun r h c => ?_) (Cert.Reference16Ideal.Value.run m' g')
  obtain ⟨r0, hk⟩ := h c
  obtain ⟨a0, a1, a2⟩ := hargs c
  refine ⟨?_, hk⟩
  rw [r0, a0, a1, a2]
  refine funext fun i => ?_
  rw [eq_ix3 i]
  exact (ref_apply (arr m c) (i 0) (i 1) (i 2)).trans (res3_apply m c (i 0) (i 1) (i 2)).symm

end Cert.Prj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.FfnClaim
public import proofs.«01_k».proof.Proof.Gen.Reference2Ideal.Run
public import proofs.«01_k».proof.Proof.Gen.Reference2Ideal.Read
public import proofs.«01_k».proof.Proof.AttnClaim
public import proofs.«01_k».proof.Proof.Gen.Kernel3
public import proofs.«01_k».proof.Proof.Gen.Kernel3.Frame
public import proofs.«01_k».proof.Proof.Gen.Kernel4
public import proofs.«01_k».proof.Proof.Gen.Kernel4.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.MixClaim
public import proofs.«01_k».proof.Proof.Gen.Kernel4Ideal.Value
public import proofs.«01_k».proof.Proof.Gen.Reference4Ideal.Run
public import proofs.«01_k».proof.Proof.Gen.Reference4Ideal.Read
public import proofs.«01_k».proof.Proof.PleClaim
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.MlnClaim
public import proofs.«01_k».proof.Proof.Gen.Kernel7
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.PlfClaim
public import proofs.«01_k».proof.Proof.Gen.Kernel8
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.FhdClaim
public import proofs.«01_k».proof.Proof.Gen.Kernel9
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.FdnClaim
public import proofs.«01_k».proof.Proof.Gen.Kernel11
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.InpProd
public import proofs.«01_k».proof.Proof.Gen.Kernel12
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.AinProd
public import proofs.«01_k».proof.Proof.Gen.Kernel13
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.WgrProd
public import proofs.«01_k».proof.Proof.Gen.Kernel14
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.AdmClaim
public import proofs.«01_k».proof.Proof.Gen.Kernel15
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.AifProd
public import proofs.«01_k».proof.Proof.Gen.Kernel16
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.PrjProd
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Pre_finite.Gen.facts, Cert.Pre_finite2.Gen.facts, Cert.Pre_finite3.Gen.facts, Cert.Pre_finite4.Gen.facts, by
  exact ⟨fun m ρ _ => Cert.Kernel.Gen.frame m ρ, fun m ρ _ => Cert.KernelIdeal.Gen.frame m ρ, fun m ρ _ => Cert.KernelIdeal.Gen.frame m ρ,
    Cert.Ffn.ref_frame, fun m ρ _ => Cert.Ffn.ref_frame m ρ trivial,
    Cert.Attn.frame_exact, Cert.Attn.frame_ideal, fun m ρ _ => Cert.Attn.frame_ideal m ρ trivial,
    Cert.Attn.ref_frame, fun m ρ _ => Cert.Attn.ref_frame m ρ trivial,
    fun m ρ _ => Cert.Kernel3.Gen.frame m ρ, fun m ρ _ => Cert.Kernel3Ideal.Gen.frame m ρ, fun m ρ _ => Cert.Kernel3Ideal.Gen.frame m ρ,
    Cert.Mixout.ref_frame, fun m ρ _ => Cert.Mixout.ref_frame m ρ trivial,
    fun m ρ _ => Cert.Kernel4.Gen.frame m ρ, fun m ρ _ => Cert.Kernel4Ideal.Gen.frame m ρ, fun m ρ _ => Cert.Kernel4Ideal.Gen.frame m ρ,
    Cert.Ple.ref_frame, fun m ρ _ => Cert.Ple.ref_frame m ρ trivial,
    fun m ρ _ => Cert.Kernel6.Gen.frame m ρ, fun m ρ _ => Cert.Kernel6Ideal.Gen.frame m ρ, Cert.Mln.ref_frame,
    fun m ρ _ => Cert.Kernel7.Gen.frame m ρ, fun m ρ _ => Cert.Kernel7Ideal.Gen.frame m ρ, Cert.Plf.ref_frame,
    fun m ρ _ => Cert.Kernel8.Gen.frame m ρ, fun m ρ _ => Cert.Kernel8Ideal.Gen.frame m ρ, Cert.Fhd.ref_frame,
    fun m ρ _ => Cert.Kernel9.Gen.frame m ρ, fun m ρ _ => Cert.Kernel9Ideal.Gen.frame m ρ, Cert.Fdn.ref_frame,
    fun m ρ _ => Cert.Kernel11.Gen.frame m ρ, fun m ρ _ => Cert.Kernel11Ideal.Gen.frame m ρ, Cert.Inp.ref_frame,
    fun m ρ _ => Cert.Kernel12.Gen.frame m ρ, fun m ρ _ => Cert.Kernel12Ideal.Gen.frame m ρ, Cert.Ain.ref_frame,
    fun m ρ _ => Cert.Kernel13.Gen.frame m ρ, fun m ρ _ => Cert.Kernel13Ideal.Gen.frame m ρ, Cert.Wgr.ref_frame,
    fun m ρ _ => Cert.Kernel14.Gen.frame m ρ, fun m ρ _ => Cert.Kernel14Ideal.Gen.frame m ρ, Cert.Adm.ref_frame,
    fun m ρ _ => Cert.Kernel15.Gen.frame m ρ, fun m ρ _ => Cert.Kernel15Ideal.Gen.frame m ρ, Cert.Aif.ref_frame,
    fun m ρ _ => Cert.Kernel16.Gen.frame m ρ, fun m ρ _ => Cert.Kernel16Ideal.Gen.frame m ρ, Cert.Prj.ref_frame,
    trivial, Cert.Ffn.algebraic, trivial, Cert.Attn.algebraic, trivial, Cert.Mixout.algebraic, trivial, Cert.Ple.algebraic,
    trivial, Cert.Mln.algebraic, trivial, Cert.Plf.algebraic, trivial, Cert.Fhd.algebraic, trivial, Cert.Fdn.algebraic, trivial, Cert.Inp.algebraic, trivial, Cert.Ain.algebraic,
    trivial, Cert.Wgr.algebraic, trivial, Cert.Adm.algebraic, trivial, Cert.Aif.algebraic, trivial, Cert.Prj.algebraic⟩⟩

end Cert.Proof

end
